-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite14 [hPre_finite14 : Cert.Pre_finite14.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3))).1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3))).2.1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3))).2.2 = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite14 [hPre_finite14 : Cert.Pre_finite14.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3))).1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3))).2.1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3))).2.2 = (fun _ => 1#1)

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite15 [hPre_finite15 : Cert.Pre_finite15.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3))).1 = (fun _ => 1#1)
    ∧ (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3))).2.1 = (fun _ => 1#1)
    ∧ (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3))).2.2.1 = (fun _ => 1#1)
    ∧ (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3))).2.2.2 = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite15 [hPre_finite15 : Cert.Pre_finite15.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3))).1 = (fun _ => 1#1)
    ∧ (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3))).2.1 = (fun _ => 1#1)
    ∧ (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3))).2.2.1 = (fun _ => 1#1)
    ∧ (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3))).2.2.2 = (fun _ => 1#1)

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Kernel28Ideal_finite28 [hPre_finite28 : Cert.Pre_finite28.Facts] (m : (ℓ : Loc Cert.Kernel28Ideal.nD Cert.Kernel28Ideal.τ Cert.Kernel28Ideal.sig) → Buf (Elt Ideal) ℓ) : Prop :=
  ∀ c : Dev Cert.Kernel28Ideal.nD,
    (Cert.Pre_finite28.fn (F := Ideal) (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2))).1 = (fun _ => 1#1)
    ∧ (Cert.Pre_finite28.fn (F := Ideal) (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2))).2.1 = (fun _ => 1#1)
    ∧ (Cert.Pre_finite28.fn (F := Ideal) (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2))).2.2 = (fun _ => 1#1)

def Pre_Reference28Ideal (m : (ℓ : Loc Cert.Reference28Ideal.nD Cert.Reference28Ideal.τ Cert.Reference28Ideal.sig) → Buf (Elt Ideal) ℓ) : Prop :=
  True

def Pre_Reference28Ideal_finite28 [hPre_finite28 : Cert.Pre_finite28.Facts] (m : (ℓ : Loc Cert.Reference28Ideal.nD Cert.Reference28Ideal.τ Cert.Reference28Ideal.sig) → Buf (Elt Ideal) ℓ) : Prop :=
  ∀ c : Dev Cert.Reference28Ideal.nD,
    (Cert.Pre_finite28.fn (F := Ideal) (m ((c.tc : Thread Cert.Reference28Ideal.nD Cert.Reference28Ideal.τ).loc Cert.Reference28Ideal.main_arg0)) (m ((c.tc : Thread Cert.Reference28Ideal.nD Cert.Reference28Ideal.τ).loc Cert.Reference28Ideal.main_arg1)) (m ((c.tc : Thread Cert.Reference28Ideal.nD Cert.Reference28Ideal.τ).loc Cert.Reference28Ideal.main_arg2))).1 = (fun _ => 1#1)
    ∧ (Cert.Pre_finite28.fn (F := Ideal) (m ((c.tc : Thread Cert.Reference28Ideal.nD Cert.Reference28Ideal.τ).loc Cert.Reference28Ideal.main_arg0)) (m ((c.tc : Thread Cert.Reference28Ideal.nD Cert.Reference28Ideal.τ).loc Cert.Reference28Ideal.main_arg1)) (m ((c.tc : Thread Cert.Reference28Ideal.nD Cert.Reference28Ideal.τ).loc Cert.Reference28Ideal.main_arg2))).2.1 = (fun _ => 1#1)
    ∧ (Cert.Pre_finite28.fn (F := Ideal) (m ((c.tc : Thread Cert.Reference28Ideal.nD Cert.Reference28Ideal.τ).loc Cert.Reference28Ideal.main_arg0)) (m ((c.tc : Thread Cert.Reference28Ideal.nD Cert.Reference28Ideal.τ).loc Cert.Reference28Ideal.main_arg1)) (m ((c.tc : Thread Cert.Reference28Ideal.nD Cert.Reference28Ideal.τ).loc Cert.Reference28Ideal.main_arg2))).2.2 = (fun _ => 1#1)

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Kernel29Ideal_finite29 [hPre_finite29 : Cert.Pre_finite29.Facts] (m : (ℓ : Loc Cert.Kernel29Ideal.nD Cert.Kernel29Ideal.τ Cert.Kernel29Ideal.sig) → Buf (Elt Ideal) ℓ) : Prop :=
  ∀ c : Dev Cert.Kernel29Ideal.nD,
    (Cert.Pre_finite29.fn (F := Ideal) (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2)) (m ((c.tc : Thread Cert.Kernel29Ideal.nD Cert.Kernel29Ideal.τ).loc Cert.Kernel29Ideal.main_arg3)) (m ((c.tc : Thread Cert.Kernel29Ideal.nD Cert.Kernel29Ideal.τ).loc Cert.Kernel29Ideal.main_arg4)) (m ((c.tc : Thread Cert.Kernel29Ideal.nD Cert.Kernel29Ideal.τ).loc Cert.Kernel29Ideal.main_arg5))).1 = (fun _ => 1#1)
    ∧ (Cert.Pre_finite29.fn (F := Ideal) (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2)) (m ((c.tc : Thread Cert.Kernel29Ideal.nD Cert.Kernel29Ideal.τ).loc Cert.Kernel29Ideal.main_arg3)) (m ((c.tc : Thread Cert.Kernel29Ideal.nD Cert.Kernel29Ideal.τ).loc Cert.Kernel29Ideal.main_arg4)) (m ((c.tc : Thread Cert.Kernel29Ideal.nD Cert.Kernel29Ideal.τ).loc Cert.Kernel29Ideal.main_arg5))).2.1 = (fun _ => 1#1)
    ∧ (Cert.Pre_finite29.fn (F := Ideal) (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2)) (m ((c.tc : Thread Cert.Kernel29Ideal.nD Cert.Kernel29Ideal.τ).loc Cert.Kernel29Ideal.main_arg3)) (m ((c.tc : Thread Cert.Kernel29Ideal.nD Cert.Kernel29Ideal.τ).loc Cert.Kernel29Ideal.main_arg4)) (m ((c.tc : Thread Cert.Kernel29Ideal.nD Cert.Kernel29Ideal.τ).loc Cert.Kernel29Ideal.main_arg5))).2.2 = (fun _ => 1#1)

def Pre_Reference29Ideal (m : (ℓ : Loc Cert.Reference29Ideal.nD Cert.Reference29Ideal.τ Cert.Reference29Ideal.sig) → Buf (Elt Ideal) ℓ) : Prop :=
  True

def Pre_Reference29Ideal_finite29 [hPre_finite29 : Cert.Pre_finite29.Facts] (m : (ℓ : Loc Cert.Reference29Ideal.nD Cert.Reference29Ideal.τ Cert.Reference29Ideal.sig) → Buf (Elt Ideal) ℓ) : Prop :=
  ∀ c : Dev Cert.Reference29Ideal.nD,
    (Cert.Pre_finite29.fn (F := Ideal) (m ((c.tc : Thread Cert.Reference29Ideal.nD Cert.Reference29Ideal.τ).loc Cert.Reference29Ideal.main_arg0)) (m ((c.tc : Thread Cert.Reference29Ideal.nD Cert.Reference29Ideal.τ).loc Cert.Reference29Ideal.main_arg1)) (m ((c.tc : Thread Cert.Reference29Ideal.nD Cert.Reference29Ideal.τ).loc Cert.Reference29Ideal.main_arg2)) (m ((c.tc : Thread Cert.Reference29Ideal.nD Cert.Reference29Ideal.τ).loc Cert.Reference29Ideal.main_arg3)) (m ((c.tc : Thread Cert.Reference29Ideal.nD Cert.Reference29Ideal.τ).loc Cert.Reference29Ideal.main_arg4)) (m ((c.tc : Thread Cert.Reference29Ideal.nD Cert.Reference29Ideal.τ).loc Cert.Reference29Ideal.main_arg5))).1 = (fun _ => 1#1)
    ∧ (Cert.Pre_finite29.fn (F := Ideal) (m ((c.tc : Thread Cert.Reference29Ideal.nD Cert.Reference29Ideal.τ).loc Cert.Reference29Ideal.main_arg0)) (m ((c.tc : Thread Cert.Reference29Ideal.nD Cert.Reference29Ideal.τ).loc Cert.Reference29Ideal.main_arg1)) (m ((c.tc : Thread Cert.Reference29Ideal.nD Cert.Reference29Ideal.τ).loc Cert.Reference29Ideal.main_arg2)) (m ((c.tc : Thread Cert.Reference29Ideal.nD Cert.Reference29Ideal.τ).loc Cert.Reference29Ideal.main_arg3)) (m ((c.tc : Thread Cert.Reference29Ideal.nD Cert.Reference29Ideal.τ).loc Cert.Reference29Ideal.main_arg4)) (m ((c.tc : Thread Cert.Reference29Ideal.nD Cert.Reference29Ideal.τ).loc Cert.Reference29Ideal.main_arg5))).2.1 = (fun _ => 1#1)
    ∧ (Cert.Pre_finite29.fn (F := Ideal) (m ((c.tc : Thread Cert.Reference29Ideal.nD Cert.Reference29Ideal.τ).loc Cert.Reference29Ideal.main_arg0)) (m ((c.tc : Thread Cert.Reference29Ideal.nD Cert.Reference29Ideal.τ).loc Cert.Reference29Ideal.main_arg1)) (m ((c.tc : Thread Cert.Reference29Ideal.nD Cert.Reference29Ideal.τ).loc Cert.Reference29Ideal.main_arg2)) (m ((c.tc : Thread Cert.Reference29Ideal.nD Cert.Reference29Ideal.τ).loc Cert.Reference29Ideal.main_arg3)) (m ((c.tc : Thread Cert.Reference29Ideal.nD Cert.Reference29Ideal.τ).loc Cert.Reference29Ideal.main_arg4)) (m ((c.tc : Thread Cert.Reference29Ideal.nD Cert.Reference29Ideal.τ).loc Cert.Reference29Ideal.main_arg5))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Kernel14Ideal_pre_finite14 [hKernel14Ideal : Cert.Kernel14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite14 m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Reference14Ideal_pre_finite14 [hReference14Ideal : Cert.Reference14Ideal.Facts] [hPre_finite14 : Cert.Pre_finite14.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite14 m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Kernel15Ideal_pre_finite15 [hKernel15Ideal : Cert.Kernel15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite15 m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Reference15Ideal_pre_finite15 [hReference15Ideal : Cert.Reference15Ideal.Facts] [hPre_finite15 : Cert.Pre_finite15.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite15 m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ r.2.sem = fun _ => 0)

def quiescent_Kernel28Ideal_pre_finite28 [hKernel28Ideal : Cert.Kernel28Ideal.Facts] [hPre_finite28 : Cert.Pre_finite28.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal_finite28 m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2))
      ∧ r.2.sem = fun _ => 0)

def quiescent_Reference28Ideal_pre_finite28 [hReference28Ideal : Cert.Reference28Ideal.Facts] [hPre_finite28 : Cert.Pre_finite28.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal_finite28 m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3)
      ∧ r.2.mem ((c.tc : Thread Cert.Kernel29.nD Cert.Kernel29.τ).loc Cert.Kernel29.main_arg4) = m ((c.tc : Thread Cert.Kernel29.nD Cert.Kernel29.τ).loc Cert.Kernel29.main_arg4)
      ∧ r.2.mem ((c.tc : Thread Cert.Kernel29.nD Cert.Kernel29.τ).loc Cert.Kernel29.main_arg5) = m ((c.tc : Thread Cert.Kernel29.nD Cert.Kernel29.τ).loc Cert.Kernel29.main_arg5))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
      ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5))
      ∧ r.2.sem = fun _ => 0)

def quiescent_Kernel29Ideal_pre_finite29 [hKernel29Ideal : Cert.Kernel29Ideal.Facts] [hPre_finite29 : Cert.Pre_finite29.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal_finite29 m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
      ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4)
      ∧ r.2.mem ((c.tc : Thread Cert.Reference29Ideal.nD Cert.Reference29Ideal.τ).loc Cert.Reference29Ideal.main_arg5) = m ((c.tc : Thread Cert.Reference29Ideal.nD Cert.Reference29Ideal.τ).loc Cert.Reference29Ideal.main_arg5))
      ∧ r.2.sem = fun _ => 0)

def quiescent_Reference29Ideal_pre_finite29 [hReference29Ideal : Cert.Reference29Ideal.Facts] [hPre_finite29 : Cert.Pre_finite29.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal_finite29 m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4)
      ∧ r.2.mem ((c.tc : Thread Cert.Reference29Ideal.nD Cert.Reference29Ideal.τ).loc Cert.Reference29Ideal.main_arg5) = m ((c.tc : Thread Cert.Reference29Ideal.nD Cert.Reference29Ideal.τ).loc Cert.Reference29Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v3_0)) (v2 : (c : Dev Cert.KernelIdeal.nD) → Buf (Elt Ideal) ((c.tc : Thread Cert.KernelIdeal.nD Cert.KernelIdeal.τ).loc Cert.KernelIdeal.main_v3_1)) (v3 : (c : Dev Cert.KernelIdeal.nD) → Buf (Elt Ideal) ((c.tc : Thread Cert.KernelIdeal.nD Cert.KernelIdeal.τ).loc Cert.KernelIdeal.main_v3_2)) (v4 : (c : Dev Cert.KernelIdeal.nD) → Buf (Elt Ideal) ((c.tc : Thread Cert.KernelIdeal.nD Cert.KernelIdeal.τ).loc Cert.KernelIdeal.main_v3_3)) (v5 : (c : Dev Cert.KernelIdeal.nD) → Buf (Elt Ideal) ((c.tc : Thread Cert.KernelIdeal.nD Cert.KernelIdeal.τ).loc Cert.KernelIdeal.main_v3_4)) (v6 : (c : Dev Cert.KernelIdeal.nD) → Buf (Elt Ideal) ((c.tc : Thread Cert.KernelIdeal.nD Cert.KernelIdeal.τ).loc Cert.KernelIdeal.main_v3_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v3_0) = v1 c
          ∧ r.2.mem ((c.tc : Thread Cert.KernelIdeal.nD Cert.KernelIdeal.τ).loc Cert.KernelIdeal.main_v3_1) = v2 c
          ∧ r.2.mem ((c.tc : Thread Cert.KernelIdeal.nD Cert.KernelIdeal.τ).loc Cert.KernelIdeal.main_v3_2) = v3 c
          ∧ r.2.mem ((c.tc : Thread Cert.KernelIdeal.nD Cert.KernelIdeal.τ).loc Cert.KernelIdeal.main_v3_3) = v4 c
          ∧ r.2.mem ((c.tc : Thread Cert.KernelIdeal.nD Cert.KernelIdeal.τ).loc Cert.KernelIdeal.main_v3_4) = v5 c
          ∧ r.2.mem ((c.tc : Thread Cert.KernelIdeal.nD Cert.KernelIdeal.τ).loc Cert.KernelIdeal.main_v3_5) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_v44) = v2 c
          ∧ r.2.mem ((c.tc : Thread Cert.ReferenceIdeal.nD Cert.ReferenceIdeal.τ).loc Cert.ReferenceIdeal.main_v41) = v3 c
          ∧ r.2.mem ((c.tc : Thread Cert.ReferenceIdeal.nD Cert.ReferenceIdeal.τ).loc Cert.ReferenceIdeal.main_v38) = v4 c
          ∧ r.2.mem ((c.tc : Thread Cert.ReferenceIdeal.nD Cert.ReferenceIdeal.τ).loc Cert.ReferenceIdeal.main_v50) = v5 c
          ∧ r.2.mem ((c.tc : Thread Cert.ReferenceIdeal.nD Cert.ReferenceIdeal.τ).loc Cert.ReferenceIdeal.main_v52) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_v11) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_v8) = v1 c
          ∧ r.2.mem ((c.tc : Thread Cert.Reference3Ideal.nD Cert.Reference3Ideal.τ).loc Cert.Reference3Ideal.main_v9) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v27) = v0 c
          ∧ r.2.mem ((c.tc : Thread Cert.Reference12Ideal.nD Cert.Reference12Ideal.τ).loc Cert.Reference12Ideal.main_v28) = v1 c
          ∧ r.2.mem ((c.tc : Thread Cert.Reference12Ideal.nD Cert.Reference12Ideal.τ).loc Cert.Reference12Ideal.main_v29) = v2 c
          ∧ r.2.mem ((c.tc : Thread Cert.Reference12Ideal.nD Cert.Reference12Ideal.τ).loc Cert.Reference12Ideal.main_v30) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal_pre_finite14 [hKernel14Ideal : Cert.Kernel14Ideal.Facts] [hReference14Ideal : Cert.Reference14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite14 m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v35) = v0 c
          ∧ r.2.mem ((c.tc : Thread Cert.Reference14Ideal.nD Cert.Reference14Ideal.τ).loc Cert.Reference14Ideal.main_v18) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal_pre_finite15 [hKernel15Ideal : Cert.Kernel15Ideal.Facts] [hReference15Ideal : Cert.Reference15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite15 m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v51) = v0 c
          ∧ r.2.mem ((c.tc : Thread Cert.Reference15Ideal.nD Cert.Reference15Ideal.τ).loc Cert.Reference15Ideal.main_v52) = v1 c
          ∧ r.2.mem ((c.tc : Thread Cert.Reference15Ideal.nD Cert.Reference15Ideal.τ).loc Cert.Reference15Ideal.main_v49) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v5) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v4) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v5) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v5) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v4) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v2) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v15) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v12) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v21) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2))

def preserves_Kernel28_Kernel28Ideal : Prop :=
  True

def algebraic_Kernel28Ideal_Reference28Ideal_pre_finite28 [hKernel28Ideal : Cert.Kernel28Ideal.Facts] [hReference28Ideal : Cert.Reference28Ideal.Facts] [hPre_finite28 : Cert.Pre_finite28.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal_finite28 m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v49) = v0 c
          ∧ r.2.mem ((c.tc : Thread Cert.Reference28Ideal.nD Cert.Reference28Ideal.τ).loc Cert.Reference28Ideal.main_v48) = v1 c
          ∧ r.2.mem ((c.tc : Thread Cert.Reference28Ideal.nD Cert.Reference28Ideal.τ).loc Cert.Reference28Ideal.main_v32) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2))

def preserves_Kernel29_Kernel29Ideal : Prop :=
  True

def algebraic_Kernel29Ideal_Reference29Ideal_pre_finite29 [hKernel29Ideal : Cert.Kernel29Ideal.Facts] [hReference29Ideal : Cert.Reference29Ideal.Facts] [hPre_finite29 : Cert.Pre_finite29.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal_finite29 m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)
      ∧ m' ((c.tc : Thread Cert.Reference29Ideal.nD Cert.Reference29Ideal.τ).loc Cert.Reference29Ideal.main_arg4) = m ((c.tc : Thread Cert.Kernel29Ideal.nD Cert.Kernel29Ideal.τ).loc Cert.Kernel29Ideal.main_arg4)
      ∧ m' ((c.tc : Thread Cert.Reference29Ideal.nD Cert.Reference29Ideal.τ).loc Cert.Reference29Ideal.main_arg5) = m ((c.tc : Thread Cert.Kernel29Ideal.nD Cert.Kernel29Ideal.τ).loc Cert.Kernel29Ideal.main_arg5)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
          ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
          ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v19) = v0 c
          ∧ r.2.mem ((c.tc : Thread Cert.Reference29Ideal.nD Cert.Reference29Ideal.τ).loc Cert.Reference29Ideal.main_v27) = v1 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3)
          ∧ r.2.mem ((c.tc : Thread Cert.Reference29Ideal.nD Cert.Reference29Ideal.τ).loc Cert.Reference29Ideal.main_arg4) = m' ((c.tc : Thread Cert.Reference29Ideal.nD Cert.Reference29Ideal.τ).loc Cert.Reference29Ideal.main_arg4)
          ∧ r.2.mem ((c.tc : Thread Cert.Reference29Ideal.nD Cert.Reference29Ideal.τ).loc Cert.Reference29Ideal.main_arg5) = m' ((c.tc : Thread Cert.Reference29Ideal.nD Cert.Reference29Ideal.τ).loc Cert.Reference29Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hPre_finite : Cert.Pre_finite.Facts) (hPre_finite2 : Cert.Pre_finite2.Facts) (hPre_finite14 : Cert.Pre_finite14.Facts) (hPre_finite15 : Cert.Pre_finite15.Facts) (hPre_finite28 : Cert.Pre_finite28.Facts) (hPre_finite29 : Cert.Pre_finite29.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Kernel14Ideal_pre_finite14 (hKernel14Ideal := hKernel14Ideal) (hPre_finite14 := hPre_finite14)
    ∧ quiescent_Reference14Ideal (hReference14Ideal := hReference14Ideal)
    ∧ quiescent_Reference14Ideal_pre_finite14 (hReference14Ideal := hReference14Ideal) (hPre_finite14 := hPre_finite14)
    ∧ quiescent_Kernel15 (hKernel15 := hKernel15)
    ∧ quiescent_Kernel15Ideal (hKernel15Ideal := hKernel15Ideal)
    ∧ quiescent_Kernel15Ideal_pre_finite15 (hKernel15Ideal := hKernel15Ideal) (hPre_finite15 := hPre_finite15)
    ∧ quiescent_Reference15Ideal (hReference15Ideal := hReference15Ideal)
    ∧ quiescent_Reference15Ideal_pre_finite15 (hReference15Ideal := hReference15Ideal) (hPre_finite15 := hPre_finite15)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Kernel28Ideal_pre_finite28 (hKernel28Ideal := hKernel28Ideal) (hPre_finite28 := hPre_finite28)
    ∧ quiescent_Reference28Ideal (hReference28Ideal := hReference28Ideal)
    ∧ quiescent_Reference28Ideal_pre_finite28 (hReference28Ideal := hReference28Ideal) (hPre_finite28 := hPre_finite28)
    ∧ quiescent_Kernel29 (hKernel29 := hKernel29)
    ∧ quiescent_Kernel29Ideal (hKernel29Ideal := hKernel29Ideal)
    ∧ quiescent_Kernel29Ideal_pre_finite29 (hKernel29Ideal := hKernel29Ideal) (hPre_finite29 := hPre_finite29)
    ∧ quiescent_Reference29Ideal (hReference29Ideal := hReference29Ideal)
    ∧ quiescent_Reference29Ideal_pre_finite29 (hReference29Ideal := hReference29Ideal) (hPre_finite29 := hPre_finite29)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal_pre_finite14 (hKernel14Ideal := hKernel14Ideal) (hReference14Ideal := hReference14Ideal) (hPre_finite14 := hPre_finite14)
    ∧ preserves_Kernel15_Kernel15Ideal
    ∧ algebraic_Kernel15Ideal_Reference15Ideal_pre_finite15 (hKernel15Ideal := hKernel15Ideal) (hReference15Ideal := hReference15Ideal) (hPre_finite15 := hPre_finite15)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal_pre_finite28 (hKernel28Ideal := hKernel28Ideal) (hReference28Ideal := hReference28Ideal) (hPre_finite28 := hPre_finite28)
    ∧ preserves_Kernel29_Kernel29Ideal
    ∧ algebraic_Kernel29Ideal_Reference29Ideal_pre_finite29 (hKernel29Ideal := hKernel29Ideal) (hReference29Ideal := hReference29Ideal) (hPre_finite29 := hPre_finite29)
-- ==== Pre_finite.lean ====
abbrev S16384x1024 : Shape := ⟨2, ![16384, 1024]⟩
abbrev S8x16384x64 : Shape := ⟨3, ![8, 16384, 64]⟩
abbrev S256x8 : Shape := ⟨2, ![256, 8]⟩
abbrev S_ : Shape := ⟨0, ![]⟩

class Facts : Prop where
  bcast_S_S16384x1024 : S_.BroadcastsInDim S16384x1024 (![] : Fin 0 → Fin S16384x1024.rank)
  bcast_S_S8x16384x64 : S_.BroadcastsInDim S8x16384x64 (![] : Fin 0 → Fin S8x16384x64.rank)
  bcast_S_S256x8 : S_.BroadcastsInDim S256x8 (![] : Fin 0 → Fin S256x8.rank)

variable [Facts]

def fn_part1 {F : FTy → Type} [FloatOps F] (main_arg6 : FVec F S16384x1024 .f32) (main_v2 : IVec S16384x1024 1) (main_v5 : IVec S16384x1024 1) (main_v8 : IVec S16384x1024 1) (main_v11 : IVec S16384x1024 1) (main_v14 : IVec S8x16384x64 1) (main_v17 : IVec S256x8 1) : IVec S16384x1024 1 × IVec S16384x1024 1 × IVec S16384x1024 1 × IVec S16384x1024 1 × IVec S8x16384x64 1 × IVec S256x8 1 × IVec S16384x1024 1 :=
  let main_v18 : FVec F S16384x1024 .f32 := Host.absf main_arg6
  let main_cst_5 : FVec F S_ .f32 := constant S_ .f32 0x7F800000#32
  let main_v19 : FVec F S16384x1024 .f32 := broadcastInDim S16384x1024 ![] bcast_S_S16384x1024 main_cst_5
  let main_v20 : IVec S16384x1024 1 := cmpf .olt main_v18 main_v19
  (main_v2, main_v5, main_v8, main_v11, main_v14, main_v17, main_v20)

def fn {F : FTy → Type} [FloatOps F] (main_arg0 : FVec F S16384x1024 .f32) (main_arg1 : FVec F S16384x1024 .f32) (main_arg2 : FVec F S16384x1024 .f32) (main_arg3 : FVec F S16384x1024 .f32) (main_arg4 : FVec F S8x16384x64 .f32) (main_arg5 : FVec F S256x8 .f32) (main_arg6 : FVec F S16384x1024 .f32) : IVec S16384x1024 1 × IVec S16384x1024 1 × IVec S16384x1024 1 × IVec S16384x1024 1 × IVec S8x16384x64 1 × IVec S256x8 1 × IVec S16384x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S16384x1024 .f32 := Host.absf main_arg1
  let main_cst_0 : FVec F S_ .f32 := constant S_ .f32 0x7F800000#32
  let main_v4 : FVec F S16384x1024 .f32 := broadcastInDim S16384x1024 ![] bcast_S_S16384x1024 main_cst_0
  let main_v5 : IVec S16384x1024 1 := cmpf .olt main_v3 main_v4
  let main_v6 : FVec F S16384x1024 .f32 := Host.absf main_arg2
  let main_cst_1 : FVec F S_ .f32 := constant S_ .f32 0x7F800000#32
  let main_v7 : FVec F S16384x1024 .f32 := broadcastInDim S16384x1024 ![] bcast_S_S16384x1024 main_cst_1
  let main_v8 : IVec S16384x1024 1 := cmpf .olt main_v6 main_v7
  let main_v9 : FVec F S16384x1024 .f32 := Host.absf main_arg3
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_v12 : FVec F S8x16384x64 .f32 := Host.absf main_arg4
  let main_cst_3 : FVec F S_ .f32 := constant S_ .f32 0x7F800000#32
  let main_v13 : FVec F S8x16384x64 .f32 := broadcastInDim S8x16384x64 ![] bcast_S_S8x16384x64 main_cst_3
  let main_v14 : IVec S8x16384x64 1 := cmpf .olt main_v12 main_v13
  let main_v15 : FVec F S256x8 .f32 := Host.absf main_arg5
  let main_cst_4 : FVec F S_ .f32 := constant S_ .f32 0x7F800000#32
  let main_v16 : FVec F S256x8 .f32 := broadcastInDim S256x8 ![] bcast_S_S256x8 main_cst_4
  let main_v17 : IVec S256x8 1 := cmpf .olt main_v15 main_v16
  fn_part1 (F := F) main_arg6 main_v2 main_v5 main_v8 main_v11 main_v14 main_v17
-- ==== Pre_finite14.lean ====
abbrev S16384x1024 : Shape := ⟨2, ![16384, 1024]⟩
abbrev S1x1024 : Shape := ⟨2, ![1, 1024]⟩
abbrev S_ : Shape := ⟨0, ![]⟩

class Facts : Prop where
  bcast_S_S16384x1024 : S_.BroadcastsInDim S16384x1024 (![] : Fin 0 → Fin S16384x1024.rank)
  bcast_S_S1x1024 : S_.BroadcastsInDim S1x1024 (![] : Fin 0 → Fin S1x1024.rank)

variable [Facts]

def fn {F : FTy → Type} [FloatOps F] (main_arg0 : FVec F S16384x1024 .f32) (main_arg1 : FVec F S1x1024 .f32) (main_arg2 : FVec F S16384x1024 .bf16) (main_arg3 : FVec F S16384x1024 .f32) : IVec S16384x1024 1 × IVec S1x1024 1 × IVec S16384x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S16384x1024 .bf16 := Host.absf main_arg2
  let main_cst_1 : FVec F S_ .bf16 := constant S_ .bf16 0x7F80#16
  let main_v7 : FVec F S16384x1024 .bf16 := broadcastInDim S16384x1024 ![] bcast_S_S16384x1024 main_cst_1
  let main_v8 : IVec S16384x1024 1 := cmpf .olt main_v6 main_v7
  (main_v2, main_v5, main_v8)
-- ==== Pre_finite15.lean ====
abbrev S16384x1024 : Shape := ⟨2, ![16384, 1024]⟩
abbrev S16384x6144 : Shape := ⟨2, ![16384, 6144]⟩
abbrev S1x128 : Shape := ⟨2, ![1, 128]⟩
abbrev S_ : Shape := ⟨0, ![]⟩

class Facts : Prop where
  bcast_S_S16384x1024 : S_.BroadcastsInDim S16384x1024 (![] : Fin 0 → Fin S16384x1024.rank)
  bcast_S_S16384x6144 : S_.BroadcastsInDim S16384x6144 (![] : Fin 0 → Fin S16384x6144.rank)
  bcast_S_S1x128 : S_.BroadcastsInDim S1x128 (![] : Fin 0 → Fin S1x128.rank)

variable [Facts]

def fn {F : FTy → Type} [FloatOps F] (main_arg0 : FVec F S16384x1024 .f32) (main_arg1 : FVec F S16384x6144 .bf16) (main_arg2 : FVec F S1x128 .f32) (main_arg3 : FVec F S16384x1024 .bf16) : IVec S16384x1024 1 × IVec S16384x6144 1 × IVec S1x128 1 × IVec S16384x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S16384x6144 .bf16 := Host.absf main_arg1
  let main_cst_0 : FVec F S_ .bf16 := constant S_ .bf16 0x7F80#16
  let main_v4 : FVec F S16384x6144 .bf16 := broadcastInDim S16384x6144 ![] bcast_S_S16384x6144 main_cst_0
  let main_v5 : IVec S16384x6144 1 := cmpf .olt main_v3 main_v4
  let main_v6 : FVec F S1x128 .f32 := Host.absf main_arg2
  let main_cst_1 : FVec F S_ .f32 := constant S_ .f32 0x7F800000#32
  let main_v7 : FVec F S1x128 .f32 := broadcastInDim S1x128 ![] bcast_S_S1x128 main_cst_1
  let main_v8 : IVec S1x128 1 := cmpf .olt main_v6 main_v7
  let main_v9 : FVec F S16384x1024 .bf16 := Host.absf main_arg3
  let main_cst_2 : FVec F S_ .bf16 := constant S_ .bf16 0x7F80#16
  let main_v10 : FVec F S16384x1024 .bf16 := broadcastInDim S16384x1024 ![] bcast_S_S16384x1024 main_cst_2
  let main_v11 : IVec S16384x1024 1 := cmpf .olt main_v9 main_v10
  (main_v2, main_v5, main_v8, main_v11)
-- ==== Pre_finite2.lean ====
abbrev S16384x1024 : Shape := ⟨2, ![16384, 1024]⟩
abbrev S2816x1024 : Shape := ⟨2, ![2816, 1024]⟩
abbrev S16384x2816 : Shape := ⟨2, ![16384, 2816]⟩
abbrev S_ : Shape := ⟨0, ![]⟩

class Facts : Prop where
  bcast_S_S16384x1024 : S_.BroadcastsInDim S16384x1024 (![] : Fin 0 → Fin S16384x1024.rank)
  bcast_S_S2816x1024 : S_.BroadcastsInDim S2816x1024 (![] : Fin 0 → Fin S2816x1024.rank)
  bcast_S_S16384x2816 : S_.BroadcastsInDim S16384x2816 (![] : Fin 0 → Fin S16384x2816.rank)

variable [Facts]

def fn {F : FTy → Type} [FloatOps F] (main_arg0 : FVec F S16384x1024 .f32) (main_arg1 : FVec F S2816x1024 .bf16) (main_arg2 : FVec F S16384x2816 .bf16) (main_arg3 : FVec F S16384x2816 .bf16) : IVec S16384x1024 1 × IVec S2816x1024 1 × IVec S16384x2816 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S2816x1024 .bf16 := Host.absf main_arg1
  let main_cst_0 : FVec F S_ .bf16 := constant S_ .bf16 0x7F80#16
  let main_v4 : FVec F S2816x1024 .bf16 := broadcastInDim S2816x1024 ![] bcast_S_S2816x1024 main_cst_0
  let main_v5 : IVec S2816x1024 1 := cmpf .olt main_v3 main_v4
  let main_v6 : FVec F S16384x2816 .bf16 := Host.absf main_arg3
  let main_cst_1 : FVec F S_ .bf16 := constant S_ .bf16 0x7F80#16
  let main_v7 : FVec F S16384x2816 .bf16 := broadcastInDim S16384x2816 ![] bcast_S_S16384x2816 main_cst_1
  let main_v8 : IVec S16384x2816 1 := cmpf .olt main_v6 main_v7
  (main_v2, main_v5, main_v8)
-- ==== Pre_finite28.lean ====
abbrev S16384x1024 : Shape := ⟨2, ![16384, 1024]⟩
abbrev S1x1024 : Shape := ⟨2, ![1, 1024]⟩
abbrev S_ : Shape := ⟨0, ![]⟩

class Facts : Prop where
  bcast_S_S16384x1024 : S_.BroadcastsInDim S16384x1024 (![] : Fin 0 → Fin S16384x1024.rank)
  bcast_S_S1x1024 : S_.BroadcastsInDim S1x1024 (![] : Fin 0 → Fin S1x1024.rank)

variable [Facts]

def fn {F : FTy → Type} [FloatOps F] (main_arg0 : FVec F S16384x1024 .f32) (main_arg1 : FVec F S1x1024 .f32) (main_arg2 : FVec F S16384x1024 .f32) : IVec S16384x1024 1 × IVec S1x1024 1 × IVec S16384x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S16384x1024 .f32 := Host.absf main_arg2
  let main_cst_1 : FVec F S_ .f32 := constant S_ .f32 0x7F800000#32
  let main_v7 : FVec F S16384x1024 .f32 := broadcastInDim S16384x1024 ![] bcast_S_S16384x1024 main_cst_1
  let main_v8 : IVec S16384x1024 1 := cmpf .olt main_v6 main_v7
  (main_v2, main_v5, main_v8)
-- ==== Pre_finite29.lean ====
abbrev S16384x512 : Shape := ⟨2, ![16384, 512]⟩
abbrev S_ : Shape := ⟨0, ![]⟩

class Facts : Prop where
  bcast_S_S16384x512 : S_.BroadcastsInDim S16384x512 (![] : Fin 0 → Fin S16384x512.rank)

variable [Facts]

def fn {F : FTy → Type} [FloatOps F] (main_arg0 : FVec F S16384x512 .f32) (main_arg1 : FVec F S16384x512 .f32) (main_arg2 : FVec F S16384x512 .f32) (main_arg3 : FVec F S16384x512 .f32) (main_arg4 : FVec F S16384x512 .f32) (main_arg5 : FVec F S16384x512 .f32) : IVec S16384x512 1 × IVec S16384x512 1 × IVec S16384x512 1 :=
  let main_v0 : FVec F S16384x512 .f32 := Host.absf main_arg3
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_v3 : FVec F S16384x512 .f32 := Host.absf main_arg4
  let main_cst_0 : FVec F S_ .f32 := constant S_ .f32 0x7F800000#32
  let main_v4 : FVec F S16384x512 .f32 := broadcastInDim S16384x512 ![] bcast_S_S16384x512 main_cst_0
  let main_v5 : IVec S16384x512 1 := cmpf .olt main_v3 main_v4
  let main_v6 : FVec F S16384x512 .f32 := Host.absf main_arg5
  let main_cst_1 : FVec F S_ .f32 := constant S_ .f32 0x7F800000#32
  let main_v7 : FVec F S16384x512 .f32 := broadcastInDim S16384x512 ![] bcast_S_S16384x512 main_cst_1
  let main_v8 : IVec S16384x512 1 := cmpf .olt main_v6 main_v7
  (main_v2, main_v5, main_v8)
-- ==== Kernel.lean ====
abbrev S16384x1024 : Shape := ⟨2, ![16384, 1024]⟩
abbrev S8x16384x64 : Shape := ⟨3, ![8, 16384, 64]⟩
abbrev S256x8 : Shape := ⟨2, ![256, 8]⟩
abbrev S256x8x128 : Shape := ⟨3, ![256, 8, 128]⟩
abbrev S256x1024 : Shape := ⟨2, ![256, 1024]⟩
abbrev S8x32768x128 : Shape := ⟨3, ![8, 32768, 128]⟩
abbrev S512x1024 : Shape := ⟨2, ![512, 1024]⟩
abbrev S8x512x64 : Shape := ⟨3, ![8, 512, 64]⟩
abbrev S8x1024 : Shape := ⟨2, ![8, 1024]⟩
abbrev S8x1024x128 : Shape := ⟨3, ![8, 1024, 128]⟩
abbrev S8x128x128 : Shape := ⟨3, ![8, 128, 128]⟩
abbrev S1x128x128 : Shape := ⟨3, ![1, 128, 128]⟩
abbrev S128x128 : Shape := ⟨2, ![128, 128]⟩
abbrev S64x128 : Shape := ⟨2, ![64, 128]⟩
abbrev S1x128 : Shape := ⟨2, ![1, 128]⟩
abbrev S1x64x64 : Shape := ⟨3, ![1, 64, 64]⟩
abbrev S64x64 : Shape := ⟨2, ![64, 64]⟩
abbrev S512x512 : Shape := ⟨2, ![512, 512]⟩
abbrev S4x512x64 : Shape := ⟨3, ![4, 512, 64]⟩
abbrev S8x512 : Shape := ⟨2, ![8, 512]⟩
abbrev S4x1024x128 : Shape := ⟨3, ![4, 1024, 128]⟩
abbrev S4x128x128 : Shape := ⟨3, ![4, 128, 128]⟩
abbrev S128 : Shape := ⟨1, ![128]⟩
abbrev S128x1 : Shape := ⟨2, ![128, 1]⟩
abbrev S1 : Shape := ⟨1, ![1]⟩
abbrev S1x1 : Shape := ⟨2, ![1, 1]⟩

abbrev nBuf : Space → Nat
  | .hbm => 17
  | .vmem => 46
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S8x16384x64, .f32⟩
  | .hbm, ⟨5, _⟩ => ⟨S256x8, .f32⟩
  | .hbm, ⟨6, _⟩ => ⟨S16384x1024, .f32⟩
  | .hbm, ⟨7, _⟩ => ⟨S256x8x128, .f32⟩
  | .hbm, ⟨8, _⟩ => ⟨S256x1024, .f32⟩
  | .hbm, ⟨9, _⟩ => ⟨S16384x1024, .f32⟩
  | .hbm, ⟨10, _⟩ => ⟨S8x32768x128, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S8x16384x64, .f32⟩
  | .hbm, ⟨16, _⟩ => ⟨S256x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S8x512x64, .f32⟩
  | .local _ .vmem, ⟨9, _⟩ => ⟨S8x512x64, .f32⟩
  | .local _ .vmem, ⟨10, _⟩ => ⟨S8x1024, .f32⟩
  | .local _ .vmem, ⟨11, _⟩ => ⟨S8x1024, .f32⟩
  | .local _ .vmem, ⟨12, _⟩ => ⟨S512x1024, .f32⟩
  | .local _ .vmem, ⟨13, _⟩ => ⟨S512x1024, .f32⟩
  | .local _ .vmem, ⟨14, _⟩ => ⟨S8x1024x128, .f32⟩
  | .local _ .vmem, ⟨15, _⟩ => ⟨S8x1024x128, .f32⟩
  | .local _ .vmem, ⟨16, _⟩ => ⟨S8x128x128, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S4x512x64, .f32⟩
  | .local _ .vmem, ⟨26, _⟩ => ⟨S4x512x64, .f32⟩
  | .local _ .vmem, ⟨27, _⟩ => ⟨S8x512, .f32⟩
  | .local _ .vmem, ⟨28, _⟩ => ⟨S8x512, .f32⟩
  | .local _ .vmem, ⟨29, _⟩ => ⟨S4x1024x128, .f32⟩
  | .local _ .vmem, ⟨30, _⟩ => ⟨S4x1024x128, .f32⟩
  | .local _ .vmem, ⟨31, _⟩ => ⟨S512x512, .f32⟩
  | .local _ .vmem, ⟨32, _⟩ => ⟨S512x512, .f32⟩
  | .local _ .vmem, ⟨33, _⟩ => ⟨S512x512, .f32⟩
  | .local _ .vmem, ⟨34, _⟩ => ⟨S512x512, .f32⟩
  | .local _ .vmem, ⟨35, _⟩ => ⟨S512x512, .f32⟩
  | .local _ .vmem, ⟨36, _⟩ => ⟨S512x512, .f32⟩
  | .local _ .vmem, ⟨37, _⟩ => ⟨S512x512, .f32⟩
  | .local _ .vmem, ⟨38, _⟩ => ⟨S512x512, .f32⟩
  | .local _ .vmem, ⟨39, _⟩ => ⟨S512x512, .f32⟩
  | .local _ .vmem, ⟨40, _⟩ => ⟨S512x512, .f32⟩
  | .local _ .vmem, ⟨41, _⟩ => ⟨S4x512x64, .f32⟩
  | .local _ .vmem, ⟨42, _⟩ => ⟨S4x512x64, .f32⟩
  | .local _ .vmem, ⟨43, _⟩ => ⟨S8x512, .f32⟩
  | .local _ .vmem, ⟨44, _⟩ => ⟨S8x512, .f32⟩
  | .local _ .vmem, ⟨45, _⟩ => ⟨S4x128x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev main_v3_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg5_1 : Ref sig .tc := ⟨.vmem, 28, rfl⟩
abbrev cc1_stg6_0 : Ref sig .tc := ⟨.vmem, 29, rfl⟩
abbrev cc1_stg6_1 : Ref sig .tc := ⟨.vmem, 30, rfl⟩
abbrev cc1_stg7_0 : Ref sig .tc := ⟨.vmem, 31, rfl⟩
abbrev cc1_stg7_1 : Ref sig .tc := ⟨.vmem, 32, rfl⟩
abbrev cc1_stg8_0 : Ref sig .tc := ⟨.vmem, 33, rfl⟩
abbrev cc1_stg8_1 : Ref sig .tc := ⟨.vmem, 34, rfl⟩
abbrev cc1_stg9_0 : Ref sig .tc := ⟨.vmem, 35, rfl⟩
abbrev cc1_stg9_1 : Ref sig .tc := ⟨.vmem, 36, rfl⟩
abbrev cc1_stg10_0 : Ref sig .tc := ⟨.vmem, 37, rfl⟩
abbrev cc1_stg10_1 : Ref sig .tc := ⟨.vmem, 38, rfl⟩
abbrev cc1_stg11_0 : Ref sig .tc := ⟨.vmem, 39, rfl⟩
abbrev cc1_stg11_1 : Ref sig .tc := ⟨.vmem, 40, rfl⟩
abbrev cc1_stg12_0 : Ref sig .tc := ⟨.vmem, 41, rfl⟩
abbrev cc1_stg12_1 : Ref sig .tc := ⟨.vmem, 42, rfl⟩
abbrev cc1_stg13_0 : Ref sig .tc := ⟨.vmem, 43, rfl⟩
abbrev cc1_stg13_1 : Ref sig .tc := ⟨.vmem, 44, rfl⟩
abbrev cc1_scratch0 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc1_sem8_0 : DmaSem sig := 32
abbrev cc1_sem8_1 : DmaSem sig := 33
abbrev cc1_sem9_0 : DmaSem sig := 34
abbrev cc1_sem9_1 : DmaSem sig := 35
abbrev cc1_sem10_0 : DmaSem sig := 36
abbrev cc1_sem10_1 : DmaSem sig := 37
abbrev cc1_sem11_0 : DmaSem sig := 38
abbrev cc1_sem11_1 : DmaSem sig := 39
abbrev cc1_sem12_0 : DmaSem sig := 40
abbrev cc1_sem12_1 : DmaSem sig := 41
abbrev cc1_sem13_0 : DmaSem sig := 42
abbrev cc1_sem13_1 : DmaSem sig := 43

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![2, 32], ![false, false]⟩

def cc1_transform_0 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc1_transform_1 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc1_transform_2 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc1_transform_3 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc1_transform_4 (i : grid1.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc1_transform_5 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc1_transform_6 (i : grid1.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc1_transform_7 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc1_transform_8 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc1_transform_9 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc1_transform_10 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc1_transform_11 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc1_transform_12 (i : grid1.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc1_transform_13 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S4x512x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S8x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S4x1024x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S512x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S512x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S512x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S512x512 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S512x512 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S4x512x64 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S8x512 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]
-- ==== ReferenceIdeal.lean ====
abbrev S16384x1024 : Shape := ⟨2, ![16384, 1024]⟩
abbrev S8x16384x64 : Shape := ⟨3, ![8, 16384, 64]⟩
abbrev S256x8 : Shape := ⟨2, ![256, 8]⟩
abbrev S8x256x64x64 : Shape := ⟨4, ![8, 256, 64, 64]⟩
abbrev S256x8x64x64 : Shape := ⟨4, ![256, 8, 64, 64]⟩
abbrev S256x1x8x64x64 : Shape := ⟨5, ![256, 1, 8, 64, 64]⟩
abbrev S256x64x8x128 : Shape := ⟨4, ![256, 64, 8, 128]⟩
abbrev S256x8x64x128 : Shape := ⟨4, ![256, 8, 64, 128]⟩
abbrev S256x1x8x64x128 : Shape := ⟨5, ![256, 1, 8, 64, 128]⟩
abbrev S256x1x8 : Shape := ⟨3, ![256, 1, 8]⟩
abbrev S_ : Shape := ⟨0, ![]⟩
abbrev S1x8x128x128 : Shape := ⟨4, ![1, 8, 128, 128]⟩
abbrev S256x1x8x128x128 : Shape := ⟨5, ![256, 1, 8, 128, 128]⟩
abbrev S256x1x8x1x1 : Shape := ⟨5, ![256, 1, 8, 1, 1]⟩
abbrev S1x1x8x64x128 : Shape := ⟨5, ![1, 1, 8, 64, 128]⟩
abbrev S1x8x64x128 : Shape := ⟨4, ![1, 8, 64, 128]⟩
abbrev S1x1x8x64x64 : Shape := ⟨5, ![1, 1, 8, 64, 64]⟩
abbrev S1x8x64x64 : Shape := ⟨4, ![1, 8, 64, 64]⟩
abbrev S1x1x8 : Shape := ⟨3, ![1, 1, 8]⟩
abbrev S1x8 : Shape := ⟨2, ![1, 8]⟩
abbrev S1x8x1x1 : Shape := ⟨4, ![1, 8, 1, 1]⟩
abbrev S1x1x8x128x128 : Shape := ⟨5, ![1, 1, 8, 128, 128]⟩
abbrev S1x1x8x1x1 : Shape := ⟨5, ![1, 1, 8, 1, 1]⟩
abbrev S1x256x64x8x128 : Shape := ⟨5, ![1, 256, 64, 8, 128]⟩
abbrev S1x8x128x64 : Shape := ⟨4, ![1, 8, 128, 64]⟩
abbrev S8 : Shape := ⟨1, ![8]⟩
abbrev S256x8x128 : Shape := ⟨3, ![256, 8, 128]⟩
abbrev S256x1024 : Shape := ⟨2, ![256, 1024]⟩

abbrev nBuf : Space → Nat
  | .hbm => 295
  | .vmem => 0
  | .smem => 0
  | _ => 0

abbrev hbmTy0_0 (i : Nat) : BufTy := match i % 128 with
  | 0 => ⟨S16384x1024, .f32⟩
  | 1 => ⟨S16384x1024, .f32⟩
  | 2 => ⟨S16384x1024, .f32⟩
  | 3 => ⟨S16384x1024, .f32⟩
  | 4 => ⟨S8x16384x64, .f32⟩
  | 5 => ⟨S256x8, .f32⟩
  | 6 => ⟨S16384x1024, .f32⟩
  | 7 => ⟨S8x256x64x64, .f32⟩
  | 8 => ⟨S256x8x64x64, .f32⟩
  | 9 => ⟨S256x1x8x64x64, .f32⟩
  | 10 => ⟨S256x64x8x128, .f32⟩
  | 11 => ⟨S256x8x64x128, .f32⟩
  | 12 => ⟨S256x1x8x64x128, .f32⟩
  | 13 => ⟨S256x64x8x128, .f32⟩
  | 14 => ⟨S256x8x64x128, .f32⟩
  | 15 => ⟨S256x1x8x64x128, .f32⟩
  | 16 => ⟨S256x64x8x128, .f32⟩
  | 17 => ⟨S256x8x64x128, .f32⟩
  | 18 => ⟨S256x1x8x64x128, .f32⟩
  | 19 => ⟨S256x64x8x128, .f32⟩
  | 20 => ⟨S256x8x64x128, .f32⟩
  | 21 => ⟨S256x1x8x64x128, .f32⟩
  | 22 => ⟨S256x1x8, .f32⟩
  | 23 => ⟨S_, .f32⟩
  | 24 => ⟨S1x8x128x128, .f32⟩
  | 25 => ⟨S_, .f32⟩
  | 26 => ⟨S256x1x8x64x128, .f32⟩
  | 27 => ⟨S_, .f32⟩
  | 28 => ⟨S256x1x8x128x128, .f32⟩
  | 29 => ⟨S_, .f32⟩
  | 30 => ⟨S256x1x8x64x128, .f32⟩
  | 31 => ⟨S_, .f32⟩
  | 32 => ⟨S256x1x8x1x1, .f32⟩
  | 33 => ⟨S_, .i32⟩
  | 34 => ⟨S256x1x8x64x128, .f32⟩
  | 35 => ⟨S256x1x8x64x128, .f32⟩
  | 36 => ⟨S256x1x8x64x64, .f32⟩
  | 37 => ⟨S256x1x8x64x128, .f32⟩
  | 38 => ⟨S256x1x8x64x128, .f32⟩
  | 39 => ⟨S256x1x8, .f32⟩
  | 40 => ⟨S_, .i32⟩
  | 41 => ⟨S1x8x128x128, .f32⟩
  | 42 => ⟨S256x1x8x64x128, .f32⟩
  | 43 => ⟨S256x1x8x128x128, .f32⟩
  | 44 => ⟨S256x1x8x64x128, .f32⟩
  | 45 => ⟨S256x1x8x1x1, .f32⟩
  | 46 => ⟨S_, .i32⟩
  | 47 => ⟨S_, .i1⟩
  | 48 => ⟨S_, .i32⟩
  | 49 => ⟨S_, .i32⟩
  | 50 => ⟨S_, .i32⟩
  | 51 => ⟨S_, .i32⟩
  | 52 => ⟨S1x1x8x64x128, .f32⟩
  | 53 => ⟨S1x8x64x128, .f32⟩
  | 54 => ⟨S_, .i32⟩
  | 55 => ⟨S_, .i32⟩
  | 56 => ⟨S_, .i32⟩
  | 57 => ⟨S_, .i32⟩
  | 58 => ⟨S1x1x8x64x128, .f32⟩
  | 59 => ⟨S1x8x64x128, .f32⟩
  | 60 => ⟨S_, .i32⟩
  | 61 => ⟨S_, .i32⟩
  | 62 => ⟨S_, .i32⟩
  | 63 => ⟨S_, .i32⟩
  | 64 => ⟨S1x1x8x64x64, .f32⟩
  | 65 => ⟨S1x8x64x64, .f32⟩
  | 66 => ⟨S_, .i32⟩
  | 67 => ⟨S_, .i32⟩
  | 68 => ⟨S_, .i32⟩
  | 69 => ⟨S_, .i32⟩
  | 70 => ⟨S1x1x8x64x128, .f32⟩
  | 71 => ⟨S1x8x64x128, .f32⟩
  | 72 => ⟨S_, .i32⟩
  | 73 => ⟨S_, .i32⟩
  | 74 => ⟨S_, .i32⟩
  | 75 => ⟨S_, .i32⟩
  | 76 => ⟨S1x1x8x64x128, .f32⟩
  | 77 => ⟨S1x8x64x128, .f32⟩
  | 78 => ⟨S_, .i32⟩
  | 79 => ⟨S_, .i32⟩
  | 80 => ⟨S1x1x8, .f32⟩
  | 81 => ⟨S1x8, .f32⟩
  | 82 => ⟨S1x8x64x128, .f32⟩
  | 83 => ⟨S1x8x64x128, .f32⟩
  | 84 => ⟨S1x8x64x128, .f32⟩
  | 85 => ⟨S1x8x64x128, .f32⟩
  | 86 => ⟨S1x8x64x128, .f32⟩
  | 87 => ⟨S1x8x1x1, .f32⟩
  | 88 => ⟨S1x8x128x128, .f32⟩
  | 89 => ⟨S1x8x128x128, .f32⟩
  | 90 => ⟨S1x8x128x128, .f32⟩
  | 91 => ⟨S1x8x128x128, .f32⟩
  | 92 => ⟨S1x1x8x64x128, .f32⟩
  | 93 => ⟨S_, .i32⟩
  | 94 => ⟨S_, .i32⟩
  | 95 => ⟨S_, .i32⟩
  | 96 => ⟨S_, .i32⟩
  | 97 => ⟨S256x1x8x64x128, .f32⟩
  | 98 => ⟨S1x1x8x128x128, .f32⟩
  | 99 => ⟨S_, .i32⟩
  | 100 => ⟨S_, .i32⟩
  | 101 => ⟨S_, .i32⟩
  | 102 => ⟨S_, .i32⟩
  | 103 => ⟨S256x1x8x128x128, .f32⟩
  | 104 => ⟨S1x1x8x64x128, .f32⟩
  | 105 => ⟨S_, .i32⟩
  | 106 => ⟨S_, .i32⟩
  | 107 => ⟨S_, .i32⟩
  | 108 => ⟨S_, .i32⟩
  | 109 => ⟨S256x1x8x64x128, .f32⟩
  | 110 => ⟨S1x1x8x1x1, .f32⟩
  | 111 => ⟨S_, .i32⟩
  | 112 => ⟨S_, .i32⟩
  | 113 => ⟨S_, .i32⟩
  | 114 => ⟨S_, .i32⟩
  | 115 => ⟨S256x1x8x1x1, .f32⟩
  | 116 => ⟨S_, .i32⟩
  | 117 => ⟨S_, .i32⟩
  | 118 => ⟨S1x256x64x8x128, .f32⟩
  | 119 => ⟨S16384x1024, .f32⟩
  | 120 => ⟨S_, .f32⟩
  | 121 => ⟨S1x8x128x128, .f32⟩
  | 122 => ⟨S1x256x64x8x128, .f32⟩
  | 123 => ⟨S256x1x8x64x128, .f32⟩
  | 124 => ⟨S_, .f32⟩
  | 125 => ⟨S1x8x128x128, .f32⟩
  | 126 => ⟨S_, .f32⟩
  | 127 => ⟨S256x1x8x64x128, .f32⟩
  | _ => ⟨S16384x1024, .f32⟩

abbrev hbmTy0_1 (i : Nat) : BufTy := match i % 128 with
  | 0 => ⟨S_, .f32⟩
  | 1 => ⟨S256x1x8x64x128, .f32⟩
  | 2 => ⟨S_, .f32⟩
  | 3 => ⟨S256x1x8x64x64, .f32⟩
  | 4 => ⟨S_, .f32⟩
  | 5 => ⟨S256x1x8x64x128, .f32⟩
  | 6 => ⟨S_, .f32⟩
  | 7 => ⟨S256x1x8x64x128, .f32⟩
  | 8 => ⟨S_, .f32⟩
  | 9 => ⟨S256x1x8, .f32⟩
  | 10 => ⟨S_, .i32⟩
  | 11 => ⟨S256x1x8x64x128, .f32⟩
  | 12 => ⟨S256x1x8x128x128, .f32⟩
  | 13 => ⟨S256x1x8x64x128, .f32⟩
  | 14 => ⟨S256x1x8x64x128, .f32⟩
  | 15 => ⟨S256x1x8x64x128, .f32⟩
  | 16 => ⟨S256x1x8x64x64, .f32⟩
  | 17 => ⟨S256x1x8x1x1, .f32⟩
  | 18 => ⟨S256x1x8x64x128, .f32⟩
  | 19 => ⟨S_, .i32⟩
  | 20 => ⟨S1x8x128x128, .f32⟩
  | 21 => ⟨S256x1x8x64x128, .f32⟩
  | 22 => ⟨S256x1x8x64x128, .f32⟩
  | 23 => ⟨S256x1x8x64x64, .f32⟩
  | 24 => ⟨S256x1x8x64x128, .f32⟩
  | 25 => ⟨S256x1x8x64x128, .f32⟩
  | 26 => ⟨S256x1x8, .f32⟩
  | 27 => ⟨S_, .i32⟩
  | 28 => ⟨S_, .i1⟩
  | 29 => ⟨S_, .i32⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S_, .i32⟩
  | 37 => ⟨S1x1x8x64x128, .f32⟩
  | 38 => ⟨S1x8x64x128, .f32⟩
  | 39 => ⟨S_, .i32⟩
  | 40 => ⟨S_, .i32⟩
  | 41 => ⟨S_, .i32⟩
  | 42 => ⟨S_, .i32⟩
  | 43 => ⟨S1x1x8x128x128, .f32⟩
  | 44 => ⟨S1x8x128x128, .f32⟩
  | 45 => ⟨S_, .i32⟩
  | 46 => ⟨S_, .i32⟩
  | 47 => ⟨S_, .i32⟩
  | 48 => ⟨S_, .i32⟩
  | 49 => ⟨S1x1x8x64x128, .f32⟩
  | 50 => ⟨S1x8x64x128, .f32⟩
  | 51 => ⟨S_, .i32⟩
  | 52 => ⟨S_, .i32⟩
  | 53 => ⟨S_, .i32⟩
  | 54 => ⟨S_, .i32⟩
  | 55 => ⟨S1x1x8x64x128, .f32⟩
  | 56 => ⟨S1x8x64x128, .f32⟩
  | 57 => ⟨S_, .i32⟩
  | 58 => ⟨S_, .i32⟩
  | 59 => ⟨S_, .i32⟩
  | 60 => ⟨S_, .i32⟩
  | 61 => ⟨S1x1x8x64x128, .f32⟩
  | 62 => ⟨S1x8x64x128, .f32⟩
  | 63 => ⟨S_, .i32⟩
  | 64 => ⟨S_, .i32⟩
  | 65 => ⟨S_, .i32⟩
  | 66 => ⟨S_, .i32⟩
  | 67 => ⟨S1x1x8x64x64, .f32⟩
  | 68 => ⟨S1x8x64x64, .f32⟩
  | 69 => ⟨S_, .i32⟩
  | 70 => ⟨S_, .i32⟩
  | 71 => ⟨S_, .i32⟩
  | 72 => ⟨S_, .i32⟩
  | 73 => ⟨S1x1x8x1x1, .f32⟩
  | 74 => ⟨S1x8x1x1, .f32⟩
  | 75 => ⟨S_, .i32⟩
  | 76 => ⟨S_, .i32⟩
  | 77 => ⟨S_, .i32⟩
  | 78 => ⟨S_, .i32⟩
  | 79 => ⟨S1x1x8x64x128, .f32⟩
  | 80 => ⟨S1x8x64x128, .f32⟩
  | 81 => ⟨S1x8x128x64, .f32⟩
  | 82 => ⟨S1x8x64x128, .f32⟩
  | 83 => ⟨S1x8x128x64, .f32⟩
  | 84 => ⟨S1x8x64x128, .f32⟩
  | 85 => ⟨S1x8x128x128, .f32⟩
  | 86 => ⟨S1x8x128x128, .f32⟩
  | 87 => ⟨S1x8x128x128, .f32⟩
  | 88 => ⟨S_, .f32⟩
  | 89 => ⟨S1x8, .f32⟩
  | 90 => ⟨S1x8x1x1, .f32⟩
  | 91 => ⟨S_, .f32⟩
  | 92 => ⟨S8, .f32⟩
  | 93 => ⟨S1x8, .f32⟩
  | 94 => ⟨S1x8x128x64, .f32⟩
  | 95 => ⟨S1x8x64x128, .f32⟩
  | 96 => ⟨S1x8x64x128, .f32⟩
  | 97 => ⟨S1x8x64x64, .f32⟩
  | 98 => ⟨S1x8x128x128, .f32⟩
  | 99 => ⟨S1x8x128x128, .f32⟩
  | 100 => ⟨S1x8x128x128, .f32⟩
  | 101 => ⟨S1x8x64x128, .f32⟩
  | 102 => ⟨S1x8x64x128, .f32⟩
  | 103 => ⟨S1x8x128x128, .f32⟩
  | 104 => ⟨S1x8x128x128, .f32⟩
  | 105 => ⟨S1x8x128x128, .f32⟩
  | 106 => ⟨S1x8x64x128, .f32⟩
  | 107 => ⟨S1x1x8x64x128, .f32⟩
  | 108 => ⟨S_, .i32⟩
  | 109 => ⟨S_, .i32⟩
  | 110 => ⟨S_, .i32⟩
  | 111 => ⟨S_, .i32⟩
  | 112 => ⟨S256x1x8x64x128, .f32⟩
  | 113 => ⟨S1x1x8x64x128, .f32⟩
  | 114 => ⟨S_, .i32⟩
  | 115 => ⟨S_, .i32⟩
  | 116 => ⟨S_, .i32⟩
  | 117 => ⟨S_, .i32⟩
  | 118 => ⟨S256x1x8x64x128, .f32⟩
  | 119 => ⟨S1x1x8x64x64, .f32⟩
  | 120 => ⟨S_, .i32⟩
  | 121 => ⟨S_, .i32⟩
  | 122 => ⟨S_, .i32⟩
  | 123 => ⟨S_, .i32⟩
  | 124 => ⟨S256x1x8x64x64, .f32⟩
  | 125 => ⟨S1x1x8x64x128, .f32⟩
  | 126 => ⟨S_, .i32⟩
  | 127 => ⟨S_, .i32⟩
  | _ => ⟨S16384x1024, .f32⟩

abbrev hbmTy0_2 (i : Nat) : BufTy := match i % 128 with
  | 0 => ⟨S_, .i32⟩
  | 1 => ⟨S_, .i32⟩
  | 2 => ⟨S256x1x8x64x128, .f32⟩
  | 3 => ⟨S1x1x8x64x128, .f32⟩
  | 4 => ⟨S_, .i32⟩
  | 5 => ⟨S_, .i32⟩
  | 6 => ⟨S_, .i32⟩
  | 7 => ⟨S_, .i32⟩
  | 8 => ⟨S256x1x8x64x128, .f32⟩
  | 9 => ⟨S1x1x8, .f32⟩
  | 10 => ⟨S_, .i32⟩
  | 11 => ⟨S_, .i32⟩
  | 12 => ⟨S256x1x8, .f32⟩
  | 13 => ⟨S_, .i32⟩
  | 14 => ⟨S_, .i32⟩
  | 15 => ⟨S_, .f32⟩
  | 16 => ⟨S256x8, .f32⟩
  | 17 => ⟨S_, .f32⟩
  | 18 => ⟨S256x8x64x128, .f32⟩
  | 19 => ⟨S256x64x8x128, .f32⟩
  | 20 => ⟨S16384x1024, .f32⟩
  | 21 => ⟨S_, .f32⟩
  | 22 => ⟨S256x8x64x128, .f32⟩
  | 23 => ⟨S256x64x8x128, .f32⟩
  | 24 => ⟨S16384x1024, .f32⟩
  | 25 => ⟨S_, .f32⟩
  | 26 => ⟨S256x8x64x128, .f32⟩
  | 27 => ⟨S256x64x8x128, .f32⟩
  | 28 => ⟨S16384x1024, .f32⟩
  | 29 => ⟨S_, .f32⟩
  | 30 => ⟨S256x8x64x128, .f32⟩
  | 31 => ⟨S256x64x8x128, .f32⟩
  | 32 => ⟨S16384x1024, .f32⟩
  | 33 => ⟨S_, .f32⟩
  | 34 => ⟨S256x8x64x64, .f32⟩
  | 35 => ⟨S8x256x64x64, .f32⟩
  | 36 => ⟨S8x16384x64, .f32⟩
  | 37 => ⟨S256x8x128, .f32⟩
  | 38 => ⟨S256x1024, .f32⟩
  | _ => ⟨S16384x1024, .f32⟩

abbrev hbmTy (i : Nat) : BufTy := match i / 128 with
  | 0 => hbmTy0_0 i
  | 1 => hbmTy0_1 i
  | 2 => hbmTy0_2 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_c : Ref sig .tc := ⟨.hbm, 33, rfl⟩
abbrev main_v21_0 : Ref sig .tc := ⟨.hbm, 34, rfl⟩
abbrev main_v21_1 : Ref sig .tc := ⟨.hbm, 35, rfl⟩
abbrev main_v21_2 : Ref sig .tc := ⟨.hbm, 36, rfl⟩
abbrev main_v21_3 : Ref sig .tc := ⟨.hbm, 37, rfl⟩
abbrev main_v21_4 : Ref sig .tc := ⟨.hbm, 38, rfl⟩
abbrev main_v21_5 : Ref sig .tc := ⟨.hbm, 39, rfl⟩
abbrev main_v21_6 : Ref sig .tc := ⟨.hbm, 40, rfl⟩
abbrev main_v21_7 : Ref sig .tc := ⟨.hbm, 41, rfl⟩
abbrev main_v21_8 : Ref sig .tc := ⟨.hbm, 42, rfl⟩
abbrev main_v21_9 : Ref sig .tc := ⟨.hbm, 43, rfl⟩
abbrev main_v21_10 : Ref sig .tc := ⟨.hbm, 44, rfl⟩
abbrev main_v21_11 : Ref sig .tc := ⟨.hbm, 45, rfl⟩
abbrev main_while0c_c_30 : Ref sig .tc := ⟨.hbm, 46, rfl⟩
abbrev main_while0c_v53 : Ref sig .tc := ⟨.hbm, 47, rfl⟩
abbrev main_while0b_call0_c : Ref sig .tc := ⟨.hbm, 48, rfl⟩
abbrev main_while0b_call0_c_0 : Ref sig .tc := ⟨.hbm, 49, rfl⟩
abbrev main_while0b_call0_c_1 : Ref sig .tc := ⟨.hbm, 50, rfl⟩
abbrev main_while0b_call0_c_2 : Ref sig .tc := ⟨.hbm, 51, rfl⟩
abbrev main_while0b_call0_v0 : Ref sig .tc := ⟨.hbm, 52, rfl⟩
abbrev main_while0b_v53 : Ref sig .tc := ⟨.hbm, 53, rfl⟩
abbrev main_while0b_call1_c : Ref sig .tc := ⟨.hbm, 54, rfl⟩
abbrev main_while0b_call1_c_0 : Ref sig .tc := ⟨.hbm, 55, rfl⟩
abbrev main_while0b_call1_c_1 : Ref sig .tc := ⟨.hbm, 56, rfl⟩
abbrev main_while0b_call1_c_2 : Ref sig .tc := ⟨.hbm, 57, rfl⟩
abbrev main_while0b_call1_v0 : Ref sig .tc := ⟨.hbm, 58, rfl⟩
abbrev main_while0b_v54 : Ref sig .tc := ⟨.hbm, 59, rfl⟩
abbrev main_while0b_call2_c : Ref sig .tc := ⟨.hbm, 60, rfl⟩
abbrev main_while0b_call2_c_0 : Ref sig .tc := ⟨.hbm, 61, rfl⟩
abbrev main_while0b_call2_c_1 : Ref sig .tc := ⟨.hbm, 62, rfl⟩
abbrev main_while0b_call2_c_2 : Ref sig .tc := ⟨.hbm, 63, rfl⟩
abbrev main_while0b_call2_v0 : Ref sig .tc := ⟨.hbm, 64, rfl⟩
abbrev main_while0b_v55 : Ref sig .tc := ⟨.hbm, 65, rfl⟩
abbrev main_while0b_call3_c : Ref sig .tc := ⟨.hbm, 66, rfl⟩
abbrev main_while0b_call3_c_0 : Ref sig .tc := ⟨.hbm, 67, rfl⟩
abbrev main_while0b_call3_c_1 : Ref sig .tc := ⟨.hbm, 68, rfl⟩
abbrev main_while0b_call3_c_2 : Ref sig .tc := ⟨.hbm, 69, rfl⟩
abbrev main_while0b_call3_v0 : Ref sig .tc := ⟨.hbm, 70, rfl⟩
abbrev main_while0b_v56 : Ref sig .tc := ⟨.hbm, 71, rfl⟩
abbrev main_while0b_call4_c : Ref sig .tc := ⟨.hbm, 72, rfl⟩
abbrev main_while0b_call4_c_0 : Ref sig .tc := ⟨.hbm, 73, rfl⟩
abbrev main_while0b_call4_c_1 : Ref sig .tc := ⟨.hbm, 74, rfl⟩
abbrev main_while0b_call4_c_2 : Ref sig .tc := ⟨.hbm, 75, rfl⟩
abbrev main_while0b_call4_v0 : Ref sig .tc := ⟨.hbm, 76, rfl⟩
abbrev main_while0b_v57 : Ref sig .tc := ⟨.hbm, 77, rfl⟩
abbrev main_while0b_call5_c : Ref sig .tc := ⟨.hbm, 78, rfl⟩
abbrev main_while0b_call5_c_0 : Ref sig .tc := ⟨.hbm, 79, rfl⟩
abbrev main_while0b_call5_v0 : Ref sig .tc := ⟨.hbm, 80, rfl⟩
abbrev main_while0b_v58 : Ref sig .tc := ⟨.hbm, 81, rfl⟩
abbrev main_while0b_v59 : Ref sig .tc := ⟨.hbm, 82, rfl⟩
abbrev main_while0b_v60 : Ref sig .tc := ⟨.hbm, 83, rfl⟩
abbrev main_while0b_v61 : Ref sig .tc := ⟨.hbm, 84, rfl⟩
abbrev main_while0b_v62 : Ref sig .tc := ⟨.hbm, 85, rfl⟩
abbrev main_while0b_v63 : Ref sig .tc := ⟨.hbm, 86, rfl⟩
abbrev main_while0b_v64 : Ref sig .tc := ⟨.hbm, 87, rfl⟩
abbrev main_while0b_v65 : Ref sig .tc := ⟨.hbm, 88, rfl⟩
abbrev main_while0b_v66 : Ref sig .tc := ⟨.hbm, 89, rfl⟩
abbrev main_while0b_v67 : Ref sig .tc := ⟨.hbm, 90, rfl⟩
abbrev main_while0b_v68 : Ref sig .tc := ⟨.hbm, 91, rfl⟩
abbrev main_while0b_call6_v0 : Ref sig .tc := ⟨.hbm, 92, rfl⟩
abbrev main_while0b_call6_c : Ref sig .tc := ⟨.hbm, 93, rfl⟩
abbrev main_while0b_call6_c_0 : Ref sig .tc := ⟨.hbm, 94, rfl⟩
abbrev main_while0b_call6_c_1 : Ref sig .tc := ⟨.hbm, 95, rfl⟩
abbrev main_while0b_call6_c_2 : Ref sig .tc := ⟨.hbm, 96, rfl⟩
abbrev main_while0b_v69 : Ref sig .tc := ⟨.hbm, 97, rfl⟩
abbrev main_while0b_call7_v0 : Ref sig .tc := ⟨.hbm, 98, rfl⟩
abbrev main_while0b_call7_c : Ref sig .tc := ⟨.hbm, 99, rfl⟩
abbrev main_while0b_call7_c_0 : Ref sig .tc := ⟨.hbm, 100, rfl⟩
abbrev main_while0b_call7_c_1 : Ref sig .tc := ⟨.hbm, 101, rfl⟩
abbrev main_while0b_call7_c_2 : Ref sig .tc := ⟨.hbm, 102, rfl⟩
abbrev main_while0b_v70 : Ref sig .tc := ⟨.hbm, 103, rfl⟩
abbrev main_while0b_call8_v0 : Ref sig .tc := ⟨.hbm, 104, rfl⟩
abbrev main_while0b_call8_c : Ref sig .tc := ⟨.hbm, 105, rfl⟩
abbrev main_while0b_call8_c_0 : Ref sig .tc := ⟨.hbm, 106, rfl⟩
abbrev main_while0b_call8_c_1 : Ref sig .tc := ⟨.hbm, 107, rfl⟩
abbrev main_while0b_call8_c_2 : Ref sig .tc := ⟨.hbm, 108, rfl⟩
abbrev main_while0b_v71 : Ref sig .tc := ⟨.hbm, 109, rfl⟩
abbrev main_while0b_call9_v0 : Ref sig .tc := ⟨.hbm, 110, rfl⟩
abbrev main_while0b_call9_c : Ref sig .tc := ⟨.hbm, 111, rfl⟩
abbrev main_while0b_call9_c_0 : Ref sig .tc := ⟨.hbm, 112, rfl⟩
abbrev main_while0b_call9_c_1 : Ref sig .tc := ⟨.hbm, 113, rfl⟩
abbrev main_while0b_call9_c_2 : Ref sig .tc := ⟨.hbm, 114, rfl⟩
abbrev main_while0b_v72 : Ref sig .tc := ⟨.hbm, 115, rfl⟩
abbrev main_while0b_c_30 : Ref sig .tc := ⟨.hbm, 116, rfl⟩
abbrev main_while0b_v73 : Ref sig .tc := ⟨.hbm, 117, rfl⟩
abbrev main_v22 : Ref sig .tc := ⟨.hbm, 118, rfl⟩
abbrev main_v23 : Ref sig .tc := ⟨.hbm, 119, rfl⟩
abbrev main_cst_4 : Ref sig .tc := ⟨.hbm, 120, rfl⟩
abbrev main_v24 : Ref sig .tc := ⟨.hbm, 121, rfl⟩
abbrev main_v25 : Ref sig .tc := ⟨.hbm, 122, rfl⟩
abbrev main_v26 : Ref sig .tc := ⟨.hbm, 123, rfl⟩
abbrev main_cst_5 : Ref sig .tc := ⟨.hbm, 124, rfl⟩
abbrev main_v27 : Ref sig .tc := ⟨.hbm, 125, rfl⟩
abbrev main_cst_6 : Ref sig .tc := ⟨.hbm, 126, rfl⟩
abbrev main_v28 : Ref sig .tc := ⟨.hbm, 127, rfl⟩
abbrev main_cst_7 : Ref sig .tc := ⟨.hbm, 128, rfl⟩
abbrev main_v29 : Ref sig .tc := ⟨.hbm, 129, rfl⟩
abbrev main_cst_8 : Ref sig .tc := ⟨.hbm, 130, rfl⟩
abbrev main_v30 : Ref sig .tc := ⟨.hbm, 131, rfl⟩
abbrev main_cst_9 : Ref sig .tc := ⟨.hbm, 132, rfl⟩
abbrev main_v31 : Ref sig .tc := ⟨.hbm, 133, rfl⟩
abbrev main_cst_10 : Ref sig .tc := ⟨.hbm, 134, rfl⟩
abbrev main_v32 : Ref sig .tc := ⟨.hbm, 135, rfl⟩
abbrev main_cst_11 : Ref sig .tc := ⟨.hbm, 136, rfl⟩
abbrev main_v33 : Ref sig .tc := ⟨.hbm, 137, rfl⟩
abbrev main_c_12 : Ref sig .tc := ⟨.hbm, 138, rfl⟩
abbrev main_v34_0 : Ref sig .tc := ⟨.hbm, 139, rfl⟩
abbrev main_v34_1 : Ref sig .tc := ⟨.hbm, 140, rfl⟩
abbrev main_v34_2 : Ref sig .tc := ⟨.hbm, 141, rfl⟩
abbrev main_v34_3 : Ref sig .tc := ⟨.hbm, 142, rfl⟩
abbrev main_v34_4 : Ref sig .tc := ⟨.hbm, 143, rfl⟩
abbrev main_v34_5 : Ref sig .tc := ⟨.hbm, 144, rfl⟩
abbrev main_v34_6 : Ref sig .tc := ⟨.hbm, 145, rfl⟩
abbrev main_v34_7 : Ref sig .tc := ⟨.hbm, 146, rfl⟩
abbrev main_v34_8 : Ref sig .tc := ⟨.hbm, 147, rfl⟩
abbrev main_v34_9 : Ref sig .tc := ⟨.hbm, 148, rfl⟩
abbrev main_v34_10 : Ref sig .tc := ⟨.hbm, 149, rfl⟩
abbrev main_v34_11 : Ref sig .tc := ⟨.hbm, 150, rfl⟩
abbrev main_v34_12 : Ref sig .tc := ⟨.hbm, 151, rfl⟩
abbrev main_v34_13 : Ref sig .tc := ⟨.hbm, 152, rfl⟩
abbrev main_v34_14 : Ref sig .tc := ⟨.hbm, 153, rfl⟩
abbrev main_v34_15 : Ref sig .tc := ⟨.hbm, 154, rfl⟩
abbrev main_while1c_c_34 : Ref sig .tc := ⟨.hbm, 155, rfl⟩
abbrev main_while1c_v53 : Ref sig .tc := ⟨.hbm, 156, rfl⟩
abbrev main_while1b_c_34 : Ref sig .tc := ⟨.hbm, 157, rfl⟩
abbrev main_while1b_v53 : Ref sig .tc := ⟨.hbm, 158, rfl⟩
abbrev main_while1b_c_35 : Ref sig .tc := ⟨.hbm, 159, rfl⟩
abbrev main_while1b_v54 : Ref sig .tc := ⟨.hbm, 160, rfl⟩
abbrev main_while1b_call10_c : Ref sig .tc := ⟨.hbm, 161, rfl⟩
abbrev main_while1b_call10_c_0 : Ref sig .tc := ⟨.hbm, 162, rfl⟩
abbrev main_while1b_call10_c_1 : Ref sig .tc := ⟨.hbm, 163, rfl⟩
abbrev main_while1b_call10_c_2 : Ref sig .tc := ⟨.hbm, 164, rfl⟩
abbrev main_while1b_call10_v0 : Ref sig .tc := ⟨.hbm, 165, rfl⟩
abbrev main_while1b_v55 : Ref sig .tc := ⟨.hbm, 166, rfl⟩
abbrev main_while1b_call11_c : Ref sig .tc := ⟨.hbm, 167, rfl⟩
abbrev main_while1b_call11_c_0 : Ref sig .tc := ⟨.hbm, 168, rfl⟩
abbrev main_while1b_call11_c_1 : Ref sig .tc := ⟨.hbm, 169, rfl⟩
abbrev main_while1b_call11_c_2 : Ref sig .tc := ⟨.hbm, 170, rfl⟩
abbrev main_while1b_call11_v0 : Ref sig .tc := ⟨.hbm, 171, rfl⟩
abbrev main_while1b_v56 : Ref sig .tc := ⟨.hbm, 172, rfl⟩
abbrev main_while1b_call12_c : Ref sig .tc := ⟨.hbm, 173, rfl⟩
abbrev main_while1b_call12_c_0 : Ref sig .tc := ⟨.hbm, 174, rfl⟩
abbrev main_while1b_call12_c_1 : Ref sig .tc := ⟨.hbm, 175, rfl⟩
abbrev main_while1b_call12_c_2 : Ref sig .tc := ⟨.hbm, 176, rfl⟩
abbrev main_while1b_call12_v0 : Ref sig .tc := ⟨.hbm, 177, rfl⟩
abbrev main_while1b_v57 : Ref sig .tc := ⟨.hbm, 178, rfl⟩
abbrev main_while1b_call13_c : Ref sig .tc := ⟨.hbm, 179, rfl⟩
abbrev main_while1b_call13_c_0 : Ref sig .tc := ⟨.hbm, 180, rfl⟩
abbrev main_while1b_call13_c_1 : Ref sig .tc := ⟨.hbm, 181, rfl⟩
abbrev main_while1b_call13_c_2 : Ref sig .tc := ⟨.hbm, 182, rfl⟩
abbrev main_while1b_call13_v0 : Ref sig .tc := ⟨.hbm, 183, rfl⟩
abbrev main_while1b_v58 : Ref sig .tc := ⟨.hbm, 184, rfl⟩
abbrev main_while1b_call14_c : Ref sig .tc := ⟨.hbm, 185, rfl⟩
abbrev main_while1b_call14_c_0 : Ref sig .tc := ⟨.hbm, 186, rfl⟩
abbrev main_while1b_call14_c_1 : Ref sig .tc := ⟨.hbm, 187, rfl⟩
abbrev main_while1b_call14_c_2 : Ref sig .tc := ⟨.hbm, 188, rfl⟩
abbrev main_while1b_call14_v0 : Ref sig .tc := ⟨.hbm, 189, rfl⟩
abbrev main_while1b_v59 : Ref sig .tc := ⟨.hbm, 190, rfl⟩
abbrev main_while1b_call15_c : Ref sig .tc := ⟨.hbm, 191, rfl⟩
abbrev main_while1b_call15_c_0 : Ref sig .tc := ⟨.hbm, 192, rfl⟩
abbrev main_while1b_call15_c_1 : Ref sig .tc := ⟨.hbm, 193, rfl⟩
abbrev main_while1b_call15_c_2 : Ref sig .tc := ⟨.hbm, 194, rfl⟩
abbrev main_while1b_call15_v0 : Ref sig .tc := ⟨.hbm, 195, rfl⟩
abbrev main_while1b_v60 : Ref sig .tc := ⟨.hbm, 196, rfl⟩
abbrev main_while1b_call16_c : Ref sig .tc := ⟨.hbm, 197, rfl⟩
abbrev main_while1b_call16_c_0 : Ref sig .tc := ⟨.hbm, 198, rfl⟩
abbrev main_while1b_call16_c_1 : Ref sig .tc := ⟨.hbm, 199, rfl⟩
abbrev main_while1b_call16_c_2 : Ref sig .tc := ⟨.hbm, 200, rfl⟩
abbrev main_while1b_call16_v0 : Ref sig .tc := ⟨.hbm, 201, rfl⟩
abbrev main_while1b_v61 : Ref sig .tc := ⟨.hbm, 202, rfl⟩
abbrev main_while1b_call17_c : Ref sig .tc := ⟨.hbm, 203, rfl⟩
abbrev main_while1b_call17_c_0 : Ref sig .tc := ⟨.hbm, 204, rfl⟩
abbrev main_while1b_call17_c_1 : Ref sig .tc := ⟨.hbm, 205, rfl⟩
abbrev main_while1b_call17_c_2 : Ref sig .tc := ⟨.hbm, 206, rfl⟩
abbrev main_while1b_call17_v0 : Ref sig .tc := ⟨.hbm, 207, rfl⟩
abbrev main_while1b_v62 : Ref sig .tc := ⟨.hbm, 208, rfl⟩
abbrev main_while1b_v63 : Ref sig .tc := ⟨.hbm, 209, rfl⟩
abbrev main_while1b_v64 : Ref sig .tc := ⟨.hbm, 210, rfl⟩
abbrev main_while1b_v65 : Ref sig .tc := ⟨.hbm, 211, rfl⟩
abbrev main_while1b_v66 : Ref sig .tc := ⟨.hbm, 212, rfl⟩
abbrev main_while1b_v67 : Ref sig .tc := ⟨.hbm, 213, rfl⟩
abbrev main_while1b_v68 : Ref sig .tc := ⟨.hbm, 214, rfl⟩
abbrev main_while1b_v69 : Ref sig .tc := ⟨.hbm, 215, rfl⟩
abbrev main_while1b_cst_36 : Ref sig .tc := ⟨.hbm, 216, rfl⟩
abbrev main_while1b_v70 : Ref sig .tc := ⟨.hbm, 217, rfl⟩
abbrev main_while1b_v71 : Ref sig .tc := ⟨.hbm, 218, rfl⟩
abbrev main_while1b_cst_37 : Ref sig .tc := ⟨.hbm, 219, rfl⟩
abbrev main_while1b_v72 : Ref sig .tc := ⟨.hbm, 220, rfl⟩
abbrev main_while1b_v73 : Ref sig .tc := ⟨.hbm, 221, rfl⟩
abbrev main_while1b_v74 : Ref sig .tc := ⟨.hbm, 222, rfl⟩
abbrev main_while1b_v75 : Ref sig .tc := ⟨.hbm, 223, rfl⟩
abbrev main_while1b_v76 : Ref sig .tc := ⟨.hbm, 224, rfl⟩
abbrev main_while1b_v77 : Ref sig .tc := ⟨.hbm, 225, rfl⟩
abbrev main_while1b_v78 : Ref sig .tc := ⟨.hbm, 226, rfl⟩
abbrev main_while1b_v79 : Ref sig .tc := ⟨.hbm, 227, rfl⟩
abbrev main_while1b_v80 : Ref sig .tc := ⟨.hbm, 228, rfl⟩
abbrev main_while1b_v81 : Ref sig .tc := ⟨.hbm, 229, rfl⟩
abbrev main_while1b_v82 : Ref sig .tc := ⟨.hbm, 230, rfl⟩
abbrev main_while1b_v83 : Ref sig .tc := ⟨.hbm, 231, rfl⟩
abbrev main_while1b_v84 : Ref sig .tc := ⟨.hbm, 232, rfl⟩
abbrev main_while1b_v85 : Ref sig .tc := ⟨.hbm, 233, rfl⟩
abbrev main_while1b_v86 : Ref sig .tc := ⟨.hbm, 234, rfl⟩
abbrev main_while1b_call18_v0 : Ref sig .tc := ⟨.hbm, 235, rfl⟩
abbrev main_while1b_call18_c : Ref sig .tc := ⟨.hbm, 236, rfl⟩
abbrev main_while1b_call18_c_0 : Ref sig .tc := ⟨.hbm, 237, rfl⟩
abbrev main_while1b_call18_c_1 : Ref sig .tc := ⟨.hbm, 238, rfl⟩
abbrev main_while1b_call18_c_2 : Ref sig .tc := ⟨.hbm, 239, rfl⟩
abbrev main_while1b_v87 : Ref sig .tc := ⟨.hbm, 240, rfl⟩
abbrev main_while1b_call19_v0 : Ref sig .tc := ⟨.hbm, 241, rfl⟩
abbrev main_while1b_call19_c : Ref sig .tc := ⟨.hbm, 242, rfl⟩
abbrev main_while1b_call19_c_0 : Ref sig .tc := ⟨.hbm, 243, rfl⟩
abbrev main_while1b_call19_c_1 : Ref sig .tc := ⟨.hbm, 244, rfl⟩
abbrev main_while1b_call19_c_2 : Ref sig .tc := ⟨.hbm, 245, rfl⟩
abbrev main_while1b_v88 : Ref sig .tc := ⟨.hbm, 246, rfl⟩
abbrev main_while1b_call20_v0 : Ref sig .tc := ⟨.hbm, 247, rfl⟩
abbrev main_while1b_call20_c : Ref sig .tc := ⟨.hbm, 248, rfl⟩
abbrev main_while1b_call20_c_0 : Ref sig .tc := ⟨.hbm, 249, rfl⟩
abbrev main_while1b_call20_c_1 : Ref sig .tc := ⟨.hbm, 250, rfl⟩
abbrev main_while1b_call20_c_2 : Ref sig .tc := ⟨.hbm, 251, rfl⟩
abbrev main_while1b_v89 : Ref sig .tc := ⟨.hbm, 252, rfl⟩
abbrev main_while1b_call21_v0 : Ref sig .tc := ⟨.hbm, 253, rfl⟩
abbrev main_while1b_call21_c : Ref sig .tc := ⟨.hbm, 254, rfl⟩
abbrev main_while1b_call21_c_0 : Ref sig .tc := ⟨.hbm, 255, rfl⟩
abbrev main_while1b_call21_c_1 : Ref sig .tc := ⟨.hbm, 256, rfl⟩
abbrev main_while1b_call21_c_2 : Ref sig .tc := ⟨.hbm, 257, rfl⟩
abbrev main_while1b_v90 : Ref sig .tc := ⟨.hbm, 258, rfl⟩
abbrev main_while1b_call22_v0 : Ref sig .tc := ⟨.hbm, 259, rfl⟩
abbrev main_while1b_call22_c : Ref sig .tc := ⟨.hbm, 260, rfl⟩
abbrev main_while1b_call22_c_0 : Ref sig .tc := ⟨.hbm, 261, rfl⟩
abbrev main_while1b_call22_c_1 : Ref sig .tc := ⟨.hbm, 262, rfl⟩
abbrev main_while1b_call22_c_2 : Ref sig .tc := ⟨.hbm, 263, rfl⟩
abbrev main_while1b_v91 : Ref sig .tc := ⟨.hbm, 264, rfl⟩
abbrev main_while1b_call23_v0 : Ref sig .tc := ⟨.hbm, 265, rfl⟩
abbrev main_while1b_call23_c : Ref sig .tc := ⟨.hbm, 266, rfl⟩
abbrev main_while1b_call23_c_0 : Ref sig .tc := ⟨.hbm, 267, rfl⟩
abbrev main_while1b_v92 : Ref sig .tc := ⟨.hbm, 268, rfl⟩
abbrev main_while1b_c_38 : Ref sig .tc := ⟨.hbm, 269, rfl⟩
abbrev main_while1b_v93 : Ref sig .tc := ⟨.hbm, 270, rfl⟩
abbrev main_cst_13 : Ref sig .tc := ⟨.hbm, 271, rfl⟩
abbrev main_v35 : Ref sig .tc := ⟨.hbm, 272, rfl⟩
abbrev main_cst_14 : Ref sig .tc := ⟨.hbm, 273, rfl⟩
abbrev main_v36 : Ref sig .tc := ⟨.hbm, 274, rfl⟩
abbrev main_v37 : Ref sig .tc := ⟨.hbm, 275, rfl⟩
abbrev main_v38 : Ref sig .tc := ⟨.hbm, 276, rfl⟩
abbrev main_cst_15 : Ref sig .tc := ⟨.hbm, 277, rfl⟩
abbrev main_v39 : Ref sig .tc := ⟨.hbm, 278, rfl⟩
abbrev main_v40 : Ref sig .tc := ⟨.hbm, 279, rfl⟩
abbrev main_v41 : Ref sig .tc := ⟨.hbm, 280, rfl⟩
abbrev main_cst_16 : Ref sig .tc := ⟨.hbm, 281, rfl⟩
abbrev main_v42 : Ref sig .tc := ⟨.hbm, 282, rfl⟩
abbrev main_v43 : Ref sig .tc := ⟨.hbm, 283, rfl⟩
abbrev main_v44 : Ref sig .tc := ⟨.hbm, 284, rfl⟩
abbrev main_cst_17 : Ref sig .tc := ⟨.hbm, 285, rfl⟩
abbrev main_v45 : Ref sig .tc := ⟨.hbm, 286, rfl⟩
abbrev main_v46 : Ref sig .tc := ⟨.hbm, 287, rfl⟩
abbrev main_v47 : Ref sig .tc := ⟨.hbm, 288, rfl⟩
abbrev main_cst_18 : Ref sig .tc := ⟨.hbm, 289, rfl⟩
abbrev main_v48 : Ref sig .tc := ⟨.hbm, 290, rfl⟩
abbrev main_v49 : Ref sig .tc := ⟨.hbm, 291, rfl⟩
abbrev main_v50 : Ref sig .tc := ⟨.hbm, 292, rfl⟩
abbrev main_v51 : Ref sig .tc := ⟨.hbm, 293, rfl⟩
abbrev main_v52 : Ref sig .tc := ⟨.hbm, 294, rfl⟩

abbrev nD : Nat := 1
abbrev τ : Topo := Topo.v7x

variable {F : FTy → Type} [FloatOps F]

abbrev main_while0_count : Scf.Loop 32 := ⟨0#32, 256#32, 1#32⟩

abbrev main_while1_count : Scf.Loop 32 := ⟨0#32, 256#32, 1#32⟩
-- ==== Kernel2.lean ====
abbrev S16384x1024 : Shape := ⟨2, ![16384, 1024]⟩
abbrev S2816x1024 : Shape := ⟨2, ![2816, 1024]⟩
abbrev S16384x2816 : Shape := ⟨2, ![16384, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 6
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S2816x1024, .bf16⟩
  | .hbm, ⟨2, _⟩ => ⟨S16384x2816, .bf16⟩
  | .hbm, ⟨3, _⟩ => ⟨S16384x2816, .bf16⟩
  | .hbm, ⟨4, _⟩ => ⟨S16384x2816, .bf16⟩
  | .hbm, ⟨5, _⟩ => ⟨S16384x2816, .bf16⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S16384x1024 : Shape := ⟨2, ![16384, 1024]⟩
abbrev S2816x1024 : Shape := ⟨2, ![2816, 1024]⟩
abbrev S16384x2816 : Shape := ⟨2, ![16384, 2816]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2816x1024, .bf16⟩
  | .hbm, ⟨2, _⟩ => ⟨S16384x2816, .bf16⟩
  | .hbm, ⟨3, _⟩ => ⟨S16384x2816, .bf16⟩
  | .hbm, ⟨4, _⟩ => ⟨S2816x1024, .f32⟩
  | .hbm, ⟨5, _⟩ => ⟨S16384x2816, .f32⟩
  | .hbm, ⟨6, _⟩ => ⟨S16384x2816, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S_, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x1024, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S16384x2816, .bf16⟩
  | .hbm, ⟨30, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩

abbrev nD : Nat := 1
abbrev τ : Topo := Topo.v7x

variable {F : FTy → Type} [FloatOps F]
-- ==== Kernel3.lean ====
abbrev S16384x1024 : Shape := ⟨2, ![16384, 1024]⟩
abbrev S1024x2816 : Shape := ⟨2, ![1024, 2816]⟩
abbrev S16384x2816 : Shape := ⟨2, ![16384, 2816]⟩
abbrev S1024x1024 : Shape := ⟨2, ![1024, 1024]⟩
abbrev S1024x1408 : Shape := ⟨2, ![1024, 1408]⟩

abbrev nBuf : Space → Nat
  | .hbm => 6
  | .vmem => 12
  | .smem => 0
  | _ => 0

abbrev bufTy : (tb : Table) → Fin (tcTables nBuf tb) → BufTy
  | .hbm, ⟨0, _⟩ => ⟨S16384x1024, .bf16⟩
  | .hbm, ⟨1, _⟩ => ⟨S1024x2816, .bf16⟩
  | .hbm, ⟨2, _⟩ => ⟨S1024x2816, .bf16⟩
  | .hbm, ⟨3, _⟩ => ⟨S16384x2816, .bf16⟩
  | .hbm, ⟨4, _⟩ => ⟨S16384x2816, .bf16⟩
  | .hbm, ⟨5, _⟩ => ⟨S16384x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S16384x1024 : Shape := ⟨2, ![16384, 1024]⟩
abbrev S1024x2816 : Shape := ⟨2, ![1024, 2816]⟩
abbrev S16384x2816 : Shape := ⟨2, ![16384, 2816]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x2816, .bf16⟩
  | .hbm, ⟨2, _⟩ => ⟨S1024x2816, .bf16⟩
  | .hbm, ⟨3, _⟩ => ⟨S16384x1024, .f32⟩
  | .hbm, ⟨4, _⟩ => ⟨S1024x2816, .f32⟩
  | .hbm, ⟨5, _⟩ => ⟨S1024x2816, .f32⟩
  | .hbm, ⟨6, _⟩ => ⟨S16384x2816, .f32⟩
  | .hbm, ⟨7, _⟩ => ⟨S16384x2816, .f32⟩
  | .hbm, ⟨8, _⟩ => ⟨S16384x2816, .f32⟩
  | .hbm, ⟨9, _⟩ => ⟨S16384x2816, .f32⟩
  | .hbm, ⟨10, _⟩ => ⟨S_, .f32⟩
  | .hbm, ⟨11, _⟩ => ⟨S16384x2816, .f32⟩
  | .hbm, ⟨12, _⟩ => ⟨S16384x2816, .f32⟩
  | .hbm, ⟨13, _⟩ => ⟨S_, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x2816, .bf16⟩
  | .hbm, ⟨19, _⟩ => ⟨S16384x2816, .bf16⟩
  | .hbm, ⟨20, _⟩ => ⟨S16384x2816, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Kernel4.lean ====
abbrev S16384x2816 : Shape := ⟨2, ![16384, 2816]⟩
abbrev S1024x2816 : Shape := ⟨2, ![1024, 2816]⟩
abbrev S1024x5632 : Shape := ⟨2, ![1024, 5632]⟩
abbrev S16384x1024 : Shape := ⟨2, ![16384, 1024]⟩
abbrev S1024x1408 : Shape := ⟨2, ![1024, 1408]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S16384x2816, .bf16⟩
  | .hbm, ⟨1, _⟩ => ⟨S16384x2816, .bf16⟩
  | .hbm, ⟨2, _⟩ => ⟨S1024x2816, .bf16⟩
  | .hbm, ⟨3, _⟩ => ⟨S1024x2816, .bf16⟩
  | .hbm, ⟨4, _⟩ => ⟨S1024x5632, .bf16⟩
  | .hbm, ⟨5, _⟩ => ⟨S16384x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def k0_cond4 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_5 : BitVec 32 := 0#32
  let v15 : BitVec 1 := Scalar.cmpi .ne v14 c0_i32_5
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![c0_i32_1.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference4Ideal.lean ====
abbrev S16384x2816 : Shape := ⟨2, ![16384, 2816]⟩
abbrev S1024x2816 : Shape := ⟨2, ![1024, 2816]⟩
abbrev S_ : Shape := ⟨0, ![]⟩
abbrev S16384x1024 : Shape := ⟨2, ![16384, 1024]⟩

abbrev nBuf : Space → Nat
  | .hbm => 16
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x2816, .bf16⟩
  | .hbm, ⟨2, _⟩ => ⟨S1024x2816, .bf16⟩
  | .hbm, ⟨3, _⟩ => ⟨S1024x2816, .bf16⟩
  | .hbm, ⟨4, _⟩ => ⟨S16384x2816, .f32⟩
  | .hbm, ⟨5, _⟩ => ⟨S16384x2816, .f32⟩
  | .hbm, ⟨6, _⟩ => ⟨S1024x2816, .f32⟩
  | .hbm, ⟨7, _⟩ => ⟨S1024x2816, .f32⟩
  | .hbm, ⟨8, _⟩ => ⟨S_, .f32⟩
  | .hbm, ⟨9, _⟩ => ⟨S16384x1024, .f32⟩
  | .hbm, ⟨10, _⟩ => ⟨S16384x2816, .f32⟩
  | .hbm, ⟨11, _⟩ => ⟨S16384x2816, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel5.lean ====
abbrev S16384x1024 : Shape := ⟨2, ![16384, 1024]⟩
abbrev S16384x2816 : Shape := ⟨2, ![16384, 2816]⟩
abbrev S1024x2816 : Shape := ⟨2, ![1024, 2816]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x2816, .bf16⟩
  | .hbm, ⟨2, _⟩ => ⟨S1024x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S16384x1024 : Shape := ⟨2, ![16384, 1024]⟩
abbrev S16384x2816 : Shape := ⟨2, ![16384, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x2816, .bf16⟩
  | .hbm, ⟨2, _⟩ => ⟨S16384x1024, .f32⟩
  | .hbm, ⟨3, _⟩ => ⟨S16384x2816, .f32⟩
  | .hbm, ⟨4, _⟩ => ⟨S_, .f32⟩
  | .hbm, ⟨5, _⟩ => ⟨S1024x2816, .f32⟩
  | .hbm, ⟨6, _⟩ => ⟨S16384x2816, .f32⟩
  | .hbm, ⟨7, _⟩ => ⟨S2816x1024, .f32⟩
  | .hbm, ⟨8, _⟩ => ⟨S1024x2816, .f32⟩
  | .hbm, ⟨9, _⟩ => ⟨S1024x2816, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S16384x1536 : Shape := ⟨2, ![16384, 1536]⟩
abbrev S16384x3072 : Shape := ⟨2, ![16384, 3072]⟩
abbrev S16384x1024 : Shape := ⟨2, ![16384, 1024]⟩
abbrev S1024x4608 : Shape := ⟨2, ![1024, 4608]⟩
abbrev S1024x6144 : Shape := ⟨2, ![1024, 6144]⟩
abbrev S1024x3072 : Shape := ⟨2, ![1024, 3072]⟩
abbrev S1024x7680 : Shape := ⟨2, ![1024, 7680]⟩
abbrev S1024x768 : Shape := ⟨2, ![1024, 768]⟩
abbrev S1024x1024 : Shape := ⟨2, ![1024, 1024]⟩

abbrev nBuf : Space → Nat
  | .hbm => 14
  | .vmem => 23
  | .smem => 0
  | _ => 0

abbrev bufTy : (tb : Table) → Fin (tcTables nBuf tb) → BufTy
  | .hbm, ⟨0, _⟩ => ⟨S16384x1536, .bf16⟩
  | .hbm, ⟨1, _⟩ => ⟨S16384x1536, .bf16⟩
  | .hbm, ⟨2, _⟩ => ⟨S16384x1536, .bf16⟩
  | .hbm, ⟨3, _⟩ => ⟨S16384x3072, .bf16⟩
  | .hbm, ⟨4, _⟩ => ⟨S16384x1024, .bf16⟩
  | .hbm, ⟨5, _⟩ => ⟨S16384x1024, .bf16⟩
  | .hbm, ⟨6, _⟩ => ⟨S16384x1024, .bf16⟩
  | .hbm, ⟨7, _⟩ => ⟨S1024x4608, .bf16⟩
  | .hbm, ⟨8, _⟩ => ⟨S1024x6144, .bf16⟩
  | .hbm, ⟨9, _⟩ => ⟨S16384x1024, .f32⟩
  | .hbm, ⟨10, _⟩ => ⟨S1024x3072, .bf16⟩
  | .hbm, ⟨11, _⟩ => ⟨S1024x7680, .bf16⟩
  | .hbm, ⟨12, _⟩ => ⟨S1024x3072, .bf16⟩
  | .hbm, ⟨13, _⟩ => ⟨S16384x1024, .bf16⟩
  | .local _ .vmem, ⟨0, _⟩ => ⟨S1024x768, .bf16⟩
  | .local _ .vmem, ⟨1, _⟩ => ⟨S1024x768, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .bf16⟩
  | .local _ .vmem, ⟨7, _⟩ => ⟨S1024x768, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x768, .bf16⟩
  | .local _ .vmem, ⟨15, _⟩ => ⟨S1024x768, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .f32⟩
  | .local _ .vmem, ⟨19, _⟩ => ⟨S1024x1024, .f32⟩
  | .local _ .vmem, ⟨20, _⟩ => ⟨S1024x1024, .bf16⟩
  | .local _ .vmem, ⟨21, _⟩ => ⟨S1024x1024, .bf16⟩
  | .local _ .vmem, ⟨22, _⟩ => ⟨S1024x1024, .f32⟩
  | _, _ => ⟨S16384x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![16, 13], ![false, false]⟩

def k0_cond9 (i : grid0.Coords) : BitVec 1 :=
  let arg1 : BitVec 32 := BitVec.ofNat 32 (i 1).val
  let c12_i32_15 : BitVec 32 := 12#32
  let v38 : BitVec 1 := Scalar.cmpi .eq arg1 c12_i32_15
  let v39 : BitVec 32 := Scalar.extui v38
  let c0_i32_16 : BitVec 32 := 0#32
  let v40 : BitVec 1 := Scalar.cmpi .ne v39 c0_i32_16
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.subi arg1 c10_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.subi arg1 c11_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_6 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.subi arg1 c12_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c9_i32 : BitVec 32 := 9#32
  let v1 : BitVec 32 := Scalar.maxsi c0_i32_0 v0
  let v2 : BitVec 32 := Scalar.minsi c9_i32 v1
  let c0_i32_1 : BitVec 32 := 0#32
  let c0_i32_2 : BitVec 32 := 0#32
  ![c0_i32_1.toNat, v2.toNat]

def cc0_transform_8 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.subi arg1 c10_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  let c0_i32_1 : BitVec 32 := 0#32
  ![c0_i32_0.toNat, v2.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference6Ideal.lean ====
abbrev S16384x1536 : Shape := ⟨2, ![16384, 1536]⟩
abbrev S16384x3072 : Shape := ⟨2, ![16384, 3072]⟩
abbrev S16384x1024 : Shape := ⟨2, ![16384, 1024]⟩
abbrev S1024x4608 : Shape := ⟨2, ![1024, 4608]⟩
abbrev S1024x6144 : Shape := ⟨2, ![1024, 6144]⟩
abbrev S16384x4608 : Shape := ⟨2, ![16384, 4608]⟩
abbrev S16384x6144 : Shape := ⟨2, ![16384, 6144]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S16384x1536, .bf16⟩
  | .hbm, ⟨1, _⟩ => ⟨S16384x1536, .bf16⟩
  | .hbm, ⟨2, _⟩ => ⟨S16384x1536, .bf16⟩
  | .hbm, ⟨3, _⟩ => ⟨S16384x3072, .bf16⟩
  | .hbm, ⟨4, _⟩ => ⟨S16384x1024, .bf16⟩
  | .hbm, ⟨5, _⟩ => ⟨S16384x1024, .bf16⟩
  | .hbm, ⟨6, _⟩ => ⟨S16384x1024, .bf16⟩
  | .hbm, ⟨7, _⟩ => ⟨S1024x4608, .bf16⟩
  | .hbm, ⟨8, _⟩ => ⟨S1024x6144, .bf16⟩
  | .hbm, ⟨9, _⟩ => ⟨S16384x1024, .f32⟩
  | .hbm, ⟨10, _⟩ => ⟨S1024x4608, .f32⟩
  | .hbm, ⟨11, _⟩ => ⟨S1024x6144, .f32⟩
  | .hbm, ⟨12, _⟩ => ⟨S16384x4608, .bf16⟩
  | .hbm, ⟨13, _⟩ => ⟨S16384x4608, .f32⟩
  | .hbm, ⟨14, _⟩ => ⟨S16384x6144, .bf16⟩
  | .hbm, ⟨15, _⟩ => ⟨S16384x6144, .f32⟩
  | .hbm, ⟨16, _⟩ => ⟨S_, .f32⟩
  | .hbm, ⟨17, _⟩ => ⟨S16384x1024, .f32⟩
  | .hbm, ⟨18, _⟩ => ⟨S16384x4608, .f32⟩
  | .hbm, ⟨19, _⟩ => ⟨S16384x6144, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .bf16⟩
  | _, _ => ⟨S16384x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩

abbrev nD : Nat := 1
abbrev τ : Topo := Topo.v7x

variable {F : FTy → Type} [FloatOps F]
-- ==== Kernel7.lean ====
abbrev S16384x1024 : Shape := ⟨2, ![16384, 1024]⟩
abbrev S16384x1536 : Shape := ⟨2, ![16384, 1536]⟩
abbrev S1024x1536 : Shape := ⟨2, ![1024, 1536]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x1536, .bf16⟩
  | .hbm, ⟨2, _⟩ => ⟨S1024x1536, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .bf16⟩
  | .local _ .vmem, ⟨5, _⟩ => ⟨S1024x1536, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S16384x1024 : Shape := ⟨2, ![16384, 1024]⟩
abbrev S16384x1536 : Shape := ⟨2, ![16384, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1536, .bf16⟩
  | .hbm, ⟨2, _⟩ => ⟨S16384x1024, .f32⟩
  | .hbm, ⟨3, _⟩ => ⟨S16384x1536, .f32⟩
  | .hbm, ⟨4, _⟩ => ⟨S_, .f32⟩
  | .hbm, ⟨5, _⟩ => ⟨S1024x1536, .f32⟩
  | .hbm, ⟨6, _⟩ => ⟨S16384x1536, .f32⟩
  | .hbm, ⟨7, _⟩ => ⟨S1536x1024, .f32⟩
  | .hbm, ⟨8, _⟩ => ⟨S1024x1536, .f32⟩
  | .hbm, ⟨9, _⟩ => ⟨S1024x1536, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S16384x1024 : Shape := ⟨2, ![16384, 1024]⟩
abbrev S16384x3072 : Shape := ⟨2, ![16384, 3072]⟩
abbrev S1024x3072 : Shape := ⟨2, ![1024, 3072]⟩
abbrev S1024x1024 : Shape := ⟨2, ![1024, 1024]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x3072, .bf16⟩
  | .hbm, ⟨2, _⟩ => ⟨S1024x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .bf16⟩
  | .local _ .vmem, ⟨5, _⟩ => ⟨S1024x1536, .bf16⟩
  | .local _ .vmem, ⟨6, _⟩ => ⟨S1024x1536, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S16384x1024 : Shape := ⟨2, ![16384, 1024]⟩
abbrev S16384x3072 : Shape := ⟨2, ![16384, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x3072, .bf16⟩
  | .hbm, ⟨2, _⟩ => ⟨S16384x1024, .f32⟩
  | .hbm, ⟨3, _⟩ => ⟨S16384x3072, .f32⟩
  | .hbm, ⟨4, _⟩ => ⟨S_, .f32⟩
  | .hbm, ⟨5, _⟩ => ⟨S1024x3072, .f32⟩
  | .hbm, ⟨6, _⟩ => ⟨S16384x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S16384x1024 : Shape := ⟨2, ![16384, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S1024x1024, .f32⟩
  | .hbm, ⟨6, _⟩ => ⟨S16384x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S16384x1024 : Shape := ⟨2, ![16384, 1024]⟩
abbrev S1024x4608 : Shape := ⟨2, ![1024, 4608]⟩
abbrev S16384x4608 : Shape := ⟨2, ![16384, 4608]⟩
abbrev S1024x1024 : Shape := ⟨2, ![1024, 1024]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S1024x4608, .bf16⟩
  | .hbm, ⟨2, _⟩ => ⟨S16384x4608, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .f32⟩
  | .local _ .vmem, ⟨5, _⟩ => ⟨S1024x1536, .f32⟩
  | .local _ .vmem, ⟨6, _⟩ => ⟨S1024x1536, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 3, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S16384x1024 : Shape := ⟨2, ![16384, 1024]⟩
abbrev S1024x4608 : Shape := ⟨2, ![1024, 4608]⟩
abbrev S16384x4608 : Shape := ⟨2, ![16384, 4608]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x4608, .bf16⟩
  | .hbm, ⟨2, _⟩ => ⟨S16384x1024, .f32⟩
  | .hbm, ⟨3, _⟩ => ⟨S1024x4608, .f32⟩
  | .hbm, ⟨4, _⟩ => ⟨S16384x4608, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel11.lean ====
abbrev S16384x1024 : Shape := ⟨2, ![16384, 1024]⟩
abbrev S1024x6144 : Shape := ⟨2, ![1024, 6144]⟩
abbrev S16384x6144 : Shape := ⟨2, ![16384, 6144]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S1024x6144, .bf16⟩
  | .hbm, ⟨2, _⟩ => ⟨S16384x6144, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 6, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S16384x1024 : Shape := ⟨2, ![16384, 1024]⟩
abbrev S1024x6144 : Shape := ⟨2, ![1024, 6144]⟩
abbrev S16384x6144 : Shape := ⟨2, ![16384, 6144]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x6144, .bf16⟩
  | .hbm, ⟨2, _⟩ => ⟨S16384x1024, .f32⟩
  | .hbm, ⟨3, _⟩ => ⟨S1024x6144, .f32⟩
  | .hbm, ⟨4, _⟩ => ⟨S16384x6144, .f32⟩
  | .hbm, ⟨5, _⟩ => ⟨S16384x6144, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel12.lean ====
abbrev S16384x6144 : Shape := ⟨2, ![16384, 6144]⟩
abbrev S16384x1024 : Shape := ⟨2, ![16384, 1024]⟩
abbrev S1024x1024 : Shape := ⟨2, ![1024, 1024]⟩

abbrev nBuf : Space → Nat
  | .hbm => 8
  | .vmem => 18
  | .smem => 0
  | _ => 0

abbrev bufTy : (tb : Table) → Fin (tcTables nBuf tb) → BufTy
  | .hbm, ⟨0, _⟩ => ⟨S16384x6144, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S16384x1024, .bf16⟩
  | .hbm, ⟨6, _⟩ => ⟨S16384x1024, .bf16⟩
  | .hbm, ⟨7, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference12Ideal.lean ====
abbrev S16384x6144 : Shape := ⟨2, ![16384, 6144]⟩
abbrev S16384x1024 : Shape := ⟨2, ![16384, 1024]⟩
abbrev S16384x2048 : Shape := ⟨2, ![16384, 2048]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S16384x6144, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x2048, .bf16⟩
  | .hbm, ⟨5, _⟩ => ⟨S16384x2048, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x2048, .f32⟩
  | .hbm, ⟨10, _⟩ => ⟨S16384x2048, .f32⟩
  | .hbm, ⟨11, _⟩ => ⟨S_, .f32⟩
  | .hbm, ⟨12, _⟩ => ⟨S16384x2048, .f32⟩
  | .hbm, ⟨13, _⟩ => ⟨S16384x2048, .f32⟩
  | .hbm, ⟨14, _⟩ => ⟨S_, .f32⟩
  | .hbm, ⟨15, _⟩ => ⟨S16384x2048, .f32⟩
  | .hbm, ⟨16, _⟩ => ⟨S16384x2048, .f32⟩
  | .hbm, ⟨17, _⟩ => ⟨S_, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x2048, .f32⟩
  | .hbm, ⟨31, _⟩ => ⟨S16384x2048, .f32⟩
  | .hbm, ⟨32, _⟩ => ⟨S16384x1024, .f32⟩
  | .hbm, ⟨33, _⟩ => ⟨S16384x1024, .f32⟩
  | .hbm, ⟨34, _⟩ => ⟨S16384x1024, .bf16⟩
  | .hbm, ⟨35, _⟩ => ⟨S16384x1024, .bf16⟩
  | .hbm, ⟨36, _⟩ => ⟨S16384x1024, .bf16⟩
  | .hbm, ⟨37, _⟩ => ⟨S16384x1024, .bf16⟩
  | _, _ => ⟨S16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩

abbrev nD : Nat := 1
abbrev τ : Topo := Topo.v7x

variable {F : FTy → Type} [FloatOps F]
-- ==== Kernel13.lean ====
abbrev S16384x2816 : Shape := ⟨2, ![16384, 2816]⟩
abbrev S2816x1024 : Shape := ⟨2, ![2816, 1024]⟩
abbrev S16384x1024 : Shape := ⟨2, ![16384, 1024]⟩
abbrev S512x2816 : Shape := ⟨2, ![512, 2816]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S16384x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![32, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S16384x2816 : Shape := ⟨2, ![16384, 2816]⟩
abbrev S2816x1024 : Shape := ⟨2, ![2816, 1024]⟩
abbrev S16384x1024 : Shape := ⟨2, ![16384, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S16384x2816, .f32⟩
  | .hbm, ⟨4, _⟩ => ⟨S2816x1024, .f32⟩
  | .hbm, ⟨5, _⟩ => ⟨S16384x1024, .f32⟩
  | .hbm, ⟨6, _⟩ => ⟨S16384x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S16384x1024 : Shape := ⟨2, ![16384, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x1024, .bf16⟩
  | .hbm, ⟨3, _⟩ => ⟨S16384x1024, .f32⟩
  | .hbm, ⟨4, _⟩ => ⟨S16384x1024, .f32⟩
  | .hbm, ⟨5, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference14Ideal.lean ====
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 48
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x1024, .bf16⟩
  | .hbm, ⟨3, _⟩ => ⟨S16384x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S16384x1024, .f32⟩
  | .hbm, ⟨35, _⟩ => ⟨S16384x1024, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S_, .f32⟩
  | .hbm, ⟨41, _⟩ => ⟨S16384, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel15.lean ====
abbrev S16384x1024 : Shape := ⟨2, ![16384, 1024]⟩
abbrev S16384x6144 : Shape := ⟨2, ![16384, 6144]⟩
abbrev S1x128 : Shape := ⟨2, ![1, 128]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩
abbrev S128 : Shape := ⟨1, ![128]⟩

abbrev nBuf : Space → Nat
  | .hbm => 7
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16384x6144, .bf16⟩
  | .hbm, ⟨2, _⟩ => ⟨S1x128, .f32⟩
  | .hbm, ⟨3, _⟩ => ⟨S16384x1024, .bf16⟩
  | .hbm, ⟨4, _⟩ => ⟨S16384x1024, .f32⟩
  | .hbm, ⟨5, _⟩ => ⟨S16384x1024, .bf16⟩
  | .hbm, ⟨6, _⟩ => ⟨S1x128, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x128, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference15Ideal.lean ====
abbrev S16384x1024 : Shape := ⟨2, ![16384, 1024]⟩
abbrev S16384x6144 : Shape := ⟨2, ![16384, 6144]⟩
abbrev S1x128 : Shape := ⟨2, ![1, 128]⟩
abbrev S16384x8x128 : Shape := ⟨3, ![16384, 8, 128]⟩
abbrev S128 : Shape := ⟨1, ![128]⟩
abbrev S_ : Shape := ⟨0, ![]⟩
abbrev S16384x8 : Shape := ⟨2, ![16384, 8]⟩
abbrev S16384x8x1 : Shape := ⟨3, ![16384, 8, 1]⟩
abbrev S1x1x128 : Shape := ⟨3, ![1, 1, 128]⟩

abbrev nBuf : Space → Nat
  | .hbm => 81
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x6144, .bf16⟩
  | .hbm, ⟨2, _⟩ => ⟨S1x128, .f32⟩
  | .hbm, ⟨3, _⟩ => ⟨S16384x1024, .bf16⟩
  | .hbm, ⟨4, _⟩ => ⟨S16384x1024, .bf16⟩
  | .hbm, ⟨5, _⟩ => ⟨S16384x1024, .f32⟩
  | .hbm, ⟨6, _⟩ => ⟨S16384x1024, .f32⟩
  | .hbm, ⟨7, _⟩ => ⟨S16384x8x128, .f32⟩
  | .hbm, ⟨8, _⟩ => ⟨S16384x8x128, .f32⟩
  | .hbm, ⟨9, _⟩ => ⟨S128, .f32⟩
  | .hbm, ⟨10, _⟩ => ⟨S16384x8x128, .f32⟩
  | .hbm, ⟨11, _⟩ => ⟨S_, .f32⟩
  | .hbm, ⟨12, _⟩ => ⟨S16384x8, .f32⟩
  | .hbm, ⟨13, _⟩ => ⟨S16384x8x1, .f32⟩
  | .hbm, ⟨14, _⟩ => ⟨S_, .f32⟩
  | .hbm, ⟨15, _⟩ => ⟨S16384x8x1, .f32⟩
  | .hbm, ⟨16, _⟩ => ⟨S16384x8x1, .f32⟩
  | .hbm, ⟨17, _⟩ => ⟨S_, .f32⟩
  | .hbm, ⟨18, _⟩ => ⟨S16384x8x1, .f32⟩
  | .hbm, ⟨19, _⟩ => ⟨S16384x8x1, .f32⟩
  | .hbm, ⟨20, _⟩ => ⟨S16384x8x1, .f32⟩
  | .hbm, ⟨21, _⟩ => ⟨S16384x8x1, .f32⟩
  | .hbm, ⟨22, _⟩ => ⟨S_, .f32⟩
  | .hbm, ⟨23, _⟩ => ⟨S16384x8x1, .f32⟩
  | .hbm, ⟨24, _⟩ => ⟨S16384x8x1, .f32⟩
  | .hbm, ⟨25, _⟩ => ⟨S16384x8x128, .f32⟩
  | .hbm, ⟨26, _⟩ => ⟨S16384x8x128, .f32⟩
  | .hbm, ⟨27, _⟩ => ⟨S1x1x128, .f32⟩
  | .hbm, ⟨28, _⟩ => ⟨S16384x8x128, .f32⟩
  | .hbm, ⟨29, _⟩ => ⟨S16384x8x128, .f32⟩
  | .hbm, ⟨30, _⟩ => ⟨S16384x8x128, .f32⟩
  | .hbm, ⟨31, _⟩ => ⟨S16384x8x128, .f32⟩
  | .hbm, ⟨32, _⟩ => ⟨S_, .f32⟩
  | .hbm, ⟨33, _⟩ => ⟨S16384x8x128, .f32⟩
  | .hbm, ⟨34, _⟩ => ⟨S16384x8x128, .f32⟩
  | .hbm, ⟨35, _⟩ => ⟨S_, .f32⟩
  | .hbm, ⟨36, _⟩ => ⟨S16384x8x128, .f32⟩
  | .hbm, ⟨37, _⟩ => ⟨S16384x8x128, .f32⟩
  | .hbm, ⟨38, _⟩ => ⟨S_, .f32⟩
  | .hbm, ⟨39, _⟩ => ⟨S16384x8x128, .f32⟩
  | .hbm, ⟨40, _⟩ => ⟨S16384x8x128, .f32⟩
  | .hbm, ⟨41, _⟩ => ⟨S16384x8x128, .f32⟩
  | .hbm, ⟨42, _⟩ => ⟨S16384x8x128, .f32⟩
  | .hbm, ⟨43, _⟩ => ⟨S16384x8x128, .f32⟩
  | .hbm, ⟨44, _⟩ => ⟨S16384x1024, .f32⟩
  | .hbm, ⟨45, _⟩ => ⟨S16384x8x128, .f32⟩
  | .hbm, ⟨46, _⟩ => ⟨S16384x8x128, .f32⟩
  | .hbm, ⟨47, _⟩ => ⟨S16384x8x128, .f32⟩
  | .hbm, ⟨48, _⟩ => ⟨S16384x8x128, .f32⟩
  | .hbm, ⟨49, _⟩ => ⟨S16384x8x128, .f32⟩
  | .hbm, ⟨50, _⟩ => ⟨S16384x8x128, .f32⟩
  | .hbm, ⟨51, _⟩ => ⟨S16384x8x128, .f32⟩
  | .hbm, ⟨52, _⟩ => ⟨S16384x8x128, .f32⟩
  | .hbm, ⟨53, _⟩ => ⟨S_, .f32⟩
  | .hbm, ⟨54, _⟩ => ⟨S128, .f32⟩
  | .hbm, ⟨55, _⟩ => ⟨S1x1x128, .f32⟩
  | .hbm, ⟨56, _⟩ => ⟨S16384x8x128, .f32⟩
  | .hbm, ⟨57, _⟩ => ⟨S16384x8x128, .f32⟩
  | .hbm, ⟨58, _⟩ => ⟨S_, .f32⟩
  | .hbm, ⟨59, _⟩ => ⟨S128, .f32⟩
  | .hbm, ⟨60, _⟩ => ⟨S16384x8x128, .f32⟩
  | .hbm, ⟨61, _⟩ => ⟨S_, .f32⟩
  | .hbm, ⟨62, _⟩ => ⟨S16384x8, .f32⟩
  | .hbm, ⟨63, _⟩ => ⟨S16384x8x1, .f32⟩
  | .hbm, ⟨64, _⟩ => ⟨S16384x8x128, .f32⟩
  | .hbm, ⟨65, _⟩ => ⟨S16384x8x128, .f32⟩
  | .hbm, ⟨66, _⟩ => ⟨S16384x8x1, .f32⟩
  | .hbm, ⟨67, _⟩ => ⟨S_, .f32⟩
  | .hbm, ⟨68, _⟩ => ⟨S16384x8x1, .f32⟩
  | .hbm, ⟨69, _⟩ => ⟨S16384x8x1, .f32⟩
  | .hbm, ⟨70, _⟩ => ⟨S_, .f32⟩
  | .hbm, ⟨71, _⟩ => ⟨S16384x8, .f32⟩
  | .hbm, ⟨72, _⟩ => ⟨S16384x8x128, .f32⟩
  | .hbm, ⟨73, _⟩ => ⟨S16384x8x128, .f32⟩
  | .hbm, ⟨74, _⟩ => ⟨S16384x8x128, .f32⟩
  | .hbm, ⟨75, _⟩ => ⟨S16384x8x128, .f32⟩
  | .hbm, ⟨76, _⟩ => ⟨S16384x8x128, .f32⟩
  | .hbm, ⟨77, _⟩ => ⟨S1x128, .f32⟩
  | .hbm, ⟨78, _⟩ => ⟨S16384x1024, .f32⟩
  | .hbm, ⟨79, _⟩ => ⟨S16384x1024, .f32⟩
  | .hbm, ⟨80, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v22_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v22_1 : Ref sig .tc := ⟨.hbm, 41, rfl⟩
abbrev main_v22_0 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v28 : Ref sig .tc := ⟨.hbm, 51, rfl⟩
abbrev main_v29 : Ref sig .tc := ⟨.hbm, 52, rfl⟩
abbrev main_cst_3 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_4 : Ref sig .tc := ⟨.hbm, 58, rfl⟩
abbrev main_v34 : Ref sig .tc := ⟨.hbm, 59, rfl⟩
abbrev main_v35 : Ref sig .tc := ⟨.hbm, 60, rfl⟩
abbrev main_cst_5 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_6 : Ref sig .tc := ⟨.hbm, 67, rfl⟩
abbrev main_v41 : Ref sig .tc := ⟨.hbm, 68, rfl⟩
abbrev main_v42 : Ref sig .tc := ⟨.hbm, 69, rfl⟩
abbrev main_cst_7 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩

abbrev nD : Nat := 1
abbrev τ : Topo := Topo.v7x

variable {F : FTy → Type} [FloatOps F]
-- ==== Kernel16.lean ====
abbrev S16384x2816 : Shape := ⟨2, ![16384, 2816]⟩
abbrev S16384x1024 : Shape := ⟨2, ![16384, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .f32⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond2 (i : grid0.Coords) : BitVec 1 :=
  let arg2 : BitVec 32 := BitVec.ofNat 32 (i 2).val
  let c15_i32 : BitVec 32 := 15#32
  let v12 : BitVec 1 := Scalar.cmpi .eq arg2 c15_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .f32⟩
  | .hbm, ⟨2, _⟩ => ⟨S16384x2816, .f32⟩
  | .hbm, ⟨3, _⟩ => ⟨S_, .f32⟩
  | .hbm, ⟨4, _⟩ => ⟨S2816x1024, .f32⟩
  | .hbm, ⟨5, _⟩ => ⟨S16384x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel17.lean ====
abbrev S16384x1024 : Shape := ⟨2, ![16384, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v12 : BitVec 1 := Scalar.cmpi .eq arg2 c15_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference17Ideal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S16384x1024, .f32⟩
  | .hbm, ⟨3, _⟩ => ⟨S_, .f32⟩
  | .hbm, ⟨4, _⟩ => ⟨S1024x1024, .f32⟩
  | .hbm, ⟨5, _⟩ => ⟨S16384x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel18.lean ====
abbrev S16384x1024 : Shape := ⟨2, ![16384, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference18Ideal.lean ====
abbrev S16384x1024 : Shape := ⟨2, ![16384, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S16384x1024, .f32⟩
  | .hbm, ⟨4, _⟩ => ⟨S1024x1024, .f32⟩
  | .hbm, ⟨5, _⟩ => ⟨S16384x1024, .f32⟩
  | .hbm, ⟨6, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel19.lean ====
abbrev S16384x1024 : Shape := ⟨2, ![16384, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S16384x1024 : Shape := ⟨2, ![16384, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S1024x1024, .f32⟩
  | .hbm, ⟨4, _⟩ => ⟨S16384x1024, .f32⟩
  | .hbm, ⟨5, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel20.lean ====
abbrev S16384x1024 : Shape := ⟨2, ![16384, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x1024, .bf16⟩
  | .hbm, ⟨2, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S16384x1024 : Shape := ⟨2, ![16384, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel21.lean ====
abbrev S16384x1024 : Shape := ⟨2, ![16384, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S16384x1024 : Shape := ⟨2, ![16384, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S1024x1024, .f32⟩
  | .hbm, ⟨4, _⟩ => ⟨S_, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel22.lean ====
abbrev S16384x512 : Shape := ⟨2, ![16384, 512]⟩
abbrev S16384x1024 : Shape := ⟨2, ![16384, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x512, .f32⟩
  | .hbm, ⟨1, _⟩ => ⟨S16384x1024, .bf16⟩
  | .hbm, ⟨2, _⟩ => ⟨S512x1024, .bf16⟩
  | .local _ .vmem, ⟨0, _⟩ => ⟨S1024x512, .f32⟩
  | .local _ .vmem, ⟨1, _⟩ => ⟨S1024x512, .f32⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v12 : BitVec 1 := Scalar.cmpi .eq arg2 c15_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference22Ideal.lean ====
abbrev S16384x512 : Shape := ⟨2, ![16384, 512]⟩
abbrev S16384x1024 : Shape := ⟨2, ![16384, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x1024, .bf16⟩
  | .hbm, ⟨2, _⟩ => ⟨S16384x1024, .f32⟩
  | .hbm, ⟨3, _⟩ => ⟨S_, .f32⟩
  | .hbm, ⟨4, _⟩ => ⟨S512x1024, .f32⟩
  | .hbm, ⟨5, _⟩ => ⟨S16384x1024, .f32⟩
  | .hbm, ⟨6, _⟩ => ⟨S1024x512, .f32⟩
  | .hbm, ⟨7, _⟩ => ⟨S512x1024, .f32⟩
  | .hbm, ⟨8, _⟩ => ⟨S512x1024, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel23.lean ====
abbrev S16384x1024 : Shape := ⟨2, ![16384, 1024]⟩
abbrev S512x1024 : Shape := ⟨2, ![512, 1024]⟩
abbrev S16384x512 : Shape := ⟨2, ![16384, 512]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S512x1024, .bf16⟩
  | .hbm, ⟨2, _⟩ => ⟨S16384x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S16384x1024 : Shape := ⟨2, ![16384, 1024]⟩
abbrev S512x1024 : Shape := ⟨2, ![512, 1024]⟩
abbrev S_ : Shape := ⟨0, ![]⟩
abbrev S16384x512 : Shape := ⟨2, ![16384, 512]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S512x1024, .bf16⟩
  | .hbm, ⟨2, _⟩ => ⟨S16384x1024, .f32⟩
  | .hbm, ⟨3, _⟩ => ⟨S512x1024, .f32⟩
  | .hbm, ⟨4, _⟩ => ⟨S_, .f32⟩
  | .hbm, ⟨5, _⟩ => ⟨S16384x512, .f32⟩
  | .hbm, ⟨6, _⟩ => ⟨S16384x1024, .f32⟩
  | .hbm, ⟨7, _⟩ => ⟨S16384x512, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel24.lean ====
abbrev S16384x512 : Shape := ⟨2, ![16384, 512]⟩
abbrev S512x1024 : Shape := ⟨2, ![512, 1024]⟩
abbrev S16384x1024 : Shape := ⟨2, ![16384, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x512, .f32⟩
  | .hbm, ⟨1, _⟩ => ⟨S512x1024, .bf16⟩
  | .hbm, ⟨2, _⟩ => ⟨S16384x1024, .bf16⟩
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S16384x512 : Shape := ⟨2, ![16384, 512]⟩
abbrev S512x1024 : Shape := ⟨2, ![512, 1024]⟩
abbrev S16384x1024 : Shape := ⟨2, ![16384, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S512x1024, .bf16⟩
  | .hbm, ⟨2, _⟩ => ⟨S512x1024, .f32⟩
  | .hbm, ⟨3, _⟩ => ⟨S16384x1024, .f32⟩
  | .hbm, ⟨4, _⟩ => ⟨S16384x1024, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel25.lean ====
abbrev S16384x6144 : Shape := ⟨2, ![16384, 6144]⟩
abbrev S16384x1024 : Shape := ⟨2, ![16384, 1024]⟩
abbrev S1024x1024 : Shape := ⟨2, ![1024, 1024]⟩

abbrev nBuf : Space → Nat
  | .hbm => 4
  | .vmem => 10
  | .smem => 0
  | _ => 0

abbrev bufTy : (tb : Table) → Fin (tcTables nBuf tb) → BufTy
  | .hbm, ⟨0, _⟩ => ⟨S16384x6144, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference25Ideal.lean ====
abbrev S16384x6144 : Shape := ⟨2, ![16384, 6144]⟩
abbrev S16384x1024 : Shape := ⟨2, ![16384, 1024]⟩
abbrev S16384x2048 : Shape := ⟨2, ![16384, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S16384x6144, .bf16⟩
  | .hbm, ⟨1, _⟩ => ⟨S16384x1024, .bf16⟩
  | .hbm, ⟨2, _⟩ => ⟨S16384x1024, .bf16⟩
  | .hbm, ⟨3, _⟩ => ⟨S16384x2048, .bf16⟩
  | .hbm, ⟨4, _⟩ => ⟨S16384x2048, .f32⟩
  | .hbm, ⟨5, _⟩ => ⟨S16384x1024, .f32⟩
  | .hbm, ⟨6, _⟩ => ⟨S16384x1024, .f32⟩
  | .hbm, ⟨7, _⟩ => ⟨S16384x2048, .f32⟩
  | .hbm, ⟨8, _⟩ => ⟨S16384x2048, .f32⟩
  | .hbm, ⟨9, _⟩ => ⟨S_, .f32⟩
  | .hbm, ⟨10, _⟩ => ⟨S16384x2048, .f32⟩
  | .hbm, ⟨11, _⟩ => ⟨S16384x2048, .f32⟩
  | .hbm, ⟨12, _⟩ => ⟨S_, .f32⟩
  | .hbm, ⟨13, _⟩ => ⟨S16384x2048, .f32⟩
  | .hbm, ⟨14, _⟩ => ⟨S16384x2048, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .bf16⟩
  | _, _ => ⟨S16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel26.lean ====
abbrev S16384x1024 : Shape := ⟨2, ![16384, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference26Ideal.lean ====
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel27.lean ====
abbrev S16384x1024 : Shape := ⟨2, ![16384, 1024]⟩
abbrev S16384x6144 : Shape := ⟨2, ![16384, 6144]⟩
abbrev S1x128 : Shape := ⟨2, ![1, 128]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x6144, .bf16⟩
  | .hbm, ⟨2, _⟩ => ⟨S1x128, .f32⟩
  | .hbm, ⟨3, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x128, .f32⟩
  | .local _ .vmem, ⟨5, _⟩ => ⟨S1024x1024, .bf16⟩
  | .local _ .vmem, ⟨6, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference27Ideal.lean ====
abbrev S16384x1024 : Shape := ⟨2, ![16384, 1024]⟩
abbrev S16384x6144 : Shape := ⟨2, ![16384, 6144]⟩
abbrev S1x128 : Shape := ⟨2, ![1, 128]⟩
abbrev S16384x8x128 : Shape := ⟨3, ![16384, 8, 128]⟩
abbrev S128 : Shape := ⟨1, ![128]⟩
abbrev S_ : Shape := ⟨0, ![]⟩
abbrev S16384x8 : Shape := ⟨2, ![16384, 8]⟩
abbrev S16384x8x1 : Shape := ⟨3, ![16384, 8, 1]⟩
abbrev S1x1x128 : Shape := ⟨3, ![1, 1, 128]⟩

abbrev nBuf : Space → Nat
  | .hbm => 36
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x6144, .bf16⟩
  | .hbm, ⟨2, _⟩ => ⟨S1x128, .f32⟩
  | .hbm, ⟨3, _⟩ => ⟨S16384x1024, .bf16⟩
  | .hbm, ⟨4, _⟩ => ⟨S16384x8x128, .f32⟩
  | .hbm, ⟨5, _⟩ => ⟨S16384x1024, .f32⟩
  | .hbm, ⟨6, _⟩ => ⟨S16384x8x128, .f32⟩
  | .hbm, ⟨7, _⟩ => ⟨S128, .f32⟩
  | .hbm, ⟨8, _⟩ => ⟨S16384x8x128, .f32⟩
  | .hbm, ⟨9, _⟩ => ⟨S_, .f32⟩
  | .hbm, ⟨10, _⟩ => ⟨S16384x8, .f32⟩
  | .hbm, ⟨11, _⟩ => ⟨S16384x8x1, .f32⟩
  | .hbm, ⟨12, _⟩ => ⟨S_, .f32⟩
  | .hbm, ⟨13, _⟩ => ⟨S16384x8x1, .f32⟩
  | .hbm, ⟨14, _⟩ => ⟨S16384x8x1, .f32⟩
  | .hbm, ⟨15, _⟩ => ⟨S_, .f32⟩
  | .hbm, ⟨16, _⟩ => ⟨S16384x8x1, .f32⟩
  | .hbm, ⟨17, _⟩ => ⟨S16384x8x1, .f32⟩
  | .hbm, ⟨18, _⟩ => ⟨S16384x8x1, .f32⟩
  | .hbm, ⟨19, _⟩ => ⟨S16384x8x128, .f32⟩
  | .hbm, ⟨20, _⟩ => ⟨S16384x8x128, .f32⟩
  | .hbm, ⟨21, _⟩ => ⟨S1x1x128, .f32⟩
  | .hbm, ⟨22, _⟩ => ⟨S16384x8x128, .f32⟩
  | .hbm, ⟨23, _⟩ => ⟨S16384x8x128, .f32⟩
  | .hbm, ⟨24, _⟩ => ⟨S16384x8x128, .f32⟩
  | .hbm, ⟨25, _⟩ => ⟨S16384x8x128, .f32⟩
  | .hbm, ⟨26, _⟩ => ⟨S_, .f32⟩
  | .hbm, ⟨27, _⟩ => ⟨S16384x8x128, .f32⟩
  | .hbm, ⟨28, _⟩ => ⟨S16384x8x128, .f32⟩
  | .hbm, ⟨29, _⟩ => ⟨S_, .f32⟩
  | .hbm, ⟨30, _⟩ => ⟨S16384x8x128, .f32⟩
  | .hbm, ⟨31, _⟩ => ⟨S16384x8x128, .f32⟩
  | .hbm, ⟨32, _⟩ => ⟨S16384x8x128, .f32⟩
  | .hbm, ⟨33, _⟩ => ⟨S16384x8x128, .f32⟩
  | .hbm, ⟨34, _⟩ => ⟨S16384x1024, .f32⟩
  | .hbm, ⟨35, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩

abbrev nD : Nat := 1
abbrev τ : Topo := Topo.v7x

variable {F : FTy → Type} [FloatOps F]
-- ==== Kernel28.lean ====
abbrev S16384x1024 : Shape := ⟨2, ![16384, 1024]⟩
abbrev S1x1024 : Shape := ⟨2, ![1, 1024]⟩
abbrev S1x128 : Shape := ⟨2, ![1, 128]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S1x1 : Shape := ⟨2, ![1, 1]⟩

abbrev nBuf : Space → Nat
  | .hbm => 6
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x1024, .f32⟩
  | .hbm, ⟨3, _⟩ => ⟨S1x128, .f32⟩
  | .hbm, ⟨4, _⟩ => ⟨S16384x1024, .f32⟩
  | .hbm, ⟨5, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S1x128, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference28Ideal.lean ====
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x128 : Shape := ⟨2, ![1, 128]⟩

abbrev nBuf : Space → Nat
  | .hbm => 69
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384, .f32⟩
  | .hbm, ⟨29, _⟩ => ⟨S_, .f32⟩
  | .hbm, ⟨30, _⟩ => ⟨S16384, .f32⟩
  | .hbm, ⟨31, _⟩ => ⟨S16384, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S16384, .f32⟩
  | .hbm, ⟨40, _⟩ => ⟨S_, .f32⟩
  | .hbm, ⟨41, _⟩ => ⟨S16384, .f32⟩
  | .hbm, ⟨42, _⟩ => ⟨S16384, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S16384, .f32⟩
  | .hbm, ⟨54, _⟩ => ⟨S16384x1, .f32⟩
  | .hbm, ⟨55, _⟩ => ⟨S16384x1024, .f32⟩
  | .hbm, ⟨56, _⟩ => ⟨S16384x1024, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S_, .f32⟩
  | .hbm, ⟨62, _⟩ => ⟨S16384, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S1x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Kernel29.lean ====
abbrev S16384x512 : Shape := ⟨2, ![16384, 512]⟩
abbrev S1024x512 : Shape := ⟨2, ![1024, 512]⟩

abbrev nBuf : Space → Nat
  | .hbm => 8
  | .vmem => 16
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S16384x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference29Ideal.lean ====
abbrev S16384x512 : Shape := ⟨2, ![16384, 512]⟩
abbrev S1x16384x512 : Shape := ⟨3, ![1, 16384, 512]⟩
abbrev S3x16384x512 : Shape := ⟨3, ![3, 16384, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S1x16384x512, .f32⟩
  | .hbm, ⟨7, _⟩ => ⟨S1x16384x512, .f32⟩
  | .hbm, ⟨8, _⟩ => ⟨S1x16384x512, .f32⟩
  | .hbm, ⟨9, _⟩ => ⟨S3x16384x512, .f32⟩
  | .hbm, ⟨10, _⟩ => ⟨S_, .f32⟩
  | .hbm, ⟨11, _⟩ => ⟨S16384x512, .f32⟩
  | .hbm, ⟨12, _⟩ => ⟨S_, .f32⟩
  | .hbm, ⟨13, _⟩ => ⟨S16384x512, .f32⟩
  | .hbm, ⟨14, _⟩ => ⟨S16384x512, .f32⟩
  | .hbm, ⟨15, _⟩ => ⟨S1x16384x512, .f32⟩
  | .hbm, ⟨16, _⟩ => ⟨S3x16384x512, .f32⟩
  | .hbm, ⟨17, _⟩ => ⟨S3x16384x512, .f32⟩
  | .hbm, ⟨18, _⟩ => ⟨S3x16384x512, .f32⟩
  | .hbm, ⟨19, _⟩ => ⟨S_, .f32⟩
  | .hbm, ⟨20, _⟩ => ⟨S16384x512, .f32⟩
  | .hbm, ⟨21, _⟩ => ⟨S1x16384x512, .f32⟩
  | .hbm, ⟨22, _⟩ => ⟨S3x16384x512, .f32⟩
  | .hbm, ⟨23, _⟩ => ⟨S3x16384x512, .f32⟩
  | .hbm, ⟨24, _⟩ => ⟨S1x16384x512, .f32⟩
  | .hbm, ⟨25, _⟩ => ⟨S1x16384x512, .f32⟩
  | .hbm, ⟨26, _⟩ => ⟨S1x16384x512, .f32⟩
  | .hbm, ⟨27, _⟩ => ⟨S3x16384x512, .f32⟩
  | .hbm, ⟨28, _⟩ => ⟨S16384x512, .f32⟩
  | .hbm, ⟨29, _⟩ => ⟨S_, .f32⟩
  | .hbm, ⟨30, _⟩ => ⟨S16384x512, .f32⟩
  | .hbm, ⟨31, _⟩ => ⟨S1x16384x512, .f32⟩
  | .hbm, ⟨32, _⟩ => ⟨S3x16384x512, .f32⟩
  | .hbm, ⟨33, _⟩ => ⟨S3x16384x512, .f32⟩
  | .hbm, ⟨34, _⟩ => ⟨S3x16384x512, .f32⟩
  | .hbm, ⟨35, _⟩ => ⟨S_, .f32⟩
  | .hbm, ⟨36, _⟩ => ⟨S16384x512, .f32⟩
  | .hbm, ⟨37, _⟩ => ⟨S16384x512, .f32⟩
  | .hbm, ⟨38, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Proof.FwdBase.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.Fwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The forward body zeroes the carried state exactly where the second grid coordinate is zero. -/
abbrev cond (i : grid0.Coords) : Prop := (Scalar.cmpi .ne (Scalar.extui (Scalar.cmpi .eq (BitVec.ofNat 32 (i 1).val) 0#32)) 0#32) = 1#1

theorem hcond : ∀ t : Fin cfg0.N, cond (grid0.coords t) ↔ t.val % 32 = 0 :=
  (fun t => by
    have ht : t.val < 32 := Nat.lt_of_lt_of_eq t.isLt N_0
    have e1 : (grid0.coords t 1).val = t.val / 1 % 32 := Pipeline.Grid.coords_val t 1 (by decide) rfl
    simp only [cond, e1]
    word_cmp
   : ∀ t : Fin grid0.N, cond (grid0.coords t) ↔ t.val % 32 = 0)

/-! Each window's staging memref at a grid point, and the carried state's scratch. -/

abbrev ms0 (t : Fin cfg0.N) : Memref sig .tc .vmem S512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S8x512x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S8x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S8x1024x128 .f32 := win0_7.stage (cfg0.slots t 7)
abbrev hs7 (t : Fin cfg0.N) : (ms7 t).IsWhole := hstage0_7 ((cfg0.slots t 7).cast nbuf0_7)
abbrev sc : Memref sig .tc .vmem S8x128x128 .f32 := Memref.whole cc0_scratch0
abbrev hsc : (sc : Memref sig .tc .vmem S8x128x128 .f32).IsWhole := Memref.isWhole_whole _
abbrev VS : View sig .tc .vmem S8x128x128 .f32 := sc.view
abbrev VO6 : View sig .tc .vmem S512x1024 .f32 := (Memref.whole cc0_stg6_0 : Memref sig .tc .vmem S512x1024 .f32).view
abbrev VO7 : View sig .tc .vmem S8x1024x128 .f32 := (Memref.whole cc0_stg7_0 : Memref sig .tc .vmem S8x1024x128 .f32).view

/-- The scoped buffers this call does not stage, split at the carried state's scratch, which is owned as a memref. -/
theorem rest_eq (c : Dev nD) :
    (Pipeline.scopedRest spec0 c : sProp 𝕄)
      = iprop((∃ d, owns (c : Thread nD τ) sc fullShare d) ∗ Pipeline.scopedRestBut spec0 c [cc0_scratch0]) := by
  rw [Pipeline.scopedRest_split_of_list spec0 c [cc0_scratch0] (by decide) (by decide)]; simp only [sc, owns_whole]; rfl

end Cert.Proof.Fwd

end
-- ==== Proof.FwdRunA.lean ====
module

public import proofs.«01_k».proof.Proof.FwdBase

@[expose] public section

set_option maxRecDepth 16384

noncomputable section

namespace Cert.Proof.Fwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4452000 in
/-- The forward body at a grid point that zeroes the carried state: run on whole staging memrefs holding
    `x0 …`, it ends with the inputs as they were and each output's memref, and the carried state's, with the pieces found here
    written to it. -/
def runA (c : Dev nD) (i : grid0.Coords) (a0 : Memref sig .tc .vmem S512x1024 .f32) (h0 : a0.IsWhole) (a1 : Memref sig .tc .vmem S512x1024 .f32) (h1 : a1.IsWhole) (a2 : Memref sig .tc .vmem S512x1024 .f32) (h2 : a2.IsWhole) (a3 : Memref sig .tc .vmem S512x1024 .f32) (h3 : a3.IsWhole) (a4 : Memref sig .tc .vmem S8x512x64 .f32) (h4 : a4.IsWhole) (a5 : Memref sig .tc .vmem S8x1024 .f32) (h5 : a5.IsWhole) (a6 : Memref sig .tc .vmem S512x1024 .f32) (h6 : a6.IsWhole) (a7 : Memref sig .tc .vmem S8x1024x128 .f32) (h7 : a7.IsWhole) (ar : Memref sig .tc .vmem S8x128x128 .f32) (hsr : ar.IsWhole) (hc : cond i)
    (x0 : Vec F S512x1024 .f32) (x1 : Vec F S512x1024 .f32) (x2 : Vec F S512x1024 .f32) (x3 : Vec F S512x1024 .f32) (x4 : Vec F S8x512x64 .f32) (x5 : Vec F S8x1024 .f32) :
    Σ' (L6 : List (View.Piece (Elt F) S512x1024 .f32)), Σ' (L7 : List (View.Piece (Elt F) S8x1024x128 .f32)), { LS : List (View.Piece (Elt F) S8x128x128 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d) ∗ (∃ d, owns (c : Thread nD τ) a7 fullShare d) ∗ (∃ d, owns (c : Thread nD τ) ar fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ f, a6.view.loc (c : Thread nD τ) ↦[a6.view.set]{fullShare} a6.view.writes (Elt F) f L6) ∗ (∃ f, a7.view.loc (c : Thread nD τ) ↦[a7.view.set]{fullShare} a7.view.writes (Elt F) f L7) ∗ (∃ f, ar.view.loc (c : Thread nD τ) ↦[ar.view.set]{fullShare} ar.view.writes (Elt F) f LS)) -∗ K ⟨⟩))
          ⊢ wp frame (wpE (defs₀ (F := F)) Variants.none c none) E (cc0_dn_scan_fwd i a0 h0 a1 h1 a2 h2 a3 h3 a4 h4 a5 h5 a6 h6 a7 h7 ar hsr) K } := by
  refine ⟨?_, ?_, ?_, fun E K => ?run⟩
  case run =>
    simp only [cc0_dn_scan_fwd_eq_skeleton]; unfold cc0_dn_scan_fwd_skel
    simp only [k0_part69_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds, %fs, -, HS⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5
    sl_exec (disch := first | sl_exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]; · iexists _; iexact H6
    isplitl [H7]; · iexists _; iexact H7
    iexists _; iexact HS

end Cert.Proof.Fwd

end
-- ==== Proof.FwdRunB.lean ====
module

public import proofs.«01_k».proof.Proof.FwdBase

@[expose] public section

set_option maxRecDepth 16384

noncomputable section

namespace Cert.Proof.Fwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4440000 in
/-- The forward body at a grid point that continues from the carried state `xs`: run on whole staging memrefs holding
    `x0 …`, it ends with the inputs as they were and each output's memref, and the carried state's, with the pieces found here
    written to it. -/
def runB (c : Dev nD) (i : grid0.Coords) (a0 : Memref sig .tc .vmem S512x1024 .f32) (h0 : a0.IsWhole) (a1 : Memref sig .tc .vmem S512x1024 .f32) (h1 : a1.IsWhole) (a2 : Memref sig .tc .vmem S512x1024 .f32) (h2 : a2.IsWhole) (a3 : Memref sig .tc .vmem S512x1024 .f32) (h3 : a3.IsWhole) (a4 : Memref sig .tc .vmem S8x512x64 .f32) (h4 : a4.IsWhole) (a5 : Memref sig .tc .vmem S8x1024 .f32) (h5 : a5.IsWhole) (a6 : Memref sig .tc .vmem S512x1024 .f32) (h6 : a6.IsWhole) (a7 : Memref sig .tc .vmem S8x1024x128 .f32) (h7 : a7.IsWhole) (ar : Memref sig .tc .vmem S8x128x128 .f32) (hsr : ar.IsWhole) (hc : ¬cond i)
    (x0 : Vec F S512x1024 .f32) (x1 : Vec F S512x1024 .f32) (x2 : Vec F S512x1024 .f32) (x3 : Vec F S512x1024 .f32) (x4 : Vec F S8x512x64 .f32) (x5 : Vec F S8x1024 .f32) (xs : Vec F S8x128x128 .f32) :
    Σ' (L6 : List (View.Piece (Elt F) S512x1024 .f32)), Σ' (L7 : List (View.Piece (Elt F) S8x1024x128 .f32)), { LS : List (View.Piece (Elt F) S8x128x128 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d) ∗ (∃ d, owns (c : Thread nD τ) a7 fullShare d) ∗ owns (c : Thread nD τ) ar fullShare xs
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ f, a6.view.loc (c : Thread nD τ) ↦[a6.view.set]{fullShare} a6.view.writes (Elt F) f L6) ∗ (∃ f, a7.view.loc (c : Thread nD τ) ↦[a7.view.set]{fullShare} a7.view.writes (Elt F) f L7) ∗ (∃ f, ar.view.loc (c : Thread nD τ) ↦[ar.view.set]{fullShare} ar.view.writes (Elt F) f LS)) -∗ K ⟨⟩))
          ⊢ wp frame (wpE (defs₀ (F := F)) Variants.none c none) E (cc0_dn_scan_fwd i a0 h0 a1 h1 a2 h2 a3 h3 a4 h4 a5 h5 a6 h6 a7 h7 ar hsr) K } := by
  refine ⟨?_, ?_, ?_, fun E K => ?run⟩
  case run =>
    simp only [cc0_dn_scan_fwd_eq_skeleton]; unfold cc0_dn_scan_fwd_skel
    simp only [k0_part69_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs, %hfs, HS⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := hsr.eq_unread hfs
    sl_exec (disch := first | sl_exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]; · iexists _; iexact H6
    isplitl [H7]; · iexists _; iexact H7
    iexists _; iexact HS

end Cert.Proof.Fwd

end
-- ==== Proof.FwdData.lean ====
module

public import proofs.«01_k».proof.Proof.FwdRunA
public import proofs.«01_k».proof.Proof.FwdRunB
public import Idealize.ShloMosaic.Lib.Claim
public import Idealize.ShloMosaic.Lib.Pipeline.Value

@[expose] public section

set_option maxRecDepth 16384

noncomputable section

namespace Cert.Proof.Fwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The body's run at point `t`, on the blocks staged there. -/
abbrev atA (c : Dev nD) (t : Fin cfg0.N) (h : t.val % 32 = 0) :=
  runA c (grid0.coords t) (ms0 t) (hs0 t) (ms1 t) (hs1 t) (ms2 t) (hs2 t) (ms3 t) (hs3 t) (ms4 t) (hs4 t) (ms5 t) (hs5 t) (ms6 t) (hs6 t) (ms7 t) (hs7 t) sc hsc ((hcond t).mpr h) (iblk V c 0 t) (iblk V c 1 t) (iblk V c 2 t) (iblk V c 3 t) (iblk V c 4 t) (iblk V c 5 t)
abbrev atB (c : Dev nD) (t : Fin cfg0.N) (h : ¬ t.val % 32 = 0) (xs : Vec F S8x128x128 .f32) :=
  runB c (grid0.coords t) (ms0 t) (hs0 t) (ms1 t) (hs1 t) (ms2 t) (hs2 t) (ms3 t) (hs3 t) (ms4 t) (hs4 t) (ms5 t) (hs5 t) (ms6 t) (hs6 t) (ms7 t) (hs7 t) sc hsc (fun h' => h ((hcond t).mp h')) (iblk V c 0 t) (iblk V c 1 t) (iblk V c 2 t) (iblk V c 3 t) (iblk V c 4 t) (iblk V c 5 t) xs

/-- What pieces leave in each output's block and in the carried state. -/
abbrev rd6 (L : List (View.Piece (Elt F) S512x1024 .f32)) : Vec F S512x1024 .f32 := VO6.read (Elt F) (VO6.writes (Elt F) VO6.junk L)
abbrev rd7 (L : List (View.Piece (Elt F) S8x1024x128 .f32)) : Vec F S8x1024x128 .f32 := VO7.read (Elt F) (VO7.writes (Elt F) VO7.junk L)
abbrev rdS (L : List (View.Piece (Elt F) S8x128x128 .f32)) : Vec F S8x128x128 .f32 := VS.read (Elt F) (VS.writes (Elt F) VS.junk L)

/-- The outputs' blocks and the carried state after a point. -/
abbrev Outs (F : FTy → Type) : Type := Vec F S512x1024 .f32 × Vec F S8x1024x128 .f32 × Vec F S8x128x128 .f32

def outA (c : Dev nD) (t : Fin cfg0.N) (h : t.val % 32 = 0) : Outs F :=
  (rd6 (atA V c t h).1, rd7 (atA V c t h).2.1, rdS (atA V c t h).2.2.1)
def outB (c : Dev nD) (t : Fin cfg0.N) (h : ¬ t.val % 32 = 0) (xs : Vec F S8x128x128 .f32) : Outs F :=
  (rd6 (atB V c t h xs).1, rd7 (atB V c t h xs).2.1, rdS (atB V c t h xs).2.2.1)

/-- The same point by point: a point that zeroes the state starts afresh, any other continues from the one before. -/
def outsAt (c : Dev nD) : (n : ℕ) → n < cfg0.N → Outs F
  | 0, hn => outA V c ⟨0, hn⟩ (Nat.zero_mod _)
  | n + 1, hn => if h : (n + 1) % 32 = 0 then outA V c ⟨n + 1, hn⟩ h
      else outB V c ⟨n + 1, hn⟩ h (outsAt c n (Nat.lt_of_succ_lt hn)).2.2

theorem outsAt_A (c : Dev nD) (t : Fin cfg0.N) (h : t.val % 32 = 0) : outsAt V c t.val t.isLt = outA V c t h := by
  obtain ⟨n, hn⟩ := t
  cases n with
  | zero => rfl
  | succ n => exact dif_pos h

theorem outsAt_B (c : Dev nD) (t : Fin cfg0.N) (h : ¬ t.val % 32 = 0) :
    outsAt V c t.val t.isLt = outB V c t h (outsAt V c (t.val - 1) (Nat.lt_of_le_of_lt (Nat.sub_le _ _) t.isLt)).2.2 := by
  obtain ⟨n, hn⟩ := t
  cases n with
  | zero => exact absurd (Nat.zero_mod _) h
  | succ n => exact dif_neg h

/-! The pieces cover their blocks. -/

theorem coverA_6 (c : Dev nD) (t : Fin cfg0.N) (h : t.val % 32 = 0) (y : S512x1024.Idx) : ∃ pc ∈ (atA V c t h).1, y ∈ pc.1.set :=
  View.cover_of_tiledL (atA V c t h).1 S64x128.size (by sl_kernel_rfl) y
theorem coverA_7 (c : Dev nD) (t : Fin cfg0.N) (h : t.val % 32 = 0) (y : S8x1024x128.Idx) : ∃ pc ∈ (atA V c t h).2.1, y ∈ pc.1.set :=
  View.cover_of_tiledL (atA V c t h).2.1 S1x128x128.size (by sl_kernel_rfl) y
theorem coverA_S (c : Dev nD) (t : Fin cfg0.N) (h : t.val % 32 = 0) (y : S8x128x128.Idx) : ∃ pc ∈ (atA V c t h).2.2.1, y ∈ pc.1.set :=
  View.cover_of_wholeMem (atA V c t h).2.2.1 (by sl_whole_mem) y
theorem coverB_6 (c : Dev nD) (t : Fin cfg0.N) (h : ¬ t.val % 32 = 0) (xs : Vec F S8x128x128 .f32) (y : S512x1024.Idx) : ∃ pc ∈ (atB V c t h xs).1, y ∈ pc.1.set :=
  View.cover_of_tiledL (atB V c t h xs).1 S64x128.size (by sl_kernel_rfl) y
theorem coverB_7 (c : Dev nD) (t : Fin cfg0.N) (h : ¬ t.val % 32 = 0) (xs : Vec F S8x128x128 .f32) (y : S8x1024x128.Idx) : ∃ pc ∈ (atB V c t h xs).2.1, y ∈ pc.1.set :=
  View.cover_of_tiledL (atB V c t h xs).2.1 S1x128x128.size (by sl_kernel_rfl) y
theorem coverB_S (c : Dev nD) (t : Fin cfg0.N) (h : ¬ t.val % 32 = 0) (xs : Vec F S8x128x128 .f32) (y : S8x128x128.Idx) : ∃ pc ∈ (atB V c t h xs).2.2.1, y ∈ pc.1.set :=
  View.cover_of_tiledL (atB V c t h xs).2.2.1 S1x128x128.size (by sl_kernel_rfl) y

/-! The pipeline's proof data. -/

/-- Before the first point the scratch holds anything; after a point it holds what the point left. -/
def inv (c : Dev nD) : (n : ℕ) → n ≤ cfg0.N → sProp 𝕄
  | 0, _ => Pipeline.scopedRest spec0 c
  | n + 1, hn => iprop(owns (c : Thread nD τ) sc fullShare (outsAt V c n hn).2.2 ∗ Pipeline.scopedRestBut spec0 c [cc0_scratch0])

theorem inv_zero (c : Dev nD) (n : ℕ) (h : n ≤ cfg0.N) (hz : n = 0) : inv V c n h = Pipeline.scopedRest spec0 c := by
  subst hz; rfl
theorem inv_succ (c : Dev nD) (n : ℕ) (hn : n < cfg0.N) :
    inv V c (n + 1) hn = iprop(owns (c : Thread nD τ) sc fullShare (outsAt V c n hn).2.2 ∗ Pipeline.scopedRestBut spec0 c [cc0_scratch0]) := rfl
theorem inv_pos (c : Dev nD) (n : ℕ) (h : n ≤ cfg0.N) (hz : n ≠ 0) :
    inv V c n h = iprop(owns (c : Thread nD τ) sc fullShare (outsAt V c (n - 1) (by omega)).2.2 ∗ Pipeline.scopedRestBut spec0 c [cc0_scratch0]) := by
  cases n with
  | zero => exact absurd rfl hz
  | succ n => rfl

/-- The arrays as the call finds them; after the body each input's buffer at its block, the outputs' at `outsAt`. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (outsAt V c t.val t.isLt).1
    | ⟨7, _⟩ => (outsAt V c t.val t.isLt).2.1
  Φ t := inv V c t.val (Nat.le_of_lt_succ t.isLt)
  q _ := fullShare
  owed _ := 0

theorem A_eq (c : Dev nD) (w : Fin cfg0.W) : (dat V c).A w = V c (Pipeline.arrRef spec0 w) := by dsimp only [dat]
theorem inv_castSucc (c : Dev nD) (t : Fin cfg0.N) : (dat V c).Φ t.castSucc = inv V c t.val (Nat.le_of_lt t.isLt) := by
  dsimp only [dat]; exact Pipeline.Dat.Φ_castSucc (inv V c) t

theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = iblk V c 4 t := by dsimp only [dat]
theorem after5 (c : Dev nD) (t : Fin cfg0.N) : (dat V c).after 5 t = iblk V c 5 t := by dsimp only [dat]
theorem after6 (c : Dev nD) (t : Fin cfg0.N) : (dat V c).after 6 t = (outsAt V c t.val t.isLt).1 := by dsimp only [dat]
theorem after7 (c : Dev nD) (t : Fin cfg0.N) : (dat V c).after 7 t = (outsAt V c t.val t.isLt).2.1 := by dsimp only [dat]

/-! Each input's staging buffer holds its block when the body runs. -/

theorem before0 (c : Dev nD) (t : Fin cfg0.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dat V c).before 3 t d = iblk V c 3 t :=
  ((dat V c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dat V c).before 4 t d = iblk V c 4 t :=
  ((dat V c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dat V c).before 5 t d = iblk V c 5 t :=
  ((dat V c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

/-! The body obligation at any point. -/

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d)))

def bodyPost (c : Dev nD) (t : Fin cfg0.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t)
    ∗ owns (c : Thread nD τ) (ms5 t) fullShare ((dat V c).after 5 t)
    ∗ owns (c : Thread nD τ) (ms6 t) fullShare ((dat V c).after 6 t)
    ∗ owns (c : Thread nD τ) (ms7 t) fullShare ((dat V c).after 7 t))

set_option maxHeartbeats 8000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4, before5]
  rw [show (dat V c).owesAt () t.succ = (dat V c).owesAt () t.castSucc from rfl,
    after0, after1, after2, after3, after4, after5, after6, after7]
  rw [show (dat V c).Φ t.succ = inv V c (t.val + 1) t.isLt from rfl, inv_succ]
  by_cases h : t.val % 32 = 0
  · have hS : (dat V c).Φ t.castSucc ⊢ iprop((∃ d, owns (c : Thread nD τ) sc fullShare d) ∗ Pipeline.scopedRestBut spec0 c [cc0_scratch0]) := by
      rw [inv_castSucc V c t]
      by_cases hz : t.val = 0
      · rw [inv_zero V c _ _ hz, rest_eq]
      · rw [inv_pos V c _ _ hz]
        iintro ⟨HS, Hr⟩
        isplitl [HS]; · iexists _; iexact HS
        iexact Hr
    refine (sep_mono_left hS).trans ?_
    rw [outsAt_A V c t h]
    unfold outA; dsimp only
    iintro ⟨⟨HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((atA V c t h).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, ⟨%e6, H6⟩, ⟨%e7, H7⟩, ⟨%es, HS⟩⟩
    isplitl [HS Hr]
    · isplitl [HS]
      · unfold owns; iexists _; isplitr
        swap; · iexact HS
        ipureintro; exact View.read_writes_of_cover _ _ _ _ _ (coverA_S V c t h)
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (coverA_6 V c t h)
    unfold owns; iexists _; isplitr
    swap; · iexact H7
    ipureintro; exact View.read_writes_of_cover _ _ _ _ _ (coverA_7 V c t h)
  · have hz : t.val ≠ 0 := fun e => h (by rw [e])
    rw [inv_castSucc V c t, inv_pos V c _ _ hz]
    rw [outsAt_B V c t h]
    unfold outB; dsimp only
    iintro ⟨⟨HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((atB V c t h _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, ⟨%e6, H6⟩, ⟨%e7, H7⟩, ⟨%es, HS⟩⟩
    isplitl [HS Hr]
    · isplitl [HS]
      · unfold owns; iexists _; isplitr
        swap; · iexact HS
        ipureintro; exact View.read_writes_of_cover _ _ _ _ _ (coverB_S V c t h _)
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (coverB_6 V c t h _)
    unfold owns; iexists _; isplitr
    swap; · iexact H7
    ipureintro; exact View.read_writes_of_cover _ _ _ _ _ (coverB_7 V c t h _)

theorem defs₀_row (t : Fin cfg0.N) : defs₀ (F := F) .tc cfg0.body (cfg0.bodyArgs t (cfg0.slots t)) = bodyAt0 t := by
  unfold defs₀; rw [Defs.onTc_tc]

set_option maxHeartbeats 4000000 in
theorem body_obligation (c : Dev nD) : BodyObligation (dat V c) (defs₀ (F := F)) Variants.none () Set.univ := fun t => by
  rw [bigSep_W0, bigSep_W0, defs₀_row]
  exact triple_restated (sound_body V c t) rfl .rfl fun _ => .rfl

theorem hin (c : Dev nD) : iprop(Pipeline.scopedRest spec0 c ∗ emp) ⊢ (dat V c).Φ 0 := by
  rw [show (dat V c).Φ 0 = inv V c 0 (Nat.zero_le _) from rfl, inv_zero V c 0 _ rfl]
  iintro ⟨H, -⟩; iexact H

theorem hout (c : Dev nD) : (dat V c).Φ (Fin.last cfg0.N) ⊢ iprop(Pipeline.scopedRest spec0 c ∗ emp) := by
  rw [show (dat V c).Φ (Fin.last cfg0.N) = inv V c (Fin.last cfg0.N).val (Nat.le_of_lt_succ (Fin.last cfg0.N).isLt) from by dsimp only [dat],
    inv_pos V c _ _ (by rw [Fin.val_last]; have : cfg0.N = 32 := N_0; omega), rest_eq]
  iintro ⟨HS, Hr⟩
  isplitl [HS Hr]
  · isplitl [HS]; · iexists _; iexact HS
    iexact Hr
  iempintro

end Cert.Proof.Fwd

end
-- ==== Proof.BwdBase.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The backward body zeroes the carried state exactly where the second grid coordinate is zero. -/
abbrev cond (i : grid1.Coords) : Prop := (Scalar.cmpi .ne (Scalar.extui (Scalar.cmpi .eq (BitVec.ofNat 32 (i 1).val) 0#32)) 0#32) = 1#1

theorem hcond : ∀ t : Fin cfg1.N, cond (grid1.coords t) ↔ t.val % 32 = 0 :=
  (fun t => by
    have ht : t.val < 64 := Nat.lt_of_lt_of_eq t.isLt N_1
    have e1 : (grid1.coords t 1).val = t.val / 1 % 32 := Pipeline.Grid.coords_val t 1 (by decide) rfl
    simp only [cond, e1]
    word_cmp
   : ∀ t : Fin grid1.N, cond (grid1.coords t) ↔ t.val % 32 = 0)

/-! Each window's staging memref at a grid point, and the carried state's scratch. -/

abbrev ms0 (t : Fin cfg1.N) : Memref sig .tc .vmem S512x512 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S512x512 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S512x512 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S512x512 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S4x512x64 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S8x512 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S4x1024x128 .f32 := win1_6.stage (cfg1.slots t 6)
abbrev hs6 (t : Fin cfg1.N) : (ms6 t).IsWhole := hstage1_6 ((cfg1.slots t 6).cast nbuf1_6)
abbrev ms7 (t : Fin cfg1.N) : Memref sig .tc .vmem S512x512 .f32 := win1_7.stage (cfg1.slots t 7)
abbrev hs7 (t : Fin cfg1.N) : (ms7 t).IsWhole := hstage1_7 ((cfg1.slots t 7).cast nbuf1_7)
abbrev ms8 (t : Fin cfg1.N) : Memref sig .tc .vmem S512x512 .f32 := win1_8.stage (cfg1.slots t 8)
abbrev hs8 (t : Fin cfg1.N) : (ms8 t).IsWhole := hstage1_8 ((cfg1.slots t 8).cast nbuf1_8)
abbrev ms9 (t : Fin cfg1.N) : Memref sig .tc .vmem S512x512 .f32 := win1_9.stage (cfg1.slots t 9)
abbrev hs9 (t : Fin cfg1.N) : (ms9 t).IsWhole := hstage1_9 ((cfg1.slots t 9).cast nbuf1_9)
abbrev ms10 (t : Fin cfg1.N) : Memref sig .tc .vmem S512x512 .f32 := win1_10.stage (cfg1.slots t 10)
abbrev hs10 (t : Fin cfg1.N) : (ms10 t).IsWhole := hstage1_10 ((cfg1.slots t 10).cast nbuf1_10)
abbrev ms11 (t : Fin cfg1.N) : Memref sig .tc .vmem S512x512 .f32 := win1_11.stage (cfg1.slots t 11)
abbrev hs11 (t : Fin cfg1.N) : (ms11 t).IsWhole := hstage1_11 ((cfg1.slots t 11).cast nbuf1_11)
abbrev ms12 (t : Fin cfg1.N) : Memref sig .tc .vmem S4x512x64 .f32 := win1_12.stage (cfg1.slots t 12)
abbrev hs12 (t : Fin cfg1.N) : (ms12 t).IsWhole := hstage1_12 ((cfg1.slots t 12).cast nbuf1_12)
abbrev ms13 (t : Fin cfg1.N) : Memref sig .tc .vmem S8x512 .f32 := win1_13.stage (cfg1.slots t 13)
abbrev hs13 (t : Fin cfg1.N) : (ms13 t).IsWhole := hstage1_13 ((cfg1.slots t 13).cast nbuf1_13)
abbrev sc : Memref sig .tc .vmem S4x128x128 .f32 := Memref.whole cc1_scratch0
abbrev hsc : (sc : Memref sig .tc .vmem S4x128x128 .f32).IsWhole := Memref.isWhole_whole _
abbrev VS : View sig .tc .vmem S4x128x128 .f32 := sc.view
abbrev VO8 : View sig .tc .vmem S512x512 .f32 := (Memref.whole cc1_stg8_0 : Memref sig .tc .vmem S512x512 .f32).view
abbrev VO9 : View sig .tc .vmem S512x512 .f32 := (Memref.whole cc1_stg9_0 : Memref sig .tc .vmem S512x512 .f32).view
abbrev VO10 : View sig .tc .vmem S512x512 .f32 := (Memref.whole cc1_stg10_0 : Memref sig .tc .vmem S512x512 .f32).view
abbrev VO11 : View sig .tc .vmem S512x512 .f32 := (Memref.whole cc1_stg11_0 : Memref sig .tc .vmem S512x512 .f32).view
abbrev VO12 : View sig .tc .vmem S4x512x64 .f32 := (Memref.whole cc1_stg12_0 : Memref sig .tc .vmem S4x512x64 .f32).view
abbrev VO13 : View sig .tc .vmem S8x512 .f32 := (Memref.whole cc1_stg13_0 : Memref sig .tc .vmem S8x512 .f32).view

/-- The scoped buffers this call does not stage, split at the carried state's scratch, which is owned as a memref. -/
theorem rest_eq (c : Dev nD) :
    (Pipeline.scopedRest spec1 c : sProp 𝕄)
      = iprop((∃ d, owns (c : Thread nD τ) sc fullShare d) ∗ Pipeline.scopedRestBut spec1 c [cc1_scratch0]) := by
  rw [Pipeline.scopedRest_split_of_list spec1 c [cc1_scratch0] (by decide) (by decide)]; simp only [sc, owns_whole]; rfl

end Cert.Proof.Bwd

end
-- ==== Proof.BwdRunA.lean ====
module

public import proofs.«01_k».proof.Proof.BwdBase

@[expose] public section

set_option maxRecDepth 16384

noncomputable section

namespace Cert.Proof.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4044000 in
/-- The backward body at a grid point that zeroes the carried state: run on whole staging memrefs holding
    `x0 …`, it ends with the inputs as they were and each output's memref, and the carried state's, with the pieces found here
    written to it. -/
def runA (c : Dev nD) (i : grid1.Coords) (a0 : Memref sig .tc .vmem S512x512 .f32) (h0 : a0.IsWhole) (a1 : Memref sig .tc .vmem S512x512 .f32) (h1 : a1.IsWhole) (a2 : Memref sig .tc .vmem S512x512 .f32) (h2 : a2.IsWhole) (a3 : Memref sig .tc .vmem S512x512 .f32) (h3 : a3.IsWhole) (a4 : Memref sig .tc .vmem S4x512x64 .f32) (h4 : a4.IsWhole) (a5 : Memref sig .tc .vmem S8x512 .f32) (h5 : a5.IsWhole) (a6 : Memref sig .tc .vmem S4x1024x128 .f32) (h6 : a6.IsWhole) (a7 : Memref sig .tc .vmem S512x512 .f32) (h7 : a7.IsWhole) (a8 : Memref sig .tc .vmem S512x512 .f32) (h8 : a8.IsWhole) (a9 : Memref sig .tc .vmem S512x512 .f32) (h9 : a9.IsWhole) (a10 : Memref sig .tc .vmem S512x512 .f32) (h10 : a10.IsWhole) (a11 : Memref sig .tc .vmem S512x512 .f32) (h11 : a11.IsWhole) (a12 : Memref sig .tc .vmem S4x512x64 .f32) (h12 : a12.IsWhole) (a13 : Memref sig .tc .vmem S8x512 .f32) (h13 : a13.IsWhole) (ar : Memref sig .tc .vmem S4x128x128 .f32) (hsr : ar.IsWhole) (hc : cond i)
    (x0 : Vec F S512x512 .f32) (x1 : Vec F S512x512 .f32) (x2 : Vec F S512x512 .f32) (x3 : Vec F S512x512 .f32) (x4 : Vec F S4x512x64 .f32) (x5 : Vec F S8x512 .f32) (x6 : Vec F S4x1024x128 .f32) (x7 : Vec F S512x512 .f32) :
    Σ' (L8 : List (View.Piece (Elt F) S512x512 .f32)), Σ' (L9 : List (View.Piece (Elt F) S512x512 .f32)), Σ' (L10 : List (View.Piece (Elt F) S512x512 .f32)), Σ' (L11 : List (View.Piece (Elt F) S512x512 .f32)), Σ' (L12 : List (View.Piece (Elt F) S4x512x64 .f32)), Σ' (L13 : List (View.Piece (Elt F) S8x512 .f32)), { LS : List (View.Piece (Elt F) S4x128x128 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d) ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) ar fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ f, a8.view.loc (c : Thread nD τ) ↦[a8.view.set]{fullShare} a8.view.writes (Elt F) f L8) ∗ (∃ f, a9.view.loc (c : Thread nD τ) ↦[a9.view.set]{fullShare} a9.view.writes (Elt F) f L9) ∗ (∃ f, a10.view.loc (c : Thread nD τ) ↦[a10.view.set]{fullShare} a10.view.writes (Elt F) f L10) ∗ (∃ f, a11.view.loc (c : Thread nD τ) ↦[a11.view.set]{fullShare} a11.view.writes (Elt F) f L11) ∗ (∃ f, a12.view.loc (c : Thread nD τ) ↦[a12.view.set]{fullShare} a12.view.writes (Elt F) f L12) ∗ (∃ f, a13.view.loc (c : Thread nD τ) ↦[a13.view.set]{fullShare} a13.view.writes (Elt F) f L13) ∗ (∃ f, ar.view.loc (c : Thread nD τ) ↦[ar.view.set]{fullShare} ar.view.writes (Elt F) f LS)) -∗ K ⟨⟩))
          ⊢ wp frame (wpE (defs₀ (F := F)) Variants.none c none) E (cc1_dn_scan_bwd i a0 h0 a1 h1 a2 h2 a3 h3 a4 h4 a5 h5 a6 h6 a7 h7 a8 h8 a9 h9 a10 h10 a11 h11 a12 h12 a13 h13 ar hsr) K } := by
  refine ⟨?_, ?_, ?_, ?_, ?_, ?_, ?_, fun E K => ?run⟩
  case run =>
    simp only [cc1_dn_scan_bwd_eq_skeleton]; unfold cc1_dn_scan_bwd_skel
    simp only [k1_part66_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton, k1_part53_eq_skeleton, k1_part54_eq_skeleton, k1_part55_eq_skeleton, k1_part56_eq_skeleton, k1_part57_eq_skeleton, k1_part58_eq_skeleton, k1_part59_eq_skeleton, k1_part60_eq_skeleton, k1_part61_eq_skeleton, k1_part62_eq_skeleton, k1_part63_eq_skeleton, k1_part64_eq_skeleton, k1_part65_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%ds, %fs, -, HS⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7
    sl_exec (disch := first | sl_exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact HS

end Cert.Proof.Bwd

end
-- ==== Proof.BwdRunB.lean ====
module

public import proofs.«01_k».proof.Proof.BwdBase

@[expose] public section

set_option maxRecDepth 16384

noncomputable section

namespace Cert.Proof.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4032000 in
/-- The backward body at a grid point that continues from the carried state `xs`: run on whole staging memrefs holding
    `x0 …`, it ends with the inputs as they were and each output's memref, and the carried state's, with the pieces found here
    written to it. -/
def runB (c : Dev nD) (i : grid1.Coords) (a0 : Memref sig .tc .vmem S512x512 .f32) (h0 : a0.IsWhole) (a1 : Memref sig .tc .vmem S512x512 .f32) (h1 : a1.IsWhole) (a2 : Memref sig .tc .vmem S512x512 .f32) (h2 : a2.IsWhole) (a3 : Memref sig .tc .vmem S512x512 .f32) (h3 : a3.IsWhole) (a4 : Memref sig .tc .vmem S4x512x64 .f32) (h4 : a4.IsWhole) (a5 : Memref sig .tc .vmem S8x512 .f32) (h5 : a5.IsWhole) (a6 : Memref sig .tc .vmem S4x1024x128 .f32) (h6 : a6.IsWhole) (a7 : Memref sig .tc .vmem S512x512 .f32) (h7 : a7.IsWhole) (a8 : Memref sig .tc .vmem S512x512 .f32) (h8 : a8.IsWhole) (a9 : Memref sig .tc .vmem S512x512 .f32) (h9 : a9.IsWhole) (a10 : Memref sig .tc .vmem S512x512 .f32) (h10 : a10.IsWhole) (a11 : Memref sig .tc .vmem S512x512 .f32) (h11 : a11.IsWhole) (a12 : Memref sig .tc .vmem S4x512x64 .f32) (h12 : a12.IsWhole) (a13 : Memref sig .tc .vmem S8x512 .f32) (h13 : a13.IsWhole) (ar : Memref sig .tc .vmem S4x128x128 .f32) (hsr : ar.IsWhole) (hc : ¬cond i)
    (x0 : Vec F S512x512 .f32) (x1 : Vec F S512x512 .f32) (x2 : Vec F S512x512 .f32) (x3 : Vec F S512x512 .f32) (x4 : Vec F S4x512x64 .f32) (x5 : Vec F S8x512 .f32) (x6 : Vec F S4x1024x128 .f32) (x7 : Vec F S512x512 .f32) (xs : Vec F S4x128x128 .f32) :
    Σ' (L8 : List (View.Piece (Elt F) S512x512 .f32)), Σ' (L9 : List (View.Piece (Elt F) S512x512 .f32)), Σ' (L10 : List (View.Piece (Elt F) S512x512 .f32)), Σ' (L11 : List (View.Piece (Elt F) S512x512 .f32)), Σ' (L12 : List (View.Piece (Elt F) S4x512x64 .f32)), Σ' (L13 : List (View.Piece (Elt F) S8x512 .f32)), { LS : List (View.Piece (Elt F) S4x128x128 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d) ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ owns (c : Thread nD τ) ar fullShare xs
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ f, a8.view.loc (c : Thread nD τ) ↦[a8.view.set]{fullShare} a8.view.writes (Elt F) f L8) ∗ (∃ f, a9.view.loc (c : Thread nD τ) ↦[a9.view.set]{fullShare} a9.view.writes (Elt F) f L9) ∗ (∃ f, a10.view.loc (c : Thread nD τ) ↦[a10.view.set]{fullShare} a10.view.writes (Elt F) f L10) ∗ (∃ f, a11.view.loc (c : Thread nD τ) ↦[a11.view.set]{fullShare} a11.view.writes (Elt F) f L11) ∗ (∃ f, a12.view.loc (c : Thread nD τ) ↦[a12.view.set]{fullShare} a12.view.writes (Elt F) f L12) ∗ (∃ f, a13.view.loc (c : Thread nD τ) ↦[a13.view.set]{fullShare} a13.view.writes (Elt F) f L13) ∗ (∃ f, ar.view.loc (c : Thread nD τ) ↦[ar.view.set]{fullShare} ar.view.writes (Elt F) f LS)) -∗ K ⟨⟩))
          ⊢ wp frame (wpE (defs₀ (F := F)) Variants.none c none) E (cc1_dn_scan_bwd i a0 h0 a1 h1 a2 h2 a3 h3 a4 h4 a5 h5 a6 h6 a7 h7 a8 h8 a9 h9 a10 h10 a11 h11 a12 h12 a13 h13 ar hsr) K } := by
  refine ⟨?_, ?_, ?_, ?_, ?_, ?_, ?_, fun E K => ?run⟩
  case run =>
    simp only [cc1_dn_scan_bwd_eq_skeleton]; unfold cc1_dn_scan_bwd_skel
    simp only [k1_part66_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton, k1_part53_eq_skeleton, k1_part54_eq_skeleton, k1_part55_eq_skeleton, k1_part56_eq_skeleton, k1_part57_eq_skeleton, k1_part58_eq_skeleton, k1_part59_eq_skeleton, k1_part60_eq_skeleton, k1_part61_eq_skeleton, k1_part62_eq_skeleton, k1_part63_eq_skeleton, k1_part64_eq_skeleton, k1_part65_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%fs, %hfs, HS⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := hsr.eq_unread hfs
    sl_exec (disch := first | sl_exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact HS

end Cert.Proof.Bwd

end
-- ==== Proof.BwdData.lean ====
module

public import proofs.«01_k».proof.Proof.BwdRunA
public import proofs.«01_k».proof.Proof.BwdRunB
public import Idealize.ShloMosaic.Lib.Claim
public import Idealize.ShloMosaic.Lib.Pipeline.Value

@[expose] public section

set_option maxRecDepth 16384

noncomputable section

namespace Cert.Proof.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The body's run at point `t`, on the blocks staged there. -/
abbrev atA (c : Dev nD) (t : Fin cfg1.N) (h : t.val % 32 = 0) :=
  runA c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) sc hsc ((hcond t).mpr h) (iblk V c 0 t) (iblk V c 1 t) (iblk V c 2 t) (iblk V c 3 t) (iblk V c 4 t) (iblk V c 5 t) (iblk V c 6 t) (iblk V c 7 t)
abbrev atB (c : Dev nD) (t : Fin cfg1.N) (h : ¬ t.val % 32 = 0) (xs : Vec F S4x128x128 .f32) :=
  runB c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) sc hsc (fun h' => h ((hcond t).mp h')) (iblk V c 0 t) (iblk V c 1 t) (iblk V c 2 t) (iblk V c 3 t) (iblk V c 4 t) (iblk V c 5 t) (iblk V c 6 t) (iblk V c 7 t) xs

/-- What pieces leave in each output's block and in the carried state. -/
abbrev rd8 (L : List (View.Piece (Elt F) S512x512 .f32)) : Vec F S512x512 .f32 := VO8.read (Elt F) (VO8.writes (Elt F) VO8.junk L)
abbrev rd9 (L : List (View.Piece (Elt F) S512x512 .f32)) : Vec F S512x512 .f32 := VO9.read (Elt F) (VO9.writes (Elt F) VO9.junk L)
abbrev rd10 (L : List (View.Piece (Elt F) S512x512 .f32)) : Vec F S512x512 .f32 := VO10.read (Elt F) (VO10.writes (Elt F) VO10.junk L)
abbrev rd11 (L : List (View.Piece (Elt F) S512x512 .f32)) : Vec F S512x512 .f32 := VO11.read (Elt F) (VO11.writes (Elt F) VO11.junk L)
abbrev rd12 (L : List (View.Piece (Elt F) S4x512x64 .f32)) : Vec F S4x512x64 .f32 := VO12.read (Elt F) (VO12.writes (Elt F) VO12.junk L)
abbrev rd13 (L : List (View.Piece (Elt F) S8x512 .f32)) : Vec F S8x512 .f32 := VO13.read (Elt F) (VO13.writes (Elt F) VO13.junk L)
abbrev rdS (L : List (View.Piece (Elt F) S4x128x128 .f32)) : Vec F S4x128x128 .f32 := VS.read (Elt F) (VS.writes (Elt F) VS.junk L)

/-- The outputs' blocks and the carried state after a point. -/
abbrev Outs (F : FTy → Type) : Type := Vec F S512x512 .f32 × Vec F S512x512 .f32 × Vec F S512x512 .f32 × Vec F S512x512 .f32 × Vec F S4x512x64 .f32 × Vec F S8x512 .f32 × Vec F S4x128x128 .f32

def outA (c : Dev nD) (t : Fin cfg1.N) (h : t.val % 32 = 0) : Outs F :=
  (rd8 (atA V c t h).1, rd9 (atA V c t h).2.1, rd10 (atA V c t h).2.2.1, rd11 (atA V c t h).2.2.2.1, rd12 (atA V c t h).2.2.2.2.1, rd13 (atA V c t h).2.2.2.2.2.1, rdS (atA V c t h).2.2.2.2.2.2.1)
def outB (c : Dev nD) (t : Fin cfg1.N) (h : ¬ t.val % 32 = 0) (xs : Vec F S4x128x128 .f32) : Outs F :=
  (rd8 (atB V c t h xs).1, rd9 (atB V c t h xs).2.1, rd10 (atB V c t h xs).2.2.1, rd11 (atB V c t h xs).2.2.2.1, rd12 (atB V c t h xs).2.2.2.2.1, rd13 (atB V c t h xs).2.2.2.2.2.1, rdS (atB V c t h xs).2.2.2.2.2.2.1)

/-- The same point by point: a point that zeroes the state starts afresh, any other continues from the one before. -/
def outsAt (c : Dev nD) : (n : ℕ) → n < cfg1.N → Outs F
  | 0, hn => outA V c ⟨0, hn⟩ (Nat.zero_mod _)
  | n + 1, hn => if h : (n + 1) % 32 = 0 then outA V c ⟨n + 1, hn⟩ h
      else outB V c ⟨n + 1, hn⟩ h (outsAt c n (Nat.lt_of_succ_lt hn)).2.2.2.2.2.2

theorem outsAt_A (c : Dev nD) (t : Fin cfg1.N) (h : t.val % 32 = 0) : outsAt V c t.val t.isLt = outA V c t h := by
  obtain ⟨n, hn⟩ := t
  cases n with
  | zero => rfl
  | succ n => exact dif_pos h

theorem outsAt_B (c : Dev nD) (t : Fin cfg1.N) (h : ¬ t.val % 32 = 0) :
    outsAt V c t.val t.isLt = outB V c t h (outsAt V c (t.val - 1) (Nat.lt_of_le_of_lt (Nat.sub_le _ _) t.isLt)).2.2.2.2.2.2 := by
  obtain ⟨n, hn⟩ := t
  cases n with
  | zero => exact absurd (Nat.zero_mod _) h
  | succ n => exact dif_neg h

/-! The pieces cover their blocks. -/

theorem coverA_8 (c : Dev nD) (t : Fin cfg1.N) (h : t.val % 32 = 0) (y : S512x512.Idx) : ∃ pc ∈ (atA V c t h).1, y ∈ pc.1.set :=
  View.cover_of_tiledL (atA V c t h).1 S64x128.size (by sl_kernel_rfl) y
theorem coverA_9 (c : Dev nD) (t : Fin cfg1.N) (h : t.val % 32 = 0) (y : S512x512.Idx) : ∃ pc ∈ (atA V c t h).2.1, y ∈ pc.1.set :=
  View.cover_of_tiledL (atA V c t h).2.1 S64x128.size (by sl_kernel_rfl) y
theorem coverA_10 (c : Dev nD) (t : Fin cfg1.N) (h : t.val % 32 = 0) (y : S512x512.Idx) : ∃ pc ∈ (atA V c t h).2.2.1, y ∈ pc.1.set :=
  View.cover_of_tiledL (atA V c t h).2.2.1 S64x128.size (by sl_kernel_rfl) y
theorem coverA_11 (c : Dev nD) (t : Fin cfg1.N) (h : t.val % 32 = 0) (y : S512x512.Idx) : ∃ pc ∈ (atA V c t h).2.2.2.1, y ∈ pc.1.set :=
  View.cover_of_tiledL (atA V c t h).2.2.2.1 S64x128.size (by sl_kernel_rfl) y
theorem coverA_12 (c : Dev nD) (t : Fin cfg1.N) (h : t.val % 32 = 0) (y : S4x512x64.Idx) : ∃ pc ∈ (atA V c t h).2.2.2.2.1, y ∈ pc.1.set :=
  View.cover_of_tiledL (atA V c t h).2.2.2.2.1 S1x64x64.size (by sl_kernel_rfl) y
theorem coverA_13 (c : Dev nD) (t : Fin cfg1.N) (h : t.val % 32 = 0) (y : S8x512.Idx) : ∃ pc ∈ (atA V c t h).2.2.2.2.2.1, y ∈ pc.1.set :=
  View.cover_of_tiledL (atA V c t h).2.2.2.2.2.1 S1x128.size (by sl_kernel_rfl) y
theorem coverA_S (c : Dev nD) (t : Fin cfg1.N) (h : t.val % 32 = 0) (y : S4x128x128.Idx) : ∃ pc ∈ (atA V c t h).2.2.2.2.2.2.1, y ∈ pc.1.set :=
  View.cover_of_wholeMem (atA V c t h).2.2.2.2.2.2.1 (by sl_whole_mem) y
theorem coverB_8 (c : Dev nD) (t : Fin cfg1.N) (h : ¬ t.val % 32 = 0) (xs : Vec F S4x128x128 .f32) (y : S512x512.Idx) : ∃ pc ∈ (atB V c t h xs).1, y ∈ pc.1.set :=
  View.cover_of_tiledL (atB V c t h xs).1 S64x128.size (by sl_kernel_rfl) y
theorem coverB_9 (c : Dev nD) (t : Fin cfg1.N) (h : ¬ t.val % 32 = 0) (xs : Vec F S4x128x128 .f32) (y : S512x512.Idx) : ∃ pc ∈ (atB V c t h xs).2.1, y ∈ pc.1.set :=
  View.cover_of_tiledL (atB V c t h xs).2.1 S64x128.size (by sl_kernel_rfl) y
theorem coverB_10 (c : Dev nD) (t : Fin cfg1.N) (h : ¬ t.val % 32 = 0) (xs : Vec F S4x128x128 .f32) (y : S512x512.Idx) : ∃ pc ∈ (atB V c t h xs).2.2.1, y ∈ pc.1.set :=
  View.cover_of_tiledL (atB V c t h xs).2.2.1 S64x128.size (by sl_kernel_rfl) y
theorem coverB_11 (c : Dev nD) (t : Fin cfg1.N) (h : ¬ t.val % 32 = 0) (xs : Vec F S4x128x128 .f32) (y : S512x512.Idx) : ∃ pc ∈ (atB V c t h xs).2.2.2.1, y ∈ pc.1.set :=
  View.cover_of_tiledL (atB V c t h xs).2.2.2.1 S64x128.size (by sl_kernel_rfl) y
theorem coverB_12 (c : Dev nD) (t : Fin cfg1.N) (h : ¬ t.val % 32 = 0) (xs : Vec F S4x128x128 .f32) (y : S4x512x64.Idx) : ∃ pc ∈ (atB V c t h xs).2.2.2.2.1, y ∈ pc.1.set :=
  View.cover_of_tiledL (atB V c t h xs).2.2.2.2.1 S1x64x64.size (by sl_kernel_rfl) y
theorem coverB_13 (c : Dev nD) (t : Fin cfg1.N) (h : ¬ t.val % 32 = 0) (xs : Vec F S4x128x128 .f32) (y : S8x512.Idx) : ∃ pc ∈ (atB V c t h xs).2.2.2.2.2.1, y ∈ pc.1.set :=
  View.cover_of_tiledL (atB V c t h xs).2.2.2.2.2.1 S1x128.size (by sl_kernel_rfl) y
theorem coverB_S (c : Dev nD) (t : Fin cfg1.N) (h : ¬ t.val % 32 = 0) (xs : Vec F S4x128x128 .f32) (y : S4x128x128.Idx) : ∃ pc ∈ (atB V c t h xs).2.2.2.2.2.2.1, y ∈ pc.1.set :=
  View.cover_of_tiledL (atB V c t h xs).2.2.2.2.2.2.1 S1x128x128.size (by sl_kernel_rfl) y

/-! The pipeline's proof data. -/

/-- Before the first point the scratch holds anything; after a point it holds what the point left. -/
def inv (c : Dev nD) : (n : ℕ) → n ≤ cfg1.N → sProp 𝕄
  | 0, _ => Pipeline.scopedRest spec1 c
  | n + 1, hn => iprop(owns (c : Thread nD τ) sc fullShare (outsAt V c n hn).2.2.2.2.2.2 ∗ Pipeline.scopedRestBut spec1 c [cc1_scratch0])

theorem inv_zero (c : Dev nD) (n : ℕ) (h : n ≤ cfg1.N) (hz : n = 0) : inv V c n h = Pipeline.scopedRest spec1 c := by
  subst hz; rfl
theorem inv_succ (c : Dev nD) (n : ℕ) (hn : n < cfg1.N) :
    inv V c (n + 1) hn = iprop(owns (c : Thread nD τ) sc fullShare (outsAt V c n hn).2.2.2.2.2.2 ∗ Pipeline.scopedRestBut spec1 c [cc1_scratch0]) := rfl
theorem inv_pos (c : Dev nD) (n : ℕ) (h : n ≤ cfg1.N) (hz : n ≠ 0) :
    inv V c n h = iprop(owns (c : Thread nD τ) sc fullShare (outsAt V c (n - 1) (by omega)).2.2.2.2.2.2 ∗ Pipeline.scopedRestBut spec1 c [cc1_scratch0]) := by
  cases n with
  | zero => exact absurd rfl hz
  | succ n => rfl

/-- The arrays as the call finds them; after the body each input's buffer at its block, the outputs' at `outsAt`. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => (outsAt V c t.val t.isLt).1
    | ⟨9, _⟩ => (outsAt V c t.val t.isLt).2.1
    | ⟨10, _⟩ => (outsAt V c t.val t.isLt).2.2.1
    | ⟨11, _⟩ => (outsAt V c t.val t.isLt).2.2.2.1
    | ⟨12, _⟩ => (outsAt V c t.val t.isLt).2.2.2.2.1
    | ⟨13, _⟩ => (outsAt V c t.val t.isLt).2.2.2.2.2.1
  Φ t := inv V c t.val (Nat.le_of_lt_succ t.isLt)
  q _ := fullShare
  owed _ := 0

theorem A_eq (c : Dev nD) (w : Fin cfg1.W) : (dat V c).A w = V c (Pipeline.arrRef spec1 w) := by dsimp only [dat]
theorem inv_castSucc (c : Dev nD) (t : Fin cfg1.N) : (dat V c).Φ t.castSucc = inv V c t.val (Nat.le_of_lt t.isLt) := by
  dsimp only [dat]; exact Pipeline.Dat.Φ_castSucc (inv V c) t

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = iblk V c 4 t := by dsimp only [dat]
theorem after5 (c : Dev nD) (t : Fin cfg1.N) : (dat V c).after 5 t = iblk V c 5 t := by dsimp only [dat]
theorem after6 (c : Dev nD) (t : Fin cfg1.N) : (dat V c).after 6 t = iblk V c 6 t := by dsimp only [dat]
theorem after7 (c : Dev nD) (t : Fin cfg1.N) : (dat V c).after 7 t = iblk V c 7 t := by dsimp only [dat]
theorem after8 (c : Dev nD) (t : Fin cfg1.N) : (dat V c).after 8 t = (outsAt V c t.val t.isLt).1 := by dsimp only [dat]
theorem after9 (c : Dev nD) (t : Fin cfg1.N) : (dat V c).after 9 t = (outsAt V c t.val t.isLt).2.1 := by dsimp only [dat]
theorem after10 (c : Dev nD) (t : Fin cfg1.N) : (dat V c).after 10 t = (outsAt V c t.val t.isLt).2.2.1 := by dsimp only [dat]
theorem after11 (c : Dev nD) (t : Fin cfg1.N) : (dat V c).after 11 t = (outsAt V c t.val t.isLt).2.2.2.1 := by dsimp only [dat]
theorem after12 (c : Dev nD) (t : Fin cfg1.N) : (dat V c).after 12 t = (outsAt V c t.val t.isLt).2.2.2.2.1 := by dsimp only [dat]
theorem after13 (c : Dev nD) (t : Fin cfg1.N) : (dat V c).after 13 t = (outsAt V c t.val t.isLt).2.2.2.2.2.1 := by dsimp only [dat]

/-! Each input's staging buffer holds its block when the body runs. -/

theorem before0 (c : Dev nD) (t : Fin cfg1.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg1.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg1.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg1.N) (d) : (dat V c).before 3 t d = iblk V c 3 t :=
  ((dat V c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg1.N) (d) : (dat V c).before 4 t d = iblk V c 4 t :=
  ((dat V c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg1.N) (d) : (dat V c).before 5 t d = iblk V c 5 t :=
  ((dat V c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (c : Dev nD) (t : Fin cfg1.N) (d) : (dat V c).before 6 t d = iblk V c 6 t :=
  ((dat V c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)
theorem before7 (c : Dev nD) (t : Fin cfg1.N) (d) : (dat V c).before 7 t d = iblk V c 7 t :=
  ((dat V c).before_in_eq_fetched 7 rfl (fun _ => rfl) (fun _ _ _ => rfl) (fun t => by rw [after7]; unfold Dat.blockOf iblk; rw [A_eq]; try rfl) t d).trans
    (by unfold Dat.fetched Dat.blockOf iblk; rw [A_eq]; try rfl)

/-! The body obligation at any point. -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d))
    ∗ (∃ d, owns (c : Thread nD τ) (ms9 t) fullShare ((dat V c).before 9 t d))
    ∗ (∃ d, owns (c : Thread nD τ) (ms10 t) fullShare ((dat V c).before 10 t d))
    ∗ (∃ d, owns (c : Thread nD τ) (ms11 t) fullShare ((dat V c).before 11 t d))
    ∗ (∃ d, owns (c : Thread nD τ) (ms12 t) fullShare ((dat V c).before 12 t d))
    ∗ (∃ d, owns (c : Thread nD τ) (ms13 t) fullShare ((dat V c).before 13 t d)))

def bodyPost (c : Dev nD) (t : Fin cfg1.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t)
    ∗ owns (c : Thread nD τ) (ms5 t) fullShare ((dat V c).after 5 t)
    ∗ owns (c : Thread nD τ) (ms6 t) fullShare ((dat V c).after 6 t)
    ∗ owns (c : Thread nD τ) (ms7 t) fullShare ((dat V c).after 7 t)
    ∗ owns (c : Thread nD τ) (ms8 t) fullShare ((dat V c).after 8 t)
    ∗ owns (c : Thread nD τ) (ms9 t) fullShare ((dat V c).after 9 t)
    ∗ owns (c : Thread nD τ) (ms10 t) fullShare ((dat V c).after 10 t)
    ∗ owns (c : Thread nD τ) (ms11 t) fullShare ((dat V c).after 11 t)
    ∗ owns (c : Thread nD τ) (ms12 t) fullShare ((dat V c).after 12 t)
    ∗ owns (c : Thread nD τ) (ms13 t) fullShare ((dat V c).after 13 t))

set_option maxHeartbeats 8000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, before5, before6, before7]
  rw [show (dat V c).owesAt () t.succ = (dat V c).owesAt () t.castSucc from rfl,
    after0, after1, after2, after3, after4, after5, after6, after7, after8, after9, after10, after11, after12, after13]
  rw [show (dat V c).Φ t.succ = inv V c (t.val + 1) t.isLt from rfl, inv_succ]
  by_cases h : t.val % 32 = 0
  · have hS : (dat V c).Φ t.castSucc ⊢ iprop((∃ d, owns (c : Thread nD τ) sc fullShare d) ∗ Pipeline.scopedRestBut spec1 c [cc1_scratch0]) := by
      rw [inv_castSucc V c t]
      by_cases hz : t.val = 0
      · rw [inv_zero V c _ _ hz, rest_eq]
      · rw [inv_pos V c _ _ hz]
        iintro ⟨HS, Hr⟩
        isplitl [HS]; · iexists _; iexact HS
        iexact Hr
    refine (sep_mono_left hS).trans ?_
    rw [outsAt_A V c t h]
    unfold outA; dsimp only
    iintro ⟨⟨HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((atA V c t h).2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [HS]; · iexact HS
    iintro ⟨H0, H1, H2, H3, H4, H5, H6, H7, ⟨%e8, H8⟩, ⟨%e9, H9⟩, ⟨%e10, H10⟩, ⟨%e11, H11⟩, ⟨%e12, H12⟩, ⟨%e13, H13⟩, ⟨%es, HS⟩⟩
    isplitl [HS Hr]
    · isplitl [HS]
      · unfold owns; iexists _; isplitr
        swap; · iexact HS
        ipureintro; exact View.read_writes_of_cover _ _ _ _ _ (coverA_S V c t h)
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (coverA_8 V c t h)
    isplitl [H9]
    · unfold owns; iexists _; isplitr
      swap; · iexact H9
      ipureintro; exact View.read_writes_of_cover _ _ _ _ _ (coverA_9 V c t h)
    isplitl [H10]
    · unfold owns; iexists _; isplitr
      swap; · iexact H10
      ipureintro; exact View.read_writes_of_cover _ _ _ _ _ (coverA_10 V c t h)
    isplitl [H11]
    · unfold owns; iexists _; isplitr
      swap; · iexact H11
      ipureintro; exact View.read_writes_of_cover _ _ _ _ _ (coverA_11 V c t h)
    isplitl [H12]
    · unfold owns; iexists _; isplitr
      swap; · iexact H12
      ipureintro; exact View.read_writes_of_cover _ _ _ _ _ (coverA_12 V c t h)
    unfold owns; iexists _; isplitr
    swap; · iexact H13
    ipureintro; exact View.read_writes_of_cover _ _ _ _ _ (coverA_13 V c t h)
  · have hz : t.val ≠ 0 := fun e => h (by rw [e])
    rw [inv_castSucc V c t, inv_pos V c _ _ hz]
    rw [outsAt_B V c t h]
    unfold outB; dsimp only
    iintro ⟨⟨HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((atB V c t h _).2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [HS]; · iexact HS
    iintro ⟨H0, H1, H2, H3, H4, H5, H6, H7, ⟨%e8, H8⟩, ⟨%e9, H9⟩, ⟨%e10, H10⟩, ⟨%e11, H11⟩, ⟨%e12, H12⟩, ⟨%e13, H13⟩, ⟨%es, HS⟩⟩
    isplitl [HS Hr]
    · isplitl [HS]
      · unfold owns; iexists _; isplitr
        swap; · iexact HS
        ipureintro; exact View.read_writes_of_cover _ _ _ _ _ (coverB_S V c t h _)
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (coverB_8 V c t h _)
    isplitl [H9]
    · unfold owns; iexists _; isplitr
      swap; · iexact H9
      ipureintro; exact View.read_writes_of_cover _ _ _ _ _ (coverB_9 V c t h _)
    isplitl [H10]
    · unfold owns; iexists _; isplitr
      swap; · iexact H10
      ipureintro; exact View.read_writes_of_cover _ _ _ _ _ (coverB_10 V c t h _)
    isplitl [H11]
    · unfold owns; iexists _; isplitr
      swap; · iexact H11
      ipureintro; exact View.read_writes_of_cover _ _ _ _ _ (coverB_11 V c t h _)
    isplitl [H12]
    · unfold owns; iexists _; isplitr
      swap; · iexact H12
      ipureintro; exact View.read_writes_of_cover _ _ _ _ _ (coverB_12 V c t h _)
    unfold owns; iexists _; isplitr
    swap; · iexact H13
    ipureintro; exact View.read_writes_of_cover _ _ _ _ _ (coverB_13 V c t h _)

theorem defs₀_row (t : Fin cfg1.N) : defs₀ (F := F) .tc cfg1.body (cfg1.bodyArgs t (cfg1.slots t)) = bodyAt1 t := by
  unfold defs₀; rw [Defs.onTc_tc]

set_option maxHeartbeats 4000000 in
theorem body_obligation (c : Dev nD) : BodyObligation (dat V c) (defs₀ (F := F)) Variants.none () Set.univ := fun t => by
  rw [bigSep_W1, bigSep_W1, defs₀_row]
  exact triple_restated (sound_body V c t) rfl .rfl fun _ => .rfl

theorem hin (c : Dev nD) : iprop(Pipeline.scopedRest spec1 c ∗ emp) ⊢ (dat V c).Φ 0 := by
  rw [show (dat V c).Φ 0 = inv V c 0 (Nat.zero_le _) from rfl, inv_zero V c 0 _ rfl]
  iintro ⟨H, -⟩; iexact H

theorem hout (c : Dev nD) : (dat V c).Φ (Fin.last cfg1.N) ⊢ iprop(Pipeline.scopedRest spec1 c ∗ emp) := by
  rw [show (dat V c).Φ (Fin.last cfg1.N) = inv V c (Fin.last cfg1.N).val (Nat.le_of_lt_succ (Fin.last cfg1.N).isLt) from by dsimp only [dat],
    inv_pos V c _ _ (by rw [Fin.val_last]; have : cfg1.N = 64 := N_1; omega), rest_eq]
  iintro ⟨HS, Hr⟩
  isplitl [HS Hr]
  · isplitl [HS]; · iexists _; iexact HS
    iexact Hr
  iempintro

end Cert.Proof.Bwd

end
-- ==== Proof.KernelRun.lean ====
module

public import proofs.«01_k».proof.Proof.FwdData
public import proofs.«01_k».proof.Proof.BwdData
public import proofs.«01_k».proof.Proof.Gen.KernelIdeal.Regions
public import Idealize.ShloMosaic.Lib.Pipeline.RegionArraysS

@[expose] public section

set_option maxRecDepth 16384

noncomputable section

namespace Cert.Proof.KernelRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ (UR sig nD τ) ℕ

/-! The buffers' contents between the items of the program: at launch, after the host line, after the forward call, after
    the backward call. -/

variable (m : (ℓ : Loc nD τ sig) → Buf (Elt F) ℓ)

def W0 (c : Dev nD) : Valuation τ sig (Elt F) := StableHlo.launchContents m c
def W1 (c : Dev nD) : Valuation τ sig (Elt F) := StableHlo.after hostOps0 (W0 m c)
def W2 (c : Dev nD) : Valuation τ sig (Elt F) := Pipeline.afterRegion (Fwd.dat (W1 m) c) (W1 m c)
def W3 (c : Dev nD) : Valuation τ sig (Elt F) := Pipeline.afterRegion (Bwd.dat (W2 m) c) (W2 m c)

/-- Each call's proof data. -/
def dats : (p : Fin 2) → (c : Dev nD) → Dat τ (Elt F) Unit ℕ (UR sig nD τ) ℕ (cfgs p) c
  | 0, c => Fwd.dat (W1 m) c
  | 1, c => Bwd.dat (W2 m) c
  | ⟨_ + 2, h⟩, _ => absurd h (Nat.not_lt.2 (Nat.le_add_left _ _))

/-- Every TensorCore's cells are at one level. -/
def L : GSem nD τ sig → Finset Unit := fun g => if g.1.2 = .tc then {()} else ∅
def lv : GSem nD τ sig → Unit → ℕ := fun _ _ => 0

theorem L_off (g : GSem nD τ sig) (h : g.1.2 ≠ .tc) : L g = ∅ := if_neg h

theorem cut (p : Fin 2) : LevelCut (nD := nD) (τ := τ) (pcfgs (F := F)) adm () L lv p (fun _ => (0 : CellTallies nD τ sig Unit)) (fun _ => 0) where
  hι _ _ _ := by unfold L; rw [if_pos rfl]; exact Finset.mem_singleton.mpr rfl
  hιb _ _ _ := le_rfl
  hD _ _ _ h := absurd h (Nat.lt_irrefl 0)

/-- What a core owes, between any two items. -/
def owe (c : Dev nD) : sProp 𝕄 := iprop((∃ Wd, owes (c : Thread nD τ) (0 : CellTallies nD τ sig Unit) Wd) ∗ iprop(emp) ∗ iprop(emp))

def R0 : RegionSeg (pcfgs (F := F)) adm (dats m) () defs₀ Variants.none L lv 0 :=
  RegionSeg.ofHeldIn (pcfgs (F := F)) adm (dats m) () defs₀ Variants.none L lv 0 (fun _ => 0) (ucRefs τ sig) (fun _ => iprop(emp)) (fun _ => iprop(emp))
    launch0.toP rfl (fun c => (Fwd.body_obligation (W1 m) c).loose) (fun _ _ => rfl) (fun _ => rfl)
    (fun c => (Fwd.dat (W1 m) c).share_full fun _ => rfl) (Fwd.hin (W1 m)) (Fwd.hout (W1 m)) (fun _ => 0) (cut 0) (fun _ => iprop(emp)) (W1 m) (fun _ _ => rfl)

set_option maxHeartbeats 4000000 in
def R1 : RegionSeg (pcfgs (F := F)) adm (dats m) () defs₀ Variants.none L lv 1 :=
  RegionSeg.ofHeldIn (pcfgs (F := F)) adm (dats m) () defs₀ Variants.none L lv 1 (fun _ => 0) (ucRefs τ sig) (fun _ => iprop(emp)) (fun _ => iprop(emp))
    launch1.toP rfl (fun c => (Bwd.body_obligation (W2 m) c).loose) (fun _ _ => rfl) (fun _ => rfl)
    (fun c => (Bwd.dat (W2 m) c).share_full fun _ => rfl) (Bwd.hin (W2 m)) (Bwd.hout (W2 m)) (fun _ => 0) (cut 1) (fun _ => iprop(emp)) (W2 m) (fun _ _ => rfl)

def H0 : HostSeg (Name := ℕ) (U := UR sig nD τ) (pcfgs (F := F)) defs₀ Variants.none L lv :=
  HostSeg.ofOps (pcfgs (F := F)) defs₀ Variants.none L lv (ucRefs τ sig) hostOps0
    (fun op h => sub_ucRefs op ((List.forall_iff_forall_mem.mp hostOps0_sub) op h)) (List.forall_iff_forall_mem.mp hostOps0_fresh) (W0 m) owe

def segs (c : Dev nD) : List (Seg (pcfgs (F := F)) adm (dats m) () defs₀ Variants.none L lv) := [.host (H0 m), .region (R0 m), .region (R1 m)]

theorem sub0 : arrRefs (τ := τ) (pcfgs (F := F) 0).spec ⊆ ucRefs τ sig := arrRefs_sub_ucRefs _ launch0.win.arr_unscoped
theorem sub1 : arrRefs (τ := τ) (pcfgs (F := F) 1).spec ⊆ ucRefs τ sig := arrRefs_sub_ucRefs _ launch1.win.arr_unscoped

/-! Each call is entered from all the unscoped buffers and left with them. -/

theorem pre0 (c : Dev nD) : iprop(StableHlo.held (c.tc : Thread nD τ) (ucRefs τ sig) (W1 m c) ∗ owe c) ⊢ (R0 m).pre c := by
  unfold owe R0;
  exact RegionSeg.ofHeldIn_pre (pcs := pcfgs (F := F)) (a := adm) (pdats := dats m) (ι := ()) (defs₀ := defs₀) (𝒱₀ := Variants.none) (L := L) (lv := lv)
    (p := 0) (D := fun _ => 0) (b := fun _ => 0) (W := W1 m) (X := fun _ => iprop(emp)) (R := fun _ => iprop(emp)) sub0 c
theorem post0 (c : Dev nD) : (R0 m).post c ⊢ iprop(StableHlo.held (c.tc : Thread nD τ) (ucRefs τ sig) (W2 m c) ∗ owe c) := RegionSeg.ofHeldIn_post sub0 c
theorem pre1 (c : Dev nD) : iprop(StableHlo.held (c.tc : Thread nD τ) (ucRefs τ sig) (W2 m c) ∗ owe c) ⊢ (R1 m).pre c := by
  unfold owe R1;
  exact RegionSeg.ofHeldIn_pre (pcs := pcfgs (F := F)) (a := adm) (pdats := dats m) (ι := ()) (defs₀ := defs₀) (𝒱₀ := Variants.none) (L := L) (lv := lv)
    (p := 1) (D := fun _ => 0) (b := fun _ => 0) (W := W2 m) (X := fun _ => iprop(emp)) (R := fun _ => iprop(emp)) sub1 c
theorem post1 (c : Dev nD) : (R1 m).post c ⊢ iprop(StableHlo.held (c.tc : Thread nD τ) (ucRefs τ sig) (W3 m c) ∗ owe c) := RegionSeg.ofHeldIn_post sub1 c
theorem owe_drop (c : Dev nD) : (owe c : sProp 𝕄) ⊢ iprop(∃ W, owes (c : Thread nD τ) (0 : CellTallies nD τ sig Unit) W) := by
  unfold owe; iintro ⟨H, -, -⟩; iexact H

set_option maxHeartbeats 4000000 in
set_option backward.isDefEq.respectTransparency.types false in
/-- Every fair run of the two calls ends, with the counters at zero and every unscoped buffer at its contents after the
    backward call. -/
theorem run_main (ρ : Dev nD → PrngReg) :
    θ_run defs (onTc (τ := τ) (main (F := F))) ⟨m, fun _ => 0, ρ⟩ fun r =>
      (∀ (c : Dev nD) (b : Ref sig .tc), b.isScoped = false → r.2.mem ((c.tc : Thread nD τ).loc b) = W3 m c (Proc.devRef .tc b))
      ∧ r.2.sem = fun _ => 0 := by
  refine Pipeline.θ_run_regions_kit_dev_sems (pcfgs (F := F)) adm (dats m) () cellOf_inj emb₁ defs₀ Variants.none L lv m ρ main (segs m)
    (fun c Q => by
      rewrite [main_chain c, Seg.run_eq_chain,
        show (segs m c).map Seg.prog = [
          StableHlo.seq hostOps0,
          Prog.lift (.customCall (Pipeline.entry 0) ()),
          Prog.lift (.customCall (Pipeline.entry 1) ()) ] from rfl]
      exact .rfl)
    (fun c => by simp only [segs, Seg.pipes_host, Seg.pipes_region, Seg.pipes_nil]; decide) (O₀ := 0) (hL := L_off)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ owe c))
    (Tₙ := fun c => StableHlo.held (c : Thread nD τ) (Pipeline.ucRefs τ sig) (W3 m c))
    (hch := fun c => ⟨.rfl, pre0 m c, (post0 m c).trans (pre1 m c), (post1 m c).trans (sep_mono .rfl (owe_drop c))⟩)
    (hinit := by
      refine initEach L lv fun c => ?_
      rw [show unscopedBufs c (fun b => m ((c.tc : Thread nD τ).loc b)) = StableHlo.held (c.tc : Thread nD τ) (ucRefs τ sig) (W0 m c)
          from unscopedBufs_held (Ix := Unit) (Name := ℕ) (U := UR sig nD τ) (Lvl := ℕ) c (W0 m c)]
      iintro ⟨⟨Hh, -, HO, -, -, -⟩, -⟩
      imodintro
      isplitl [Hh]; · iexact Hh
      unfold owe
      isplitl [HO]; · iexists _; iexact HO
      isplitl []; · iempintro
      iempintro)
    (QY := fun c s => ∀ b ∈ ucRefs τ sig, s.mem ((c.tc : Thread nD τ).1, b) = W3 m c b)
    (hfin := fun c s' => by
      unfold StableHlo.held
      iintro ⟨Hh, HSI⟩
      ihave Hr := (pointsTo_read_all (ucRefs τ sig) (fun b => ((c.tc : Thread nD τ).1, b)) (W3 m c) s') $$ [Hh HSI]
      · isplitl [Hh] <;> iassumption
      imodintro; iexact Hr)
    (hQ := fun _ h hz => ⟨fun c b hb => h c (Proc.devRef .tc b) (devRef_mem_ucRefs hb), funext fun g => hz g (.inr (regions_no_unscoped g.2))⟩)

/-- An argument ends as it was launched. -/
theorem W3_arg (c : Dev nD) (b : Ref sig .tc) (h1 : ∀ w, arrRef spec1 w = b → (cfg1.win w).isOut = false)
    (h0 : ∀ w, arrRef spec0 w = b → (cfg0.win w).isOut = false) (hw : b ∉ hostOps0_W) :
    W3 m c (Proc.devRef .tc b) = m ((c.tc : Thread nD τ).loc b) := by
  unfold W3
  rw [afterRegion_keeps (Bwd.dat (W2 m) c) (W2 m c) launch1.win.arr_inj (fun _ => rfl) b h1]
  unfold W2
  rw [afterRegion_keeps (Fwd.dat (W1 m) c) (W1 m c) launch0.win.arr_inj (fun _ => rfl) b h0]
  exact StableHlo.after_of_writes_sub hostOps0 _ hostOps0_writes hw

end Cert.Proof.KernelRun

end
-- ==== Proof.RefOps.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead

@[expose] public section

noncomputable section

namespace Cert.Proof.Ref

open Cert.ReferenceIdeal Cert.ReferenceIdeal.Gen
open Idealize.ShloMosaic Idealize.ShloMosaic.TcCoe Idealize.ShloMosaic.Tactic
open Idealize.SL Idealize.SL.Sem
open Idealize.ShloMosaic.StableHlo

/-! The operations of the reference, stretch by stretch: what each stretch writes, and the program and its two loop
bodies as chains of stretches. -/

/-- A float array of the program, an integer array, and a float array's contents. -/
abbrev RF (S : Shape) := TRef sig ⟨S, .f32⟩
abbrev RI (S : Shape) := TRef sig ⟨S, .i32⟩
abbrev CF (F : FTy → Type) (S : Shape) := (⟨S, .f32⟩ : BufTy).Contents (Elt F)

variable {F : FTy → Type} [FloatOps F]

/-- An integer zero written to `r`, and a slice's start read from integer scalars. -/
abbrev zero (r : RI S_) : HloOp τ sig (Elt F) := TRef.nullary r (constantI S_ 32 0#32)
abbrev start {n : Nat} (i : Fin n → IVec S_ 32) (k : Fin n) : Int := (i k (Shape.Idx.first h_S_)).toInt

/-! A stretch's operations are of the program's buffers, none leaves anything fresh, they write `W` only, and keep the rest. -/

abbrev Subs (ops : List (HloOp τ sig (Elt F))) : Prop := ops.Forall fun op => op.bufs ⊆ tcRefs τ sig
abbrev Fresh (ops : List (HloOp τ sig (Elt F))) : Prop := ops.Forall fun op => op.fresh = ∅
abbrev Writes (ops : List (HloOp τ sig (Elt F))) (W : List (Ref sig .tc)) : Prop := ops.Forall fun op => op.writes ⊆ (W.map (Proc.devRef (τ := τ) .tc)).toFinset
abbrev Keeps (ops : List (HloOp τ sig (Elt F))) (W : List (Ref sig .tc)) : Prop :=
  ∀ (V : Valuation τ sig (Elt F)) (b : Ref sig .tc) (_ : b ∉ W := by decide +kernel), after ops V (Proc.devRef .tc b) = V (Proc.devRef .tc b)

theorem keeps {ops : List (HloOp τ sig (Elt F))} {W : List (Ref sig .tc)} (hw : Writes ops W) (V : Valuation τ sig (Elt F)) (b : Ref sig .tc)
    (h : b ∉ W) : after ops V (Proc.devRef .tc b) = V (Proc.devRef .tc b) :=
  after_of_writes_sub ops V hw h

theorem plain {ops : List (HloOp τ sig (Elt F))} {rest : List (List (HloOp τ sig (Elt F)))} (hs : Subs ops) (h : Plain rest)
    (hf : Fresh ops := by exact forall_fresh_of_map rfl) : Plain (ops :: rest) :=
  .cons hs h (hf := List.forall_iff_forall_mem.mp hf)

/-- One block of `x`, and `x` with one block replaced. -/
abbrev sliceOf {S T : Shape} (x : RF S) (i : Fin S.rank → RI S_) (y : RF T) (h : S.Slices (fun _ => 0) T) : HloOp τ sig (Elt F) :=
  TRef.unaryIndexed x i y (fun x i => Host.dynamicSlice T x (start i) h)
abbrev updateOf {S T : Shape} (x : RF S) (u : RF T) (i : Fin S.rank → RI S_) (y : RF S) (h : S.Slices (fun _ => 0) T) : HloOp τ sig (Elt F) :=
  TRef.binaryIndexed x u i y (fun x u i => Host.dynamicUpdateSlice x u (start i) h)

/-- The call call0. -/
abbrev fwd0 : List (HloOp τ sig (Elt F)) :=
  ( zero (.of main_while0b_call0_c)
  :: zero (.of main_while0b_call0_c_0)
  :: zero (.of main_while0b_call0_c_1)
  :: zero (.of main_while0b_call0_c_2)
  :: sliceOf (.of main_v21_0 : RF S256x1x8x64x128) ![.of main_v21_6, .of main_while0b_call0_c, .of main_while0b_call0_c_0, .of main_while0b_call0_c_1, .of main_while0b_call0_c_2] (.of main_while0b_call0_v0 : RF S1x1x8x64x128) sliceFits_S256x1x8x64x128_S1x1x8x64x128
  :: TRef.reshape (.of main_while0b_call0_v0 : RF S1x1x8x64x128) (.of main_while0b_v53 : RF S1x8x64x128) rfl shapeCasts_S1x1x8x64x128_S1x8x64x128
  :: [] )

abbrev fwd0_W : List (Ref sig .tc) := [main_while0b_call0_c, main_while0b_call0_c_0, main_while0b_call0_c_1, main_while0b_call0_c_2, main_while0b_call0_v0, main_while0b_v53]
theorem fwd0_writes : Writes (F := F) fwd0 fwd0_W := forall_writes_sub_of_map rfl
theorem fwd0_keep : Keeps (F := F) fwd0 fwd0_W := keeps fwd0_writes

/-- The call call1. -/
abbrev fwd1 : List (HloOp τ sig (Elt F)) :=
  ( zero (.of main_while0b_call1_c)
  :: zero (.of main_while0b_call1_c_0)
  :: zero (.of main_while0b_call1_c_1)
  :: zero (.of main_while0b_call1_c_2)
  :: sliceOf (.of main_v21_1 : RF S256x1x8x64x128) ![.of main_v21_6, .of main_while0b_call1_c, .of main_while0b_call1_c_0, .of main_while0b_call1_c_1, .of main_while0b_call1_c_2] (.of main_while0b_call1_v0 : RF S1x1x8x64x128) sliceFits_S256x1x8x64x128_S1x1x8x64x128
  :: TRef.reshape (.of main_while0b_call1_v0 : RF S1x1x8x64x128) (.of main_while0b_v54 : RF S1x8x64x128) rfl shapeCasts_S1x1x8x64x128_S1x8x64x128
  :: [] )

abbrev fwd1_W : List (Ref sig .tc) := [main_while0b_call1_c, main_while0b_call1_c_0, main_while0b_call1_c_1, main_while0b_call1_c_2, main_while0b_call1_v0, main_while0b_v54]
theorem fwd1_writes : Writes (F := F) fwd1 fwd1_W := forall_writes_sub_of_map rfl
theorem fwd1_keep : Keeps (F := F) fwd1 fwd1_W := keeps fwd1_writes

/-- The call call2. -/
abbrev fwd2 : List (HloOp τ sig (Elt F)) :=
  ( zero (.of main_while0b_call2_c)
  :: zero (.of main_while0b_call2_c_0)
  :: zero (.of main_while0b_call2_c_1)
  :: zero (.of main_while0b_call2_c_2)
  :: sliceOf (.of main_v21_2 : RF S256x1x8x64x64) ![.of main_v21_6, .of main_while0b_call2_c, .of main_while0b_call2_c_0, .of main_while0b_call2_c_1, .of main_while0b_call2_c_2] (.of main_while0b_call2_v0 : RF S1x1x8x64x64) sliceFits_S256x1x8x64x64_S1x1x8x64x64
  :: TRef.reshape (.of main_while0b_call2_v0 : RF S1x1x8x64x64) (.of main_while0b_v55 : RF S1x8x64x64) rfl shapeCasts_S1x1x8x64x64_S1x8x64x64
  :: [] )

abbrev fwd2_W : List (Ref sig .tc) := [main_while0b_call2_c, main_while0b_call2_c_0, main_while0b_call2_c_1, main_while0b_call2_c_2, main_while0b_call2_v0, main_while0b_v55]
theorem fwd2_writes : Writes (F := F) fwd2 fwd2_W := forall_writes_sub_of_map rfl
theorem fwd2_keep : Keeps (F := F) fwd2 fwd2_W := keeps fwd2_writes

/-- The call call3. -/
abbrev fwd3 : List (HloOp τ sig (Elt F)) :=
  ( zero (.of main_while0b_call3_c)
  :: zero (.of main_while0b_call3_c_0)
  :: zero (.of main_while0b_call3_c_1)
  :: zero (.of main_while0b_call3_c_2)
  :: sliceOf (.of main_v21_3 : RF S256x1x8x64x128) ![.of main_v21_6, .of main_while0b_call3_c, .of main_while0b_call3_c_0, .of main_while0b_call3_c_1, .of main_while0b_call3_c_2] (.of main_while0b_call3_v0 : RF S1x1x8x64x128) sliceFits_S256x1x8x64x128_S1x1x8x64x128
  :: TRef.reshape (.of main_while0b_call3_v0 : RF S1x1x8x64x128) (.of main_while0b_v56 : RF S1x8x64x128) rfl shapeCasts_S1x1x8x64x128_S1x8x64x128
  :: [] )

abbrev fwd3_W : List (Ref sig .tc) := [main_while0b_call3_c, main_while0b_call3_c_0, main_while0b_call3_c_1, main_while0b_call3_c_2, main_while0b_call3_v0, main_while0b_v56]
theorem fwd3_writes : Writes (F := F) fwd3 fwd3_W := forall_writes_sub_of_map rfl
theorem fwd3_keep : Keeps (F := F) fwd3 fwd3_W := keeps fwd3_writes

/-- The call call4. -/
abbrev fwd4 : List (HloOp τ sig (Elt F)) :=
  ( zero (.of main_while0b_call4_c)
  :: zero (.of main_while0b_call4_c_0)
  :: zero (.of main_while0b_call4_c_1)
  :: zero (.of main_while0b_call4_c_2)
  :: sliceOf (.of main_v21_4 : RF S256x1x8x64x128) ![.of main_v21_6, .of main_while0b_call4_c, .of main_while0b_call4_c_0, .of main_while0b_call4_c_1, .of main_while0b_call4_c_2] (.of main_while0b_call4_v0 : RF S1x1x8x64x128) sliceFits_S256x1x8x64x128_S1x1x8x64x128
  :: TRef.reshape (.of main_while0b_call4_v0 : RF S1x1x8x64x128) (.of main_while0b_v57 : RF S1x8x64x128) rfl shapeCasts_S1x1x8x64x128_S1x8x64x128
  :: [] )

abbrev fwd4_W : List (Ref sig .tc) := [main_while0b_call4_c, main_while0b_call4_c_0, main_while0b_call4_c_1, main_while0b_call4_c_2, main_while0b_call4_v0, main_while0b_v57]
theorem fwd4_writes : Writes (F := F) fwd4 fwd4_W := forall_writes_sub_of_map rfl
theorem fwd4_keep : Keeps (F := F) fwd4 fwd4_W := keeps fwd4_writes

/-- The call call5. -/
abbrev fwd5 : List (HloOp τ sig (Elt F)) :=
  ( zero (.of main_while0b_call5_c)
  :: zero (.of main_while0b_call5_c_0)
  :: sliceOf (.of main_v21_5 : RF S256x1x8) ![.of main_v21_6, .of main_while0b_call5_c, .of main_while0b_call5_c_0] (.of main_while0b_call5_v0 : RF S1x1x8) sliceFits_S256x1x8_S1x1x8
  :: TRef.reshape (.of main_while0b_call5_v0 : RF S1x1x8) (.of main_while0b_v58 : RF S1x8) rfl shapeCasts_S1x1x8_S1x8
  :: [] )

abbrev fwd5_W : List (Ref sig .tc) := [main_while0b_call5_c, main_while0b_call5_c_0, main_while0b_call5_v0, main_while0b_v58]
theorem fwd5_writes : Writes (F := F) fwd5 fwd5_W := forall_writes_sub_of_map rfl
theorem fwd5_keep : Keeps (F := F) fwd5 fwd5_W := keeps fwd5_writes

/-- Operations of the block. -/
abbrev fwd6 : List (HloOp τ sig (Elt F)) :=
  ( binary main_while0b_v54 main_v21_7 main_while0b_v59 ((fun l r => Host.dotGeneral dot_S1x8x64x128_S1x8x128x128_S1x8x64x128_3_2_2_3_01_01 none l r) : CF F S1x8x64x128 → CF F S1x8x128x128 → CF F S1x8x64x128)
  :: binary main_while0b_v53 main_while0b_v59 main_while0b_v60 (subf : CF F S1x8x64x128 → CF F S1x8x64x128 → CF F S1x8x64x128)
  :: binary main_while0b_v56 main_v21_7 main_while0b_v61 ((fun l r => Host.dotGeneral dot_S1x8x64x128_S1x8x128x128_S1x8x64x128_3_2_2_3_01_01 none l r) : CF F S1x8x64x128 → CF F S1x8x128x128 → CF F S1x8x64x128)
  :: binary main_while0b_v55 main_while0b_v60 main_while0b_v62 ((fun l r => Host.dotGeneral dot_S1x8x64x64_S1x8x64x128_S1x8x64x128_3_2_2_3_01_01 none l r) : CF F S1x8x64x64 → CF F S1x8x64x128 → CF F S1x8x64x128)
  :: binary main_while0b_v61 main_while0b_v62 main_while0b_v63 (addf : CF F S1x8x64x128 → CF F S1x8x64x128 → CF F S1x8x64x128)
  :: unary main_while0b_v58 main_while0b_v64 (broadcastInDim S1x8x1x1 ![0, 1] bcast_S1x8_S1x8x1x1_0_1 : CF F S1x8 → CF F S1x8x1x1)
  :: unary main_while0b_v64 main_while0b_v65 (broadcastInDim S1x8x128x128 ![0, 1, 2, 3] bcast_S1x8x1x1_S1x8x128x128_0_1_2_3 : CF F S1x8x1x1 → CF F S1x8x128x128)
  :: binary main_while0b_v65 main_v21_7 main_while0b_v66 (mulf : CF F S1x8x128x128 → CF F S1x8x128x128 → CF F S1x8x128x128)
  :: binary main_while0b_v57 main_while0b_v60 main_while0b_v67 ((fun l r => Host.dotGeneral dot_S1x8x64x128_S1x8x64x128_S1x8x128x128_2_2_3_3_01_01 none l r) : CF F S1x8x64x128 → CF F S1x8x64x128 → CF F S1x8x128x128)
  :: binary main_while0b_v66 main_while0b_v67 main_while0b_v68 (addf : CF F S1x8x128x128 → CF F S1x8x128x128 → CF F S1x8x128x128)
  :: [] )

abbrev fwd6_W : List (Ref sig .tc) := [main_while0b_v59, main_while0b_v60, main_while0b_v61, main_while0b_v62, main_while0b_v63, main_while0b_v64, main_while0b_v65, main_while0b_v66, main_while0b_v67, main_while0b_v68]
theorem fwd6_writes : Writes (F := F) fwd6 fwd6_W := forall_writes_sub_of_map rfl
theorem fwd6_keep : Keeps (F := F) fwd6 fwd6_W := keeps fwd6_writes

/-- The call call6. -/
abbrev fwd7 : List (HloOp τ sig (Elt F)) :=
  ( TRef.unary (.of main_while0b_v63 : RF S1x8x64x128) (.of main_while0b_call6_v0 : RF S1x1x8x64x128) (broadcastInDim S1x1x8x64x128 ![1, 2, 3, 4] bcast_S1x8x64x128_S1x1x8x64x128_1_2_3_4)
  :: zero (.of main_while0b_call6_c)
  :: zero (.of main_while0b_call6_c_0)
  :: zero (.of main_while0b_call6_c_1)
  :: zero (.of main_while0b_call6_c_2)
  :: updateOf (.of main_v21_8 : RF S256x1x8x64x128) (.of main_while0b_call6_v0 : RF S1x1x8x64x128) ![.of main_v21_6, .of main_while0b_call6_c, .of main_while0b_call6_c_0, .of main_while0b_call6_c_1, .of main_while0b_call6_c_2] (.of main_while0b_v69) updateFits_S256x1x8x64x128_S1x1x8x64x128
  :: [] )

abbrev fwd7_W : List (Ref sig .tc) := [main_while0b_call6_v0, main_while0b_call6_c, main_while0b_call6_c_0, main_while0b_call6_c_1, main_while0b_call6_c_2, main_while0b_v69]
theorem fwd7_writes : Writes (F := F) fwd7 fwd7_W := forall_writes_sub_of_map rfl
theorem fwd7_keep : Keeps (F := F) fwd7 fwd7_W := keeps fwd7_writes

/-- The call call7. -/
abbrev fwd8 : List (HloOp τ sig (Elt F)) :=
  ( TRef.unary (.of main_v21_7 : RF S1x8x128x128) (.of main_while0b_call7_v0 : RF S1x1x8x128x128) (broadcastInDim S1x1x8x128x128 ![1, 2, 3, 4] bcast_S1x8x128x128_S1x1x8x128x128_1_2_3_4)
  :: zero (.of main_while0b_call7_c)
  :: zero (.of main_while0b_call7_c_0)
  :: zero (.of main_while0b_call7_c_1)
  :: zero (.of main_while0b_call7_c_2)
  :: updateOf (.of main_v21_9 : RF S256x1x8x128x128) (.of main_while0b_call7_v0 : RF S1x1x8x128x128) ![.of main_v21_6, .of main_while0b_call7_c, .of main_while0b_call7_c_0, .of main_while0b_call7_c_1, .of main_while0b_call7_c_2] (.of main_while0b_v70) updateFits_S256x1x8x128x128_S1x1x8x128x128
  :: [] )

abbrev fwd8_W : List (Ref sig .tc) := [main_while0b_call7_v0, main_while0b_call7_c, main_while0b_call7_c_0, main_while0b_call7_c_1, main_while0b_call7_c_2, main_while0b_v70]
theorem fwd8_writes : Writes (F := F) fwd8 fwd8_W := forall_writes_sub_of_map rfl
theorem fwd8_keep : Keeps (F := F) fwd8 fwd8_W := keeps fwd8_writes

/-- The call call8. -/
abbrev fwd9 : List (HloOp τ sig (Elt F)) :=
  ( TRef.unary (.of main_while0b_v60 : RF S1x8x64x128) (.of main_while0b_call8_v0 : RF S1x1x8x64x128) (broadcastInDim S1x1x8x64x128 ![1, 2, 3, 4] bcast_S1x8x64x128_S1x1x8x64x128_1_2_3_4)
  :: zero (.of main_while0b_call8_c)
  :: zero (.of main_while0b_call8_c_0)
  :: zero (.of main_while0b_call8_c_1)
  :: zero (.of main_while0b_call8_c_2)
  :: updateOf (.of main_v21_10 : RF S256x1x8x64x128) (.of main_while0b_call8_v0 : RF S1x1x8x64x128) ![.of main_v21_6, .of main_while0b_call8_c, .of main_while0b_call8_c_0, .of main_while0b_call8_c_1, .of main_while0b_call8_c_2] (.of main_while0b_v71) updateFits_S256x1x8x64x128_S1x1x8x64x128
  :: [] )

abbrev fwd9_W : List (Ref sig .tc) := [main_while0b_call8_v0, main_while0b_call8_c, main_while0b_call8_c_0, main_while0b_call8_c_1, main_while0b_call8_c_2, main_while0b_v71]
theorem fwd9_writes : Writes (F := F) fwd9 fwd9_W := forall_writes_sub_of_map rfl
theorem fwd9_keep : Keeps (F := F) fwd9 fwd9_W := keeps fwd9_writes

/-- The call call9. -/
abbrev fwd10 : List (HloOp τ sig (Elt F)) :=
  ( TRef.unary (.of main_while0b_v64 : RF S1x8x1x1) (.of main_while0b_call9_v0 : RF S1x1x8x1x1) (broadcastInDim S1x1x8x1x1 ![1, 2, 3, 4] bcast_S1x8x1x1_S1x1x8x1x1_1_2_3_4)
  :: zero (.of main_while0b_call9_c)
  :: zero (.of main_while0b_call9_c_0)
  :: zero (.of main_while0b_call9_c_1)
  :: zero (.of main_while0b_call9_c_2)
  :: updateOf (.of main_v21_11 : RF S256x1x8x1x1) (.of main_while0b_call9_v0 : RF S1x1x8x1x1) ![.of main_v21_6, .of main_while0b_call9_c, .of main_while0b_call9_c_0, .of main_while0b_call9_c_1, .of main_while0b_call9_c_2] (.of main_while0b_v72) updateFits_S256x1x8x1x1_S1x1x8x1x1
  :: [] )

abbrev fwd10_W : List (Ref sig .tc) := [main_while0b_call9_v0, main_while0b_call9_c, main_while0b_call9_c_0, main_while0b_call9_c_1, main_while0b_call9_c_2, main_while0b_v72]
theorem fwd10_writes : Writes (F := F) fwd10 fwd10_W := forall_writes_sub_of_map rfl
theorem fwd10_keep : Keeps (F := F) fwd10 fwd10_W := keeps fwd10_writes

/-- Operations of the block. -/
abbrev fwd11 : List (HloOp τ sig (Elt F)) :=
  ( nullary main_while0b_c_30 (constantI S_ 32 1#32)
  :: binary main_v21_6 main_while0b_c_30 main_while0b_v73 (addi : (⟨S_, .i32⟩ : BufTy).Contents (Elt F) → (⟨S_, .i32⟩ : BufTy).Contents (Elt F) → (⟨S_, .i32⟩ : BufTy).Contents (Elt F))
  :: unary main_while0b_v73 main_v21_6 id
  :: unary main_while0b_v68 main_v21_7 id
  :: unary main_while0b_v69 main_v21_8 id
  :: unary main_while0b_v70 main_v21_9 id
  :: unary main_while0b_v71 main_v21_10 id
  :: unary main_while0b_v72 main_v21_11 id
  :: [] )

abbrev fwd11_W : List (Ref sig .tc) := [main_while0b_c_30, main_while0b_v73, main_v21_6, main_v21_7, main_v21_8, main_v21_9, main_v21_10, main_v21_11]
theorem fwd11_writes : Writes (F := F) fwd11 fwd11_W := forall_writes_sub_of_map rfl
theorem fwd11_keep : Keeps (F := F) fwd11 fwd11_W := keeps fwd11_writes

theorem fwd_chain : main_while0_body (F := F) = (Pipeline.chain
  [ seq fwd0,
    seq fwd1,
    seq fwd2,
    seq fwd3,
    seq fwd4,
    seq fwd5,
    seq fwd6,
    seq fwd7,
    seq fwd8,
    seq fwd9,
    seq fwd10,
    seq fwd11 ] : Prog (TpuEff nD τ sig (Elt F) (HostLoop.Sig (Pipeline.Sig Λ₀ (Fin 0) fun p => (pcfgs (F := F) p).Adm) 2) .tc) PUnit) := by
  rewrite [Pipeline.chain_cons, Pipeline.chain_cons, Pipeline.chain_cons, Pipeline.chain_cons, Pipeline.chain_cons, Pipeline.chain_cons, chain_seq_cons, Pipeline.chain_cons, Pipeline.chain_cons, Pipeline.chain_cons, Pipeline.chain_cons, chain_seq_cons]
  chain_rfl

/-- Operations of the block. -/
abbrev bwd0 : List (HloOp τ sig (Elt F)) :=
  ( nullary main_while1b_c_34 (constantI S_ 32 256#32)
  :: binary main_while1b_c_34 main_v34_8 main_while1b_v53 (subi : (⟨S_, .i32⟩ : BufTy).Contents (Elt F) → (⟨S_, .i32⟩ : BufTy).Contents (Elt F) → (⟨S_, .i32⟩ : BufTy).Contents (Elt F))
  :: nullary main_while1b_c_35 (constantI S_ 32 1#32)
  :: binary main_while1b_v53 main_while1b_c_35 main_while1b_v54 (subi : (⟨S_, .i32⟩ : BufTy).Contents (Elt F) → (⟨S_, .i32⟩ : BufTy).Contents (Elt F) → (⟨S_, .i32⟩ : BufTy).Contents (Elt F))
  :: [] )

abbrev bwd0_W : List (Ref sig .tc) := [main_while1b_c_34, main_while1b_v53, main_while1b_c_35, main_while1b_v54]
theorem bwd0_writes : Writes (F := F) bwd0 bwd0_W := forall_writes_sub_of_map rfl
theorem bwd0_keep : Keeps (F := F) bwd0 bwd0_W := keeps bwd0_writes

/-- The call call10. -/
abbrev bwd1 : List (HloOp τ sig (Elt F)) :=
  ( zero (.of main_while1b_call10_c)
  :: zero (.of main_while1b_call10_c_0)
  :: zero (.of main_while1b_call10_c_1)
  :: zero (.of main_while1b_call10_c_2)
  :: sliceOf (.of main_v34_0 : RF S256x1x8x64x128) ![.of main_while1b_v54, .of main_while1b_call10_c, .of main_while1b_call10_c_0, .of main_while1b_call10_c_1, .of main_while1b_call10_c_2] (.of main_while1b_call10_v0 : RF S1x1x8x64x128) sliceFits_S256x1x8x64x128_S1x1x8x64x128
  :: TRef.reshape (.of main_while1b_call10_v0 : RF S1x1x8x64x128) (.of main_while1b_v55 : RF S1x8x64x128) rfl shapeCasts_S1x1x8x64x128_S1x8x64x128
  :: [] )

abbrev bwd1_W : List (Ref sig .tc) := [main_while1b_call10_c, main_while1b_call10_c_0, main_while1b_call10_c_1, main_while1b_call10_c_2, main_while1b_call10_v0, main_while1b_v55]
theorem bwd1_writes : Writes (F := F) bwd1 bwd1_W := forall_writes_sub_of_map rfl
theorem bwd1_keep : Keeps (F := F) bwd1 bwd1_W := keeps bwd1_writes

/-- The call call11. -/
abbrev bwd2 : List (HloOp τ sig (Elt F)) :=
  ( zero (.of main_while1b_call11_c)
  :: zero (.of main_while1b_call11_c_0)
  :: zero (.of main_while1b_call11_c_1)
  :: zero (.of main_while1b_call11_c_2)
  :: sliceOf (.of main_v34_1 : RF S256x1x8x128x128) ![.of main_while1b_v54, .of main_while1b_call11_c, .of main_while1b_call11_c_0, .of main_while1b_call11_c_1, .of main_while1b_call11_c_2] (.of main_while1b_call11_v0 : RF S1x1x8x128x128) sliceFits_S256x1x8x128x128_S1x1x8x128x128
  :: TRef.reshape (.of main_while1b_call11_v0 : RF S1x1x8x128x128) (.of main_while1b_v56 : RF S1x8x128x128) rfl shapeCasts_S1x1x8x128x128_S1x8x128x128
  :: [] )

abbrev bwd2_W : List (Ref sig .tc) := [main_while1b_call11_c, main_while1b_call11_c_0, main_while1b_call11_c_1, main_while1b_call11_c_2, main_while1b_call11_v0, main_while1b_v56]
theorem bwd2_writes : Writes (F := F) bwd2 bwd2_W := forall_writes_sub_of_map rfl
theorem bwd2_keep : Keeps (F := F) bwd2 bwd2_W := keeps bwd2_writes

/-- The call call12. -/
abbrev bwd3 : List (HloOp τ sig (Elt F)) :=
  ( zero (.of main_while1b_call12_c)
  :: zero (.of main_while1b_call12_c_0)
  :: zero (.of main_while1b_call12_c_1)
  :: zero (.of main_while1b_call12_c_2)
  :: sliceOf (.of main_v34_2 : RF S256x1x8x64x128) ![.of main_while1b_v54, .of main_while1b_call12_c, .of main_while1b_call12_c_0, .of main_while1b_call12_c_1, .of main_while1b_call12_c_2] (.of main_while1b_call12_v0 : RF S1x1x8x64x128) sliceFits_S256x1x8x64x128_S1x1x8x64x128
  :: TRef.reshape (.of main_while1b_call12_v0 : RF S1x1x8x64x128) (.of main_while1b_v57 : RF S1x8x64x128) rfl shapeCasts_S1x1x8x64x128_S1x8x64x128
  :: [] )

abbrev bwd3_W : List (Ref sig .tc) := [main_while1b_call12_c, main_while1b_call12_c_0, main_while1b_call12_c_1, main_while1b_call12_c_2, main_while1b_call12_v0, main_while1b_v57]
theorem bwd3_writes : Writes (F := F) bwd3 bwd3_W := forall_writes_sub_of_map rfl
theorem bwd3_keep : Keeps (F := F) bwd3 bwd3_W := keeps bwd3_writes

/-- The call call13. -/
abbrev bwd4 : List (HloOp τ sig (Elt F)) :=
  ( zero (.of main_while1b_call13_c)
  :: zero (.of main_while1b_call13_c_0)
  :: zero (.of main_while1b_call13_c_1)
  :: zero (.of main_while1b_call13_c_2)
  :: sliceOf (.of main_v34_3 : RF S256x1x8x64x128) ![.of main_while1b_v54, .of main_while1b_call13_c, .of main_while1b_call13_c_0, .of main_while1b_call13_c_1, .of main_while1b_call13_c_2] (.of main_while1b_call13_v0 : RF S1x1x8x64x128) sliceFits_S256x1x8x64x128_S1x1x8x64x128
  :: TRef.reshape (.of main_while1b_call13_v0 : RF S1x1x8x64x128) (.of main_while1b_v58 : RF S1x8x64x128) rfl shapeCasts_S1x1x8x64x128_S1x8x64x128
  :: [] )

abbrev bwd4_W : List (Ref sig .tc) := [main_while1b_call13_c, main_while1b_call13_c_0, main_while1b_call13_c_1, main_while1b_call13_c_2, main_while1b_call13_v0, main_while1b_v58]
theorem bwd4_writes : Writes (F := F) bwd4 bwd4_W := forall_writes_sub_of_map rfl
theorem bwd4_keep : Keeps (F := F) bwd4 bwd4_W := keeps bwd4_writes

/-- The call call14. -/
abbrev bwd5 : List (HloOp τ sig (Elt F)) :=
  ( zero (.of main_while1b_call14_c)
  :: zero (.of main_while1b_call14_c_0)
  :: zero (.of main_while1b_call14_c_1)
  :: zero (.of main_while1b_call14_c_2)
  :: sliceOf (.of main_v34_4 : RF S256x1x8x64x128) ![.of main_while1b_v54, .of main_while1b_call14_c, .of main_while1b_call14_c_0, .of main_while1b_call14_c_1, .of main_while1b_call14_c_2] (.of main_while1b_call14_v0 : RF S1x1x8x64x128) sliceFits_S256x1x8x64x128_S1x1x8x64x128
  :: TRef.reshape (.of main_while1b_call14_v0 : RF S1x1x8x64x128) (.of main_while1b_v59 : RF S1x8x64x128) rfl shapeCasts_S1x1x8x64x128_S1x8x64x128
  :: [] )

abbrev bwd5_W : List (Ref sig .tc) := [main_while1b_call14_c, main_while1b_call14_c_0, main_while1b_call14_c_1, main_while1b_call14_c_2, main_while1b_call14_v0, main_while1b_v59]
theorem bwd5_writes : Writes (F := F) bwd5 bwd5_W := forall_writes_sub_of_map rfl
theorem bwd5_keep : Keeps (F := F) bwd5 bwd5_W := keeps bwd5_writes

/-- The call call15. -/
abbrev bwd6 : List (HloOp τ sig (Elt F)) :=
  ( zero (.of main_while1b_call15_c)
  :: zero (.of main_while1b_call15_c_0)
  :: zero (.of main_while1b_call15_c_1)
  :: zero (.of main_while1b_call15_c_2)
  :: sliceOf (.of main_v34_5 : RF S256x1x8x64x64) ![.of main_while1b_v54, .of main_while1b_call15_c, .of main_while1b_call15_c_0, .of main_while1b_call15_c_1, .of main_while1b_call15_c_2] (.of main_while1b_call15_v0 : RF S1x1x8x64x64) sliceFits_S256x1x8x64x64_S1x1x8x64x64
  :: TRef.reshape (.of main_while1b_call15_v0 : RF S1x1x8x64x64) (.of main_while1b_v60 : RF S1x8x64x64) rfl shapeCasts_S1x1x8x64x64_S1x8x64x64
  :: [] )

abbrev bwd6_W : List (Ref sig .tc) := [main_while1b_call15_c, main_while1b_call15_c_0, main_while1b_call15_c_1, main_while1b_call15_c_2, main_while1b_call15_v0, main_while1b_v60]
theorem bwd6_writes : Writes (F := F) bwd6 bwd6_W := forall_writes_sub_of_map rfl
theorem bwd6_keep : Keeps (F := F) bwd6 bwd6_W := keeps bwd6_writes

/-- The call call16. -/
abbrev bwd7 : List (HloOp τ sig (Elt F)) :=
  ( zero (.of main_while1b_call16_c)
  :: zero (.of main_while1b_call16_c_0)
  :: zero (.of main_while1b_call16_c_1)
  :: zero (.of main_while1b_call16_c_2)
  :: sliceOf (.of main_v34_6 : RF S256x1x8x1x1) ![.of main_while1b_v54, .of main_while1b_call16_c, .of main_while1b_call16_c_0, .of main_while1b_call16_c_1, .of main_while1b_call16_c_2] (.of main_while1b_call16_v0 : RF S1x1x8x1x1) sliceFits_S256x1x8x1x1_S1x1x8x1x1
  :: TRef.reshape (.of main_while1b_call16_v0 : RF S1x1x8x1x1) (.of main_while1b_v61 : RF S1x8x1x1) rfl shapeCasts_S1x1x8x1x1_S1x8x1x1
  :: [] )

abbrev bwd7_W : List (Ref sig .tc) := [main_while1b_call16_c, main_while1b_call16_c_0, main_while1b_call16_c_1, main_while1b_call16_c_2, main_while1b_call16_v0, main_while1b_v61]
theorem bwd7_writes : Writes (F := F) bwd7 bwd7_W := forall_writes_sub_of_map rfl
theorem bwd7_keep : Keeps (F := F) bwd7 bwd7_W := keeps bwd7_writes

/-- The call call17. -/
abbrev bwd8 : List (HloOp τ sig (Elt F)) :=
  ( zero (.of main_while1b_call17_c)
  :: zero (.of main_while1b_call17_c_0)
  :: zero (.of main_while1b_call17_c_1)
  :: zero (.of main_while1b_call17_c_2)
  :: sliceOf (.of main_v34_7 : RF S256x1x8x64x128) ![.of main_while1b_v54, .of main_while1b_call17_c, .of main_while1b_call17_c_0, .of main_while1b_call17_c_1, .of main_while1b_call17_c_2] (.of main_while1b_call17_v0 : RF S1x1x8x64x128) sliceFits_S256x1x8x64x128_S1x1x8x64x128
  :: TRef.reshape (.of main_while1b_call17_v0 : RF S1x1x8x64x128) (.of main_while1b_v62 : RF S1x8x64x128) rfl shapeCasts_S1x1x8x64x128_S1x8x64x128
  :: [] )

abbrev bwd8_W : List (Ref sig .tc) := [main_while1b_call17_c, main_while1b_call17_c_0, main_while1b_call17_c_1, main_while1b_call17_c_2, main_while1b_call17_v0, main_while1b_v62]
theorem bwd8_writes : Writes (F := F) bwd8 bwd8_W := forall_writes_sub_of_map rfl
theorem bwd8_keep : Keeps (F := F) bwd8 bwd8_W := keeps bwd8_writes

/-- Operations of the block. -/
abbrev bwd9 : List (HloOp τ sig (Elt F)) :=
  ( binary main_v34_9 main_while1b_v62 main_while1b_v63 ((fun l r => Host.dotGeneral dot_S1x8x128x128_S1x8x64x128_S1x8x128x64_2_3_3_2_01_01 none l r) : CF F S1x8x128x128 → CF F S1x8x64x128 → CF F S1x8x128x64)
  :: unary main_while1b_v63 main_while1b_v64 ((transpose S1x8x64x128 [0, 1, 3, 2] · transposes_S1x8x128x64_S1x8x64x128_0_1_3_2) : CF F S1x8x128x64 → CF F S1x8x64x128)
  :: binary main_v34_9 main_while1b_v59 main_while1b_v65 ((fun l r => Host.dotGeneral dot_S1x8x128x128_S1x8x64x128_S1x8x128x64_3_3_2_2_01_01 none l r) : CF F S1x8x128x128 → CF F S1x8x64x128 → CF F S1x8x128x64)
  :: unary main_while1b_v65 main_while1b_v66 ((transpose S1x8x64x128 [0, 1, 3, 2] · transposes_S1x8x128x64_S1x8x64x128_0_1_3_2) : CF F S1x8x128x64 → CF F S1x8x64x128)
  :: unary main_while1b_v61 main_while1b_v67 (broadcastInDim S1x8x128x128 ![0, 1, 2, 3] bcast_S1x8x1x1_S1x8x128x128_0_1_2_3 : CF F S1x8x1x1 → CF F S1x8x128x128)
  :: binary main_while1b_v67 main_v34_9 main_while1b_v68 (mulf : CF F S1x8x128x128 → CF F S1x8x128x128 → CF F S1x8x128x128)
  :: binary main_v34_9 main_while1b_v56 main_while1b_v69 (mulf : CF F S1x8x128x128 → CF F S1x8x128x128 → CF F S1x8x128x128)
  :: nullary main_while1b_cst_36 (constant S_ .f32 0x00000000#32)
  :: binary main_while1b_v69 main_while1b_cst_36 main_while1b_v70 ((fun x v => Host.reduceAdd x v reducesTo_S1x8x128x128_S1x8_d2_3 h_S_) : CF F S1x8x128x128 → CF F S_ → CF F S1x8)
  :: reshape main_while1b_v70 main_while1b_v71 rfl shapeCasts_S1x8_S1x8x1x1
  :: nullary main_while1b_cst_37 (constant S_ .f32 0x00000000#32)
  :: binary main_while1b_v71 main_while1b_cst_37 main_while1b_v72 ((fun x v => Host.reduceAdd x v reducesTo_S1x8x1x1_S8_d0_2_3 h_S_) : CF F S1x8x1x1 → CF F S_ → CF F S8)
  :: unary main_while1b_v72 main_while1b_v73 (broadcastInDim S1x8 ![1] bcast_S8_S1x8_1 : CF F S8 → CF F S1x8)
  :: binary main_while1b_v55 main_while1b_v60 main_while1b_v74 ((fun l r => Host.dotGeneral dot_S1x8x64x128_S1x8x64x64_S1x8x128x64_2_2_3_3_01_01 none l r) : CF F S1x8x64x128 → CF F S1x8x64x64 → CF F S1x8x128x64)
  :: unary main_while1b_v74 main_while1b_v75 ((transpose S1x8x64x128 [0, 1, 3, 2] · transposes_S1x8x128x64_S1x8x64x128_0_1_3_2) : CF F S1x8x128x64 → CF F S1x8x64x128)
  :: binary main_while1b_v64 main_while1b_v75 main_while1b_v76 (addf : CF F S1x8x64x128 → CF F S1x8x64x128 → CF F S1x8x64x128)
  :: binary main_while1b_v55 main_while1b_v59 main_while1b_v77 ((fun l r => Host.dotGeneral dot_S1x8x64x128_S1x8x64x128_S1x8x64x64_3_3_2_2_01_01 none l r) : CF F S1x8x64x128 → CF F S1x8x64x128 → CF F S1x8x64x64)
  :: binary main_while1b_v55 main_while1b_v58 main_while1b_v78 ((fun l r => Host.dotGeneral dot_S1x8x64x128_S1x8x64x128_S1x8x128x128_2_2_3_3_01_01 none l r) : CF F S1x8x64x128 → CF F S1x8x64x128 → CF F S1x8x128x128)
  :: unary main_while1b_v78 main_while1b_v79 ((transpose S1x8x128x128 [0, 1, 3, 2] · transposes_S1x8x128x128_S1x8x128x128_0_1_3_2) : CF F S1x8x128x128 → CF F S1x8x128x128)
  :: binary main_while1b_v68 main_while1b_v79 main_while1b_v80 (addf : CF F S1x8x128x128 → CF F S1x8x128x128 → CF F S1x8x128x128)
  :: binary main_while1b_v55 main_while1b_v56 main_while1b_v81 ((fun l r => Host.dotGeneral dot_S1x8x64x128_S1x8x128x128_S1x8x64x128_3_3_2_2_01_01 none l r) : CF F S1x8x64x128 → CF F S1x8x128x128 → CF F S1x8x64x128)
  :: unary main_while1b_v76 main_while1b_v82 (Host.negf : CF F S1x8x64x128 → CF F S1x8x64x128)
  :: binary main_while1b_v82 main_while1b_v57 main_while1b_v83 ((fun l r => Host.dotGeneral dot_S1x8x64x128_S1x8x64x128_S1x8x128x128_2_2_3_3_01_01 none l r) : CF F S1x8x64x128 → CF F S1x8x64x128 → CF F S1x8x128x128)
  :: unary main_while1b_v83 main_while1b_v84 ((transpose S1x8x128x128 [0, 1, 3, 2] · transposes_S1x8x128x128_S1x8x128x128_0_1_3_2) : CF F S1x8x128x128 → CF F S1x8x128x128)
  :: binary main_while1b_v80 main_while1b_v84 main_while1b_v85 (addf : CF F S1x8x128x128 → CF F S1x8x128x128 → CF F S1x8x128x128)
  :: binary main_while1b_v82 main_while1b_v56 main_while1b_v86 ((fun l r => Host.dotGeneral dot_S1x8x64x128_S1x8x128x128_S1x8x64x128_3_3_2_2_01_01 none l r) : CF F S1x8x64x128 → CF F S1x8x128x128 → CF F S1x8x64x128)
  :: [] )

abbrev bwd9_W : List (Ref sig .tc) := [main_while1b_v63, main_while1b_v64, main_while1b_v65, main_while1b_v66, main_while1b_v67, main_while1b_v68, main_while1b_v69, main_while1b_cst_36, main_while1b_v70, main_while1b_v71, main_while1b_cst_37, main_while1b_v72, main_while1b_v73, main_while1b_v74, main_while1b_v75, main_while1b_v76, main_while1b_v77, main_while1b_v78, main_while1b_v79, main_while1b_v80, main_while1b_v81, main_while1b_v82, main_while1b_v83, main_while1b_v84, main_while1b_v85, main_while1b_v86]
theorem bwd9_writes : Writes (F := F) bwd9 bwd9_W := forall_writes_sub_of_map rfl
theorem bwd9_keep : Keeps (F := F) bwd9 bwd9_W := keeps bwd9_writes

/-- The call call18. -/
abbrev bwd10 : List (HloOp τ sig (Elt F)) :=
  ( TRef.unary (.of main_while1b_v76 : RF S1x8x64x128) (.of main_while1b_call18_v0 : RF S1x1x8x64x128) (broadcastInDim S1x1x8x64x128 ![1, 2, 3, 4] bcast_S1x8x64x128_S1x1x8x64x128_1_2_3_4)
  :: zero (.of main_while1b_call18_c)
  :: zero (.of main_while1b_call18_c_0)
  :: zero (.of main_while1b_call18_c_1)
  :: zero (.of main_while1b_call18_c_2)
  :: updateOf (.of main_v34_10 : RF S256x1x8x64x128) (.of main_while1b_call18_v0 : RF S1x1x8x64x128) ![.of main_while1b_v54, .of main_while1b_call18_c, .of main_while1b_call18_c_0, .of main_while1b_call18_c_1, .of main_while1b_call18_c_2] (.of main_while1b_v87) updateFits_S256x1x8x64x128_S1x1x8x64x128
  :: [] )

abbrev bwd10_W : List (Ref sig .tc) := [main_while1b_call18_v0, main_while1b_call18_c, main_while1b_call18_c_0, main_while1b_call18_c_1, main_while1b_call18_c_2, main_while1b_v87]
theorem bwd10_writes : Writes (F := F) bwd10 bwd10_W := forall_writes_sub_of_map rfl
theorem bwd10_keep : Keeps (F := F) bwd10 bwd10_W := keeps bwd10_writes

/-- The call call19. -/
abbrev bwd11 : List (HloOp τ sig (Elt F)) :=
  ( TRef.unary (.of main_while1b_v86 : RF S1x8x64x128) (.of main_while1b_call19_v0 : RF S1x1x8x64x128) (broadcastInDim S1x1x8x64x128 ![1, 2, 3, 4] bcast_S1x8x64x128_S1x1x8x64x128_1_2_3_4)
  :: zero (.of main_while1b_call19_c)
  :: zero (.of main_while1b_call19_c_0)
  :: zero (.of main_while1b_call19_c_1)
  :: zero (.of main_while1b_call19_c_2)
  :: updateOf (.of main_v34_11 : RF S256x1x8x64x128) (.of main_while1b_call19_v0 : RF S1x1x8x64x128) ![.of main_while1b_v54, .of main_while1b_call19_c, .of main_while1b_call19_c_0, .of main_while1b_call19_c_1, .of main_while1b_call19_c_2] (.of main_while1b_v88) updateFits_S256x1x8x64x128_S1x1x8x64x128
  :: [] )

abbrev bwd11_W : List (Ref sig .tc) := [main_while1b_call19_v0, main_while1b_call19_c, main_while1b_call19_c_0, main_while1b_call19_c_1, main_while1b_call19_c_2, main_while1b_v88]
theorem bwd11_writes : Writes (F := F) bwd11 bwd11_W := forall_writes_sub_of_map rfl
theorem bwd11_keep : Keeps (F := F) bwd11 bwd11_W := keeps bwd11_writes

/-- The call call20. -/
abbrev bwd12 : List (HloOp τ sig (Elt F)) :=
  ( TRef.unary (.of main_while1b_v77 : RF S1x8x64x64) (.of main_while1b_call20_v0 : RF S1x1x8x64x64) (broadcastInDim S1x1x8x64x64 ![1, 2, 3, 4] bcast_S1x8x64x64_S1x1x8x64x64_1_2_3_4)
  :: zero (.of main_while1b_call20_c)
  :: zero (.of main_while1b_call20_c_0)
  :: zero (.of main_while1b_call20_c_1)
  :: zero (.of main_while1b_call20_c_2)
  :: updateOf (.of main_v34_12 : RF S256x1x8x64x64) (.of main_while1b_call20_v0 : RF S1x1x8x64x64) ![.of main_while1b_v54, .of main_while1b_call20_c, .of main_while1b_call20_c_0, .of main_while1b_call20_c_1, .of main_while1b_call20_c_2] (.of main_while1b_v89) updateFits_S256x1x8x64x64_S1x1x8x64x64
  :: [] )

abbrev bwd12_W : List (Ref sig .tc) := [main_while1b_call20_v0, main_while1b_call20_c, main_while1b_call20_c_0, main_while1b_call20_c_1, main_while1b_call20_c_2, main_while1b_v89]
theorem bwd12_writes : Writes (F := F) bwd12 bwd12_W := forall_writes_sub_of_map rfl
theorem bwd12_keep : Keeps (F := F) bwd12 bwd12_W := keeps bwd12_writes

/-- The call call21. -/
abbrev bwd13 : List (HloOp τ sig (Elt F)) :=
  ( TRef.unary (.of main_while1b_v81 : RF S1x8x64x128) (.of main_while1b_call21_v0 : RF S1x1x8x64x128) (broadcastInDim S1x1x8x64x128 ![1, 2, 3, 4] bcast_S1x8x64x128_S1x1x8x64x128_1_2_3_4)
  :: zero (.of main_while1b_call21_c)
  :: zero (.of main_while1b_call21_c_0)
  :: zero (.of main_while1b_call21_c_1)
  :: zero (.of main_while1b_call21_c_2)
  :: updateOf (.of main_v34_13 : RF S256x1x8x64x128) (.of main_while1b_call21_v0 : RF S1x1x8x64x128) ![.of main_while1b_v54, .of main_while1b_call21_c, .of main_while1b_call21_c_0, .of main_while1b_call21_c_1, .of main_while1b_call21_c_2] (.of main_while1b_v90) updateFits_S256x1x8x64x128_S1x1x8x64x128
  :: [] )

abbrev bwd13_W : List (Ref sig .tc) := [main_while1b_call21_v0, main_while1b_call21_c, main_while1b_call21_c_0, main_while1b_call21_c_1, main_while1b_call21_c_2, main_while1b_v90]
theorem bwd13_writes : Writes (F := F) bwd13 bwd13_W := forall_writes_sub_of_map rfl
theorem bwd13_keep : Keeps (F := F) bwd13 bwd13_W := keeps bwd13_writes

/-- The call call22. -/
abbrev bwd14 : List (HloOp τ sig (Elt F)) :=
  ( TRef.unary (.of main_while1b_v66 : RF S1x8x64x128) (.of main_while1b_call22_v0 : RF S1x1x8x64x128) (broadcastInDim S1x1x8x64x128 ![1, 2, 3, 4] bcast_S1x8x64x128_S1x1x8x64x128_1_2_3_4)
  :: zero (.of main_while1b_call22_c)
  :: zero (.of main_while1b_call22_c_0)
  :: zero (.of main_while1b_call22_c_1)
  :: zero (.of main_while1b_call22_c_2)
  :: updateOf (.of main_v34_14 : RF S256x1x8x64x128) (.of main_while1b_call22_v0 : RF S1x1x8x64x128) ![.of main_while1b_v54, .of main_while1b_call22_c, .of main_while1b_call22_c_0, .of main_while1b_call22_c_1, .of main_while1b_call22_c_2] (.of main_while1b_v91) updateFits_S256x1x8x64x128_S1x1x8x64x128
  :: [] )

abbrev bwd14_W : List (Ref sig .tc) := [main_while1b_call22_v0, main_while1b_call22_c, main_while1b_call22_c_0, main_while1b_call22_c_1, main_while1b_call22_c_2, main_while1b_v91]
theorem bwd14_writes : Writes (F := F) bwd14 bwd14_W := forall_writes_sub_of_map rfl
theorem bwd14_keep : Keeps (F := F) bwd14 bwd14_W := keeps bwd14_writes

/-- The call call23. -/
abbrev bwd15 : List (HloOp τ sig (Elt F)) :=
  ( TRef.unary (.of main_while1b_v73 : RF S1x8) (.of main_while1b_call23_v0 : RF S1x1x8) (broadcastInDim S1x1x8 ![1, 2] bcast_S1x8_S1x1x8_1_2)
  :: zero (.of main_while1b_call23_c)
  :: zero (.of main_while1b_call23_c_0)
  :: updateOf (.of main_v34_15 : RF S256x1x8) (.of main_while1b_call23_v0 : RF S1x1x8) ![.of main_while1b_v54, .of main_while1b_call23_c, .of main_while1b_call23_c_0] (.of main_while1b_v92) updateFits_S256x1x8_S1x1x8
  :: [] )

abbrev bwd15_W : List (Ref sig .tc) := [main_while1b_call23_v0, main_while1b_call23_c, main_while1b_call23_c_0, main_while1b_v92]
theorem bwd15_writes : Writes (F := F) bwd15 bwd15_W := forall_writes_sub_of_map rfl
theorem bwd15_keep : Keeps (F := F) bwd15 bwd15_W := keeps bwd15_writes

/-- Operations of the block. -/
abbrev bwd16 : List (HloOp τ sig (Elt F)) :=
  ( nullary main_while1b_c_38 (constantI S_ 32 1#32)
  :: binary main_v34_8 main_while1b_c_38 main_while1b_v93 (addi : (⟨S_, .i32⟩ : BufTy).Contents (Elt F) → (⟨S_, .i32⟩ : BufTy).Contents (Elt F) → (⟨S_, .i32⟩ : BufTy).Contents (Elt F))
  :: unary main_while1b_v93 main_v34_8 id
  :: unary main_while1b_v85 main_v34_9 id
  :: unary main_while1b_v87 main_v34_10 id
  :: unary main_while1b_v88 main_v34_11 id
  :: unary main_while1b_v89 main_v34_12 id
  :: unary main_while1b_v90 main_v34_13 id
  :: [] )

abbrev bwd16_W : List (Ref sig .tc) := [main_while1b_c_38, main_while1b_v93, main_v34_8, main_v34_9, main_v34_10, main_v34_11, main_v34_12, main_v34_13]
theorem bwd16_writes : Writes (F := F) bwd16 bwd16_W := forall_writes_sub_of_map rfl
theorem bwd16_keep : Keeps (F := F) bwd16 bwd16_W := keeps bwd16_writes

/-- Operations of the block. -/
abbrev bwe0 : List (HloOp τ sig (Elt F)) :=
  ( unary main_while1b_v91 main_v34_14 id
  :: unary main_while1b_v92 main_v34_15 id
  :: [] )

abbrev bwe0_W : List (Ref sig .tc) := [main_v34_14, main_v34_15]
theorem bwe0_writes : Writes (F := F) bwe0 bwe0_W := forall_writes_sub_of_map rfl
theorem bwe0_keep : Keeps (F := F) bwe0 bwe0_W := keeps bwe0_writes

theorem bwd_chain0 : main_while1_body_part0 (F := F) = (Pipeline.chainK
  [ seq bwd0,
    seq bwd1,
    seq bwd2,
    seq bwd3,
    seq bwd4,
    seq bwd5,
    seq bwd6,
    seq bwd7,
    seq bwd8,
    seq bwd9,
    seq bwd10,
    seq bwd11,
    seq bwd12,
    seq bwd13,
    seq bwd14,
    seq bwd15 ] (seq bwd16) : Prog (TpuEff nD τ sig (Elt F) (HostLoop.Sig (Pipeline.Sig Λ₀ (Fin 0) fun p => (pcfgs (F := F) p).Adm) 2) .tc) PUnit) := by
  rewrite [chainK_seq_cons, Pipeline.chainK_cons, Pipeline.chainK_cons, Pipeline.chainK_cons, Pipeline.chainK_cons, Pipeline.chainK_cons, Pipeline.chainK_cons, Pipeline.chainK_cons, Pipeline.chainK_cons, chainK_seq_cons, Pipeline.chainK_cons, Pipeline.chainK_cons, Pipeline.chainK_cons, Pipeline.chainK_cons, Pipeline.chainK_cons, Pipeline.chainK_cons]
  chain_rfl

theorem bwd_chain1 : main_while1_body_part1 (F := F) = (Pipeline.chain
  [ seq bwe0 ] : Prog (TpuEff nD τ sig (Elt F) (HostLoop.Sig (Pipeline.Sig Λ₀ (Fin 0) fun p => (pcfgs (F := F) p).Adm) 2) .tc) PUnit) := by
  rewrite [chain_seq_cons]
  chain_rfl

theorem bwd_chain : main_while1_body (F := F) = (Pipeline.chain
  [ seq bwd0,
    seq bwd1,
    seq bwd2,
    seq bwd3,
    seq bwd4,
    seq bwd5,
    seq bwd6,
    seq bwd7,
    seq bwd8,
    seq bwd9,
    seq bwd10,
    seq bwd11,
    seq bwd12,
    seq bwd13,
    seq bwd14,
    seq bwd15,
    seq bwd16,
    seq bwe0 ] : Prog (TpuEff nD τ sig (Elt F) (HostLoop.Sig (Pipeline.Sig Λ₀ (Fin 0) fun p => (pcfgs (F := F) p).Adm) 2) .tc) PUnit) := by
  show (main_while1_body_part0 (F := F) >>= fun _ => main_while1_body_part1) = _
  rewrite [bwd_chain1, bwd_chain0, Pipeline.chainK_bind_chain]
  chain_rfl

/-- Operations of the block. -/
abbrev host0 : List (HloOp τ sig (Elt F)) :=
  ( reshape main_arg4 main_v0 rfl shapeCasts_S8x16384x64_S8x256x64x64
  :: unary main_v0 main_v1 ((transpose S256x8x64x64 [1, 0, 2, 3] · transposes_S8x256x64x64_S256x8x64x64_1_0_2_3) : CF F S8x256x64x64 → CF F S256x8x64x64)
  :: unary main_v1 main_v2 (broadcastInDim S256x1x8x64x64 ![0, 2, 3, 4] bcast_S256x8x64x64_S256x1x8x64x64_0_2_3_4 : CF F S256x8x64x64 → CF F S256x1x8x64x64)
  :: reshape main_arg0 main_v3 rfl shapeCasts_S16384x1024_S256x64x8x128
  :: unary main_v3 main_v4 ((transpose S256x8x64x128 [0, 2, 1, 3] · transposes_S256x64x8x128_S256x8x64x128_0_2_1_3) : CF F S256x64x8x128 → CF F S256x8x64x128)
  :: unary main_v4 main_v5 (broadcastInDim S256x1x8x64x128 ![0, 2, 3, 4] bcast_S256x8x64x128_S256x1x8x64x128_0_2_3_4 : CF F S256x8x64x128 → CF F S256x1x8x64x128)
  :: reshape main_arg1 main_v6 rfl shapeCasts_S16384x1024_S256x64x8x128
  :: unary main_v6 main_v7 ((transpose S256x8x64x128 [0, 2, 1, 3] · transposes_S256x64x8x128_S256x8x64x128_0_2_1_3) : CF F S256x64x8x128 → CF F S256x8x64x128)
  :: unary main_v7 main_v8 (broadcastInDim S256x1x8x64x128 ![0, 2, 3, 4] bcast_S256x8x64x128_S256x1x8x64x128_0_2_3_4 : CF F S256x8x64x128 → CF F S256x1x8x64x128)
  :: reshape main_arg2 main_v9 rfl shapeCasts_S16384x1024_S256x64x8x128
  :: unary main_v9 main_v10 ((transpose S256x8x64x128 [0, 2, 1, 3] · transposes_S256x64x8x128_S256x8x64x128_0_2_1_3) : CF F S256x64x8x128 → CF F S256x8x64x128)
  :: unary main_v10 main_v11 (broadcastInDim S256x1x8x64x128 ![0, 2, 3, 4] bcast_S256x8x64x128_S256x1x8x64x128_0_2_3_4 : CF F S256x8x64x128 → CF F S256x1x8x64x128)
  :: reshape main_arg3 main_v12 rfl shapeCasts_S16384x1024_S256x64x8x128
  :: unary main_v12 main_v13 ((transpose S256x8x64x128 [0, 2, 1, 3] · transposes_S256x64x8x128_S256x8x64x128_0_2_1_3) : CF F S256x64x8x128 → CF F S256x8x64x128)
  :: unary main_v13 main_v14 (broadcastInDim S256x1x8x64x128 ![0, 2, 3, 4] bcast_S256x8x64x128_S256x1x8x64x128_0_2_3_4 : CF F S256x8x64x128 → CF F S256x1x8x64x128)
  :: unary main_arg5 main_v15 (broadcastInDim S256x1x8 ![0, 2] bcast_S256x8_S256x1x8_0_2 : CF F S256x8 → CF F S256x1x8)
  :: nullary main_cst (constant S_ .f32 0x00000000#32)
  :: unary main_cst main_v16 (broadcastInDim S1x8x128x128 ![] bcast_S_S1x8x128x128 : CF F S_ → CF F S1x8x128x128)
  :: nullary main_cst_0 (constant S_ .f32 0x00000000#32)
  :: unary main_cst_0 main_v17 (broadcastInDim S256x1x8x64x128 ![] bcast_S_S256x1x8x64x128 : CF F S_ → CF F S256x1x8x64x128)
  :: nullary main_cst_1 (constant S_ .f32 0x00000000#32)
  :: unary main_cst_1 main_v18 (broadcastInDim S256x1x8x128x128 ![] bcast_S_S256x1x8x128x128 : CF F S_ → CF F S256x1x8x128x128)
  :: nullary main_cst_2 (constant S_ .f32 0x00000000#32)
  :: unary main_cst_2 main_v19 (broadcastInDim S256x1x8x64x128 ![] bcast_S_S256x1x8x64x128 : CF F S_ → CF F S256x1x8x64x128)
  :: nullary main_cst_3 (constant S_ .f32 0x00000000#32)
  :: unary main_cst_3 main_v20 (broadcastInDim S256x1x8x1x1 ![] bcast_S_S256x1x8x1x1 : CF F S_ → CF F S256x1x8x1x1)
  :: nullary main_c (constantI S_ 32 0#32)
  :: unary main_v5 main_v21_0 id
  :: unary main_v8 main_v21_1 id
  :: unary main_v2 main_v21_2 id
  :: unary main_v11 main_v21_3 id
  :: unary main_v14 main_v21_4 id
  :: unary main_v15 main_v21_5 id
  :: unary main_c main_v21_6 id
  :: unary main_v16 main_v21_7 id
  :: unary main_v17 main_v21_8 id
  :: unary main_v18 main_v21_9 id
  :: unary main_v19 main_v21_10 id
  :: unary main_v20 main_v21_11 id
  :: [] )

abbrev host0_W : List (Ref sig .tc) := [main_v0, main_v1, main_v2, main_v3, main_v4, main_v5, main_v6, main_v7, main_v8, main_v9, main_v10, main_v11, main_v12, main_v13, main_v14, main_v15, main_cst, main_v16, main_cst_0, main_v17, main_cst_1, main_v18, main_cst_2, main_v19, main_cst_3, main_v20, main_c, main_v21_0, main_v21_1, main_v21_2, main_v21_3, main_v21_4, main_v21_5, main_v21_6, main_v21_7, main_v21_8, main_v21_9, main_v21_10, main_v21_11]
theorem host0_writes : Writes (F := F) host0 host0_W := forall_writes_sub_of_map rfl
theorem host0_keep : Keeps (F := F) host0 host0_W := keeps host0_writes

/-- Operations of the block. -/
abbrev host1 : List (HloOp τ sig (Elt F)) :=
  ( unary main_v21_8 main_v22 ((transpose S1x256x64x8x128 [1, 0, 3, 2, 4] · transposes_S256x1x8x64x128_S1x256x64x8x128_1_0_3_2_4) : CF F S256x1x8x64x128 → CF F S1x256x64x8x128)
  :: reshape main_v22 main_v23 rfl shapeCasts_S1x256x64x8x128_S16384x1024
  :: nullary main_cst_4 (constant S_ .f32 0x00000000#32)
  :: unary main_cst_4 main_v24 (broadcastInDim S1x8x128x128 ![] bcast_S_S1x8x128x128 : CF F S_ → CF F S1x8x128x128)
  :: reshape main_arg6 main_v25 rfl shapeCasts_S16384x1024_S1x256x64x8x128
  :: unary main_v25 main_v26 ((transpose S256x1x8x64x128 [1, 0, 3, 2, 4] · transposes_S1x256x64x8x128_S256x1x8x64x128_1_0_3_2_4) : CF F S1x256x64x8x128 → CF F S256x1x8x64x128)
  :: nullary main_cst_5 (constant S_ .f32 0x00000000#32)
  :: unary main_cst_5 main_v27 (broadcastInDim S1x8x128x128 ![] bcast_S_S1x8x128x128 : CF F S_ → CF F S1x8x128x128)
  :: nullary main_cst_6 (constant S_ .f32 0x00000000#32)
  :: unary main_cst_6 main_v28 (broadcastInDim S256x1x8x64x128 ![] bcast_S_S256x1x8x64x128 : CF F S_ → CF F S256x1x8x64x128)
  :: nullary main_cst_7 (constant S_ .f32 0x00000000#32)
  :: unary main_cst_7 main_v29 (broadcastInDim S256x1x8x64x128 ![] bcast_S_S256x1x8x64x128 : CF F S_ → CF F S256x1x8x64x128)
  :: nullary main_cst_8 (constant S_ .f32 0x00000000#32)
  :: unary main_cst_8 main_v30 (broadcastInDim S256x1x8x64x64 ![] bcast_S_S256x1x8x64x64 : CF F S_ → CF F S256x1x8x64x64)
  :: nullary main_cst_9 (constant S_ .f32 0x00000000#32)
  :: unary main_cst_9 main_v31 (broadcastInDim S256x1x8x64x128 ![] bcast_S_S256x1x8x64x128 : CF F S_ → CF F S256x1x8x64x128)
  :: nullary main_cst_10 (constant S_ .f32 0x00000000#32)
  :: unary main_cst_10 main_v32 (broadcastInDim S256x1x8x64x128 ![] bcast_S_S256x1x8x64x128 : CF F S_ → CF F S256x1x8x64x128)
  :: nullary main_cst_11 (constant S_ .f32 0x00000000#32)
  :: unary main_cst_11 main_v33 (broadcastInDim S256x1x8 ![] bcast_S_S256x1x8 : CF F S_ → CF F S256x1x8)
  :: [] )

abbrev host1_W : List (Ref sig .tc) := [main_v22, main_v23, main_cst_4, main_v24, main_v25, main_v26, main_cst_5, main_v27, main_cst_6, main_v28, main_cst_7, main_v29, main_cst_8, main_v30, main_cst_9, main_v31, main_cst_10, main_v32, main_cst_11, main_v33]
theorem host1_writes : Writes (F := F) host1 host1_W := forall_writes_sub_of_map rfl
theorem host1_keep : Keeps (F := F) host1 host1_W := keeps host1_writes

/-- Operations of the block. -/
abbrev tail0 : List (HloOp τ sig (Elt F)) :=
  ( nullary main_c_12 (constantI S_ 32 0#32)
  :: unary main_v26 main_v34_0 id
  :: unary main_v21_9 main_v34_1 id
  :: unary main_v8 main_v34_2 id
  :: unary main_v11 main_v34_3 id
  :: unary main_v21_10 main_v34_4 id
  :: unary main_v2 main_v34_5 id
  :: unary main_v21_11 main_v34_6 id
  :: unary main_v14 main_v34_7 id
  :: unary main_c_12 main_v34_8 id
  :: unary main_v27 main_v34_9 id
  :: unary main_v28 main_v34_10 id
  :: unary main_v29 main_v34_11 id
  :: unary main_v30 main_v34_12 id
  :: unary main_v31 main_v34_13 id
  :: unary main_v32 main_v34_14 id
  :: unary main_v33 main_v34_15 id
  :: [] )

abbrev tail0_W : List (Ref sig .tc) := [main_c_12, main_v34_0, main_v34_1, main_v34_2, main_v34_3, main_v34_4, main_v34_5, main_v34_6, main_v34_7, main_v34_8, main_v34_9, main_v34_10, main_v34_11, main_v34_12, main_v34_13, main_v34_14, main_v34_15]
theorem tail0_writes : Writes (F := F) tail0 tail0_W := forall_writes_sub_of_map rfl
theorem tail0_keep : Keeps (F := F) tail0 tail0_W := keeps tail0_writes

/-- Operations of the block. -/
abbrev tail1 : List (HloOp τ sig (Elt F)) :=
  ( nullary main_cst_13 (constant S_ .f32 0x00000000#32)
  :: binary main_v34_15 main_cst_13 main_v35 ((fun x v => Host.reduceAdd x v reducesTo_S256x1x8_S256x8_d1 h_S_) : CF F S256x1x8 → CF F S_ → CF F S256x8)
  :: nullary main_cst_14 (constant S_ .f32 0x00000000#32)
  :: binary main_v34_14 main_cst_14 main_v36 ((fun x v => Host.reduceAdd x v reducesTo_S256x1x8x64x128_S256x8x64x128_d1 h_S_) : CF F S256x1x8x64x128 → CF F S_ → CF F S256x8x64x128)
  :: unary main_v36 main_v37 ((transpose S256x64x8x128 [0, 2, 1, 3] · transposes_S256x8x64x128_S256x64x8x128_0_2_1_3) : CF F S256x8x64x128 → CF F S256x64x8x128)
  :: reshape main_v37 main_v38 rfl shapeCasts_S256x64x8x128_S16384x1024
  :: nullary main_cst_15 (constant S_ .f32 0x00000000#32)
  :: binary main_v34_13 main_cst_15 main_v39 ((fun x v => Host.reduceAdd x v reducesTo_S256x1x8x64x128_S256x8x64x128_d1 h_S_) : CF F S256x1x8x64x128 → CF F S_ → CF F S256x8x64x128)
  :: unary main_v39 main_v40 ((transpose S256x64x8x128 [0, 2, 1, 3] · transposes_S256x8x64x128_S256x64x8x128_0_2_1_3) : CF F S256x8x64x128 → CF F S256x64x8x128)
  :: reshape main_v40 main_v41 rfl shapeCasts_S256x64x8x128_S16384x1024
  :: nullary main_cst_16 (constant S_ .f32 0x00000000#32)
  :: binary main_v34_11 main_cst_16 main_v42 ((fun x v => Host.reduceAdd x v reducesTo_S256x1x8x64x128_S256x8x64x128_d1 h_S_) : CF F S256x1x8x64x128 → CF F S_ → CF F S256x8x64x128)
  :: unary main_v42 main_v43 ((transpose S256x64x8x128 [0, 2, 1, 3] · transposes_S256x8x64x128_S256x64x8x128_0_2_1_3) : CF F S256x8x64x128 → CF F S256x64x8x128)
  :: reshape main_v43 main_v44 rfl shapeCasts_S256x64x8x128_S16384x1024
  :: nullary main_cst_17 (constant S_ .f32 0x00000000#32)
  :: binary main_v34_10 main_cst_17 main_v45 ((fun x v => Host.reduceAdd x v reducesTo_S256x1x8x64x128_S256x8x64x128_d1 h_S_) : CF F S256x1x8x64x128 → CF F S_ → CF F S256x8x64x128)
  :: unary main_v45 main_v46 ((transpose S256x64x8x128 [0, 2, 1, 3] · transposes_S256x8x64x128_S256x64x8x128_0_2_1_3) : CF F S256x8x64x128 → CF F S256x64x8x128)
  :: reshape main_v46 main_v47 rfl shapeCasts_S256x64x8x128_S16384x1024
  :: nullary main_cst_18 (constant S_ .f32 0x00000000#32)
  :: binary main_v34_12 main_cst_18 main_v48 ((fun x v => Host.reduceAdd x v reducesTo_S256x1x8x64x64_S256x8x64x64_d1 h_S_) : CF F S256x1x8x64x64 → CF F S_ → CF F S256x8x64x64)
  :: unary main_v48 main_v49 ((transpose S8x256x64x64 [1, 0, 2, 3] · transposes_S256x8x64x64_S8x256x64x64_1_0_2_3) : CF F S256x8x64x64 → CF F S8x256x64x64)
  :: reshape main_v49 main_v50 rfl shapeCasts_S8x256x64x64_S8x16384x64
  :: unary main_v35 main_v51 (broadcastInDim S256x8x128 ![0, 1] bcast_S256x8_S256x8x128_0_1 : CF F S256x8 → CF F S256x8x128)
  :: reshape main_v51 main_v52 rfl shapeCasts_S256x8x128_S256x1024
  :: [] )

abbrev tail1_W : List (Ref sig .tc) := [main_cst_13, main_v35, main_cst_14, main_v36, main_v37, main_v38, main_cst_15, main_v39, main_v40, main_v41, main_cst_16, main_v42, main_v43, main_v44, main_cst_17, main_v45, main_v46, main_v47, main_cst_18, main_v48, main_v49, main_v50, main_v51, main_v52]
theorem tail1_writes : Writes (F := F) tail1 tail1_W := forall_writes_sub_of_map rfl
theorem tail1_keep : Keeps (F := F) tail1 tail1_W := keeps tail1_writes

theorem main_chain0 (c : Dev nD) : main_part0 (F := F) c = (Pipeline.chainK
  [ seq host0,
    HostLoop.enter 0 ] (seq host1) : Prog (TpuEff nD τ sig (Elt F) (HostLoop.Sig (Pipeline.Sig Λ₀ (Fin 0) fun p => (pcfgs (F := F) p).Adm) 2) .tc) PUnit) := by
  rewrite [chainK_seq_cons, Pipeline.chainK_cons]
  chain_rfl

theorem main_chain1 (c : Dev nD) : main_part1 (F := F) c = (Pipeline.chain
  [ seq tail0,
    HostLoop.enter 1,
    seq tail1 ] : Prog (TpuEff nD τ sig (Elt F) (HostLoop.Sig (Pipeline.Sig Λ₀ (Fin 0) fun p => (pcfgs (F := F) p).Adm) 2) .tc) PUnit) := by
  rewrite [chain_seq_cons, Pipeline.chain_cons, chain_seq_cons]
  chain_rfl

theorem main_chain (c : Dev nD) : main (F := F) c = (Pipeline.chain
  [ seq host0,
    HostLoop.enter 0,
    seq host1,
    seq tail0,
    HostLoop.enter 1,
    seq tail1 ] : Prog (TpuEff nD τ sig (Elt F) (HostLoop.Sig (Pipeline.Sig Λ₀ (Fin 0) fun p => (pcfgs (F := F) p).Adm) 2) .tc) PUnit) := by
  show (main_part0 (F := F) c >>= fun _ => main_part1 c) = _
  rewrite [main_chain1, main_chain0, Pipeline.chainK_bind_chain]
  chain_rfl

/-- The operations of the condition. -/
abbrev fwdCond : List (HloOp τ sig (Elt F)) :=
  ( nullary main_while0c_c_30 (constantI S_ 32 256#32)
  :: binary main_v21_6 main_while0c_c_30 main_while0c_v53 (cmpi .slt : (⟨S_, .i32⟩ : BufTy).Contents (Elt F) → (⟨S_, .i32⟩ : BufTy).Contents (Elt F) → (⟨S_, .i1⟩ : BufTy).Contents (Elt F))
  :: [] )

theorem fwdCond_sub : Subs (F := F) fwdCond := by simp [fwdCond]
theorem fwdCond_fresh : Fresh (F := F) fwdCond := forall_fresh_of_map rfl
abbrev fwdCond_W : List (Ref sig .tc) := [main_while0c_c_30, main_while0c_v53]
theorem fwdCond_writes : Writes (F := F) fwdCond fwdCond_W := forall_writes_sub_of_map rfl
theorem fwdCond_keep : Keeps (F := F) fwdCond fwdCond_W := keeps fwdCond_writes

/-- The operations of the condition. -/
abbrev bwdCond : List (HloOp τ sig (Elt F)) :=
  ( nullary main_while1c_c_34 (constantI S_ 32 256#32)
  :: binary main_v34_8 main_while1c_c_34 main_while1c_v53 (cmpi .slt : (⟨S_, .i32⟩ : BufTy).Contents (Elt F) → (⟨S_, .i32⟩ : BufTy).Contents (Elt F) → (⟨S_, .i1⟩ : BufTy).Contents (Elt F))
  :: [] )

theorem bwdCond_sub : Subs (F := F) bwdCond := by simp [bwdCond]
theorem bwdCond_fresh : Fresh (F := F) bwdCond := forall_fresh_of_map rfl
abbrev bwdCond_W : List (Ref sig .tc) := [main_while1c_c_34, main_while1c_v53]
theorem bwdCond_writes : Writes (F := F) bwdCond bwdCond_W := forall_writes_sub_of_map rfl
theorem bwdCond_keep : Keeps (F := F) bwdCond bwdCond_W := keeps bwdCond_writes

/-- What runs before the forward loop. -/
abbrev preI : List (List (HloOp τ sig (Elt F))) := [host0]
theorem preI_plain : Plain (preI (F := F)) := plain (by simp [host0]) (.nil)

/-- The body of the forward loop. -/
abbrev fwdI : List (List (HloOp τ sig (Elt F))) := [fwd0, fwd1, fwd2, fwd3, fwd4, fwd5, fwd6, fwd7, fwd8, fwd9, fwd10, fwd11]
theorem fwdI_plain : Plain (fwdI (F := F)) := plain (by simp [fwd0]) (plain (by simp [fwd1]) (plain (by simp [fwd2]) (plain (by simp [fwd3]) (plain (by simp [fwd4]) (plain (by simp [fwd5]) (plain (by simp [fwd6]) (plain (by simp [fwd7]) (plain (by simp [fwd8]) (plain (by simp [fwd9]) (plain (by simp [fwd10]) (plain (by simp [fwd11]) (.nil))))))))))))

/-- What runs between the two loops. -/
abbrev midI : List (List (HloOp τ sig (Elt F))) := [host1, tail0]
theorem midI_plain : Plain (midI (F := F)) := plain (by simp [host1]) (plain (by simp [tail0]) (.nil))

/-- The body of the backward loop. -/
abbrev bwdI : List (List (HloOp τ sig (Elt F))) := [bwd0, bwd1, bwd2, bwd3, bwd4, bwd5, bwd6, bwd7, bwd8, bwd9, bwd10, bwd11, bwd12, bwd13, bwd14, bwd15, bwd16, bwe0]
theorem bwdI_plain : Plain (bwdI (F := F)) := plain (by simp [bwd0]) (plain (by simp [bwd1]) (plain (by simp [bwd2]) (plain (by simp [bwd3]) (plain (by simp [bwd4]) (plain (by simp [bwd5]) (plain (by simp [bwd6]) (plain (by simp [bwd7]) (plain (by simp [bwd8]) (plain (by simp [bwd9]) (plain (by simp [bwd10]) (plain (by simp [bwd11]) (plain (by simp [bwd12]) (plain (by simp [bwd13]) (plain (by simp [bwd14]) (plain (by simp [bwd15]) (plain (by simp [bwd16]) (plain (by simp [bwe0]) (.nil))))))))))))))))))

/-- What runs after the backward loop. -/
abbrev postI : List (List (HloOp τ sig (Elt F))) := [tail1]
theorem postI_plain : Plain (postI (F := F)) := plain (by simp [tail1]) (.nil)

end Cert.Proof.Ref

end
-- ==== Proof.TwoLoops.lean ====
module

public import Idealize.ShloMosaic.Lib.StableHlo.RunLoop

@[expose] public section

noncomputable section

namespace Cert.Proof.TwoLoops

open Idealize.ShloMosaic Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe
open Idealize.ShloMosaic.Pipeline (CSeg Ticket PCfg ucRefs)

/-! A program of host operations with two counted loops: `pre`, the first loop, `mid`, the second loop, `post`. -/

variable {nD : Nat} {τ : Topo} {sig : RefSig} {F : FTy → Type} {Λ₀ : Idealize.SL.Sem.Labels}

local notation "𝕄" => MT nD τ sig Unit (Elt F) ℕ (Option PUnit) ℕ

section

variable (pcs : Fin 0 → PCfg sig Λ₀ (Elt F)) (defs₀ : Defs nD τ sig (Elt F) Λ₀) {nL : Nat}
  (loops : Fin nL → Prog (TpuEff nD τ sig (Elt F) (HostLoop.Sig (Pipeline.Sig Λ₀ (Fin 0) fun p => (pcs p).Adm) nL) .tc) PUnit)

/-- There is no kernel call: nothing is admitted, no ticket is used, no level is assigned. -/
abbrev adm : (p : Fin 0) → (pcs p).Adm := fun p => p.elim0
abbrev tk : Fin 0 → Ticket (Ix := Unit) (Name := ℕ) (U := Option PUnit) (Lvl := ℕ) (nD := nD) (τ := τ) pcs (adm pcs) := fun j => j.elim0
abbrev L : GSem nD τ sig → Finset Unit := fun _ => ∅
abbrev lv : GSem nD τ sig → Unit → ℕ := fun _ _ => 0

theorem cellOf_injective : Function.Injective (Pipeline.cellOf (nD := nD) (τ := τ) (Pipeline.pin pcs (adm pcs))) := fun k => k.1.elim0

/-- What rides beside the buffers: the core owes nothing. -/
abbrev owe (c : Dev nD) : sProp 𝕄 := iprop(∃ W, owes (c : Thread nD τ) (0 : CellTallies nD τ sig Unit) W)

variable {pcs defs₀ loops}

/-- A condition's specification with what the core owes beside it. -/
theorem loopCond {cond : Prog (TpuEff nD τ sig (Elt F) (HostLoop.Sig (Pipeline.Sig Λ₀ (Fin 0) fun p => (pcs p).Adm) nL) .tc) (Elt F .i1)}
    {condOps : List (HloOp τ sig (Elt F))} {bodyI : List (List (HloOp τ sig (Elt F)))} {W₀ : Dev nD → Valuation τ sig (Elt F)} {n : ℕ}
    (hcond : CondSpec pcs defs₀ loops cond condOps bodyI W₀ n) :
    LoopCond pcs defs₀ Variants.none loops owe cond condOps bodyI W₀ n := by
  intro k hk c bd
  have framed := (sep_mono_left (Q := owe c) (hcond k hk c bd)).trans (wp_frame_r _ _ _)
  refine BIBase.Entails.trans ?_ (framed.trans (wp_mono _ _ _ fun v => ?_))
  · iintro ⟨Hb, Hh, Ho⟩
    isplitr [Ho]
    · isplitl [Hb] <;> iassumption
    iexact Ho
  · iintro ⟨⟨%hv, Hb, Hh⟩, Ho⟩
    isplitr; · ipureintro; exact hv
    isplitl [Hb]; · iexact Hb
    isplitl [Hh] <;> iassumption

end

/-- One counted loop: its condition, its body as stretches of operations, its number of trips. -/
structure Counted (F : FTy → Type) (τ : Topo) (sig : RefSig) where
  condOps : List (HloOp τ sig (Elt F))
  body : List (List (HloOp τ sig (Elt F)))
  trips : ℕ

/-- The buffers after the loop, entered from `W`. -/
abbrev Counted.exit (l : Counted F τ sig) (W : Dev nD → Valuation τ sig (Elt F)) (c : Dev nD) : Valuation τ sig (Elt F) :=
  after l.condOps (atTrip l.condOps l.body W l.trips c)

variable (l0 l1 : Counted F τ sig) (pre mid post : List (List (HloOp τ sig (Elt F)))) (m : (ℓ : Loc nD τ sig) → Buf (Elt F) ℓ)

/-- The buffers at the first loop's entry, at the second's, and at the end. -/
abbrev entry0 (c : Dev nD) : Valuation τ sig (Elt F) := afterL pre (launchContents m c)
abbrev entry1 (c : Dev nD) : Valuation τ sig (Elt F) := afterL mid (l0.exit (entry0 pre m) c)
abbrev final (c : Dev nD) : Valuation τ sig (Elt F) := afterL post (l1.exit (entry1 l0 pre mid m) c)

variable {l0 l1 pre mid post m}

/-- Every fair run of such a program ends, with the counters at zero and every unscoped buffer at its final contents. -/
theorem run [∀ e, Nonempty (Elt F e)]
    (pcs : Fin 0 → PCfg sig Λ₀ (Elt F)) (defs₀ : Defs nD τ sig (Elt F) Λ₀) {nL : Nat}
    (loops : Fin nL → Prog (TpuEff nD τ sig (Elt F) (HostLoop.Sig (Pipeline.Sig Λ₀ (Fin 0) fun p => (pcs p).Adm) nL) .tc) PUnit)
    (main : Dev nD → Prog (TpuEff nD τ sig (Elt F) (HostLoop.Sig (Pipeline.Sig Λ₀ (Fin 0) fun p => (pcs p).Adm) nL) .tc) PUnit)
    (i0 i1 : Fin nL)
    (cond0 cond1 : Prog (TpuEff nD τ sig (Elt F) (HostLoop.Sig (Pipeline.Sig Λ₀ (Fin 0) fun p => (pcs p).Adm) nL) .tc) (Elt F .i1))
    (body0 body1 : Prog (TpuEff nD τ sig (Elt F) (HostLoop.Sig (Pipeline.Sig Λ₀ (Fin 0) fun p => (pcs p).Adm) nL) .tc) PUnit)
    (h0 : loops i0 = HostLoop.step i0 cond0 body0) (h1 : loops i1 = HostLoop.step i1 cond1 body1)
    (hpre : Plain pre) (hb0 : Plain l0.body) (hmid : Plain mid) (hb1 : Plain l1.body) (hpost : Plain post)
    (hmain : ∀ c, main c = Pipeline.chain ((pre.map fun ops => (seq ops : Prog _ PUnit)) ++ HostLoop.enter i0
      :: ((mid.map fun ops => (seq ops : Prog _ PUnit)) ++ HostLoop.enter i1 :: post.map fun ops => (seq ops : Prog _ PUnit))))
    (hbody0 : body0 = Pipeline.chain (l0.body.map fun ops => (seq ops : Prog _ PUnit)))
    (hbody1 : body1 = Pipeline.chain (l1.body.map fun ops => (seq ops : Prog _ PUnit)))
    (ρ : Dev nD → PrngReg) (hno : ∀ x : SemLoc sig, x.isScoped .tc = true)
    (hc0 : CondSpec pcs defs₀ loops cond0 l0.condOps l0.body (entry0 pre m) l0.trips)
    (hc1 : CondSpec pcs defs₀ loops cond1 l1.condOps l1.body (entry1 l0 pre mid m) l1.trips) :
    θ_run (HostLoop.defs loops (Pipeline.defs pcs defs₀)) (onTc (τ := τ) main) ⟨m, fun _ => 0, ρ⟩ (fun r =>
      (∀ (c : Dev nD) (b : Ref sig .tc), (Proc.devRef .tc b : DevRef τ sig).isScoped = false →
        r.2.mem ((c.tc : Thread nD τ).loc b) = final l0 l1 pre mid post m c (Proc.devRef .tc b))
      ∧ r.2.sem = fun _ => 0) := by
  let segs : List (CSeg pcs (adm pcs) defs₀ Variants.none L lv loops (tk pcs)) :=
    segsOf _ _ _ _ _ _ _ _ owe pre hpre (launchContents m)
      ++ loopSeg _ _ _ _ _ _ _ _ i0 cond0 body0 h0 l0.condOps l0.body hb0 hbody0 l0.trips (entry0 pre m) owe (loopCond hc0)
      :: (segsOf _ _ _ _ _ _ _ _ owe mid hmid (l0.exit (entry0 pre m))
      ++ loopSeg _ _ _ _ _ _ _ _ i1 cond1 body1 h1 l1.condOps l1.body hb1 hbody1 l1.trips (entry1 l0 pre mid m) owe (loopCond hc1)
      :: segsOf _ _ _ _ _ _ _ _ owe post hpost (l1.exit (entry1 l0 pre mid m)))
  have hprog : segs.map CSeg.prog = (pre.map fun ops => (seq ops : Prog _ PUnit)) ++ HostLoop.enter i0
      :: ((mid.map fun ops => (seq ops : Prog _ PUnit)) ++ HostLoop.enter i1 :: post.map fun ops => (seq ops : Prog _ PUnit)) := by
    show List.map CSeg.prog (_ ++ _ :: (_ ++ _ :: _)) = _
    rw [List.map_append, List.map_cons, List.map_append, List.map_cons, segsOf_prog, segsOf_prog, segsOf_prog]
    rfl
  refine Pipeline.θ_run_regions_loop_kit_sems (Ix := Unit) (Name := ℕ) (U := Option PUnit) (Lvl := ℕ) (J := Fin 0) (P := Fin 0) (Val := Elt F)
    pcs (adm pcs) (cellOf_injective pcs) defs₀ Variants.none L lv loops (tk pcs) m ρ main segs
    (fun c Q => by
      rw [hmain c]
      show wp _ _ _ (Pipeline.chain (segs.map CSeg.prog)) Q ⊢ _
      rw [hprog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ owe c))
    (Tₙ := fun c => held (c : Thread nD τ) (ucRefs τ sig) (final l0 l1 pre mid post m c))
    (hch := CSeg.Chains.append (segsOf_chains _ _ _ _ _ _ _ _ owe pre hpre _) ⟨fun _ => .rfl,
      CSeg.Chains.append (segsOf_chains _ _ _ _ _ _ _ _ owe mid hmid _) ⟨fun _ => .rfl, segsOf_chains _ _ _ _ _ _ _ _ owe post hpost _⟩⟩)
    (hinit := by
      refine Pipeline.initEach L lv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = final l0 l1 pre mid post m c b)
    (hfin := fun c s' => by
      unfold held
      iintro ⟨Hh, HSI⟩
      ihave Hr := (pointsTo_read_all (ucRefs τ sig) (fun b => ((c : Dev nD), b)) (final l0 l1 pre mid post m c) s') $$ [Hh HSI]
      · isplitl [Hh] <;> iassumption
      icases Hr with ⟨%h, HSI⟩
      imodintro
      isplitr; · ipureintro; exact h
      iexact HSI)
    (hQ := fun _ h hz => ⟨fun c b hb => h c _ (devRef_mem_ucRefs b hb), funext fun g => hz g (.inr (hno g.2))⟩)

end Cert.Proof.TwoLoops

end
-- ==== Proof.RefRun.lean ====
module

public import proofs.«01_k».proof.Proof.RefOps
public import proofs.«01_k».proof.Proof.TwoLoops
public import Idealize.ShloMosaic.Lib.Scf.ExitTest
public import Idealize.ShloMosaic.Lib.Scf.Counter

@[expose] public section

noncomputable section

namespace Cert.Proof.Ref

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! The reference as two counted loops of 256 trips, and its run. -/

abbrev fwdLoop : TwoLoops.Counted F τ sig := ⟨fwdCond, fwdI, 256⟩
abbrev bwdLoop : TwoLoops.Counted F τ sig := ⟨bwdCond, bwdI, 256⟩

variable (m : (ℓ : Loc nD τ sig) → Buf (Elt F) ℓ)

/-- The buffers at the entry of each loop and at the end. -/
abbrev E0 : Dev nD → Valuation τ sig (Elt F) := TwoLoops.entry0 preI m
abbrev E1 : Dev nD → Valuation τ sig (Elt F) := TwoLoops.entry1 fwdLoop preI midI m
abbrev E2 : Dev nD → Valuation τ sig (Elt F) := TwoLoops.final fwdLoop bwdLoop preI midI postI m

/-- The buffers before the `k`-th run of each loop's condition, the loop entered from `W`. -/
abbrev at0 (W : Dev nD → Valuation τ sig (Elt F)) (k : ℕ) (c : Dev nD) : Valuation τ sig (Elt F) := atTrip fwdCond fwdI W k c
abbrev at1 (W : Dev nD → Valuation τ sig (Elt F)) (k : ℕ) (c : Dev nD) : Valuation τ sig (Elt F) := atTrip bwdCond bwdI W k c

set_option maxRecDepth 100000 in
theorem fwd_step (X : Valuation τ sig (Elt F)) :
    after fwd11 X (Proc.devRef .tc main_v21_6) = addi (X (Proc.devRef .tc main_v21_6)) (constantI S_ 32 1#32) := by
  after_results
  rfl

set_option maxRecDepth 100000 in
theorem bwd_step (X : Valuation τ sig (Elt F)) :
    after bwe0 (after bwd16 X) (Proc.devRef .tc main_v34_8) = addi (X (Proc.devRef .tc main_v34_8)) (constantI S_ 32 1#32) := by
  rw [bwe0_keep _ _]
  after_results
  rfl

/-- What a whole body of the forward loop leaves alone. -/
theorem fwd_ctr (V : Valuation τ sig (Elt F)) :
    afterL fwdI (after fwdCond V) (Proc.devRef .tc main_v21_6) = addi (V (Proc.devRef .tc main_v21_6)) (constantI S_ 32 1#32) := by
  simp only [afterL_cons, afterL_nil]
  rw [fwd_step, fwd10_keep _ _, fwd9_keep _ _, fwd8_keep _ _,
    fwd7_keep _ _, fwd6_keep _ _, fwd5_keep _ _,
    fwd4_keep _ _, fwd3_keep _ _, fwd2_keep _ _,
    fwd1_keep _ _, fwd0_keep _ _, fwdCond_keep _ _]

theorem bwd_ctr (V : Valuation τ sig (Elt F)) :
    afterL bwdI (after bwdCond V) (Proc.devRef .tc main_v34_8) = addi (V (Proc.devRef .tc main_v34_8)) (constantI S_ 32 1#32) := by
  simp only [afterL_cons, afterL_nil]
  rw [bwd_step, bwd15_keep _ _, bwd14_keep _ _, bwd13_keep _ _,
    bwd12_keep _ _, bwd11_keep _ _, bwd10_keep _ _,
    bwd9_keep _ _, bwd8_keep _ _,
    bwd7_keep _ _, bwd6_keep _ _, bwd5_keep _ _,
    bwd4_keep _ _, bwd3_keep _ _, bwd2_keep _ _,
    bwd1_keep _ _, bwd0_keep _ _, bwdCond_keep _ _]

theorem at0_ctr (W : Dev nD → Valuation τ sig (Elt F)) (c : Dev nD) (hW : W c (Proc.devRef .tc main_v21_6) = fun _ => (0#32 : BitVec 32)) :
    ∀ k, at0 W k c (Proc.devRef .tc main_v21_6) = fun _ => Scf.iv 0#32 1#32 k
  | 0 => by rw [show at0 W 0 c = W c from rfl, hW, Scf.iv_zero]
  | k + 1 => by
    rw [show at0 W (k + 1) c = afterL fwdI (after fwdCond (at0 W k c)) from rfl, fwd_ctr, at0_ctr W c hW k, Scf.iv_succ]
    rfl

theorem at1_ctr (W : Dev nD → Valuation τ sig (Elt F)) (c : Dev nD) (hW : W c (Proc.devRef .tc main_v34_8) = fun _ => (0#32 : BitVec 32)) :
    ∀ k, at1 W k c (Proc.devRef .tc main_v34_8) = fun _ => Scf.iv 0#32 1#32 k
  | 0 => by rw [show at1 W 0 c = W c from rfl, hW, Scf.iv_zero]
  | k + 1 => by
    rw [show at1 W (k + 1) c = afterL bwdI (after bwdCond (at1 W k c)) from rfl, bwd_ctr, at1_ctr W c hW k, Scf.iv_succ]
    rfl

/-- Each counter starts at zero. -/
theorem ctr0 (c : Dev nD) : E0 m c (Proc.devRef .tc main_v21_6) = fun _ => (0#32 : BitVec 32) := by
  simp only [E0, TwoLoops.entry0, afterL_cons, afterL_nil]
  after_reads_simp
  rfl

theorem ctr1 (c : Dev nD) : E1 m c (Proc.devRef .tc main_v34_8) = fun _ => (0#32 : BitVec 32) := by
  simp only [E1, TwoLoops.entry1, afterL_cons, afterL_nil]
  after_reads_simp
  rfl

set_option backward.isDefEq.respectTransparency.types false in
/-- The forward loop's condition holds before its first 256 trips. -/
theorem fwd_spec (W : Dev nD → Valuation τ sig (Elt F)) (hW : ∀ c, W c (Proc.devRef .tc main_v21_6) = fun _ => (0#32 : BitVec 32)) :
    CondSpec (pcfgs (F := F)) defs₀ loops (main_while0_cond (F := F)) fwdCond fwdI W 256 := by
  intro k hk c bd
  have hctr := at0_ctr W c (hW c) k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at0 W k c) main_v21_6 HostLoop.idx0)
        (HloOp.result _ (at0 W k c) main_while0c_c_30 HostLoop.idx0) = 1#1) (k < 256)
    rw [nullary_result_ne _ _ _ _ (by decide), nullary_result, hctr]
    exact Scf.cmpi_slt_iv_ub_iff (lb := 0#32) (ub := 256#32) (st := 1#32) (by decide) (show k ≤ Scf.trips 0#32 256#32 1#32 from hk)
  isplitl [Hb]; · iexact Hb
  rw [after_cons, after_cons, after_nil]; iexact Hh

set_option backward.isDefEq.respectTransparency.types false in
/-- The same of the backward loop. -/
theorem bwd_spec (W : Dev nD → Valuation τ sig (Elt F)) (hW : ∀ c, W c (Proc.devRef .tc main_v34_8) = fun _ => (0#32 : BitVec 32)) :
    CondSpec (pcfgs (F := F)) defs₀ loops (main_while1_cond (F := F)) bwdCond bwdI W 256 := by
  intro k hk c bd
  have hctr := at1_ctr W c (hW c) k
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at1 W k c) main_v34_8 HostLoop.idx0)
        (HloOp.result _ (at1 W k c) main_while1c_c_34 HostLoop.idx0) = 1#1) (k < 256)
    rw [nullary_result_ne _ _ _ _ (by decide), nullary_result, hctr]
    exact Scf.cmpi_slt_iv_ub_iff (lb := 0#32) (ub := 256#32) (st := 1#32) (by decide) (show k ≤ Scf.trips 0#32 256#32 1#32 from hk)
  isplitl [Hb]; · iexact Hb
  rw [after_cons, after_cons, after_nil]; iexact Hh

theorem no_sems (x : SemLoc sig) : x.isScoped .tc = true := by revert x; decide

set_option maxRecDepth 100000 in
/-- Every fair run of the reference ends with the counters at zero and every unscoped buffer at `E2`. -/
theorem run_main (ρ : Dev nD → PrngReg) : θ_run (defs (F := F)) (onTc (τ := τ) (main (F := F))) ⟨m, fun _ => 0, ρ⟩ (fun r =>
      (∀ (c : Dev nD) (b : Ref sig .tc), (Proc.devRef .tc b : DevRef τ sig).isScoped = false →
        r.2.mem ((c.tc : Thread nD τ).loc b) = E2 m c (Proc.devRef .tc b))
      ∧ r.2.sem = fun _ => 0) :=
  TwoLoops.run (l0 := fwdLoop) (l1 := bwdLoop) (pre := preI) (mid := midI) (post := postI) (m := m)
    (pcfgs (F := F)) defs₀ loops main 0 1 main_while0_cond main_while1_cond main_while0_body main_while1_body rfl rfl
    preI_plain fwdI_plain midI_plain bwdI_plain postI_plain (fun c => by rw [main_chain]; rfl)
    (by rw [fwd_chain]; rfl) (by rw [bwd_chain]; rfl) ρ no_sems (fwd_spec _ (ctr0 m)) (bwd_spec _ (ctr1 m))

/-- What a trip of the loop writes. -/
abbrev fwd_all : List (Ref sig .tc) := fwdCond_W ++ fwd0_W ++ fwd1_W ++ fwd2_W ++ fwd3_W ++ fwd4_W ++ fwd5_W ++ fwd6_W ++ fwd7_W ++ fwd8_W ++ fwd9_W ++ fwd10_W ++ fwd11_W

theorem fwd_trip_keep (V : Valuation τ sig (Elt F)) (b : Ref sig .tc) (h : b ∉ fwd_all) :
    afterL fwdI (after fwdCond V) (Proc.devRef .tc b) = V (Proc.devRef .tc b) := by
  simp only [fwd_all, List.mem_append, not_or] at h
  simp only [afterL_cons, afterL_nil]
  rw [fwd11_keep _ _ (by tauto), fwd10_keep _ _ (by tauto), fwd9_keep _ _ (by tauto), fwd8_keep _ _ (by tauto), fwd7_keep _ _ (by tauto), fwd6_keep _ _ (by tauto), fwd5_keep _ _ (by tauto), fwd4_keep _ _ (by tauto), fwd3_keep _ _ (by tauto), fwd2_keep _ _ (by tauto), fwd1_keep _ _ (by tauto), fwd0_keep _ _ (by tauto), fwdCond_keep _ _ (by tauto)]

theorem fwd_at_keep (W : Dev nD → Valuation τ sig (Elt F)) (c : Dev nD) (b : Ref sig .tc) (h : b ∉ fwd_all) :
    ∀ k, atTrip fwdCond fwdI W k c (Proc.devRef .tc b) = W c (Proc.devRef .tc b)
  | 0 => rfl
  | k + 1 => (fwd_trip_keep _ b h).trans (fwd_at_keep W c b h k)

/-- What a trip of the loop writes. -/
abbrev bwd_all : List (Ref sig .tc) := bwdCond_W ++ bwd0_W ++ bwd1_W ++ bwd2_W ++ bwd3_W ++ bwd4_W ++ bwd5_W ++ bwd6_W ++ bwd7_W ++ bwd8_W ++ bwd9_W ++ bwd10_W ++ bwd11_W ++ bwd12_W ++ bwd13_W ++ bwd14_W ++ bwd15_W ++ bwd16_W ++ bwe0_W

theorem bwd_trip_keep (V : Valuation τ sig (Elt F)) (b : Ref sig .tc) (h : b ∉ bwd_all) :
    afterL bwdI (after bwdCond V) (Proc.devRef .tc b) = V (Proc.devRef .tc b) := by
  simp only [bwd_all, List.mem_append, not_or] at h
  simp only [afterL_cons, afterL_nil]
  rw [bwe0_keep _ _ (by tauto), bwd16_keep _ _ (by tauto), bwd15_keep _ _ (by tauto), bwd14_keep _ _ (by tauto), bwd13_keep _ _ (by tauto), bwd12_keep _ _ (by tauto), bwd11_keep _ _ (by tauto), bwd10_keep _ _ (by tauto), bwd9_keep _ _ (by tauto), bwd8_keep _ _ (by tauto), bwd7_keep _ _ (by tauto), bwd6_keep _ _ (by tauto), bwd5_keep _ _ (by tauto), bwd4_keep _ _ (by tauto), bwd3_keep _ _ (by tauto), bwd2_keep _ _ (by tauto), bwd1_keep _ _ (by tauto), bwd0_keep _ _ (by tauto), bwdCond_keep _ _ (by tauto)]

theorem bwd_at_keep (W : Dev nD → Valuation τ sig (Elt F)) (c : Dev nD) (b : Ref sig .tc) (h : b ∉ bwd_all) :
    ∀ k, atTrip bwdCond bwdI W k c (Proc.devRef .tc b) = W c (Proc.devRef .tc b)
  | 0 => rfl
  | k + 1 => (bwd_trip_keep _ b h).trans (bwd_at_keep W c b h k)

/-- An argument ends as it was launched. -/
theorem E2_arg (c : Dev nD) (b : Ref sig .tc) (h : b ∉ host0_W ++ fwd_all ++ host1_W ++ tail0_W ++ bwd_all ++ tail1_W) :
    E2 m c (Proc.devRef .tc b) = m ((c.tc : Thread nD τ).loc b) := by
  simp only [List.mem_append, not_or] at h
  obtain ⟨⟨⟨⟨⟨h0, h1⟩, h2⟩, h3⟩, h4⟩, h5⟩ := h
  have h1' := h1; have h4' := h4
  show after tail1 (after bwdCond (atTrip bwdCond bwdI (E1 m) 256 c)) (Proc.devRef .tc b) = _
  rw [tail1_keep _ _ h5, bwdCond_keep _ _ (by tauto), bwd_at_keep _ c b (by simpa only [bwd_all, List.mem_append, not_or] using h4')]
  show after tail0 (after host1 (after fwdCond (atTrip fwdCond fwdI (E0 m) 256 c))) (Proc.devRef .tc b) = _
  rw [tail0_keep _ _ h3, host1_keep _ _ h2, fwdCond_keep _ _ (by tauto), fwd_at_keep _ c b (by simpa only [fwd_all, List.mem_append, not_or] using h1')]
  exact host0_keep _ _ h0

end Cert.Proof.Ref

end
-- ==== Proof.Frames.lean ====
module

public import proofs.«01_k».proof.Defs
public import proofs.«01_k».proof.Proof.Gen.Kernel
public import proofs.«01_k».proof.Proof.KernelRun
public import proofs.«01_k».proof.Proof.RefRun

@[expose] public section

noncomputable section

namespace Cert.Proof

open Idealize.ShloMosaic Idealize.SL.Sem

/-! The frames: a run ends, with the counters at zero and the seven arguments as they were. -/

section

open Cert.KernelIdeal

variable {F : FTy → Type} [FloatOps F]

/-- The seven arguments of the kernel are unchanged. -/
theorem kernel_args (m : (ℓ : Loc nD τ sig) → Buf (Elt F) ℓ) (s : (ℓ : Loc nD τ sig) → Buf (Elt F) ℓ)
    (h : ∀ (c : Dev nD) (b : Ref sig .tc), b.isScoped = false → s ((c.tc : Thread nD τ).loc b) = KernelRun.W3 m c (Proc.devRef .tc b)) (c : Dev nD) :
    s ((c.tc : Thread nD τ).loc main_arg0) = m ((c.tc : Thread nD τ).loc main_arg0)
    ∧ s ((c.tc : Thread nD τ).loc main_arg1) = m ((c.tc : Thread nD τ).loc main_arg1)
    ∧ s ((c.tc : Thread nD τ).loc main_arg2) = m ((c.tc : Thread nD τ).loc main_arg2)
    ∧ s ((c.tc : Thread nD τ).loc main_arg3) = m ((c.tc : Thread nD τ).loc main_arg3)
    ∧ s ((c.tc : Thread nD τ).loc main_arg4) = m ((c.tc : Thread nD τ).loc main_arg4)
    ∧ s ((c.tc : Thread nD τ).loc main_arg5) = m ((c.tc : Thread nD τ).loc main_arg5)
    ∧ s ((c.tc : Thread nD τ).loc main_arg6) = m ((c.tc : Thread nD τ).loc main_arg6) :=
  ⟨(h c _ rfl).trans (KernelRun.W3_arg m c _ (by decide +kernel) (by decide +kernel) (by decide +kernel)),
    (h c _ rfl).trans (KernelRun.W3_arg m c _ (by decide +kernel) (by decide +kernel) (by decide +kernel)),
    (h c _ rfl).trans (KernelRun.W3_arg m c _ (by decide +kernel) (by decide +kernel) (by decide +kernel)),
    (h c _ rfl).trans (KernelRun.W3_arg m c _ (by decide +kernel) (by decide +kernel) (by decide +kernel)),
    (h c _ rfl).trans (KernelRun.W3_arg m c _ (by decide +kernel) (by decide +kernel) (by decide +kernel)),
    (h c _ rfl).trans (KernelRun.W3_arg m c _ (by decide +kernel) (by decide +kernel) (by decide +kernel)),
    (h c _ rfl).trans (KernelRun.W3_arg m c _ (by decide +kernel) (by decide +kernel) (by decide +kernel))⟩

/-- The frame of the kernel for any float values. -/
theorem frame_run (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => kernel_args m _ h.1 c, h.2⟩) (KernelRun.run_main m ρ)

theorem frame_kernelIdeal : Cert.quiescent_KernelIdeal := fun m ρ _ => frame_run (F := Ideal) m ρ

theorem frame_kernel : Cert.quiescent_Kernel := by
  intro m ρ _
  refine Eq.mp ?_ (frame_run (F := Bits) m ρ)
  chain_rfl

end

section

open Cert.ReferenceIdeal

variable {F : FTy → Type} [FloatOps F]

/-- The seven arguments of the reference are unchanged. -/
theorem reference_args (m : (ℓ : Loc nD τ sig) → Buf (Elt F) ℓ) (s : (ℓ : Loc nD τ sig) → Buf (Elt F) ℓ)
    (h : ∀ (c : Dev nD) (b : Ref sig .tc), (Proc.devRef .tc b : DevRef τ sig).isScoped = false → s ((c.tc : Thread nD τ).loc b) = Ref.E2 m c (Proc.devRef .tc b)) (c : Dev nD) :
    s ((c.tc : Thread nD τ).loc main_arg0) = m ((c.tc : Thread nD τ).loc main_arg0)
    ∧ s ((c.tc : Thread nD τ).loc main_arg1) = m ((c.tc : Thread nD τ).loc main_arg1)
    ∧ s ((c.tc : Thread nD τ).loc main_arg2) = m ((c.tc : Thread nD τ).loc main_arg2)
    ∧ s ((c.tc : Thread nD τ).loc main_arg3) = m ((c.tc : Thread nD τ).loc main_arg3)
    ∧ s ((c.tc : Thread nD τ).loc main_arg4) = m ((c.tc : Thread nD τ).loc main_arg4)
    ∧ s ((c.tc : Thread nD τ).loc main_arg5) = m ((c.tc : Thread nD τ).loc main_arg5)
    ∧ s ((c.tc : Thread nD τ).loc main_arg6) = m ((c.tc : Thread nD τ).loc main_arg6) :=
  ⟨(h c _ rfl).trans (Ref.E2_arg m c _ (by decide +kernel)), (h c _ rfl).trans (Ref.E2_arg m c _ (by decide +kernel)),
    (h c _ rfl).trans (Ref.E2_arg m c _ (by decide +kernel)), (h c _ rfl).trans (Ref.E2_arg m c _ (by decide +kernel)),
    (h c _ rfl).trans (Ref.E2_arg m c _ (by decide +kernel)), (h c _ rfl).trans (Ref.E2_arg m c _ (by decide +kernel)),
    (h c _ rfl).trans (Ref.E2_arg m c _ (by decide +kernel))⟩

theorem frame_referenceIdeal : Cert.quiescent_ReferenceIdeal := fun m ρ _ =>
  (θ_run Cert.ReferenceIdeal.defs _ _).mono (fun _ h => ⟨fun c => reference_args m _ h.1 c, h.2⟩) (Ref.run_main (F := Ideal) m ρ)

end

end Cert.Proof

end
-- ==== Proof.Spec.lean ====
module

public import Idealize.ShloMosaic.PureOps.Ideal.Laws
public import Idealize.ShloMosaic.Lib.Pointwise.Index

@[expose] public section

noncomputable section

/-! The recurrence over chunks and its gradient, as mathematics over the extended reals: what both programs are shown to compute. -/

namespace Cert.Proof

open Idealize.ShloMosaic

/-- A head's state, or the state's cotangent. -/
abbrev Mat : Type := Fin 128 → Fin 128 → EReal

/-- What the recurrence reads of one chunk of one head; `gl` by lane, `dO` the cotangent of the chunk's output. -/
structure Chunk where
  ub : Fin 64 → Fin 128 → EReal
  w : Fin 64 → Fin 128 → EReal
  qd : Fin 64 → Fin 128 → EReal
  kd : Fin 64 → Fin 128 → EReal
  dO : Fin 64 → Fin 128 → EReal
  qk : Fin 64 → Fin 64 → EReal
  gl : Fin 128 → EReal

namespace Chunk

variable (X : Chunk) (S D : Mat)

/-- `ub - w S`. -/
def u (r : Fin 64) (v : Fin 128) : EReal := X.ub r v - ∑ k : Fin 128, X.w r k * S k v
/-- `gl S + kdᵀ u`: the next chunk's state. -/
def next (k v : Fin 128) : EReal := X.gl v * S k v + ∑ r : Fin 64, X.kd r k * X.u S r v
/-- `qd S + qk u`: the chunk's output. -/
def out (r : Fin 64) (v : Fin 128) : EReal := (∑ k : Fin 128, X.qd r k * S k v) + ∑ c : Fin 64, X.qk r c * X.u S c v
/-- `kd D + qkᵀ do`, the cotangent of `u` and of `ub`; `D` is the cotangent of the next chunk's state. -/
def du (r : Fin 64) (v : Fin 128) : EReal := (∑ k : Fin 128, X.kd r k * D k v) + ∑ c : Fin 64, X.qk c r * X.dO c v
/-- `gl D + qdᵀ do - wᵀ du`: the cotangent of the chunk's state. -/
def prev (k v : Fin 128) : EReal :=
  X.gl v * D k v + (∑ r : Fin 64, X.qd r k * X.dO r v) - ∑ r : Fin 64, X.w r k * X.du D r v
/-- The cotangents of the gate, `kd`, `qd`, `qk` and `w`. -/
def dgl : EReal := ∑ k : Fin 128, ∑ v : Fin 128, D k v * S k v
def dkd (r : Fin 64) (k : Fin 128) : EReal := ∑ v : Fin 128, X.u S r v * D k v
def dqd (r : Fin 64) (k : Fin 128) : EReal := ∑ v : Fin 128, X.dO r v * S k v
def dqk (r c : Fin 64) : EReal := ∑ v : Fin 128, X.dO r v * X.u S c v
def dw (r : Fin 64) (k : Fin 128) : EReal := -∑ v : Fin 128, X.du D r v * S k v

end Chunk

/-- The states before each chunk, from zero. -/
def states (X : ℕ → Chunk) : ℕ → Mat
  | 0 => fun _ _ => 0
  | n + 1 => (X n).next (states X n)

/-- The state's cotangents, from zero after chunk 255: the `j`-th is of the state after chunk `255 - j`. -/
def cots (X : ℕ → Chunk) : ℕ → Mat
  | 0 => fun _ _ => 0
  | j + 1 => (X (255 - j)).prev (cots X j)

/-- Head `h`'s lane `l` among the 1024 lanes, and chunk `n`'s row `r` among the 16384 rows (the chunk's number taken modulo 256). -/
abbrev gl8 (h : Fin 8) (l : Fin 128) : Fin 1024 := ⟨128 * h.val + l.val, by omega⟩
abbrev gr (n : ℕ) (r : Fin 64) : Fin 16384 := ⟨64 * (n % 256) + r.val, by omega⟩

/-- Head and lane of a column, chunk row of a row, state row of a row. -/
abbrev hd (x : Fin 1024) : Fin 8 := ⟨x.val / 128, by omega⟩
abbrev ln (x : Fin 1024) : Fin 128 := ⟨x.val % 128, by omega⟩
abbrev rw64 (x : Fin 16384) : Fin 64 := ⟨x.val % 64, by omega⟩
abbrev rw128 (x : Fin 32768) : Fin 128 := ⟨x.val % 128, by omega⟩

/-- Chunk `n` of head `h` in the arrays; the gates are given lane by lane. -/
def chunkOf (ub w qd kd : (⟨2, ![16384, 1024]⟩ : Shape).Idx → EReal) (qk : (⟨3, ![8, 16384, 64]⟩ : Shape).Idx → EReal)
    (gl : (⟨2, ![256, 1024]⟩ : Shape).Idx → EReal) (dO : (⟨2, ![16384, 1024]⟩ : Shape).Idx → EReal) (h : Fin 8) (n : ℕ) : Chunk where
  ub r l := ub (ix2 (gr n r) (gl8 h l))
  w r l := w (ix2 (gr n r) (gl8 h l))
  qd r l := qd (ix2 (gr n r) (gl8 h l))
  kd r l := kd (ix2 (gr n r) (gl8 h l))
  dO r l := dO (ix2 (gr n r) (gl8 h l))
  qk r c := qk (ix3 h (gr n r) c)
  gl l := gl (ix2 ⟨n % 256, by omega⟩ (gl8 h l))

/-- The gates repeated along each head's lanes. -/
def spread (gl : (⟨2, ![256, 8]⟩ : Shape).Idx → EReal) : (⟨2, ![256, 1024]⟩ : Shape).Idx → EReal := fun y => gl (ix2 (y 0) (hd (y 1)))

/-! The result arrays, of each head's chunks. -/

section
variable (X : Fin 8 → ℕ → Chunk)

def oOf : (⟨2, ![16384, 1024]⟩ : Shape).Idx → EReal := fun y =>
  (X (hd (y 1)) ((y 0).val / 64)).out (states (X (hd (y 1))) ((y 0).val / 64)) (rw64 (y 0)) (ln (y 1))
def dubOf : (⟨2, ![16384, 1024]⟩ : Shape).Idx → EReal := fun y =>
  (X (hd (y 1)) ((y 0).val / 64)).du (cots (X (hd (y 1))) (255 - (y 0).val / 64)) (rw64 (y 0)) (ln (y 1))
def dwOf : (⟨2, ![16384, 1024]⟩ : Shape).Idx → EReal := fun y =>
  (X (hd (y 1)) ((y 0).val / 64)).dw (states (X (hd (y 1))) ((y 0).val / 64)) (cots (X (hd (y 1))) (255 - (y 0).val / 64)) (rw64 (y 0)) (ln (y 1))
def dqdOf : (⟨2, ![16384, 1024]⟩ : Shape).Idx → EReal := fun y =>
  (X (hd (y 1)) ((y 0).val / 64)).dqd (states (X (hd (y 1))) ((y 0).val / 64)) (rw64 (y 0)) (ln (y 1))
def dkdOf : (⟨2, ![16384, 1024]⟩ : Shape).Idx → EReal := fun y =>
  (X (hd (y 1)) ((y 0).val / 64)).dkd (states (X (hd (y 1))) ((y 0).val / 64)) (cots (X (hd (y 1))) (255 - (y 0).val / 64)) (rw64 (y 0)) (ln (y 1))
def dqkOf : (⟨3, ![8, 16384, 64]⟩ : Shape).Idx → EReal := fun y =>
  (X (y 0) ((y 1).val / 64)).dqk (states (X (y 0)) ((y 1).val / 64)) (rw64 (y 1)) (y 2)
def dglOf : (⟨2, ![256, 1024]⟩ : Shape).Idx → EReal := fun y =>
  Chunk.dgl (states (X (hd (y 1))) (y 0).val) (cots (X (hd (y 1))) (255 - (y 0).val))
end

end Cert.Proof

end
-- ==== Proof.Reals.lean ====
module

public import proofs.«01_k».proof.Proof.Spec

@[expose] public section

noncomputable section

/-! Where the arguments are real the states, their cotangents and what is made of them are real, and there a negated sum is the sum
of the negated terms. -/

namespace Cert.Proof

open Idealize.ShloMosaic

def IsReal (x : EReal) : Prop := ∃ r : ℝ, x = (r : EReal)

namespace IsReal

theorem zero : IsReal 0 := ⟨0, rfl⟩
theorem add {x y : EReal} (hx : IsReal x) (hy : IsReal y) : IsReal (x + y) := by
  obtain ⟨a, rfl⟩ := hx; obtain ⟨b, rfl⟩ := hy; exact ⟨a + b, (EReal.coe_add a b).symm⟩
theorem sub {x y : EReal} (hx : IsReal x) (hy : IsReal y) : IsReal (x - y) := by
  obtain ⟨a, rfl⟩ := hx; obtain ⟨b, rfl⟩ := hy; exact ⟨a - b, (EReal.coe_sub a b).symm⟩
theorem mul {x y : EReal} (hx : IsReal x) (hy : IsReal y) : IsReal (x * y) := by
  obtain ⟨a, rfl⟩ := hx; obtain ⟨b, rfl⟩ := hy; exact ⟨a * b, (EReal.coe_mul a b).symm⟩
theorem sum {n : ℕ} {f : Fin n → EReal} (hf : ∀ i, IsReal (f i)) : IsReal (∑ i, f i) :=
  Finset.sum_induction f IsReal (fun _ _ => add) zero fun i _ => hf i

end IsReal

theorem sum_neg_real {n : ℕ} (f : Fin n → EReal) (hf : ∀ i, IsReal (f i)) : ∑ i, -f i = -∑ i, f i := by
  induction n with
  | zero => simp
  | succ n ih =>
    rw [Fin.sum_univ_castSucc, Fin.sum_univ_castSucc, ih _ fun i => hf _]
    obtain ⟨a, ha⟩ := IsReal.sum (f := fun i : Fin n => f i.castSucc) fun i => hf _
    obtain ⟨b, hb⟩ := hf (Fin.last n)
    rw [ha, hb, ← EReal.coe_neg, ← EReal.coe_neg, ← EReal.coe_add, ← EReal.coe_add, ← EReal.coe_neg, neg_add]

theorem sum_neg_mul {n : ℕ} (f g : Fin n → EReal) (hf : ∀ i, IsReal (f i)) (hg : ∀ i, IsReal (g i)) :
    ∑ i, -f i * g i = -∑ i, f i * g i := by
  simp only [EReal.neg_mul]
  exact sum_neg_real _ fun i => (hf i).mul (hg i)

/-- Every entry of a chunk is real. -/
structure Chunk.Real (X : Chunk) : Prop where
  ub : ∀ r v, IsReal (X.ub r v)
  w : ∀ r v, IsReal (X.w r v)
  qd : ∀ r v, IsReal (X.qd r v)
  kd : ∀ r v, IsReal (X.kd r v)
  dO : ∀ r v, IsReal (X.dO r v)
  qk : ∀ r v, IsReal (X.qk r v)
  gl : ∀ v, IsReal (X.gl v)

section
variable {X : Chunk} (H : X.Real) {S D : Mat}
include H

theorem Chunk.Real.u (hS : ∀ i j, IsReal (S i j)) (r v) : IsReal (X.u S r v) :=
  (H.ub r v).sub (.sum fun k => (H.w r k).mul (hS k v))
theorem Chunk.Real.next (hS : ∀ i j, IsReal (S i j)) (k v) : IsReal (X.next S k v) :=
  ((H.gl v).mul (hS k v)).add (.sum fun r => (H.kd r k).mul (H.u hS r v))
theorem Chunk.Real.du (hD : ∀ i j, IsReal (D i j)) (r v) : IsReal (X.du D r v) :=
  (IsReal.sum fun k => (H.kd r k).mul (hD k v)).add (.sum fun c => (H.qk c r).mul (H.dO c v))
theorem Chunk.Real.prev (hD : ∀ i j, IsReal (D i j)) (k v) : IsReal (X.prev D k v) :=
  (((H.gl v).mul (hD k v)).add (.sum fun r => (H.qd r k).mul (H.dO r v))).sub (.sum fun r => (H.w r k).mul (H.du hD r v))

end

section
variable {X : ℕ → Chunk} (H : ∀ n, (X n).Real)
include H

theorem states_real : ∀ n i j, IsReal (states X n i j)
  | 0, _, _ => .zero
  | n + 1, i, j => (H n).next (states_real n) i j
theorem cots_real : ∀ n i j, IsReal (cots X n i j)
  | 0, _, _ => .zero
  | n + 1, i, j => (H (255 - n)).prev (cots_real n) i j

end

end Cert.Proof

end
-- ==== Proof.FwdPieces.lean ====
module

public import proofs.«01_k».proof.Proof.FwdData

@[expose] public section

set_option maxRecDepth 16384

noncomputable section

namespace Cert.Proof.Fwd

open Cert.KernelIdeal Cert.KernelIdeal.Gen
open Idealize.ShloMosaic Idealize.ShloMosaic.TcCoe Idealize.ShloMosaic.Tactic

variable {F : FTy → Type} [FloatOps F]

/-! ## The rectangles a block is read and written through: head `h`, chunk `ci`. -/

/-- Head `h` of the carried state. -/
def rS (h : Fin 8) : Rect S8x128x128 := Rect.unit ![h.val, 0, 0] S1x128x128.size (by intro a; fin_cases a <;> simp <;> omega)
/-- Chunk `ci`'s rows, head `h`'s lanes of a block of S512x1024. -/
def rT (ci : Fin 8) (h : Fin 8) : Rect S512x1024 := Rect.unit ![64 * ci.val, 128 * h.val] S64x128.size (by intro a; fin_cases a <;> simp <;> omega)
/-- Chunk `ci`'s rows of head `h`'s block of chunk-by-chunk matrices. -/
def rQ (ci : Fin 8) (h : Fin 8) : Rect S8x512x64 := Rect.unit ![h.val, 64 * ci.val, 0] S1x64x64.size (by intro a; fin_cases a <;> simp <;> omega)
/-- Chunk `ci`'s row, head `h`'s lanes of the gates' block. -/
def rG (ci : Fin 8) (h : Fin 8) : Rect S8x1024 := Rect.unit ![ci.val, 128 * h.val] S1x128.size (by intro a; fin_cases a <;> simp <;> omega)
/-- Chunk `ci`'s state of head `h` in the states' block. -/
def rZ (ci : Fin 8) (h : Fin 8) : Rect S8x1024x128 := Rect.unit ![h.val, 128 * ci.val, 0] S1x128x128.size (by intro a; fin_cases a <;> simp <;> omega)

/-! ## What is computed for one head of one chunk. -/

/-- A head's state as a matrix. -/
def sq (s : Vec F S1x128x128 .f32) : FVec F S128x128 .f32 := shapeCast S128x128 s shapeCasts_S1x128x128_S128x128
/-- A head's chunk matrix. -/
def sqk (q : Vec F S1x64x64 .f32) : FVec F S64x64 .f32 := shapeCast S64x64 q shapeCasts_S1x64x64_S64x64
/-- `ub - w S`. -/
def uV (ub w : Vec F S64x128 .f32) (S : FVec F S128x128 .f32) : FVec F S64x128 .f32 :=
  subf ub (matmul dot_S64x128_S128x128_S64x128_1_0_0_1_n_n none (truncf .bf16 w bitsLt_bf16_f32) (truncf .bf16 S bitsLt_bf16_f32) (constant S64x128 .f32 0x00000000#32))
/-- `gl S + kdᵀ u`. -/
def nextV (gl : Vec F S1x128 .f32) (kd : Vec F S64x128 .f32) (S : FVec F S128x128 .f32) (u : FVec F S64x128 .f32) : FVec F S1x128x128 .f32 :=
  shapeCast S1x128x128 (addf (mulf (broadcastTo S128x128 (shapeCast S1x128 gl shapeCasts_S1x128_S1x128) broadcasts_S1x128_S128x128) S)
    (matmul dot_S64x128_S64x128_S128x128_0_0_1_1_n_n none (truncf .bf16 kd bitsLt_bf16_f32) (truncf .bf16 u bitsLt_bf16_f32) (constant S128x128 .f32 0x00000000#32))) shapeCasts_S128x128_S1x128x128
/-- `qd S + qk u`. -/
def oV (qd : Vec F S64x128 .f32) (qk : FVec F S64x64 .f32) (S : FVec F S128x128 .f32) (u : FVec F S64x128 .f32) : FVec F S64x128 .f32 :=
  addf (matmul dot_S64x128_S128x128_S64x128_1_0_0_1_n_n none (truncf .bf16 qd bitsLt_bf16_f32) (truncf .bf16 S bitsLt_bf16_f32) (constant S64x128 .f32 0x00000000#32))
    (matmul dot_S64x64_S64x128_S64x128_1_0_0_1_n_n none (truncf .bf16 qk bitsLt_bf16_f32) (truncf .bf16 u bitsLt_bf16_f32) (constant S64x128 .f32 0x00000000#32))
/-- The state as it is stored. -/
def stV (S : FVec F S128x128 .f32) : FVec F S1x128x128 .f32 := shapeCast S1x128x128 S shapeCasts_S128x128_S1x128x128

/-! ## The pieces one chunk writes, the last head first: over each head's loads `t0 …` of the inputs' blocks and `ld` of the carried state. -/

variable (t0 : Fin 8 → Vec F S64x128 .f32) (t1 : Fin 8 → Vec F S64x128 .f32) (t2 : Fin 8 → Vec F S64x128 .f32) (t3 : Fin 8 → Vec F S64x128 .f32) (t4 : Fin 8 → Vec F S1x64x64 .f32) (t5 : Fin 8 → Vec F S1x128 .f32) (ld : Fin 8 → Vec F S1x128x128 .f32)

def pS : List (View.Piece (Elt F) S8x128x128 .f32) :=
  ([7, 6, 5, 4, 3, 2, 1, 0] : List (Fin 8)).map fun h => ⟨rS h, nextV (t5 h) (t3 h) (sq (ld h)) (uV (t0 h) (t1 h) (sq (ld h)))⟩

def p6 (ci : Fin 8) : List (View.Piece (Elt F) S512x1024 .f32) :=
  ([7, 6, 5, 4, 3, 2, 1, 0] : List (Fin 8)).map fun h => ⟨rT ci h, oV (t2 h) (sqk (t4 h)) (sq (ld h)) (uV (t0 h) (t1 h) (sq (ld h)))⟩

def p7 (ci : Fin 8) : List (View.Piece (Elt F) S8x1024x128 .f32) :=
  ([7, 6, 5, 4, 3, 2, 1, 0] : List (Fin 8)).map fun h => ⟨rZ ci h, stV (sq (ld h))⟩

/-! ## The loads of the inputs' blocks. -/

section

def ldT (a : Memref sig .tc .vmem S512x1024 .f32) (ha : a.IsWhole) (x : Vec F S512x1024 .f32) (ci : Fin 8) (h : Fin 8) : Vec F S64x128 .f32 :=
  View.readAt (Elt F) a.view (rT ci h).toLoadRect (ha.unread x)
def ldQ (a : Memref sig .tc .vmem S8x512x64 .f32) (ha : a.IsWhole) (x : Vec F S8x512x64 .f32) (ci : Fin 8) (h : Fin 8) : Vec F S1x64x64 .f32 :=
  View.readAt (Elt F) a.view (rQ ci h).toLoadRect (ha.unread x)
def ldG (a : Memref sig .tc .vmem S8x1024 .f32) (ha : a.IsWhole) (x : Vec F S8x1024 .f32) (ci : Fin 8) (h : Fin 8) : Vec F S1x128 .f32 :=
  View.readAt (Elt F) a.view (rG ci h).toLoadRect (ha.unread x)
def ldS (a : Memref sig .tc .vmem S8x128x128 .f32) (ha : a.IsWhole) (x : Vec F S8x128x128 .f32) (h : Fin 8) : Vec F S1x128x128 .f32 :=
  View.readAt (Elt F) a.view (rS h).toLoadRect (ha.unread x)
/-- The carried state as the pieces `L` left it. -/
def ldL (a : Memref sig .tc .vmem S8x128x128 .f32) (L : List (View.Piece (Elt F) S8x128x128 .f32)) (h : Fin 8) : Vec F S1x128x128 .f32 :=
  a.view.readCov L (rS h).toLoadRect

end

end Cert.Proof.Fwd

end
-- ==== Proof.FwdListA.lean ====
module

public import proofs.«01_k».proof.Proof.FwdPieces

@[expose] public section

set_option maxRecDepth 16384

noncomputable section

namespace Cert.Proof.Fwd

open Cert.KernelIdeal Cert.KernelIdeal.Gen
open Idealize.ShloMosaic Idealize.ShloMosaic.TcCoe Idealize.ShloMosaic.Tactic

variable {F : FTy → Type} [FloatOps F]

variable (c : Dev nD) (a0 : Memref sig .tc .vmem S512x1024 .f32) (h0 : a0.IsWhole) (a1 : Memref sig .tc .vmem S512x1024 .f32) (h1 : a1.IsWhole) (a2 : Memref sig .tc .vmem S512x1024 .f32) (h2 : a2.IsWhole) (a3 : Memref sig .tc .vmem S512x1024 .f32) (h3 : a3.IsWhole) (a4 : Memref sig .tc .vmem S8x512x64 .f32) (h4 : a4.IsWhole) (a5 : Memref sig .tc .vmem S8x1024 .f32) (h5 : a5.IsWhole) (ar : Memref sig .tc .vmem S8x128x128 .f32) (hsr : ar.IsWhole) (x0 : Vec F S512x1024 .f32) (x1 : Vec F S512x1024 .f32) (x2 : Vec F S512x1024 .f32) (x3 : Vec F S512x1024 .f32) (x4 : Vec F S8x512x64 .f32) (x5 : Vec F S8x1024 .f32)

/-! ## The carried state, chunk by chunk. -/

theorem A_S0 : (runA.sl.HS_9 (F := F) c a0 h0 a1 h1 a3 h3 a5 h5 ar x0 x1 x3 x5) = pS (ldT a0 h0 x0 0) (ldT a1 h1 x1 0) (ldT a3 h3 x3 0) (ldG a5 h5 x5 0) (ldL ar (runA.sl.HS_1 (F := F))) ++ runA.sl.HS_1 := by chain_rfl
theorem A_S1 : (runA.sl.HS_17 (F := F) c a0 h0 a1 h1 a3 h3 a5 h5 ar x0 x1 x3 x5) = pS (ldT a0 h0 x0 1) (ldT a1 h1 x1 1) (ldT a3 h3 x3 1) (ldG a5 h5 x5 1) (ldL ar (runA.sl.HS_9 (F := F) c a0 h0 a1 h1 a3 h3 a5 h5 ar x0 x1 x3 x5)) ++ (runA.sl.HS_9 (F := F) c a0 h0 a1 h1 a3 h3 a5 h5 ar x0 x1 x3 x5) := by chain_rfl
theorem A_S2 : (runA.sl.HS_25 (F := F) c a0 h0 a1 h1 a3 h3 a5 h5 ar x0 x1 x3 x5) = pS (ldT a0 h0 x0 2) (ldT a1 h1 x1 2) (ldT a3 h3 x3 2) (ldG a5 h5 x5 2) (ldL ar (runA.sl.HS_17 (F := F) c a0 h0 a1 h1 a3 h3 a5 h5 ar x0 x1 x3 x5)) ++ (runA.sl.HS_17 (F := F) c a0 h0 a1 h1 a3 h3 a5 h5 ar x0 x1 x3 x5) := by chain_rfl
theorem A_S3 : (runA.sl.HS_33 (F := F) c a0 h0 a1 h1 a3 h3 a5 h5 ar x0 x1 x3 x5) = pS (ldT a0 h0 x0 3) (ldT a1 h1 x1 3) (ldT a3 h3 x3 3) (ldG a5 h5 x5 3) (ldL ar (runA.sl.HS_25 (F := F) c a0 h0 a1 h1 a3 h3 a5 h5 ar x0 x1 x3 x5)) ++ (runA.sl.HS_25 (F := F) c a0 h0 a1 h1 a3 h3 a5 h5 ar x0 x1 x3 x5) := by chain_rfl
theorem A_S4 : (runA.sl.HS_41 (F := F) c a0 h0 a1 h1 a3 h3 a5 h5 ar x0 x1 x3 x5) = pS (ldT a0 h0 x0 4) (ldT a1 h1 x1 4) (ldT a3 h3 x3 4) (ldG a5 h5 x5 4) (ldL ar (runA.sl.HS_33 (F := F) c a0 h0 a1 h1 a3 h3 a5 h5 ar x0 x1 x3 x5)) ++ (runA.sl.HS_33 (F := F) c a0 h0 a1 h1 a3 h3 a5 h5 ar x0 x1 x3 x5) := by chain_rfl
theorem A_S5 : (runA.sl.HS_49 (F := F) c a0 h0 a1 h1 a3 h3 a5 h5 ar x0 x1 x3 x5) = pS (ldT a0 h0 x0 5) (ldT a1 h1 x1 5) (ldT a3 h3 x3 5) (ldG a5 h5 x5 5) (ldL ar (runA.sl.HS_41 (F := F) c a0 h0 a1 h1 a3 h3 a5 h5 ar x0 x1 x3 x5)) ++ (runA.sl.HS_41 (F := F) c a0 h0 a1 h1 a3 h3 a5 h5 ar x0 x1 x3 x5) := by chain_rfl
theorem A_S6 : (runA.sl.HS_57 (F := F) c a0 h0 a1 h1 a3 h3 a5 h5 ar x0 x1 x3 x5) = pS (ldT a0 h0 x0 6) (ldT a1 h1 x1 6) (ldT a3 h3 x3 6) (ldG a5 h5 x5 6) (ldL ar (runA.sl.HS_49 (F := F) c a0 h0 a1 h1 a3 h3 a5 h5 ar x0 x1 x3 x5)) ++ (runA.sl.HS_49 (F := F) c a0 h0 a1 h1 a3 h3 a5 h5 ar x0 x1 x3 x5) := by chain_rfl

/-! ## The whole lists. -/

variable (i : grid0.Coords) (a6 : Memref sig .tc .vmem S512x1024 .f32) (h6 : a6.IsWhole) (a7 : Memref sig .tc .vmem S8x1024x128 .f32) (h7 : a7.IsWhole) (hc : cond i)

theorem A_6 : (runA (F := F) c i a0 h0 a1 h1 a2 h2 a3 h3 a4 h4 a5 h5 a6 h6 a7 h7 ar hsr hc x0 x1 x2 x3 x4 x5).1 = p6 (ldT a0 h0 x0 7) (ldT a1 h1 x1 7) (ldT a2 h2 x2 7) (ldQ a4 h4 x4 7) (ldL ar (runA.sl.HS_57 (F := F) c a0 h0 a1 h1 a3 h3 a5 h5 ar x0 x1 x3 x5)) 7 ++ p6 (ldT a0 h0 x0 6) (ldT a1 h1 x1 6) (ldT a2 h2 x2 6) (ldQ a4 h4 x4 6) (ldL ar (runA.sl.HS_49 (F := F) c a0 h0 a1 h1 a3 h3 a5 h5 ar x0 x1 x3 x5)) 6 ++ p6 (ldT a0 h0 x0 5) (ldT a1 h1 x1 5) (ldT a2 h2 x2 5) (ldQ a4 h4 x4 5) (ldL ar (runA.sl.HS_41 (F := F) c a0 h0 a1 h1 a3 h3 a5 h5 ar x0 x1 x3 x5)) 5 ++ p6 (ldT a0 h0 x0 4) (ldT a1 h1 x1 4) (ldT a2 h2 x2 4) (ldQ a4 h4 x4 4) (ldL ar (runA.sl.HS_33 (F := F) c a0 h0 a1 h1 a3 h3 a5 h5 ar x0 x1 x3 x5)) 4 ++ p6 (ldT a0 h0 x0 3) (ldT a1 h1 x1 3) (ldT a2 h2 x2 3) (ldQ a4 h4 x4 3) (ldL ar (runA.sl.HS_25 (F := F) c a0 h0 a1 h1 a3 h3 a5 h5 ar x0 x1 x3 x5)) 3 ++ p6 (ldT a0 h0 x0 2) (ldT a1 h1 x1 2) (ldT a2 h2 x2 2) (ldQ a4 h4 x4 2) (ldL ar (runA.sl.HS_17 (F := F) c a0 h0 a1 h1 a3 h3 a5 h5 ar x0 x1 x3 x5)) 2 ++ p6 (ldT a0 h0 x0 1) (ldT a1 h1 x1 1) (ldT a2 h2 x2 1) (ldQ a4 h4 x4 1) (ldL ar (runA.sl.HS_9 (F := F) c a0 h0 a1 h1 a3 h3 a5 h5 ar x0 x1 x3 x5)) 1 ++ p6 (ldT a0 h0 x0 0) (ldT a1 h1 x1 0) (ldT a2 h2 x2 0) (ldQ a4 h4 x4 0) (ldL ar (runA.sl.HS_1 (F := F))) 0 := by chain_rfl

theorem A_7 : (runA (F := F) c i a0 h0 a1 h1 a2 h2 a3 h3 a4 h4 a5 h5 a6 h6 a7 h7 ar hsr hc x0 x1 x2 x3 x4 x5).2.1 = p7 (ldL ar (runA.sl.HS_57 (F := F) c a0 h0 a1 h1 a3 h3 a5 h5 ar x0 x1 x3 x5)) 7 ++ p7 (ldL ar (runA.sl.HS_49 (F := F) c a0 h0 a1 h1 a3 h3 a5 h5 ar x0 x1 x3 x5)) 6 ++ p7 (ldL ar (runA.sl.HS_41 (F := F) c a0 h0 a1 h1 a3 h3 a5 h5 ar x0 x1 x3 x5)) 5 ++ p7 (ldL ar (runA.sl.HS_33 (F := F) c a0 h0 a1 h1 a3 h3 a5 h5 ar x0 x1 x3 x5)) 4 ++ p7 (ldL ar (runA.sl.HS_25 (F := F) c a0 h0 a1 h1 a3 h3 a5 h5 ar x0 x1 x3 x5)) 3 ++ p7 (ldL ar (runA.sl.HS_17 (F := F) c a0 h0 a1 h1 a3 h3 a5 h5 ar x0 x1 x3 x5)) 2 ++ p7 (ldL ar (runA.sl.HS_9 (F := F) c a0 h0 a1 h1 a3 h3 a5 h5 ar x0 x1 x3 x5)) 1 ++ p7 (ldL ar (runA.sl.HS_1 (F := F))) 0 := by chain_rfl

theorem A_S : (runA (F := F) c i a0 h0 a1 h1 a2 h2 a3 h3 a4 h4 a5 h5 a6 h6 a7 h7 ar hsr hc x0 x1 x2 x3 x4 x5).2.2.1 = pS (ldT a0 h0 x0 7) (ldT a1 h1 x1 7) (ldT a3 h3 x3 7) (ldG a5 h5 x5 7) (ldL ar (runA.sl.HS_57 (F := F) c a0 h0 a1 h1 a3 h3 a5 h5 ar x0 x1 x3 x5)) ++ (runA.sl.HS_57 (F := F) c a0 h0 a1 h1 a3 h3 a5 h5 ar x0 x1 x3 x5) := by chain_rfl

end Cert.Proof.Fwd

end
-- ==== Proof.FwdListB.lean ====
module

public import proofs.«01_k».proof.Proof.FwdPieces

@[expose] public section

set_option maxRecDepth 16384

noncomputable section

namespace Cert.Proof.Fwd

open Cert.KernelIdeal Cert.KernelIdeal.Gen
open Idealize.ShloMosaic Idealize.ShloMosaic.TcCoe Idealize.ShloMosaic.Tactic

variable {F : FTy → Type} [FloatOps F]

variable (c : Dev nD) (a0 : Memref sig .tc .vmem S512x1024 .f32) (h0 : a0.IsWhole) (a1 : Memref sig .tc .vmem S512x1024 .f32) (h1 : a1.IsWhole) (a2 : Memref sig .tc .vmem S512x1024 .f32) (h2 : a2.IsWhole) (a3 : Memref sig .tc .vmem S512x1024 .f32) (h3 : a3.IsWhole) (a4 : Memref sig .tc .vmem S8x512x64 .f32) (h4 : a4.IsWhole) (a5 : Memref sig .tc .vmem S8x1024 .f32) (h5 : a5.IsWhole) (ar : Memref sig .tc .vmem S8x128x128 .f32) (hsr : ar.IsWhole) (x0 : Vec F S512x1024 .f32) (x1 : Vec F S512x1024 .f32) (x2 : Vec F S512x1024 .f32) (x3 : Vec F S512x1024 .f32) (x4 : Vec F S8x512x64 .f32) (x5 : Vec F S8x1024 .f32) (xs : Vec F S8x128x128 .f32)

/-! ## The carried state, chunk by chunk. -/

theorem B_S0 : (runB.sl.HS_8 (F := F) c a0 h0 a1 h1 a3 h3 a5 h5 ar hsr x0 x1 x3 x5 xs) = pS (ldT a0 h0 x0 0) (ldT a1 h1 x1 0) (ldT a3 h3 x3 0) (ldG a5 h5 x5 0) (ldS ar hsr xs) ++ [] := by chain_rfl
theorem B_S1 : (runB.sl.HS_16 (F := F) c a0 h0 a1 h1 a3 h3 a5 h5 ar hsr x0 x1 x3 x5 xs) = pS (ldT a0 h0 x0 1) (ldT a1 h1 x1 1) (ldT a3 h3 x3 1) (ldG a5 h5 x5 1) (ldL ar (runB.sl.HS_8 (F := F) c a0 h0 a1 h1 a3 h3 a5 h5 ar hsr x0 x1 x3 x5 xs)) ++ (runB.sl.HS_8 (F := F) c a0 h0 a1 h1 a3 h3 a5 h5 ar hsr x0 x1 x3 x5 xs) := by chain_rfl
theorem B_S2 : (runB.sl.HS_24 (F := F) c a0 h0 a1 h1 a3 h3 a5 h5 ar hsr x0 x1 x3 x5 xs) = pS (ldT a0 h0 x0 2) (ldT a1 h1 x1 2) (ldT a3 h3 x3 2) (ldG a5 h5 x5 2) (ldL ar (runB.sl.HS_16 (F := F) c a0 h0 a1 h1 a3 h3 a5 h5 ar hsr x0 x1 x3 x5 xs)) ++ (runB.sl.HS_16 (F := F) c a0 h0 a1 h1 a3 h3 a5 h5 ar hsr x0 x1 x3 x5 xs) := by chain_rfl
theorem B_S3 : (runB.sl.HS_32 (F := F) c a0 h0 a1 h1 a3 h3 a5 h5 ar hsr x0 x1 x3 x5 xs) = pS (ldT a0 h0 x0 3) (ldT a1 h1 x1 3) (ldT a3 h3 x3 3) (ldG a5 h5 x5 3) (ldL ar (runB.sl.HS_24 (F := F) c a0 h0 a1 h1 a3 h3 a5 h5 ar hsr x0 x1 x3 x5 xs)) ++ (runB.sl.HS_24 (F := F) c a0 h0 a1 h1 a3 h3 a5 h5 ar hsr x0 x1 x3 x5 xs) := by chain_rfl
theorem B_S4 : (runB.sl.HS_40 (F := F) c a0 h0 a1 h1 a3 h3 a5 h5 ar hsr x0 x1 x3 x5 xs) = pS (ldT a0 h0 x0 4) (ldT a1 h1 x1 4) (ldT a3 h3 x3 4) (ldG a5 h5 x5 4) (ldL ar (runB.sl.HS_32 (F := F) c a0 h0 a1 h1 a3 h3 a5 h5 ar hsr x0 x1 x3 x5 xs)) ++ (runB.sl.HS_32 (F := F) c a0 h0 a1 h1 a3 h3 a5 h5 ar hsr x0 x1 x3 x5 xs) := by chain_rfl
theorem B_S5 : (runB.sl.HS_48 (F := F) c a0 h0 a1 h1 a3 h3 a5 h5 ar hsr x0 x1 x3 x5 xs) = pS (ldT a0 h0 x0 5) (ldT a1 h1 x1 5) (ldT a3 h3 x3 5) (ldG a5 h5 x5 5) (ldL ar (runB.sl.HS_40 (F := F) c a0 h0 a1 h1 a3 h3 a5 h5 ar hsr x0 x1 x3 x5 xs)) ++ (runB.sl.HS_40 (F := F) c a0 h0 a1 h1 a3 h3 a5 h5 ar hsr x0 x1 x3 x5 xs) := by chain_rfl
theorem B_S6 : (runB.sl.HS_56 (F := F) c a0 h0 a1 h1 a3 h3 a5 h5 ar hsr x0 x1 x3 x5 xs) = pS (ldT a0 h0 x0 6) (ldT a1 h1 x1 6) (ldT a3 h3 x3 6) (ldG a5 h5 x5 6) (ldL ar (runB.sl.HS_48 (F := F) c a0 h0 a1 h1 a3 h3 a5 h5 ar hsr x0 x1 x3 x5 xs)) ++ (runB.sl.HS_48 (F := F) c a0 h0 a1 h1 a3 h3 a5 h5 ar hsr x0 x1 x3 x5 xs) := by chain_rfl

/-! ## The whole lists. -/

variable (i : grid0.Coords) (a6 : Memref sig .tc .vmem S512x1024 .f32) (h6 : a6.IsWhole) (a7 : Memref sig .tc .vmem S8x1024x128 .f32) (h7 : a7.IsWhole) (hc : ¬cond i)

theorem B_6 : (runB (F := F) c i a0 h0 a1 h1 a2 h2 a3 h3 a4 h4 a5 h5 a6 h6 a7 h7 ar hsr hc x0 x1 x2 x3 x4 x5 xs).1 = p6 (ldT a0 h0 x0 7) (ldT a1 h1 x1 7) (ldT a2 h2 x2 7) (ldQ a4 h4 x4 7) (ldL ar (runB.sl.HS_56 (F := F) c a0 h0 a1 h1 a3 h3 a5 h5 ar hsr x0 x1 x3 x5 xs)) 7 ++ p6 (ldT a0 h0 x0 6) (ldT a1 h1 x1 6) (ldT a2 h2 x2 6) (ldQ a4 h4 x4 6) (ldL ar (runB.sl.HS_48 (F := F) c a0 h0 a1 h1 a3 h3 a5 h5 ar hsr x0 x1 x3 x5 xs)) 6 ++ p6 (ldT a0 h0 x0 5) (ldT a1 h1 x1 5) (ldT a2 h2 x2 5) (ldQ a4 h4 x4 5) (ldL ar (runB.sl.HS_40 (F := F) c a0 h0 a1 h1 a3 h3 a5 h5 ar hsr x0 x1 x3 x5 xs)) 5 ++ p6 (ldT a0 h0 x0 4) (ldT a1 h1 x1 4) (ldT a2 h2 x2 4) (ldQ a4 h4 x4 4) (ldL ar (runB.sl.HS_32 (F := F) c a0 h0 a1 h1 a3 h3 a5 h5 ar hsr x0 x1 x3 x5 xs)) 4 ++ p6 (ldT a0 h0 x0 3) (ldT a1 h1 x1 3) (ldT a2 h2 x2 3) (ldQ a4 h4 x4 3) (ldL ar (runB.sl.HS_24 (F := F) c a0 h0 a1 h1 a3 h3 a5 h5 ar hsr x0 x1 x3 x5 xs)) 3 ++ p6 (ldT a0 h0 x0 2) (ldT a1 h1 x1 2) (ldT a2 h2 x2 2) (ldQ a4 h4 x4 2) (ldL ar (runB.sl.HS_16 (F := F) c a0 h0 a1 h1 a3 h3 a5 h5 ar hsr x0 x1 x3 x5 xs)) 2 ++ p6 (ldT a0 h0 x0 1) (ldT a1 h1 x1 1) (ldT a2 h2 x2 1) (ldQ a4 h4 x4 1) (ldL ar (runB.sl.HS_8 (F := F) c a0 h0 a1 h1 a3 h3 a5 h5 ar hsr x0 x1 x3 x5 xs)) 1 ++ p6 (ldT a0 h0 x0 0) (ldT a1 h1 x1 0) (ldT a2 h2 x2 0) (ldQ a4 h4 x4 0) (ldS ar hsr xs) 0 := by chain_rfl

theorem B_7 : (runB (F := F) c i a0 h0 a1 h1 a2 h2 a3 h3 a4 h4 a5 h5 a6 h6 a7 h7 ar hsr hc x0 x1 x2 x3 x4 x5 xs).2.1 = p7 (ldL ar (runB.sl.HS_56 (F := F) c a0 h0 a1 h1 a3 h3 a5 h5 ar hsr x0 x1 x3 x5 xs)) 7 ++ p7 (ldL ar (runB.sl.HS_48 (F := F) c a0 h0 a1 h1 a3 h3 a5 h5 ar hsr x0 x1 x3 x5 xs)) 6 ++ p7 (ldL ar (runB.sl.HS_40 (F := F) c a0 h0 a1 h1 a3 h3 a5 h5 ar hsr x0 x1 x3 x5 xs)) 5 ++ p7 (ldL ar (runB.sl.HS_32 (F := F) c a0 h0 a1 h1 a3 h3 a5 h5 ar hsr x0 x1 x3 x5 xs)) 4 ++ p7 (ldL ar (runB.sl.HS_24 (F := F) c a0 h0 a1 h1 a3 h3 a5 h5 ar hsr x0 x1 x3 x5 xs)) 3 ++ p7 (ldL ar (runB.sl.HS_16 (F := F) c a0 h0 a1 h1 a3 h3 a5 h5 ar hsr x0 x1 x3 x5 xs)) 2 ++ p7 (ldL ar (runB.sl.HS_8 (F := F) c a0 h0 a1 h1 a3 h3 a5 h5 ar hsr x0 x1 x3 x5 xs)) 1 ++ p7 (ldS ar hsr xs) 0 := by chain_rfl

theorem B_S : (runB (F := F) c i a0 h0 a1 h1 a2 h2 a3 h3 a4 h4 a5 h5 a6 h6 a7 h7 ar hsr hc x0 x1 x2 x3 x4 x5 xs).2.2.1 = pS (ldT a0 h0 x0 7) (ldT a1 h1 x1 7) (ldT a3 h3 x3 7) (ldG a5 h5 x5 7) (ldL ar (runB.sl.HS_56 (F := F) c a0 h0 a1 h1 a3 h3 a5 h5 ar hsr x0 x1 x3 x5 xs)) ++ (runB.sl.HS_56 (F := F) c a0 h0 a1 h1 a3 h3 a5 h5 ar hsr x0 x1 x3 x5 xs) := by chain_rfl

end Cert.Proof.Fwd

end
-- ==== Proof.FwdVal.lean ====
module

public import proofs.«01_k».proof.Proof.FwdPieces
public import proofs.«01_k».proof.Proof.Spec
public import Idealize.ShloMosaic.Lib.Pointwise
public import Idealize.ShloMosaic.Lib.WholeRead

@[expose] public section

set_option maxRecDepth 16384

noncomputable section

/-! The forward body's pieces at the extended reals: each is the chunk recurrence of Spec.lean on what the blocks hold. -/

namespace Cert.Proof.Fwd

open Cert.KernelIdeal Cert.KernelIdeal.Gen
open Idealize.ShloMosaic Idealize.ShloMosaic.TcCoe

theorem sq_val (s : Vec Ideal S1x128x128 .f32) (k v : Fin 128) : sq s (ix2 k v) = s (ix3 0 k v) := by pointwise [sq]
theorem sqk_val (q : Vec Ideal S1x64x64 .f32) (r c : Fin 64) : sqk q (ix2 r c) = q (ix3 0 r c) := by pointwise [sqk]
theorem uV_val (ub w : Vec Ideal S64x128 .f32) (S : FVec Ideal S128x128 .f32) (r : Fin 64) (v : Fin 128) :
    uV ub w S (ix2 r v) = ub (ix2 r v) - ∑ k : Fin 128, w (ix2 r k) * S (ix2 k v) := by pointwise [uV]
theorem nextV_val (gl : Vec Ideal S1x128 .f32) (kd : Vec Ideal S64x128 .f32) (S : FVec Ideal S128x128 .f32) (u : FVec Ideal S64x128 .f32)
    (z : Fin 1) (k v : Fin 128) :
    nextV gl kd S u (ix3 z k v) = gl (ix2 0 v) * S (ix2 k v) + ∑ r : Fin 64, kd (ix2 r k) * u (ix2 r v) := by pointwise [nextV]
theorem oV_val (qd : Vec Ideal S64x128 .f32) (qk : FVec Ideal S64x64 .f32) (S : FVec Ideal S128x128 .f32) (u : FVec Ideal S64x128 .f32)
    (r : Fin 64) (v : Fin 128) :
    oV qd qk S u (ix2 r v) = (∑ k : Fin 128, qd (ix2 r k) * S (ix2 k v)) + ∑ c : Fin 64, qk (ix2 r c) * u (ix2 c v) := by pointwise [oV]
theorem stV_val (S : FVec Ideal S128x128 .f32) (z : Fin 1) (k v : Fin 128) : stV S (ix3 z k v) = S (ix2 k v) := by pointwise [stV]

/-! ## The loads -/

/-- Row `r` of chunk `ci`, lane `l` of head `h` and row `k` of chunk `ci`'s state, within a block. -/
abbrev row (ci : Fin 8) (r : Fin 64) : Fin 512 := ⟨64 * ci.val + r.val, by omega⟩
abbrev lane (h : Fin 8) (l : Fin 128) : Fin 1024 := ⟨128 * h.val + l.val, by omega⟩
abbrev srow (ci : Fin 8) (k : Fin 128) : Fin 1024 := ⟨128 * ci.val + k.val, by omega⟩

theorem rT_idx (ci : Fin 8) (h : Fin 8) (r : Fin 64) (l : Fin 128) : (rT ci h).toLoadRect.idx (ix2 r l) = ix2 (row ci r) (lane h l) := by
  funext a; apply Fin.ext
  match a with
  | ⟨0, _⟩ => exact congrArg (64 * ci.val + ·) (Nat.one_mul r.val)
  | ⟨1, _⟩ => exact congrArg (128 * h.val + ·) (Nat.one_mul l.val)
theorem rQ_idx (ci : Fin 8) (h : Fin 8) (z : Fin 1) (r c : Fin 64) : (rQ ci h).toLoadRect.idx (ix3 z r c) = ix3 h (row ci r) c := by
  funext a; apply Fin.ext
  match a with
  | ⟨0, _⟩ => show h.val + 1 * z.val = h.val; omega
  | ⟨1, _⟩ => exact congrArg (64 * ci.val + ·) (Nat.one_mul r.val)
  | ⟨2, _⟩ => show 0 + 1 * c.val = c.val; omega
theorem rG_idx (ci : Fin 8) (h : Fin 8) (z : Fin 1) (l : Fin 128) : (rG ci h).toLoadRect.idx (ix2 z l) = ix2 ci (lane h l) := by
  funext a; apply Fin.ext
  match a with
  | ⟨0, _⟩ => show ci.val + 1 * z.val = ci.val; omega
  | ⟨1, _⟩ => exact congrArg (128 * h.val + ·) (Nat.one_mul l.val)
theorem rZ_idx (ci : Fin 8) (h : Fin 8) (z : Fin 1) (k v : Fin 128) : (rZ ci h).toLoadRect.idx (ix3 z k v) = ix3 h (srow ci k) v := by
  funext a; apply Fin.ext
  match a with
  | ⟨0, _⟩ => show h.val + 1 * z.val = h.val; omega
  | ⟨1, _⟩ => exact congrArg (128 * ci.val + ·) (Nat.one_mul k.val)
  | ⟨2, _⟩ => show 0 + 1 * v.val = v.val; omega
theorem rS_idx (h : Fin 8) (z : Fin 1) (k v : Fin 128) : (rS h).toLoadRect.idx (ix3 z k v) = ix3 h k v := by
  funext a; apply Fin.ext
  match a with
  | ⟨0, _⟩ => show h.val + 1 * z.val = h.val; omega
  | ⟨1, _⟩ => show 0 + 1 * k.val = k.val; omega
  | ⟨2, _⟩ => show 0 + 1 * v.val = v.val; omega

theorem ldT_val (a : Memref sig .tc .vmem S512x1024 .f32) (ha : a.IsWhole) (x : Vec Ideal S512x1024 .f32) (ci : Fin 8) (h : Fin 8) (r : Fin 64) (l : Fin 128) :
    ldT a ha x ci h (ix2 r l) = x (ix2 (row ci r) (lane h l)) :=
  (ha.readAt_unread x _ _).trans (congrArg x (rT_idx ci h r l))
theorem ldQ_val (a : Memref sig .tc .vmem S8x512x64 .f32) (ha : a.IsWhole) (x : Vec Ideal S8x512x64 .f32) (ci : Fin 8) (h : Fin 8) (r c : Fin 64) :
    ldQ a ha x ci h (ix3 0 r c) = x (ix3 h (row ci r) c) :=
  (ha.readAt_unread x _ _).trans (congrArg x (rQ_idx ci h 0 r c))
theorem ldG_val (a : Memref sig .tc .vmem S8x1024 .f32) (ha : a.IsWhole) (x : Vec Ideal S8x1024 .f32) (ci : Fin 8) (h : Fin 8) (l : Fin 128) :
    ldG a ha x ci h (ix2 0 l) = x (ix2 ci (lane h l)) :=
  (ha.readAt_unread x _ _).trans (congrArg x (rG_idx ci h 0 l))
theorem ldS_val (a : Memref sig .tc .vmem S8x128x128 .f32) (ha : a.IsWhole) (x : Vec Ideal S8x128x128 .f32) (h : Fin 8) (k v : Fin 128) :
    ldS a ha x h (ix3 0 k v) = x (ix3 h k v) :=
  (ha.readAt_unread x _ _).trans (congrArg x (rS_idx h 0 k v))

/-! ## Every piece a chunk writes holds one function of its place -/

theorem p6_agree (t0 : Fin 8 → Vec Ideal S64x128 .f32) (t1 : Fin 8 → Vec Ideal S64x128 .f32) (t2 : Fin 8 → Vec Ideal S64x128 .f32) (t4 : Fin 8 → Vec Ideal S1x64x64 .f32) (ld : Fin 8 → Vec Ideal S1x128x128 .f32) (ci : Fin 8) (G : S512x1024.Idx → EReal)
    (hG : ∀ (h : Fin 8) (r : Fin 64) (l : Fin 128), oV (t2 h) (sqk (t4 h)) (sq (ld h)) (uV (t0 h) (t1 h) (sq (ld h))) (ix2 r l) = G (ix2 (row ci r) (lane h l))) :
    ∀ p ∈ p6 t0 t1 t2 t4 ld ci, ∀ x : p.1.shape.Idx, p.2 x = G (p.1.emb x) := by
  intro p hp
  obtain ⟨h, -, rfl⟩ := List.mem_map.mp hp
  intro x
  obtain ⟨r, l, rfl⟩ : ∃ (r : Fin 64) (l : Fin 128), x = ix2 r l := ⟨_, _, eq_ix2 x⟩
  exact (hG h r l).trans (congrArg G (rT_idx ci h r l).symm)

theorem p7_agree  (ld : Fin 8 → Vec Ideal S1x128x128 .f32) (ci : Fin 8) (G : S8x1024x128.Idx → EReal)
    (hG : ∀ (h : Fin 8) (z : Fin 1) (k v : Fin 128), stV (sq (ld h)) (ix3 z k v) = G (ix3 h (srow ci k) v)) :
    ∀ p ∈ p7  ld ci, ∀ x : p.1.shape.Idx, p.2 x = G (p.1.emb x) := by
  intro p hp
  obtain ⟨h, -, rfl⟩ := List.mem_map.mp hp
  intro x
  obtain ⟨z, k, v, rfl⟩ : ∃ (z : Fin 1) (k v : Fin 128), x = ix3 z k v := ⟨_, _, _, eq_ix3 x⟩
  exact (hG h z k v).trans (congrArg G (rZ_idx ci h z k v).symm)

theorem pS_agree (t0 : Fin 8 → Vec Ideal S64x128 .f32) (t1 : Fin 8 → Vec Ideal S64x128 .f32) (t3 : Fin 8 → Vec Ideal S64x128 .f32) (t5 : Fin 8 → Vec Ideal S1x128 .f32) (ld : Fin 8 → Vec Ideal S1x128x128 .f32) (G : S8x128x128.Idx → EReal)
    (hG : ∀ (h : Fin 8) (z : Fin 1) (k v : Fin 128), nextV (t5 h) (t3 h) (sq (ld h)) (uV (t0 h) (t1 h) (sq (ld h))) (ix3 z k v) = G (ix3 h k v)) :
    ∀ p ∈ pS t0 t1 t3 t5 ld, ∀ x : p.1.shape.Idx, p.2 x = G (p.1.emb x) := by
  intro p hp
  obtain ⟨h, -, rfl⟩ := List.mem_map.mp hp
  intro x
  obtain ⟨z, k, v, rfl⟩ : ∃ (z : Fin 1) (k v : Fin 128), x = ix3 z k v := ⟨_, _, _, eq_ix3 x⟩
  exact (hG h z k v).trans (congrArg G (rS_idx h z k v).symm)

theorem mem_rS (h : Fin 8) (k v : Fin 128) : (ix3 h k v : S8x128x128.Idx) ∈ (rS h).set := by
  rw [← Rect.map_emb_univ]
  exact Finset.mem_map.mpr ⟨(ix3 0 k v : S1x128x128.Idx), Finset.mem_univ _, rS_idx h 0 k v⟩

theorem pS_cover (t0 : Fin 8 → Vec Ideal S64x128 .f32) (t1 : Fin 8 → Vec Ideal S64x128 .f32) (t3 : Fin 8 → Vec Ideal S64x128 .f32) (t5 : Fin 8 → Vec Ideal S1x128 .f32) (ld : Fin 8 → Vec Ideal S1x128x128 .f32) (h : Fin 8) (k v : Fin 128) :
    ∃ p ∈ pS t0 t1 t3 t5 ld, (ix3 h k v : S8x128x128.Idx) ∈ p.1.set :=
  ⟨_, List.mem_map.mpr ⟨h, by revert h; decide, rfl⟩, mem_rS h k v⟩

/-- The carried state after a chunk, whatever was written before. -/
theorem ldL_pS (a : Memref sig .tc .vmem S8x128x128 .f32) (t0 : Fin 8 → Vec Ideal S64x128 .f32) (t1 : Fin 8 → Vec Ideal S64x128 .f32) (t3 : Fin 8 → Vec Ideal S64x128 .f32) (t5 : Fin 8 → Vec Ideal S1x128 .f32) (ld : Fin 8 → Vec Ideal S1x128x128 .f32)
    (L : List (View.Piece (Elt Ideal) S8x128x128 .f32)) (G : Fin 8 → Mat)
    (hG : ∀ (h : Fin 8) (z : Fin 1) (k v : Fin 128), nextV (t5 h) (t3 h) (sq (ld h)) (uV (t0 h) (t1 h) (sq (ld h))) (ix3 z k v) = G h k v) (h : Fin 8) (k v : Fin 128) :
    ldL a (pS t0 t1 t3 t5 ld ++ L) h (ix3 0 k v) = G h k v := by
  have e : ldL a (pS t0 t1 t3 t5 ld ++ L) h (ix3 0 k v)
      = a.view.read (Elt Ideal) (a.view.writes (Elt Ideal) a.view.junk (pS t0 t1 t3 t5 ld ++ L)) (ix3 h k v) :=
    congrArg (a.view.read (Elt Ideal) (a.view.writes (Elt Ideal) a.view.junk (pS t0 t1 t3 t5 ld ++ L))) (rS_idx h 0 k v)
  rw [e, View.writes_append]
  exact View.read_writes_apply_of_pieces a.view _ (fun y => G (y 0) (y 1) (y 2)) _ (pS_agree t0 t1 t3 t5 ld (fun y => G (y 0) (y 1) (y 2)) hG) _ (pS_cover t0 t1 t3 t5 ld h k v)

end Cert.Proof.Fwd

end
-- ==== Proof.FwdBlk.lean ====
module

public import proofs.«01_k».proof.Proof.FwdListA
public import proofs.«01_k».proof.Proof.FwdListB
public import proofs.«01_k».proof.Proof.FwdVal

@[expose] public section

set_option maxRecDepth 16384

noncomputable section

/-! The forward body on one grid point: what the blocks and the carried state hold afterwards, by the chunk recurrence. -/

namespace Cert.Proof.Fwd

open Cert.KernelIdeal Cert.KernelIdeal.Gen
open Idealize.ShloMosaic Idealize.ShloMosaic.TcCoe

/-- The blocks hold chunks `n0, …, n0 + 7` of each head's sequence `X h`. -/
structure Reads (X : Fin 8 → ℕ → Chunk) (n0 : ℕ) (x0 : Vec Ideal S512x1024 .f32) (x1 : Vec Ideal S512x1024 .f32) (x2 : Vec Ideal S512x1024 .f32) (x3 : Vec Ideal S512x1024 .f32) (x4 : Vec Ideal S8x512x64 .f32) (x5 : Vec Ideal S8x1024 .f32) : Prop where
  ub : ∀ (ci : Fin 8) (h : Fin 8) (r : Fin 64) (l : Fin 128), x0 (ix2 (row ci r) (lane h l)) = (X h (n0 + ci.val)).ub r l
  w : ∀ (ci : Fin 8) (h : Fin 8) (r : Fin 64) (l : Fin 128), x1 (ix2 (row ci r) (lane h l)) = (X h (n0 + ci.val)).w r l
  qd : ∀ (ci : Fin 8) (h : Fin 8) (r : Fin 64) (l : Fin 128), x2 (ix2 (row ci r) (lane h l)) = (X h (n0 + ci.val)).qd r l
  kd : ∀ (ci : Fin 8) (h : Fin 8) (r : Fin 64) (l : Fin 128), x3 (ix2 (row ci r) (lane h l)) = (X h (n0 + ci.val)).kd r l
  qk : ∀ (ci : Fin 8) (h : Fin 8) (r c : Fin 64), x4 (ix3 h (row ci r) c) = (X h (n0 + ci.val)).qk r c
  gl : ∀ (ci : Fin 8) (h : Fin 8) (l : Fin 128), x5 (ix2 ci (lane h l)) = (X h (n0 + ci.val)).gl l

/-- The loads of the carried state hold the `n`-th of `states`. -/
def Holds (X : Fin 8 → ℕ → Chunk) (ld : Fin 8 → Vec Ideal S1x128x128 .f32) (n : ℕ) : Prop :=
  ∀ (h : Fin 8) (k v : Fin 128), ld h (ix3 0 k v) = states (X h) n k v

/-- The store that zeroes the carried state. -/
theorem zero_agree : ∀ p ∈ runA.sl.HS_1 (F := Ideal), ∀ x : p.1.shape.Idx, p.2 x = (fun _ => 0 : S8x128x128.Idx → EReal) (p.1.emb x) := by
  intro p hp x
  rw [runA.sl.HS_1, List.mem_singleton] at hp
  subst hp
  exact Ideal.ofBits_zero_f32
theorem zero_cover (y : S8x128x128.Idx) : ∃ p ∈ runA.sl.HS_1 (F := Ideal), y ∈ p.1.set := View.cover_of_wholeMem runA.sl.HS_1 (by sl_whole_mem) y

/-! A place of a block, back to chunk, row, head and lane. -/

def rowC (i : Fin 512) : Fin 8 := ⟨i.val / 64, by omega⟩
def rowR (i : Fin 512) : Fin 64 := ⟨i.val % 64, by omega⟩
def laneH (i : Fin 1024) : Fin 8 := ⟨i.val / 128, by omega⟩
def laneL (i : Fin 1024) : Fin 128 := ⟨i.val % 128, by omega⟩
def srowC (i : Fin 1024) : Fin 8 := ⟨i.val / 128, by omega⟩
def srowK (i : Fin 1024) : Fin 128 := ⟨i.val % 128, by omega⟩
theorem rowC_row (ci : Fin 8) (r : Fin 64) : rowC (row ci r) = ci := Fin.ext (by simp only [rowC, row]; omega)
theorem rowR_row (ci : Fin 8) (r : Fin 64) : rowR (row ci r) = r := Fin.ext (by simp only [rowR, row]; omega)
theorem laneH_lane (h : Fin 8) (l : Fin 128) : laneH (lane h l) = h := Fin.ext (by simp only [laneH, lane]; omega)
theorem laneL_lane (h : Fin 8) (l : Fin 128) : laneL (lane h l) = l := Fin.ext (by simp only [laneL, lane]; omega)
theorem srowC_srow (ci : Fin 8) (k : Fin 128) : srowC (srow ci k) = ci := Fin.ext (by simp only [srowC, srow]; omega)
theorem srowK_srow (ci : Fin 8) (k : Fin 128) : srowK (srow ci k) = k := Fin.ext (by simp only [srowK, srow]; omega)

section

variable (X : Fin 8 → ℕ → Chunk) (n0 : ℕ) (c : Dev nD) (a0 : Memref sig .tc .vmem S512x1024 .f32) (h0 : a0.IsWhole) (a1 : Memref sig .tc .vmem S512x1024 .f32) (h1 : a1.IsWhole) (a2 : Memref sig .tc .vmem S512x1024 .f32) (h2 : a2.IsWhole) (a3 : Memref sig .tc .vmem S512x1024 .f32) (h3 : a3.IsWhole) (a4 : Memref sig .tc .vmem S8x512x64 .f32) (h4 : a4.IsWhole) (a5 : Memref sig .tc .vmem S8x1024 .f32) (h5 : a5.IsWhole) (ar : Memref sig .tc .vmem S8x128x128 .f32) (hsr : ar.IsWhole) (x0 : Vec Ideal S512x1024 .f32) (x1 : Vec Ideal S512x1024 .f32) (x2 : Vec Ideal S512x1024 .f32) (x3 : Vec Ideal S512x1024 .f32) (x4 : Vec Ideal S8x512x64 .f32) (x5 : Vec Ideal S8x1024 .f32)
variable {X n0 a0 h0 a1 h1 a2 h2 a3 h3 a4 h4 a5 h5 ar x0 x1 x2 x3 x4 x5} (R : Reads X n0 x0 x1 x2 x3 x4 x5) (ci : Fin 8) {ld : Fin 8 → Vec Ideal S1x128x128 .f32} (hld : Holds X ld (n0 + ci.val))
include R hld

theorem u_eq (h : Fin 8) (r : Fin 64) (v : Fin 128) : uV (ldT a0 h0 x0 ci h) (ldT a1 h1 x1 ci h) (sq (ld h)) (ix2 r v) = (X h (n0 + ci.val)).u (states (X h) (n0 + ci.val)) r v := by
  simp only [uV_val, ldT_val, ldQ_val, ldG_val, sq_val, sqk_val, R.ub, R.w, hld h _ _]; rfl
theorem next_eq (h : Fin 8) (z : Fin 1) (k v : Fin 128) :
    nextV (ldG a5 h5 x5 ci h) (ldT a3 h3 x3 ci h) (sq (ld h)) (uV (ldT a0 h0 x0 ci h) (ldT a1 h1 x1 ci h) (sq (ld h))) (ix3 z k v) = states (X h) (n0 + ci.val + 1) k v := by
  simp only [nextV_val, u_eq R ci hld, ldT_val, ldQ_val, ldG_val, sq_val, sqk_val, R.kd, R.gl, hld h _ _]; rfl
theorem out_eq (h : Fin 8) (r : Fin 64) (v : Fin 128) :
    oV (ldT a2 h2 x2 ci h) (sqk (ldQ a4 h4 x4 ci h)) (sq (ld h)) (uV (ldT a0 h0 x0 ci h) (ldT a1 h1 x1 ci h) (sq (ld h))) (ix2 r v) = (X h (n0 + ci.val)).out (states (X h) (n0 + ci.val)) r v := by
  simp only [oV_val, u_eq R ci hld, ldT_val, ldQ_val, ldG_val, sq_val, sqk_val, R.qd, R.qk, hld h _ _]; rfl
theorem st_eq (h : Fin 8) (z : Fin 1) (k v : Fin 128) : stV (sq (ld h)) (ix3 z k v) = states (X h) (n0 + ci.val) k v := by
  simp only [stV_val, sq_val, hld h _ _]
theorem holds_next (L : List (View.Piece (Elt Ideal) S8x128x128 .f32)) (m : ℕ) (hm : m = n0 + ci.val + 1) :
    Holds X (ldL ar (pS (ldT a0 h0 x0 ci) (ldT a1 h1 x1 ci) (ldT a3 h3 x3 ci) (ldG a5 h5 x5 ci) ld ++ L)) m := by
  subst hm
  exact ldL_pS _ _ _ _ _ ld L _ (next_eq R ci hld)

end

/-- The function of its place that output 0 holds. -/
def g6 (X : Fin 8 → ℕ → Chunk) (n0 : ℕ) (i : Fin 512) (j : Fin 1024) : EReal := let ci := rowC i; let h := laneH j; ((X h (n0 + ci.val)).out (states (X h) (n0 + ci.val))) (rowR i) (laneL j)
abbrev G6 (X : Fin 8 → ℕ → Chunk) (n0 : ℕ) (y : S512x1024.Idx) : EReal := g6 X n0 (y 0) (y 1)
theorem g6_at (X : Fin 8 → ℕ → Chunk) (n0 : ℕ) (ci : Fin 8) (h : Fin 8) (r : Fin 64) (l : Fin 128) : g6 X n0 (row ci r) (lane h l) = (X h (n0 + ci.val)).out (states (X h) (n0 + ci.val)) r l := by
  simp only [g6, rowC_row, rowR_row, laneH_lane, laneL_lane]

/-- The function of its place that output 1 holds. -/
def g7 (X : Fin 8 → ℕ → Chunk) (n0 : ℕ) (h : Fin 8) (i : Fin 1024) (v : Fin 128) : EReal := let ci := srowC i; ((states (X h) (n0 + ci.val))) (srowK i) v
abbrev G7 (X : Fin 8 → ℕ → Chunk) (n0 : ℕ) (y : S8x1024x128.Idx) : EReal := g7 X n0 (y 0) (y 1) (y 2)
theorem g7_at (X : Fin 8 → ℕ → Chunk) (n0 : ℕ) (ci : Fin 8) (h : Fin 8) (k v : Fin 128) : g7 X n0 h (srow ci k) v = (states (X h) (n0 + ci.val)) k v := by
  simp only [g7, srowC_srow, srowK_srow]

section

variable {X : Fin 8 → ℕ → Chunk} {n0 : ℕ} (c : Dev nD) (a0 : Memref sig .tc .vmem S512x1024 .f32) (h0 : a0.IsWhole) (a1 : Memref sig .tc .vmem S512x1024 .f32) (h1 : a1.IsWhole) (a2 : Memref sig .tc .vmem S512x1024 .f32) (h2 : a2.IsWhole) (a3 : Memref sig .tc .vmem S512x1024 .f32) (h3 : a3.IsWhole) (a4 : Memref sig .tc .vmem S8x512x64 .f32) (h4 : a4.IsWhole) (a5 : Memref sig .tc .vmem S8x1024 .f32) (h5 : a5.IsWhole) (ar : Memref sig .tc .vmem S8x128x128 .f32) (hsr : ar.IsWhole) {x0 : Vec Ideal S512x1024 .f32} {x1 : Vec Ideal S512x1024 .f32} {x2 : Vec Ideal S512x1024 .f32} {x3 : Vec Ideal S512x1024 .f32} {x4 : Vec Ideal S8x512x64 .f32} {x5 : Vec Ideal S8x1024 .f32} {xs : Vec Ideal S8x128x128 .f32}
  (R : Reads X n0 x0 x1 x2 x3 x4 x5) (hxs : ∀ (h : Fin 8) (k v : Fin 128), xs (ix3 h k v) = states (X h) (n0 + 0) k v)

include R hxs

/-- The carried state as each of the eight chunks finds it. -/
theorem B_holds :
    Holds X (ldS ar hsr xs) (n0 + 0)
    ∧ Holds X (ldL ar (runB.sl.HS_8 (F := Ideal) c a0 h0 a1 h1 a3 h3 a5 h5 ar hsr x0 x1 x3 x5 xs)) (n0 + 1)
    ∧ Holds X (ldL ar (runB.sl.HS_16 (F := Ideal) c a0 h0 a1 h1 a3 h3 a5 h5 ar hsr x0 x1 x3 x5 xs)) (n0 + 2)
    ∧ Holds X (ldL ar (runB.sl.HS_24 (F := Ideal) c a0 h0 a1 h1 a3 h3 a5 h5 ar hsr x0 x1 x3 x5 xs)) (n0 + 3)
    ∧ Holds X (ldL ar (runB.sl.HS_32 (F := Ideal) c a0 h0 a1 h1 a3 h3 a5 h5 ar hsr x0 x1 x3 x5 xs)) (n0 + 4)
    ∧ Holds X (ldL ar (runB.sl.HS_40 (F := Ideal) c a0 h0 a1 h1 a3 h3 a5 h5 ar hsr x0 x1 x3 x5 xs)) (n0 + 5)
    ∧ Holds X (ldL ar (runB.sl.HS_48 (F := Ideal) c a0 h0 a1 h1 a3 h3 a5 h5 ar hsr x0 x1 x3 x5 xs)) (n0 + 6)
    ∧ Holds X (ldL ar (runB.sl.HS_56 (F := Ideal) c a0 h0 a1 h1 a3 h3 a5 h5 ar hsr x0 x1 x3 x5 xs)) (n0 + 7) := by
  have H0 : Holds X (ldS ar hsr xs) (n0 + 0) := fun h k v => (ldS_val ar hsr xs h k v).trans (hxs h k v)
  have H1 : Holds X (ldL ar (runB.sl.HS_8 (F := Ideal) c a0 h0 a1 h1 a3 h3 a5 h5 ar hsr x0 x1 x3 x5 xs)) (n0 + 1) := by
    rw [B_S0]
    exact holds_next (R := R) (ci := 0) (hld := H0) (L := _) (m := n0 + 1) (hm := by show n0 + 1 = _ + 1; rfl)
  have H2 : Holds X (ldL ar (runB.sl.HS_16 (F := Ideal) c a0 h0 a1 h1 a3 h3 a5 h5 ar hsr x0 x1 x3 x5 xs)) (n0 + 2) := by
    rw [B_S1]
    exact holds_next (R := R) (ci := 1) (hld := H1) (L := _) (m := n0 + 2) (hm := by show n0 + 2 = _ + 1; rfl)
  have H3 : Holds X (ldL ar (runB.sl.HS_24 (F := Ideal) c a0 h0 a1 h1 a3 h3 a5 h5 ar hsr x0 x1 x3 x5 xs)) (n0 + 3) := by
    rw [B_S2]
    exact holds_next (R := R) (ci := 2) (hld := H2) (L := _) (m := n0 + 3) (hm := by show n0 + 3 = _ + 1; rfl)
  have H4 : Holds X (ldL ar (runB.sl.HS_32 (F := Ideal) c a0 h0 a1 h1 a3 h3 a5 h5 ar hsr x0 x1 x3 x5 xs)) (n0 + 4) := by
    rw [B_S3]
    exact holds_next (R := R) (ci := 3) (hld := H3) (L := _) (m := n0 + 4) (hm := by show n0 + 4 = _ + 1; rfl)
  have H5 : Holds X (ldL ar (runB.sl.HS_40 (F := Ideal) c a0 h0 a1 h1 a3 h3 a5 h5 ar hsr x0 x1 x3 x5 xs)) (n0 + 5) := by
    rw [B_S4]
    exact holds_next (R := R) (ci := 4) (hld := H4) (L := _) (m := n0 + 5) (hm := by show n0 + 5 = _ + 1; rfl)
  have H6 : Holds X (ldL ar (runB.sl.HS_48 (F := Ideal) c a0 h0 a1 h1 a3 h3 a5 h5 ar hsr x0 x1 x3 x5 xs)) (n0 + 6) := by
    rw [B_S5]
    exact holds_next (R := R) (ci := 5) (hld := H5) (L := _) (m := n0 + 6) (hm := by show n0 + 6 = _ + 1; rfl)
  have H7 : Holds X (ldL ar (runB.sl.HS_56 (F := Ideal) c a0 h0 a1 h1 a3 h3 a5 h5 ar hsr x0 x1 x3 x5 xs)) (n0 + 7) := by
    rw [B_S6]
    exact holds_next (R := R) (ci := 6) (hld := H6) (L := _) (m := n0 + 7) (hm := by show n0 + 7 = _ + 1; rfl)
  exact ⟨H0, H1, H2, H3, H4, H5, H6, H7⟩

variable (i : grid0.Coords) (a6 : Memref sig .tc .vmem S512x1024 .f32) (h6 : a6.IsWhole) (a7 : Memref sig .tc .vmem S8x1024x128 .f32) (h7 : a7.IsWhole) (hc : ¬cond i)

variable {c i a0 h0 a1 h1 a2 h2 a3 h3 a4 h4 a5 h5 a6 h6 a7 h7 ar hsr hc}

theorem B_out6 {L : _} (hL : L = (runB (F := Ideal) c i a0 h0 a1 h1 a2 h2 a3 h3 a4 h4 a5 h5 a6 h6 a7 h7 ar hsr hc x0 x1 x2 x3 x4 x5 xs).1) (hcov : ∀ y, ∃ pc ∈ L, y ∈ pc.1.set) {κ : Kind} {sp : Space} (V : View sig κ sp S512x1024 .f32) (f : V.ty.Contents (Elt Ideal))
    (ci : Fin 8) (h : Fin 8) (r : Fin 64) (l : Fin 128) :
    V.read (Elt Ideal) (V.writes (Elt Ideal) f L) (ix2 (row ci r) (lane h l)) = (X h (n0 + ci.val)).out (states (X h) (n0 + ci.val)) r l := by
  obtain ⟨H0, H1, H2, H3, H4, H5, H6, H7⟩ := B_holds (c := c) (a0 := a0) (h0 := h0) (a1 := a1) (h1 := h1) (a3 := a3) (h3 := h3) (a5 := a5) (h5 := h5) (ar := ar) (hsr := hsr) (R := R) (hxs := hxs)
  have hG : ∀ p ∈ L, ∀ x : p.1.shape.Idx, p.2 x = (G6 X n0) (p.1.emb x) := by
    rw [hL, B_6]
    simp only [List.forall_mem_append]
    exact ⟨⟨⟨⟨⟨⟨⟨(p6_agree (ci := 7) (G := (G6 X n0)) (hG := fun h r l => (out_eq (R := R) (ci := 7) (hld := H7) h r l).trans (g6_at X n0 7 h r l).symm)),
      p6_agree (ci := 6) (G := (G6 X n0)) (hG := fun h r l => (out_eq (R := R) (ci := 6) (hld := H6) h r l).trans (g6_at X n0 6 h r l).symm)⟩,
      p6_agree (ci := 5) (G := (G6 X n0)) (hG := fun h r l => (out_eq (R := R) (ci := 5) (hld := H5) h r l).trans (g6_at X n0 5 h r l).symm)⟩,
      p6_agree (ci := 4) (G := (G6 X n0)) (hG := fun h r l => (out_eq (R := R) (ci := 4) (hld := H4) h r l).trans (g6_at X n0 4 h r l).symm)⟩,
      p6_agree (ci := 3) (G := (G6 X n0)) (hG := fun h r l => (out_eq (R := R) (ci := 3) (hld := H3) h r l).trans (g6_at X n0 3 h r l).symm)⟩,
      p6_agree (ci := 2) (G := (G6 X n0)) (hG := fun h r l => (out_eq (R := R) (ci := 2) (hld := H2) h r l).trans (g6_at X n0 2 h r l).symm)⟩,
      p6_agree (ci := 1) (G := (G6 X n0)) (hG := fun h r l => (out_eq (R := R) (ci := 1) (hld := H1) h r l).trans (g6_at X n0 1 h r l).symm)⟩,
      p6_agree (ci := 0) (G := (G6 X n0)) (hG := fun h r l => (out_eq (R := R) (ci := 0) (hld := H0) h r l).trans (g6_at X n0 0 h r l).symm)⟩
  exact (View.read_writes_apply_of_pieces V f (G6 X n0) _ hG _ (hcov _)).trans (g6_at X n0 ci h r l)

theorem B_out7 {L : _} (hL : L = (runB (F := Ideal) c i a0 h0 a1 h1 a2 h2 a3 h3 a4 h4 a5 h5 a6 h6 a7 h7 ar hsr hc x0 x1 x2 x3 x4 x5 xs).2.1) (hcov : ∀ y, ∃ pc ∈ L, y ∈ pc.1.set) {κ : Kind} {sp : Space} (V : View sig κ sp S8x1024x128 .f32) (f : V.ty.Contents (Elt Ideal))
    (ci : Fin 8) (h : Fin 8) (k v : Fin 128) :
    V.read (Elt Ideal) (V.writes (Elt Ideal) f L) (ix3 h (srow ci k) v) = (states (X h) (n0 + ci.val)) k v := by
  obtain ⟨H0, H1, H2, H3, H4, H5, H6, H7⟩ := B_holds (c := c) (a0 := a0) (h0 := h0) (a1 := a1) (h1 := h1) (a3 := a3) (h3 := h3) (a5 := a5) (h5 := h5) (ar := ar) (hsr := hsr) (R := R) (hxs := hxs)
  have hG : ∀ p ∈ L, ∀ x : p.1.shape.Idx, p.2 x = (G7 X n0) (p.1.emb x) := by
    rw [hL, B_7]
    simp only [List.forall_mem_append]
    exact ⟨⟨⟨⟨⟨⟨⟨(p7_agree (ci := 7) (G := (G7 X n0)) (hG := fun h z k v => (st_eq  (R := R) (ci := 7) (hld := H7) h z k v).trans (g7_at X n0 7 h k v).symm)),
      p7_agree (ci := 6) (G := (G7 X n0)) (hG := fun h z k v => (st_eq  (R := R) (ci := 6) (hld := H6) h z k v).trans (g7_at X n0 6 h k v).symm)⟩,
      p7_agree (ci := 5) (G := (G7 X n0)) (hG := fun h z k v => (st_eq  (R := R) (ci := 5) (hld := H5) h z k v).trans (g7_at X n0 5 h k v).symm)⟩,
      p7_agree (ci := 4) (G := (G7 X n0)) (hG := fun h z k v => (st_eq  (R := R) (ci := 4) (hld := H4) h z k v).trans (g7_at X n0 4 h k v).symm)⟩,
      p7_agree (ci := 3) (G := (G7 X n0)) (hG := fun h z k v => (st_eq  (R := R) (ci := 3) (hld := H3) h z k v).trans (g7_at X n0 3 h k v).symm)⟩,
      p7_agree (ci := 2) (G := (G7 X n0)) (hG := fun h z k v => (st_eq  (R := R) (ci := 2) (hld := H2) h z k v).trans (g7_at X n0 2 h k v).symm)⟩,
      p7_agree (ci := 1) (G := (G7 X n0)) (hG := fun h z k v => (st_eq  (R := R) (ci := 1) (hld := H1) h z k v).trans (g7_at X n0 1 h k v).symm)⟩,
      p7_agree (ci := 0) (G := (G7 X n0)) (hG := fun h z k v => (st_eq  (R := R) (ci := 0) (hld := H0) h z k v).trans (g7_at X n0 0 h k v).symm)⟩
  exact (View.read_writes_apply_of_pieces V f (G7 X n0) _ hG _ (hcov _)).trans (g7_at X n0 ci h k v)

theorem B_outS {L : _} (hL : L = (runB (F := Ideal) c i a0 h0 a1 h1 a2 h2 a3 h3 a4 h4 a5 h5 a6 h6 a7 h7 ar hsr hc x0 x1 x2 x3 x4 x5 xs).2.2.1) {κ : Kind} {sp : Space} (V : View sig κ sp S8x128x128 .f32) (f : V.ty.Contents (Elt Ideal)) (h : Fin 8) (k v : Fin 128) :
    V.read (Elt Ideal) (V.writes (Elt Ideal) f L) (ix3 h k v) = states (X h) (n0 + 8) k v := by
  obtain ⟨H0, H1, H2, H3, H4, H5, H6, H7⟩ := B_holds (c := c) (a0 := a0) (h0 := h0) (a1 := a1) (h1 := h1) (a3 := a3) (h3 := h3) (a5 := a5) (h5 := h5) (ar := ar) (hsr := hsr) (R := R) (hxs := hxs)
  rw [hL, B_S, View.writes_append]
  exact View.read_writes_apply_of_pieces V _ (fun y => states (X (y 0)) (n0 + 8) (y 1) (y 2)) _
    (pS_agree (G := fun y => states (X (y 0)) (n0 + 8) (y 1) (y 2)) (hG := next_eq (R := R) (ci := 7) (hld := H7))) _ (pS_cover _ _ _ _ _ h k v)

end

section

variable {X : Fin 8 → ℕ → Chunk} {n0 : ℕ} (c : Dev nD) (a0 : Memref sig .tc .vmem S512x1024 .f32) (h0 : a0.IsWhole) (a1 : Memref sig .tc .vmem S512x1024 .f32) (h1 : a1.IsWhole) (a2 : Memref sig .tc .vmem S512x1024 .f32) (h2 : a2.IsWhole) (a3 : Memref sig .tc .vmem S512x1024 .f32) (h3 : a3.IsWhole) (a4 : Memref sig .tc .vmem S8x512x64 .f32) (h4 : a4.IsWhole) (a5 : Memref sig .tc .vmem S8x1024 .f32) (h5 : a5.IsWhole) (ar : Memref sig .tc .vmem S8x128x128 .f32) (hsr : ar.IsWhole) {x0 : Vec Ideal S512x1024 .f32} {x1 : Vec Ideal S512x1024 .f32} {x2 : Vec Ideal S512x1024 .f32} {x3 : Vec Ideal S512x1024 .f32} {x4 : Vec Ideal S8x512x64 .f32} {x5 : Vec Ideal S8x1024 .f32}
  (R : Reads X n0 x0 x1 x2 x3 x4 x5) (hz : n0 = 0)

include R hz

/-- The carried state as each of the eight chunks finds it. -/
theorem A_holds :
    Holds X (ldL ar (runA.sl.HS_1 (F := Ideal))) (n0 + 0)
    ∧ Holds X (ldL ar (runA.sl.HS_9 (F := Ideal) c a0 h0 a1 h1 a3 h3 a5 h5 ar x0 x1 x3 x5)) (n0 + 1)
    ∧ Holds X (ldL ar (runA.sl.HS_17 (F := Ideal) c a0 h0 a1 h1 a3 h3 a5 h5 ar x0 x1 x3 x5)) (n0 + 2)
    ∧ Holds X (ldL ar (runA.sl.HS_25 (F := Ideal) c a0 h0 a1 h1 a3 h3 a5 h5 ar x0 x1 x3 x5)) (n0 + 3)
    ∧ Holds X (ldL ar (runA.sl.HS_33 (F := Ideal) c a0 h0 a1 h1 a3 h3 a5 h5 ar x0 x1 x3 x5)) (n0 + 4)
    ∧ Holds X (ldL ar (runA.sl.HS_41 (F := Ideal) c a0 h0 a1 h1 a3 h3 a5 h5 ar x0 x1 x3 x5)) (n0 + 5)
    ∧ Holds X (ldL ar (runA.sl.HS_49 (F := Ideal) c a0 h0 a1 h1 a3 h3 a5 h5 ar x0 x1 x3 x5)) (n0 + 6)
    ∧ Holds X (ldL ar (runA.sl.HS_57 (F := Ideal) c a0 h0 a1 h1 a3 h3 a5 h5 ar x0 x1 x3 x5)) (n0 + 7) := by
  have H0 : Holds X (ldL ar (runA.sl.HS_1 (F := Ideal))) (n0 + 0) := by
    subst hz
    intro h k v
    have e : ldL ar (runA.sl.HS_1 (F := Ideal)) h (ix3 0 k v) = ar.view.read (Elt Ideal) (ar.view.writes (Elt Ideal) ar.view.junk runA.sl.HS_1) (ix3 h k v) :=
      congrArg (ar.view.read (Elt Ideal) (ar.view.writes (Elt Ideal) ar.view.junk runA.sl.HS_1)) (rS_idx h 0 k v)
    rw [e]
    exact View.read_writes_apply_of_pieces ar.view _ (fun _ => 0) _ (zero_agree) _ (zero_cover _)
  have H1 : Holds X (ldL ar (runA.sl.HS_9 (F := Ideal) c a0 h0 a1 h1 a3 h3 a5 h5 ar x0 x1 x3 x5)) (n0 + 1) := by
    rw [A_S0]
    exact holds_next (R := R) (ci := 0) (hld := H0) (L := _) (m := n0 + 1) (hm := by show n0 + 1 = _ + 1; rfl)
  have H2 : Holds X (ldL ar (runA.sl.HS_17 (F := Ideal) c a0 h0 a1 h1 a3 h3 a5 h5 ar x0 x1 x3 x5)) (n0 + 2) := by
    rw [A_S1]
    exact holds_next (R := R) (ci := 1) (hld := H1) (L := _) (m := n0 + 2) (hm := by show n0 + 2 = _ + 1; rfl)
  have H3 : Holds X (ldL ar (runA.sl.HS_25 (F := Ideal) c a0 h0 a1 h1 a3 h3 a5 h5 ar x0 x1 x3 x5)) (n0 + 3) := by
    rw [A_S2]
    exact holds_next (R := R) (ci := 2) (hld := H2) (L := _) (m := n0 + 3) (hm := by show n0 + 3 = _ + 1; rfl)
  have H4 : Holds X (ldL ar (runA.sl.HS_33 (F := Ideal) c a0 h0 a1 h1 a3 h3 a5 h5 ar x0 x1 x3 x5)) (n0 + 4) := by
    rw [A_S3]
    exact holds_next (R := R) (ci := 3) (hld := H3) (L := _) (m := n0 + 4) (hm := by show n0 + 4 = _ + 1; rfl)
  have H5 : Holds X (ldL ar (runA.sl.HS_41 (F := Ideal) c a0 h0 a1 h1 a3 h3 a5 h5 ar x0 x1 x3 x5)) (n0 + 5) := by
    rw [A_S4]
    exact holds_next (R := R) (ci := 4) (hld := H4) (L := _) (m := n0 + 5) (hm := by show n0 + 5 = _ + 1; rfl)
  have H6 : Holds X (ldL ar (runA.sl.HS_49 (F := Ideal) c a0 h0 a1 h1 a3 h3 a5 h5 ar x0 x1 x3 x5)) (n0 + 6) := by
    rw [A_S5]
    exact holds_next (R := R) (ci := 5) (hld := H5) (L := _) (m := n0 + 6) (hm := by show n0 + 6 = _ + 1; rfl)
  have H7 : Holds X (ldL ar (runA.sl.HS_57 (F := Ideal) c a0 h0 a1 h1 a3 h3 a5 h5 ar x0 x1 x3 x5)) (n0 + 7) := by
    rw [A_S6]
    exact holds_next (R := R) (ci := 6) (hld := H6) (L := _) (m := n0 + 7) (hm := by show n0 + 7 = _ + 1; rfl)
  exact ⟨H0, H1, H2, H3, H4, H5, H6, H7⟩

variable (i : grid0.Coords) (a6 : Memref sig .tc .vmem S512x1024 .f32) (h6 : a6.IsWhole) (a7 : Memref sig .tc .vmem S8x1024x128 .f32) (h7 : a7.IsWhole) (hc : cond i)

variable {c i a0 h0 a1 h1 a2 h2 a3 h3 a4 h4 a5 h5 a6 h6 a7 h7 ar hsr hc}

theorem A_out6 {L : _} (hL : L = (runA (F := Ideal) c i a0 h0 a1 h1 a2 h2 a3 h3 a4 h4 a5 h5 a6 h6 a7 h7 ar hsr hc x0 x1 x2 x3 x4 x5).1) (hcov : ∀ y, ∃ pc ∈ L, y ∈ pc.1.set) {κ : Kind} {sp : Space} (V : View sig κ sp S512x1024 .f32) (f : V.ty.Contents (Elt Ideal))
    (ci : Fin 8) (h : Fin 8) (r : Fin 64) (l : Fin 128) :
    V.read (Elt Ideal) (V.writes (Elt Ideal) f L) (ix2 (row ci r) (lane h l)) = (X h (n0 + ci.val)).out (states (X h) (n0 + ci.val)) r l := by
  obtain ⟨H0, H1, H2, H3, H4, H5, H6, H7⟩ := A_holds (c := c) (a0 := a0) (h0 := h0) (a1 := a1) (h1 := h1) (a3 := a3) (h3 := h3) (a5 := a5) (h5 := h5) (ar := ar) (R := R) (hz := hz)
  have hG : ∀ p ∈ L, ∀ x : p.1.shape.Idx, p.2 x = (G6 X n0) (p.1.emb x) := by
    rw [hL, A_6]
    simp only [List.forall_mem_append]
    exact ⟨⟨⟨⟨⟨⟨⟨(p6_agree (ci := 7) (G := (G6 X n0)) (hG := fun h r l => (out_eq (R := R) (ci := 7) (hld := H7) h r l).trans (g6_at X n0 7 h r l).symm)),
      p6_agree (ci := 6) (G := (G6 X n0)) (hG := fun h r l => (out_eq (R := R) (ci := 6) (hld := H6) h r l).trans (g6_at X n0 6 h r l).symm)⟩,
      p6_agree (ci := 5) (G := (G6 X n0)) (hG := fun h r l => (out_eq (R := R) (ci := 5) (hld := H5) h r l).trans (g6_at X n0 5 h r l).symm)⟩,
      p6_agree (ci := 4) (G := (G6 X n0)) (hG := fun h r l => (out_eq (R := R) (ci := 4) (hld := H4) h r l).trans (g6_at X n0 4 h r l).symm)⟩,
      p6_agree (ci := 3) (G := (G6 X n0)) (hG := fun h r l => (out_eq (R := R) (ci := 3) (hld := H3) h r l).trans (g6_at X n0 3 h r l).symm)⟩,
      p6_agree (ci := 2) (G := (G6 X n0)) (hG := fun h r l => (out_eq (R := R) (ci := 2) (hld := H2) h r l).trans (g6_at X n0 2 h r l).symm)⟩,
      p6_agree (ci := 1) (G := (G6 X n0)) (hG := fun h r l => (out_eq (R := R) (ci := 1) (hld := H1) h r l).trans (g6_at X n0 1 h r l).symm)⟩,
      p6_agree (ci := 0) (G := (G6 X n0)) (hG := fun h r l => (out_eq (R := R) (ci := 0) (hld := H0) h r l).trans (g6_at X n0 0 h r l).symm)⟩
  exact (View.read_writes_apply_of_pieces V f (G6 X n0) _ hG _ (hcov _)).trans (g6_at X n0 ci h r l)

theorem A_out7 {L : _} (hL : L = (runA (F := Ideal) c i a0 h0 a1 h1 a2 h2 a3 h3 a4 h4 a5 h5 a6 h6 a7 h7 ar hsr hc x0 x1 x2 x3 x4 x5).2.1) (hcov : ∀ y, ∃ pc ∈ L, y ∈ pc.1.set) {κ : Kind} {sp : Space} (V : View sig κ sp S8x1024x128 .f32) (f : V.ty.Contents (Elt Ideal))
    (ci : Fin 8) (h : Fin 8) (k v : Fin 128) :
    V.read (Elt Ideal) (V.writes (Elt Ideal) f L) (ix3 h (srow ci k) v) = (states (X h) (n0 + ci.val)) k v := by
  obtain ⟨H0, H1, H2, H3, H4, H5, H6, H7⟩ := A_holds (c := c) (a0 := a0) (h0 := h0) (a1 := a1) (h1 := h1) (a3 := a3) (h3 := h3) (a5 := a5) (h5 := h5) (ar := ar) (R := R) (hz := hz)
  have hG : ∀ p ∈ L, ∀ x : p.1.shape.Idx, p.2 x = (G7 X n0) (p.1.emb x) := by
    rw [hL, A_7]
    simp only [List.forall_mem_append]
    exact ⟨⟨⟨⟨⟨⟨⟨(p7_agree (ci := 7) (G := (G7 X n0)) (hG := fun h z k v => (st_eq  (R := R) (ci := 7) (hld := H7) h z k v).trans (g7_at X n0 7 h k v).symm)),
      p7_agree (ci := 6) (G := (G7 X n0)) (hG := fun h z k v => (st_eq  (R := R) (ci := 6) (hld := H6) h z k v).trans (g7_at X n0 6 h k v).symm)⟩,
      p7_agree (ci := 5) (G := (G7 X n0)) (hG := fun h z k v => (st_eq  (R := R) (ci := 5) (hld := H5) h z k v).trans (g7_at X n0 5 h k v).symm)⟩,
      p7_agree (ci := 4) (G := (G7 X n0)) (hG := fun h z k v => (st_eq  (R := R) (ci := 4) (hld := H4) h z k v).trans (g7_at X n0 4 h k v).symm)⟩,
      p7_agree (ci := 3) (G := (G7 X n0)) (hG := fun h z k v => (st_eq  (R := R) (ci := 3) (hld := H3) h z k v).trans (g7_at X n0 3 h k v).symm)⟩,
      p7_agree (ci := 2) (G := (G7 X n0)) (hG := fun h z k v => (st_eq  (R := R) (ci := 2) (hld := H2) h z k v).trans (g7_at X n0 2 h k v).symm)⟩,
      p7_agree (ci := 1) (G := (G7 X n0)) (hG := fun h z k v => (st_eq  (R := R) (ci := 1) (hld := H1) h z k v).trans (g7_at X n0 1 h k v).symm)⟩,
      p7_agree (ci := 0) (G := (G7 X n0)) (hG := fun h z k v => (st_eq  (R := R) (ci := 0) (hld := H0) h z k v).trans (g7_at X n0 0 h k v).symm)⟩
  exact (View.read_writes_apply_of_pieces V f (G7 X n0) _ hG _ (hcov _)).trans (g7_at X n0 ci h k v)

theorem A_outS {L : _} (hL : L = (runA (F := Ideal) c i a0 h0 a1 h1 a2 h2 a3 h3 a4 h4 a5 h5 a6 h6 a7 h7 ar hsr hc x0 x1 x2 x3 x4 x5).2.2.1) {κ : Kind} {sp : Space} (V : View sig κ sp S8x128x128 .f32) (f : V.ty.Contents (Elt Ideal)) (h : Fin 8) (k v : Fin 128) :
    V.read (Elt Ideal) (V.writes (Elt Ideal) f L) (ix3 h k v) = states (X h) (n0 + 8) k v := by
  obtain ⟨H0, H1, H2, H3, H4, H5, H6, H7⟩ := A_holds (c := c) (a0 := a0) (h0 := h0) (a1 := a1) (h1 := h1) (a3 := a3) (h3 := h3) (a5 := a5) (h5 := h5) (ar := ar) (R := R) (hz := hz)
  rw [hL, A_S, View.writes_append]
  exact View.read_writes_apply_of_pieces V _ (fun y => states (X (y 0)) (n0 + 8) (y 1) (y 2)) _
    (pS_agree (G := fun y => states (X (y 0)) (n0 + 8) (y 1) (y 2)) (hG := next_eq (R := R) (ci := 7) (hld := H7))) _ (pS_cover _ _ _ _ _ h k v)

end

end Cert.Proof.Fwd

end
-- ==== Proof.FwdArr.lean ====
module

public import proofs.«01_k».proof.Proof.FwdBlk
public import Idealize.ShloMosaic.Lib.Pipeline.ValueKit.Point

@[expose] public section

set_option maxRecDepth 16384

noncomputable section

/-! The forward call's two result arrays. -/

namespace Cert.Proof.Fwd

open Cert.KernelIdeal Cert.KernelIdeal.Gen
open Idealize.ShloMosaic Idealize.ShloMosaic.TcCoe Idealize.ShloMosaic.Tactic

theorem idx : ∀ t : Fin cfg0.N, win0_0.index t = ![t.val, 0] ∧ win0_1.index t = ![t.val, 0] ∧ win0_2.index t = ![t.val, 0]
    ∧ win0_3.index t = ![t.val, 0] ∧ win0_4.index t = ![0, t.val, 0] ∧ win0_5.index t = ![t.val, 0] ∧ win0_6.index t = ![t.val, 0]
    ∧ win0_7.index t = ![0, t.val, 0] := by decide +kernel

variable (V : Dev nD → Valuation τ sig (Elt Ideal)) (c : Dev nD)

/-- Head `h`'s chunks in the arrays as the call finds them. -/
def X (h : Fin 8) (n : ℕ) : Chunk :=
  chunkOf (V c main_arg0) (V c main_arg1) (V c main_arg2) (V c main_arg3) (V c main_arg4) (V c main_v1) (V c main_arg6) h n

theorem reads (t : Fin cfg0.N) : Reads (X V c) (8 * t.val) (iblk V c 0 t) (iblk V c 1 t) (iblk V c 2 t) (iblk V c 3 t) (iblk V c 4 t) (iblk V c 5 t) := by
  have ht : t.val < 32 := Nat.lt_of_lt_of_eq t.isLt N_0
  constructor
  · intro ci h r l
    show iblk V c 0 t (ix2 (row ci r) (lane h l)) = V c main_arg0 (ix2 (gr (8 * t.val + ci.val) r) (gl8 h l))
    blk_ext [iblk, idx t]
  · intro ci h r l
    show iblk V c 1 t (ix2 (row ci r) (lane h l)) = V c main_arg1 (ix2 (gr (8 * t.val + ci.val) r) (gl8 h l))
    blk_ext [iblk, idx t]
  · intro ci h r l
    show iblk V c 2 t (ix2 (row ci r) (lane h l)) = V c main_arg2 (ix2 (gr (8 * t.val + ci.val) r) (gl8 h l))
    blk_ext [iblk, idx t]
  · intro ci h r l
    show iblk V c 3 t (ix2 (row ci r) (lane h l)) = V c main_arg3 (ix2 (gr (8 * t.val + ci.val) r) (gl8 h l))
    blk_ext [iblk, idx t]
  · intro ci h r s
    show iblk V c 4 t (ix3 h (row ci r) s) = V c main_arg4 (ix3 h (gr (8 * t.val + ci.val) r) s)
    blk_ext [iblk, idx t]
  · intro ci h l
    show iblk V c 5 t (ix2 ci (lane h l)) = V c main_v1 (ix2 ⟨(8 * t.val + ci.val) % 256, by omega⟩ (gl8 h l))
    blk_ext [iblk, idx t]

theorem leftA6 (t : Fin cfg0.N) (h : t.val % 32 = 0) (hz : 8 * t.val = 0) (ci : Fin 8) (g : Fin 8) (r : Fin 64) (l : Fin 128) :
    rd6 (atA V c t h).1 (ix2 (row ci r) (lane g l)) = (X V c g (8 * t.val + ci.val)).out (states (X V c g) (8 * t.val + ci.val)) r l :=
  A_out6 (R := reads V c t) (hz := hz) rfl (coverA_6 V c t h) VO6 VO6.junk ci g r l

theorem leftB6 (t : Fin cfg0.N) (h : ¬ t.val % 32 = 0) (xs : Vec Ideal S8x128x128 .f32) (hxs : ∀ h k v, xs (ix3 h k v) = states (X V c h) (8 * t.val + 0) k v) (ci : Fin 8) (g : Fin 8) (r : Fin 64) (l : Fin 128) :
    rd6 (atB V c t h xs).1 (ix2 (row ci r) (lane g l)) = (X V c g (8 * t.val + ci.val)).out (states (X V c g) (8 * t.val + ci.val)) r l :=
  B_out6 (R := reads V c t) (hxs := hxs) rfl (coverB_6 V c t h xs) VO6 VO6.junk ci g r l

theorem leftA7 (t : Fin cfg0.N) (h : t.val % 32 = 0) (hz : 8 * t.val = 0) (ci : Fin 8) (g : Fin 8) (k v : Fin 128) :
    rd7 (atA V c t h).2.1 (ix3 g (srow ci k) v) = states (X V c g) (8 * t.val + ci.val) k v :=
  A_out7 (R := reads V c t) (hz := hz) rfl (coverA_7 V c t h) VO7 VO7.junk ci g k v

theorem leftB7 (t : Fin cfg0.N) (h : ¬ t.val % 32 = 0) (xs : Vec Ideal S8x128x128 .f32) (hxs : ∀ h k v, xs (ix3 h k v) = states (X V c h) (8 * t.val + 0) k v) (ci : Fin 8) (g : Fin 8) (k v : Fin 128) :
    rd7 (atB V c t h xs).2.1 (ix3 g (srow ci k) v) = states (X V c g) (8 * t.val + ci.val) k v :=
  B_out7 (R := reads V c t) (hxs := hxs) rfl (coverB_7 V c t h xs) VO7 VO7.junk ci g k v

theorem leftAS (t : Fin cfg0.N) (h : t.val % 32 = 0) (hz : 8 * t.val = 0) (g : Fin 8) (k v : Fin 128) :
    rdS (atA V c t h).2.2.1 (ix3 g k v) = states (X V c g) (8 * t.val + 8) k v :=
  A_outS (L := (atA V c t h).2.2.1) (R := reads V c t) (hz := hz) rfl VS VS.junk g k v

theorem leftBS (t : Fin cfg0.N) (h : ¬ t.val % 32 = 0) (xs : Vec Ideal S8x128x128 .f32) (hxs : ∀ h k v, xs (ix3 h k v) = states (X V c h) (8 * t.val + 0) k v) (g : Fin 8) (k v : Fin 128) :
    rdS (atB V c t h xs).2.2.1 (ix3 g k v) = states (X V c g) (8 * t.val + 8) k v :=
  B_outS (L := (atB V c t h xs).2.2.1) (R := reads V c t) (hxs := hxs) rfl VS VS.junk g k v

theorem outA_6 (t : Fin cfg0.N) (h : t.val % 32 = 0) : (outA V c t h).1 = rd6 (atA V c t h).1 := by unfold outA; dsimp only
theorem outB_6 (t : Fin cfg0.N) (h : ¬ t.val % 32 = 0) (xs : Vec Ideal S8x128x128 .f32) : (outB V c t h xs).1 = rd6 (atB V c t h xs).1 := by unfold outB; dsimp only
theorem outA_7 (t : Fin cfg0.N) (h : t.val % 32 = 0) : (outA V c t h).2.1 = rd7 (atA V c t h).2.1 := by unfold outA; dsimp only
theorem outB_7 (t : Fin cfg0.N) (h : ¬ t.val % 32 = 0) (xs : Vec Ideal S8x128x128 .f32) : (outB V c t h xs).2.1 = rd7 (atB V c t h xs).2.1 := by unfold outB; dsimp only
theorem outA_S (t : Fin cfg0.N) (h : t.val % 32 = 0) : (outA V c t h).2.2 = rdS (atA V c t h).2.2.1 := by unfold outA; dsimp only
theorem outB_S (t : Fin cfg0.N) (h : ¬ t.val % 32 = 0) (xs : Vec Ideal S8x128x128 .f32) : (outB V c t h xs).2.2 = rdS (atB V c t h xs).2.2.1 := by unfold outB; dsimp only

/-- After point `t` the scratch holds the state after chunk `8 t + 7`. -/
theorem scratch : ∀ (n : ℕ) (hn : n < cfg0.N) (h : Fin 8) (k v : Fin 128), (outsAt V c n hn).2.2 (ix3 h k v) = states (X V c h) (8 * n + 8) k v
  | 0, hn, g, k, v => by
    rw [outsAt_A V c ⟨0, hn⟩ (Nat.zero_mod _), outA_S]
    exact leftAS V c ⟨0, hn⟩ (Nat.zero_mod _) (Nat.mul_zero _) g k v
  | n + 1, hn, g, k, v => by
    have ht : n + 1 < 32 := Nat.lt_of_lt_of_eq hn N_0
    have h : ¬ (n + 1) % 32 = 0 := by omega
    rw [outsAt_B V c ⟨n + 1, hn⟩ h, outB_S]
    exact leftBS V c ⟨n + 1, hn⟩ h _ (fun h k v => scratch n _ h k v) g k v

theorem before (t : Fin cfg0.N) (h : ¬ t.val % 32 = 0) (g : Fin 8) (k v : Fin 128) :
    (outsAt V c (t.val - 1) (Nat.lt_of_le_of_lt (Nat.sub_le _ _) t.isLt)).2.2 (ix3 g k v) = states (X V c g) (8 * t.val + 0) k v := by
  rw [scratch, show 8 * (t.val - 1) + 8 = 8 * t.val + 0 by omega]

theorem at6 (t : Fin cfg0.N) (ci : Fin 8) (g : Fin 8) (r : Fin 64) (l : Fin 128) : (outsAt V c t.val t.isLt).1 (ix2 (row ci r) (lane g l)) = (X V c g (8 * t.val + ci.val)).out (states (X V c g) (8 * t.val + ci.val)) r l := by
  have ht : t.val < 32 := Nat.lt_of_lt_of_eq t.isLt N_0
  by_cases h : t.val % 32 = 0
  · rw [outsAt_A V c t h, outA_6]
    exact leftA6 V c t h (by omega) ci g r l
  · rw [outsAt_B V c t h, outB_6]
    exact leftB6 V c t h _ (before V c t h) ci g r l

theorem at7 (t : Fin cfg0.N) (ci : Fin 8) (g : Fin 8) (k v : Fin 128) : (outsAt V c t.val t.isLt).2.1 (ix3 g (srow ci k) v) = states (X V c g) (8 * t.val + ci.val) k v := by
  have ht : t.val < 32 := Nat.lt_of_lt_of_eq t.isLt N_0
  by_cases h : t.val % 32 = 0
  · rw [outsAt_A V c t h, outA_7]
    exact leftA7 V c t h (by omega) ci g k v
  · rw [outsAt_B V c t h, outB_7]
    exact leftB7 V c t h _ (before V c t h) ci g k v

/-- The array of the outputs. -/
def oArr : Vec Ideal S16384x1024 .f32 := fun y =>
  (X V c (hd (y 1)) ((y 0).val / 64)).out (states (X V c (hd (y 1))) ((y 0).val / 64)) (rw64 (y 0)) (ln (y 1))

/-- The array of the states. -/
def stArr : Vec Ideal S8x32768x128 .f32 := fun y => states (X V c (y 0)) ((y 1).val / 128) (rw128 (y 1)) (y 2)

theorem st_point (t : Fin cfg0.N) (g : Fin 8) (a : Fin 1024) (v : Fin 128) :
    (outsAt V c t.val t.isLt).2.1 (ix3 g a v) = stArr V c ((win0_7.blk t).view.emb (ix3 g a v)) := by
  have ht : t.val < 32 := Nat.lt_of_lt_of_eq t.isLt N_0
  have e0 : (win0_7.blk t).view.emb (ix3 g a v) 0 = g := by apply Fin.ext; blk_simp [idx t]
  have e1 : ((win0_7.blk t).view.emb (ix3 g a v) 1).val = t.val * 1024 + a.val := by blk_simp [idx t]
  have e2 : (win0_7.blk t).view.emb (ix3 g a v) 2 = v := by apply Fin.ext; blk_simp [idx t]
  have h := at7 V c t ⟨a.val / 128, by omega⟩ g ⟨a.val % 128, by omega⟩ v
  rw [show srow ⟨a.val / 128, by omega⟩ ⟨a.val % 128, by omega⟩ = a from Fin.ext (by show _ = _; dsimp only; omega)] at h
  rw [h]
  unfold stArr
  rw [e0, e2, e1, show (t.val * 1024 + a.val) / 128 = 8 * t.val + a.val / 128 by omega]
  congr 1
  exact Fin.ext (by dsimp only; rw [e1]; omega)

theorem o_point (t : Fin cfg0.N) (a : Fin 512) (x : Fin 1024) :
    (outsAt V c t.val t.isLt).1 (ix2 a x) = oArr V c ((win0_6.blk t).view.emb (ix2 a x)) := by
  have ht : t.val < 32 := Nat.lt_of_lt_of_eq t.isLt N_0
  have e0 : ((win0_6.blk t).view.emb (ix2 a x) 0).val = t.val * 512 + a.val := by blk_simp [idx t]
  have e1 : (win0_6.blk t).view.emb (ix2 a x) 1 = x := by apply Fin.ext; blk_simp [idx t]
  have h := at6 V c t ⟨a.val / 64, by omega⟩ (hd x) ⟨a.val % 64, by omega⟩ (ln x)
  rw [show row ⟨a.val / 64, by omega⟩ ⟨a.val % 64, by omega⟩ = a from Fin.ext (by dsimp only; omega),
    show lane (hd x) (ln x) = x from Fin.ext (by dsimp only; omega)] at h
  rw [h]
  unfold oArr
  rw [e1, e0, show (t.val * 512 + a.val) / 64 = 8 * t.val + a.val / 64 by omega]
  congr 1
  exact Fin.ext (by dsimp only; rw [e0]; omega)

theorem st_arr : (dat V c).arrAt 7 cfg0.N = stArr V c := by
  refine (dat V c).arrAt_eq_of_covers 7 _ (by decide +kernel) fun t hf y => ?_
  rw [after7]
  revert y
  show ∀ y : S8x1024x128.Idx, _
  intro y
  idx_vars y
  exact st_point V c t _ _ _

theorem o_arr : (dat V c).arrAt 6 cfg0.N = oArr V c := by
  refine (dat V c).arrAt_eq_of_covers 6 _ (by decide +kernel) fun t hf y => ?_
  rw [after6]
  revert y
  show ∀ y : S512x1024.Idx, _
  intro y
  idx_vars y
  exact o_point V c t _ _

end Cert.Proof.Fwd

end
-- ==== Proof.BwdPieces.lean ====
module

public import proofs.«01_k».proof.Proof.BwdData

@[expose] public section

set_option maxRecDepth 16384

noncomputable section

namespace Cert.Proof.Bwd

open Cert.KernelIdeal Cert.KernelIdeal.Gen
open Idealize.ShloMosaic Idealize.ShloMosaic.TcCoe Idealize.ShloMosaic.Tactic

variable {F : FTy → Type} [FloatOps F]

/-! ## The rectangles a block is read and written through: head `h`, chunk `ci`. -/

/-- Head `h` of the carried state. -/
def rS (h : Fin 4) : Rect S4x128x128 := Rect.unit ![h.val, 0, 0] S1x128x128.size (by intro a; fin_cases a <;> simp <;> omega)
/-- Chunk `ci`'s rows, head `h`'s lanes of a block of S512x512. -/
def rT (ci : Fin 8) (h : Fin 4) : Rect S512x512 := Rect.unit ![64 * ci.val, 128 * h.val] S64x128.size (by intro a; fin_cases a <;> simp <;> omega)
/-- Chunk `ci`'s rows of head `h`'s block of chunk-by-chunk matrices. -/
def rQ (ci : Fin 8) (h : Fin 4) : Rect S4x512x64 := Rect.unit ![h.val, 64 * ci.val, 0] S1x64x64.size (by intro a; fin_cases a <;> simp <;> omega)
/-- Chunk `ci`'s row, head `h`'s lanes of the gates' block. -/
def rG (ci : Fin 8) (h : Fin 4) : Rect S8x512 := Rect.unit ![ci.val, 128 * h.val] S1x128.size (by intro a; fin_cases a <;> simp <;> omega)
/-- Chunk `ci`'s state of head `h` in the states' block. -/
def rZ (ci : Fin 8) (h : Fin 4) : Rect S4x1024x128 := Rect.unit ![h.val, 128 * ci.val, 0] S1x128x128.size (by intro a; fin_cases a <;> simp <;> omega)

/-! ## What is computed for one head of one chunk. -/

/-- A head's state as a matrix. -/
def sq (s : Vec F S1x128x128 .f32) : FVec F S128x128 .f32 := shapeCast S128x128 s shapeCasts_S1x128x128_S128x128
/-- A head's chunk matrix. -/
def sqk (q : Vec F S1x64x64 .f32) : FVec F S64x64 .f32 := shapeCast S64x64 q shapeCasts_S1x64x64_S64x64
/-- `ub - w S`. -/
def uV (ub w : Vec F S64x128 .f32) (S : FVec F S128x128 .f32) : FVec F S64x128 .f32 :=
  subf ub (matmul dot_S64x128_S128x128_S64x128_1_0_0_1_n_n none (truncf .bf16 w bitsLt_bf16_f32) (truncf .bf16 S bitsLt_bf16_f32) (constant S64x128 .f32 0x00000000#32))
/-- `kd D + qkᵀ do`. -/
def duV (kd : Vec F S64x128 .f32) (qk : FVec F S64x64 .f32) (dO : Vec F S64x128 .f32) (D : FVec F S128x128 .f32) : FVec F S64x128 .f32 :=
  addf (matmul dot_S64x128_S128x128_S64x128_1_0_0_1_n_n none (truncf .bf16 kd bitsLt_bf16_f32) (truncf .bf16 D bitsLt_bf16_f32) (constant S64x128 .f32 0x00000000#32))
    (matmul dot_S64x64_S64x128_S64x128_0_0_1_1_n_n none (truncf .bf16 qk bitsLt_bf16_f32) (truncf .bf16 dO bitsLt_bf16_f32) (constant S64x128 .f32 0x00000000#32))
/-- `gl D + qdᵀ do - wᵀ du`. -/
def prevV (gl : Vec F S1x128 .f32) (qd w dO : Vec F S64x128 .f32) (D : FVec F S128x128 .f32) (du : FVec F S64x128 .f32) : FVec F S1x128x128 .f32 :=
  shapeCast S1x128x128 (subf (addf (mulf (broadcastTo S128x128 (shapeCast S1x128 gl shapeCasts_S1x128_S1x128) broadcasts_S1x128_S128x128) D)
      (matmul dot_S64x128_S64x128_S128x128_0_0_1_1_n_n none (truncf .bf16 qd bitsLt_bf16_f32) (truncf .bf16 dO bitsLt_bf16_f32) (constant S128x128 .f32 0x00000000#32)))
    (matmul dot_S64x128_S64x128_S128x128_0_0_1_1_n_n none (truncf .bf16 w bitsLt_bf16_f32) (truncf .bf16 du bitsLt_bf16_f32) (constant S128x128 .f32 0x00000000#32))) shapeCasts_S128x128_S1x128x128
/-- The sum over a head's state of the products of cotangent and state, in every lane. -/
def dglV (D S : FVec F S128x128 .f32) : FVec F S1x128 .f32 :=
  addf (broadcastTo S1x128 (shapeCast S1x1 (multiReduction .add [0] S1 (shapeCast S128x1
    (multiReduction .add [1] S128 (mulf D S) 0x00000000#32 reduces_S128x128_S128 (.inl rfl) rfl) shapeCasts_S128_S128x1) 0x00000000#32 reduces_S128x1_S1 (.inl rfl) rfl) shapeCasts_S1_S1x1) broadcasts_S1x1_S1x128)
    (broadcast S1x128 (FloatOps.ofBits .f32 0x00000000#32))
/-- `a Mᵀ`. -/
def ntV (a : FVec F S64x128 .f32) (M : FVec F S128x128 .f32) : FVec F S64x128 .f32 :=
  matmul dot_S64x128_S128x128_S64x128_1_1_0_0_n_n none (truncf .bf16 a bitsLt_bf16_f32) (truncf .bf16 M bitsLt_bf16_f32) (constant S64x128 .f32 0x00000000#32)
/-- `-(a Mᵀ)`. -/
def negV (a : FVec F S64x128 .f32) (M : FVec F S128x128 .f32) : FVec F S64x128 .f32 :=
  subf (broadcast S64x128 (FloatOps.ofBits .f32 0x00000000#32)) (ntV a M)
/-- `do uᵀ`. -/
def dqkV (dO u : FVec F S64x128 .f32) : FVec F S1x64x64 .f32 :=
  shapeCast S1x64x64 (matmul dot_S64x128_S64x128_S64x64_1_1_0_0_n_n none (truncf .bf16 dO bitsLt_bf16_f32) (truncf .bf16 u bitsLt_bf16_f32) (constant S64x64 .f32 0x00000000#32)) shapeCasts_S64x64_S1x64x64

/-! ## The pieces one chunk writes, the last head first: over each head's loads `t0 …` of the inputs' blocks and `ld` of the carried state. -/

variable (t0 : Fin 4 → Vec F S64x128 .f32) (t1 : Fin 4 → Vec F S64x128 .f32) (t2 : Fin 4 → Vec F S64x128 .f32) (t3 : Fin 4 → Vec F S64x128 .f32) (t4 : Fin 4 → Vec F S1x64x64 .f32) (t5 : Fin 4 → Vec F S1x128 .f32) (t6 : Fin 4 → Vec F S1x128x128 .f32) (t7 : Fin 4 → Vec F S64x128 .f32) (ld : Fin 4 → Vec F S1x128x128 .f32)

def pS : List (View.Piece (Elt F) S4x128x128 .f32) :=
  ([3, 2, 1, 0] : List (Fin 4)).map fun h => ⟨rS h, prevV (t5 h) (t2 h) (t1 h) (t7 h) (sq (ld h)) (duV (t3 h) (sqk (t4 h)) (t7 h) (sq (ld h)))⟩

def p8 (ci : Fin 8) : List (View.Piece (Elt F) S512x512 .f32) :=
  ([3, 2, 1, 0] : List (Fin 4)).map fun h => ⟨rT ci h, duV (t3 h) (sqk (t4 h)) (t7 h) (sq (ld h))⟩

def p9 (ci : Fin 8) : List (View.Piece (Elt F) S512x512 .f32) :=
  ([3, 2, 1, 0] : List (Fin 4)).map fun h => ⟨rT ci h, negV (duV (t3 h) (sqk (t4 h)) (t7 h) (sq (ld h))) (sq (t6 h))⟩

def p10 (ci : Fin 8) : List (View.Piece (Elt F) S512x512 .f32) :=
  ([3, 2, 1, 0] : List (Fin 4)).map fun h => ⟨rT ci h, ntV (t7 h) (sq (t6 h))⟩

def p11 (ci : Fin 8) : List (View.Piece (Elt F) S512x512 .f32) :=
  ([3, 2, 1, 0] : List (Fin 4)).map fun h => ⟨rT ci h, ntV (uV (t0 h) (t1 h) (sq (t6 h))) (sq (ld h))⟩

def p12 (ci : Fin 8) : List (View.Piece (Elt F) S4x512x64 .f32) :=
  ([3, 2, 1, 0] : List (Fin 4)).map fun h => ⟨rQ ci h, dqkV (t7 h) (uV (t0 h) (t1 h) (sq (t6 h)))⟩

def p13 (ci : Fin 8) : List (View.Piece (Elt F) S8x512 .f32) :=
  ([3, 2, 1, 0] : List (Fin 4)).map fun h => ⟨rG ci h, dglV (sq (ld h)) (sq (t6 h))⟩

/-! ## The loads of the inputs' blocks. -/

section

def ldT (a : Memref sig .tc .vmem S512x512 .f32) (ha : a.IsWhole) (x : Vec F S512x512 .f32) (ci : Fin 8) (h : Fin 4) : Vec F S64x128 .f32 :=
  View.readAt (Elt F) a.view (rT ci h).toLoadRect (ha.unread x)
def ldQ (a : Memref sig .tc .vmem S4x512x64 .f32) (ha : a.IsWhole) (x : Vec F S4x512x64 .f32) (ci : Fin 8) (h : Fin 4) : Vec F S1x64x64 .f32 :=
  View.readAt (Elt F) a.view (rQ ci h).toLoadRect (ha.unread x)
def ldG (a : Memref sig .tc .vmem S8x512 .f32) (ha : a.IsWhole) (x : Vec F S8x512 .f32) (ci : Fin 8) (h : Fin 4) : Vec F S1x128 .f32 :=
  View.readAt (Elt F) a.view (rG ci h).toLoadRect (ha.unread x)
def ldZ (a : Memref sig .tc .vmem S4x1024x128 .f32) (ha : a.IsWhole) (x : Vec F S4x1024x128 .f32) (ci : Fin 8) (h : Fin 4) : Vec F S1x128x128 .f32 :=
  View.readAt (Elt F) a.view (rZ ci h).toLoadRect (ha.unread x)
def ldS (a : Memref sig .tc .vmem S4x128x128 .f32) (ha : a.IsWhole) (x : Vec F S4x128x128 .f32) (h : Fin 4) : Vec F S1x128x128 .f32 :=
  View.readAt (Elt F) a.view (rS h).toLoadRect (ha.unread x)
/-- The carried state as the pieces `L` left it. -/
def ldL (a : Memref sig .tc .vmem S4x128x128 .f32) (L : List (View.Piece (Elt F) S4x128x128 .f32)) (h : Fin 4) : Vec F S1x128x128 .f32 :=
  a.view.readCov L (rS h).toLoadRect

end

end Cert.Proof.Bwd

end
-- ==== Proof.BwdListA.lean ====
module

public import proofs.«01_k».proof.Proof.BwdPieces

@[expose] public section

set_option maxRecDepth 16384

noncomputable section

namespace Cert.Proof.Bwd

open Cert.KernelIdeal Cert.KernelIdeal.Gen
open Idealize.ShloMosaic Idealize.ShloMosaic.TcCoe Idealize.ShloMosaic.Tactic

variable {F : FTy → Type} [FloatOps F]

variable (c : Dev nD) (a0 : Memref sig .tc .vmem S512x512 .f32) (h0 : a0.IsWhole) (a1 : Memref sig .tc .vmem S512x512 .f32) (h1 : a1.IsWhole) (a2 : Memref sig .tc .vmem S512x512 .f32) (h2 : a2.IsWhole) (a3 : Memref sig .tc .vmem S512x512 .f32) (h3 : a3.IsWhole) (a4 : Memref sig .tc .vmem S4x512x64 .f32) (h4 : a4.IsWhole) (a5 : Memref sig .tc .vmem S8x512 .f32) (h5 : a5.IsWhole) (a6 : Memref sig .tc .vmem S4x1024x128 .f32) (h6 : a6.IsWhole) (a7 : Memref sig .tc .vmem S512x512 .f32) (h7 : a7.IsWhole) (ar : Memref sig .tc .vmem S4x128x128 .f32) (hsr : ar.IsWhole) (x0 : Vec F S512x512 .f32) (x1 : Vec F S512x512 .f32) (x2 : Vec F S512x512 .f32) (x3 : Vec F S512x512 .f32) (x4 : Vec F S4x512x64 .f32) (x5 : Vec F S8x512 .f32) (x6 : Vec F S4x1024x128 .f32) (x7 : Vec F S512x512 .f32)

/-! ## The carried state, chunk by chunk. -/

theorem A_S0 : (runA.sl.HS_5 (F := F) c a1 h1 a2 h2 a3 h3 a4 h4 a5 h5 a7 h7 ar x1 x2 x3 x4 x5 x7) = pS (ldT a1 h1 x1 7) (ldT a2 h2 x2 7) (ldT a3 h3 x3 7) (ldQ a4 h4 x4 7) (ldG a5 h5 x5 7) (ldT a7 h7 x7 7) (ldL ar (runA.sl.HS_1 (F := F))) ++ runA.sl.HS_1 := by chain_rfl
theorem A_S1 : (runA.sl.HS_9 (F := F) c a1 h1 a2 h2 a3 h3 a4 h4 a5 h5 a7 h7 ar x1 x2 x3 x4 x5 x7) = pS (ldT a1 h1 x1 6) (ldT a2 h2 x2 6) (ldT a3 h3 x3 6) (ldQ a4 h4 x4 6) (ldG a5 h5 x5 6) (ldT a7 h7 x7 6) (ldL ar (runA.sl.HS_5 (F := F) c a1 h1 a2 h2 a3 h3 a4 h4 a5 h5 a7 h7 ar x1 x2 x3 x4 x5 x7)) ++ (runA.sl.HS_5 (F := F) c a1 h1 a2 h2 a3 h3 a4 h4 a5 h5 a7 h7 ar x1 x2 x3 x4 x5 x7) := by chain_rfl
theorem A_S2 : (runA.sl.HS_13 (F := F) c a1 h1 a2 h2 a3 h3 a4 h4 a5 h5 a7 h7 ar x1 x2 x3 x4 x5 x7) = pS (ldT a1 h1 x1 5) (ldT a2 h2 x2 5) (ldT a3 h3 x3 5) (ldQ a4 h4 x4 5) (ldG a5 h5 x5 5) (ldT a7 h7 x7 5) (ldL ar (runA.sl.HS_9 (F := F) c a1 h1 a2 h2 a3 h3 a4 h4 a5 h5 a7 h7 ar x1 x2 x3 x4 x5 x7)) ++ (runA.sl.HS_9 (F := F) c a1 h1 a2 h2 a3 h3 a4 h4 a5 h5 a7 h7 ar x1 x2 x3 x4 x5 x7) := by chain_rfl
theorem A_S3 : (runA.sl.HS_17 (F := F) c a1 h1 a2 h2 a3 h3 a4 h4 a5 h5 a7 h7 ar x1 x2 x3 x4 x5 x7) = pS (ldT a1 h1 x1 4) (ldT a2 h2 x2 4) (ldT a3 h3 x3 4) (ldQ a4 h4 x4 4) (ldG a5 h5 x5 4) (ldT a7 h7 x7 4) (ldL ar (runA.sl.HS_13 (F := F) c a1 h1 a2 h2 a3 h3 a4 h4 a5 h5 a7 h7 ar x1 x2 x3 x4 x5 x7)) ++ (runA.sl.HS_13 (F := F) c a1 h1 a2 h2 a3 h3 a4 h4 a5 h5 a7 h7 ar x1 x2 x3 x4 x5 x7) := by chain_rfl
theorem A_S4 : (runA.sl.HS_21 (F := F) c a1 h1 a2 h2 a3 h3 a4 h4 a5 h5 a7 h7 ar x1 x2 x3 x4 x5 x7) = pS (ldT a1 h1 x1 3) (ldT a2 h2 x2 3) (ldT a3 h3 x3 3) (ldQ a4 h4 x4 3) (ldG a5 h5 x5 3) (ldT a7 h7 x7 3) (ldL ar (runA.sl.HS_17 (F := F) c a1 h1 a2 h2 a3 h3 a4 h4 a5 h5 a7 h7 ar x1 x2 x3 x4 x5 x7)) ++ (runA.sl.HS_17 (F := F) c a1 h1 a2 h2 a3 h3 a4 h4 a5 h5 a7 h7 ar x1 x2 x3 x4 x5 x7) := by chain_rfl
theorem A_S5 : (runA.sl.HS_25 (F := F) c a1 h1 a2 h2 a3 h3 a4 h4 a5 h5 a7 h7 ar x1 x2 x3 x4 x5 x7) = pS (ldT a1 h1 x1 2) (ldT a2 h2 x2 2) (ldT a3 h3 x3 2) (ldQ a4 h4 x4 2) (ldG a5 h5 x5 2) (ldT a7 h7 x7 2) (ldL ar (runA.sl.HS_21 (F := F) c a1 h1 a2 h2 a3 h3 a4 h4 a5 h5 a7 h7 ar x1 x2 x3 x4 x5 x7)) ++ (runA.sl.HS_21 (F := F) c a1 h1 a2 h2 a3 h3 a4 h4 a5 h5 a7 h7 ar x1 x2 x3 x4 x5 x7) := by chain_rfl
theorem A_S6 : (runA.sl.HS_29 (F := F) c a1 h1 a2 h2 a3 h3 a4 h4 a5 h5 a7 h7 ar x1 x2 x3 x4 x5 x7) = pS (ldT a1 h1 x1 1) (ldT a2 h2 x2 1) (ldT a3 h3 x3 1) (ldQ a4 h4 x4 1) (ldG a5 h5 x5 1) (ldT a7 h7 x7 1) (ldL ar (runA.sl.HS_25 (F := F) c a1 h1 a2 h2 a3 h3 a4 h4 a5 h5 a7 h7 ar x1 x2 x3 x4 x5 x7)) ++ (runA.sl.HS_25 (F := F) c a1 h1 a2 h2 a3 h3 a4 h4 a5 h5 a7 h7 ar x1 x2 x3 x4 x5 x7) := by chain_rfl

/-! ## The whole lists. -/

variable (i : grid1.Coords) (a8 : Memref sig .tc .vmem S512x512 .f32) (h8 : a8.IsWhole) (a9 : Memref sig .tc .vmem S512x512 .f32) (h9 : a9.IsWhole) (a10 : Memref sig .tc .vmem S512x512 .f32) (h10 : a10.IsWhole) (a11 : Memref sig .tc .vmem S512x512 .f32) (h11 : a11.IsWhole) (a12 : Memref sig .tc .vmem S4x512x64 .f32) (h12 : a12.IsWhole) (a13 : Memref sig .tc .vmem S8x512 .f32) (h13 : a13.IsWhole) (hc : cond i)

theorem A_8 : (runA (F := F) c i a0 h0 a1 h1 a2 h2 a3 h3 a4 h4 a5 h5 a6 h6 a7 h7 a8 h8 a9 h9 a10 h10 a11 h11 a12 h12 a13 h13 ar hsr hc x0 x1 x2 x3 x4 x5 x6 x7).1 = p8 (ldT a3 h3 x3 0) (ldQ a4 h4 x4 0) (ldT a7 h7 x7 0) (ldL ar (runA.sl.HS_29 (F := F) c a1 h1 a2 h2 a3 h3 a4 h4 a5 h5 a7 h7 ar x1 x2 x3 x4 x5 x7)) 0 ++ p8 (ldT a3 h3 x3 1) (ldQ a4 h4 x4 1) (ldT a7 h7 x7 1) (ldL ar (runA.sl.HS_25 (F := F) c a1 h1 a2 h2 a3 h3 a4 h4 a5 h5 a7 h7 ar x1 x2 x3 x4 x5 x7)) 1 ++ p8 (ldT a3 h3 x3 2) (ldQ a4 h4 x4 2) (ldT a7 h7 x7 2) (ldL ar (runA.sl.HS_21 (F := F) c a1 h1 a2 h2 a3 h3 a4 h4 a5 h5 a7 h7 ar x1 x2 x3 x4 x5 x7)) 2 ++ p8 (ldT a3 h3 x3 3) (ldQ a4 h4 x4 3) (ldT a7 h7 x7 3) (ldL ar (runA.sl.HS_17 (F := F) c a1 h1 a2 h2 a3 h3 a4 h4 a5 h5 a7 h7 ar x1 x2 x3 x4 x5 x7)) 3 ++ p8 (ldT a3 h3 x3 4) (ldQ a4 h4 x4 4) (ldT a7 h7 x7 4) (ldL ar (runA.sl.HS_13 (F := F) c a1 h1 a2 h2 a3 h3 a4 h4 a5 h5 a7 h7 ar x1 x2 x3 x4 x5 x7)) 4 ++ p8 (ldT a3 h3 x3 5) (ldQ a4 h4 x4 5) (ldT a7 h7 x7 5) (ldL ar (runA.sl.HS_9 (F := F) c a1 h1 a2 h2 a3 h3 a4 h4 a5 h5 a7 h7 ar x1 x2 x3 x4 x5 x7)) 5 ++ p8 (ldT a3 h3 x3 6) (ldQ a4 h4 x4 6) (ldT a7 h7 x7 6) (ldL ar (runA.sl.HS_5 (F := F) c a1 h1 a2 h2 a3 h3 a4 h4 a5 h5 a7 h7 ar x1 x2 x3 x4 x5 x7)) 6 ++ p8 (ldT a3 h3 x3 7) (ldQ a4 h4 x4 7) (ldT a7 h7 x7 7) (ldL ar (runA.sl.HS_1 (F := F))) 7 := by chain_rfl

theorem A_9 : (runA (F := F) c i a0 h0 a1 h1 a2 h2 a3 h3 a4 h4 a5 h5 a6 h6 a7 h7 a8 h8 a9 h9 a10 h10 a11 h11 a12 h12 a13 h13 ar hsr hc x0 x1 x2 x3 x4 x5 x6 x7).2.1 = p9 (ldT a3 h3 x3 0) (ldQ a4 h4 x4 0) (ldZ a6 h6 x6 0) (ldT a7 h7 x7 0) (ldL ar (runA.sl.HS_29 (F := F) c a1 h1 a2 h2 a3 h3 a4 h4 a5 h5 a7 h7 ar x1 x2 x3 x4 x5 x7)) 0 ++ p9 (ldT a3 h3 x3 1) (ldQ a4 h4 x4 1) (ldZ a6 h6 x6 1) (ldT a7 h7 x7 1) (ldL ar (runA.sl.HS_25 (F := F) c a1 h1 a2 h2 a3 h3 a4 h4 a5 h5 a7 h7 ar x1 x2 x3 x4 x5 x7)) 1 ++ p9 (ldT a3 h3 x3 2) (ldQ a4 h4 x4 2) (ldZ a6 h6 x6 2) (ldT a7 h7 x7 2) (ldL ar (runA.sl.HS_21 (F := F) c a1 h1 a2 h2 a3 h3 a4 h4 a5 h5 a7 h7 ar x1 x2 x3 x4 x5 x7)) 2 ++ p9 (ldT a3 h3 x3 3) (ldQ a4 h4 x4 3) (ldZ a6 h6 x6 3) (ldT a7 h7 x7 3) (ldL ar (runA.sl.HS_17 (F := F) c a1 h1 a2 h2 a3 h3 a4 h4 a5 h5 a7 h7 ar x1 x2 x3 x4 x5 x7)) 3 ++ p9 (ldT a3 h3 x3 4) (ldQ a4 h4 x4 4) (ldZ a6 h6 x6 4) (ldT a7 h7 x7 4) (ldL ar (runA.sl.HS_13 (F := F) c a1 h1 a2 h2 a3 h3 a4 h4 a5 h5 a7 h7 ar x1 x2 x3 x4 x5 x7)) 4 ++ p9 (ldT a3 h3 x3 5) (ldQ a4 h4 x4 5) (ldZ a6 h6 x6 5) (ldT a7 h7 x7 5) (ldL ar (runA.sl.HS_9 (F := F) c a1 h1 a2 h2 a3 h3 a4 h4 a5 h5 a7 h7 ar x1 x2 x3 x4 x5 x7)) 5 ++ p9 (ldT a3 h3 x3 6) (ldQ a4 h4 x4 6) (ldZ a6 h6 x6 6) (ldT a7 h7 x7 6) (ldL ar (runA.sl.HS_5 (F := F) c a1 h1 a2 h2 a3 h3 a4 h4 a5 h5 a7 h7 ar x1 x2 x3 x4 x5 x7)) 6 ++ p9 (ldT a3 h3 x3 7) (ldQ a4 h4 x4 7) (ldZ a6 h6 x6 7) (ldT a7 h7 x7 7) (ldL ar (runA.sl.HS_1 (F := F))) 7 := by chain_rfl

theorem A_10 : (runA (F := F) c i a0 h0 a1 h1 a2 h2 a3 h3 a4 h4 a5 h5 a6 h6 a7 h7 a8 h8 a9 h9 a10 h10 a11 h11 a12 h12 a13 h13 ar hsr hc x0 x1 x2 x3 x4 x5 x6 x7).2.2.1 = p10 (ldZ a6 h6 x6 0) (ldT a7 h7 x7 0) 0 ++ p10 (ldZ a6 h6 x6 1) (ldT a7 h7 x7 1) 1 ++ p10 (ldZ a6 h6 x6 2) (ldT a7 h7 x7 2) 2 ++ p10 (ldZ a6 h6 x6 3) (ldT a7 h7 x7 3) 3 ++ p10 (ldZ a6 h6 x6 4) (ldT a7 h7 x7 4) 4 ++ p10 (ldZ a6 h6 x6 5) (ldT a7 h7 x7 5) 5 ++ p10 (ldZ a6 h6 x6 6) (ldT a7 h7 x7 6) 6 ++ p10 (ldZ a6 h6 x6 7) (ldT a7 h7 x7 7) 7 := by chain_rfl

theorem A_11 : (runA (F := F) c i a0 h0 a1 h1 a2 h2 a3 h3 a4 h4 a5 h5 a6 h6 a7 h7 a8 h8 a9 h9 a10 h10 a11 h11 a12 h12 a13 h13 ar hsr hc x0 x1 x2 x3 x4 x5 x6 x7).2.2.2.1 = p11 (ldT a0 h0 x0 0) (ldT a1 h1 x1 0) (ldZ a6 h6 x6 0) (ldL ar (runA.sl.HS_29 (F := F) c a1 h1 a2 h2 a3 h3 a4 h4 a5 h5 a7 h7 ar x1 x2 x3 x4 x5 x7)) 0 ++ p11 (ldT a0 h0 x0 1) (ldT a1 h1 x1 1) (ldZ a6 h6 x6 1) (ldL ar (runA.sl.HS_25 (F := F) c a1 h1 a2 h2 a3 h3 a4 h4 a5 h5 a7 h7 ar x1 x2 x3 x4 x5 x7)) 1 ++ p11 (ldT a0 h0 x0 2) (ldT a1 h1 x1 2) (ldZ a6 h6 x6 2) (ldL ar (runA.sl.HS_21 (F := F) c a1 h1 a2 h2 a3 h3 a4 h4 a5 h5 a7 h7 ar x1 x2 x3 x4 x5 x7)) 2 ++ p11 (ldT a0 h0 x0 3) (ldT a1 h1 x1 3) (ldZ a6 h6 x6 3) (ldL ar (runA.sl.HS_17 (F := F) c a1 h1 a2 h2 a3 h3 a4 h4 a5 h5 a7 h7 ar x1 x2 x3 x4 x5 x7)) 3 ++ p11 (ldT a0 h0 x0 4) (ldT a1 h1 x1 4) (ldZ a6 h6 x6 4) (ldL ar (runA.sl.HS_13 (F := F) c a1 h1 a2 h2 a3 h3 a4 h4 a5 h5 a7 h7 ar x1 x2 x3 x4 x5 x7)) 4 ++ p11 (ldT a0 h0 x0 5) (ldT a1 h1 x1 5) (ldZ a6 h6 x6 5) (ldL ar (runA.sl.HS_9 (F := F) c a1 h1 a2 h2 a3 h3 a4 h4 a5 h5 a7 h7 ar x1 x2 x3 x4 x5 x7)) 5 ++ p11 (ldT a0 h0 x0 6) (ldT a1 h1 x1 6) (ldZ a6 h6 x6 6) (ldL ar (runA.sl.HS_5 (F := F) c a1 h1 a2 h2 a3 h3 a4 h4 a5 h5 a7 h7 ar x1 x2 x3 x4 x5 x7)) 6 ++ p11 (ldT a0 h0 x0 7) (ldT a1 h1 x1 7) (ldZ a6 h6 x6 7) (ldL ar (runA.sl.HS_1 (F := F))) 7 := by chain_rfl

theorem A_12 : (runA (F := F) c i a0 h0 a1 h1 a2 h2 a3 h3 a4 h4 a5 h5 a6 h6 a7 h7 a8 h8 a9 h9 a10 h10 a11 h11 a12 h12 a13 h13 ar hsr hc x0 x1 x2 x3 x4 x5 x6 x7).2.2.2.2.1 = p12 (ldT a0 h0 x0 0) (ldT a1 h1 x1 0) (ldZ a6 h6 x6 0) (ldT a7 h7 x7 0) 0 ++ p12 (ldT a0 h0 x0 1) (ldT a1 h1 x1 1) (ldZ a6 h6 x6 1) (ldT a7 h7 x7 1) 1 ++ p12 (ldT a0 h0 x0 2) (ldT a1 h1 x1 2) (ldZ a6 h6 x6 2) (ldT a7 h7 x7 2) 2 ++ p12 (ldT a0 h0 x0 3) (ldT a1 h1 x1 3) (ldZ a6 h6 x6 3) (ldT a7 h7 x7 3) 3 ++ p12 (ldT a0 h0 x0 4) (ldT a1 h1 x1 4) (ldZ a6 h6 x6 4) (ldT a7 h7 x7 4) 4 ++ p12 (ldT a0 h0 x0 5) (ldT a1 h1 x1 5) (ldZ a6 h6 x6 5) (ldT a7 h7 x7 5) 5 ++ p12 (ldT a0 h0 x0 6) (ldT a1 h1 x1 6) (ldZ a6 h6 x6 6) (ldT a7 h7 x7 6) 6 ++ p12 (ldT a0 h0 x0 7) (ldT a1 h1 x1 7) (ldZ a6 h6 x6 7) (ldT a7 h7 x7 7) 7 := by chain_rfl

theorem A_13 : (runA (F := F) c i a0 h0 a1 h1 a2 h2 a3 h3 a4 h4 a5 h5 a6 h6 a7 h7 a8 h8 a9 h9 a10 h10 a11 h11 a12 h12 a13 h13 ar hsr hc x0 x1 x2 x3 x4 x5 x6 x7).2.2.2.2.2.1 = p13 (ldZ a6 h6 x6 0) (ldL ar (runA.sl.HS_29 (F := F) c a1 h1 a2 h2 a3 h3 a4 h4 a5 h5 a7 h7 ar x1 x2 x3 x4 x5 x7)) 0 ++ p13 (ldZ a6 h6 x6 1) (ldL ar (runA.sl.HS_25 (F := F) c a1 h1 a2 h2 a3 h3 a4 h4 a5 h5 a7 h7 ar x1 x2 x3 x4 x5 x7)) 1 ++ p13 (ldZ a6 h6 x6 2) (ldL ar (runA.sl.HS_21 (F := F) c a1 h1 a2 h2 a3 h3 a4 h4 a5 h5 a7 h7 ar x1 x2 x3 x4 x5 x7)) 2 ++ p13 (ldZ a6 h6 x6 3) (ldL ar (runA.sl.HS_17 (F := F) c a1 h1 a2 h2 a3 h3 a4 h4 a5 h5 a7 h7 ar x1 x2 x3 x4 x5 x7)) 3 ++ p13 (ldZ a6 h6 x6 4) (ldL ar (runA.sl.HS_13 (F := F) c a1 h1 a2 h2 a3 h3 a4 h4 a5 h5 a7 h7 ar x1 x2 x3 x4 x5 x7)) 4 ++ p13 (ldZ a6 h6 x6 5) (ldL ar (runA.sl.HS_9 (F := F) c a1 h1 a2 h2 a3 h3 a4 h4 a5 h5 a7 h7 ar x1 x2 x3 x4 x5 x7)) 5 ++ p13 (ldZ a6 h6 x6 6) (ldL ar (runA.sl.HS_5 (F := F) c a1 h1 a2 h2 a3 h3 a4 h4 a5 h5 a7 h7 ar x1 x2 x3 x4 x5 x7)) 6 ++ p13 (ldZ a6 h6 x6 7) (ldL ar (runA.sl.HS_1 (F := F))) 7 := by chain_rfl

theorem A_S : (runA (F := F) c i a0 h0 a1 h1 a2 h2 a3 h3 a4 h4 a5 h5 a6 h6 a7 h7 a8 h8 a9 h9 a10 h10 a11 h11 a12 h12 a13 h13 ar hsr hc x0 x1 x2 x3 x4 x5 x6 x7).2.2.2.2.2.2.1 = pS (ldT a1 h1 x1 0) (ldT a2 h2 x2 0) (ldT a3 h3 x3 0) (ldQ a4 h4 x4 0) (ldG a5 h5 x5 0) (ldT a7 h7 x7 0) (ldL ar (runA.sl.HS_29 (F := F) c a1 h1 a2 h2 a3 h3 a4 h4 a5 h5 a7 h7 ar x1 x2 x3 x4 x5 x7)) ++ (runA.sl.HS_29 (F := F) c a1 h1 a2 h2 a3 h3 a4 h4 a5 h5 a7 h7 ar x1 x2 x3 x4 x5 x7) := by chain_rfl

end Cert.Proof.Bwd

end
-- ==== Proof.BwdListB.lean ====
module

public import proofs.«01_k».proof.Proof.BwdPieces

@[expose] public section

set_option maxRecDepth 16384

noncomputable section

namespace Cert.Proof.Bwd

open Cert.KernelIdeal Cert.KernelIdeal.Gen
open Idealize.ShloMosaic Idealize.ShloMosaic.TcCoe Idealize.ShloMosaic.Tactic

variable {F : FTy → Type} [FloatOps F]

variable (c : Dev nD) (a0 : Memref sig .tc .vmem S512x512 .f32) (h0 : a0.IsWhole) (a1 : Memref sig .tc .vmem S512x512 .f32) (h1 : a1.IsWhole) (a2 : Memref sig .tc .vmem S512x512 .f32) (h2 : a2.IsWhole) (a3 : Memref sig .tc .vmem S512x512 .f32) (h3 : a3.IsWhole) (a4 : Memref sig .tc .vmem S4x512x64 .f32) (h4 : a4.IsWhole) (a5 : Memref sig .tc .vmem S8x512 .f32) (h5 : a5.IsWhole) (a6 : Memref sig .tc .vmem S4x1024x128 .f32) (h6 : a6.IsWhole) (a7 : Memref sig .tc .vmem S512x512 .f32) (h7 : a7.IsWhole) (ar : Memref sig .tc .vmem S4x128x128 .f32) (hsr : ar.IsWhole) (x0 : Vec F S512x512 .f32) (x1 : Vec F S512x512 .f32) (x2 : Vec F S512x512 .f32) (x3 : Vec F S512x512 .f32) (x4 : Vec F S4x512x64 .f32) (x5 : Vec F S8x512 .f32) (x6 : Vec F S4x1024x128 .f32) (x7 : Vec F S512x512 .f32) (xs : Vec F S4x128x128 .f32)

/-! ## The carried state, chunk by chunk. -/

theorem B_S0 : (runB.sl.HS_4 (F := F) c a1 h1 a2 h2 a3 h3 a4 h4 a5 h5 a7 h7 ar hsr x1 x2 x3 x4 x5 x7 xs) = pS (ldT a1 h1 x1 7) (ldT a2 h2 x2 7) (ldT a3 h3 x3 7) (ldQ a4 h4 x4 7) (ldG a5 h5 x5 7) (ldT a7 h7 x7 7) (ldS ar hsr xs) ++ [] := by chain_rfl
theorem B_S1 : (runB.sl.HS_8 (F := F) c a1 h1 a2 h2 a3 h3 a4 h4 a5 h5 a7 h7 ar hsr x1 x2 x3 x4 x5 x7 xs) = pS (ldT a1 h1 x1 6) (ldT a2 h2 x2 6) (ldT a3 h3 x3 6) (ldQ a4 h4 x4 6) (ldG a5 h5 x5 6) (ldT a7 h7 x7 6) (ldL ar (runB.sl.HS_4 (F := F) c a1 h1 a2 h2 a3 h3 a4 h4 a5 h5 a7 h7 ar hsr x1 x2 x3 x4 x5 x7 xs)) ++ (runB.sl.HS_4 (F := F) c a1 h1 a2 h2 a3 h3 a4 h4 a5 h5 a7 h7 ar hsr x1 x2 x3 x4 x5 x7 xs) := by chain_rfl
theorem B_S2 : (runB.sl.HS_12 (F := F) c a1 h1 a2 h2 a3 h3 a4 h4 a5 h5 a7 h7 ar hsr x1 x2 x3 x4 x5 x7 xs) = pS (ldT a1 h1 x1 5) (ldT a2 h2 x2 5) (ldT a3 h3 x3 5) (ldQ a4 h4 x4 5) (ldG a5 h5 x5 5) (ldT a7 h7 x7 5) (ldL ar (runB.sl.HS_8 (F := F) c a1 h1 a2 h2 a3 h3 a4 h4 a5 h5 a7 h7 ar hsr x1 x2 x3 x4 x5 x7 xs)) ++ (runB.sl.HS_8 (F := F) c a1 h1 a2 h2 a3 h3 a4 h4 a5 h5 a7 h7 ar hsr x1 x2 x3 x4 x5 x7 xs) := by chain_rfl
theorem B_S3 : (runB.sl.HS_16 (F := F) c a1 h1 a2 h2 a3 h3 a4 h4 a5 h5 a7 h7 ar hsr x1 x2 x3 x4 x5 x7 xs) = pS (ldT a1 h1 x1 4) (ldT a2 h2 x2 4) (ldT a3 h3 x3 4) (ldQ a4 h4 x4 4) (ldG a5 h5 x5 4) (ldT a7 h7 x7 4) (ldL ar (runB.sl.HS_12 (F := F) c a1 h1 a2 h2 a3 h3 a4 h4 a5 h5 a7 h7 ar hsr x1 x2 x3 x4 x5 x7 xs)) ++ (runB.sl.HS_12 (F := F) c a1 h1 a2 h2 a3 h3 a4 h4 a5 h5 a7 h7 ar hsr x1 x2 x3 x4 x5 x7 xs) := by chain_rfl
theorem B_S4 : (runB.sl.HS_20 (F := F) c a1 h1 a2 h2 a3 h3 a4 h4 a5 h5 a7 h7 ar hsr x1 x2 x3 x4 x5 x7 xs) = pS (ldT a1 h1 x1 3) (ldT a2 h2 x2 3) (ldT a3 h3 x3 3) (ldQ a4 h4 x4 3) (ldG a5 h5 x5 3) (ldT a7 h7 x7 3) (ldL ar (runB.sl.HS_16 (F := F) c a1 h1 a2 h2 a3 h3 a4 h4 a5 h5 a7 h7 ar hsr x1 x2 x3 x4 x5 x7 xs)) ++ (runB.sl.HS_16 (F := F) c a1 h1 a2 h2 a3 h3 a4 h4 a5 h5 a7 h7 ar hsr x1 x2 x3 x4 x5 x7 xs) := by chain_rfl
theorem B_S5 : (runB.sl.HS_24 (F := F) c a1 h1 a2 h2 a3 h3 a4 h4 a5 h5 a7 h7 ar hsr x1 x2 x3 x4 x5 x7 xs) = pS (ldT a1 h1 x1 2) (ldT a2 h2 x2 2) (ldT a3 h3 x3 2) (ldQ a4 h4 x4 2) (ldG a5 h5 x5 2) (ldT a7 h7 x7 2) (ldL ar (runB.sl.HS_20 (F := F) c a1 h1 a2 h2 a3 h3 a4 h4 a5 h5 a7 h7 ar hsr x1 x2 x3 x4 x5 x7 xs)) ++ (runB.sl.HS_20 (F := F) c a1 h1 a2 h2 a3 h3 a4 h4 a5 h5 a7 h7 ar hsr x1 x2 x3 x4 x5 x7 xs) := by chain_rfl
theorem B_S6 : (runB.sl.HS_28 (F := F) c a1 h1 a2 h2 a3 h3 a4 h4 a5 h5 a7 h7 ar hsr x1 x2 x3 x4 x5 x7 xs) = pS (ldT a1 h1 x1 1) (ldT a2 h2 x2 1) (ldT a3 h3 x3 1) (ldQ a4 h4 x4 1) (ldG a5 h5 x5 1) (ldT a7 h7 x7 1) (ldL ar (runB.sl.HS_24 (F := F) c a1 h1 a2 h2 a3 h3 a4 h4 a5 h5 a7 h7 ar hsr x1 x2 x3 x4 x5 x7 xs)) ++ (runB.sl.HS_24 (F := F) c a1 h1 a2 h2 a3 h3 a4 h4 a5 h5 a7 h7 ar hsr x1 x2 x3 x4 x5 x7 xs) := by chain_rfl

/-! ## The whole lists. -/

variable (i : grid1.Coords) (a8 : Memref sig .tc .vmem S512x512 .f32) (h8 : a8.IsWhole) (a9 : Memref sig .tc .vmem S512x512 .f32) (h9 : a9.IsWhole) (a10 : Memref sig .tc .vmem S512x512 .f32) (h10 : a10.IsWhole) (a11 : Memref sig .tc .vmem S512x512 .f32) (h11 : a11.IsWhole) (a12 : Memref sig .tc .vmem S4x512x64 .f32) (h12 : a12.IsWhole) (a13 : Memref sig .tc .vmem S8x512 .f32) (h13 : a13.IsWhole) (hc : ¬cond i)

theorem B_8 : (runB (F := F) c i a0 h0 a1 h1 a2 h2 a3 h3 a4 h4 a5 h5 a6 h6 a7 h7 a8 h8 a9 h9 a10 h10 a11 h11 a12 h12 a13 h13 ar hsr hc x0 x1 x2 x3 x4 x5 x6 x7 xs).1 = p8 (ldT a3 h3 x3 0) (ldQ a4 h4 x4 0) (ldT a7 h7 x7 0) (ldL ar (runB.sl.HS_28 (F := F) c a1 h1 a2 h2 a3 h3 a4 h4 a5 h5 a7 h7 ar hsr x1 x2 x3 x4 x5 x7 xs)) 0 ++ p8 (ldT a3 h3 x3 1) (ldQ a4 h4 x4 1) (ldT a7 h7 x7 1) (ldL ar (runB.sl.HS_24 (F := F) c a1 h1 a2 h2 a3 h3 a4 h4 a5 h5 a7 h7 ar hsr x1 x2 x3 x4 x5 x7 xs)) 1 ++ p8 (ldT a3 h3 x3 2) (ldQ a4 h4 x4 2) (ldT a7 h7 x7 2) (ldL ar (runB.sl.HS_20 (F := F) c a1 h1 a2 h2 a3 h3 a4 h4 a5 h5 a7 h7 ar hsr x1 x2 x3 x4 x5 x7 xs)) 2 ++ p8 (ldT a3 h3 x3 3) (ldQ a4 h4 x4 3) (ldT a7 h7 x7 3) (ldL ar (runB.sl.HS_16 (F := F) c a1 h1 a2 h2 a3 h3 a4 h4 a5 h5 a7 h7 ar hsr x1 x2 x3 x4 x5 x7 xs)) 3 ++ p8 (ldT a3 h3 x3 4) (ldQ a4 h4 x4 4) (ldT a7 h7 x7 4) (ldL ar (runB.sl.HS_12 (F := F) c a1 h1 a2 h2 a3 h3 a4 h4 a5 h5 a7 h7 ar hsr x1 x2 x3 x4 x5 x7 xs)) 4 ++ p8 (ldT a3 h3 x3 5) (ldQ a4 h4 x4 5) (ldT a7 h7 x7 5) (ldL ar (runB.sl.HS_8 (F := F) c a1 h1 a2 h2 a3 h3 a4 h4 a5 h5 a7 h7 ar hsr x1 x2 x3 x4 x5 x7 xs)) 5 ++ p8 (ldT a3 h3 x3 6) (ldQ a4 h4 x4 6) (ldT a7 h7 x7 6) (ldL ar (runB.sl.HS_4 (F := F) c a1 h1 a2 h2 a3 h3 a4 h4 a5 h5 a7 h7 ar hsr x1 x2 x3 x4 x5 x7 xs)) 6 ++ p8 (ldT a3 h3 x3 7) (ldQ a4 h4 x4 7) (ldT a7 h7 x7 7) (ldS ar hsr xs) 7 := by chain_rfl

theorem B_9 : (runB (F := F) c i a0 h0 a1 h1 a2 h2 a3 h3 a4 h4 a5 h5 a6 h6 a7 h7 a8 h8 a9 h9 a10 h10 a11 h11 a12 h12 a13 h13 ar hsr hc x0 x1 x2 x3 x4 x5 x6 x7 xs).2.1 = p9 (ldT a3 h3 x3 0) (ldQ a4 h4 x4 0) (ldZ a6 h6 x6 0) (ldT a7 h7 x7 0) (ldL ar (runB.sl.HS_28 (F := F) c a1 h1 a2 h2 a3 h3 a4 h4 a5 h5 a7 h7 ar hsr x1 x2 x3 x4 x5 x7 xs)) 0 ++ p9 (ldT a3 h3 x3 1) (ldQ a4 h4 x4 1) (ldZ a6 h6 x6 1) (ldT a7 h7 x7 1) (ldL ar (runB.sl.HS_24 (F := F) c a1 h1 a2 h2 a3 h3 a4 h4 a5 h5 a7 h7 ar hsr x1 x2 x3 x4 x5 x7 xs)) 1 ++ p9 (ldT a3 h3 x3 2) (ldQ a4 h4 x4 2) (ldZ a6 h6 x6 2) (ldT a7 h7 x7 2) (ldL ar (runB.sl.HS_20 (F := F) c a1 h1 a2 h2 a3 h3 a4 h4 a5 h5 a7 h7 ar hsr x1 x2 x3 x4 x5 x7 xs)) 2 ++ p9 (ldT a3 h3 x3 3) (ldQ a4 h4 x4 3) (ldZ a6 h6 x6 3) (ldT a7 h7 x7 3) (ldL ar (runB.sl.HS_16 (F := F) c a1 h1 a2 h2 a3 h3 a4 h4 a5 h5 a7 h7 ar hsr x1 x2 x3 x4 x5 x7 xs)) 3 ++ p9 (ldT a3 h3 x3 4) (ldQ a4 h4 x4 4) (ldZ a6 h6 x6 4) (ldT a7 h7 x7 4) (ldL ar (runB.sl.HS_12 (F := F) c a1 h1 a2 h2 a3 h3 a4 h4 a5 h5 a7 h7 ar hsr x1 x2 x3 x4 x5 x7 xs)) 4 ++ p9 (ldT a3 h3 x3 5) (ldQ a4 h4 x4 5) (ldZ a6 h6 x6 5) (ldT a7 h7 x7 5) (ldL ar (runB.sl.HS_8 (F := F) c a1 h1 a2 h2 a3 h3 a4 h4 a5 h5 a7 h7 ar hsr x1 x2 x3 x4 x5 x7 xs)) 5 ++ p9 (ldT a3 h3 x3 6) (ldQ a4 h4 x4 6) (ldZ a6 h6 x6 6) (ldT a7 h7 x7 6) (ldL ar (runB.sl.HS_4 (F := F) c a1 h1 a2 h2 a3 h3 a4 h4 a5 h5 a7 h7 ar hsr x1 x2 x3 x4 x5 x7 xs)) 6 ++ p9 (ldT a3 h3 x3 7) (ldQ a4 h4 x4 7) (ldZ a6 h6 x6 7) (ldT a7 h7 x7 7) (ldS ar hsr xs) 7 := by chain_rfl

theorem B_10 : (runB (F := F) c i a0 h0 a1 h1 a2 h2 a3 h3 a4 h4 a5 h5 a6 h6 a7 h7 a8 h8 a9 h9 a10 h10 a11 h11 a12 h12 a13 h13 ar hsr hc x0 x1 x2 x3 x4 x5 x6 x7 xs).2.2.1 = p10 (ldZ a6 h6 x6 0) (ldT a7 h7 x7 0) 0 ++ p10 (ldZ a6 h6 x6 1) (ldT a7 h7 x7 1) 1 ++ p10 (ldZ a6 h6 x6 2) (ldT a7 h7 x7 2) 2 ++ p10 (ldZ a6 h6 x6 3) (ldT a7 h7 x7 3) 3 ++ p10 (ldZ a6 h6 x6 4) (ldT a7 h7 x7 4) 4 ++ p10 (ldZ a6 h6 x6 5) (ldT a7 h7 x7 5) 5 ++ p10 (ldZ a6 h6 x6 6) (ldT a7 h7 x7 6) 6 ++ p10 (ldZ a6 h6 x6 7) (ldT a7 h7 x7 7) 7 := by chain_rfl

theorem B_11 : (runB (F := F) c i a0 h0 a1 h1 a2 h2 a3 h3 a4 h4 a5 h5 a6 h6 a7 h7 a8 h8 a9 h9 a10 h10 a11 h11 a12 h12 a13 h13 ar hsr hc x0 x1 x2 x3 x4 x5 x6 x7 xs).2.2.2.1 = p11 (ldT a0 h0 x0 0) (ldT a1 h1 x1 0) (ldZ a6 h6 x6 0) (ldL ar (runB.sl.HS_28 (F := F) c a1 h1 a2 h2 a3 h3 a4 h4 a5 h5 a7 h7 ar hsr x1 x2 x3 x4 x5 x7 xs)) 0 ++ p11 (ldT a0 h0 x0 1) (ldT a1 h1 x1 1) (ldZ a6 h6 x6 1) (ldL ar (runB.sl.HS_24 (F := F) c a1 h1 a2 h2 a3 h3 a4 h4 a5 h5 a7 h7 ar hsr x1 x2 x3 x4 x5 x7 xs)) 1 ++ p11 (ldT a0 h0 x0 2) (ldT a1 h1 x1 2) (ldZ a6 h6 x6 2) (ldL ar (runB.sl.HS_20 (F := F) c a1 h1 a2 h2 a3 h3 a4 h4 a5 h5 a7 h7 ar hsr x1 x2 x3 x4 x5 x7 xs)) 2 ++ p11 (ldT a0 h0 x0 3) (ldT a1 h1 x1 3) (ldZ a6 h6 x6 3) (ldL ar (runB.sl.HS_16 (F := F) c a1 h1 a2 h2 a3 h3 a4 h4 a5 h5 a7 h7 ar hsr x1 x2 x3 x4 x5 x7 xs)) 3 ++ p11 (ldT a0 h0 x0 4) (ldT a1 h1 x1 4) (ldZ a6 h6 x6 4) (ldL ar (runB.sl.HS_12 (F := F) c a1 h1 a2 h2 a3 h3 a4 h4 a5 h5 a7 h7 ar hsr x1 x2 x3 x4 x5 x7 xs)) 4 ++ p11 (ldT a0 h0 x0 5) (ldT a1 h1 x1 5) (ldZ a6 h6 x6 5) (ldL ar (runB.sl.HS_8 (F := F) c a1 h1 a2 h2 a3 h3 a4 h4 a5 h5 a7 h7 ar hsr x1 x2 x3 x4 x5 x7 xs)) 5 ++ p11 (ldT a0 h0 x0 6) (ldT a1 h1 x1 6) (ldZ a6 h6 x6 6) (ldL ar (runB.sl.HS_4 (F := F) c a1 h1 a2 h2 a3 h3 a4 h4 a5 h5 a7 h7 ar hsr x1 x2 x3 x4 x5 x7 xs)) 6 ++ p11 (ldT a0 h0 x0 7) (ldT a1 h1 x1 7) (ldZ a6 h6 x6 7) (ldS ar hsr xs) 7 := by chain_rfl

theorem B_12 : (runB (F := F) c i a0 h0 a1 h1 a2 h2 a3 h3 a4 h4 a5 h5 a6 h6 a7 h7 a8 h8 a9 h9 a10 h10 a11 h11 a12 h12 a13 h13 ar hsr hc x0 x1 x2 x3 x4 x5 x6 x7 xs).2.2.2.2.1 = p12 (ldT a0 h0 x0 0) (ldT a1 h1 x1 0) (ldZ a6 h6 x6 0) (ldT a7 h7 x7 0) 0 ++ p12 (ldT a0 h0 x0 1) (ldT a1 h1 x1 1) (ldZ a6 h6 x6 1) (ldT a7 h7 x7 1) 1 ++ p12 (ldT a0 h0 x0 2) (ldT a1 h1 x1 2) (ldZ a6 h6 x6 2) (ldT a7 h7 x7 2) 2 ++ p12 (ldT a0 h0 x0 3) (ldT a1 h1 x1 3) (ldZ a6 h6 x6 3) (ldT a7 h7 x7 3) 3 ++ p12 (ldT a0 h0 x0 4) (ldT a1 h1 x1 4) (ldZ a6 h6 x6 4) (ldT a7 h7 x7 4) 4 ++ p12 (ldT a0 h0 x0 5) (ldT a1 h1 x1 5) (ldZ a6 h6 x6 5) (ldT a7 h7 x7 5) 5 ++ p12 (ldT a0 h0 x0 6) (ldT a1 h1 x1 6) (ldZ a6 h6 x6 6) (ldT a7 h7 x7 6) 6 ++ p12 (ldT a0 h0 x0 7) (ldT a1 h1 x1 7) (ldZ a6 h6 x6 7) (ldT a7 h7 x7 7) 7 := by chain_rfl

theorem B_13 : (runB (F := F) c i a0 h0 a1 h1 a2 h2 a3 h3 a4 h4 a5 h5 a6 h6 a7 h7 a8 h8 a9 h9 a10 h10 a11 h11 a12 h12 a13 h13 ar hsr hc x0 x1 x2 x3 x4 x5 x6 x7 xs).2.2.2.2.2.1 = p13 (ldZ a6 h6 x6 0) (ldL ar (runB.sl.HS_28 (F := F) c a1 h1 a2 h2 a3 h3 a4 h4 a5 h5 a7 h7 ar hsr x1 x2 x3 x4 x5 x7 xs)) 0 ++ p13 (ldZ a6 h6 x6 1) (ldL ar (runB.sl.HS_24 (F := F) c a1 h1 a2 h2 a3 h3 a4 h4 a5 h5 a7 h7 ar hsr x1 x2 x3 x4 x5 x7 xs)) 1 ++ p13 (ldZ a6 h6 x6 2) (ldL ar (runB.sl.HS_20 (F := F) c a1 h1 a2 h2 a3 h3 a4 h4 a5 h5 a7 h7 ar hsr x1 x2 x3 x4 x5 x7 xs)) 2 ++ p13 (ldZ a6 h6 x6 3) (ldL ar (runB.sl.HS_16 (F := F) c a1 h1 a2 h2 a3 h3 a4 h4 a5 h5 a7 h7 ar hsr x1 x2 x3 x4 x5 x7 xs)) 3 ++ p13 (ldZ a6 h6 x6 4) (ldL ar (runB.sl.HS_12 (F := F) c a1 h1 a2 h2 a3 h3 a4 h4 a5 h5 a7 h7 ar hsr x1 x2 x3 x4 x5 x7 xs)) 4 ++ p13 (ldZ a6 h6 x6 5) (ldL ar (runB.sl.HS_8 (F := F) c a1 h1 a2 h2 a3 h3 a4 h4 a5 h5 a7 h7 ar hsr x1 x2 x3 x4 x5 x7 xs)) 5 ++ p13 (ldZ a6 h6 x6 6) (ldL ar (runB.sl.HS_4 (F := F) c a1 h1 a2 h2 a3 h3 a4 h4 a5 h5 a7 h7 ar hsr x1 x2 x3 x4 x5 x7 xs)) 6 ++ p13 (ldZ a6 h6 x6 7) (ldS ar hsr xs) 7 := by chain_rfl

theorem B_S : (runB (F := F) c i a0 h0 a1 h1 a2 h2 a3 h3 a4 h4 a5 h5 a6 h6 a7 h7 a8 h8 a9 h9 a10 h10 a11 h11 a12 h12 a13 h13 ar hsr hc x0 x1 x2 x3 x4 x5 x6 x7 xs).2.2.2.2.2.2.1 = pS (ldT a1 h1 x1 0) (ldT a2 h2 x2 0) (ldT a3 h3 x3 0) (ldQ a4 h4 x4 0) (ldG a5 h5 x5 0) (ldT a7 h7 x7 0) (ldL ar (runB.sl.HS_28 (F := F) c a1 h1 a2 h2 a3 h3 a4 h4 a5 h5 a7 h7 ar hsr x1 x2 x3 x4 x5 x7 xs)) ++ (runB.sl.HS_28 (F := F) c a1 h1 a2 h2 a3 h3 a4 h4 a5 h5 a7 h7 ar hsr x1 x2 x3 x4 x5 x7 xs) := by chain_rfl

end Cert.Proof.Bwd

end
-- ==== Proof.BwdVal.lean ====
module

public import proofs.«01_k».proof.Proof.BwdPieces
public import proofs.«01_k».proof.Proof.Spec
public import Idealize.ShloMosaic.Lib.Pointwise
public import Idealize.ShloMosaic.Lib.WholeRead

@[expose] public section

set_option maxRecDepth 16384

noncomputable section

/-! The backward body's pieces at the extended reals: each is the chunk recurrence of Spec.lean on what the blocks hold. -/

namespace Cert.Proof.Bwd

open Cert.KernelIdeal Cert.KernelIdeal.Gen
open Idealize.ShloMosaic Idealize.ShloMosaic.TcCoe

theorem sq_val (s : Vec Ideal S1x128x128 .f32) (k v : Fin 128) : sq s (ix2 k v) = s (ix3 0 k v) := by pointwise [sq]
theorem sqk_val (q : Vec Ideal S1x64x64 .f32) (r c : Fin 64) : sqk q (ix2 r c) = q (ix3 0 r c) := by pointwise [sqk]
theorem uV_val (ub w : Vec Ideal S64x128 .f32) (S : FVec Ideal S128x128 .f32) (r : Fin 64) (v : Fin 128) :
    uV ub w S (ix2 r v) = ub (ix2 r v) - ∑ k : Fin 128, w (ix2 r k) * S (ix2 k v) := by pointwise [uV]
theorem duV_val (kd : Vec Ideal S64x128 .f32) (qk : FVec Ideal S64x64 .f32) (dO : Vec Ideal S64x128 .f32) (D : FVec Ideal S128x128 .f32)
    (r : Fin 64) (v : Fin 128) :
    duV kd qk dO D (ix2 r v) = (∑ k : Fin 128, kd (ix2 r k) * D (ix2 k v)) + ∑ c : Fin 64, qk (ix2 c r) * dO (ix2 c v) := by pointwise [duV]
theorem prevV_val (gl : Vec Ideal S1x128 .f32) (qd w dO : Vec Ideal S64x128 .f32) (D : FVec Ideal S128x128 .f32) (du : FVec Ideal S64x128 .f32)
    (z : Fin 1) (k v : Fin 128) :
    prevV gl qd w dO D du (ix3 z k v) = gl (ix2 0 v) * D (ix2 k v) + (∑ r : Fin 64, qd (ix2 r k) * dO (ix2 r v))
      - ∑ r : Fin 64, w (ix2 r k) * du (ix2 r v) := by pointwise [prevV]
theorem dglV_val (D S : FVec Ideal S128x128 .f32) (z : Fin 1) (l : Fin 128) :
    dglV D S (ix2 z l) = ∑ k : Fin 128, ∑ v : Fin 128, D (ix2 k v) * S (ix2 k v) := by pointwise [dglV]
theorem ntV_val (a : FVec Ideal S64x128 .f32) (M : FVec Ideal S128x128 .f32) (r : Fin 64) (k : Fin 128) :
    ntV a M (ix2 r k) = ∑ v : Fin 128, a (ix2 r v) * M (ix2 k v) := by pointwise [ntV]
theorem negV_val (a : FVec Ideal S64x128 .f32) (M : FVec Ideal S128x128 .f32) (r : Fin 64) (k : Fin 128) :
    negV a M (ix2 r k) = -∑ v : Fin 128, a (ix2 r v) * M (ix2 k v) := by
  pointwise [negV, ntV]; rw [sub_eq_add_neg, zero_add]
theorem dqkV_val (dO u : FVec Ideal S64x128 .f32) (z : Fin 1) (r c : Fin 64) :
    dqkV dO u (ix3 z r c) = ∑ v : Fin 128, dO (ix2 r v) * u (ix2 c v) := by pointwise [dqkV]

/-! ## The loads -/

/-- Row `r` of chunk `ci`, lane `l` of head `h` and row `k` of chunk `ci`'s state, within a block. -/
abbrev row (ci : Fin 8) (r : Fin 64) : Fin 512 := ⟨64 * ci.val + r.val, by omega⟩
abbrev lane (h : Fin 4) (l : Fin 128) : Fin 512 := ⟨128 * h.val + l.val, by omega⟩
abbrev srow (ci : Fin 8) (k : Fin 128) : Fin 1024 := ⟨128 * ci.val + k.val, by omega⟩

theorem rT_idx (ci : Fin 8) (h : Fin 4) (r : Fin 64) (l : Fin 128) : (rT ci h).toLoadRect.idx (ix2 r l) = ix2 (row ci r) (lane h l) := by
  funext a; apply Fin.ext
  match a with
  | ⟨0, _⟩ => exact congrArg (64 * ci.val + ·) (Nat.one_mul r.val)
  | ⟨1, _⟩ => exact congrArg (128 * h.val + ·) (Nat.one_mul l.val)
theorem rQ_idx (ci : Fin 8) (h : Fin 4) (z : Fin 1) (r c : Fin 64) : (rQ ci h).toLoadRect.idx (ix3 z r c) = ix3 h (row ci r) c := by
  funext a; apply Fin.ext
  match a with
  | ⟨0, _⟩ => show h.val + 1 * z.val = h.val; omega
  | ⟨1, _⟩ => exact congrArg (64 * ci.val + ·) (Nat.one_mul r.val)
  | ⟨2, _⟩ => show 0 + 1 * c.val = c.val; omega
theorem rG_idx (ci : Fin 8) (h : Fin 4) (z : Fin 1) (l : Fin 128) : (rG ci h).toLoadRect.idx (ix2 z l) = ix2 ci (lane h l) := by
  funext a; apply Fin.ext
  match a with
  | ⟨0, _⟩ => show ci.val + 1 * z.val = ci.val; omega
  | ⟨1, _⟩ => exact congrArg (128 * h.val + ·) (Nat.one_mul l.val)
theorem rZ_idx (ci : Fin 8) (h : Fin 4) (z : Fin 1) (k v : Fin 128) : (rZ ci h).toLoadRect.idx (ix3 z k v) = ix3 h (srow ci k) v := by
  funext a; apply Fin.ext
  match a with
  | ⟨0, _⟩ => show h.val + 1 * z.val = h.val; omega
  | ⟨1, _⟩ => exact congrArg (128 * ci.val + ·) (Nat.one_mul k.val)
  | ⟨2, _⟩ => show 0 + 1 * v.val = v.val; omega
theorem rS_idx (h : Fin 4) (z : Fin 1) (k v : Fin 128) : (rS h).toLoadRect.idx (ix3 z k v) = ix3 h k v := by
  funext a; apply Fin.ext
  match a with
  | ⟨0, _⟩ => show h.val + 1 * z.val = h.val; omega
  | ⟨1, _⟩ => show 0 + 1 * k.val = k.val; omega
  | ⟨2, _⟩ => show 0 + 1 * v.val = v.val; omega

theorem ldT_val (a : Memref sig .tc .vmem S512x512 .f32) (ha : a.IsWhole) (x : Vec Ideal S512x512 .f32) (ci : Fin 8) (h : Fin 4) (r : Fin 64) (l : Fin 128) :
    ldT a ha x ci h (ix2 r l) = x (ix2 (row ci r) (lane h l)) :=
  (ha.readAt_unread x _ _).trans (congrArg x (rT_idx ci h r l))
theorem ldQ_val (a : Memref sig .tc .vmem S4x512x64 .f32) (ha : a.IsWhole) (x : Vec Ideal S4x512x64 .f32) (ci : Fin 8) (h : Fin 4) (r c : Fin 64) :
    ldQ a ha x ci h (ix3 0 r c) = x (ix3 h (row ci r) c) :=
  (ha.readAt_unread x _ _).trans (congrArg x (rQ_idx ci h 0 r c))
theorem ldG_val (a : Memref sig .tc .vmem S8x512 .f32) (ha : a.IsWhole) (x : Vec Ideal S8x512 .f32) (ci : Fin 8) (h : Fin 4) (l : Fin 128) :
    ldG a ha x ci h (ix2 0 l) = x (ix2 ci (lane h l)) :=
  (ha.readAt_unread x _ _).trans (congrArg x (rG_idx ci h 0 l))
theorem ldS_val (a : Memref sig .tc .vmem S4x128x128 .f32) (ha : a.IsWhole) (x : Vec Ideal S4x128x128 .f32) (h : Fin 4) (k v : Fin 128) :
    ldS a ha x h (ix3 0 k v) = x (ix3 h k v) :=
  (ha.readAt_unread x _ _).trans (congrArg x (rS_idx h 0 k v))
theorem ldZ_val (a : Memref sig .tc .vmem S4x1024x128 .f32) (ha : a.IsWhole) (x : Vec Ideal S4x1024x128 .f32) (ci : Fin 8) (h : Fin 4) (k v : Fin 128) :
    ldZ a ha x ci h (ix3 0 k v) = x (ix3 h (srow ci k) v) :=
  (ha.readAt_unread x _ _).trans (congrArg x (rZ_idx ci h 0 k v))

/-! ## Every piece a chunk writes holds one function of its place -/

theorem p8_agree (t3 : Fin 4 → Vec Ideal S64x128 .f32) (t4 : Fin 4 → Vec Ideal S1x64x64 .f32) (t7 : Fin 4 → Vec Ideal S64x128 .f32) (ld : Fin 4 → Vec Ideal S1x128x128 .f32) (ci : Fin 8) (G : S512x512.Idx → EReal)
    (hG : ∀ (h : Fin 4) (r : Fin 64) (l : Fin 128), duV (t3 h) (sqk (t4 h)) (t7 h) (sq (ld h)) (ix2 r l) = G (ix2 (row ci r) (lane h l))) :
    ∀ p ∈ p8 t3 t4 t7 ld ci, ∀ x : p.1.shape.Idx, p.2 x = G (p.1.emb x) := by
  intro p hp
  obtain ⟨h, -, rfl⟩ := List.mem_map.mp hp
  intro x
  obtain ⟨r, l, rfl⟩ : ∃ (r : Fin 64) (l : Fin 128), x = ix2 r l := ⟨_, _, eq_ix2 x⟩
  exact (hG h r l).trans (congrArg G (rT_idx ci h r l).symm)

theorem p9_agree (t3 : Fin 4 → Vec Ideal S64x128 .f32) (t4 : Fin 4 → Vec Ideal S1x64x64 .f32) (t6 : Fin 4 → Vec Ideal S1x128x128 .f32) (t7 : Fin 4 → Vec Ideal S64x128 .f32) (ld : Fin 4 → Vec Ideal S1x128x128 .f32) (ci : Fin 8) (G : S512x512.Idx → EReal)
    (hG : ∀ (h : Fin 4) (r : Fin 64) (l : Fin 128), negV (duV (t3 h) (sqk (t4 h)) (t7 h) (sq (ld h))) (sq (t6 h)) (ix2 r l) = G (ix2 (row ci r) (lane h l))) :
    ∀ p ∈ p9 t3 t4 t6 t7 ld ci, ∀ x : p.1.shape.Idx, p.2 x = G (p.1.emb x) := by
  intro p hp
  obtain ⟨h, -, rfl⟩ := List.mem_map.mp hp
  intro x
  obtain ⟨r, l, rfl⟩ : ∃ (r : Fin 64) (l : Fin 128), x = ix2 r l := ⟨_, _, eq_ix2 x⟩
  exact (hG h r l).trans (congrArg G (rT_idx ci h r l).symm)

theorem p10_agree (t6 : Fin 4 → Vec Ideal S1x128x128 .f32) (t7 : Fin 4 → Vec Ideal S64x128 .f32)  (ci : Fin 8) (G : S512x512.Idx → EReal)
    (hG : ∀ (h : Fin 4) (r : Fin 64) (l : Fin 128), ntV (t7 h) (sq (t6 h)) (ix2 r l) = G (ix2 (row ci r) (lane h l))) :
    ∀ p ∈ p10 t6 t7 ci, ∀ x : p.1.shape.Idx, p.2 x = G (p.1.emb x) := by
  intro p hp
  obtain ⟨h, -, rfl⟩ := List.mem_map.mp hp
  intro x
  obtain ⟨r, l, rfl⟩ : ∃ (r : Fin 64) (l : Fin 128), x = ix2 r l := ⟨_, _, eq_ix2 x⟩
  exact (hG h r l).trans (congrArg G (rT_idx ci h r l).symm)

theorem p11_agree (t0 : Fin 4 → Vec Ideal S64x128 .f32) (t1 : Fin 4 → Vec Ideal S64x128 .f32) (t6 : Fin 4 → Vec Ideal S1x128x128 .f32) (ld : Fin 4 → Vec Ideal S1x128x128 .f32) (ci : Fin 8) (G : S512x512.Idx → EReal)
    (hG : ∀ (h : Fin 4) (r : Fin 64) (l : Fin 128), ntV (uV (t0 h) (t1 h) (sq (t6 h))) (sq (ld h)) (ix2 r l) = G (ix2 (row ci r) (lane h l))) :
    ∀ p ∈ p11 t0 t1 t6 ld ci, ∀ x : p.1.shape.Idx, p.2 x = G (p.1.emb x) := by
  intro p hp
  obtain ⟨h, -, rfl⟩ := List.mem_map.mp hp
  intro x
  obtain ⟨r, l, rfl⟩ : ∃ (r : Fin 64) (l : Fin 128), x = ix2 r l := ⟨_, _, eq_ix2 x⟩
  exact (hG h r l).trans (congrArg G (rT_idx ci h r l).symm)

theorem p12_agree (t0 : Fin 4 → Vec Ideal S64x128 .f32) (t1 : Fin 4 → Vec Ideal S64x128 .f32) (t6 : Fin 4 → Vec Ideal S1x128x128 .f32) (t7 : Fin 4 → Vec Ideal S64x128 .f32)  (ci : Fin 8) (G : S4x512x64.Idx → EReal)
    (hG : ∀ (h : Fin 4) (z : Fin 1) (r c : Fin 64), dqkV (t7 h) (uV (t0 h) (t1 h) (sq (t6 h))) (ix3 z r c) = G (ix3 h (row ci r) c)) :
    ∀ p ∈ p12 t0 t1 t6 t7 ci, ∀ x : p.1.shape.Idx, p.2 x = G (p.1.emb x) := by
  intro p hp
  obtain ⟨h, -, rfl⟩ := List.mem_map.mp hp
  intro x
  obtain ⟨z, r, c, rfl⟩ : ∃ (z : Fin 1) (r c : Fin 64), x = ix3 z r c := ⟨_, _, _, eq_ix3 x⟩
  exact (hG h z r c).trans (congrArg G (rQ_idx ci h z r c).symm)

theorem p13_agree (t6 : Fin 4 → Vec Ideal S1x128x128 .f32) (ld : Fin 4 → Vec Ideal S1x128x128 .f32) (ci : Fin 8) (G : S8x512.Idx → EReal)
    (hG : ∀ (h : Fin 4) (z : Fin 1) (l : Fin 128), dglV (sq (ld h)) (sq (t6 h)) (ix2 z l) = G (ix2 ci (lane h l))) :
    ∀ p ∈ p13 t6 ld ci, ∀ x : p.1.shape.Idx, p.2 x = G (p.1.emb x) := by
  intro p hp
  obtain ⟨h, -, rfl⟩ := List.mem_map.mp hp
  intro x
  obtain ⟨z, l, rfl⟩ : ∃ (z : Fin 1) (l : Fin 128), x = ix2 z l := ⟨_, _, eq_ix2 x⟩
  exact (hG h z l).trans (congrArg G (rG_idx ci h z l).symm)

theorem pS_agree (t1 : Fin 4 → Vec Ideal S64x128 .f32) (t2 : Fin 4 → Vec Ideal S64x128 .f32) (t3 : Fin 4 → Vec Ideal S64x128 .f32) (t4 : Fin 4 → Vec Ideal S1x64x64 .f32) (t5 : Fin 4 → Vec Ideal S1x128 .f32) (t7 : Fin 4 → Vec Ideal S64x128 .f32) (ld : Fin 4 → Vec Ideal S1x128x128 .f32) (G : S4x128x128.Idx → EReal)
    (hG : ∀ (h : Fin 4) (z : Fin 1) (k v : Fin 128), prevV (t5 h) (t2 h) (t1 h) (t7 h) (sq (ld h)) (duV (t3 h) (sqk (t4 h)) (t7 h) (sq (ld h))) (ix3 z k v) = G (ix3 h k v)) :
    ∀ p ∈ pS t1 t2 t3 t4 t5 t7 ld, ∀ x : p.1.shape.Idx, p.2 x = G (p.1.emb x) := by
  intro p hp
  obtain ⟨h, -, rfl⟩ := List.mem_map.mp hp
  intro x
  obtain ⟨z, k, v, rfl⟩ : ∃ (z : Fin 1) (k v : Fin 128), x = ix3 z k v := ⟨_, _, _, eq_ix3 x⟩
  exact (hG h z k v).trans (congrArg G (rS_idx h z k v).symm)

theorem mem_rS (h : Fin 4) (k v : Fin 128) : (ix3 h k v : S4x128x128.Idx) ∈ (rS h).set := by
  rw [← Rect.map_emb_univ]
  exact Finset.mem_map.mpr ⟨(ix3 0 k v : S1x128x128.Idx), Finset.mem_univ _, rS_idx h 0 k v⟩

theorem pS_cover (t1 : Fin 4 → Vec Ideal S64x128 .f32) (t2 : Fin 4 → Vec Ideal S64x128 .f32) (t3 : Fin 4 → Vec Ideal S64x128 .f32) (t4 : Fin 4 → Vec Ideal S1x64x64 .f32) (t5 : Fin 4 → Vec Ideal S1x128 .f32) (t7 : Fin 4 → Vec Ideal S64x128 .f32) (ld : Fin 4 → Vec Ideal S1x128x128 .f32) (h : Fin 4) (k v : Fin 128) :
    ∃ p ∈ pS t1 t2 t3 t4 t5 t7 ld, (ix3 h k v : S4x128x128.Idx) ∈ p.1.set :=
  ⟨_, List.mem_map.mpr ⟨h, by revert h; decide, rfl⟩, mem_rS h k v⟩

/-- The carried state after a chunk, whatever was written before. -/
theorem ldL_pS (a : Memref sig .tc .vmem S4x128x128 .f32) (t1 : Fin 4 → Vec Ideal S64x128 .f32) (t2 : Fin 4 → Vec Ideal S64x128 .f32) (t3 : Fin 4 → Vec Ideal S64x128 .f32) (t4 : Fin 4 → Vec Ideal S1x64x64 .f32) (t5 : Fin 4 → Vec Ideal S1x128 .f32) (t7 : Fin 4 → Vec Ideal S64x128 .f32) (ld : Fin 4 → Vec Ideal S1x128x128 .f32)
    (L : List (View.Piece (Elt Ideal) S4x128x128 .f32)) (G : Fin 4 → Mat)
    (hG : ∀ (h : Fin 4) (z : Fin 1) (k v : Fin 128), prevV (t5 h) (t2 h) (t1 h) (t7 h) (sq (ld h)) (duV (t3 h) (sqk (t4 h)) (t7 h) (sq (ld h))) (ix3 z k v) = G h k v) (h : Fin 4) (k v : Fin 128) :
    ldL a (pS t1 t2 t3 t4 t5 t7 ld ++ L) h (ix3 0 k v) = G h k v := by
  have e : ldL a (pS t1 t2 t3 t4 t5 t7 ld ++ L) h (ix3 0 k v)
      = a.view.read (Elt Ideal) (a.view.writes (Elt Ideal) a.view.junk (pS t1 t2 t3 t4 t5 t7 ld ++ L)) (ix3 h k v) :=
    congrArg (a.view.read (Elt Ideal) (a.view.writes (Elt Ideal) a.view.junk (pS t1 t2 t3 t4 t5 t7 ld ++ L))) (rS_idx h 0 k v)
  rw [e, View.writes_append]
  exact View.read_writes_apply_of_pieces a.view _ (fun y => G (y 0) (y 1) (y 2)) _ (pS_agree t1 t2 t3 t4 t5 t7 ld (fun y => G (y 0) (y 1) (y 2)) hG) _ (pS_cover t1 t2 t3 t4 t5 t7 ld h k v)

end Cert.Proof.Bwd

end
-- ==== Proof.BwdBlk.lean ====
module

public import proofs.«01_k».proof.Proof.BwdListA
public import proofs.«01_k».proof.Proof.BwdListB
public import proofs.«01_k».proof.Proof.BwdVal

@[expose] public section

set_option maxRecDepth 16384

noncomputable section

/-! The backward body on one grid point: what the blocks and the carried state hold afterwards, by the chunk recurrence. -/

namespace Cert.Proof.Bwd

open Cert.KernelIdeal Cert.KernelIdeal.Gen
open Idealize.ShloMosaic Idealize.ShloMosaic.TcCoe

/-- The blocks hold chunks `n0, …, n0 + 7` of each head's sequence `X h`. -/
structure Reads (X : Fin 4 → ℕ → Chunk) (n0 : ℕ) (x0 : Vec Ideal S512x512 .f32) (x1 : Vec Ideal S512x512 .f32) (x2 : Vec Ideal S512x512 .f32) (x3 : Vec Ideal S512x512 .f32) (x4 : Vec Ideal S4x512x64 .f32) (x5 : Vec Ideal S8x512 .f32) (x6 : Vec Ideal S4x1024x128 .f32) (x7 : Vec Ideal S512x512 .f32) : Prop where
  ub : ∀ (ci : Fin 8) (h : Fin 4) (r : Fin 64) (l : Fin 128), x0 (ix2 (row ci r) (lane h l)) = (X h (n0 + ci.val)).ub r l
  w : ∀ (ci : Fin 8) (h : Fin 4) (r : Fin 64) (l : Fin 128), x1 (ix2 (row ci r) (lane h l)) = (X h (n0 + ci.val)).w r l
  qd : ∀ (ci : Fin 8) (h : Fin 4) (r : Fin 64) (l : Fin 128), x2 (ix2 (row ci r) (lane h l)) = (X h (n0 + ci.val)).qd r l
  kd : ∀ (ci : Fin 8) (h : Fin 4) (r : Fin 64) (l : Fin 128), x3 (ix2 (row ci r) (lane h l)) = (X h (n0 + ci.val)).kd r l
  qk : ∀ (ci : Fin 8) (h : Fin 4) (r c : Fin 64), x4 (ix3 h (row ci r) c) = (X h (n0 + ci.val)).qk r c
  gl : ∀ (ci : Fin 8) (h : Fin 4) (l : Fin 128), x5 (ix2 ci (lane h l)) = (X h (n0 + ci.val)).gl l
  st : ∀ (ci : Fin 8) (h : Fin 4) (k v : Fin 128), x6 (ix3 h (srow ci k) v) = states (X h) (n0 + ci.val) k v
  dO : ∀ (ci : Fin 8) (h : Fin 4) (r : Fin 64) (l : Fin 128), x7 (ix2 (row ci r) (lane h l)) = (X h (n0 + ci.val)).dO r l

/-- The loads of the carried state hold the `n`-th of `cots`. -/
def Holds (X : Fin 4 → ℕ → Chunk) (ld : Fin 4 → Vec Ideal S1x128x128 .f32) (n : ℕ) : Prop :=
  ∀ (h : Fin 4) (k v : Fin 128), ld h (ix3 0 k v) = cots (X h) n k v

/-- The store that zeroes the carried state. -/
theorem zero_agree : ∀ p ∈ runA.sl.HS_1 (F := Ideal), ∀ x : p.1.shape.Idx, p.2 x = (fun _ => 0 : S4x128x128.Idx → EReal) (p.1.emb x) := by
  intro p hp x
  rw [runA.sl.HS_1, List.mem_singleton] at hp
  subst hp
  exact Ideal.ofBits_zero_f32
theorem zero_cover (y : S4x128x128.Idx) : ∃ p ∈ runA.sl.HS_1 (F := Ideal), y ∈ p.1.set := View.cover_of_wholeMem runA.sl.HS_1 (by sl_whole_mem) y

/-! A place of a block, back to chunk, row, head and lane. -/

def rowC (i : Fin 512) : Fin 8 := ⟨i.val / 64, by omega⟩
def rowR (i : Fin 512) : Fin 64 := ⟨i.val % 64, by omega⟩
def laneH (i : Fin 512) : Fin 4 := ⟨i.val / 128, by omega⟩
def laneL (i : Fin 512) : Fin 128 := ⟨i.val % 128, by omega⟩
def srowC (i : Fin 1024) : Fin 8 := ⟨i.val / 128, by omega⟩
def srowK (i : Fin 1024) : Fin 128 := ⟨i.val % 128, by omega⟩
theorem rowC_row (ci : Fin 8) (r : Fin 64) : rowC (row ci r) = ci := Fin.ext (by simp only [rowC, row]; omega)
theorem rowR_row (ci : Fin 8) (r : Fin 64) : rowR (row ci r) = r := Fin.ext (by simp only [rowR, row]; omega)
theorem laneH_lane (h : Fin 4) (l : Fin 128) : laneH (lane h l) = h := Fin.ext (by simp only [laneH, lane]; omega)
theorem laneL_lane (h : Fin 4) (l : Fin 128) : laneL (lane h l) = l := Fin.ext (by simp only [laneL, lane]; omega)
theorem srowC_srow (ci : Fin 8) (k : Fin 128) : srowC (srow ci k) = ci := Fin.ext (by simp only [srowC, srow]; omega)
theorem srowK_srow (ci : Fin 8) (k : Fin 128) : srowK (srow ci k) = k := Fin.ext (by simp only [srowK, srow]; omega)

section

variable (X : Fin 4 → ℕ → Chunk) (n0 : ℕ) (c : Dev nD) (a0 : Memref sig .tc .vmem S512x512 .f32) (h0 : a0.IsWhole) (a1 : Memref sig .tc .vmem S512x512 .f32) (h1 : a1.IsWhole) (a2 : Memref sig .tc .vmem S512x512 .f32) (h2 : a2.IsWhole) (a3 : Memref sig .tc .vmem S512x512 .f32) (h3 : a3.IsWhole) (a4 : Memref sig .tc .vmem S4x512x64 .f32) (h4 : a4.IsWhole) (a5 : Memref sig .tc .vmem S8x512 .f32) (h5 : a5.IsWhole) (a6 : Memref sig .tc .vmem S4x1024x128 .f32) (h6 : a6.IsWhole) (a7 : Memref sig .tc .vmem S512x512 .f32) (h7 : a7.IsWhole) (ar : Memref sig .tc .vmem S4x128x128 .f32) (hsr : ar.IsWhole) (x0 : Vec Ideal S512x512 .f32) (x1 : Vec Ideal S512x512 .f32) (x2 : Vec Ideal S512x512 .f32) (x3 : Vec Ideal S512x512 .f32) (x4 : Vec Ideal S4x512x64 .f32) (x5 : Vec Ideal S8x512 .f32) (x6 : Vec Ideal S4x1024x128 .f32) (x7 : Vec Ideal S512x512 .f32)
variable {X n0 a0 h0 a1 h1 a2 h2 a3 h3 a4 h4 a5 h5 a6 h6 a7 h7 ar x0 x1 x2 x3 x4 x5 x6 x7} (R : Reads X n0 x0 x1 x2 x3 x4 x5 x6 x7) (ci : Fin 8) {ld : Fin 4 → Vec Ideal S1x128x128 .f32}
include R

theorem u_eq (h : Fin 4) (r : Fin 64) (v : Fin 128) : uV (ldT a0 h0 x0 ci h) (ldT a1 h1 x1 ci h) (sq (ldZ a6 h6 x6 ci h)) (ix2 r v) = (X h (n0 + ci.val)).u (states (X h) (n0 + ci.val)) r v := by
  simp only [uV_val, ldT_val, ldQ_val, ldG_val, ldZ_val, sq_val, sqk_val, R.ub, R.w, R.st]; rfl
theorem dqd_eq (h : Fin 4) (r : Fin 64) (k : Fin 128) : ntV (ldT a7 h7 x7 ci h) (sq (ldZ a6 h6 x6 ci h)) (ix2 r k) = (X h (n0 + ci.val)).dqd (states (X h) (n0 + ci.val)) r k := by
  simp only [ntV_val, ldT_val, ldQ_val, ldG_val, ldZ_val, sq_val, sqk_val, R.dO, R.st]; rfl
theorem dqk_eq (h : Fin 4) (z : Fin 1) (r c : Fin 64) : dqkV (ldT a7 h7 x7 ci h) (uV (ldT a0 h0 x0 ci h) (ldT a1 h1 x1 ci h) (sq (ldZ a6 h6 x6 ci h))) (ix3 z r c) = (X h (n0 + ci.val)).dqk (states (X h) (n0 + ci.val)) r c := by
  simp only [dqkV_val, u_eq R ci, ldT_val, ldQ_val, ldG_val, ldZ_val, sq_val, sqk_val, R.dO]; rfl

variable (hld : Holds X ld (255 - (n0 + ci.val)))
include hld

theorem du_eq (h : Fin 4) (r : Fin 64) (v : Fin 128) : duV (ldT a3 h3 x3 ci h) (sqk (ldQ a4 h4 x4 ci h)) (ldT a7 h7 x7 ci h) (sq (ld h)) (ix2 r v) = (X h (n0 + ci.val)).du (cots (X h) (255 - (n0 + ci.val))) r v := by
  simp only [duV_val, ldT_val, ldQ_val, ldG_val, ldZ_val, sq_val, sqk_val, R.kd, R.qk, R.dO, hld h _ _]; rfl
theorem dw_eq (h : Fin 4) (r : Fin 64) (k : Fin 128) : negV (duV (ldT a3 h3 x3 ci h) (sqk (ldQ a4 h4 x4 ci h)) (ldT a7 h7 x7 ci h) (sq (ld h))) (sq (ldZ a6 h6 x6 ci h)) (ix2 r k) = (X h (n0 + ci.val)).dw (states (X h) (n0 + ci.val)) (cots (X h) (255 - (n0 + ci.val))) r k := by
  simp only [negV_val, du_eq R ci hld, ldT_val, ldQ_val, ldG_val, ldZ_val, sq_val, sqk_val, R.st]; rfl
theorem dkd_eq (h : Fin 4) (r : Fin 64) (k : Fin 128) : ntV (uV (ldT a0 h0 x0 ci h) (ldT a1 h1 x1 ci h) (sq (ldZ a6 h6 x6 ci h))) (sq (ld h)) (ix2 r k) = (X h (n0 + ci.val)).dkd (states (X h) (n0 + ci.val)) (cots (X h) (255 - (n0 + ci.val))) r k := by
  simp only [ntV_val, u_eq R ci, sq_val, hld h _ _]; rfl
theorem dgl_eq (h : Fin 4) (z : Fin 1) (l : Fin 128) : dglV (sq (ld h)) (sq (ldZ a6 h6 x6 ci h)) (ix2 z l) = Chunk.dgl (states (X h) (n0 + ci.val)) (cots (X h) (255 - (n0 + ci.val))) := by
  simp only [dglV_val, ldT_val, ldQ_val, ldG_val, ldZ_val, sq_val, sqk_val, R.st, hld h _ _]; rfl
theorem prev_eq (hn : n0 + ci.val ≤ 255) (h : Fin 4) (z : Fin 1) (k v : Fin 128) :
    prevV (ldG a5 h5 x5 ci h) (ldT a2 h2 x2 ci h) (ldT a1 h1 x1 ci h) (ldT a7 h7 x7 ci h) (sq (ld h)) (duV (ldT a3 h3 x3 ci h) (sqk (ldQ a4 h4 x4 ci h)) (ldT a7 h7 x7 ci h) (sq (ld h))) (ix3 z k v) = cots (X h) (255 - (n0 + ci.val) + 1) k v := by
  simp only [prevV_val, du_eq R ci hld, ldT_val, ldQ_val, ldG_val, ldZ_val, sq_val, sqk_val, R.w, R.gl, R.qd, R.dO, hld h _ _, cots]
  rw [show 255 - (255 - (n0 + ci.val)) = (n0 + ci.val) by omega]; rfl
theorem holds_prev (L : List (View.Piece (Elt Ideal) S4x128x128 .f32)) (hn : n0 + ci.val ≤ 255) (m : ℕ) (hm : m = 255 - (n0 + ci.val) + 1) :
    Holds X (ldL ar (pS (ldT a1 h1 x1 ci) (ldT a2 h2 x2 ci) (ldT a3 h3 x3 ci) (ldQ a4 h4 x4 ci) (ldG a5 h5 x5 ci) (ldT a7 h7 x7 ci) ld ++ L)) m := by
  subst hm
  exact ldL_pS _ _ _ _ _ _ _ ld L _ (prev_eq R ci hld hn)

end

/-- The function of its place that output 0 holds. -/
def g8 (X : Fin 4 → ℕ → Chunk) (n0 : ℕ) (i : Fin 512) (j : Fin 512) : EReal := let ci := rowC i; let h := laneH j; ((X h (n0 + ci.val)).du (cots (X h) (255 - (n0 + ci.val)))) (rowR i) (laneL j)
abbrev G8 (X : Fin 4 → ℕ → Chunk) (n0 : ℕ) (y : S512x512.Idx) : EReal := g8 X n0 (y 0) (y 1)
theorem g8_at (X : Fin 4 → ℕ → Chunk) (n0 : ℕ) (ci : Fin 8) (h : Fin 4) (r : Fin 64) (l : Fin 128) : g8 X n0 (row ci r) (lane h l) = (X h (n0 + ci.val)).du (cots (X h) (255 - (n0 + ci.val))) r l := by
  simp only [g8, rowC_row, rowR_row, laneH_lane, laneL_lane]

/-- The function of its place that output 1 holds. -/
def g9 (X : Fin 4 → ℕ → Chunk) (n0 : ℕ) (i : Fin 512) (j : Fin 512) : EReal := let ci := rowC i; let h := laneH j; ((X h (n0 + ci.val)).dw (states (X h) (n0 + ci.val)) (cots (X h) (255 - (n0 + ci.val)))) (rowR i) (laneL j)
abbrev G9 (X : Fin 4 → ℕ → Chunk) (n0 : ℕ) (y : S512x512.Idx) : EReal := g9 X n0 (y 0) (y 1)
theorem g9_at (X : Fin 4 → ℕ → Chunk) (n0 : ℕ) (ci : Fin 8) (h : Fin 4) (r : Fin 64) (l : Fin 128) : g9 X n0 (row ci r) (lane h l) = (X h (n0 + ci.val)).dw (states (X h) (n0 + ci.val)) (cots (X h) (255 - (n0 + ci.val))) r l := by
  simp only [g9, rowC_row, rowR_row, laneH_lane, laneL_lane]

/-- The function of its place that output 2 holds. -/
def g10 (X : Fin 4 → ℕ → Chunk) (n0 : ℕ) (i : Fin 512) (j : Fin 512) : EReal := let ci := rowC i; let h := laneH j; ((X h (n0 + ci.val)).dqd (states (X h) (n0 + ci.val))) (rowR i) (laneL j)
abbrev G10 (X : Fin 4 → ℕ → Chunk) (n0 : ℕ) (y : S512x512.Idx) : EReal := g10 X n0 (y 0) (y 1)
theorem g10_at (X : Fin 4 → ℕ → Chunk) (n0 : ℕ) (ci : Fin 8) (h : Fin 4) (r : Fin 64) (l : Fin 128) : g10 X n0 (row ci r) (lane h l) = (X h (n0 + ci.val)).dqd (states (X h) (n0 + ci.val)) r l := by
  simp only [g10, rowC_row, rowR_row, laneH_lane, laneL_lane]

/-- The function of its place that output 3 holds. -/
def g11 (X : Fin 4 → ℕ → Chunk) (n0 : ℕ) (i : Fin 512) (j : Fin 512) : EReal := let ci := rowC i; let h := laneH j; ((X h (n0 + ci.val)).dkd (states (X h) (n0 + ci.val)) (cots (X h) (255 - (n0 + ci.val)))) (rowR i) (laneL j)
abbrev G11 (X : Fin 4 → ℕ → Chunk) (n0 : ℕ) (y : S512x512.Idx) : EReal := g11 X n0 (y 0) (y 1)
theorem g11_at (X : Fin 4 → ℕ → Chunk) (n0 : ℕ) (ci : Fin 8) (h : Fin 4) (r : Fin 64) (l : Fin 128) : g11 X n0 (row ci r) (lane h l) = (X h (n0 + ci.val)).dkd (states (X h) (n0 + ci.val)) (cots (X h) (255 - (n0 + ci.val))) r l := by
  simp only [g11, rowC_row, rowR_row, laneH_lane, laneL_lane]

/-- The function of its place that output 4 holds. -/
def g12 (X : Fin 4 → ℕ → Chunk) (n0 : ℕ) (h : Fin 4) (i : Fin 512) (s : Fin 64) : EReal := let ci := rowC i; ((X h (n0 + ci.val)).dqk (states (X h) (n0 + ci.val))) (rowR i) s
abbrev G12 (X : Fin 4 → ℕ → Chunk) (n0 : ℕ) (y : S4x512x64.Idx) : EReal := g12 X n0 (y 0) (y 1) (y 2)
theorem g12_at (X : Fin 4 → ℕ → Chunk) (n0 : ℕ) (ci : Fin 8) (h : Fin 4) (r s : Fin 64) : g12 X n0 h (row ci r) s = (X h (n0 + ci.val)).dqk (states (X h) (n0 + ci.val)) r s := by
  simp only [g12, rowC_row, rowR_row]

/-- The function of its place that output 5 holds. -/
def g13 (X : Fin 4 → ℕ → Chunk) (n0 : ℕ) (ci : Fin 8) (j : Fin 512) : EReal := let h := laneH j; (Chunk.dgl (states (X h) (n0 + ci.val)) (cots (X h) (255 - (n0 + ci.val))))
abbrev G13 (X : Fin 4 → ℕ → Chunk) (n0 : ℕ) (y : S8x512.Idx) : EReal := g13 X n0 (y 0) (y 1)
theorem g13_at (X : Fin 4 → ℕ → Chunk) (n0 : ℕ) (ci : Fin 8) (h : Fin 4) (l : Fin 128) : g13 X n0 ci (lane h l) = Chunk.dgl (states (X h) (n0 + ci.val)) (cots (X h) (255 - (n0 + ci.val)))  := by
  simp only [g13, laneH_lane]

section

variable {X : Fin 4 → ℕ → Chunk} {n0 : ℕ} (c : Dev nD) (a0 : Memref sig .tc .vmem S512x512 .f32) (h0 : a0.IsWhole) (a1 : Memref sig .tc .vmem S512x512 .f32) (h1 : a1.IsWhole) (a2 : Memref sig .tc .vmem S512x512 .f32) (h2 : a2.IsWhole) (a3 : Memref sig .tc .vmem S512x512 .f32) (h3 : a3.IsWhole) (a4 : Memref sig .tc .vmem S4x512x64 .f32) (h4 : a4.IsWhole) (a5 : Memref sig .tc .vmem S8x512 .f32) (h5 : a5.IsWhole) (a6 : Memref sig .tc .vmem S4x1024x128 .f32) (h6 : a6.IsWhole) (a7 : Memref sig .tc .vmem S512x512 .f32) (h7 : a7.IsWhole) (ar : Memref sig .tc .vmem S4x128x128 .f32) (hsr : ar.IsWhole) {x0 : Vec Ideal S512x512 .f32} {x1 : Vec Ideal S512x512 .f32} {x2 : Vec Ideal S512x512 .f32} {x3 : Vec Ideal S512x512 .f32} {x4 : Vec Ideal S4x512x64 .f32} {x5 : Vec Ideal S8x512 .f32} {x6 : Vec Ideal S4x1024x128 .f32} {x7 : Vec Ideal S512x512 .f32} {xs : Vec Ideal S4x128x128 .f32}
  (R : Reads X n0 x0 x1 x2 x3 x4 x5 x6 x7) (hxs : ∀ (h : Fin 4) (k v : Fin 128), xs (ix3 h k v) = cots (X h) (255 - (n0 + 7)) k v) (hn : n0 + 7 ≤ 255)

include R hxs hn

/-- The carried state as each of the eight chunks finds it. -/
theorem B_holds :
    Holds X (ldS ar hsr xs) (255 - (n0 + 7))
    ∧ Holds X (ldL ar (runB.sl.HS_4 (F := Ideal) c a1 h1 a2 h2 a3 h3 a4 h4 a5 h5 a7 h7 ar hsr x1 x2 x3 x4 x5 x7 xs)) (255 - (n0 + 6))
    ∧ Holds X (ldL ar (runB.sl.HS_8 (F := Ideal) c a1 h1 a2 h2 a3 h3 a4 h4 a5 h5 a7 h7 ar hsr x1 x2 x3 x4 x5 x7 xs)) (255 - (n0 + 5))
    ∧ Holds X (ldL ar (runB.sl.HS_12 (F := Ideal) c a1 h1 a2 h2 a3 h3 a4 h4 a5 h5 a7 h7 ar hsr x1 x2 x3 x4 x5 x7 xs)) (255 - (n0 + 4))
    ∧ Holds X (ldL ar (runB.sl.HS_16 (F := Ideal) c a1 h1 a2 h2 a3 h3 a4 h4 a5 h5 a7 h7 ar hsr x1 x2 x3 x4 x5 x7 xs)) (255 - (n0 + 3))
    ∧ Holds X (ldL ar (runB.sl.HS_20 (F := Ideal) c a1 h1 a2 h2 a3 h3 a4 h4 a5 h5 a7 h7 ar hsr x1 x2 x3 x4 x5 x7 xs)) (255 - (n0 + 2))
    ∧ Holds X (ldL ar (runB.sl.HS_24 (F := Ideal) c a1 h1 a2 h2 a3 h3 a4 h4 a5 h5 a7 h7 ar hsr x1 x2 x3 x4 x5 x7 xs)) (255 - (n0 + 1))
    ∧ Holds X (ldL ar (runB.sl.HS_28 (F := Ideal) c a1 h1 a2 h2 a3 h3 a4 h4 a5 h5 a7 h7 ar hsr x1 x2 x3 x4 x5 x7 xs)) (255 - (n0 + 0)) := by
  have H0 : Holds X (ldS ar hsr xs) (255 - (n0 + 7)) := fun h k v => (ldS_val ar hsr xs h k v).trans (hxs h k v)
  have H1 : Holds X (ldL ar (runB.sl.HS_4 (F := Ideal) c a1 h1 a2 h2 a3 h3 a4 h4 a5 h5 a7 h7 ar hsr x1 x2 x3 x4 x5 x7 xs)) (255 - (n0 + 6)) := by
    rw [B_S0]
    exact holds_prev (R := R) (ci := 7) (hld := H0) (L := _) (hn := by show n0 + 7 ≤ 255; omega) (m := 255 - (n0 + 6)) (hm := by show 255 - (n0 + 6) = _ + 1; show _ = 255 - (n0 + 7) + 1; omega)
  have H2 : Holds X (ldL ar (runB.sl.HS_8 (F := Ideal) c a1 h1 a2 h2 a3 h3 a4 h4 a5 h5 a7 h7 ar hsr x1 x2 x3 x4 x5 x7 xs)) (255 - (n0 + 5)) := by
    rw [B_S1]
    exact holds_prev (R := R) (ci := 6) (hld := H1) (L := _) (hn := by show n0 + 6 ≤ 255; omega) (m := 255 - (n0 + 5)) (hm := by show 255 - (n0 + 5) = _ + 1; show _ = 255 - (n0 + 6) + 1; omega)
  have H3 : Holds X (ldL ar (runB.sl.HS_12 (F := Ideal) c a1 h1 a2 h2 a3 h3 a4 h4 a5 h5 a7 h7 ar hsr x1 x2 x3 x4 x5 x7 xs)) (255 - (n0 + 4)) := by
    rw [B_S2]
    exact holds_prev (R := R) (ci := 5) (hld := H2) (L := _) (hn := by show n0 + 5 ≤ 255; omega) (m := 255 - (n0 + 4)) (hm := by show 255 - (n0 + 4) = _ + 1; show _ = 255 - (n0 + 5) + 1; omega)
  have H4 : Holds X (ldL ar (runB.sl.HS_16 (F := Ideal) c a1 h1 a2 h2 a3 h3 a4 h4 a5 h5 a7 h7 ar hsr x1 x2 x3 x4 x5 x7 xs)) (255 - (n0 + 3)) := by
    rw [B_S3]
    exact holds_prev (R := R) (ci := 4) (hld := H3) (L := _) (hn := by show n0 + 4 ≤ 255; omega) (m := 255 - (n0 + 3)) (hm := by show 255 - (n0 + 3) = _ + 1; show _ = 255 - (n0 + 4) + 1; omega)
  have H5 : Holds X (ldL ar (runB.sl.HS_20 (F := Ideal) c a1 h1 a2 h2 a3 h3 a4 h4 a5 h5 a7 h7 ar hsr x1 x2 x3 x4 x5 x7 xs)) (255 - (n0 + 2)) := by
    rw [B_S4]
    exact holds_prev (R := R) (ci := 3) (hld := H4) (L := _) (hn := by show n0 + 3 ≤ 255; omega) (m := 255 - (n0 + 2)) (hm := by show 255 - (n0 + 2) = _ + 1; show _ = 255 - (n0 + 3) + 1; omega)
  have H6 : Holds X (ldL ar (runB.sl.HS_24 (F := Ideal) c a1 h1 a2 h2 a3 h3 a4 h4 a5 h5 a7 h7 ar hsr x1 x2 x3 x4 x5 x7 xs)) (255 - (n0 + 1)) := by
    rw [B_S5]
    exact holds_prev (R := R) (ci := 2) (hld := H5) (L := _) (hn := by show n0 + 2 ≤ 255; omega) (m := 255 - (n0 + 1)) (hm := by show 255 - (n0 + 1) = _ + 1; show _ = 255 - (n0 + 2) + 1; omega)
  have H7 : Holds X (ldL ar (runB.sl.HS_28 (F := Ideal) c a1 h1 a2 h2 a3 h3 a4 h4 a5 h5 a7 h7 ar hsr x1 x2 x3 x4 x5 x7 xs)) (255 - (n0 + 0)) := by
    rw [B_S6]
    exact holds_prev (R := R) (ci := 1) (hld := H6) (L := _) (hn := by show n0 + 1 ≤ 255; omega) (m := 255 - (n0 + 0)) (hm := by show 255 - (n0 + 0) = _ + 1; show _ = 255 - (n0 + 1) + 1; omega)
  exact ⟨H0, H1, H2, H3, H4, H5, H6, H7⟩

variable (i : grid1.Coords) (a8 : Memref sig .tc .vmem S512x512 .f32) (h8 : a8.IsWhole) (a9 : Memref sig .tc .vmem S512x512 .f32) (h9 : a9.IsWhole) (a10 : Memref sig .tc .vmem S512x512 .f32) (h10 : a10.IsWhole) (a11 : Memref sig .tc .vmem S512x512 .f32) (h11 : a11.IsWhole) (a12 : Memref sig .tc .vmem S4x512x64 .f32) (h12 : a12.IsWhole) (a13 : Memref sig .tc .vmem S8x512 .f32) (h13 : a13.IsWhole) (hc : ¬cond i)

variable {c i a0 h0 a1 h1 a2 h2 a3 h3 a4 h4 a5 h5 a6 h6 a7 h7 a8 h8 a9 h9 a10 h10 a11 h11 a12 h12 a13 h13 ar hsr hc}

theorem B_out8 {L : _} (hL : L = (runB (F := Ideal) c i a0 h0 a1 h1 a2 h2 a3 h3 a4 h4 a5 h5 a6 h6 a7 h7 a8 h8 a9 h9 a10 h10 a11 h11 a12 h12 a13 h13 ar hsr hc x0 x1 x2 x3 x4 x5 x6 x7 xs).1) (hcov : ∀ y, ∃ pc ∈ L, y ∈ pc.1.set) {κ : Kind} {sp : Space} (V : View sig κ sp S512x512 .f32) (f : V.ty.Contents (Elt Ideal))
    (ci : Fin 8) (h : Fin 4) (r : Fin 64) (l : Fin 128) :
    V.read (Elt Ideal) (V.writes (Elt Ideal) f L) (ix2 (row ci r) (lane h l)) = (X h (n0 + ci.val)).du (cots (X h) (255 - (n0 + ci.val))) r l := by
  obtain ⟨H0, H1, H2, H3, H4, H5, H6, H7⟩ := B_holds (c := c) (a1 := a1) (h1 := h1) (a2 := a2) (h2 := h2) (a3 := a3) (h3 := h3) (a4 := a4) (h4 := h4) (a5 := a5) (h5 := h5) (a7 := a7) (h7 := h7) (ar := ar) (hsr := hsr) (R := R) (hxs := hxs) (hn := hn)
  have hG : ∀ p ∈ L, ∀ x : p.1.shape.Idx, p.2 x = (G8 X n0) (p.1.emb x) := by
    rw [hL, B_8]
    simp only [List.forall_mem_append]
    exact ⟨⟨⟨⟨⟨⟨⟨(p8_agree (ci := 0) (G := (G8 X n0)) (hG := fun h r l => (du_eq (R := R) (ci := 0) (hld := H7) h r l).trans (g8_at X n0 0 h r l).symm)),
      p8_agree (ci := 1) (G := (G8 X n0)) (hG := fun h r l => (du_eq (R := R) (ci := 1) (hld := H6) h r l).trans (g8_at X n0 1 h r l).symm)⟩,
      p8_agree (ci := 2) (G := (G8 X n0)) (hG := fun h r l => (du_eq (R := R) (ci := 2) (hld := H5) h r l).trans (g8_at X n0 2 h r l).symm)⟩,
      p8_agree (ci := 3) (G := (G8 X n0)) (hG := fun h r l => (du_eq (R := R) (ci := 3) (hld := H4) h r l).trans (g8_at X n0 3 h r l).symm)⟩,
      p8_agree (ci := 4) (G := (G8 X n0)) (hG := fun h r l => (du_eq (R := R) (ci := 4) (hld := H3) h r l).trans (g8_at X n0 4 h r l).symm)⟩,
      p8_agree (ci := 5) (G := (G8 X n0)) (hG := fun h r l => (du_eq (R := R) (ci := 5) (hld := H2) h r l).trans (g8_at X n0 5 h r l).symm)⟩,
      p8_agree (ci := 6) (G := (G8 X n0)) (hG := fun h r l => (du_eq (R := R) (ci := 6) (hld := H1) h r l).trans (g8_at X n0 6 h r l).symm)⟩,
      p8_agree (ci := 7) (G := (G8 X n0)) (hG := fun h r l => (du_eq (R := R) (ci := 7) (hld := H0) h r l).trans (g8_at X n0 7 h r l).symm)⟩
  exact (View.read_writes_apply_of_pieces V f (G8 X n0) _ hG _ (hcov _)).trans (g8_at X n0 ci h r l)

theorem B_out9 {L : _} (hL : L = (runB (F := Ideal) c i a0 h0 a1 h1 a2 h2 a3 h3 a4 h4 a5 h5 a6 h6 a7 h7 a8 h8 a9 h9 a10 h10 a11 h11 a12 h12 a13 h13 ar hsr hc x0 x1 x2 x3 x4 x5 x6 x7 xs).2.1) (hcov : ∀ y, ∃ pc ∈ L, y ∈ pc.1.set) {κ : Kind} {sp : Space} (V : View sig κ sp S512x512 .f32) (f : V.ty.Contents (Elt Ideal))
    (ci : Fin 8) (h : Fin 4) (r : Fin 64) (l : Fin 128) :
    V.read (Elt Ideal) (V.writes (Elt Ideal) f L) (ix2 (row ci r) (lane h l)) = (X h (n0 + ci.val)).dw (states (X h) (n0 + ci.val)) (cots (X h) (255 - (n0 + ci.val))) r l := by
  obtain ⟨H0, H1, H2, H3, H4, H5, H6, H7⟩ := B_holds (c := c) (a1 := a1) (h1 := h1) (a2 := a2) (h2 := h2) (a3 := a3) (h3 := h3) (a4 := a4) (h4 := h4) (a5 := a5) (h5 := h5) (a7 := a7) (h7 := h7) (ar := ar) (hsr := hsr) (R := R) (hxs := hxs) (hn := hn)
  have hG : ∀ p ∈ L, ∀ x : p.1.shape.Idx, p.2 x = (G9 X n0) (p.1.emb x) := by
    rw [hL, B_9]
    simp only [List.forall_mem_append]
    exact ⟨⟨⟨⟨⟨⟨⟨(p9_agree (ci := 0) (G := (G9 X n0)) (hG := fun h r l => (dw_eq (R := R) (ci := 0) (hld := H7) h r l).trans (g9_at X n0 0 h r l).symm)),
      p9_agree (ci := 1) (G := (G9 X n0)) (hG := fun h r l => (dw_eq (R := R) (ci := 1) (hld := H6) h r l).trans (g9_at X n0 1 h r l).symm)⟩,
      p9_agree (ci := 2) (G := (G9 X n0)) (hG := fun h r l => (dw_eq (R := R) (ci := 2) (hld := H5) h r l).trans (g9_at X n0 2 h r l).symm)⟩,
      p9_agree (ci := 3) (G := (G9 X n0)) (hG := fun h r l => (dw_eq (R := R) (ci := 3) (hld := H4) h r l).trans (g9_at X n0 3 h r l).symm)⟩,
      p9_agree (ci := 4) (G := (G9 X n0)) (hG := fun h r l => (dw_eq (R := R) (ci := 4) (hld := H3) h r l).trans (g9_at X n0 4 h r l).symm)⟩,
      p9_agree (ci := 5) (G := (G9 X n0)) (hG := fun h r l => (dw_eq (R := R) (ci := 5) (hld := H2) h r l).trans (g9_at X n0 5 h r l).symm)⟩,
      p9_agree (ci := 6) (G := (G9 X n0)) (hG := fun h r l => (dw_eq (R := R) (ci := 6) (hld := H1) h r l).trans (g9_at X n0 6 h r l).symm)⟩,
      p9_agree (ci := 7) (G := (G9 X n0)) (hG := fun h r l => (dw_eq (R := R) (ci := 7) (hld := H0) h r l).trans (g9_at X n0 7 h r l).symm)⟩
  exact (View.read_writes_apply_of_pieces V f (G9 X n0) _ hG _ (hcov _)).trans (g9_at X n0 ci h r l)

theorem B_out10 {L : _} (hL : L = (runB (F := Ideal) c i a0 h0 a1 h1 a2 h2 a3 h3 a4 h4 a5 h5 a6 h6 a7 h7 a8 h8 a9 h9 a10 h10 a11 h11 a12 h12 a13 h13 ar hsr hc x0 x1 x2 x3 x4 x5 x6 x7 xs).2.2.1) (hcov : ∀ y, ∃ pc ∈ L, y ∈ pc.1.set) {κ : Kind} {sp : Space} (V : View sig κ sp S512x512 .f32) (f : V.ty.Contents (Elt Ideal))
    (ci : Fin 8) (h : Fin 4) (r : Fin 64) (l : Fin 128) :
    V.read (Elt Ideal) (V.writes (Elt Ideal) f L) (ix2 (row ci r) (lane h l)) = (X h (n0 + ci.val)).dqd (states (X h) (n0 + ci.val)) r l := by
  have hG : ∀ p ∈ L, ∀ x : p.1.shape.Idx, p.2 x = (G10 X n0) (p.1.emb x) := by
    rw [hL, B_10]
    simp only [List.forall_mem_append]
    exact ⟨⟨⟨⟨⟨⟨⟨(p10_agree (ci := 0) (G := (G10 X n0)) (hG := fun h r l => (dqd_eq (R := R) (ci := 0) h r l).trans (g10_at X n0 0 h r l).symm)),
      p10_agree (ci := 1) (G := (G10 X n0)) (hG := fun h r l => (dqd_eq (R := R) (ci := 1) h r l).trans (g10_at X n0 1 h r l).symm)⟩,
      p10_agree (ci := 2) (G := (G10 X n0)) (hG := fun h r l => (dqd_eq (R := R) (ci := 2) h r l).trans (g10_at X n0 2 h r l).symm)⟩,
      p10_agree (ci := 3) (G := (G10 X n0)) (hG := fun h r l => (dqd_eq (R := R) (ci := 3) h r l).trans (g10_at X n0 3 h r l).symm)⟩,
      p10_agree (ci := 4) (G := (G10 X n0)) (hG := fun h r l => (dqd_eq (R := R) (ci := 4) h r l).trans (g10_at X n0 4 h r l).symm)⟩,
      p10_agree (ci := 5) (G := (G10 X n0)) (hG := fun h r l => (dqd_eq (R := R) (ci := 5) h r l).trans (g10_at X n0 5 h r l).symm)⟩,
      p10_agree (ci := 6) (G := (G10 X n0)) (hG := fun h r l => (dqd_eq (R := R) (ci := 6) h r l).trans (g10_at X n0 6 h r l).symm)⟩,
      p10_agree (ci := 7) (G := (G10 X n0)) (hG := fun h r l => (dqd_eq (R := R) (ci := 7) h r l).trans (g10_at X n0 7 h r l).symm)⟩
  exact (View.read_writes_apply_of_pieces V f (G10 X n0) _ hG _ (hcov _)).trans (g10_at X n0 ci h r l)

theorem B_out11 {L : _} (hL : L = (runB (F := Ideal) c i a0 h0 a1 h1 a2 h2 a3 h3 a4 h4 a5 h5 a6 h6 a7 h7 a8 h8 a9 h9 a10 h10 a11 h11 a12 h12 a13 h13 ar hsr hc x0 x1 x2 x3 x4 x5 x6 x7 xs).2.2.2.1) (hcov : ∀ y, ∃ pc ∈ L, y ∈ pc.1.set) {κ : Kind} {sp : Space} (V : View sig κ sp S512x512 .f32) (f : V.ty.Contents (Elt Ideal))
    (ci : Fin 8) (h : Fin 4) (r : Fin 64) (l : Fin 128) :
    V.read (Elt Ideal) (V.writes (Elt Ideal) f L) (ix2 (row ci r) (lane h l)) = (X h (n0 + ci.val)).dkd (states (X h) (n0 + ci.val)) (cots (X h) (255 - (n0 + ci.val))) r l := by
  obtain ⟨H0, H1, H2, H3, H4, H5, H6, H7⟩ := B_holds (c := c) (a1 := a1) (h1 := h1) (a2 := a2) (h2 := h2) (a3 := a3) (h3 := h3) (a4 := a4) (h4 := h4) (a5 := a5) (h5 := h5) (a7 := a7) (h7 := h7) (ar := ar) (hsr := hsr) (R := R) (hxs := hxs) (hn := hn)
  have hG : ∀ p ∈ L, ∀ x : p.1.shape.Idx, p.2 x = (G11 X n0) (p.1.emb x) := by
    rw [hL, B_11]
    simp only [List.forall_mem_append]
    exact ⟨⟨⟨⟨⟨⟨⟨(p11_agree (ci := 0) (G := (G11 X n0)) (hG := fun h r l => (dkd_eq (R := R) (ci := 0) (hld := H7) h r l).trans (g11_at X n0 0 h r l).symm)),
      p11_agree (ci := 1) (G := (G11 X n0)) (hG := fun h r l => (dkd_eq (R := R) (ci := 1) (hld := H6) h r l).trans (g11_at X n0 1 h r l).symm)⟩,
      p11_agree (ci := 2) (G := (G11 X n0)) (hG := fun h r l => (dkd_eq (R := R) (ci := 2) (hld := H5) h r l).trans (g11_at X n0 2 h r l).symm)⟩,
      p11_agree (ci := 3) (G := (G11 X n0)) (hG := fun h r l => (dkd_eq (R := R) (ci := 3) (hld := H4) h r l).trans (g11_at X n0 3 h r l).symm)⟩,
      p11_agree (ci := 4) (G := (G11 X n0)) (hG := fun h r l => (dkd_eq (R := R) (ci := 4) (hld := H3) h r l).trans (g11_at X n0 4 h r l).symm)⟩,
      p11_agree (ci := 5) (G := (G11 X n0)) (hG := fun h r l => (dkd_eq (R := R) (ci := 5) (hld := H2) h r l).trans (g11_at X n0 5 h r l).symm)⟩,
      p11_agree (ci := 6) (G := (G11 X n0)) (hG := fun h r l => (dkd_eq (R := R) (ci := 6) (hld := H1) h r l).trans (g11_at X n0 6 h r l).symm)⟩,
      p11_agree (ci := 7) (G := (G11 X n0)) (hG := fun h r l => (dkd_eq (R := R) (ci := 7) (hld := H0) h r l).trans (g11_at X n0 7 h r l).symm)⟩
  exact (View.read_writes_apply_of_pieces V f (G11 X n0) _ hG _ (hcov _)).trans (g11_at X n0 ci h r l)

theorem B_out12 {L : _} (hL : L = (runB (F := Ideal) c i a0 h0 a1 h1 a2 h2 a3 h3 a4 h4 a5 h5 a6 h6 a7 h7 a8 h8 a9 h9 a10 h10 a11 h11 a12 h12 a13 h13 ar hsr hc x0 x1 x2 x3 x4 x5 x6 x7 xs).2.2.2.2.1) (hcov : ∀ y, ∃ pc ∈ L, y ∈ pc.1.set) {κ : Kind} {sp : Space} (V : View sig κ sp S4x512x64 .f32) (f : V.ty.Contents (Elt Ideal))
    (ci : Fin 8) (h : Fin 4) (r s : Fin 64) :
    V.read (Elt Ideal) (V.writes (Elt Ideal) f L) (ix3 h (row ci r) s) = (X h (n0 + ci.val)).dqk (states (X h) (n0 + ci.val)) r s := by
  have hG : ∀ p ∈ L, ∀ x : p.1.shape.Idx, p.2 x = (G12 X n0) (p.1.emb x) := by
    rw [hL, B_12]
    simp only [List.forall_mem_append]
    exact ⟨⟨⟨⟨⟨⟨⟨(p12_agree (ci := 0) (G := (G12 X n0)) (hG := fun h z r s => (dqk_eq (R := R) (ci := 0) h z r s).trans (g12_at X n0 0 h r s).symm)),
      p12_agree (ci := 1) (G := (G12 X n0)) (hG := fun h z r s => (dqk_eq (R := R) (ci := 1) h z r s).trans (g12_at X n0 1 h r s).symm)⟩,
      p12_agree (ci := 2) (G := (G12 X n0)) (hG := fun h z r s => (dqk_eq (R := R) (ci := 2) h z r s).trans (g12_at X n0 2 h r s).symm)⟩,
      p12_agree (ci := 3) (G := (G12 X n0)) (hG := fun h z r s => (dqk_eq (R := R) (ci := 3) h z r s).trans (g12_at X n0 3 h r s).symm)⟩,
      p12_agree (ci := 4) (G := (G12 X n0)) (hG := fun h z r s => (dqk_eq (R := R) (ci := 4) h z r s).trans (g12_at X n0 4 h r s).symm)⟩,
      p12_agree (ci := 5) (G := (G12 X n0)) (hG := fun h z r s => (dqk_eq (R := R) (ci := 5) h z r s).trans (g12_at X n0 5 h r s).symm)⟩,
      p12_agree (ci := 6) (G := (G12 X n0)) (hG := fun h z r s => (dqk_eq (R := R) (ci := 6) h z r s).trans (g12_at X n0 6 h r s).symm)⟩,
      p12_agree (ci := 7) (G := (G12 X n0)) (hG := fun h z r s => (dqk_eq (R := R) (ci := 7) h z r s).trans (g12_at X n0 7 h r s).symm)⟩
  exact (View.read_writes_apply_of_pieces V f (G12 X n0) _ hG _ (hcov _)).trans (g12_at X n0 ci h r s)

theorem B_out13 {L : _} (hL : L = (runB (F := Ideal) c i a0 h0 a1 h1 a2 h2 a3 h3 a4 h4 a5 h5 a6 h6 a7 h7 a8 h8 a9 h9 a10 h10 a11 h11 a12 h12 a13 h13 ar hsr hc x0 x1 x2 x3 x4 x5 x6 x7 xs).2.2.2.2.2.1) (hcov : ∀ y, ∃ pc ∈ L, y ∈ pc.1.set) {κ : Kind} {sp : Space} (V : View sig κ sp S8x512 .f32) (f : V.ty.Contents (Elt Ideal))
    (ci : Fin 8) (h : Fin 4) (l : Fin 128) :
    V.read (Elt Ideal) (V.writes (Elt Ideal) f L) (ix2 ci (lane h l)) = Chunk.dgl (states (X h) (n0 + ci.val)) (cots (X h) (255 - (n0 + ci.val)))  := by
  have H := B_holds (c := c) (a1 := a1) (h1 := h1) (a2 := a2) (h2 := h2) (a3 := a3) (h3 := h3) (a4 := a4) (h4 := h4) (a5 := a5) (h5 := h5) (a7 := a7) (h7 := h7) (ar := ar) (hsr := hsr) (R := R) (hxs := hxs) (hn := hn)
  have hG : ∀ p ∈ L, ∀ x : p.1.shape.Idx, p.2 x = (G13 X n0) (p.1.emb x) := by
    rw [hL, B_13]
    simp only [List.forall_mem_append]
    exact ⟨⟨⟨⟨⟨⟨⟨(p13_agree (ci := 0) (G := (G13 X n0)) (hG := fun h z l => (dgl_eq (R := R) (ci := 0) (hld := H.2.2.2.2.2.2.2) h z l).trans (g13_at X n0 0 h l).symm)),
      p13_agree (ci := 1) (G := (G13 X n0)) (hG := fun h z l => (dgl_eq (R := R) (ci := 1) (hld := H.2.2.2.2.2.2.1) h z l).trans (g13_at X n0 1 h l).symm)⟩,
      p13_agree (ci := 2) (G := (G13 X n0)) (hG := fun h z l => (dgl_eq (R := R) (ci := 2) (hld := H.2.2.2.2.2.1) h z l).trans (g13_at X n0 2 h l).symm)⟩,
      p13_agree (ci := 3) (G := (G13 X n0)) (hG := fun h z l => (dgl_eq (R := R) (ci := 3) (hld := H.2.2.2.2.1) h z l).trans (g13_at X n0 3 h l).symm)⟩,
      p13_agree (ci := 4) (G := (G13 X n0)) (hG := fun h z l => (dgl_eq (R := R) (ci := 4) (hld := H.2.2.2.1) h z l).trans (g13_at X n0 4 h l).symm)⟩,
      p13_agree (ci := 5) (G := (G13 X n0)) (hG := fun h z l => (dgl_eq (R := R) (ci := 5) (hld := H.2.2.1) h z l).trans (g13_at X n0 5 h l).symm)⟩,
      p13_agree (ci := 6) (G := (G13 X n0)) (hG := fun h z l => (dgl_eq (R := R) (ci := 6) (hld := H.2.1) h z l).trans (g13_at X n0 6 h l).symm)⟩,
      p13_agree (ci := 7) (G := (G13 X n0)) (hG := fun h z l => (dgl_eq (R := R) (ci := 7) (hld := H.1) h z l).trans (g13_at X n0 7 h l).symm)⟩
  exact (View.read_writes_apply_of_pieces V f (G13 X n0) _ hG _ (hcov _)).trans (g13_at X n0 ci h l)

theorem B_outS {L : _} (hL : L = (runB (F := Ideal) c i a0 h0 a1 h1 a2 h2 a3 h3 a4 h4 a5 h5 a6 h6 a7 h7 a8 h8 a9 h9 a10 h10 a11 h11 a12 h12 a13 h13 ar hsr hc x0 x1 x2 x3 x4 x5 x6 x7 xs).2.2.2.2.2.2.1) {κ : Kind} {sp : Space} (V : View sig κ sp S4x128x128 .f32) (f : V.ty.Contents (Elt Ideal)) (h : Fin 4) (k v : Fin 128) :
    V.read (Elt Ideal) (V.writes (Elt Ideal) f L) (ix3 h k v) = cots (X h) (255 - n0 + 1) k v := by
  have H := B_holds (c := c) (a1 := a1) (h1 := h1) (a2 := a2) (h2 := h2) (a3 := a3) (h3 := h3) (a4 := a4) (h4 := h4) (a5 := a5) (h5 := h5) (a7 := a7) (h7 := h7) (ar := ar) (hsr := hsr) (R := R) (hxs := hxs) (hn := hn)
  rw [hL, B_S, View.writes_append]
  exact View.read_writes_apply_of_pieces V _ (fun y => cots (X (y 0)) (255 - n0 + 1) (y 1) (y 2)) _
    (pS_agree (G := fun y => cots (X (y 0)) (255 - n0 + 1) (y 1) (y 2)) (hG := prev_eq (R := R) (ci := 0) (hld := H.2.2.2.2.2.2.2) (hn := by show n0 + 0 ≤ 255; omega))) _ (pS_cover _ _ _ _ _ _ _ h k v)

end

section

variable {X : Fin 4 → ℕ → Chunk} {n0 : ℕ} (c : Dev nD) (a0 : Memref sig .tc .vmem S512x512 .f32) (h0 : a0.IsWhole) (a1 : Memref sig .tc .vmem S512x512 .f32) (h1 : a1.IsWhole) (a2 : Memref sig .tc .vmem S512x512 .f32) (h2 : a2.IsWhole) (a3 : Memref sig .tc .vmem S512x512 .f32) (h3 : a3.IsWhole) (a4 : Memref sig .tc .vmem S4x512x64 .f32) (h4 : a4.IsWhole) (a5 : Memref sig .tc .vmem S8x512 .f32) (h5 : a5.IsWhole) (a6 : Memref sig .tc .vmem S4x1024x128 .f32) (h6 : a6.IsWhole) (a7 : Memref sig .tc .vmem S512x512 .f32) (h7 : a7.IsWhole) (ar : Memref sig .tc .vmem S4x128x128 .f32) (hsr : ar.IsWhole) {x0 : Vec Ideal S512x512 .f32} {x1 : Vec Ideal S512x512 .f32} {x2 : Vec Ideal S512x512 .f32} {x3 : Vec Ideal S512x512 .f32} {x4 : Vec Ideal S4x512x64 .f32} {x5 : Vec Ideal S8x512 .f32} {x6 : Vec Ideal S4x1024x128 .f32} {x7 : Vec Ideal S512x512 .f32}
  (R : Reads X n0 x0 x1 x2 x3 x4 x5 x6 x7) (hz : n0 = 248) (hn : n0 + 7 ≤ 255)

include R hz hn

/-- The carried state as each of the eight chunks finds it. -/
theorem A_holds :
    Holds X (ldL ar (runA.sl.HS_1 (F := Ideal))) (255 - (n0 + 7))
    ∧ Holds X (ldL ar (runA.sl.HS_5 (F := Ideal) c a1 h1 a2 h2 a3 h3 a4 h4 a5 h5 a7 h7 ar x1 x2 x3 x4 x5 x7)) (255 - (n0 + 6))
    ∧ Holds X (ldL ar (runA.sl.HS_9 (F := Ideal) c a1 h1 a2 h2 a3 h3 a4 h4 a5 h5 a7 h7 ar x1 x2 x3 x4 x5 x7)) (255 - (n0 + 5))
    ∧ Holds X (ldL ar (runA.sl.HS_13 (F := Ideal) c a1 h1 a2 h2 a3 h3 a4 h4 a5 h5 a7 h7 ar x1 x2 x3 x4 x5 x7)) (255 - (n0 + 4))
    ∧ Holds X (ldL ar (runA.sl.HS_17 (F := Ideal) c a1 h1 a2 h2 a3 h3 a4 h4 a5 h5 a7 h7 ar x1 x2 x3 x4 x5 x7)) (255 - (n0 + 3))
    ∧ Holds X (ldL ar (runA.sl.HS_21 (F := Ideal) c a1 h1 a2 h2 a3 h3 a4 h4 a5 h5 a7 h7 ar x1 x2 x3 x4 x5 x7)) (255 - (n0 + 2))
    ∧ Holds X (ldL ar (runA.sl.HS_25 (F := Ideal) c a1 h1 a2 h2 a3 h3 a4 h4 a5 h5 a7 h7 ar x1 x2 x3 x4 x5 x7)) (255 - (n0 + 1))
    ∧ Holds X (ldL ar (runA.sl.HS_29 (F := Ideal) c a1 h1 a2 h2 a3 h3 a4 h4 a5 h5 a7 h7 ar x1 x2 x3 x4 x5 x7)) (255 - (n0 + 0)) := by
  have H0 : Holds X (ldL ar (runA.sl.HS_1 (F := Ideal))) (255 - (n0 + 7)) := by
    subst hz
    intro h k v
    have e : ldL ar (runA.sl.HS_1 (F := Ideal)) h (ix3 0 k v) = ar.view.read (Elt Ideal) (ar.view.writes (Elt Ideal) ar.view.junk runA.sl.HS_1) (ix3 h k v) :=
      congrArg (ar.view.read (Elt Ideal) (ar.view.writes (Elt Ideal) ar.view.junk runA.sl.HS_1)) (rS_idx h 0 k v)
    rw [e]
    exact View.read_writes_apply_of_pieces ar.view _ (fun _ => 0) _ (zero_agree) _ (zero_cover _)
  have H1 : Holds X (ldL ar (runA.sl.HS_5 (F := Ideal) c a1 h1 a2 h2 a3 h3 a4 h4 a5 h5 a7 h7 ar x1 x2 x3 x4 x5 x7)) (255 - (n0 + 6)) := by
    rw [A_S0]
    exact holds_prev (R := R) (ci := 7) (hld := H0) (L := _) (hn := by show n0 + 7 ≤ 255; omega) (m := 255 - (n0 + 6)) (hm := by show 255 - (n0 + 6) = _ + 1; show _ = 255 - (n0 + 7) + 1; omega)
  have H2 : Holds X (ldL ar (runA.sl.HS_9 (F := Ideal) c a1 h1 a2 h2 a3 h3 a4 h4 a5 h5 a7 h7 ar x1 x2 x3 x4 x5 x7)) (255 - (n0 + 5)) := by
    rw [A_S1]
    exact holds_prev (R := R) (ci := 6) (hld := H1) (L := _) (hn := by show n0 + 6 ≤ 255; omega) (m := 255 - (n0 + 5)) (hm := by show 255 - (n0 + 5) = _ + 1; show _ = 255 - (n0 + 6) + 1; omega)
  have H3 : Holds X (ldL ar (runA.sl.HS_13 (F := Ideal) c a1 h1 a2 h2 a3 h3 a4 h4 a5 h5 a7 h7 ar x1 x2 x3 x4 x5 x7)) (255 - (n0 + 4)) := by
    rw [A_S2]
    exact holds_prev (R := R) (ci := 5) (hld := H2) (L := _) (hn := by show n0 + 5 ≤ 255; omega) (m := 255 - (n0 + 4)) (hm := by show 255 - (n0 + 4) = _ + 1; show _ = 255 - (n0 + 5) + 1; omega)
  have H4 : Holds X (ldL ar (runA.sl.HS_17 (F := Ideal) c a1 h1 a2 h2 a3 h3 a4 h4 a5 h5 a7 h7 ar x1 x2 x3 x4 x5 x7)) (255 - (n0 + 3)) := by
    rw [A_S3]
    exact holds_prev (R := R) (ci := 4) (hld := H3) (L := _) (hn := by show n0 + 4 ≤ 255; omega) (m := 255 - (n0 + 3)) (hm := by show 255 - (n0 + 3) = _ + 1; show _ = 255 - (n0 + 4) + 1; omega)
  have H5 : Holds X (ldL ar (runA.sl.HS_21 (F := Ideal) c a1 h1 a2 h2 a3 h3 a4 h4 a5 h5 a7 h7 ar x1 x2 x3 x4 x5 x7)) (255 - (n0 + 2)) := by
    rw [A_S4]
    exact holds_prev (R := R) (ci := 3) (hld := H4) (L := _) (hn := by show n0 + 3 ≤ 255; omega) (m := 255 - (n0 + 2)) (hm := by show 255 - (n0 + 2) = _ + 1; show _ = 255 - (n0 + 3) + 1; omega)
  have H6 : Holds X (ldL ar (runA.sl.HS_25 (F := Ideal) c a1 h1 a2 h2 a3 h3 a4 h4 a5 h5 a7 h7 ar x1 x2 x3 x4 x5 x7)) (255 - (n0 + 1)) := by
    rw [A_S5]
    exact holds_prev (R := R) (ci := 2) (hld := H5) (L := _) (hn := by show n0 + 2 ≤ 255; omega) (m := 255 - (n0 + 1)) (hm := by show 255 - (n0 + 1) = _ + 1; show _ = 255 - (n0 + 2) + 1; omega)
  have H7 : Holds X (ldL ar (runA.sl.HS_29 (F := Ideal) c a1 h1 a2 h2 a3 h3 a4 h4 a5 h5 a7 h7 ar x1 x2 x3 x4 x5 x7)) (255 - (n0 + 0)) := by
    rw [A_S6]
    exact holds_prev (R := R) (ci := 1) (hld := H6) (L := _) (hn := by show n0 + 1 ≤ 255; omega) (m := 255 - (n0 + 0)) (hm := by show 255 - (n0 + 0) = _ + 1; show _ = 255 - (n0 + 1) + 1; omega)
  exact ⟨H0, H1, H2, H3, H4, H5, H6, H7⟩

variable (i : grid1.Coords) (a8 : Memref sig .tc .vmem S512x512 .f32) (h8 : a8.IsWhole) (a9 : Memref sig .tc .vmem S512x512 .f32) (h9 : a9.IsWhole) (a10 : Memref sig .tc .vmem S512x512 .f32) (h10 : a10.IsWhole) (a11 : Memref sig .tc .vmem S512x512 .f32) (h11 : a11.IsWhole) (a12 : Memref sig .tc .vmem S4x512x64 .f32) (h12 : a12.IsWhole) (a13 : Memref sig .tc .vmem S8x512 .f32) (h13 : a13.IsWhole) (hc : cond i)

variable {c i a0 h0 a1 h1 a2 h2 a3 h3 a4 h4 a5 h5 a6 h6 a7 h7 a8 h8 a9 h9 a10 h10 a11 h11 a12 h12 a13 h13 ar hsr hc}

theorem A_out8 {L : _} (hL : L = (runA (F := Ideal) c i a0 h0 a1 h1 a2 h2 a3 h3 a4 h4 a5 h5 a6 h6 a7 h7 a8 h8 a9 h9 a10 h10 a11 h11 a12 h12 a13 h13 ar hsr hc x0 x1 x2 x3 x4 x5 x6 x7).1) (hcov : ∀ y, ∃ pc ∈ L, y ∈ pc.1.set) {κ : Kind} {sp : Space} (V : View sig κ sp S512x512 .f32) (f : V.ty.Contents (Elt Ideal))
    (ci : Fin 8) (h : Fin 4) (r : Fin 64) (l : Fin 128) :
    V.read (Elt Ideal) (V.writes (Elt Ideal) f L) (ix2 (row ci r) (lane h l)) = (X h (n0 + ci.val)).du (cots (X h) (255 - (n0 + ci.val))) r l := by
  obtain ⟨H0, H1, H2, H3, H4, H5, H6, H7⟩ := A_holds (c := c) (a1 := a1) (h1 := h1) (a2 := a2) (h2 := h2) (a3 := a3) (h3 := h3) (a4 := a4) (h4 := h4) (a5 := a5) (h5 := h5) (a7 := a7) (h7 := h7) (ar := ar) (R := R) (hz := hz) (hn := hn)
  have hG : ∀ p ∈ L, ∀ x : p.1.shape.Idx, p.2 x = (G8 X n0) (p.1.emb x) := by
    rw [hL, A_8]
    simp only [List.forall_mem_append]
    exact ⟨⟨⟨⟨⟨⟨⟨(p8_agree (ci := 0) (G := (G8 X n0)) (hG := fun h r l => (du_eq (R := R) (ci := 0) (hld := H7) h r l).trans (g8_at X n0 0 h r l).symm)),
      p8_agree (ci := 1) (G := (G8 X n0)) (hG := fun h r l => (du_eq (R := R) (ci := 1) (hld := H6) h r l).trans (g8_at X n0 1 h r l).symm)⟩,
      p8_agree (ci := 2) (G := (G8 X n0)) (hG := fun h r l => (du_eq (R := R) (ci := 2) (hld := H5) h r l).trans (g8_at X n0 2 h r l).symm)⟩,
      p8_agree (ci := 3) (G := (G8 X n0)) (hG := fun h r l => (du_eq (R := R) (ci := 3) (hld := H4) h r l).trans (g8_at X n0 3 h r l).symm)⟩,
      p8_agree (ci := 4) (G := (G8 X n0)) (hG := fun h r l => (du_eq (R := R) (ci := 4) (hld := H3) h r l).trans (g8_at X n0 4 h r l).symm)⟩,
      p8_agree (ci := 5) (G := (G8 X n0)) (hG := fun h r l => (du_eq (R := R) (ci := 5) (hld := H2) h r l).trans (g8_at X n0 5 h r l).symm)⟩,
      p8_agree (ci := 6) (G := (G8 X n0)) (hG := fun h r l => (du_eq (R := R) (ci := 6) (hld := H1) h r l).trans (g8_at X n0 6 h r l).symm)⟩,
      p8_agree (ci := 7) (G := (G8 X n0)) (hG := fun h r l => (du_eq (R := R) (ci := 7) (hld := H0) h r l).trans (g8_at X n0 7 h r l).symm)⟩
  exact (View.read_writes_apply_of_pieces V f (G8 X n0) _ hG _ (hcov _)).trans (g8_at X n0 ci h r l)

theorem A_out9 {L : _} (hL : L = (runA (F := Ideal) c i a0 h0 a1 h1 a2 h2 a3 h3 a4 h4 a5 h5 a6 h6 a7 h7 a8 h8 a9 h9 a10 h10 a11 h11 a12 h12 a13 h13 ar hsr hc x0 x1 x2 x3 x4 x5 x6 x7).2.1) (hcov : ∀ y, ∃ pc ∈ L, y ∈ pc.1.set) {κ : Kind} {sp : Space} (V : View sig κ sp S512x512 .f32) (f : V.ty.Contents (Elt Ideal))
    (ci : Fin 8) (h : Fin 4) (r : Fin 64) (l : Fin 128) :
    V.read (Elt Ideal) (V.writes (Elt Ideal) f L) (ix2 (row ci r) (lane h l)) = (X h (n0 + ci.val)).dw (states (X h) (n0 + ci.val)) (cots (X h) (255 - (n0 + ci.val))) r l := by
  obtain ⟨H0, H1, H2, H3, H4, H5, H6, H7⟩ := A_holds (c := c) (a1 := a1) (h1 := h1) (a2 := a2) (h2 := h2) (a3 := a3) (h3 := h3) (a4 := a4) (h4 := h4) (a5 := a5) (h5 := h5) (a7 := a7) (h7 := h7) (ar := ar) (R := R) (hz := hz) (hn := hn)
  have hG : ∀ p ∈ L, ∀ x : p.1.shape.Idx, p.2 x = (G9 X n0) (p.1.emb x) := by
    rw [hL, A_9]
    simp only [List.forall_mem_append]
    exact ⟨⟨⟨⟨⟨⟨⟨(p9_agree (ci := 0) (G := (G9 X n0)) (hG := fun h r l => (dw_eq (R := R) (ci := 0) (hld := H7) h r l).trans (g9_at X n0 0 h r l).symm)),
      p9_agree (ci := 1) (G := (G9 X n0)) (hG := fun h r l => (dw_eq (R := R) (ci := 1) (hld := H6) h r l).trans (g9_at X n0 1 h r l).symm)⟩,
      p9_agree (ci := 2) (G := (G9 X n0)) (hG := fun h r l => (dw_eq (R := R) (ci := 2) (hld := H5) h r l).trans (g9_at X n0 2 h r l).symm)⟩,
      p9_agree (ci := 3) (G := (G9 X n0)) (hG := fun h r l => (dw_eq (R := R) (ci := 3) (hld := H4) h r l).trans (g9_at X n0 3 h r l).symm)⟩,
      p9_agree (ci := 4) (G := (G9 X n0)) (hG := fun h r l => (dw_eq (R := R) (ci := 4) (hld := H3) h r l).trans (g9_at X n0 4 h r l).symm)⟩,
      p9_agree (ci := 5) (G := (G9 X n0)) (hG := fun h r l => (dw_eq (R := R) (ci := 5) (hld := H2) h r l).trans (g9_at X n0 5 h r l).symm)⟩,
      p9_agree (ci := 6) (G := (G9 X n0)) (hG := fun h r l => (dw_eq (R := R) (ci := 6) (hld := H1) h r l).trans (g9_at X n0 6 h r l).symm)⟩,
      p9_agree (ci := 7) (G := (G9 X n0)) (hG := fun h r l => (dw_eq (R := R) (ci := 7) (hld := H0) h r l).trans (g9_at X n0 7 h r l).symm)⟩
  exact (View.read_writes_apply_of_pieces V f (G9 X n0) _ hG _ (hcov _)).trans (g9_at X n0 ci h r l)

theorem A_out10 {L : _} (hL : L = (runA (F := Ideal) c i a0 h0 a1 h1 a2 h2 a3 h3 a4 h4 a5 h5 a6 h6 a7 h7 a8 h8 a9 h9 a10 h10 a11 h11 a12 h12 a13 h13 ar hsr hc x0 x1 x2 x3 x4 x5 x6 x7).2.2.1) (hcov : ∀ y, ∃ pc ∈ L, y ∈ pc.1.set) {κ : Kind} {sp : Space} (V : View sig κ sp S512x512 .f32) (f : V.ty.Contents (Elt Ideal))
    (ci : Fin 8) (h : Fin 4) (r : Fin 64) (l : Fin 128) :
    V.read (Elt Ideal) (V.writes (Elt Ideal) f L) (ix2 (row ci r) (lane h l)) = (X h (n0 + ci.val)).dqd (states (X h) (n0 + ci.val)) r l := by
  have hG : ∀ p ∈ L, ∀ x : p.1.shape.Idx, p.2 x = (G10 X n0) (p.1.emb x) := by
    rw [hL, A_10]
    simp only [List.forall_mem_append]
    exact ⟨⟨⟨⟨⟨⟨⟨(p10_agree (ci := 0) (G := (G10 X n0)) (hG := fun h r l => (dqd_eq (R := R) (ci := 0) h r l).trans (g10_at X n0 0 h r l).symm)),
      p10_agree (ci := 1) (G := (G10 X n0)) (hG := fun h r l => (dqd_eq (R := R) (ci := 1) h r l).trans (g10_at X n0 1 h r l).symm)⟩,
      p10_agree (ci := 2) (G := (G10 X n0)) (hG := fun h r l => (dqd_eq (R := R) (ci := 2) h r l).trans (g10_at X n0 2 h r l).symm)⟩,
      p10_agree (ci := 3) (G := (G10 X n0)) (hG := fun h r l => (dqd_eq (R := R) (ci := 3) h r l).trans (g10_at X n0 3 h r l).symm)⟩,
      p10_agree (ci := 4) (G := (G10 X n0)) (hG := fun h r l => (dqd_eq (R := R) (ci := 4) h r l).trans (g10_at X n0 4 h r l).symm)⟩,
      p10_agree (ci := 5) (G := (G10 X n0)) (hG := fun h r l => (dqd_eq (R := R) (ci := 5) h r l).trans (g10_at X n0 5 h r l).symm)⟩,
      p10_agree (ci := 6) (G := (G10 X n0)) (hG := fun h r l => (dqd_eq (R := R) (ci := 6) h r l).trans (g10_at X n0 6 h r l).symm)⟩,
      p10_agree (ci := 7) (G := (G10 X n0)) (hG := fun h r l => (dqd_eq (R := R) (ci := 7) h r l).trans (g10_at X n0 7 h r l).symm)⟩
  exact (View.read_writes_apply_of_pieces V f (G10 X n0) _ hG _ (hcov _)).trans (g10_at X n0 ci h r l)

theorem A_out11 {L : _} (hL : L = (runA (F := Ideal) c i a0 h0 a1 h1 a2 h2 a3 h3 a4 h4 a5 h5 a6 h6 a7 h7 a8 h8 a9 h9 a10 h10 a11 h11 a12 h12 a13 h13 ar hsr hc x0 x1 x2 x3 x4 x5 x6 x7).2.2.2.1) (hcov : ∀ y, ∃ pc ∈ L, y ∈ pc.1.set) {κ : Kind} {sp : Space} (V : View sig κ sp S512x512 .f32) (f : V.ty.Contents (Elt Ideal))
    (ci : Fin 8) (h : Fin 4) (r : Fin 64) (l : Fin 128) :
    V.read (Elt Ideal) (V.writes (Elt Ideal) f L) (ix2 (row ci r) (lane h l)) = (X h (n0 + ci.val)).dkd (states (X h) (n0 + ci.val)) (cots (X h) (255 - (n0 + ci.val))) r l := by
  obtain ⟨H0, H1, H2, H3, H4, H5, H6, H7⟩ := A_holds (c := c) (a1 := a1) (h1 := h1) (a2 := a2) (h2 := h2) (a3 := a3) (h3 := h3) (a4 := a4) (h4 := h4) (a5 := a5) (h5 := h5) (a7 := a7) (h7 := h7) (ar := ar) (R := R) (hz := hz) (hn := hn)
  have hG : ∀ p ∈ L, ∀ x : p.1.shape.Idx, p.2 x = (G11 X n0) (p.1.emb x) := by
    rw [hL, A_11]
    simp only [List.forall_mem_append]
    exact ⟨⟨⟨⟨⟨⟨⟨(p11_agree (ci := 0) (G := (G11 X n0)) (hG := fun h r l => (dkd_eq (R := R) (ci := 0) (hld := H7) h r l).trans (g11_at X n0 0 h r l).symm)),
      p11_agree (ci := 1) (G := (G11 X n0)) (hG := fun h r l => (dkd_eq (R := R) (ci := 1) (hld := H6) h r l).trans (g11_at X n0 1 h r l).symm)⟩,
      p11_agree (ci := 2) (G := (G11 X n0)) (hG := fun h r l => (dkd_eq (R := R) (ci := 2) (hld := H5) h r l).trans (g11_at X n0 2 h r l).symm)⟩,
      p11_agree (ci := 3) (G := (G11 X n0)) (hG := fun h r l => (dkd_eq (R := R) (ci := 3) (hld := H4) h r l).trans (g11_at X n0 3 h r l).symm)⟩,
      p11_agree (ci := 4) (G := (G11 X n0)) (hG := fun h r l => (dkd_eq (R := R) (ci := 4) (hld := H3) h r l).trans (g11_at X n0 4 h r l).symm)⟩,
      p11_agree (ci := 5) (G := (G11 X n0)) (hG := fun h r l => (dkd_eq (R := R) (ci := 5) (hld := H2) h r l).trans (g11_at X n0 5 h r l).symm)⟩,
      p11_agree (ci := 6) (G := (G11 X n0)) (hG := fun h r l => (dkd_eq (R := R) (ci := 6) (hld := H1) h r l).trans (g11_at X n0 6 h r l).symm)⟩,
      p11_agree (ci := 7) (G := (G11 X n0)) (hG := fun h r l => (dkd_eq (R := R) (ci := 7) (hld := H0) h r l).trans (g11_at X n0 7 h r l).symm)⟩
  exact (View.read_writes_apply_of_pieces V f (G11 X n0) _ hG _ (hcov _)).trans (g11_at X n0 ci h r l)

theorem A_out12 {L : _} (hL : L = (runA (F := Ideal) c i a0 h0 a1 h1 a2 h2 a3 h3 a4 h4 a5 h5 a6 h6 a7 h7 a8 h8 a9 h9 a10 h10 a11 h11 a12 h12 a13 h13 ar hsr hc x0 x1 x2 x3 x4 x5 x6 x7).2.2.2.2.1) (hcov : ∀ y, ∃ pc ∈ L, y ∈ pc.1.set) {κ : Kind} {sp : Space} (V : View sig κ sp S4x512x64 .f32) (f : V.ty.Contents (Elt Ideal))
    (ci : Fin 8) (h : Fin 4) (r s : Fin 64) :
    V.read (Elt Ideal) (V.writes (Elt Ideal) f L) (ix3 h (row ci r) s) = (X h (n0 + ci.val)).dqk (states (X h) (n0 + ci.val)) r s := by
  have hG : ∀ p ∈ L, ∀ x : p.1.shape.Idx, p.2 x = (G12 X n0) (p.1.emb x) := by
    rw [hL, A_12]
    simp only [List.forall_mem_append]
    exact ⟨⟨⟨⟨⟨⟨⟨(p12_agree (ci := 0) (G := (G12 X n0)) (hG := fun h z r s => (dqk_eq (R := R) (ci := 0) h z r s).trans (g12_at X n0 0 h r s).symm)),
      p12_agree (ci := 1) (G := (G12 X n0)) (hG := fun h z r s => (dqk_eq (R := R) (ci := 1) h z r s).trans (g12_at X n0 1 h r s).symm)⟩,
      p12_agree (ci := 2) (G := (G12 X n0)) (hG := fun h z r s => (dqk_eq (R := R) (ci := 2) h z r s).trans (g12_at X n0 2 h r s).symm)⟩,
      p12_agree (ci := 3) (G := (G12 X n0)) (hG := fun h z r s => (dqk_eq (R := R) (ci := 3) h z r s).trans (g12_at X n0 3 h r s).symm)⟩,
      p12_agree (ci := 4) (G := (G12 X n0)) (hG := fun h z r s => (dqk_eq (R := R) (ci := 4) h z r s).trans (g12_at X n0 4 h r s).symm)⟩,
      p12_agree (ci := 5) (G := (G12 X n0)) (hG := fun h z r s => (dqk_eq (R := R) (ci := 5) h z r s).trans (g12_at X n0 5 h r s).symm)⟩,
      p12_agree (ci := 6) (G := (G12 X n0)) (hG := fun h z r s => (dqk_eq (R := R) (ci := 6) h z r s).trans (g12_at X n0 6 h r s).symm)⟩,
      p12_agree (ci := 7) (G := (G12 X n0)) (hG := fun h z r s => (dqk_eq (R := R) (ci := 7) h z r s).trans (g12_at X n0 7 h r s).symm)⟩
  exact (View.read_writes_apply_of_pieces V f (G12 X n0) _ hG _ (hcov _)).trans (g12_at X n0 ci h r s)

theorem A_out13 {L : _} (hL : L = (runA (F := Ideal) c i a0 h0 a1 h1 a2 h2 a3 h3 a4 h4 a5 h5 a6 h6 a7 h7 a8 h8 a9 h9 a10 h10 a11 h11 a12 h12 a13 h13 ar hsr hc x0 x1 x2 x3 x4 x5 x6 x7).2.2.2.2.2.1) (hcov : ∀ y, ∃ pc ∈ L, y ∈ pc.1.set) {κ : Kind} {sp : Space} (V : View sig κ sp S8x512 .f32) (f : V.ty.Contents (Elt Ideal))
    (ci : Fin 8) (h : Fin 4) (l : Fin 128) :
    V.read (Elt Ideal) (V.writes (Elt Ideal) f L) (ix2 ci (lane h l)) = Chunk.dgl (states (X h) (n0 + ci.val)) (cots (X h) (255 - (n0 + ci.val)))  := by
  have H := A_holds (c := c) (a1 := a1) (h1 := h1) (a2 := a2) (h2 := h2) (a3 := a3) (h3 := h3) (a4 := a4) (h4 := h4) (a5 := a5) (h5 := h5) (a7 := a7) (h7 := h7) (ar := ar) (R := R) (hz := hz) (hn := hn)
  have hG : ∀ p ∈ L, ∀ x : p.1.shape.Idx, p.2 x = (G13 X n0) (p.1.emb x) := by
    rw [hL, A_13]
    simp only [List.forall_mem_append]
    exact ⟨⟨⟨⟨⟨⟨⟨(p13_agree (ci := 0) (G := (G13 X n0)) (hG := fun h z l => (dgl_eq (R := R) (ci := 0) (hld := H.2.2.2.2.2.2.2) h z l).trans (g13_at X n0 0 h l).symm)),
      p13_agree (ci := 1) (G := (G13 X n0)) (hG := fun h z l => (dgl_eq (R := R) (ci := 1) (hld := H.2.2.2.2.2.2.1) h z l).trans (g13_at X n0 1 h l).symm)⟩,
      p13_agree (ci := 2) (G := (G13 X n0)) (hG := fun h z l => (dgl_eq (R := R) (ci := 2) (hld := H.2.2.2.2.2.1) h z l).trans (g13_at X n0 2 h l).symm)⟩,
      p13_agree (ci := 3) (G := (G13 X n0)) (hG := fun h z l => (dgl_eq (R := R) (ci := 3) (hld := H.2.2.2.2.1) h z l).trans (g13_at X n0 3 h l).symm)⟩,
      p13_agree (ci := 4) (G := (G13 X n0)) (hG := fun h z l => (dgl_eq (R := R) (ci := 4) (hld := H.2.2.2.1) h z l).trans (g13_at X n0 4 h l).symm)⟩,
      p13_agree (ci := 5) (G := (G13 X n0)) (hG := fun h z l => (dgl_eq (R := R) (ci := 5) (hld := H.2.2.1) h z l).trans (g13_at X n0 5 h l).symm)⟩,
      p13_agree (ci := 6) (G := (G13 X n0)) (hG := fun h z l => (dgl_eq (R := R) (ci := 6) (hld := H.2.1) h z l).trans (g13_at X n0 6 h l).symm)⟩,
      p13_agree (ci := 7) (G := (G13 X n0)) (hG := fun h z l => (dgl_eq (R := R) (ci := 7) (hld := H.1) h z l).trans (g13_at X n0 7 h l).symm)⟩
  exact (View.read_writes_apply_of_pieces V f (G13 X n0) _ hG _ (hcov _)).trans (g13_at X n0 ci h l)

theorem A_outS {L : _} (hL : L = (runA (F := Ideal) c i a0 h0 a1 h1 a2 h2 a3 h3 a4 h4 a5 h5 a6 h6 a7 h7 a8 h8 a9 h9 a10 h10 a11 h11 a12 h12 a13 h13 ar hsr hc x0 x1 x2 x3 x4 x5 x6 x7).2.2.2.2.2.2.1) {κ : Kind} {sp : Space} (V : View sig κ sp S4x128x128 .f32) (f : V.ty.Contents (Elt Ideal)) (h : Fin 4) (k v : Fin 128) :
    V.read (Elt Ideal) (V.writes (Elt Ideal) f L) (ix3 h k v) = cots (X h) (255 - n0 + 1) k v := by
  have H := A_holds (c := c) (a1 := a1) (h1 := h1) (a2 := a2) (h2 := h2) (a3 := a3) (h3 := h3) (a4 := a4) (h4 := h4) (a5 := a5) (h5 := h5) (a7 := a7) (h7 := h7) (ar := ar) (R := R) (hz := hz) (hn := hn)
  rw [hL, A_S, View.writes_append]
  exact View.read_writes_apply_of_pieces V _ (fun y => cots (X (y 0)) (255 - n0 + 1) (y 1) (y 2)) _
    (pS_agree (G := fun y => cots (X (y 0)) (255 - n0 + 1) (y 1) (y 2)) (hG := prev_eq (R := R) (ci := 0) (hld := H.2.2.2.2.2.2.2) (hn := by show n0 + 0 ≤ 255; omega))) _ (pS_cover _ _ _ _ _ _ _ h k v)

end

end Cert.Proof.Bwd

end
-- ==== Proof.BwdArr.lean ====
module

public import proofs.«01_k».proof.Proof.BwdBlk
public import Idealize.ShloMosaic.Lib.Pipeline.ValueKit.Point

@[expose] public section

set_option maxRecDepth 16384

noncomputable section

/-! The backward call's six result arrays. -/

namespace Cert.Proof.Bwd

open Cert.KernelIdeal Cert.KernelIdeal.Gen
open Idealize.ShloMosaic Idealize.ShloMosaic.TcCoe Idealize.ShloMosaic.Tactic

theorem idx : ∀ t : Fin cfg1.N, win1_0.index t = ![31 - t.val % 32, t.val / 32]
    ∧ win1_1.index t = ![31 - t.val % 32, t.val / 32]
    ∧ win1_2.index t = ![31 - t.val % 32, t.val / 32]
    ∧ win1_3.index t = ![31 - t.val % 32, t.val / 32]
    ∧ win1_4.index t = ![t.val / 32, 31 - t.val % 32, 0]
    ∧ win1_5.index t = ![31 - t.val % 32, t.val / 32]
    ∧ win1_6.index t = ![t.val / 32, 31 - t.val % 32, 0]
    ∧ win1_7.index t = ![31 - t.val % 32, t.val / 32]
    ∧ win1_8.index t = ![31 - t.val % 32, t.val / 32]
    ∧ win1_9.index t = ![31 - t.val % 32, t.val / 32]
    ∧ win1_10.index t = ![31 - t.val % 32, t.val / 32]
    ∧ win1_11.index t = ![31 - t.val % 32, t.val / 32]
    ∧ win1_12.index t = ![t.val / 32, 31 - t.val % 32, 0]
    ∧ win1_13.index t = ![31 - t.val % 32, t.val / 32] := by decide +kernel

variable (V : Dev nD → Valuation τ sig (Elt Ideal)) (c : Dev nD)

/-- Head `h`'s chunks in the arrays as the call finds them. -/
def X (h : Fin 8) (n : ℕ) : Chunk :=
  chunkOf (V c main_arg0) (V c main_arg1) (V c main_arg2) (V c main_arg3) (V c main_arg4) (V c main_v1) (V c main_arg6) h n

/-- Point `t` works on chunks `n0 t … n0 t + 7` of four heads, the `h`-th of which is `hg t h`. -/
def hg (t : ℕ) (h : Fin 4) : Fin 8 := ⟨(4 * (t / 32) + h.val) % 8, by omega⟩
def n0 (t : ℕ) : ℕ := 8 * (31 - t % 32)
def XG (t : ℕ) (h : Fin 4) : ℕ → Chunk := X V c (hg t h)

theorem n0_le (t : Fin cfg1.N) : n0 t.val + 7 ≤ 255 := by unfold n0; omega

/-- The array of states the call finds holds each chunk's state. -/
def HoldsSt : Prop := ∀ (h : Fin 8) (n : ℕ) (hn : n < 256) (k v : Fin 128),
  V c main_v2_1 (ix3 h (⟨128 * n + k.val, by omega⟩ : Fin 32768) v) = states (X V c h) n k v

variable (hst : HoldsSt V c)

include hst

theorem reads (t : Fin cfg1.N) : Reads (XG V c t.val) (n0 t.val) (iblk V c 0 t) (iblk V c 1 t) (iblk V c 2 t) (iblk V c 3 t) (iblk V c 4 t) (iblk V c 5 t) (iblk V c 6 t) (iblk V c 7 t) := by
  have ht : t.val < 64 := Nat.lt_of_lt_of_eq t.isLt N_1
  unfold n0
  constructor
  · intro ci h r l
    show iblk V c 0 t (ix2 (row ci r) (lane h l)) = V c main_arg0 (ix2 (gr (8 * (31 - t.val % 32) + ci.val) r) (gl8 (hg t.val h) l))
    unfold hg; blk_ext [iblk, idx t]
  · intro ci h r l
    show iblk V c 1 t (ix2 (row ci r) (lane h l)) = V c main_arg1 (ix2 (gr (8 * (31 - t.val % 32) + ci.val) r) (gl8 (hg t.val h) l))
    unfold hg; blk_ext [iblk, idx t]
  · intro ci h r l
    show iblk V c 2 t (ix2 (row ci r) (lane h l)) = V c main_arg2 (ix2 (gr (8 * (31 - t.val % 32) + ci.val) r) (gl8 (hg t.val h) l))
    unfold hg; blk_ext [iblk, idx t]
  · intro ci h r l
    show iblk V c 3 t (ix2 (row ci r) (lane h l)) = V c main_arg3 (ix2 (gr (8 * (31 - t.val % 32) + ci.val) r) (gl8 (hg t.val h) l))
    unfold hg; blk_ext [iblk, idx t]
  · intro ci h r s
    show iblk V c 4 t (ix3 h (row ci r) s) = V c main_arg4 (ix3 (hg t.val h) (gr (8 * (31 - t.val % 32) + ci.val) r) s)
    unfold hg; blk_ext [iblk, idx t]
  · intro ci h l
    show iblk V c 5 t (ix2 ci (lane h l)) = V c main_v1 (ix2 ⟨(8 * (31 - t.val % 32) + ci.val) % 256, by omega⟩ (gl8 (hg t.val h) l))
    unfold hg; blk_ext [iblk, idx t]
  · intro ci h k v
    refine Eq.trans ?_ (hst (hg t.val h) (8 * (31 - t.val % 32) + ci.val) (by omega) k v)
    unfold hg; blk_ext [iblk, idx t]
  · intro ci h r l
    show iblk V c 7 t (ix2 (row ci r) (lane h l)) = V c main_arg6 (ix2 (gr (8 * (31 - t.val % 32) + ci.val) r) (gl8 (hg t.val h) l))
    unfold hg; blk_ext [iblk, idx t]

/-! What a point leaves, of what it finds. -/

abbrev Found (t : Fin cfg1.N) (xs : Vec Ideal S4x128x128 .f32) : Prop :=
  ∀ (h : Fin 4) (k v : Fin 128), xs (ix3 h k v) = cots (XG V c t.val h) (255 - (n0 t.val + 7)) k v

theorem leftA8 (t : Fin cfg1.N) (h : t.val % 32 = 0) (ci : Fin 8) (g : Fin 4) (r : Fin 64) (l : Fin 128) :
    rd8 (atA V c t h).1 (ix2 (row ci r) (lane g l)) = (XG V c t.val g (n0 t.val + ci.val)).du (cots (XG V c t.val g) (255 - (n0 t.val + ci.val))) r l :=
  A_out8 (R := reads V c hst t) (hz := by unfold n0; omega) (hn := n0_le t) rfl (coverA_8 V c t h) VO8 VO8.junk ci g r l

theorem leftB8 (t : Fin cfg1.N) (h : ¬ t.val % 32 = 0) (xs : Vec Ideal S4x128x128 .f32) (hxs : Found V c t xs) (ci : Fin 8) (g : Fin 4) (r : Fin 64) (l : Fin 128) :
    rd8 (atB V c t h xs).1 (ix2 (row ci r) (lane g l)) = (XG V c t.val g (n0 t.val + ci.val)).du (cots (XG V c t.val g) (255 - (n0 t.val + ci.val))) r l :=
  B_out8 (R := reads V c hst t) (hxs := hxs) (hn := n0_le t) rfl (coverB_8 V c t h xs) VO8 VO8.junk ci g r l

theorem leftA9 (t : Fin cfg1.N) (h : t.val % 32 = 0) (ci : Fin 8) (g : Fin 4) (r : Fin 64) (l : Fin 128) :
    rd9 (atA V c t h).2.1 (ix2 (row ci r) (lane g l)) = (XG V c t.val g (n0 t.val + ci.val)).dw (states (XG V c t.val g) (n0 t.val + ci.val)) (cots (XG V c t.val g) (255 - (n0 t.val + ci.val))) r l :=
  A_out9 (R := reads V c hst t) (hz := by unfold n0; omega) (hn := n0_le t) rfl (coverA_9 V c t h) VO9 VO9.junk ci g r l

theorem leftB9 (t : Fin cfg1.N) (h : ¬ t.val % 32 = 0) (xs : Vec Ideal S4x128x128 .f32) (hxs : Found V c t xs) (ci : Fin 8) (g : Fin 4) (r : Fin 64) (l : Fin 128) :
    rd9 (atB V c t h xs).2.1 (ix2 (row ci r) (lane g l)) = (XG V c t.val g (n0 t.val + ci.val)).dw (states (XG V c t.val g) (n0 t.val + ci.val)) (cots (XG V c t.val g) (255 - (n0 t.val + ci.val))) r l :=
  B_out9 (R := reads V c hst t) (hxs := hxs) (hn := n0_le t) rfl (coverB_9 V c t h xs) VO9 VO9.junk ci g r l

theorem leftA10 (t : Fin cfg1.N) (h : t.val % 32 = 0) (ci : Fin 8) (g : Fin 4) (r : Fin 64) (l : Fin 128) :
    rd10 (atA V c t h).2.2.1 (ix2 (row ci r) (lane g l)) = (XG V c t.val g (n0 t.val + ci.val)).dqd (states (XG V c t.val g) (n0 t.val + ci.val)) r l :=
  A_out10 (R := reads V c hst t) (hz := by unfold n0; omega) (hn := n0_le t) rfl (coverA_10 V c t h) VO10 VO10.junk ci g r l

theorem leftB10 (t : Fin cfg1.N) (h : ¬ t.val % 32 = 0) (xs : Vec Ideal S4x128x128 .f32) (hxs : Found V c t xs) (ci : Fin 8) (g : Fin 4) (r : Fin 64) (l : Fin 128) :
    rd10 (atB V c t h xs).2.2.1 (ix2 (row ci r) (lane g l)) = (XG V c t.val g (n0 t.val + ci.val)).dqd (states (XG V c t.val g) (n0 t.val + ci.val)) r l :=
  B_out10 (R := reads V c hst t) (hxs := hxs) (hn := n0_le t) rfl (coverB_10 V c t h xs) VO10 VO10.junk ci g r l

theorem leftA11 (t : Fin cfg1.N) (h : t.val % 32 = 0) (ci : Fin 8) (g : Fin 4) (r : Fin 64) (l : Fin 128) :
    rd11 (atA V c t h).2.2.2.1 (ix2 (row ci r) (lane g l)) = (XG V c t.val g (n0 t.val + ci.val)).dkd (states (XG V c t.val g) (n0 t.val + ci.val)) (cots (XG V c t.val g) (255 - (n0 t.val + ci.val))) r l :=
  A_out11 (R := reads V c hst t) (hz := by unfold n0; omega) (hn := n0_le t) rfl (coverA_11 V c t h) VO11 VO11.junk ci g r l

theorem leftB11 (t : Fin cfg1.N) (h : ¬ t.val % 32 = 0) (xs : Vec Ideal S4x128x128 .f32) (hxs : Found V c t xs) (ci : Fin 8) (g : Fin 4) (r : Fin 64) (l : Fin 128) :
    rd11 (atB V c t h xs).2.2.2.1 (ix2 (row ci r) (lane g l)) = (XG V c t.val g (n0 t.val + ci.val)).dkd (states (XG V c t.val g) (n0 t.val + ci.val)) (cots (XG V c t.val g) (255 - (n0 t.val + ci.val))) r l :=
  B_out11 (R := reads V c hst t) (hxs := hxs) (hn := n0_le t) rfl (coverB_11 V c t h xs) VO11 VO11.junk ci g r l

theorem leftA12 (t : Fin cfg1.N) (h : t.val % 32 = 0) (ci : Fin 8) (g : Fin 4) (r s : Fin 64) :
    rd12 (atA V c t h).2.2.2.2.1 (ix3 g (row ci r) s) = (XG V c t.val g (n0 t.val + ci.val)).dqk (states (XG V c t.val g) (n0 t.val + ci.val)) r s :=
  A_out12 (R := reads V c hst t) (hz := by unfold n0; omega) (hn := n0_le t) rfl (coverA_12 V c t h) VO12 VO12.junk ci g r s

theorem leftB12 (t : Fin cfg1.N) (h : ¬ t.val % 32 = 0) (xs : Vec Ideal S4x128x128 .f32) (hxs : Found V c t xs) (ci : Fin 8) (g : Fin 4) (r s : Fin 64) :
    rd12 (atB V c t h xs).2.2.2.2.1 (ix3 g (row ci r) s) = (XG V c t.val g (n0 t.val + ci.val)).dqk (states (XG V c t.val g) (n0 t.val + ci.val)) r s :=
  B_out12 (R := reads V c hst t) (hxs := hxs) (hn := n0_le t) rfl (coverB_12 V c t h xs) VO12 VO12.junk ci g r s

theorem leftA13 (t : Fin cfg1.N) (h : t.val % 32 = 0) (ci : Fin 8) (g : Fin 4) (l : Fin 128) :
    rd13 (atA V c t h).2.2.2.2.2.1 (ix2 ci (lane g l)) = Chunk.dgl (states (XG V c t.val g) (n0 t.val + ci.val)) (cots (XG V c t.val g) (255 - (n0 t.val + ci.val))) :=
  A_out13 (R := reads V c hst t) (hz := by unfold n0; omega) (hn := n0_le t) rfl (coverA_13 V c t h) VO13 VO13.junk ci g l

theorem leftB13 (t : Fin cfg1.N) (h : ¬ t.val % 32 = 0) (xs : Vec Ideal S4x128x128 .f32) (hxs : Found V c t xs) (ci : Fin 8) (g : Fin 4) (l : Fin 128) :
    rd13 (atB V c t h xs).2.2.2.2.2.1 (ix2 ci (lane g l)) = Chunk.dgl (states (XG V c t.val g) (n0 t.val + ci.val)) (cots (XG V c t.val g) (255 - (n0 t.val + ci.val))) :=
  B_out13 (R := reads V c hst t) (hxs := hxs) (hn := n0_le t) rfl (coverB_13 V c t h xs) VO13 VO13.junk ci g l

theorem leftAS (t : Fin cfg1.N) (h : t.val % 32 = 0) (g : Fin 4) (k v : Fin 128) :
    rdS (atA V c t h).2.2.2.2.2.2.1 (ix3 g k v) = cots (XG V c t.val g) (255 - n0 t.val + 1) k v :=
  A_outS (L := (atA V c t h).2.2.2.2.2.2.1) (R := reads V c hst t) (hz := by unfold n0; omega) (hn := n0_le t) rfl VS VS.junk g k v

theorem leftBS (t : Fin cfg1.N) (h : ¬ t.val % 32 = 0) (xs : Vec Ideal S4x128x128 .f32) (hxs : Found V c t xs) (g : Fin 4) (k v : Fin 128) :
    rdS (atB V c t h xs).2.2.2.2.2.2.1 (ix3 g k v) = cots (XG V c t.val g) (255 - n0 t.val + 1) k v :=
  B_outS (L := (atB V c t h xs).2.2.2.2.2.2.1) (R := reads V c hst t) (hxs := hxs) (hn := n0_le t) rfl VS VS.junk g k v

omit hst in
theorem outA_8 (t : Fin cfg1.N) (h : t.val % 32 = 0) : (outA V c t h).1 = rd8 (atA V c t h).1 := by unfold outA; dsimp only
omit hst in
theorem outB_8 (t : Fin cfg1.N) (h : ¬ t.val % 32 = 0) (xs : Vec Ideal S4x128x128 .f32) : (outB V c t h xs).1 = rd8 (atB V c t h xs).1 := by unfold outB; dsimp only
omit hst in
theorem outA_9 (t : Fin cfg1.N) (h : t.val % 32 = 0) : (outA V c t h).2.1 = rd9 (atA V c t h).2.1 := by unfold outA; dsimp only
omit hst in
theorem outB_9 (t : Fin cfg1.N) (h : ¬ t.val % 32 = 0) (xs : Vec Ideal S4x128x128 .f32) : (outB V c t h xs).2.1 = rd9 (atB V c t h xs).2.1 := by unfold outB; dsimp only
omit hst in
theorem outA_10 (t : Fin cfg1.N) (h : t.val % 32 = 0) : (outA V c t h).2.2.1 = rd10 (atA V c t h).2.2.1 := by unfold outA; dsimp only
omit hst in
theorem outB_10 (t : Fin cfg1.N) (h : ¬ t.val % 32 = 0) (xs : Vec Ideal S4x128x128 .f32) : (outB V c t h xs).2.2.1 = rd10 (atB V c t h xs).2.2.1 := by unfold outB; dsimp only
omit hst in
theorem outA_11 (t : Fin cfg1.N) (h : t.val % 32 = 0) : (outA V c t h).2.2.2.1 = rd11 (atA V c t h).2.2.2.1 := by unfold outA; dsimp only
omit hst in
theorem outB_11 (t : Fin cfg1.N) (h : ¬ t.val % 32 = 0) (xs : Vec Ideal S4x128x128 .f32) : (outB V c t h xs).2.2.2.1 = rd11 (atB V c t h xs).2.2.2.1 := by unfold outB; dsimp only
omit hst in
theorem outA_12 (t : Fin cfg1.N) (h : t.val % 32 = 0) : (outA V c t h).2.2.2.2.1 = rd12 (atA V c t h).2.2.2.2.1 := by unfold outA; dsimp only
omit hst in
theorem outB_12 (t : Fin cfg1.N) (h : ¬ t.val % 32 = 0) (xs : Vec Ideal S4x128x128 .f32) : (outB V c t h xs).2.2.2.2.1 = rd12 (atB V c t h xs).2.2.2.2.1 := by unfold outB; dsimp only
omit hst in
theorem outA_13 (t : Fin cfg1.N) (h : t.val % 32 = 0) : (outA V c t h).2.2.2.2.2.1 = rd13 (atA V c t h).2.2.2.2.2.1 := by unfold outA; dsimp only
omit hst in
theorem outB_13 (t : Fin cfg1.N) (h : ¬ t.val % 32 = 0) (xs : Vec Ideal S4x128x128 .f32) : (outB V c t h xs).2.2.2.2.2.1 = rd13 (atB V c t h xs).2.2.2.2.2.1 := by unfold outB; dsimp only
omit hst in
theorem outA_S (t : Fin cfg1.N) (h : t.val % 32 = 0) : (outA V c t h).2.2.2.2.2.2 = rdS (atA V c t h).2.2.2.2.2.2.1 := by unfold outA; dsimp only
omit hst in
theorem outB_S (t : Fin cfg1.N) (h : ¬ t.val % 32 = 0) (xs : Vec Ideal S4x128x128 .f32) : (outB V c t h xs).2.2.2.2.2.2 = rdS (atB V c t h xs).2.2.2.2.2.2.1 := by unfold outB; dsimp only

theorem before_of (t : Fin cfg1.N) (h : ¬ t.val % 32 = 0) (xs : Vec Ideal S4x128x128 .f32)
    (hxs : ∀ (h : Fin 4) (k v : Fin 128), xs (ix3 h k v) = cots (XG V c (t.val - 1) h) (255 - n0 (t.val - 1) + 1) k v) (g : Fin 4) (k v : Fin 128) :
    xs (ix3 g k v) = cots (XG V c t.val g) (255 - (n0 t.val + 7)) k v := by
  rw [hxs]
  unfold XG n0
  rw [show hg (t.val - 1) g = hg t.val g from Fin.ext (by unfold hg; dsimp only; omega), show 255 - 8 * (31 - (t.val - 1) % 32) + 1 = 255 - (8 * (31 - t.val % 32) + 7) by omega]

/-- After point `t` the scratch holds the gradient carried out of chunk `n0 t`. -/
theorem scratch : ∀ (n : ℕ) (hn : n < cfg1.N) (h : Fin 4) (k v : Fin 128), (outsAt V c n hn).2.2.2.2.2.2 (ix3 h k v) = cots (XG V c n h) (255 - n0 n + 1) k v
  | 0, hn, g, k, v => by
    rw [outsAt_A V c ⟨0, hn⟩ (Nat.zero_mod _), outA_S]
    exact leftAS V c hst ⟨0, hn⟩ (Nat.zero_mod _) g k v
  | n + 1, hn, g, k, v => by
    by_cases h : (n + 1) % 32 = 0
    · rw [outsAt_A V c ⟨n + 1, hn⟩ h, outA_S]
      exact leftAS V c hst ⟨n + 1, hn⟩ h g k v
    · rw [outsAt_B V c ⟨n + 1, hn⟩ h, outB_S]
      exact leftBS V c hst ⟨n + 1, hn⟩ h _ (before_of V c hst ⟨n + 1, hn⟩ h _ (fun h k v => scratch n _ h k v)) g k v

theorem before (t : Fin cfg1.N) (h : ¬ t.val % 32 = 0) (g : Fin 4) (k v : Fin 128) :
    (outsAt V c (t.val - 1) (Nat.lt_of_le_of_lt (Nat.sub_le _ _) t.isLt)).2.2.2.2.2.2 (ix3 g k v) = cots (XG V c t.val g) (255 - (n0 t.val + 7)) k v :=
  before_of V c hst t h _ (fun h k v => scratch V c hst _ _ h k v) g k v

theorem at8 (t : Fin cfg1.N) (ci : Fin 8) (g : Fin 4) (r : Fin 64) (l : Fin 128) : (outsAt V c t.val t.isLt).1 (ix2 (row ci r) (lane g l)) = (XG V c t.val g (n0 t.val + ci.val)).du (cots (XG V c t.val g) (255 - (n0 t.val + ci.val))) r l := by
  by_cases h : t.val % 32 = 0
  · rw [outsAt_A V c t h, outA_8]
    exact leftA8 V c hst t h ci g r l
  · rw [outsAt_B V c t h, outB_8]
    exact leftB8 V c hst t h _ (before V c hst t h) ci g r l

theorem at9 (t : Fin cfg1.N) (ci : Fin 8) (g : Fin 4) (r : Fin 64) (l : Fin 128) : (outsAt V c t.val t.isLt).2.1 (ix2 (row ci r) (lane g l)) = (XG V c t.val g (n0 t.val + ci.val)).dw (states (XG V c t.val g) (n0 t.val + ci.val)) (cots (XG V c t.val g) (255 - (n0 t.val + ci.val))) r l := by
  by_cases h : t.val % 32 = 0
  · rw [outsAt_A V c t h, outA_9]
    exact leftA9 V c hst t h ci g r l
  · rw [outsAt_B V c t h, outB_9]
    exact leftB9 V c hst t h _ (before V c hst t h) ci g r l

theorem at10 (t : Fin cfg1.N) (ci : Fin 8) (g : Fin 4) (r : Fin 64) (l : Fin 128) : (outsAt V c t.val t.isLt).2.2.1 (ix2 (row ci r) (lane g l)) = (XG V c t.val g (n0 t.val + ci.val)).dqd (states (XG V c t.val g) (n0 t.val + ci.val)) r l := by
  by_cases h : t.val % 32 = 0
  · rw [outsAt_A V c t h, outA_10]
    exact leftA10 V c hst t h ci g r l
  · rw [outsAt_B V c t h, outB_10]
    exact leftB10 V c hst t h _ (before V c hst t h) ci g r l

theorem at11 (t : Fin cfg1.N) (ci : Fin 8) (g : Fin 4) (r : Fin 64) (l : Fin 128) : (outsAt V c t.val t.isLt).2.2.2.1 (ix2 (row ci r) (lane g l)) = (XG V c t.val g (n0 t.val + ci.val)).dkd (states (XG V c t.val g) (n0 t.val + ci.val)) (cots (XG V c t.val g) (255 - (n0 t.val + ci.val))) r l := by
  by_cases h : t.val % 32 = 0
  · rw [outsAt_A V c t h, outA_11]
    exact leftA11 V c hst t h ci g r l
  · rw [outsAt_B V c t h, outB_11]
    exact leftB11 V c hst t h _ (before V c hst t h) ci g r l

theorem at12 (t : Fin cfg1.N) (ci : Fin 8) (g : Fin 4) (r s : Fin 64) : (outsAt V c t.val t.isLt).2.2.2.2.1 (ix3 g (row ci r) s) = (XG V c t.val g (n0 t.val + ci.val)).dqk (states (XG V c t.val g) (n0 t.val + ci.val)) r s := by
  by_cases h : t.val % 32 = 0
  · rw [outsAt_A V c t h, outA_12]
    exact leftA12 V c hst t h ci g r s
  · rw [outsAt_B V c t h, outB_12]
    exact leftB12 V c hst t h _ (before V c hst t h) ci g r s

theorem at13 (t : Fin cfg1.N) (ci : Fin 8) (g : Fin 4) (l : Fin 128) : (outsAt V c t.val t.isLt).2.2.2.2.2.1 (ix2 ci (lane g l)) = Chunk.dgl (states (XG V c t.val g) (n0 t.val + ci.val)) (cots (XG V c t.val g) (255 - (n0 t.val + ci.val))) := by
  by_cases h : t.val % 32 = 0
  · rw [outsAt_A V c t h, outA_13]
    exact leftA13 V c hst t h ci g l
  · rw [outsAt_B V c t h, outB_13]
    exact leftB13 V c hst t h _ (before V c hst t h) ci g l

/-! The arrays. -/

def dubArr : Vec Ideal S16384x1024 .f32 := fun y =>
  (X V c (hd (y 1)) ((y 0).val / 64)).du (cots (X V c (hd (y 1))) (255 - (y 0).val / 64)) (rw64 (y 0)) (ln (y 1))

def dwArr : Vec Ideal S16384x1024 .f32 := fun y =>
  (X V c (hd (y 1)) ((y 0).val / 64)).dw (states (X V c (hd (y 1))) ((y 0).val / 64)) (cots (X V c (hd (y 1))) (255 - (y 0).val / 64)) (rw64 (y 0)) (ln (y 1))

def dqdArr : Vec Ideal S16384x1024 .f32 := fun y =>
  (X V c (hd (y 1)) ((y 0).val / 64)).dqd (states (X V c (hd (y 1))) ((y 0).val / 64)) (rw64 (y 0)) (ln (y 1))

def dkdArr : Vec Ideal S16384x1024 .f32 := fun y =>
  (X V c (hd (y 1)) ((y 0).val / 64)).dkd (states (X V c (hd (y 1))) ((y 0).val / 64)) (cots (X V c (hd (y 1))) (255 - (y 0).val / 64)) (rw64 (y 0)) (ln (y 1))

def dqkArr : Vec Ideal S8x16384x64 .f32 := fun y =>
  (X V c (y 0) ((y 1).val / 64)).dqk (states (X V c (y 0)) ((y 1).val / 64)) (rw64 (y 1)) (y 2)

def dglArr : Vec Ideal S256x1024 .f32 := fun y =>
  Chunk.dgl (states (X V c (hd (y 1))) (y 0).val) (cots (X V c (hd (y 1))) (255 - (y 0).val))

theorem dub_point (t : Fin cfg1.N) (a : Fin 512) (x : Fin 512) :
    (outsAt V c t.val t.isLt).1 (ix2 a x) = dubArr V c ((win1_8.blk t).view.emb (ix2 a x)) := by
  have ht : t.val < 64 := Nat.lt_of_lt_of_eq t.isLt N_1
  have e0 : ((win1_8.blk t).view.emb (ix2 a x) 0).val = (31 - t.val % 32) * 512 + a.val := by blk_simp [idx t]
  have e1 : ((win1_8.blk t).view.emb (ix2 a x) 1).val = t.val / 32 * 512 + x.val := by blk_simp [idx t]
  have h := at8 V c hst t ⟨a.val / 64, by omega⟩ ⟨x.val / 128, by omega⟩ ⟨a.val % 64, by omega⟩ ⟨x.val % 128, by omega⟩
  rw [show row ⟨a.val / 64, by omega⟩ ⟨a.val % 64, by omega⟩ = a from Fin.ext (by dsimp only; omega),
    show lane ⟨x.val / 128, by omega⟩ ⟨x.val % 128, by omega⟩ = x from Fin.ext (by dsimp only; omega)] at h
  rw [h]
  unfold dubArr XG n0
  have eh : hg t.val ⟨x.val / 128, by omega⟩ = hd ((win1_8.blk t).view.emb (ix2 a x) 1) := Fin.ext (by show _ = _ / 128; rw [e1]; show (4 * (t.val / 32) + x.val / 128) % 8 = _; omega)
  have en : 8 * (31 - t.val % 32) + a.val / 64 = ((win1_8.blk t).view.emb (ix2 a x) 0).val / 64 := by rw [e0]; omega
  rw [eh, en]
  congr 1
  · exact Fin.ext (by dsimp only; rw [e0]; omega)
  · exact Fin.ext (by dsimp only; rw [e1]; omega)

theorem dw_point (t : Fin cfg1.N) (a : Fin 512) (x : Fin 512) :
    (outsAt V c t.val t.isLt).2.1 (ix2 a x) = dwArr V c ((win1_9.blk t).view.emb (ix2 a x)) := by
  have ht : t.val < 64 := Nat.lt_of_lt_of_eq t.isLt N_1
  have e0 : ((win1_9.blk t).view.emb (ix2 a x) 0).val = (31 - t.val % 32) * 512 + a.val := by blk_simp [idx t]
  have e1 : ((win1_9.blk t).view.emb (ix2 a x) 1).val = t.val / 32 * 512 + x.val := by blk_simp [idx t]
  have h := at9 V c hst t ⟨a.val / 64, by omega⟩ ⟨x.val / 128, by omega⟩ ⟨a.val % 64, by omega⟩ ⟨x.val % 128, by omega⟩
  rw [show row ⟨a.val / 64, by omega⟩ ⟨a.val % 64, by omega⟩ = a from Fin.ext (by dsimp only; omega),
    show lane ⟨x.val / 128, by omega⟩ ⟨x.val % 128, by omega⟩ = x from Fin.ext (by dsimp only; omega)] at h
  rw [h]
  unfold dwArr XG n0
  have eh : hg t.val ⟨x.val / 128, by omega⟩ = hd ((win1_9.blk t).view.emb (ix2 a x) 1) := Fin.ext (by show _ = _ / 128; rw [e1]; show (4 * (t.val / 32) + x.val / 128) % 8 = _; omega)
  have en : 8 * (31 - t.val % 32) + a.val / 64 = ((win1_9.blk t).view.emb (ix2 a x) 0).val / 64 := by rw [e0]; omega
  rw [eh, en]
  congr 1
  · exact Fin.ext (by dsimp only; rw [e0]; omega)
  · exact Fin.ext (by dsimp only; rw [e1]; omega)

theorem dqd_point (t : Fin cfg1.N) (a : Fin 512) (x : Fin 512) :
    (outsAt V c t.val t.isLt).2.2.1 (ix2 a x) = dqdArr V c ((win1_10.blk t).view.emb (ix2 a x)) := by
  have ht : t.val < 64 := Nat.lt_of_lt_of_eq t.isLt N_1
  have e0 : ((win1_10.blk t).view.emb (ix2 a x) 0).val = (31 - t.val % 32) * 512 + a.val := by blk_simp [idx t]
  have e1 : ((win1_10.blk t).view.emb (ix2 a x) 1).val = t.val / 32 * 512 + x.val := by blk_simp [idx t]
  have h := at10 V c hst t ⟨a.val / 64, by omega⟩ ⟨x.val / 128, by omega⟩ ⟨a.val % 64, by omega⟩ ⟨x.val % 128, by omega⟩
  rw [show row ⟨a.val / 64, by omega⟩ ⟨a.val % 64, by omega⟩ = a from Fin.ext (by dsimp only; omega),
    show lane ⟨x.val / 128, by omega⟩ ⟨x.val % 128, by omega⟩ = x from Fin.ext (by dsimp only; omega)] at h
  rw [h]
  unfold dqdArr XG n0
  have eh : hg t.val ⟨x.val / 128, by omega⟩ = hd ((win1_10.blk t).view.emb (ix2 a x) 1) := Fin.ext (by show _ = _ / 128; rw [e1]; show (4 * (t.val / 32) + x.val / 128) % 8 = _; omega)
  have en : 8 * (31 - t.val % 32) + a.val / 64 = ((win1_10.blk t).view.emb (ix2 a x) 0).val / 64 := by rw [e0]; omega
  rw [eh, en]
  congr 1
  · exact Fin.ext (by dsimp only; rw [e0]; omega)
  · exact Fin.ext (by dsimp only; rw [e1]; omega)

theorem dkd_point (t : Fin cfg1.N) (a : Fin 512) (x : Fin 512) :
    (outsAt V c t.val t.isLt).2.2.2.1 (ix2 a x) = dkdArr V c ((win1_11.blk t).view.emb (ix2 a x)) := by
  have ht : t.val < 64 := Nat.lt_of_lt_of_eq t.isLt N_1
  have e0 : ((win1_11.blk t).view.emb (ix2 a x) 0).val = (31 - t.val % 32) * 512 + a.val := by blk_simp [idx t]
  have e1 : ((win1_11.blk t).view.emb (ix2 a x) 1).val = t.val / 32 * 512 + x.val := by blk_simp [idx t]
  have h := at11 V c hst t ⟨a.val / 64, by omega⟩ ⟨x.val / 128, by omega⟩ ⟨a.val % 64, by omega⟩ ⟨x.val % 128, by omega⟩
  rw [show row ⟨a.val / 64, by omega⟩ ⟨a.val % 64, by omega⟩ = a from Fin.ext (by dsimp only; omega),
    show lane ⟨x.val / 128, by omega⟩ ⟨x.val % 128, by omega⟩ = x from Fin.ext (by dsimp only; omega)] at h
  rw [h]
  unfold dkdArr XG n0
  have eh : hg t.val ⟨x.val / 128, by omega⟩ = hd ((win1_11.blk t).view.emb (ix2 a x) 1) := Fin.ext (by show _ = _ / 128; rw [e1]; show (4 * (t.val / 32) + x.val / 128) % 8 = _; omega)
  have en : 8 * (31 - t.val % 32) + a.val / 64 = ((win1_11.blk t).view.emb (ix2 a x) 0).val / 64 := by rw [e0]; omega
  rw [eh, en]
  congr 1
  · exact Fin.ext (by dsimp only; rw [e0]; omega)
  · exact Fin.ext (by dsimp only; rw [e1]; omega)

theorem dqk_point (t : Fin cfg1.N) (g : Fin 4) (a : Fin 512) (s : Fin 64) :
    (outsAt V c t.val t.isLt).2.2.2.2.1 (ix3 g a s) = dqkArr V c ((win1_12.blk t).view.emb (ix3 g a s)) := by
  have ht : t.val < 64 := Nat.lt_of_lt_of_eq t.isLt N_1
  have e0 : ((win1_12.blk t).view.emb (ix3 g a s) 0).val = t.val / 32 * 4 + g.val := by blk_simp [idx t]
  have e1 : ((win1_12.blk t).view.emb (ix3 g a s) 1).val = (31 - t.val % 32) * 512 + a.val := by blk_simp [idx t]
  have e2 : (win1_12.blk t).view.emb (ix3 g a s) 2 = s := by apply Fin.ext; blk_simp [idx t]
  have h := at12 V c hst t ⟨a.val / 64, by omega⟩ g ⟨a.val % 64, by omega⟩ s
  rw [show row ⟨a.val / 64, by omega⟩ ⟨a.val % 64, by omega⟩ = a from Fin.ext (by dsimp only; omega)] at h
  rw [h]
  unfold dqkArr XG n0
  have eh : hg t.val g = (win1_12.blk t).view.emb (ix3 g a s) 0 := Fin.ext (by rw [e0]; show (4 * (t.val / 32) + g.val) % 8 = _; omega)
  have en : 8 * (31 - t.val % 32) + a.val / 64 = ((win1_12.blk t).view.emb (ix3 g a s) 1).val / 64 := by rw [e1]; omega
  rw [eh, en, e2]
  congr 1
  exact Fin.ext (by dsimp only; rw [e1]; omega)

theorem dgl_point (t : Fin cfg1.N) (a : Fin 8) (x : Fin 512) :
    (outsAt V c t.val t.isLt).2.2.2.2.2.1 (ix2 a x) = dglArr V c ((win1_13.blk t).view.emb (ix2 a x)) := by
  have ht : t.val < 64 := Nat.lt_of_lt_of_eq t.isLt N_1
  have e0 : ((win1_13.blk t).view.emb (ix2 a x) 0).val = (31 - t.val % 32) * 8 + a.val := by blk_simp [idx t]
  have e1 : ((win1_13.blk t).view.emb (ix2 a x) 1).val = t.val / 32 * 512 + x.val := by blk_simp [idx t]
  have h := at13 V c hst t a ⟨x.val / 128, by omega⟩ ⟨x.val % 128, by omega⟩
  rw [show lane ⟨x.val / 128, by omega⟩ ⟨x.val % 128, by omega⟩ = x from Fin.ext (by dsimp only; omega)] at h
  rw [h]
  unfold dglArr XG n0
  have eh : hg t.val ⟨x.val / 128, by omega⟩ = hd ((win1_13.blk t).view.emb (ix2 a x) 1) := Fin.ext (by show _ = _ / 128; rw [e1]; show (4 * (t.val / 32) + x.val / 128) % 8 = _; omega)
  have en : 8 * (31 - t.val % 32) + a.val = ((win1_13.blk t).view.emb (ix2 a x) 0).val := by rw [e0]; omega
  rw [eh, en]

theorem dub_arr : (dat V c).arrAt 8 cfg1.N = dubArr V c := by
  refine (dat V c).arrAt_eq_of_covers 8 _ (by decide +kernel) fun t hf y => ?_
  rw [after8]
  revert y
  show ∀ y : S512x512.Idx, _
  intro y
  idx_vars y
  exact dub_point V c hst t _ _

theorem dw_arr : (dat V c).arrAt 9 cfg1.N = dwArr V c := by
  refine (dat V c).arrAt_eq_of_covers 9 _ (by decide +kernel) fun t hf y => ?_
  rw [after9]
  revert y
  show ∀ y : S512x512.Idx, _
  intro y
  idx_vars y
  exact dw_point V c hst t _ _

theorem dqd_arr : (dat V c).arrAt 10 cfg1.N = dqdArr V c := by
  refine (dat V c).arrAt_eq_of_covers 10 _ (by decide +kernel) fun t hf y => ?_
  rw [after10]
  revert y
  show ∀ y : S512x512.Idx, _
  intro y
  idx_vars y
  exact dqd_point V c hst t _ _

theorem dkd_arr : (dat V c).arrAt 11 cfg1.N = dkdArr V c := by
  refine (dat V c).arrAt_eq_of_covers 11 _ (by decide +kernel) fun t hf y => ?_
  rw [after11]
  revert y
  show ∀ y : S512x512.Idx, _
  intro y
  idx_vars y
  exact dkd_point V c hst t _ _

theorem dqk_arr : (dat V c).arrAt 12 cfg1.N = dqkArr V c := by
  refine (dat V c).arrAt_eq_of_covers 12 _ (by decide +kernel) fun t hf y => ?_
  rw [after12]
  revert y
  show ∀ y : S4x512x64.Idx, _
  intro y
  idx_vars y
  exact dqk_point V c hst t _ _ _

theorem dgl_arr : (dat V c).arrAt 13 cfg1.N = dglArr V c := by
  refine (dat V c).arrAt_eq_of_covers 13 _ (by decide +kernel) fun t hf y => ?_
  rw [after13]
  revert y
  show ∀ y : S8x512.Idx, _
  intro y
  idx_vars y
  exact dgl_point V c hst t _ _

end Cert.Proof.Bwd

end
-- ==== Proof.KernelVal.lean ====
module

public import proofs.«01_k».proof.Proof.KernelRun
public import proofs.«01_k».proof.Proof.FwdArr
public import proofs.«01_k».proof.Proof.BwdArr

@[expose] public section

set_option maxRecDepth 16384

noncomputable section

/-! What the two calls leave in the seven results, of the arguments. -/

namespace Cert.Proof.KernelRun

open Cert.KernelIdeal Cert.KernelIdeal.Gen
open Idealize.ShloMosaic Idealize.ShloMosaic.TcCoe Idealize.ShloMosaic.Tactic
open Idealize.ShloMosaic.Pipeline

variable (m : (ℓ : Loc nD τ sig) → Buf (Elt Ideal) ℓ) (c : Dev nD)

/-- Head `h`'s chunks in the arguments. -/
def X (h : Fin 8) (n : ℕ) : Chunk :=
  chunkOf (W0 m c main_arg0) (W0 m c main_arg1) (W0 m c main_arg2) (W0 m c main_arg3) (W0 m c main_arg4) (spread (W0 m c main_arg5)) (W0 m c main_arg6) h n

theorem W1_arg (b : Ref sig .tc) (hb : b ∉ hostOps0_W) : W1 m c (Proc.devRef .tc b) = W0 m c (Proc.devRef .tc b) :=
  StableHlo.after_of_writes_sub hostOps0 _ hostOps0_writes hb

theorem W1_gl : W1 m c main_v1 = spread (W0 m c main_arg5) := by
  unfold W1 hostOps0
  after_results
  funext y
  idx_vars y
  unfold spread
  pointwise

theorem X1 : Fwd.X (W1 m) c = X m c := by
  funext h n
  unfold Fwd.X X
  rw [W1_arg m c main_arg0 (by decide), W1_arg m c main_arg1 (by decide), W1_arg m c main_arg2 (by decide), W1_arg m c main_arg3 (by decide),
    W1_arg m c main_arg4 (by decide), W1_arg m c main_arg6 (by decide), W1_gl]

theorem W2_keep (b : Ref sig .tc) (h0 : ∀ w, arrRef spec0 w = b → (cfg0.win w).isOut = false) : W2 m c (Proc.devRef .tc b) = W1 m c (Proc.devRef .tc b) := by
  unfold W2
  exact afterRegion_keeps (Fwd.dat (W1 m) c) (W1 m c) launch0.win.arr_inj (fun _ => rfl) b h0

theorem X2 : Bwd.X (W2 m) c = X m c := by
  funext h n
  unfold Bwd.X
  rw [W2_keep m c main_arg0 (by decide), W2_keep m c main_arg1 (by decide), W2_keep m c main_arg2 (by decide), W2_keep m c main_arg3 (by decide),
    W2_keep m c main_arg4 (by decide), W2_keep m c main_arg6 (by decide), W2_keep m c main_v1 (by decide)]
  exact congrFun (congrFun (X1 m c) h) n

theorem W2_st : Bwd.HoldsSt (W2 m) c := by
  intro h n hn k v
  have e : W2 m c main_v2_1 = Fwd.stArr (W1 m) c := (afterRegion_arr (Fwd.dat (W1 m) c) (W1 m c) launch0.win.arr_inj 7).trans (Fwd.st_arr (W1 m) c)
  rw [e, X2, ← X1]
  show states (Fwd.X (W1 m) c h) ((128 * n + k.val) / 128) ⟨(128 * n + k.val) % 128, _⟩ v = _
  rw [show (128 * n + k.val) / 128 = n by omega]
  congr 1
  exact Fin.ext (by dsimp only; omega)

theorem W3_o : W3 m c main_v2_0 = oOf (X m c) := by
  unfold W3
  rw [afterRegion_keeps (Bwd.dat (W2 m) c) (W2 m c) launch1.win.arr_inj (fun _ => rfl) main_v2_0 (by decide), ← X1]
  exact (afterRegion_arr (Fwd.dat (W1 m) c) (W1 m c) launch0.win.arr_inj 6).trans (Fwd.o_arr (W1 m) c)

theorem W3_dub : W3 m c main_v3_0 = dubOf (X m c) := by
  rw [← X2]
  exact (afterRegion_arr (Bwd.dat (W2 m) c) (W2 m c) launch1.win.arr_inj 8).trans (Bwd.dub_arr (W2 m) c (W2_st m c))

theorem W3_dw : W3 m c main_v3_1 = dwOf (X m c) := by
  rw [← X2]
  exact (afterRegion_arr (Bwd.dat (W2 m) c) (W2 m c) launch1.win.arr_inj 9).trans (Bwd.dw_arr (W2 m) c (W2_st m c))

theorem W3_dqd : W3 m c main_v3_2 = dqdOf (X m c) := by
  rw [← X2]
  exact (afterRegion_arr (Bwd.dat (W2 m) c) (W2 m c) launch1.win.arr_inj 10).trans (Bwd.dqd_arr (W2 m) c (W2_st m c))

theorem W3_dkd : W3 m c main_v3_3 = dkdOf (X m c) := by
  rw [← X2]
  exact (afterRegion_arr (Bwd.dat (W2 m) c) (W2 m c) launch1.win.arr_inj 11).trans (Bwd.dkd_arr (W2 m) c (W2_st m c))

theorem W3_dqk : W3 m c main_v3_4 = dqkOf (X m c) := by
  rw [← X2]
  exact (afterRegion_arr (Bwd.dat (W2 m) c) (W2 m c) launch1.win.arr_inj 12).trans (Bwd.dqk_arr (W2 m) c (W2_st m c))

theorem W3_dgl : W3 m c main_v3_5 = dglOf (X m c) := by
  rw [← X2]
  exact (afterRegion_arr (Bwd.dat (W2 m) c) (W2 m c) launch1.win.arr_inj 13).trans (Bwd.dgl_arr (W2 m) c (W2_st m c))

end Cert.Proof.KernelRun

end
-- ==== Proof.Finite.lean ====
module

public import proofs.«01_k».proof.Defs
public import proofs.«01_k».proof.Proof.Reals
public import proofs.«01_k».proof.Proof.KernelVal

@[expose] public section

noncomputable section

/-! What the precondition says of the kernel's chunks. -/

namespace Cert.Proof

open Idealize.ShloMosaic

instance finite_facts : Cert.Pre_finite.Facts where
  bcast_S_S16384x1024 := by decide
  bcast_S_S8x16384x64 := by decide
  bcast_S_S256x8 := by decide

theorem isReal_of_abs_lt {x y : EReal} (h : Ideal.cmp .olt (max x (-x)) y = 1#1) : IsReal x := by
  have hlt : max x (-x) < y := by
    by_contra hn
    have e : Ideal.cmp .olt (max x (-x)) y = BitVec.ofBool (decide (max x (-x) < y)) := rfl
    rw [e, decide_eq_false hn] at h
    exact absurd h (by decide)
  have hx : x ≠ ⊤ := fun e => by rw [e] at hlt; exact absurd (lt_of_le_of_lt (le_max_left _ _) hlt) not_top_lt
  have hx' : x ≠ ⊥ := fun e => by rw [e] at hlt; exact absurd (lt_of_le_of_lt (le_max_right _ _) hlt) (by rw [EReal.neg_bot]; exact not_top_lt)
  exact ⟨x.toReal, (EReal.coe_toReal hx hx').symm⟩

section

open Cert.KernelIdeal

theorem X_real (m : (ℓ : Loc nD τ sig) → Buf (Elt Ideal) ℓ) (hm : Cert.Pre_KernelIdeal_finite m) (c : Dev nD) (h : Fin 8) (n : ℕ) :
    (KernelRun.X m c h n).Real := by
  obtain ⟨h0, h1, h2, h3, h4, h5, h6⟩ := hm c
  exact {
    ub := fun r v => isReal_of_abs_lt (congrFun h0 (ix2 (gr n r) (gl8 h v)))
    w := fun r v => isReal_of_abs_lt (congrFun h1 (ix2 (gr n r) (gl8 h v)))
    qd := fun r v => isReal_of_abs_lt (congrFun h2 (ix2 (gr n r) (gl8 h v)))
    kd := fun r v => isReal_of_abs_lt (congrFun h3 (ix2 (gr n r) (gl8 h v)))
    qk := fun r v => isReal_of_abs_lt (congrFun h4 (ix3 h (gr n r) v))
    gl := fun v => isReal_of_abs_lt (congrFun h5 (ix2 ⟨n % 256, Nat.mod_lt _ (by omega)⟩ (hd (gl8 h v))))
    dO := fun r v => isReal_of_abs_lt (congrFun h6 (ix2 (gr n r) (gl8 h v))) }

end

end Cert.Proof

end
-- ==== Proof.RefIndex.lean ====
module

public import Idealize.ShloMosaic.Lib.Pointwise
public import Idealize.ShloMosaic.Lib.DynamicIndex
public import Idealize.ShloMosaic.Lib.Pipeline.Value
public import Idealize.ShloMosaic.Lib.Scf.Counter
public import Idealize.ShloMosaic.Lib.Scf.ExitTest

@[expose] public section

noncomputable section

/-! Reading and writing one entry of a stack of 256, and the word that counts. -/

namespace Cert.Proof.Ref

open Idealize.ShloMosaic Idealize.ShloMosaic.Tactic

section
variable {N2 N3 N4 : ℕ} (k : Fin 256)

theorem dyn5 (x : (⟨5, ![256, 1, N2, N3, N4]⟩ : Shape).Idx → EReal) (s : Fin 5 → ℤ)
    (h0 : s 0 = k.val) (h1 : s 1 = 0) (h2 : s 2 = 0) (h3 : s 3 = 0) (h4 : s 4 = 0) (f) (a b : Fin 1) (i : Fin N2) (j : Fin N3) (l : Fin N4) :
    Host.dynamicSlice ⟨5, ![1, 1, N2, N3, N4]⟩ x s f (ix5 a b i j l) = x (ix5 k b i j l) := by
  rw [Host.dynamicSlice_eq_extractStridedSlice _ _ _ ![k.val, 0, 0, 0, 0] f
    ⟨rfl, by intro a; fin_cases a <;> simp⟩ (by intro a; fin_cases a <;> assumption)]
  pointwise
  congr 1
  rw [Shape.Idx.norm_def]
  funext a
  fin_cases a <;> exact Fin.ext (by simp [ix5, ix3])

theorem dyn3 (x : (⟨3, ![256, 1, N2]⟩ : Shape).Idx → EReal) (s : Fin 3 → ℤ)
    (h0 : s 0 = k.val) (h1 : s 1 = 0) (h2 : s 2 = 0) (f) (a b : Fin 1) (i : Fin N2) :
    Host.dynamicSlice ⟨3, ![1, 1, N2]⟩ x s f (ix3 a b i) = x (ix3 k b i) := by
  rw [Host.dynamicSlice_eq_extractStridedSlice _ _ _ ![k.val, 0, 0] f
    ⟨rfl, by intro a; fin_cases a <;> simp⟩ (by intro a; fin_cases a <;> assumption)]
  pointwise
  congr 1
  rw [Shape.Idx.norm_def]
  funext a
  fin_cases a <;> exact Fin.ext (by simp [ix5, ix3])

theorem upd5 (x : (⟨5, ![256, 1, N2, N3, N4]⟩ : Shape).Idx → EReal) (u : (⟨5, ![1, 1, N2, N3, N4]⟩ : Shape).Idx → EReal) (s : Fin 5 → ℤ)
    (h0 : s 0 = k.val) (h1 : s 1 = 0) (h2 : s 2 = 0) (h3 : s 3 = 0) (h4 : s 4 = 0) (f) (n : Fin 256) (b : Fin 1) (i : Fin N2) (j : Fin N3) (l : Fin N4) :
    Host.dynamicUpdateSlice x u s f (ix5 n b i j l) = if n = k then u (ix5 0 b i j l) else x (ix5 n b i j l) := by
  rw [Host.dynamicUpdateSlice_eq_updateSlice _ _ _ f ![k.val, 0, 0, 0, 0]
    (by intro a; fin_cases a <;> simp [h0, h1, h2, h3, h4]; omega) ⟨rfl, by intro a; fin_cases a <;> simp⟩]
  pointwise
  by_cases h : n = k
  · subst h
    rw [dif_pos ⟨le_rfl, Nat.lt_succ_self _⟩, if_pos rfl]
    congr 1
    rw [Shape.Idx.norm_def]
    funext a
    fin_cases a <;> exact Fin.ext (by simp [ix5, ix3])
  · rw [dif_neg (fun e => h (Fin.ext (by omega))), if_neg h]

theorem upd3 (x : (⟨3, ![256, 1, N2]⟩ : Shape).Idx → EReal) (u : (⟨3, ![1, 1, N2]⟩ : Shape).Idx → EReal) (s : Fin 3 → ℤ)
    (h0 : s 0 = k.val) (h1 : s 1 = 0) (h2 : s 2 = 0) (f) (n : Fin 256) (b : Fin 1) (i : Fin N2) :
    Host.dynamicUpdateSlice x u s f (ix3 n b i) = if n = k then u (ix3 0 b i) else x (ix3 n b i) := by
  rw [Host.dynamicUpdateSlice_eq_updateSlice _ _ _ f ![k.val, 0, 0]
    (by intro a; fin_cases a <;> simp [h0, h1, h2]; omega) ⟨rfl, by intro a; fin_cases a <;> simp⟩]
  pointwise
  by_cases h : n = k
  · subst h
    rw [dif_pos ⟨le_rfl, Nat.lt_succ_self _⟩, if_pos rfl]
    congr 1
    rw [Shape.Idx.norm_def]
    funext a
    fin_cases a <;> exact Fin.ext (by simp [ix5, ix3])
  · rw [dif_neg (fun e => h (Fin.ext (by omega))), if_neg h]

end

/-- A sum over unit axes only is the entry. -/
theorem red_units (f : (⟨4, ![1, 8, 1, 1]⟩ : Shape).ReducesTo [0, 2, 3] (⟨1, ![8]⟩ : Shape)) (v : (⟨4, ![1, 8, 1, 1]⟩ : Shape).Idx → EReal)
    (e : EReal) (h : Fin 8) : Ideal.hostReduceAdd f v e (ix1 h) = e + v (ix4 0 h 0 0) := by
  refine congrArg (e + ·) ?_
  refine (Finset.sum_congr (s₂ := {ix4 0 h 0 0}) ?_ fun _ _ => rfl).trans (Finset.sum_singleton _ _)
  ext i
  rw [Finset.mem_filter, Finset.mem_singleton]
  constructor
  · rintro ⟨-, e⟩
    have e1 : (i 1).val = h.val := congrArg (fun j : (⟨1, ![8]⟩ : Shape).Idx => (j 0).val) e
    funext a
    apply Fin.ext
    match a with
    | ⟨0, _⟩ => exact Nat.lt_one_iff.mp (i 0).isLt
    | ⟨1, _⟩ => exact e1
    | ⟨2, _⟩ => exact Nat.lt_one_iff.mp (i 2).isLt
    | ⟨3, _⟩ => exact Nat.lt_one_iff.mp (i 3).isLt
  · rintro rfl
    refine ⟨Finset.mem_univ _, ?_⟩
    funext b
    apply Fin.ext
    match b with
    | ⟨0, _⟩ => rfl

/-- The counter before trip `k`, and the index the backward loop makes of it. -/
theorem iv_toInt : ∀ k : Fin 256, (Scf.iv 0#32 1#32 k.val).toInt = k.val := by decide +kernel
theorem rev_toInt : ∀ k : Fin 256, (IntOp.subi (IntOp.subi 256#32 (Scf.iv 0#32 1#32 k.val)) 1#32).toInt = ((255 - k.val : ℕ) : ℤ) := by decide +kernel

end Cert.Proof.Ref

end
-- ==== Proof.RefCalls.lean ====
module

public import proofs.«01_k».proof.Proof.RefOps
public import proofs.«01_k».proof.Proof.RefIndex

@[expose] public section

set_option maxRecDepth 100000

noncomputable section

/-! What the index and the update calls of the loops' bodies leave, entry by entry. -/

namespace Cert.Proof.Ref

open Cert.ReferenceIdeal Cert.ReferenceIdeal.Gen
open Idealize.ShloMosaic Idealize.ShloMosaic.TcCoe Idealize.ShloMosaic.Tactic
open Idealize.ShloMosaic.StableHlo

variable (V : Valuation τ sig (Elt Ideal)) (k : Fin 256)

theorem fwd0_val (hk : ∀ i, (V main_v21_6 i).toInt = k.val) (h : Fin 8) (r : Fin 64) (l : Fin 128) :
    after fwd0 V main_while0b_v53 (ix4 0 h r l) = V main_v21_0 (ix5 k 0 h r l) := by
  after_results
  pointwise
  exact dyn5 k (V main_v21_0) _ (hk _) rfl rfl rfl rfl sliceFits_S256x1x8x64x128_S1x1x8x64x128 0 0 h r l

theorem fwd1_val (hk : ∀ i, (V main_v21_6 i).toInt = k.val) (h : Fin 8) (r : Fin 64) (l : Fin 128) :
    after fwd1 V main_while0b_v54 (ix4 0 h r l) = V main_v21_1 (ix5 k 0 h r l) := by
  after_results
  pointwise
  exact dyn5 k (V main_v21_1) _ (hk _) rfl rfl rfl rfl sliceFits_S256x1x8x64x128_S1x1x8x64x128 0 0 h r l

theorem fwd2_val (hk : ∀ i, (V main_v21_6 i).toInt = k.val) (h : Fin 8) (r : Fin 64) (l : Fin 64) :
    after fwd2 V main_while0b_v55 (ix4 0 h r l) = V main_v21_2 (ix5 k 0 h r l) := by
  after_results
  pointwise
  exact dyn5 k (V main_v21_2) _ (hk _) rfl rfl rfl rfl sliceFits_S256x1x8x64x64_S1x1x8x64x64 0 0 h r l

theorem fwd3_val (hk : ∀ i, (V main_v21_6 i).toInt = k.val) (h : Fin 8) (r : Fin 64) (l : Fin 128) :
    after fwd3 V main_while0b_v56 (ix4 0 h r l) = V main_v21_3 (ix5 k 0 h r l) := by
  after_results
  pointwise
  exact dyn5 k (V main_v21_3) _ (hk _) rfl rfl rfl rfl sliceFits_S256x1x8x64x128_S1x1x8x64x128 0 0 h r l

theorem fwd4_val (hk : ∀ i, (V main_v21_6 i).toInt = k.val) (h : Fin 8) (r : Fin 64) (l : Fin 128) :
    after fwd4 V main_while0b_v57 (ix4 0 h r l) = V main_v21_4 (ix5 k 0 h r l) := by
  after_results
  pointwise
  exact dyn5 k (V main_v21_4) _ (hk _) rfl rfl rfl rfl sliceFits_S256x1x8x64x128_S1x1x8x64x128 0 0 h r l

theorem fwd5_val (hk : ∀ i, (V main_v21_6 i).toInt = k.val) (h : Fin 8) :
    after fwd5 V main_while0b_v58 (ix2 0 h) = V main_v21_5 (ix3 k 0 h) := by
  after_results
  pointwise
  exact dyn3 k (V main_v21_5) _ (hk _) rfl rfl sliceFits_S256x1x8_S1x1x8 0 0 h

theorem bwd1_val (hk : ∀ i, (V main_while1b_v54 i).toInt = k.val) (h : Fin 8) (r : Fin 64) (l : Fin 128) :
    after bwd1 V main_while1b_v55 (ix4 0 h r l) = V main_v34_0 (ix5 k 0 h r l) := by
  after_results
  pointwise
  exact dyn5 k (V main_v34_0) _ (hk _) rfl rfl rfl rfl sliceFits_S256x1x8x64x128_S1x1x8x64x128 0 0 h r l

theorem bwd2_val (hk : ∀ i, (V main_while1b_v54 i).toInt = k.val) (h : Fin 8) (r : Fin 128) (l : Fin 128) :
    after bwd2 V main_while1b_v56 (ix4 0 h r l) = V main_v34_1 (ix5 k 0 h r l) := by
  after_results
  pointwise
  exact dyn5 k (V main_v34_1) _ (hk _) rfl rfl rfl rfl sliceFits_S256x1x8x128x128_S1x1x8x128x128 0 0 h r l

theorem bwd3_val (hk : ∀ i, (V main_while1b_v54 i).toInt = k.val) (h : Fin 8) (r : Fin 64) (l : Fin 128) :
    after bwd3 V main_while1b_v57 (ix4 0 h r l) = V main_v34_2 (ix5 k 0 h r l) := by
  after_results
  pointwise
  exact dyn5 k (V main_v34_2) _ (hk _) rfl rfl rfl rfl sliceFits_S256x1x8x64x128_S1x1x8x64x128 0 0 h r l

theorem bwd4_val (hk : ∀ i, (V main_while1b_v54 i).toInt = k.val) (h : Fin 8) (r : Fin 64) (l : Fin 128) :
    after bwd4 V main_while1b_v58 (ix4 0 h r l) = V main_v34_3 (ix5 k 0 h r l) := by
  after_results
  pointwise
  exact dyn5 k (V main_v34_3) _ (hk _) rfl rfl rfl rfl sliceFits_S256x1x8x64x128_S1x1x8x64x128 0 0 h r l

theorem bwd5_val (hk : ∀ i, (V main_while1b_v54 i).toInt = k.val) (h : Fin 8) (r : Fin 64) (l : Fin 128) :
    after bwd5 V main_while1b_v59 (ix4 0 h r l) = V main_v34_4 (ix5 k 0 h r l) := by
  after_results
  pointwise
  exact dyn5 k (V main_v34_4) _ (hk _) rfl rfl rfl rfl sliceFits_S256x1x8x64x128_S1x1x8x64x128 0 0 h r l

theorem bwd6_val (hk : ∀ i, (V main_while1b_v54 i).toInt = k.val) (h : Fin 8) (r : Fin 64) (l : Fin 64) :
    after bwd6 V main_while1b_v60 (ix4 0 h r l) = V main_v34_5 (ix5 k 0 h r l) := by
  after_results
  pointwise
  exact dyn5 k (V main_v34_5) _ (hk _) rfl rfl rfl rfl sliceFits_S256x1x8x64x64_S1x1x8x64x64 0 0 h r l

theorem bwd7_val (hk : ∀ i, (V main_while1b_v54 i).toInt = k.val) (h : Fin 8) :
    after bwd7 V main_while1b_v61 (ix4 0 h 0 0) = V main_v34_6 (ix5 k 0 h 0 0) := by
  after_results
  pointwise
  exact dyn5 k (V main_v34_6) _ (hk _) rfl rfl rfl rfl sliceFits_S256x1x8x1x1_S1x1x8x1x1 0 0 h 0 0

theorem bwd8_val (hk : ∀ i, (V main_while1b_v54 i).toInt = k.val) (h : Fin 8) (r : Fin 64) (l : Fin 128) :
    after bwd8 V main_while1b_v62 (ix4 0 h r l) = V main_v34_7 (ix5 k 0 h r l) := by
  after_results
  pointwise
  exact dyn5 k (V main_v34_7) _ (hk _) rfl rfl rfl rfl sliceFits_S256x1x8x64x128_S1x1x8x64x128 0 0 h r l

theorem fwd7_val (hk : ∀ i, (V main_v21_6 i).toInt = k.val) (n : Fin 256) (h : Fin 8) (r : Fin 64) (l : Fin 128) :
    after fwd7 V main_while0b_v69 (ix5 n 0 h r l) = if n = k then V main_while0b_v63 (ix4 0 h r l) else V main_v21_8 (ix5 n 0 h r l) := by
  after_results
  have e : broadcastInDim S1x1x8x64x128 ![1, 2, 3, 4] bcast_S1x8x64x128_S1x1x8x64x128_1_2_3_4 (V main_while0b_v63) (ix5 0 0 h r l) = V main_while0b_v63 (ix4 0 h r l) := by pointwise
  rw [← e]
  refine upd5 k (V main_v21_8) (broadcastInDim S1x1x8x64x128 ![1, 2, 3, 4] bcast_S1x8x64x128_S1x1x8x64x128_1_2_3_4 (V main_while0b_v63)) _ ?_ ?_ ?_ ?_ ?_ updateFits_S256x1x8x64x128_S1x1x8x64x128 n 0 h r l
  · exact hk _
  · rfl
  · rfl
  · rfl
  · rfl

theorem fwd8_val (hk : ∀ i, (V main_v21_6 i).toInt = k.val) (n : Fin 256) (h : Fin 8) (r : Fin 128) (l : Fin 128) :
    after fwd8 V main_while0b_v70 (ix5 n 0 h r l) = if n = k then V main_v21_7 (ix4 0 h r l) else V main_v21_9 (ix5 n 0 h r l) := by
  after_results
  have e : broadcastInDim S1x1x8x128x128 ![1, 2, 3, 4] bcast_S1x8x128x128_S1x1x8x128x128_1_2_3_4 (V main_v21_7) (ix5 0 0 h r l) = V main_v21_7 (ix4 0 h r l) := by pointwise
  rw [← e]
  refine upd5 k (V main_v21_9) (broadcastInDim S1x1x8x128x128 ![1, 2, 3, 4] bcast_S1x8x128x128_S1x1x8x128x128_1_2_3_4 (V main_v21_7)) _ ?_ ?_ ?_ ?_ ?_ updateFits_S256x1x8x128x128_S1x1x8x128x128 n 0 h r l
  · exact hk _
  · rfl
  · rfl
  · rfl
  · rfl

theorem fwd9_val (hk : ∀ i, (V main_v21_6 i).toInt = k.val) (n : Fin 256) (h : Fin 8) (r : Fin 64) (l : Fin 128) :
    after fwd9 V main_while0b_v71 (ix5 n 0 h r l) = if n = k then V main_while0b_v60 (ix4 0 h r l) else V main_v21_10 (ix5 n 0 h r l) := by
  after_results
  have e : broadcastInDim S1x1x8x64x128 ![1, 2, 3, 4] bcast_S1x8x64x128_S1x1x8x64x128_1_2_3_4 (V main_while0b_v60) (ix5 0 0 h r l) = V main_while0b_v60 (ix4 0 h r l) := by pointwise
  rw [← e]
  refine upd5 k (V main_v21_10) (broadcastInDim S1x1x8x64x128 ![1, 2, 3, 4] bcast_S1x8x64x128_S1x1x8x64x128_1_2_3_4 (V main_while0b_v60)) _ ?_ ?_ ?_ ?_ ?_ updateFits_S256x1x8x64x128_S1x1x8x64x128 n 0 h r l
  · exact hk _
  · rfl
  · rfl
  · rfl
  · rfl

theorem fwd10_val (hk : ∀ i, (V main_v21_6 i).toInt = k.val) (n : Fin 256) (h : Fin 8) :
    after fwd10 V main_while0b_v72 (ix5 n 0 h 0 0) = if n = k then V main_while0b_v64 (ix4 0 h 0 0) else V main_v21_11 (ix5 n 0 h 0 0) := by
  after_results
  have e : broadcastInDim S1x1x8x1x1 ![1, 2, 3, 4] bcast_S1x8x1x1_S1x1x8x1x1_1_2_3_4 (V main_while0b_v64) (ix5 0 0 h 0 0) = V main_while0b_v64 (ix4 0 h 0 0) := by pointwise
  rw [← e]
  refine upd5 k (V main_v21_11) (broadcastInDim S1x1x8x1x1 ![1, 2, 3, 4] bcast_S1x8x1x1_S1x1x8x1x1_1_2_3_4 (V main_while0b_v64)) _ ?_ ?_ ?_ ?_ ?_ updateFits_S256x1x8x1x1_S1x1x8x1x1 n 0 h 0 0
  · exact hk _
  · rfl
  · rfl
  · rfl
  · rfl

theorem bwd10_val (hk : ∀ i, (V main_while1b_v54 i).toInt = k.val) (n : Fin 256) (h : Fin 8) (r : Fin 64) (l : Fin 128) :
    after bwd10 V main_while1b_v87 (ix5 n 0 h r l) = if n = k then V main_while1b_v76 (ix4 0 h r l) else V main_v34_10 (ix5 n 0 h r l) := by
  after_results
  have e : broadcastInDim S1x1x8x64x128 ![1, 2, 3, 4] bcast_S1x8x64x128_S1x1x8x64x128_1_2_3_4 (V main_while1b_v76) (ix5 0 0 h r l) = V main_while1b_v76 (ix4 0 h r l) := by pointwise
  rw [← e]
  refine upd5 k (V main_v34_10) (broadcastInDim S1x1x8x64x128 ![1, 2, 3, 4] bcast_S1x8x64x128_S1x1x8x64x128_1_2_3_4 (V main_while1b_v76)) _ ?_ ?_ ?_ ?_ ?_ updateFits_S256x1x8x64x128_S1x1x8x64x128 n 0 h r l
  · exact hk _
  · rfl
  · rfl
  · rfl
  · rfl

theorem bwd11_val (hk : ∀ i, (V main_while1b_v54 i).toInt = k.val) (n : Fin 256) (h : Fin 8) (r : Fin 64) (l : Fin 128) :
    after bwd11 V main_while1b_v88 (ix5 n 0 h r l) = if n = k then V main_while1b_v86 (ix4 0 h r l) else V main_v34_11 (ix5 n 0 h r l) := by
  after_results
  have e : broadcastInDim S1x1x8x64x128 ![1, 2, 3, 4] bcast_S1x8x64x128_S1x1x8x64x128_1_2_3_4 (V main_while1b_v86) (ix5 0 0 h r l) = V main_while1b_v86 (ix4 0 h r l) := by pointwise
  rw [← e]
  refine upd5 k (V main_v34_11) (broadcastInDim S1x1x8x64x128 ![1, 2, 3, 4] bcast_S1x8x64x128_S1x1x8x64x128_1_2_3_4 (V main_while1b_v86)) _ ?_ ?_ ?_ ?_ ?_ updateFits_S256x1x8x64x128_S1x1x8x64x128 n 0 h r l
  · exact hk _
  · rfl
  · rfl
  · rfl
  · rfl

theorem bwd12_val (hk : ∀ i, (V main_while1b_v54 i).toInt = k.val) (n : Fin 256) (h : Fin 8) (r : Fin 64) (l : Fin 64) :
    after bwd12 V main_while1b_v89 (ix5 n 0 h r l) = if n = k then V main_while1b_v77 (ix4 0 h r l) else V main_v34_12 (ix5 n 0 h r l) := by
  after_results
  have e : broadcastInDim S1x1x8x64x64 ![1, 2, 3, 4] bcast_S1x8x64x64_S1x1x8x64x64_1_2_3_4 (V main_while1b_v77) (ix5 0 0 h r l) = V main_while1b_v77 (ix4 0 h r l) := by pointwise
  rw [← e]
  refine upd5 k (V main_v34_12) (broadcastInDim S1x1x8x64x64 ![1, 2, 3, 4] bcast_S1x8x64x64_S1x1x8x64x64_1_2_3_4 (V main_while1b_v77)) _ ?_ ?_ ?_ ?_ ?_ updateFits_S256x1x8x64x64_S1x1x8x64x64 n 0 h r l
  · exact hk _
  · rfl
  · rfl
  · rfl
  · rfl

theorem bwd13_val (hk : ∀ i, (V main_while1b_v54 i).toInt = k.val) (n : Fin 256) (h : Fin 8) (r : Fin 64) (l : Fin 128) :
    after bwd13 V main_while1b_v90 (ix5 n 0 h r l) = if n = k then V main_while1b_v81 (ix4 0 h r l) else V main_v34_13 (ix5 n 0 h r l) := by
  after_results
  have e : broadcastInDim S1x1x8x64x128 ![1, 2, 3, 4] bcast_S1x8x64x128_S1x1x8x64x128_1_2_3_4 (V main_while1b_v81) (ix5 0 0 h r l) = V main_while1b_v81 (ix4 0 h r l) := by pointwise
  rw [← e]
  refine upd5 k (V main_v34_13) (broadcastInDim S1x1x8x64x128 ![1, 2, 3, 4] bcast_S1x8x64x128_S1x1x8x64x128_1_2_3_4 (V main_while1b_v81)) _ ?_ ?_ ?_ ?_ ?_ updateFits_S256x1x8x64x128_S1x1x8x64x128 n 0 h r l
  · exact hk _
  · rfl
  · rfl
  · rfl
  · rfl

theorem bwd14_val (hk : ∀ i, (V main_while1b_v54 i).toInt = k.val) (n : Fin 256) (h : Fin 8) (r : Fin 64) (l : Fin 128) :
    after bwd14 V main_while1b_v91 (ix5 n 0 h r l) = if n = k then V main_while1b_v66 (ix4 0 h r l) else V main_v34_14 (ix5 n 0 h r l) := by
  after_results
  have e : broadcastInDim S1x1x8x64x128 ![1, 2, 3, 4] bcast_S1x8x64x128_S1x1x8x64x128_1_2_3_4 (V main_while1b_v66) (ix5 0 0 h r l) = V main_while1b_v66 (ix4 0 h r l) := by pointwise
  rw [← e]
  refine upd5 k (V main_v34_14) (broadcastInDim S1x1x8x64x128 ![1, 2, 3, 4] bcast_S1x8x64x128_S1x1x8x64x128_1_2_3_4 (V main_while1b_v66)) _ ?_ ?_ ?_ ?_ ?_ updateFits_S256x1x8x64x128_S1x1x8x64x128 n 0 h r l
  · exact hk _
  · rfl
  · rfl
  · rfl
  · rfl

theorem bwd15_val (hk : ∀ i, (V main_while1b_v54 i).toInt = k.val) (n : Fin 256) (h : Fin 8) :
    after bwd15 V main_while1b_v92 (ix3 n 0 h) = if n = k then V main_while1b_v73 (ix2 0 h) else V main_v34_15 (ix3 n 0 h) := by
  after_results
  have e : broadcastInDim S1x1x8 ![1, 2] bcast_S1x8_S1x1x8_1_2 (V main_while1b_v73) (ix3 0 0 h) = V main_while1b_v73 (ix2 0 h) := by pointwise
  rw [← e]
  refine upd3 k (V main_v34_15) (broadcastInDim S1x1x8 ![1, 2] bcast_S1x8_S1x1x8_1_2 (V main_while1b_v73)) _ ?_ ?_ ?_ updateFits_S256x1x8_S1x1x8 n 0 h
  · exact hk _
  · rfl
  · rfl

end Cert.Proof.Ref

end
-- ==== Proof.RefFwd.lean ====
module

public import proofs.«01_k».proof.Proof.RefCalls
public import proofs.«01_k».proof.Proof.RefOps
public import proofs.«01_k».proof.Proof.Spec
public import Idealize.ShloMosaic.Lib.Pointwise

@[expose] public section

set_option maxRecDepth 100000

noncomputable section

/-! One trip of the forward loop: what its body leaves, in terms of the chunk it reads. -/

namespace Cert.Proof.Ref

open Cert.ReferenceIdeal Cert.ReferenceIdeal.Gen
open Idealize.ShloMosaic Idealize.ShloMosaic.TcCoe Idealize.ShloMosaic.Tactic
open Idealize.ShloMosaic.StableHlo

variable (V : Valuation τ sig (Elt Ideal))

/-! The buffers after each stretch of the body. -/

def f0 : Valuation τ sig (Elt Ideal) := after fwd0 V
def f1 : Valuation τ sig (Elt Ideal) := after fwd1 (f0 V)
def f2 : Valuation τ sig (Elt Ideal) := after fwd2 (f1 V)
def f3 : Valuation τ sig (Elt Ideal) := after fwd3 (f2 V)
def f4 : Valuation τ sig (Elt Ideal) := after fwd4 (f3 V)
def f5 : Valuation τ sig (Elt Ideal) := after fwd5 (f4 V)
def f6 : Valuation τ sig (Elt Ideal) := after fwd6 (f5 V)
def f7 : Valuation τ sig (Elt Ideal) := after fwd7 (f6 V)
def f8 : Valuation τ sig (Elt Ideal) := after fwd8 (f7 V)
def f9 : Valuation τ sig (Elt Ideal) := after fwd9 (f8 V)
def f10 : Valuation τ sig (Elt Ideal) := after fwd10 (f9 V)
def f11 : Valuation τ sig (Elt Ideal) := after fwd11 (f10 V)

abbrev fW0 : List (Ref sig .tc) := fwd0_W
theorem f0_keep (b : Ref sig .tc) (h : b ∉ fW0 := by decide +kernel) : f0 V (Proc.devRef .tc b) = V (Proc.devRef .tc b) := fwd0_keep V b h
abbrev fW1 : List (Ref sig .tc) := fW0 ++ fwd1_W
theorem f1_keep (b : Ref sig .tc) (h : b ∉ fW1 := by decide +kernel) : f1 V (Proc.devRef .tc b) = V (Proc.devRef .tc b) :=
  (fwd1_keep (f0 V) b (fun e => h (List.mem_append_right _ e))).trans (f0_keep V b (fun e => h (List.mem_append_left _ e)))
abbrev fW2 : List (Ref sig .tc) := fW1 ++ fwd2_W
theorem f2_keep (b : Ref sig .tc) (h : b ∉ fW2 := by decide +kernel) : f2 V (Proc.devRef .tc b) = V (Proc.devRef .tc b) :=
  (fwd2_keep (f1 V) b (fun e => h (List.mem_append_right _ e))).trans (f1_keep V b (fun e => h (List.mem_append_left _ e)))
abbrev fW3 : List (Ref sig .tc) := fW2 ++ fwd3_W
theorem f3_keep (b : Ref sig .tc) (h : b ∉ fW3 := by decide +kernel) : f3 V (Proc.devRef .tc b) = V (Proc.devRef .tc b) :=
  (fwd3_keep (f2 V) b (fun e => h (List.mem_append_right _ e))).trans (f2_keep V b (fun e => h (List.mem_append_left _ e)))
abbrev fW4 : List (Ref sig .tc) := fW3 ++ fwd4_W
theorem f4_keep (b : Ref sig .tc) (h : b ∉ fW4 := by decide +kernel) : f4 V (Proc.devRef .tc b) = V (Proc.devRef .tc b) :=
  (fwd4_keep (f3 V) b (fun e => h (List.mem_append_right _ e))).trans (f3_keep V b (fun e => h (List.mem_append_left _ e)))
abbrev fW5 : List (Ref sig .tc) := fW4 ++ fwd5_W
theorem f5_keep (b : Ref sig .tc) (h : b ∉ fW5 := by decide +kernel) : f5 V (Proc.devRef .tc b) = V (Proc.devRef .tc b) :=
  (fwd5_keep (f4 V) b (fun e => h (List.mem_append_right _ e))).trans (f4_keep V b (fun e => h (List.mem_append_left _ e)))
abbrev fW6 : List (Ref sig .tc) := fW5 ++ fwd6_W
theorem f6_keep (b : Ref sig .tc) (h : b ∉ fW6 := by decide +kernel) : f6 V (Proc.devRef .tc b) = V (Proc.devRef .tc b) :=
  (fwd6_keep (f5 V) b (fun e => h (List.mem_append_right _ e))).trans (f5_keep V b (fun e => h (List.mem_append_left _ e)))
abbrev fW7 : List (Ref sig .tc) := fW6 ++ fwd7_W
theorem f7_keep (b : Ref sig .tc) (h : b ∉ fW7 := by decide +kernel) : f7 V (Proc.devRef .tc b) = V (Proc.devRef .tc b) :=
  (fwd7_keep (f6 V) b (fun e => h (List.mem_append_right _ e))).trans (f6_keep V b (fun e => h (List.mem_append_left _ e)))
abbrev fW8 : List (Ref sig .tc) := fW7 ++ fwd8_W
theorem f8_keep (b : Ref sig .tc) (h : b ∉ fW8 := by decide +kernel) : f8 V (Proc.devRef .tc b) = V (Proc.devRef .tc b) :=
  (fwd8_keep (f7 V) b (fun e => h (List.mem_append_right _ e))).trans (f7_keep V b (fun e => h (List.mem_append_left _ e)))
abbrev fW9 : List (Ref sig .tc) := fW8 ++ fwd9_W
theorem f9_keep (b : Ref sig .tc) (h : b ∉ fW9 := by decide +kernel) : f9 V (Proc.devRef .tc b) = V (Proc.devRef .tc b) :=
  (fwd9_keep (f8 V) b (fun e => h (List.mem_append_right _ e))).trans (f8_keep V b (fun e => h (List.mem_append_left _ e)))
abbrev fW10 : List (Ref sig .tc) := fW9 ++ fwd10_W
theorem f10_keep (b : Ref sig .tc) (h : b ∉ fW10 := by decide +kernel) : f10 V (Proc.devRef .tc b) = V (Proc.devRef .tc b) :=
  (fwd10_keep (f9 V) b (fun e => h (List.mem_append_right _ e))).trans (f9_keep V b (fun e => h (List.mem_append_left _ e)))
abbrev fW11 : List (Ref sig .tc) := fW10 ++ fwd11_W
theorem f11_keep (b : Ref sig .tc) (h : b ∉ fW11 := by decide +kernel) : f11 V (Proc.devRef .tc b) = V (Proc.devRef .tc b) :=
  (fwd11_keep (f10 V) b (fun e => h (List.mem_append_right _ e))).trans (f10_keep V b (fun e => h (List.mem_append_left _ e)))

/-- The trip's number is `k`, and of head `h` the arrays hold chunk `X` there and the state is `S`. -/
structure HoldsF (k : Fin 256) (h : Fin 8) (X : Chunk) (S : Mat) : Prop where
  ctr : ∀ i, (V main_v21_6 i).toInt = k.val
  ub : ∀ r l, V main_v21_0 (ix5 k 0 h r l) = X.ub r l
  w : ∀ r l, V main_v21_1 (ix5 k 0 h r l) = X.w r l
  qk : ∀ r l, V main_v21_2 (ix5 k 0 h r l) = X.qk r l
  qd : ∀ r l, V main_v21_3 (ix5 k 0 h r l) = X.qd r l
  kd : ∀ r l, V main_v21_4 (ix5 k 0 h r l) = X.kd r l
  gl : ∀ v, V main_v21_5 (ix3 k 0 h) = X.gl v
  S : ∀ i j, V main_v21_7 (ix4 0 h i j) = S i j

variable {V} {k : Fin 256} {h : Fin 8} {X : Chunk} {S : Mat} (H : HoldsF V k h X S)

include H

theorem f5_ub (r : Fin 64) (l : Fin 128) : f5 V main_while0b_v53 (ix4 0 h r l) = X.ub r l := by
  unfold f5
  rw [fwd5_keep _ _]
  unfold f4
  rw [fwd4_keep _ _]
  unfold f3
  rw [fwd3_keep _ _]
  unfold f2
  rw [fwd2_keep _ _]
  unfold f1
  rw [fwd1_keep _ _]
  unfold f0
  rw [fwd0_val V k H.ctr]
  exact H.ub r l

theorem f5_w (r : Fin 64) (l : Fin 128) : f5 V main_while0b_v54 (ix4 0 h r l) = X.w r l := by
  unfold f5
  rw [fwd5_keep _ _]
  unfold f4
  rw [fwd4_keep _ _]
  unfold f3
  rw [fwd3_keep _ _]
  unfold f2
  rw [fwd2_keep _ _]
  unfold f1
  rw [fwd1_val (f0 V) k (fun i => by rw [f0_keep _ _]; exact H.ctr i), f0_keep _ _]
  exact H.w r l

theorem f5_qk (r : Fin 64) (l : Fin 64) : f5 V main_while0b_v55 (ix4 0 h r l) = X.qk r l := by
  unfold f5
  rw [fwd5_keep _ _]
  unfold f4
  rw [fwd4_keep _ _]
  unfold f3
  rw [fwd3_keep _ _]
  unfold f2
  rw [fwd2_val (f1 V) k (fun i => by rw [f1_keep _ _]; exact H.ctr i), f1_keep _ _]
  exact H.qk r l

theorem f5_qd (r : Fin 64) (l : Fin 128) : f5 V main_while0b_v56 (ix4 0 h r l) = X.qd r l := by
  unfold f5
  rw [fwd5_keep _ _]
  unfold f4
  rw [fwd4_keep _ _]
  unfold f3
  rw [fwd3_val (f2 V) k (fun i => by rw [f2_keep _ _]; exact H.ctr i), f2_keep _ _]
  exact H.qd r l

theorem f5_kd (r : Fin 64) (l : Fin 128) : f5 V main_while0b_v57 (ix4 0 h r l) = X.kd r l := by
  unfold f5
  rw [fwd5_keep _ _]
  unfold f4
  rw [fwd4_val (f3 V) k (fun i => by rw [f3_keep _ _]; exact H.ctr i), f3_keep _ _]
  exact H.kd r l

theorem f5_gl (v : Fin 128) : f5 V main_while0b_v58 (ix2 0 h) = X.gl v := by
  unfold f5
  rw [fwd5_val (f4 V) k (fun i => by rw [f4_keep _ _]; exact H.ctr i), f4_keep _ _]
  exact H.gl v

theorem f5_S (i j : Fin 128) : f5 V main_v21_7 (ix4 0 h i j) = S i j := by
  rw [f5_keep _ _]
  exact H.S i j

theorem f6_u (r : Fin 64) (l : Fin 128) : f6 V main_while0b_v60 (ix4 0 h r l) = X.u S r l := by
  unfold f6
  after_results
  pointwise
  simp only [f5_ub H, f5_w H, f5_qk H, f5_qd H, f5_kd H, f5_S H]
  rfl

theorem f6_out (r : Fin 64) (l : Fin 128) : f6 V main_while0b_v63 (ix4 0 h r l) = X.out S r l := by
  unfold f6
  after_results
  pointwise
  simp only [f5_ub H, f5_w H, f5_qk H, f5_qd H, f5_kd H, f5_S H]
  rfl

theorem f6_next (r : Fin 128) (l : Fin 128) : f6 V main_while0b_v68 (ix4 0 h r l) = X.next S r l := by
  unfold f6
  after_results
  pointwise
  simp only [f5_ub H, f5_w H, f5_qk H, f5_qd H, f5_kd H, f5_S H, f5_gl H l]
  rfl

theorem f6_gl (v : Fin 128) : f6 V main_while0b_v64 (ix4 0 h 0 0) = X.gl v := by
  unfold f6
  after_results
  pointwise
  exact f5_gl H v

theorem f11_S (i j : Fin 128) : f11 V main_v21_7 (ix4 0 h i j) = X.next S i j := by
  unfold f11
  after_results
  pointwise
  unfold f10
  rw [fwd10_keep _ _]
  unfold f9
  rw [fwd9_keep _ _]
  unfold f8
  rw [fwd8_keep _ _]
  unfold f7
  rw [fwd7_keep _ _]
  exact f6_next H i j

theorem f11_8 (n : Fin 256) (r : Fin 64) (l : Fin 128) : f11 V main_v21_8 (ix5 n 0 h r l) = if n = k then X.out S r l else V main_v21_8 (ix5 n 0 h r l) := by
  have e : f11 V main_v21_8 = f10 V main_while0b_v69 := by
    unfold f11
    after_results
    try rfl
  rw [e]
  unfold f10
  rw [fwd10_keep _ _]
  unfold f9
  rw [fwd9_keep _ _]
  unfold f8
  rw [fwd8_keep _ _]
  unfold f7
  rw [fwd7_val (f6 V) k (fun i => by rw [f6_keep _ _]; exact H.ctr i), f6_keep V main_v21_8 (by decide +kernel)]
  refine congrArg (ite (n = k) · _) ?_
  exact f6_out H r l

theorem f11_9 (n : Fin 256) (r : Fin 128) (l : Fin 128) : f11 V main_v21_9 (ix5 n 0 h r l) = if n = k then S r l else V main_v21_9 (ix5 n 0 h r l) := by
  have e : f11 V main_v21_9 = f10 V main_while0b_v70 := by
    unfold f11
    after_results
    try rfl
  rw [e]
  unfold f10
  rw [fwd10_keep _ _]
  unfold f9
  rw [fwd9_keep _ _]
  unfold f8
  rw [fwd8_val (f7 V) k (fun i => by rw [f7_keep _ _]; exact H.ctr i), f7_keep V main_v21_9 (by decide +kernel)]
  refine congrArg (ite (n = k) · _) ?_
  rw [f7_keep V main_v21_7 (by decide +kernel)]
  exact H.S r l

theorem f11_10 (n : Fin 256) (r : Fin 64) (l : Fin 128) : f11 V main_v21_10 (ix5 n 0 h r l) = if n = k then X.u S r l else V main_v21_10 (ix5 n 0 h r l) := by
  have e : f11 V main_v21_10 = f10 V main_while0b_v71 := by
    unfold f11
    after_results
    try rfl
  rw [e]
  unfold f10
  rw [fwd10_keep _ _]
  unfold f9
  rw [fwd9_val (f8 V) k (fun i => by rw [f8_keep _ _]; exact H.ctr i), f8_keep V main_v21_10 (by decide +kernel)]
  refine congrArg (ite (n = k) · _) ?_
  unfold f8
  rw [fwd8_keep _ _]
  unfold f7
  rw [fwd7_keep _ _]
  exact f6_u H r l

theorem f11_11 (n : Fin 256) (v : Fin 128) : f11 V main_v21_11 (ix5 n 0 h 0 0) = if n = k then X.gl v else V main_v21_11 (ix5 n 0 h 0 0) := by
  have e : f11 V main_v21_11 = f10 V main_while0b_v72 := by
    unfold f11
    after_results
    try rfl
  rw [e]
  unfold f10
  rw [fwd10_val (f9 V) k (fun i => by rw [f9_keep _ _]; exact H.ctr i), f9_keep V main_v21_11 (by decide +kernel)]
  refine congrArg (ite (n = k) · _) ?_
  unfold f9
  rw [fwd9_keep _ _]
  unfold f8
  rw [fwd8_keep _ _]
  unfold f7
  rw [fwd7_keep _ _]
  exact f6_gl H v

end Cert.Proof.Ref

end
-- ==== Proof.RefBwd.lean ====
module

public import proofs.«01_k».proof.Proof.RefCalls
public import proofs.«01_k».proof.Proof.RefOps
public import proofs.«01_k».proof.Proof.Reals
public import Idealize.ShloMosaic.Lib.Pointwise

@[expose] public section

set_option maxRecDepth 100000

noncomputable section

/-! One trip of the backward loop: what its body leaves, in terms of the chunk it reads. -/

namespace Cert.Proof.Ref

open Cert.ReferenceIdeal Cert.ReferenceIdeal.Gen
open Idealize.ShloMosaic Idealize.ShloMosaic.TcCoe Idealize.ShloMosaic.Tactic
open Idealize.ShloMosaic.StableHlo

variable (V : Valuation τ sig (Elt Ideal))

/-! The buffers after each stretch of the body. -/

def b0 : Valuation τ sig (Elt Ideal) := after bwd0 V
def b1 : Valuation τ sig (Elt Ideal) := after bwd1 (b0 V)
def b2 : Valuation τ sig (Elt Ideal) := after bwd2 (b1 V)
def b3 : Valuation τ sig (Elt Ideal) := after bwd3 (b2 V)
def b4 : Valuation τ sig (Elt Ideal) := after bwd4 (b3 V)
def b5 : Valuation τ sig (Elt Ideal) := after bwd5 (b4 V)
def b6 : Valuation τ sig (Elt Ideal) := after bwd6 (b5 V)
def b7 : Valuation τ sig (Elt Ideal) := after bwd7 (b6 V)
def b8 : Valuation τ sig (Elt Ideal) := after bwd8 (b7 V)
def b9 : Valuation τ sig (Elt Ideal) := after bwd9 (b8 V)
def b10 : Valuation τ sig (Elt Ideal) := after bwd10 (b9 V)
def b11 : Valuation τ sig (Elt Ideal) := after bwd11 (b10 V)
def b12 : Valuation τ sig (Elt Ideal) := after bwd12 (b11 V)
def b13 : Valuation τ sig (Elt Ideal) := after bwd13 (b12 V)
def b14 : Valuation τ sig (Elt Ideal) := after bwd14 (b13 V)
def b15 : Valuation τ sig (Elt Ideal) := after bwd15 (b14 V)
def b16 : Valuation τ sig (Elt Ideal) := after bwd16 (b15 V)
def b17 : Valuation τ sig (Elt Ideal) := after bwe0 (b16 V)

abbrev bW0 : List (Ref sig .tc) := bwd0_W
theorem b0_keep (b : Ref sig .tc) (h : b ∉ bW0 := by decide +kernel) : b0 V (Proc.devRef .tc b) = V (Proc.devRef .tc b) := bwd0_keep V b h
abbrev bW1 : List (Ref sig .tc) := bW0 ++ bwd1_W
theorem b1_keep (b : Ref sig .tc) (h : b ∉ bW1 := by decide +kernel) : b1 V (Proc.devRef .tc b) = V (Proc.devRef .tc b) :=
  (bwd1_keep (b0 V) b (fun e => h (List.mem_append_right _ e))).trans (b0_keep V b (fun e => h (List.mem_append_left _ e)))
abbrev bW2 : List (Ref sig .tc) := bW1 ++ bwd2_W
theorem b2_keep (b : Ref sig .tc) (h : b ∉ bW2 := by decide +kernel) : b2 V (Proc.devRef .tc b) = V (Proc.devRef .tc b) :=
  (bwd2_keep (b1 V) b (fun e => h (List.mem_append_right _ e))).trans (b1_keep V b (fun e => h (List.mem_append_left _ e)))
abbrev bW3 : List (Ref sig .tc) := bW2 ++ bwd3_W
theorem b3_keep (b : Ref sig .tc) (h : b ∉ bW3 := by decide +kernel) : b3 V (Proc.devRef .tc b) = V (Proc.devRef .tc b) :=
  (bwd3_keep (b2 V) b (fun e => h (List.mem_append_right _ e))).trans (b2_keep V b (fun e => h (List.mem_append_left _ e)))
abbrev bW4 : List (Ref sig .tc) := bW3 ++ bwd4_W
theorem b4_keep (b : Ref sig .tc) (h : b ∉ bW4 := by decide +kernel) : b4 V (Proc.devRef .tc b) = V (Proc.devRef .tc b) :=
  (bwd4_keep (b3 V) b (fun e => h (List.mem_append_right _ e))).trans (b3_keep V b (fun e => h (List.mem_append_left _ e)))
abbrev bW5 : List (Ref sig .tc) := bW4 ++ bwd5_W
theorem b5_keep (b : Ref sig .tc) (h : b ∉ bW5 := by decide +kernel) : b5 V (Proc.devRef .tc b) = V (Proc.devRef .tc b) :=
  (bwd5_keep (b4 V) b (fun e => h (List.mem_append_right _ e))).trans (b4_keep V b (fun e => h (List.mem_append_left _ e)))
abbrev bW6 : List (Ref sig .tc) := bW5 ++ bwd6_W
theorem b6_keep (b : Ref sig .tc) (h : b ∉ bW6 := by decide +kernel) : b6 V (Proc.devRef .tc b) = V (Proc.devRef .tc b) :=
  (bwd6_keep (b5 V) b (fun e => h (List.mem_append_right _ e))).trans (b5_keep V b (fun e => h (List.mem_append_left _ e)))
abbrev bW7 : List (Ref sig .tc) := bW6 ++ bwd7_W
theorem b7_keep (b : Ref sig .tc) (h : b ∉ bW7 := by decide +kernel) : b7 V (Proc.devRef .tc b) = V (Proc.devRef .tc b) :=
  (bwd7_keep (b6 V) b (fun e => h (List.mem_append_right _ e))).trans (b6_keep V b (fun e => h (List.mem_append_left _ e)))
abbrev bW8 : List (Ref sig .tc) := bW7 ++ bwd8_W
theorem b8_keep (b : Ref sig .tc) (h : b ∉ bW8 := by decide +kernel) : b8 V (Proc.devRef .tc b) = V (Proc.devRef .tc b) :=
  (bwd8_keep (b7 V) b (fun e => h (List.mem_append_right _ e))).trans (b7_keep V b (fun e => h (List.mem_append_left _ e)))
abbrev bW9 : List (Ref sig .tc) := bW8 ++ bwd9_W
theorem b9_keep (b : Ref sig .tc) (h : b ∉ bW9 := by decide +kernel) : b9 V (Proc.devRef .tc b) = V (Proc.devRef .tc b) :=
  (bwd9_keep (b8 V) b (fun e => h (List.mem_append_right _ e))).trans (b8_keep V b (fun e => h (List.mem_append_left _ e)))
abbrev bW10 : List (Ref sig .tc) := bW9 ++ bwd10_W
theorem b10_keep (b : Ref sig .tc) (h : b ∉ bW10 := by decide +kernel) : b10 V (Proc.devRef .tc b) = V (Proc.devRef .tc b) :=
  (bwd10_keep (b9 V) b (fun e => h (List.mem_append_right _ e))).trans (b9_keep V b (fun e => h (List.mem_append_left _ e)))
abbrev bW11 : List (Ref sig .tc) := bW10 ++ bwd11_W
theorem b11_keep (b : Ref sig .tc) (h : b ∉ bW11 := by decide +kernel) : b11 V (Proc.devRef .tc b) = V (Proc.devRef .tc b) :=
  (bwd11_keep (b10 V) b (fun e => h (List.mem_append_right _ e))).trans (b10_keep V b (fun e => h (List.mem_append_left _ e)))
abbrev bW12 : List (Ref sig .tc) := bW11 ++ bwd12_W
theorem b12_keep (b : Ref sig .tc) (h : b ∉ bW12 := by decide +kernel) : b12 V (Proc.devRef .tc b) = V (Proc.devRef .tc b) :=
  (bwd12_keep (b11 V) b (fun e => h (List.mem_append_right _ e))).trans (b11_keep V b (fun e => h (List.mem_append_left _ e)))
abbrev bW13 : List (Ref sig .tc) := bW12 ++ bwd13_W
theorem b13_keep (b : Ref sig .tc) (h : b ∉ bW13 := by decide +kernel) : b13 V (Proc.devRef .tc b) = V (Proc.devRef .tc b) :=
  (bwd13_keep (b12 V) b (fun e => h (List.mem_append_right _ e))).trans (b12_keep V b (fun e => h (List.mem_append_left _ e)))
abbrev bW14 : List (Ref sig .tc) := bW13 ++ bwd14_W
theorem b14_keep (b : Ref sig .tc) (h : b ∉ bW14 := by decide +kernel) : b14 V (Proc.devRef .tc b) = V (Proc.devRef .tc b) :=
  (bwd14_keep (b13 V) b (fun e => h (List.mem_append_right _ e))).trans (b13_keep V b (fun e => h (List.mem_append_left _ e)))
abbrev bW15 : List (Ref sig .tc) := bW14 ++ bwd15_W
theorem b15_keep (b : Ref sig .tc) (h : b ∉ bW15 := by decide +kernel) : b15 V (Proc.devRef .tc b) = V (Proc.devRef .tc b) :=
  (bwd15_keep (b14 V) b (fun e => h (List.mem_append_right _ e))).trans (b14_keep V b (fun e => h (List.mem_append_left _ e)))
abbrev bW16 : List (Ref sig .tc) := bW15 ++ bwd16_W
theorem b16_keep (b : Ref sig .tc) (h : b ∉ bW16 := by decide +kernel) : b16 V (Proc.devRef .tc b) = V (Proc.devRef .tc b) :=
  (bwd16_keep (b15 V) b (fun e => h (List.mem_append_right _ e))).trans (b15_keep V b (fun e => h (List.mem_append_left _ e)))
abbrev bW17 : List (Ref sig .tc) := bW16 ++ bwe0_W
theorem b17_keep (b : Ref sig .tc) (h : b ∉ bW17 := by decide +kernel) : b17 V (Proc.devRef .tc b) = V (Proc.devRef .tc b) :=
  (bwe0_keep (b16 V) b (fun e => h (List.mem_append_right _ e))).trans (b16_keep V b (fun e => h (List.mem_append_left _ e)))

/-- The chunk the `t`-th trip of the backward loop takes. -/
abbrev rv (t : Fin 256) : Fin 256 := ⟨255 - t.val, by omega⟩

/-- The trip's number is `t`; of head `h` the arrays hold chunk `X` and the state `S` at the trip's chunk, and the cotangent is `D`. -/
structure HoldsB (t : Fin 256) (h : Fin 8) (X : Chunk) (S D : Mat) : Prop where
  ctr : V main_v34_8 = fun _ => Scf.iv 0#32 1#32 t.val
  dO : ∀ r l, V main_v34_0 (ix5 (rv t) 0 h r l) = X.dO r l
  st : ∀ i j, V main_v34_1 (ix5 (rv t) 0 h i j) = S i j
  w : ∀ r l, V main_v34_2 (ix5 (rv t) 0 h r l) = X.w r l
  qd : ∀ r l, V main_v34_3 (ix5 (rv t) 0 h r l) = X.qd r l
  u : ∀ r l, V main_v34_4 (ix5 (rv t) 0 h r l) = X.u S r l
  qk : ∀ r l, V main_v34_5 (ix5 (rv t) 0 h r l) = X.qk r l
  gl : ∀ v, V main_v34_6 (ix5 (rv t) 0 h 0 0) = X.gl v
  kd : ∀ r l, V main_v34_7 (ix5 (rv t) 0 h r l) = X.kd r l
  cot : ∀ i j, V main_v34_9 (ix4 0 h i j) = D i j
  real : X.Real
  realS : ∀ i j, IsReal (S i j)
  realD : ∀ i j, IsReal (D i j)

variable {V} {t : Fin 256} {h : Fin 8} {X : Chunk} {S D : Mat} (H : HoldsB V t h X S D)
include H

theorem b0_ctr (i) : (b0 V main_while1b_v54 i).toInt = (rv t).val := by
  have e : b0 V main_while1b_v54 = fun _ => IntOp.subi (IntOp.subi 256#32 (Scf.iv 0#32 1#32 t.val)) 1#32 := by
    unfold b0
    after_results
    rw [H.ctr]
    rfl
  rw [e]
  exact rev_toInt t

theorem b1_ctr (i) : (b1 V main_while1b_v54 i).toInt = (rv t).val := by
  unfold b1
  rw [bwd1_keep _ _]
  exact b0_ctr H i

theorem b2_ctr (i) : (b2 V main_while1b_v54 i).toInt = (rv t).val := by
  unfold b2
  rw [bwd2_keep _ _]
  exact b1_ctr H i

theorem b3_ctr (i) : (b3 V main_while1b_v54 i).toInt = (rv t).val := by
  unfold b3
  rw [bwd3_keep _ _]
  exact b2_ctr H i

theorem b4_ctr (i) : (b4 V main_while1b_v54 i).toInt = (rv t).val := by
  unfold b4
  rw [bwd4_keep _ _]
  exact b3_ctr H i

theorem b5_ctr (i) : (b5 V main_while1b_v54 i).toInt = (rv t).val := by
  unfold b5
  rw [bwd5_keep _ _]
  exact b4_ctr H i

theorem b6_ctr (i) : (b6 V main_while1b_v54 i).toInt = (rv t).val := by
  unfold b6
  rw [bwd6_keep _ _]
  exact b5_ctr H i

theorem b7_ctr (i) : (b7 V main_while1b_v54 i).toInt = (rv t).val := by
  unfold b7
  rw [bwd7_keep _ _]
  exact b6_ctr H i

theorem b8_ctr (i) : (b8 V main_while1b_v54 i).toInt = (rv t).val := by
  unfold b8
  rw [bwd8_keep _ _]
  exact b7_ctr H i

theorem b9_ctr (i) : (b9 V main_while1b_v54 i).toInt = (rv t).val := by
  unfold b9
  rw [bwd9_keep _ _]
  exact b8_ctr H i

theorem b10_ctr (i) : (b10 V main_while1b_v54 i).toInt = (rv t).val := by
  unfold b10
  rw [bwd10_keep _ _]
  exact b9_ctr H i

theorem b11_ctr (i) : (b11 V main_while1b_v54 i).toInt = (rv t).val := by
  unfold b11
  rw [bwd11_keep _ _]
  exact b10_ctr H i

theorem b12_ctr (i) : (b12 V main_while1b_v54 i).toInt = (rv t).val := by
  unfold b12
  rw [bwd12_keep _ _]
  exact b11_ctr H i

theorem b13_ctr (i) : (b13 V main_while1b_v54 i).toInt = (rv t).val := by
  unfold b13
  rw [bwd13_keep _ _]
  exact b12_ctr H i

theorem b14_ctr (i) : (b14 V main_while1b_v54 i).toInt = (rv t).val := by
  unfold b14
  rw [bwd14_keep _ _]
  exact b13_ctr H i

theorem b8_dO (r : Fin 64) (l : Fin 128) : b8 V main_while1b_v55 (ix4 0 h r l) = X.dO r l := by
  unfold b8
  rw [bwd8_keep _ _]
  unfold b7
  rw [bwd7_keep _ _]
  unfold b6
  rw [bwd6_keep _ _]
  unfold b5
  rw [bwd5_keep _ _]
  unfold b4
  rw [bwd4_keep _ _]
  unfold b3
  rw [bwd3_keep _ _]
  unfold b2
  rw [bwd2_keep _ _]
  unfold b1
  rw [bwd1_val (b0 V) (rv t) (b0_ctr H), b0_keep _ _]
  exact H.dO r l

theorem b8_S (r : Fin 128) (l : Fin 128) : b8 V main_while1b_v56 (ix4 0 h r l) = S r l := by
  unfold b8
  rw [bwd8_keep _ _]
  unfold b7
  rw [bwd7_keep _ _]
  unfold b6
  rw [bwd6_keep _ _]
  unfold b5
  rw [bwd5_keep _ _]
  unfold b4
  rw [bwd4_keep _ _]
  unfold b3
  rw [bwd3_keep _ _]
  unfold b2
  rw [bwd2_val (b1 V) (rv t) (b1_ctr H), b1_keep _ _]
  exact H.st r l

theorem b8_w (r : Fin 64) (l : Fin 128) : b8 V main_while1b_v57 (ix4 0 h r l) = X.w r l := by
  unfold b8
  rw [bwd8_keep _ _]
  unfold b7
  rw [bwd7_keep _ _]
  unfold b6
  rw [bwd6_keep _ _]
  unfold b5
  rw [bwd5_keep _ _]
  unfold b4
  rw [bwd4_keep _ _]
  unfold b3
  rw [bwd3_val (b2 V) (rv t) (b2_ctr H), b2_keep _ _]
  exact H.w r l

theorem b8_qd (r : Fin 64) (l : Fin 128) : b8 V main_while1b_v58 (ix4 0 h r l) = X.qd r l := by
  unfold b8
  rw [bwd8_keep _ _]
  unfold b7
  rw [bwd7_keep _ _]
  unfold b6
  rw [bwd6_keep _ _]
  unfold b5
  rw [bwd5_keep _ _]
  unfold b4
  rw [bwd4_val (b3 V) (rv t) (b3_ctr H), b3_keep _ _]
  exact H.qd r l

theorem b8_u (r : Fin 64) (l : Fin 128) : b8 V main_while1b_v59 (ix4 0 h r l) = X.u S r l := by
  unfold b8
  rw [bwd8_keep _ _]
  unfold b7
  rw [bwd7_keep _ _]
  unfold b6
  rw [bwd6_keep _ _]
  unfold b5
  rw [bwd5_val (b4 V) (rv t) (b4_ctr H), b4_keep _ _]
  exact H.u r l

theorem b8_qk (r : Fin 64) (l : Fin 64) : b8 V main_while1b_v60 (ix4 0 h r l) = X.qk r l := by
  unfold b8
  rw [bwd8_keep _ _]
  unfold b7
  rw [bwd7_keep _ _]
  unfold b6
  rw [bwd6_val (b5 V) (rv t) (b5_ctr H), b5_keep _ _]
  exact H.qk r l

theorem b8_gl (v : Fin 128) : b8 V main_while1b_v61 (ix4 0 h 0 0) = X.gl v := by
  unfold b8
  rw [bwd8_keep _ _]
  unfold b7
  rw [bwd7_val (b6 V) (rv t) (b6_ctr H), b6_keep _ _]
  exact H.gl v

theorem b8_kd (r : Fin 64) (l : Fin 128) : b8 V main_while1b_v62 (ix4 0 h r l) = X.kd r l := by
  unfold b8
  rw [bwd8_val (b7 V) (rv t) (b7_ctr H), b7_keep _ _]
  exact H.kd r l

theorem b8_D (i j : Fin 128) : b8 V main_v34_9 (ix4 0 h i j) = D i j := by
  rw [b8_keep _ _]
  exact H.cot i j

theorem b9_du (r : Fin 64) (l : Fin 128) : b9 V main_while1b_v76 (ix4 0 h r l) = X.du D r l := by
  unfold b9
  after_results
  pointwise
  simp only [b8_dO H, b8_S H, b8_w H, b8_qd H, b8_u H, b8_qk H, b8_kd H, b8_D H]
  unfold Chunk.du
  simp only [mul_comm]

theorem b9_dkd (r : Fin 64) (l : Fin 128) : b9 V main_while1b_v66 (ix4 0 h r l) = X.dkd S D r l := by
  unfold b9
  after_results
  pointwise
  simp only [b8_dO H, b8_S H, b8_w H, b8_qd H, b8_u H, b8_qk H, b8_kd H, b8_D H]
  unfold Chunk.dkd
  simp only [mul_comm]

theorem b9_dqd (r : Fin 64) (l : Fin 128) : b9 V main_while1b_v81 (ix4 0 h r l) = X.dqd S r l := by
  unfold b9
  after_results
  pointwise
  simp only [b8_dO H, b8_S H, b8_w H, b8_qd H, b8_u H, b8_qk H, b8_kd H, b8_D H]
  unfold Chunk.dqd
  simp only [mul_comm]

theorem b9_dqk (r : Fin 64) (l : Fin 64) : b9 V main_while1b_v77 (ix4 0 h r l) = X.dqk S r l := by
  unfold b9
  after_results
  pointwise
  simp only [b8_dO H, b8_S H, b8_w H, b8_qd H, b8_u H, b8_qk H, b8_kd H, b8_D H]
  unfold Chunk.dqk
  simp only [mul_comm]

theorem b9_dw (r : Fin 64) (l : Fin 128) : b9 V main_while1b_v86 (ix4 0 h r l) = X.dw S D r l := by
  unfold b9
  after_results
  pointwise
  simp only [b8_dO H, b8_S H, b8_w H, b8_qd H, b8_u H, b8_qk H, b8_kd H, b8_D H]
  have hd : ∀ x y, (∑ i, D i x * X.kd y i) + ∑ c, X.dO c x * X.qk c y = X.du D y x := fun x y => by
    unfold Chunk.du
    simp only [mul_comm]
  simp only [hd]
  exact sum_neg_mul _ _ (fun v => H.real.du H.realD r v) (fun v => H.realS l v)

theorem b9_prev (r l : Fin 128) : b9 V main_while1b_v85 (ix4 0 h r l) = X.prev D r l := by
  unfold b9
  after_results
  pointwise
  simp only [b8_dO H, b8_S H, b8_w H, b8_qd H, b8_u H, b8_qk H, b8_kd H, b8_D H, b8_gl H l]
  have hd : ∀ x y, (∑ i, D i x * X.kd y i) + ∑ c, X.dO c x * X.qk c y = X.du D y x := fun x y => by
    unfold Chunk.du
    simp only [mul_comm]
  simp only [hd]
  rw [sum_neg_mul _ _ (fun v => H.real.du H.realD v l) (fun v => H.real.w v r)]
  unfold Chunk.prev
  rw [sub_eq_add_neg]
  simp only [mul_comm]

theorem b9_dgl : b9 V main_while1b_v73 (ix2 0 h) = Chunk.dgl S D := by
  unfold b9
  after_results
  pointwise
  rw [red_units]
  simp only [b8_dO H, b8_S H, b8_w H, b8_qd H, b8_u H, b8_qk H, b8_kd H, b8_D H, ix4]
  unfold Chunk.dgl
  rw [zero_add]

theorem b17_D (i j : Fin 128) : b17 V main_v34_9 (ix4 0 h i j) = X.prev D i j := by
  have e : b17 V main_v34_9 = b15 V main_while1b_v85 := by
    unfold b17
    rw [bwe0_keep _ _]
    unfold b16
    after_results
    try rfl
  rw [e]
  unfold b15
  rw [bwd15_keep _ _]
  unfold b14
  rw [bwd14_keep _ _]
  unfold b13
  rw [bwd13_keep _ _]
  unfold b12
  rw [bwd12_keep _ _]
  unfold b11
  rw [bwd11_keep _ _]
  unfold b10
  rw [bwd10_keep _ _]
  exact b9_prev H i j

theorem b17_10 (n : Fin 256) (r : Fin 64) (l : Fin 128) : b17 V main_v34_10 (ix5 n 0 h r l) = if n = rv t then X.du D r l else V main_v34_10 (ix5 n 0 h r l) := by
  have e : b17 V main_v34_10 = b15 V main_while1b_v87 := by
    unfold b17
    rw [bwe0_keep _ _]
    unfold b16
    after_results
    try rfl
  rw [e]
  unfold b15
  rw [bwd15_keep _ _]
  unfold b14
  rw [bwd14_keep _ _]
  unfold b13
  rw [bwd13_keep _ _]
  unfold b12
  rw [bwd12_keep _ _]
  unfold b11
  rw [bwd11_keep _ _]
  unfold b10
  rw [bwd10_val (b9 V) (rv t) (b9_ctr H), b9_keep V main_v34_10 (by decide +kernel)]
  refine congrArg (ite (n = rv t) · _) ?_
  exact b9_du H r l

theorem b17_11 (n : Fin 256) (r : Fin 64) (l : Fin 128) : b17 V main_v34_11 (ix5 n 0 h r l) = if n = rv t then X.dw S D r l else V main_v34_11 (ix5 n 0 h r l) := by
  have e : b17 V main_v34_11 = b15 V main_while1b_v88 := by
    unfold b17
    rw [bwe0_keep _ _]
    unfold b16
    after_results
    try rfl
  rw [e]
  unfold b15
  rw [bwd15_keep _ _]
  unfold b14
  rw [bwd14_keep _ _]
  unfold b13
  rw [bwd13_keep _ _]
  unfold b12
  rw [bwd12_keep _ _]
  unfold b11
  rw [bwd11_val (b10 V) (rv t) (b10_ctr H), b10_keep V main_v34_11 (by decide +kernel)]
  refine congrArg (ite (n = rv t) · _) ?_
  unfold b10
  rw [bwd10_keep _ _]
  exact b9_dw H r l

theorem b17_12 (n : Fin 256) (r : Fin 64) (l : Fin 64) : b17 V main_v34_12 (ix5 n 0 h r l) = if n = rv t then X.dqk S r l else V main_v34_12 (ix5 n 0 h r l) := by
  have e : b17 V main_v34_12 = b15 V main_while1b_v89 := by
    unfold b17
    rw [bwe0_keep _ _]
    unfold b16
    after_results
    try rfl
  rw [e]
  unfold b15
  rw [bwd15_keep _ _]
  unfold b14
  rw [bwd14_keep _ _]
  unfold b13
  rw [bwd13_keep _ _]
  unfold b12
  rw [bwd12_val (b11 V) (rv t) (b11_ctr H), b11_keep V main_v34_12 (by decide +kernel)]
  refine congrArg (ite (n = rv t) · _) ?_
  unfold b11
  rw [bwd11_keep _ _]
  unfold b10
  rw [bwd10_keep _ _]
  exact b9_dqk H r l

theorem b17_13 (n : Fin 256) (r : Fin 64) (l : Fin 128) : b17 V main_v34_13 (ix5 n 0 h r l) = if n = rv t then X.dqd S r l else V main_v34_13 (ix5 n 0 h r l) := by
  have e : b17 V main_v34_13 = b15 V main_while1b_v90 := by
    unfold b17
    rw [bwe0_keep _ _]
    unfold b16
    after_results
    try rfl
  rw [e]
  unfold b15
  rw [bwd15_keep _ _]
  unfold b14
  rw [bwd14_keep _ _]
  unfold b13
  rw [bwd13_val (b12 V) (rv t) (b12_ctr H), b12_keep V main_v34_13 (by decide +kernel)]
  refine congrArg (ite (n = rv t) · _) ?_
  unfold b12
  rw [bwd12_keep _ _]
  unfold b11
  rw [bwd11_keep _ _]
  unfold b10
  rw [bwd10_keep _ _]
  exact b9_dqd H r l

theorem b17_14 (n : Fin 256) (r : Fin 64) (l : Fin 128) : b17 V main_v34_14 (ix5 n 0 h r l) = if n = rv t then X.dkd S D r l else V main_v34_14 (ix5 n 0 h r l) := by
  have e : b17 V main_v34_14 = b15 V main_while1b_v91 := by
    have e' : b17 V main_v34_14 = b16 V main_while1b_v91 := by
      unfold b17
      after_results
      try rfl
    rw [e']
    unfold b16
    rw [bwd16_keep _ _]
  rw [e]
  unfold b15
  rw [bwd15_keep _ _]
  unfold b14
  rw [bwd14_val (b13 V) (rv t) (b13_ctr H), b13_keep V main_v34_14 (by decide +kernel)]
  refine congrArg (ite (n = rv t) · _) ?_
  unfold b13
  rw [bwd13_keep _ _]
  unfold b12
  rw [bwd12_keep _ _]
  unfold b11
  rw [bwd11_keep _ _]
  unfold b10
  rw [bwd10_keep _ _]
  exact b9_dkd H r l

theorem b17_15 (n : Fin 256) : b17 V main_v34_15 (ix3 n 0 h) = if n = rv t then Chunk.dgl S D else V main_v34_15 (ix3 n 0 h) := by
  have e : b17 V main_v34_15 = b15 V main_while1b_v92 := by
    have e' : b17 V main_v34_15 = b16 V main_while1b_v92 := by
      unfold b17
      after_results
      try rfl
    rw [e']
    unfold b16
    rw [bwd16_keep _ _]
  rw [e]
  unfold b15
  rw [bwd15_val (b14 V) (rv t) (b14_ctr H), b14_keep V main_v34_15 (by decide +kernel)]
  refine congrArg (ite (n = rv t) · _) ?_
  unfold b14
  rw [bwd14_keep _ _]
  unfold b13
  rw [bwd13_keep _ _]
  unfold b12
  rw [bwd12_keep _ _]
  unfold b11
  rw [bwd11_keep _ _]
  unfold b10
  rw [bwd10_keep _ _]
  exact b9_dgl H

end Cert.Proof.Ref

end
-- ==== Proof.RefVal.lean ====
module

public import proofs.«01_k».proof.Proof.RefRun
public import proofs.«01_k».proof.Proof.RefFwd
public import proofs.«01_k».proof.Proof.RefBwd

@[expose] public section

set_option maxRecDepth 100000

noncomputable section

/-! The reference's results: the two loops by their invariants, then the arrays. -/

namespace Cert.Proof.Ref

open Cert.ReferenceIdeal Cert.ReferenceIdeal.Gen
open Idealize.ShloMosaic Idealize.ShloMosaic.TcCoe Idealize.ShloMosaic.Tactic
open Idealize.ShloMosaic.StableHlo

/-! The arrays the host ops before a loop lay out by chunk. -/

section
variable (V : Valuation τ sig (Elt Ideal)) (k : Fin 256) (h : Fin 8)

theorem gr_eq (r : Fin 64) (p) : (⟨k.val * 64 + r.val, p⟩ : Fin 16384) = gr k.val r := Fin.ext (by have := k.isLt; dsimp only; omega)
theorem gl8_eq (l : Fin 128) (p) : (⟨h.val * 128 + l.val, p⟩ : Fin 1024) = gl8 h l := Fin.ext (by dsimp only; omega)

theorem host0_0 (r : Fin 64) (l : Fin 128) : after host0 V main_v21_0 (ix5 k 0 h r l) = V main_arg0 (ix2 (gr k r) (gl8 h l)) := by
  after_results
  simp only [id_eq]
  pointwise
  rw [gr_eq k r, gl8_eq h l]

theorem host0_1 (r : Fin 64) (l : Fin 128) : after host0 V main_v21_1 (ix5 k 0 h r l) = V main_arg1 (ix2 (gr k r) (gl8 h l)) := by
  after_results
  simp only [id_eq]
  pointwise
  rw [gr_eq k r, gl8_eq h l]

theorem host0_3 (r : Fin 64) (l : Fin 128) : after host0 V main_v21_3 (ix5 k 0 h r l) = V main_arg2 (ix2 (gr k r) (gl8 h l)) := by
  after_results
  simp only [id_eq]
  pointwise
  rw [gr_eq k r, gl8_eq h l]

theorem host0_4 (r : Fin 64) (l : Fin 128) : after host0 V main_v21_4 (ix5 k 0 h r l) = V main_arg3 (ix2 (gr k r) (gl8 h l)) := by
  after_results
  simp only [id_eq]
  pointwise
  rw [gr_eq k r, gl8_eq h l]

theorem host0_2 (r c : Fin 64) : after host0 V main_v21_2 (ix5 k 0 h r c) = V main_arg4 (ix3 h (gr k r) c) := by
  after_results
  simp only [id_eq]
  pointwise
  rw [gr_eq k r]

theorem host0_5 : after host0 V main_v21_5 (ix3 k 0 h) = V main_arg5 (ix2 k h) := by
  after_results
  simp only [id_eq]
  pointwise

theorem host0_7 (i j : Fin 128) : after host0 V main_v21_7 (ix4 0 h i j) = (0 : EReal) := by
  after_results
  simp only [id_eq]
  pointwise

theorem host1_26 (r : Fin 64) (l : Fin 128) : after host1 V main_v26 (ix5 k 0 h r l) = V main_arg6 (ix2 (gr k r) (gl8 h l)) := by
  after_results
  pointwise
  rw [gr_eq k r, gl8_eq h l]

theorem host1_27 (i j : Fin 128) : after host1 V main_v27 (ix4 0 h i j) = (0 : EReal) := by
  after_results
  pointwise

theorem host1_23 (y : S16384x1024.Idx) : after host1 V main_v23 y = V main_v21_8 (ix5 ⟨(y 0).val / 64, by have : (y 0).val < 16384 := (y 0).isLt; omega⟩ 0 (hd (y 1)) (rw64 (y 0)) (ln (y 1))) := by
  after_results
  idx_vars y
  pointwise

theorem tail0_0 : after tail0 V main_v34_0 = V main_v26 := by
  after_results
  try rfl

theorem tail0_1 : after tail0 V main_v34_1 = V main_v21_9 := by
  after_results
  try rfl

theorem tail0_2 : after tail0 V main_v34_2 = V main_v8 := by
  after_results
  try rfl

theorem tail0_3 : after tail0 V main_v34_3 = V main_v11 := by
  after_results
  try rfl

theorem tail0_4 : after tail0 V main_v34_4 = V main_v21_10 := by
  after_results
  try rfl

theorem tail0_5 : after tail0 V main_v34_5 = V main_v2 := by
  after_results
  try rfl

theorem tail0_6 : after tail0 V main_v34_6 = V main_v21_11 := by
  after_results
  try rfl

theorem tail0_7 : after tail0 V main_v34_7 = V main_v14 := by
  after_results
  try rfl

theorem tail0_9 : after tail0 V main_v34_9 = V main_v27 := by
  after_results
  try rfl

end

theorem host0c_1 (V : Valuation τ sig (Elt Ideal)) : after host0 V main_v21_1 = after host0 V main_v8 := by
  after_results
  try rfl

theorem host0c_3 (V : Valuation τ sig (Elt Ideal)) : after host0 V main_v21_3 = after host0 V main_v11 := by
  after_results
  try rfl

theorem host0c_2 (V : Valuation τ sig (Elt Ideal)) : after host0 V main_v21_2 = after host0 V main_v2 := by
  after_results
  try rfl

theorem host0c_4 (V : Valuation τ sig (Elt Ideal)) : after host0 V main_v21_4 = after host0 V main_v14 := by
  after_results
  try rfl

/-! The forward loop. -/

section
variable (W : Dev nD → Valuation τ sig (Elt Ideal)) (c : Dev nD) (X : Fin 8 → ℕ → Chunk)

/-- Entered from `W` the loop finds the chunks `X` and a zero state. -/
structure EntryF : Prop where
  ctr : W c main_v21_6 = fun _ => (0#32 : BitVec 32)
  ub : ∀ (k : Fin 256) (h : Fin 8) r l, W c main_v21_0 (ix5 k 0 h r l) = (X h k).ub r l
  w : ∀ (k : Fin 256) (h : Fin 8) r l, W c main_v21_1 (ix5 k 0 h r l) = (X h k).w r l
  qk : ∀ (k : Fin 256) (h : Fin 8) r l, W c main_v21_2 (ix5 k 0 h r l) = (X h k).qk r l
  qd : ∀ (k : Fin 256) (h : Fin 8) r l, W c main_v21_3 (ix5 k 0 h r l) = (X h k).qd r l
  kd : ∀ (k : Fin 256) (h : Fin 8) r l, W c main_v21_4 (ix5 k 0 h r l) = (X h k).kd r l
  gl : ∀ (k : Fin 256) (h : Fin 8) v, W c main_v21_5 (ix3 k 0 h) = (X h k).gl v
  zero : ∀ (h : Fin 8) i j, W c main_v21_7 (ix4 0 h i j) = (0 : EReal)

/-- Before trip `k`: the state, and what the trips before it have written. -/
structure InvF (k : ℕ) : Prop where
  st : ∀ (h : Fin 8) i j, at0 W k c main_v21_7 (ix4 0 h i j) = states (X h) k i j
  out : ∀ (n : Fin 256), n.val < k → ∀ (h : Fin 8) r l, at0 W k c main_v21_8 (ix5 n 0 h r l) = (X h n).out (states (X h) n) r l
  sts : ∀ (n : Fin 256), n.val < k → ∀ (h : Fin 8) i j, at0 W k c main_v21_9 (ix5 n 0 h i j) = states (X h) n i j
  u : ∀ (n : Fin 256), n.val < k → ∀ (h : Fin 8) r l, at0 W k c main_v21_10 (ix5 n 0 h r l) = (X h n).u (states (X h) n) r l
  gl : ∀ (n : Fin 256), n.val < k → ∀ (h : Fin 8) v, at0 W k c main_v21_11 (ix5 n 0 h 0 0) = (X h n).gl v

variable {W c X} (E : EntryF W c X)
include E

theorem holdsF (k : ℕ) (hk : k < 256) (I : InvF W c X k) (h : Fin 8) :
    HoldsF (after fwdCond (at0 W k c)) ⟨k, hk⟩ h (X h k) (states (X h) k) where
  ctr i := by
    rw [fwdCond_keep _ _, at0_ctr W c E.ctr k]
    exact iv_toInt ⟨k, hk⟩
  ub r l := by rw [fwdCond_keep _ _]; exact (congrFun (fwd_at_keep W c main_v21_0 (by decide +kernel) k) _).trans (E.ub ⟨k, hk⟩ h r l)
  w r l := by rw [fwdCond_keep _ _]; exact (congrFun (fwd_at_keep W c main_v21_1 (by decide +kernel) k) _).trans (E.w ⟨k, hk⟩ h r l)
  qk r l := by rw [fwdCond_keep _ _]; exact (congrFun (fwd_at_keep W c main_v21_2 (by decide +kernel) k) _).trans (E.qk ⟨k, hk⟩ h r l)
  qd r l := by rw [fwdCond_keep _ _]; exact (congrFun (fwd_at_keep W c main_v21_3 (by decide +kernel) k) _).trans (E.qd ⟨k, hk⟩ h r l)
  kd r l := by rw [fwdCond_keep _ _]; exact (congrFun (fwd_at_keep W c main_v21_4 (by decide +kernel) k) _).trans (E.kd ⟨k, hk⟩ h r l)
  gl v := by rw [fwdCond_keep _ _]; exact (congrFun (fwd_at_keep W c main_v21_5 (by decide +kernel) k) _).trans (E.gl ⟨k, hk⟩ h v)
  S i j := by rw [fwdCond_keep _ _]; exact I.st h i j

theorem invF : ∀ k, k ≤ 256 → InvF W c X k
  | 0, _ => ⟨E.zero, fun _ h => absurd h (Nat.not_lt_zero _), fun _ h => absurd h (Nat.not_lt_zero _),
      fun _ h => absurd h (Nat.not_lt_zero _), fun _ h => absurd h (Nat.not_lt_zero _)⟩
  | k + 1, hk => by
    have I := invF k (by omega)
    have H := holdsF E k hk I
    have s : at0 W (k + 1) c = f11 (after fwdCond (at0 W k c)) := rfl
    constructor
    · intro h i j
      rw [s]
      exact f11_S (H h) i j
    · intro n hn h r l
      rw [s, f11_8 (H h) n r l, fwdCond_keep _ _]
      split
      · next e => subst e; rfl
      · next e => exact I.out n (by have : n.val ≠ k := fun e' => e (Fin.ext e'); omega) h r l
    · intro n hn h i j
      rw [s, f11_9 (H h) n i j, fwdCond_keep _ _]
      split
      · next e => subst e; rfl
      · next e => exact I.sts n (by have : n.val ≠ k := fun e' => e (Fin.ext e'); omega) h i j
    · intro n hn h r l
      rw [s, f11_10 (H h) n r l, fwdCond_keep _ _]
      split
      · next e => subst e; rfl
      · next e => exact I.u n (by have : n.val ≠ k := fun e' => e (Fin.ext e'); omega) h r l
    · intro n hn h v
      rw [s, f11_11 (H h) n v, fwdCond_keep _ _]
      split
      · next e => subst e; rfl
      · next e => exact I.gl n (by have : n.val ≠ k := fun e' => e (Fin.ext e'); omega) h v

end

/-! The backward loop. -/

section
variable (W : Dev nD → Valuation τ sig (Elt Ideal)) (c : Dev nD) (X : Fin 8 → ℕ → Chunk)

/-- Entered from `W` the loop finds the chunks `X`, what the forward loop saved, and a zero cotangent. -/
structure EntryB : Prop where
  ctr : W c main_v34_8 = fun _ => (0#32 : BitVec 32)
  dO : ∀ (k : Fin 256) (h : Fin 8) r l, W c main_v34_0 (ix5 k 0 h r l) = (X h k).dO r l
  st : ∀ (k : Fin 256) (h : Fin 8) i j, W c main_v34_1 (ix5 k 0 h i j) = states (X h) k i j
  w : ∀ (k : Fin 256) (h : Fin 8) r l, W c main_v34_2 (ix5 k 0 h r l) = (X h k).w r l
  qd : ∀ (k : Fin 256) (h : Fin 8) r l, W c main_v34_3 (ix5 k 0 h r l) = (X h k).qd r l
  u : ∀ (k : Fin 256) (h : Fin 8) r l, W c main_v34_4 (ix5 k 0 h r l) = (X h k).u (states (X h) k) r l
  qk : ∀ (k : Fin 256) (h : Fin 8) r l, W c main_v34_5 (ix5 k 0 h r l) = (X h k).qk r l
  gl : ∀ (k : Fin 256) (h : Fin 8) v, W c main_v34_6 (ix5 k 0 h 0 0) = (X h k).gl v
  kd : ∀ (k : Fin 256) (h : Fin 8) r l, W c main_v34_7 (ix5 k 0 h r l) = (X h k).kd r l
  zero : ∀ (h : Fin 8) i j, W c main_v34_9 (ix4 0 h i j) = (0 : EReal)
  real : ∀ h n, (X h n).Real

/-- Before trip `k`: the cotangent, and what the trips before it have written, of the chunks from `256 - k` on. -/
structure InvB (k : ℕ) : Prop where
  cot : ∀ (h : Fin 8) i j, at1 W k c main_v34_9 (ix4 0 h i j) = cots (X h) k i j
  du : ∀ (n : Fin 256), 256 - k ≤ n.val → ∀ (h : Fin 8) r l, at1 W k c main_v34_10 (ix5 n 0 h r l) = (X h n).du (cots (X h) (255 - n)) r l
  dw : ∀ (n : Fin 256), 256 - k ≤ n.val → ∀ (h : Fin 8) r l, at1 W k c main_v34_11 (ix5 n 0 h r l) = (X h n).dw (states (X h) n) (cots (X h) (255 - n)) r l
  dqk : ∀ (n : Fin 256), 256 - k ≤ n.val → ∀ (h : Fin 8) r l, at1 W k c main_v34_12 (ix5 n 0 h r l) = (X h n).dqk (states (X h) n) r l
  dqd : ∀ (n : Fin 256), 256 - k ≤ n.val → ∀ (h : Fin 8) r l, at1 W k c main_v34_13 (ix5 n 0 h r l) = (X h n).dqd (states (X h) n) r l
  dkd : ∀ (n : Fin 256), 256 - k ≤ n.val → ∀ (h : Fin 8) r l, at1 W k c main_v34_14 (ix5 n 0 h r l) = (X h n).dkd (states (X h) n) (cots (X h) (255 - n)) r l
  dgl : ∀ (n : Fin 256), 256 - k ≤ n.val → ∀ (h : Fin 8), at1 W k c main_v34_15 (ix3 n 0 h) = Chunk.dgl (states (X h) n) (cots (X h) (255 - n))

variable {W c X} (E : EntryB W c X)
include E

theorem holdsB (k : ℕ) (hk : k < 256) (I : InvB W c X k) (h : Fin 8) :
    HoldsB (after bwdCond (at1 W k c)) ⟨k, hk⟩ h (X h (255 - k)) (states (X h) (255 - k)) (cots (X h) k) where
  ctr := by rw [bwdCond_keep _ _, at1_ctr W c E.ctr k]
  dO r l := by rw [bwdCond_keep _ _]; exact (congrFun (bwd_at_keep W c main_v34_0 (by decide +kernel) k) _).trans (E.dO ⟨255 - k, by omega⟩ h r l)
  st i j := by rw [bwdCond_keep _ _]; exact (congrFun (bwd_at_keep W c main_v34_1 (by decide +kernel) k) _).trans (E.st ⟨255 - k, by omega⟩ h i j)
  w r l := by rw [bwdCond_keep _ _]; exact (congrFun (bwd_at_keep W c main_v34_2 (by decide +kernel) k) _).trans (E.w ⟨255 - k, by omega⟩ h r l)
  qd r l := by rw [bwdCond_keep _ _]; exact (congrFun (bwd_at_keep W c main_v34_3 (by decide +kernel) k) _).trans (E.qd ⟨255 - k, by omega⟩ h r l)
  u r l := by rw [bwdCond_keep _ _]; exact (congrFun (bwd_at_keep W c main_v34_4 (by decide +kernel) k) _).trans (E.u ⟨255 - k, by omega⟩ h r l)
  qk r l := by rw [bwdCond_keep _ _]; exact (congrFun (bwd_at_keep W c main_v34_5 (by decide +kernel) k) _).trans (E.qk ⟨255 - k, by omega⟩ h r l)
  gl v := by rw [bwdCond_keep _ _]; exact (congrFun (bwd_at_keep W c main_v34_6 (by decide +kernel) k) _).trans (E.gl ⟨255 - k, by omega⟩ h v)
  kd r l := by rw [bwdCond_keep _ _]; exact (congrFun (bwd_at_keep W c main_v34_7 (by decide +kernel) k) _).trans (E.kd ⟨255 - k, by omega⟩ h r l)
  cot i j := by rw [bwdCond_keep _ _]; exact I.cot h i j
  real := E.real h _
  realS := states_real (E.real h) _
  realD := cots_real (E.real h) _

theorem invB : ∀ k, k ≤ 256 → InvB W c X k
  | 0, _ => ⟨E.zero, fun n h => absurd n.isLt (by omega), fun n h => absurd n.isLt (by omega), fun n h => absurd n.isLt (by omega), fun n h => absurd n.isLt (by omega), fun n h => absurd n.isLt (by omega), fun n h => absurd n.isLt (by omega)⟩
  | k + 1, hk => by
    have I := invB k (by omega)
    have H := holdsB E k hk I
    have s : at1 W (k + 1) c = b17 (after bwdCond (at1 W k c)) := rfl
    constructor
    · intro h i j
      rw [s]
      exact b17_D (H h) i j
    · intro n hn h r l
      rw [s, b17_10 (H h) n r l, bwdCond_keep _ _]
      split
      · next e =>
        have e1 : n.val = 255 - k := congrArg Fin.val e
        have e2 : 255 - n.val = k := by omega
        rw [e2, e1]
      · next e => exact I.du n (by have : n.val ≠ 255 - k := fun e' => e (Fin.ext e'); omega) h r l
    · intro n hn h r l
      rw [s, b17_11 (H h) n r l, bwdCond_keep _ _]
      split
      · next e =>
        have e1 : n.val = 255 - k := congrArg Fin.val e
        have e2 : 255 - n.val = k := by omega
        rw [e2, e1]
      · next e => exact I.dw n (by have : n.val ≠ 255 - k := fun e' => e (Fin.ext e'); omega) h r l
    · intro n hn h r l
      rw [s, b17_12 (H h) n r l, bwdCond_keep _ _]
      split
      · next e =>
        have e1 : n.val = 255 - k := congrArg Fin.val e
        have e2 : 255 - n.val = k := by omega
        rw [e1]
      · next e => exact I.dqk n (by have : n.val ≠ 255 - k := fun e' => e (Fin.ext e'); omega) h r l
    · intro n hn h r l
      rw [s, b17_13 (H h) n r l, bwdCond_keep _ _]
      split
      · next e =>
        have e1 : n.val = 255 - k := congrArg Fin.val e
        have e2 : 255 - n.val = k := by omega
        rw [e1]
      · next e => exact I.dqd n (by have : n.val ≠ 255 - k := fun e' => e (Fin.ext e'); omega) h r l
    · intro n hn h r l
      rw [s, b17_14 (H h) n r l, bwdCond_keep _ _]
      split
      · next e =>
        have e1 : n.val = 255 - k := congrArg Fin.val e
        have e2 : 255 - n.val = k := by omega
        rw [e2, e1]
      · next e => exact I.dkd n (by have : n.val ≠ 255 - k := fun e' => e (Fin.ext e'); omega) h r l
    · intro n hn h
      rw [s, b17_15 (H h) n , bwdCond_keep _ _]
      split
      · next e =>
        have e1 : n.val = 255 - k := congrArg Fin.val e
        have e2 : 255 - n.val = k := by omega
        rw [e2, e1]
      · next e => exact I.dgl n (by have : n.val ≠ 255 - k := fun e' => e (Fin.ext e'); omega) h

end

/-! The results. -/

section
variable (V : Valuation τ sig (Elt Ideal))

theorem tail1_dkd (y : S16384x1024.Idx) : after tail1 V main_v38 y =
    V main_v34_14 (ix5 ⟨(y 0).val / 64, by have : (y 0).val < 16384 := (y 0).isLt; omega⟩ 0 (hd (y 1)) (rw64 (y 0)) (ln (y 1))) := by
  after_results
  idx_vars y
  pointwise
  exact Fin.sum_univ_one (M := EReal) _

theorem tail1_dqd (y : S16384x1024.Idx) : after tail1 V main_v41 y =
    V main_v34_13 (ix5 ⟨(y 0).val / 64, by have : (y 0).val < 16384 := (y 0).isLt; omega⟩ 0 (hd (y 1)) (rw64 (y 0)) (ln (y 1))) := by
  after_results
  idx_vars y
  pointwise
  exact Fin.sum_univ_one (M := EReal) _

theorem tail1_dw (y : S16384x1024.Idx) : after tail1 V main_v44 y =
    V main_v34_11 (ix5 ⟨(y 0).val / 64, by have : (y 0).val < 16384 := (y 0).isLt; omega⟩ 0 (hd (y 1)) (rw64 (y 0)) (ln (y 1))) := by
  after_results
  idx_vars y
  pointwise
  exact Fin.sum_univ_one (M := EReal) _

theorem tail1_dub (y : S16384x1024.Idx) : after tail1 V main_v47 y =
    V main_v34_10 (ix5 ⟨(y 0).val / 64, by have : (y 0).val < 16384 := (y 0).isLt; omega⟩ 0 (hd (y 1)) (rw64 (y 0)) (ln (y 1))) := by
  after_results
  idx_vars y
  pointwise
  exact Fin.sum_univ_one (M := EReal) _

theorem tail1_dqk (y : S8x16384x64.Idx) : after tail1 V main_v50 y =
    V main_v34_12 (ix5 ⟨(y 1).val / 64, by have : (y 1).val < 16384 := (y 1).isLt; omega⟩ 0 (y 0) (rw64 (y 1)) (y 2)) := by
  after_results
  idx_vars y
  pointwise
  exact Fin.sum_univ_one (M := EReal) _

theorem tail1_dgl (y : S256x1024.Idx) : after tail1 V main_v52 y = V main_v34_15 (ix3 (y 0) 0 (hd (y 1))) := by
  after_results
  idx_vars y
  pointwise
  exact Fin.sum_univ_one (M := EReal) _

end

section
variable (m : (ℓ : Loc nD τ sig) → Buf (Elt Ideal) ℓ) (c : Dev nD)

/-- The chunks of the arguments. -/
def X (h : Fin 8) (n : ℕ) : Chunk :=
  chunkOf (launchContents m c main_arg0) (launchContents m c main_arg1) (launchContents m c main_arg2) (launchContents m c main_arg3)
    (launchContents m c main_arg4) (spread (launchContents m c main_arg5)) (launchContents m c main_arg6) h n

theorem E0_eq : E0 m c = after host0 (launchContents m c) := rfl

theorem entryF : EntryF (E0 m) c (X m c) where
  ctr := ctr0 m c
  ub k h r l := by rw [E0_eq]; exact host0_0 _ k h r l
  w k h r l := by rw [E0_eq]; exact host0_1 _ k h r l
  qk k h r l := by rw [E0_eq]; exact host0_2 _ k h r l
  qd k h r l := by rw [E0_eq]; exact host0_3 _ k h r l
  kd k h r l := by rw [E0_eq]; exact host0_4 _ k h r l
  gl k h v := by
    rw [E0_eq, host0_5]
    show launchContents m c main_arg5 _ = launchContents m c main_arg5 (ix2 ⟨k.val % 256, _⟩ (hd (gl8 h v)))
    congr 2
    · exact Fin.ext (Nat.mod_eq_of_lt k.isLt).symm
    · exact Fin.ext (by dsimp only; omega)
  zero h i j := by rw [E0_eq]; exact host0_7 _ h i j

/-- The buffers where the forward loop ends. -/
abbrev M0 : Valuation τ sig (Elt Ideal) := after fwdCond (at0 (E0 m) 256 c)

theorem E1_eq : E1 m c = after tail0 (after host1 (M0 m c)) := rfl
/-- The buffers where the backward loop ends. -/
abbrev M1 : Valuation τ sig (Elt Ideal) := after bwdCond (at1 (E1 m) 256 c)

theorem E2_eq : E2 m c = after tail1 (M1 m c) := rfl

theorem M0_keep (b : Ref sig .tc) (h : b ∉ fwdCond_W) (h' : b ∉ fwd_all) : M0 m c b = E0 m c b :=
  (fwdCond_keep _ b h).trans (fwd_at_keep (E0 m) c b h' 256)

theorem M1_keep (b : Ref sig .tc) (h : b ∉ bwdCond_W) (h' : b ∉ bwd_all) : M1 m c b = E1 m c b :=
  (bwdCond_keep _ b h).trans (bwd_at_keep (E1 m) c b h' 256)

theorem M0_arg6 : M0 m c main_arg6 = launchContents m c main_arg6 := by
  rw [M0_keep m c _ (by decide +kernel) (by decide +kernel), E0_eq, host0_keep _ _]

theorem entryB (hX : ∀ h n, (X m c h n).Real) : EntryB (E1 m) c (X m c) where
  ctr := ctr1 m c
  dO k h r l := by
    rw [E1_eq, tail0_0, host1_26, M0_arg6]
    rfl
  st k h i j := by
    rw [E1_eq, tail0_1, host1_keep _ _]
    refine (congrFun (fwdCond_keep _ _) _).trans ?_
    exact (invF (entryF m c) 256 le_rfl).sts k k.isLt h i j
  u k h r l := by
    rw [E1_eq, tail0_4, host1_keep _ _]
    refine (congrFun (fwdCond_keep _ _) _).trans ?_
    exact (invF (entryF m c) 256 le_rfl).u k k.isLt h r l
  gl k h v := by
    rw [E1_eq, tail0_6, host1_keep _ _]
    refine (congrFun (fwdCond_keep _ _) _).trans ?_
    exact (invF (entryF m c) 256 le_rfl).gl k k.isLt h v
  w k h r l := by
    rw [E1_eq, tail0_2, host1_keep _ _, M0_keep m c _ (by decide +kernel) (by decide +kernel), E0_eq, ← host0c_1]
    exact host0_1 _ k h r l
  qd k h r l := by
    rw [E1_eq, tail0_3, host1_keep _ _, M0_keep m c _ (by decide +kernel) (by decide +kernel), E0_eq, ← host0c_3]
    exact host0_3 _ k h r l
  qk k h r l := by
    rw [E1_eq, tail0_5, host1_keep _ _, M0_keep m c _ (by decide +kernel) (by decide +kernel), E0_eq, ← host0c_2]
    exact host0_2 _ k h r l
  kd k h r l := by
    rw [E1_eq, tail0_7, host1_keep _ _, M0_keep m c _ (by decide +kernel) (by decide +kernel), E0_eq, ← host0c_4]
    exact host0_4 _ k h r l
  zero h i j := by
    rw [E1_eq, tail0_9]
    exact host1_27 _ h i j
  real := hX

theorem E2_o : E2 m c main_v23 = oOf (X m c) := by
  funext y
  rw [E2_eq, tail1_keep _ _, M1_keep m c _ (by decide +kernel) (by decide +kernel), E1_eq, tail0_keep _ _, host1_23]
  refine (congrFun (fwdCond_keep _ _) _).trans ?_
  exact (invF (entryF m c) 256 le_rfl).out _ (Fin.isLt _) _ _ _

variable (hX : ∀ h n, (X m c h n).Real)
include hX

theorem E2_dub : E2 m c main_v47 = dubOf (X m c) := by
  funext y
  rw [E2_eq, tail1_dub]
  refine (congrFun (bwdCond_keep _ _) _).trans ?_
  exact (invB (entryB m c hX) 256 le_rfl).du _ (by omega) _ _ _

theorem E2_dw : E2 m c main_v44 = dwOf (X m c) := by
  funext y
  rw [E2_eq, tail1_dw]
  refine (congrFun (bwdCond_keep _ _) _).trans ?_
  exact (invB (entryB m c hX) 256 le_rfl).dw _ (by omega) _ _ _

theorem E2_dqd : E2 m c main_v41 = dqdOf (X m c) := by
  funext y
  rw [E2_eq, tail1_dqd]
  refine (congrFun (bwdCond_keep _ _) _).trans ?_
  exact (invB (entryB m c hX) 256 le_rfl).dqd _ (by omega) _ _ _

theorem E2_dkd : E2 m c main_v38 = dkdOf (X m c) := by
  funext y
  rw [E2_eq, tail1_dkd]
  refine (congrFun (bwdCond_keep _ _) _).trans ?_
  exact (invB (entryB m c hX) 256 le_rfl).dkd _ (by omega) _ _ _

theorem E2_dqk : E2 m c main_v50 = dqkOf (X m c) := by
  funext y
  rw [E2_eq, tail1_dqk]
  refine (congrFun (bwdCond_keep _ _) _).trans ?_
  exact (invB (entryB m c hX) 256 le_rfl).dqk _ (by omega) _ _ _

theorem E2_dgl : E2 m c main_v52 = dglOf (X m c) := by
  funext y
  rw [E2_eq, tail1_dgl]
  refine (congrFun (bwdCond_keep _ _) _).trans ?_
  exact (invB (entryB m c hX) 256 le_rfl).dgl _ (by omega) _

end

end Cert.Proof.Ref

end
-- ==== Proof.Algebraic.lean ====
module

public import proofs.«01_k».proof.Defs
public import proofs.«01_k».proof.Proof.Frames
public import proofs.«01_k».proof.Proof.Finite
public import proofs.«01_k».proof.Proof.KernelVal
public import proofs.«01_k».proof.Proof.RefVal

@[expose] public section

noncomputable section

/-! Both programs end with the same seven arrays. -/

namespace Cert.Proof

open Idealize.ShloMosaic Idealize.SL.Sem

/-- Of equal arguments the chunks are the same. -/
theorem X_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Ref.X m' c = KernelRun.X m c := by
  funext h n
  unfold Ref.X KernelRun.X
  have d0 : StableHlo.launchContents m' c (Proc.devRef .tc Cert.ReferenceIdeal.main_arg0) = KernelRun.W0 m c (Proc.devRef .tc Cert.KernelIdeal.main_arg0) := e0
  have d1 : StableHlo.launchContents m' c (Proc.devRef .tc Cert.ReferenceIdeal.main_arg1) = KernelRun.W0 m c (Proc.devRef .tc Cert.KernelIdeal.main_arg1) := e1
  have d2 : StableHlo.launchContents m' c (Proc.devRef .tc Cert.ReferenceIdeal.main_arg2) = KernelRun.W0 m c (Proc.devRef .tc Cert.KernelIdeal.main_arg2) := e2
  have d3 : StableHlo.launchContents m' c (Proc.devRef .tc Cert.ReferenceIdeal.main_arg3) = KernelRun.W0 m c (Proc.devRef .tc Cert.KernelIdeal.main_arg3) := e3
  have d4 : StableHlo.launchContents m' c (Proc.devRef .tc Cert.ReferenceIdeal.main_arg4) = KernelRun.W0 m c (Proc.devRef .tc Cert.KernelIdeal.main_arg4) := e4
  have d5 : StableHlo.launchContents m' c (Proc.devRef .tc Cert.ReferenceIdeal.main_arg5) = KernelRun.W0 m c (Proc.devRef .tc Cert.KernelIdeal.main_arg5) := e5
  have d6 : StableHlo.launchContents m' c (Proc.devRef .tc Cert.ReferenceIdeal.main_arg6) = KernelRun.W0 m c (Proc.devRef .tc Cert.KernelIdeal.main_arg6) := e6
  rw [d0, d1, d2, d3, d4, d5, d6]

theorem algebraic : Cert.algebraic_KernelIdeal_ReferenceIdeal_pre_finite := by
  intro m g m' g' hm he
  have hX : ∀ c, Ref.X m' c = KernelRun.X m c := fun c => by
    obtain ⟨e0, e1, e2, e3, e4, e5, e6⟩ := he c
    exact X_eq m m' c e0 e1 e2 e3 e4 e5 e6
  have hR : ∀ c h n, (Ref.X m' c h n).Real := fun c h n => by rw [hX c]; exact X_real m hm c h n
  refine ⟨fun c => oOf (KernelRun.X m c), fun c => dubOf (KernelRun.X m c), fun c => dwOf (KernelRun.X m c), fun c => dqdOf (KernelRun.X m c), fun c => dkdOf (KernelRun.X m c), fun c => dqkOf (KernelRun.X m c), fun c => dglOf (KernelRun.X m c), ?_, ?_⟩
  · refine (θ_run Cert.KernelIdeal.defs _ _).mono (fun r H c => ?_) (KernelRun.run_main (F := Ideal) m g)
    exact ⟨(H.1 c Cert.KernelIdeal.main_v2_0 rfl).trans (KernelRun.W3_o m c),
      (H.1 c Cert.KernelIdeal.main_v3_0 rfl).trans (KernelRun.W3_dub m c),
      (H.1 c Cert.KernelIdeal.main_v3_1 rfl).trans (KernelRun.W3_dw m c),
      (H.1 c Cert.KernelIdeal.main_v3_2 rfl).trans (KernelRun.W3_dqd m c),
      (H.1 c Cert.KernelIdeal.main_v3_3 rfl).trans (KernelRun.W3_dkd m c),
      (H.1 c Cert.KernelIdeal.main_v3_4 rfl).trans (KernelRun.W3_dqk m c),
      (H.1 c Cert.KernelIdeal.main_v3_5 rfl).trans (KernelRun.W3_dgl m c),
      kernel_args m _ H.1 c⟩
  · refine (θ_run Cert.ReferenceIdeal.defs _ _).mono (fun r H c => ?_) (Ref.run_main (F := Ideal) m' g')
    exact ⟨(H.1 c Cert.ReferenceIdeal.main_v23 rfl).trans ((Ref.E2_o m' c).trans (congrArg oOf (hX c))),
      (H.1 c Cert.ReferenceIdeal.main_v47 rfl).trans ((Ref.E2_dub m' c (hR c)).trans (congrArg dubOf (hX c))),
      (H.1 c Cert.ReferenceIdeal.main_v44 rfl).trans ((Ref.E2_dw m' c (hR c)).trans (congrArg dwOf (hX c))),
      (H.1 c Cert.ReferenceIdeal.main_v41 rfl).trans ((Ref.E2_dqd m' c (hR c)).trans (congrArg dqdOf (hX c))),
      (H.1 c Cert.ReferenceIdeal.main_v38 rfl).trans ((Ref.E2_dkd m' c (hR c)).trans (congrArg dkdOf (hX c))),
      (H.1 c Cert.ReferenceIdeal.main_v50 rfl).trans ((Ref.E2_dqk m' c (hR c)).trans (congrArg dqkOf (hX c))),
      (H.1 c Cert.ReferenceIdeal.main_v52 rfl).trans ((Ref.E2_dgl m' c (hR c)).trans (congrArg dglOf (hX c))),
      reference_args m' _ H.1 c⟩

end Cert.Proof

end
-- ==== Proof.Silu.lean ====
module

public import proofs.«01_k».proof.Proof.Reals
public import Idealize.ShloMosaic.PureOps.Ideal.Laws
public import Idealize.ShloMosaic.Lib.IdealHost

@[expose] public section

noncomputable section

/-! The sigmoid the kernel writes by a tanh, and the derivative of `g * sigmoid g * u`. -/

namespace Cert.Proof

open Idealize.ShloMosaic

theorem half_bits : Ideal.ofBits .f32 0x3F000000#32 = ((1 / 2 : ℝ) : EReal) := by
  simp [Ideal.ofBits, Ideal.ieee, -EReal.coe_mul]
  norm_num

theorem real_sigmoid (x : ℝ) : 1 / 2 * Real.tanh (1 / 2 * x) + 1 / 2 = (1 + Real.exp (-x))⁻¹ := by
  have e : Real.exp (-x) = Real.exp (-(1 / 2 * x)) * Real.exp (-(1 / 2 * x)) := by rw [← Real.exp_add]; ring_nf
  have e' : Real.exp (1 / 2 * x) * Real.exp (-(1 / 2 * x)) = 1 := by rw [← Real.exp_add]; simp
  have p := Real.exp_pos (1 / 2 * x)
  have p' := Real.exp_pos (-(1 / 2 * x))
  rw [Real.tanh_eq_sinh_div_cosh, Real.sinh_eq, Real.cosh_eq, e]
  generalize Real.exp (1 / 2 * x) = a at *
  generalize Real.exp (-(1 / 2 * x)) = b at *
  obtain rfl : a = b⁻¹ := eq_inv_of_mul_eq_one_left e'
  field_simp
  ring

/-- `0.5 * tanh(0.5 * x) + 0.5` is `1 / (1 + exp(-x))`, at the infinities too. -/
theorem sigmoid_tanh (x : EReal) :
    Ideal.ofBits .f32 0x3F000000#32 * Ideal.tanh (Ideal.ofBits .f32 0x3F000000#32 * x) + Ideal.ofBits .f32 0x3F000000#32 = Ideal.logistic x := by
  rw [half_bits]
  induction x with
  | bot =>
    rw [EReal.coe_mul_bot_of_pos (by norm_num), Ideal.tanh_bot, Ideal.logistic_bot, ← EReal.coe_one, ← EReal.coe_neg, ← EReal.coe_mul,
      ← EReal.coe_add, ← EReal.coe_zero]
    norm_num
  | top =>
    rw [EReal.coe_mul_top_of_pos (by norm_num), Ideal.tanh_top, Ideal.logistic_top, ← EReal.coe_one, ← EReal.coe_mul, ← EReal.coe_add]
    norm_num
  | coe x => rw [← EReal.coe_mul, Ideal.tanh_coe, Ideal.logistic_coe, ← EReal.coe_mul, ← EReal.coe_add, real_sigmoid]

/-- The derivative in the gate, as the kernel and as the product rule write it; the gate may be infinite. -/
theorem silu_grad {p : EReal} (hp : IsReal p) (g : EReal) :
    p * (Ideal.logistic g + g * Ideal.logistic g * (1 - Ideal.logistic g))
      = p * Ideal.logistic g + g * p * (Ideal.logistic g * (1 - Ideal.logistic g)) := by
  obtain ⟨a, rfl⟩ := hp
  have h1 : (1 : EReal) - 1 = 0 := by rw [← EReal.coe_one, ← EReal.coe_sub]; simp
  induction g with
  | bot => rw [Ideal.logistic_bot]; simp
  | top => rw [Ideal.logistic_top, h1]; simp
  | coe g =>
    rw [Ideal.logistic_coe, ← EReal.coe_one]
    norm_cast
    ring

end Cert.Proof

end
-- ==== Proof.ActBwd.lean ====
module

public import proofs.«01_k».proof.Proof.Silu
public import proofs.«01_k».proof.Proof.Gen.Kernel2Ideal.Value
public import Idealize.ShloMosaic.Lib.Pipeline.ValueKit.Point
public import Idealize.ShloMosaic.Lib.Pipeline.ValueKit.Acc

@[expose] public section

set_option maxRecDepth 16384

noncomputable section

/-! The call that takes the feed-forward part's gradient back through the activation: its two result arrays. -/

namespace Cert.Proof.ActBwd

open Cert.Kernel2Ideal Cert.Kernel2Ideal.Gen
open Idealize.ShloMosaic Idealize.ShloMosaic.TcCoe Idealize.ShloMosaic.Tactic

/-- The gradient of the activation's product: `dh` against the rows of `w_down`. -/
def dv (dh : S16384x1024.Idx → EReal) (wd : S2816x1024.Idx → EReal) (r : Fin 16384) (s : Fin 2816) : EReal :=
  ∑ k : Fin 1024, dh (ix2 r k) * wd (ix2 s k)

def dgate (dh : S16384x1024.Idx → EReal) (wd : S2816x1024.Idx → EReal) (g u : S16384x2816.Idx → EReal) (y : S16384x2816.Idx) : EReal :=
  dv dh wd (y 0) (y 1) * u y * (Ideal.logistic (g y) + g y * Ideal.logistic (g y) * (1 - Ideal.logistic (g y)))

def dup (dh : S16384x1024.Idx → EReal) (wd : S2816x1024.Idx → EReal) (g : S16384x2816.Idx → EReal) (y : S16384x2816.Idx) : EReal :=
  dv dh wd (y 0) (y 1) * g y * Ideal.logistic (g y)

theorem idx : ∀ t : Fin cfg0.N, win0_0.index t = ![t.val / 2, 0] ∧ win0_1.index t = ![t.val % 2, 0] ∧ win0_2.index t = ![t.val / 2, t.val % 2]
    ∧ win0_3.index t = ![t.val / 2, t.val % 2] ∧ win0_4.index t = ![t.val / 2, t.val % 2] ∧ win0_5.index t = ![t.val / 2, t.val % 2] := by
  decide +kernel

theorem pay3 (v6 : Vec Ideal S1024x1408 .bf16) (y : S1024x1408.Idx) : k0_pay3 v6 y = Ideal.logistic (v6 y) := by
  unfold k0_pay3 k0_pay2
  pointwise
  exact sigmoid_tanh _

theorem pay1 (v0 : Vec Ideal S1024x1024 .f32) (v1 : Vec Ideal S1408x1024 .bf16) (a : Fin 1024) (b : Fin 1408) :
    k0_pay1 v0 v1 (ix2 a b) = ∑ k : Fin 1024, v0 (ix2 a k) * v1 (ix2 b k) := by
  unfold k0_pay1
  pointwise

theorem pay4 (v0 : Vec Ideal S1024x1024 .f32) (v1 : Vec Ideal S1408x1024 .bf16) (v6 v15 : Vec Ideal S1024x1408 .bf16) (a : Fin 1024) (b : Fin 1408) :
    k0_pay4 v0 v1 v6 v15 (ix2 a b) = (∑ k : Fin 1024, v0 (ix2 a k) * v1 (ix2 b k)) * v15 (ix2 a b)
      * (Ideal.logistic (v6 (ix2 a b)) + v6 (ix2 a b) * Ideal.logistic (v6 (ix2 a b)) * (1 - Ideal.logistic (v6 (ix2 a b)))) := by
  rw [← pay1, ← pay3]
  unfold k0_pay4 k0_pay2
  pointwise

theorem pay5 (v0 : Vec Ideal S1024x1024 .f32) (v1 : Vec Ideal S1408x1024 .bf16) (v6 : Vec Ideal S1024x1408 .bf16) (a : Fin 1024) (b : Fin 1408) :
    k0_pay5 v0 v1 v6 (ix2 a b) = (∑ k : Fin 1024, v0 (ix2 a k) * v1 (ix2 b k)) * v6 (ix2 a b) * Ideal.logistic (v6 (ix2 a b)) := by
  rw [← pay1, ← pay3]
  unfold k0_pay5 k0_pay2
  pointwise

variable (m : (ℓ : Loc nD τ sig) → Buf (Elt Ideal) ℓ) (c : Dev nD)

theorem final4 : (dats m 0 c).arrAt 4 cfg0.N = dgate (V m c main_arg0) (V m c main_arg1) (V m c main_arg2) (V m c main_arg3) := by
  refine (dats m 0 c).arrAt_eq_of_covers 4 _ (by decide +kernel) fun t hf y => ?_
  rw [after0_4]
  frame_out
  revert y
  show ∀ y : S1024x1408.Idx, _
  intro y
  idx_vars y
  blk_simp
  rw [pay4]
  unfold dgate dv
  congr! 5
  all_goals blk_ext [iblk, idx t]

theorem final5 : (dats m 0 c).arrAt 5 cfg0.N = dup (V m c main_arg0) (V m c main_arg1) (V m c main_arg2) := by
  refine (dats m 0 c).arrAt_eq_of_covers 5 _ (by decide +kernel) fun t hf y => ?_
  rw [after0_5]
  frame_out
  revert y
  show ∀ y : S1024x1408.Idx, _
  intro y
  idx_vars y
  blk_simp
  rw [pay5]
  unfold dup dv
  congr! 5
  all_goals blk_ext [iblk, idx t]

end Cert.Proof.ActBwd

end
-- ==== Proof.ActBwdClaim.lean ====
module

public import proofs.«01_k».proof.Defs
public import proofs.«01_k».proof.Proof.ActBwd
public import proofs.«01_k».proof.Proof.Finite
public import proofs.«01_k».proof.Proof.Gen.Kernel2
public import proofs.«01_k».proof.Proof.Gen.Reference2Ideal.Run
public import Idealize.ShloMosaic.Lib.Claim

@[expose] public section

set_option maxRecDepth 16384

noncomputable section

/-! The claims of the activation's backward call. -/

namespace Cert.Proof.ActBwd

open Idealize.ShloMosaic Idealize.ShloMosaic.TcCoe Idealize.ShloMosaic.Tactic Idealize.SL.Sem

instance finite2_facts : Cert.Pre_finite2.Facts where
  bcast_S_S16384x1024 := by decide
  bcast_S_S2816x1024 := by decide
  bcast_S_S16384x2816 := by decide

theorem frame_kernelIdeal : Cert.quiescent_Kernel2Ideal := fun m ρ _ => Cert.Kernel2Ideal.Gen.frame m ρ

theorem frame_kernel : Cert.quiescent_Kernel2 := by
  intro m ρ _
  refine Eq.mp ?_ (Cert.Kernel2Ideal.Gen.frame (F := Bits) m ρ)
  chain_rfl

theorem frame_referenceIdeal : Cert.quiescent_Reference2Ideal := by
  intro m ρ _
  refine (θ_run Cert.Reference2Ideal.defs _ _).mono (fun r h => ⟨fun c => (h c).2.2, sem_eq_zero_of_no_sems rfl _⟩) (Cert.Reference2Ideal.Value.run (F := Ideal) m ρ)

open Cert.Kernel2Ideal in
theorem algebraic : Cert.algebraic_Kernel2Ideal_Reference2Ideal_pre_finite2 := by
  intro m g m' g' hm he
  refine ⟨fun c => dgate (Gen.V m c main_arg0) (Gen.V m c main_arg1) (Gen.V m c main_arg2) (Gen.V m c main_arg3),
    fun c => dup (Gen.V m c main_arg0) (Gen.V m c main_arg1) (Gen.V m c main_arg2), ?_, ?_⟩
  · exact (θ_run Cert.Kernel2Ideal.defs _ _).mono (fun r h c => ⟨(h c).1.trans (final4 m c), (h c).2.1.trans (final5 m c), (h c).2.2⟩)
      (Value.run_blocks (F := Ideal) m g)
  · refine (θ_run Cert.Reference2Ideal.defs _ _).mono (fun r h c => ⟨(h c).1.trans ?_, (h c).2.1.trans ?_, (h c).2.2⟩)
      (Cert.Reference2Ideal.Value.run (F := Ideal) m' g')
    all_goals
      obtain ⟨e0, e1, e2, e3⟩ := he c
      obtain ⟨f0, f1, f2⟩ := hm c
      rw [e0, e1, e2]
      try rw [e3]
      funext y
      revert y
      show ∀ y : S16384x2816.Idx, _
      intro y
      idx_vars y
      pointwise
    · exact (silu_grad (.mul (.sum fun k => .mul (isReal_of_abs_lt (congrFun f0 (ix2 y0 k))) (isReal_of_abs_lt (congrFun f1 (ix2 y1 k))))
        (isReal_of_abs_lt (congrFun f2 (ix2 y0 y1)))) _).symm
    · exact (mul_comm _ _).trans (mul_assoc _ _ _).symm

end Cert.Proof.ActBwd

end
-- ==== Proof.ActFwd.lean ====
module

public import proofs.«01_k».proof.Defs
public import proofs.«01_k».proof.Proof.Silu
public import proofs.«01_k».proof.Proof.Gen.Kernel3
public import proofs.«01_k».proof.Proof.Gen.Kernel3Ideal.Value
public import proofs.«01_k».proof.Proof.Gen.Reference3Ideal.Run
public import Idealize.ShloMosaic.Lib.Pipeline.ValueKit.Point
public import Idealize.ShloMosaic.Lib.Pipeline.ValueKit.Acc
public import Idealize.ShloMosaic.Lib.Claim

@[expose] public section

set_option maxRecDepth 16384

noncomputable section

/-! The feed-forward part's forward call up to the activation: its three result arrays and its claims. -/

namespace Cert.Proof.ActFwd

open Idealize.ShloMosaic Idealize.ShloMosaic.TcCoe Idealize.ShloMosaic.Tactic Idealize.SL.Sem

section

open Cert.Kernel3Ideal Cert.Kernel3Ideal.Gen

/-- A row of `x` against a column of `w`. -/
def proj (x : S16384x1024.Idx → EReal) (w : S1024x2816.Idx → EReal) (y : S16384x2816.Idx) : EReal :=
  ∑ k : Fin 1024, x (ix2 (y 0) k) * w (ix2 k (y 1))

/-- `silu g * u` of one gate and one up value. -/
def swiglu (g u : EReal) : EReal := g * Ideal.logistic g * u

def act (x : S16384x1024.Idx → EReal) (w w' : S1024x2816.Idx → EReal) (y : S16384x2816.Idx) : EReal :=
  swiglu (proj x w y) (proj x w' y)

theorem idx : ∀ t : Fin cfg0.N, win0_0.index t = ![t.val / 2, 0] ∧ win0_1.index t = ![0, t.val % 2] ∧ win0_2.index t = ![0, t.val % 2]
    ∧ win0_3.index t = ![t.val / 2, t.val % 2] ∧ win0_4.index t = ![t.val / 2, t.val % 2] ∧ win0_5.index t = ![t.val / 2, t.val % 2] := by
  decide +kernel

theorem pay3 (v0 : Vec Ideal S1024x1024 .bf16) (v1 : Vec Ideal S1024x1408 .bf16) (a : Fin 1024) (b : Fin 1408) :
    k0_pay3 v0 v1 (ix2 a b) = ∑ k : Fin 1024, v0 (ix2 a k) * v1 (ix2 k b) := by
  unfold k0_pay3 k0_pay1
  pointwise

theorem pay4 (v0 : Vec Ideal S1024x1024 .bf16) (v3 : Vec Ideal S1024x1408 .bf16) (a : Fin 1024) (b : Fin 1408) :
    k0_pay4 v0 v3 (ix2 a b) = ∑ k : Fin 1024, v0 (ix2 a k) * v3 (ix2 k b) := by
  unfold k0_pay4 k0_pay2
  pointwise

theorem pay5 (v0 : Vec Ideal S1024x1024 .bf16) (v1 v3 : Vec Ideal S1024x1408 .bf16) (a : Fin 1024) (b : Fin 1408) :
    k0_pay5 v0 v1 v3 (ix2 a b)
      = swiglu (∑ k : Fin 1024, v0 (ix2 a k) * v1 (ix2 k b)) (∑ k : Fin 1024, v0 (ix2 a k) * v3 (ix2 k b)) := by
  unfold swiglu
  rw [← sigmoid_tanh]
  unfold k0_pay5 k0_pay1 k0_pay2
  pointwise

variable (m : (ℓ : Loc nD τ sig) → Buf (Elt Ideal) ℓ) (c : Dev nD)

theorem final3 : (dats m 0 c).arrAt 3 cfg0.N = proj (V m c main_arg0) (V m c main_arg1) := by
  refine (dats m 0 c).arrAt_eq_of_covers 3 _ (by decide +kernel) fun t hf y => ?_
  rw [after0_3]
  frame_out
  revert y
  show ∀ y : S1024x1408.Idx, _
  intro y
  idx_vars y
  blk_simp
  rw [pay3]
  unfold proj
  congr! 3
  all_goals blk_ext [iblk, idx t]

theorem final4 : (dats m 0 c).arrAt 4 cfg0.N = proj (V m c main_arg0) (V m c main_arg2) := by
  refine (dats m 0 c).arrAt_eq_of_covers 4 _ (by decide +kernel) fun t hf y => ?_
  rw [after0_4]
  frame_out
  revert y
  show ∀ y : S1024x1408.Idx, _
  intro y
  idx_vars y
  blk_simp
  rw [pay4]
  unfold proj
  congr! 3
  all_goals blk_ext [iblk, idx t]

theorem final5 : (dats m 0 c).arrAt 5 cfg0.N = act (V m c main_arg0) (V m c main_arg1) (V m c main_arg2) := by
  refine (dats m 0 c).arrAt_eq_of_covers 5 _ (by decide +kernel) fun t hf y => ?_
  rw [after0_5]
  frame_out
  revert y
  show ∀ y : S1024x1408.Idx, _
  intro y
  idx_vars y
  blk_simp
  rw [pay5]
  unfold act proj
  congr! 4
  all_goals blk_ext [iblk, idx t]

end

theorem frame_kernelIdeal : Cert.quiescent_Kernel3Ideal := fun m ρ _ => Cert.Kernel3Ideal.Gen.frame m ρ

theorem frame_kernel : Cert.quiescent_Kernel3 := by
  intro m ρ _
  refine Eq.mp ?_ (Cert.Kernel3Ideal.Gen.frame (F := Bits) m ρ)
  chain_rfl

theorem frame_referenceIdeal : Cert.quiescent_Reference3Ideal := fun m ρ _ =>
  (θ_run Cert.Reference3Ideal.defs _ _).mono (fun r h => ⟨fun c => (h c).2.2.2, sem_eq_zero_of_no_sems rfl _⟩) (Cert.Reference3Ideal.Value.run (F := Ideal) m ρ)

open Cert.Kernel3Ideal in
theorem algebraic : Cert.algebraic_Kernel3Ideal_Reference3Ideal := by
  intro m g m' g' hm he
  refine ⟨fun c => proj (Gen.V m c main_arg0) (Gen.V m c main_arg1), fun c => proj (Gen.V m c main_arg0) (Gen.V m c main_arg2),
    fun c => act (Gen.V m c main_arg0) (Gen.V m c main_arg1) (Gen.V m c main_arg2), ?_, ?_⟩
  · exact (θ_run Cert.Kernel3Ideal.defs _ _).mono
      (fun r h c => ⟨(h c).1.trans (final3 m c), (h c).2.1.trans (final4 m c), (h c).2.2.1.trans (final5 m c), (h c).2.2.2⟩)
      (Value.run_blocks (F := Ideal) m g)
  · refine (θ_run Cert.Reference3Ideal.defs _ _).mono (fun r h c => ⟨(h c).1.trans ?_, (h c).2.1.trans ?_, (h c).2.2.1.trans ?_, (h c).2.2.2⟩)
      (Cert.Reference3Ideal.Value.run (F := Ideal) m' g')
    all_goals
      obtain ⟨e0, e1, e2⟩ := he c
      rw [e0]
      try rw [e1]
      try rw [e2]
      funext y
      revert y
      show ∀ y : S16384x2816.Idx, _
      intro y
      idx_vars y
      pointwise
      rfl

end Cert.Proof.ActFwd

end
-- ==== Proof.DHn.lean ====
module

public import proofs.«01_k».proof.Defs
public import proofs.«01_k».proof.Proof.Gen.Kernel4
public import proofs.«01_k».proof.Proof.Gen.Kernel4Ideal.Frame
public import Idealize.ShloMosaic.Lib.Pipeline.Value
public import proofs.«01_k».proof.Proof.Gen.Reference4Ideal.Run
public import Idealize.ShloMosaic.Lib.Pipeline.ValueKit.Point
public import Idealize.ShloMosaic.Lib.Pipeline.ValueKit.Acc
public import Idealize.ShloMosaic.Lib.Claim
public import Idealize.ShloMosaic.PureOps.Ideal.Laws

@[expose] public section

set_option maxRecDepth 16384

noncomputable section

/-! The gradient of the feed-forward part's input: two products in one call, walked in four steps of the contraction, and its claims. -/

namespace Cert.Proof.DHn

open Idealize.ShloMosaic Idealize.ShloMosaic.TcCoe Idealize.ShloMosaic.Tactic Idealize.SL.Sem

section

open Cert.Kernel4Ideal Cert.Kernel4Ideal.Gen

/-- The gate's gradient against the gate weights and the up's gradient against the up weights. -/
def dhn (dg du : S16384x2816.Idx → EReal) (wg wu : S1024x2816.Idx → EReal) (y : S16384x1024.Idx) : EReal :=
  (∑ l : Fin 2816, dg (ix2 (y 0) l) * wg (ix2 (y 1) l)) + ∑ l : Fin 2816, du (ix2 (y 0) l) * wu (ix2 (y 1) l)

theorem idx : ∀ t : Fin cfg0.N, win0_0.index t = ![t.val / 4, min (t.val % 4) 1] ∧ win0_1.index t = ![t.val / 4, t.val % 4 - 2]
    ∧ win0_2.index t = ![0, t.val % 4] ∧ win0_3.index t = ![t.val / 4, 0] := by
  decide +kernel

/-- One step of the contraction. -/
def part (v17 : Vec Ideal S1024x1408 .bf16) (v18 : Vec Ideal S1024x1408 .bf16) (y : S1024x1024.Idx) : EReal :=
  ∑ k : Fin 1408, v17 (ix2 (y 0) k) * v18 (ix2 (y 1) k)

theorem pay1 (y : S1024x1024.Idx) : k0_pay1 (F := Ideal) y = 0 := by
  unfold k0_pay1
  pointwise

theorem pay2 (v16 : Vec Ideal S1024x1024 .f32) (v17 v18 : Vec Ideal S1024x1408 .bf16) (y : S1024x1024.Idx) :
    k0_pay2 v16 v17 v18 y = v16 y + part v17 v18 y := by
  unfold k0_pay2 part
  idx_vars y
  pointwise

theorem pay3 (v16 : Vec Ideal S1024x1024 .f32) (v17 v18 : Vec Ideal S1024x1408 .bf16) (y : S1024x1024.Idx) :
    k0_pay3 v16 v17 v18 y = v16 y + part v17 v18 y :=
  pay2 v16 v17 v18 y

theorem held (v : Vec Ideal S1024x1024 .f32) :
    View.read (Elt Ideal) (View.whole cc0_scratch0) ((Memref.isWhole_whole cc0_scratch0).unread v) = v :=
  (Memref.isWhole_whole cc0_scratch0).read_unread v

variable (m : (ℓ : Loc nD τ sig) → Buf (Elt Ideal) ℓ) (c : Dev nD)

/-- What point `t` adds: the gate's step at the first two points of a row block, the up's at the last two. -/
def term (t : Fin cfg0.N) : S1024x1024.Idx → EReal :=
  if t.val % 4 ≤ 1 then part (iblk m c 0 t) (iblk m c 2 t) else part (iblk m c 1 t) (iblk m c 2 t)

theorem scratch (t : Fin cfg0.N) (h : t.val % 4 = 4 - 1) (y : S1024x1024.Idx) :
    (outsAt0 m c t.val t.isLt).2 y
      = 0 + ∑ s : Fin 4, term m c ⟨4 * (t.val / 4) + s.val, Pipeline.run_point_lt_of_flush t h s⟩ y :=
  Pipeline.eq_sum_fin_of_reset_step_apply_of_flush (fun n h => (outsAt0 m c n h).2) 4 (fun _ => 0) (term m c)
    (fun t h i => by
      rw [outsAt0_A m c t h (by omega) (by omega) (by omega)]
      frame_out
      rw [pay2, pay1, term, if_pos (by omega)])
    (fun t h i => by
      by_cases h1 : t.val % 4 ≤ 1
      · rw [outsAt0_B m c t h h1 (by omega) (by omega)]
        frame_out
        rw [pay2, held, term, if_pos h1]
      · by_cases h3 : t.val % 4 = 3
        · rw [outsAt0_D m c t h h1 (by omega) h3]
          frame_out
          rw [pay3, held, term, if_neg h1]
        · rw [outsAt0_C m c t h h1 (by omega) h3]
          frame_out
          rw [pay3, held, term, if_neg h1])
    t h y

theorem gu_left (a : Fin 1024) (l : Fin 2816) (h : l.val < 5632) : V m c main_v0 (ix2 a ⟨l.val, h⟩) = V m c main_arg2 (ix2 a l) := by
  rw [V_main_arg2]
  entry_read
  pointwise

theorem gu_right (a : Fin 1024) (l : Fin 2816) (h : 2816 + l.val < 5632) : V m c main_v0 (ix2 a ⟨2816 + l.val, h⟩) = V m c main_arg3 (ix2 a l) := by
  rw [V_main_arg3]
  entry_read
  pointwise

theorem halves (f : Fin 2816 → EReal) :
    ∑ l, f l = (∑ k : Fin 1408, f ⟨k.val, by omega⟩) + ∑ k : Fin 1408, f ⟨1408 + k.val, by omega⟩ :=
  Fin.sum_univ_add (a := 1408) (b := 1408) f

theorem final3 : (dats m 0 c).arrAt 3 cfg0.N = dhn (V m c main_arg0) (V m c main_arg1) (V m c main_arg2) (V m c main_arg3) := by
  refine (dats m 0 c).arrAt_eq_of_covers 3 _ (by decide +kernel) fun t hf y => ?_
  have ht := (flush0_3 t).mp hf
  rw [after0_3]
  revert y
  show ∀ y : S1024x1024.Idx, _
  intro y
  blk_simp
  have e : (outsAt0 m c t.val t.isLt).1 y = (outsAt0 m c t.val t.isLt).2 y := by
    rw [outsAt0_D m c t (by omega) (by omega) (by omega) ht]
    frame_out
    unfold k0_pay4
    pointwise
  rw [e, scratch m c t ht, zero_add, Fin.sum_univ_four]
  unfold dhn
  rw [halves, halves, ← add_assoc]
  idx_vars y
  have hs (s : Fin 4) := idx ⟨4 * (t.val / 4) + s.val, Pipeline.run_point_lt_of_flush t ht s⟩
  unfold term part
  congr 1
  · congr 1
    · congr 1
      · rw [if_pos (by simp)]
        refine Finset.sum_congr rfl fun k _ => ?_
        refine congr (congrArg _ ?_) (Eq.trans ?_ (gu_left m c _ ⟨k.val, by omega⟩ (by show _ < _; simp only []; omega)))
        all_goals blk_ext [iblk, idx t, hs 0]
      · rw [if_pos (by simp)]
        refine Finset.sum_congr rfl fun k _ => ?_
        refine congr (congrArg _ ?_) (Eq.trans ?_ (gu_left m c _ ⟨1408 + k.val, by omega⟩ (by show _ < _; simp only []; omega)))
        all_goals blk_ext [iblk, idx t, hs 1]
    · rw [if_neg (by simp)]
      refine Finset.sum_congr rfl fun k _ => ?_
      refine congr (congrArg _ ?_) (Eq.trans ?_ (gu_right m c _ ⟨k.val, by omega⟩ (by show _ < _; simp only []; omega)))
      all_goals blk_ext [iblk, idx t, hs 2]
  · rw [if_neg (by simp)]
    refine Finset.sum_congr rfl fun k _ => ?_
    refine congr (congrArg _ ?_) (Eq.trans ?_ (gu_right m c _ ⟨1408 + k.val, by omega⟩ (by show _ < _; simp only []; omega)))
    all_goals blk_ext [iblk, idx t, hs 3]

end

theorem frame_kernelIdeal : Cert.quiescent_Kernel4Ideal := fun m ρ _ => Cert.Kernel4Ideal.Gen.frame m ρ

theorem frame_kernel : Cert.quiescent_Kernel4 := by
  intro m ρ _
  refine Eq.mp ?_ (Cert.Kernel4Ideal.Gen.frame (F := Bits) m ρ)
  chain_rfl

theorem frame_referenceIdeal : Cert.quiescent_Reference4Ideal := fun m ρ _ =>
  (θ_run Cert.Reference4Ideal.defs _ _).mono (fun r h => ⟨fun c => (h c).2, sem_eq_zero_of_no_sems rfl _⟩) (Cert.Reference4Ideal.Value.run (F := Ideal) m ρ)

open Cert.Kernel4Ideal in
theorem algebraic : Cert.algebraic_Kernel4Ideal_Reference4Ideal := by
  intro m g m' g' hm he
  refine ⟨fun c => dhn (Gen.V m c main_arg0) (Gen.V m c main_arg1) (Gen.V m c main_arg2) (Gen.V m c main_arg3), ?_, ?_⟩
  · exact (θ_run Cert.Kernel4Ideal.defs _ _).mono (fun r h c => ⟨((h.1 c).1 3).trans (final3 m c), h.2 c⟩)
      (θ_run_and (Gen.run_main m g) (Gen.unchanged (F := Ideal) m g))
  · refine (θ_run Cert.Reference4Ideal.defs _ _).mono (fun r h c => ⟨(h c).1.trans ?_, (h c).2⟩) (Cert.Reference4Ideal.Value.run (F := Ideal) m' g')
    obtain ⟨e0, e1, e2, e3⟩ := he c
    rw [e0, e1, e2, e3]
    show _ = dhn _ _ _ _
    rw [Gen.V_main_arg0, Gen.V_main_arg1, Gen.V_main_arg2, Gen.V_main_arg3]
    funext y
    revert y
    show ∀ y : S16384x1024.Idx, _
    intro y
    idx_vars y
    pointwise
    exact add_comm _ _

end Cert.Proof.DHn

end
-- ==== Proof.GradBase.lean ====
module

public import Idealize.ShloMosaic.Lib.Pipeline.ValueKit.Point
public import Idealize.ShloMosaic.PureOps.Ideal.Laws

@[expose] public section

noncomputable section

/-! The gradient of a product's weights, of whole arrays and of one block of tokens. -/

namespace Cert.Proof.GradBase

open Idealize.ShloMosaic

/-- A column of what went in against a column of the gradients of what came out. -/
def gradW {n a b : Nat} (x : (⟨2, ![n, a]⟩ : Shape).Idx → EReal) (dy : (⟨2, ![n, b]⟩ : Shape).Idx → EReal)
    (y : (⟨2, ![a, b]⟩ : Shape).Idx) : EReal :=
  ∑ l : Fin n, x (ix2 l (y 0)) * dy (ix2 l (y 1))

end Cert.Proof.GradBase

end
-- ==== Proof.GradW.lean ====
module

public import proofs.«01_k».proof.Defs
public import proofs.«01_k».proof.Proof.Gen.Kernel5
public import proofs.«01_k».proof.Proof.Gen.Kernel5Ideal.Value
public import proofs.«01_k».proof.Proof.Gen.Reference5Ideal.Run
public import proofs.«01_k».proof.Proof.GradBase
public import Idealize.ShloMosaic.Lib.Pipeline.ValueKit.Point
public import Idealize.ShloMosaic.Lib.Pipeline.ValueKit.Acc
public import Idealize.ShloMosaic.Lib.Claim
public import Idealize.ShloMosaic.PureOps.Ideal.Laws

@[expose] public section

set_option maxRecDepth 16384

noncomputable section

/-! The gradient of the feed-forward part's gate weights, summed over the tokens block by block, and its claims. -/

namespace Cert.Proof.GradW

open Idealize.ShloMosaic Idealize.ShloMosaic.TcCoe Idealize.ShloMosaic.Tactic Idealize.SL.Sem

open GradBase (gradW)

section

open Cert.Kernel5Ideal Cert.Kernel5Ideal.Gen

theorem idx : ∀ t : Fin cfg0.N, win0_0.index t = ![t.val % 16, 0] ∧ win0_1.index t = ![t.val % 16, t.val / 16] ∧ win0_2.index t = ![0, t.val / 16] := by
  decide +kernel

theorem pay1 (y : S1024x1408.Idx) : k0_pay1 (F := Ideal) y = 0 := by
  unfold k0_pay1
  pointwise

theorem pay2 (v3 : Vec Ideal S1024x1408 .f32) (v4 : Vec Ideal S1024x1024 .bf16) (v5 : Vec Ideal S1024x1408 .bf16) (y : S1024x1408.Idx) :
    k0_pay2 v3 v4 v5 y = v3 y + gradW v4 v5 y := by
  unfold k0_pay2 gradW
  idx_vars y
  pointwise

variable (m : (ℓ : Loc nD τ sig) → Buf (Elt Ideal) ℓ) (c : Dev nD)

theorem held (v : Vec Ideal S1024x1408 .f32) :
    View.read (Elt Ideal) (View.whole cc0_scratch0) ((Memref.isWhole_whole cc0_scratch0).unread v) = v :=
  (Memref.isWhole_whole cc0_scratch0).read_unread v

theorem scratch (t : Fin cfg0.N) (h : t.val % 16 = 16 - 1) (y : S1024x1408.Idx) :
    (outsAt0 m c t.val t.isLt).2 y
      = 0 + ∑ s : Fin 16, gradW (iblk m c 0 ⟨16 * (t.val / 16) + s.val, Pipeline.run_point_lt_of_flush t h s⟩)
          (iblk m c 1 ⟨16 * (t.val / 16) + s.val, Pipeline.run_point_lt_of_flush t h s⟩) y :=
  Pipeline.eq_sum_fin_of_reset_step_apply_of_flush (fun n h => (outsAt0 m c n h).2) 16 (fun _ => 0)
    (fun t => gradW (iblk m c 0 t) (iblk m c 1 t))
    (fun t h i => by
      have h1 : ¬t.val % 16 = 15 := by omega
      rw [outsAt0_A m c t h h1]
      frame_out
      rw [pay2, pay1])
    (fun t h i => by
      by_cases h1 : t.val % 16 = 15
      · rw [outsAt0_C m c t h h1]
        frame_out
        rw [pay2, held]
      · rw [outsAt0_B m c t h h1]
        frame_out
        rw [pay2, held])
    t h y

theorem final2 : (dats m 0 c).arrAt 2 cfg0.N = gradW (V m c main_arg0) (V m c main_arg1) := by
  refine (dats m 0 c).arrAt_eq_of_covers 2 _ (by decide +kernel) fun t hf y => ?_
  have ht := (flush0_2 t).mp hf
  rw [after0_2]
  revert y
  show ∀ y : S1024x1408.Idx, _
  intro y
  blk_simp
  have e : (outsAt0 m c t.val t.isLt).1 y = (outsAt0 m c t.val t.isLt).2 y := by
    rw [outsAt0_C m c t (by omega) ht]
    frame_out
    unfold k0_pay3
    pointwise
  rw [e, scratch m c t ht, zero_add]
  unfold gradW
  refine Fin.sum_mul_add_congr fun s k hl => ?_
  idx_vars y
  congr 1 <;> blk_ext [iblk, idx t, idx ⟨16 * (t.val / 16) + s.val, Pipeline.run_point_lt_of_flush t ht s⟩]

end

theorem frame_kernelIdeal : Cert.quiescent_Kernel5Ideal := fun m ρ _ => Cert.Kernel5Ideal.Gen.frame m ρ

theorem frame_kernel : Cert.quiescent_Kernel5 := by
  intro m ρ _
  refine Eq.mp ?_ (Cert.Kernel5Ideal.Gen.frame (F := Bits) m ρ)
  chain_rfl

theorem frame_referenceIdeal : Cert.quiescent_Reference5Ideal := fun m ρ _ =>
  (θ_run Cert.Reference5Ideal.defs _ _).mono (fun r h => ⟨fun c => (h c).2, sem_eq_zero_of_no_sems rfl _⟩) (Cert.Reference5Ideal.Value.run (F := Ideal) m ρ)

open Cert.Kernel5Ideal in
theorem algebraic : Cert.algebraic_Kernel5Ideal_Reference5Ideal := by
  intro m g m' g' hm he
  refine ⟨fun c => gradW (Gen.V m c main_arg0) (Gen.V m c main_arg1), ?_, ?_⟩
  · exact (θ_run Cert.Kernel5Ideal.defs _ _).mono (fun r h c => ⟨(h c).1.trans (final2 m c), (h c).2⟩) (Value.run_blocks (F := Ideal) m g)
  · refine (θ_run Cert.Reference5Ideal.defs _ _).mono (fun r h c => ⟨(h c).1.trans ?_, (h c).2⟩) (Cert.Reference5Ideal.Value.run (F := Ideal) m' g')
    obtain ⟨e0, e1⟩ := he c
    rw [e0, e1]
    funext y
    revert y
    show ∀ y : S1024x2816.Idx, _
    intro y
    idx_vars y
    pointwise
    exact Finset.sum_congr rfl fun l _ => mul_comm _ _

end Cert.Proof.GradW

end
-- ==== Proof.DU.lean ====
module

public import proofs.«01_k».proof.Defs
public import proofs.«01_k».proof.Proof.Gen.Kernel6
public import proofs.«01_k».proof.Proof.Gen.Kernel6Ideal.Frame
public import Idealize.ShloMosaic.Lib.Pipeline.Value
public import proofs.«01_k».proof.Proof.Gen.Reference6Ideal.Run
public import Idealize.ShloMosaic.Lib.Pipeline.ValueKit.Point
public import Idealize.ShloMosaic.Lib.Pipeline.ValueKit.Acc
public import Idealize.ShloMosaic.Lib.Claim
public import Idealize.ShloMosaic.PureOps.Ideal.Laws

@[expose] public section

set_option maxRecDepth 16384

noncomputable section

/-! The gradient of the input projection's argument: seven gradients against two joined weights, walked in thirteen steps, and its claims. -/

namespace Cert.Proof.DU

open Idealize.ShloMosaic Idealize.ShloMosaic.TcCoe Idealize.ShloMosaic.Tactic Idealize.SL.Sem

section

open Cert.Kernel6Ideal Cert.Kernel6Ideal.Gen

theorem idx : ∀ t : Fin cfg0.N, win0_0.index t = ![t.val / 13, min (t.val % 13) 1] ∧ win0_1.index t = ![t.val / 13, min (t.val % 13 - 2) 1]
    ∧ win0_2.index t = ![t.val / 13, min (t.val % 13 - 4) 1] ∧ win0_3.index t = ![t.val / 13, min (t.val % 13 - 6) 3]
    ∧ win0_4.index t = ![t.val / 13, 0] ∧ win0_5.index t = ![t.val / 13, 0] ∧ win0_6.index t = ![t.val / 13, 0]
    ∧ win0_7.index t = ![0, min (t.val % 13) 9] ∧ win0_8.index t = ![0, min (t.val % 13 - 10) 2]
    ∧ win0_9.index t = ![t.val / 13, 0] ∧ win0_10.index t = ![t.val / 13, 0] := by
  decide +kernel

/-- A step of the contraction in blocks of 768 columns. -/
def part (a b : Vec Ideal S1024x768 .bf16) (y : S1024x1024.Idx) : EReal :=
  ∑ k : Fin 768, a (ix2 (y 0) k) * b (ix2 (y 1) k)

/-- A step of the contraction in blocks of 1024 columns. -/
def wide (a b : Vec Ideal S1024x1024 .bf16) (y : S1024x1024.Idx) : EReal :=
  ∑ k : Fin 1024, a (ix2 (y 0) k) * b (ix2 (y 1) k)

theorem pay1 (v : Vec Ideal S1024x1024 .f32) (a b : Vec Ideal S1024x1024 .bf16) (y : S1024x1024.Idx) :
    k0_pay1 v a b y = v y + wide a b y := by
  unfold k0_pay1 wide
  idx_vars y
  pointwise

theorem pay4 (y : S1024x1024.Idx) : k0_pay4 (F := Ideal) y = 0 := by
  unfold k0_pay4
  pointwise

theorem pay5 (v : Vec Ideal S1024x1024 .f32) (a b : Vec Ideal S1024x768 .bf16) (y : S1024x1024.Idx) :
    k0_pay5 v a b y = v y + part a b y := by
  unfold k0_pay5 part
  idx_vars y
  pointwise

theorem pay6 (v : Vec Ideal S1024x1024 .f32) (a b : Vec Ideal S1024x768 .bf16) (y : S1024x1024.Idx) :
    k0_pay6 v a b y = v y + part a b y := pay5 v a b y

theorem pay7 (v : Vec Ideal S1024x1024 .f32) (a b : Vec Ideal S1024x768 .bf16) (y : S1024x1024.Idx) :
    k0_pay7 v a b y = v y + part a b y := pay5 v a b y

theorem pay8 (v : Vec Ideal S1024x1024 .f32) (a b : Vec Ideal S1024x768 .bf16) (y : S1024x1024.Idx) :
    k0_pay8 v a b y = v y + part a b y := pay5 v a b y

theorem pay9 (v : Vec Ideal S1024x1024 .f32) (a b : Vec Ideal S1024x1024 .bf16) (y : S1024x1024.Idx) :
    k0_pay9 v a b y = v y + wide a b y := pay1 v a b y

theorem pay2 (v : Vec Ideal S1024x1024 .f32) (a b : Vec Ideal S1024x1024 .bf16) (y : S1024x1024.Idx) :
    k0_pay2 v a b y = v y + wide a b y := pay1 v a b y

theorem held (v : Vec Ideal S1024x1024 .f32) :
    View.read (Elt Ideal) (View.whole cc0_scratch0) ((Memref.isWhole_whole cc0_scratch0).unread v) = v :=
  (Memref.isWhole_whole cc0_scratch0).read_unread v

variable (m : (ℓ : Loc nD τ sig) → Buf (Elt Ideal) ℓ) (c : Dev nD)

/-- What point `t` adds: its step of the gradient that it walks. -/
def term (t : Fin cfg0.N) : S1024x1024.Idx → EReal :=
  if t.val % 13 ≤ 1 then part (iblk m c 0 t) (iblk m c 7 t)
  else if t.val % 13 ≤ 3 then part (iblk m c 1 t) (iblk m c 7 t)
  else if t.val % 13 ≤ 5 then part (iblk m c 2 t) (iblk m c 7 t)
  else if t.val % 13 ≤ 9 then part (iblk m c 3 t) (iblk m c 7 t)
  else if t.val % 13 = 10 then wide (iblk m c 4 t) (iblk m c 8 t)
  else if t.val % 13 = 11 then wide (iblk m c 5 t) (iblk m c 8 t)
  else wide (iblk m c 6 t) (iblk m c 8 t)

theorem scratch (t : Fin cfg0.N) (h : t.val % 13 = 13 - 1) (y : S1024x1024.Idx) :
    (outsAt0 m c t.val t.isLt).2 y
      = 0 + ∑ s : Fin 13, term m c ⟨13 * (t.val / 13) + s.val, Pipeline.run_point_lt_of_flush t h s⟩ y :=
  Pipeline.eq_sum_fin_of_reset_step_apply_of_flush (fun n h => (outsAt0 m c n h).2) 13 (fun _ => 0) (term m c)
    (fun t h i => by
      rw [outsAt0_A m c t h (by omega) (by omega) (by omega) (by omega) (by omega) (by omega) (by omega) (by omega)]
      frame_out
      rw [pay5, pay4, term, if_pos (by omega)])
    (fun t h i => by
      by_cases h1 : t.val % 13 ≤ 1
      · rw [outsAt0_B m c t h h1 (by omega) (by omega) (by omega) (by omega) (by omega) (by omega) (by omega)]
        frame_out
        rw [pay5, held, term, if_pos h1]
      by_cases h2 : t.val % 13 ≤ 3
      · rw [outsAt0_C m c t h h1 (by omega) (by omega) (by omega) (by omega) (by omega) (by omega) (by omega)]
        frame_out
        rw [pay6, held, term, if_neg h1, if_pos h2]
      by_cases h3 : t.val % 13 ≤ 5
      · rw [outsAt0_D m c t h h1 (by omega) (by omega) (by omega) (by omega) (by omega) (by omega) (by omega)]
        frame_out
        rw [pay7, held, term, if_neg h1, if_neg h2, if_pos h3]
      by_cases h4 : t.val % 13 ≤ 9
      · rw [outsAt0_E m c t h h1 (by omega) (by omega) (by omega) (by omega) (by omega) (by omega) (by omega)]
        frame_out
        rw [pay8, held, term, if_neg h1, if_neg h2, if_neg h3, if_pos h4]
      by_cases h5 : t.val % 13 = 10
      · rw [outsAt0_F m c t h h1 (by omega) (by omega) (by omega) (by omega) (by omega) (by omega) (by omega)]
        frame_out
        rw [pay9, held, term, if_neg h1, if_neg h2, if_neg h3, if_neg h4, if_pos h5]
      by_cases h6 : t.val % 13 = 11
      · rw [outsAt0_G m c t h h1 (by omega) (by omega) (by omega) (by omega) (by omega) (by omega) (by omega)]
        frame_out
        rw [pay1, held, term, if_neg h1, if_neg h2, if_neg h3, if_neg h4, if_neg h5, if_pos h6]
      · rw [outsAt0_H m c t h h1 (by omega) (by omega) (by omega) (by omega) (by omega) (by omega) (by omega)]
        frame_out
        rw [pay2, held, term, if_neg h1, if_neg h2, if_neg h3, if_neg h4, if_neg h5, if_neg h6])
    t h y

theorem w_att (a : Fin 1024) (l : Fin 4608) (h : l.val < 7680) : V m c main_v1 (ix2 a ⟨l.val, h⟩) = V m c main_arg7 (ix2 a l) := by
  rw [V_main_arg7]
  entry_read
  pointwise

theorem w_qkv (a : Fin 1024) (l : Fin 3072) (h : 4608 + l.val < 7680) (h' : l.val < 6144) :
    V m c main_v1 (ix2 a ⟨4608 + l.val, h⟩) = V m c main_arg8 (ix2 a ⟨l.val, h'⟩) := by
  rw [V_main_arg8]
  entry_read
  pointwise

theorem w_rest (a : Fin 1024) (l : Fin 3072) (j : Fin 6144) (h : 3072 + l.val = j.val) :
    V m c main_v2 (ix2 a l) = V m c main_arg8 (ix2 a j) := by
  obtain ⟨j, hj⟩ := j
  subst h
  rw [V_main_arg8]
  entry_read
  pointwise

/-- One gradient against its columns of a weight, the first of them at `o`. -/
def seg {n N : ℕ} (o : ℕ) (ho : o + n ≤ N) (d : (⟨2, ![16384, n]⟩ : Shape).Idx → EReal) (w : (⟨2, ![1024, N]⟩ : Shape).Idx → EReal)
    (y : S16384x1024.Idx) : EReal :=
  ∑ l : Fin n, d (ix2 (y 0) l) * w (ix2 (y 1) ⟨o + l.val, by omega⟩)

/-- The seven gradients against their columns, and the small part's gradient. -/
def du (d0 d1 d2 : S16384x1536.Idx → EReal) (d3 : S16384x3072.Idx → EReal) (d4 d5 d6 : S16384x1024.Idx → EReal)
    (wa : S1024x4608.Idx → EReal) (wb : S1024x6144.Idx → EReal) (small : S16384x1024.Idx → EReal) (y : S16384x1024.Idx) : EReal :=
  (seg 0 (by decide) d0 wa y + seg 1536 (by decide) d1 wa y + seg 3072 (by decide) d2 wa y)
    + (seg 0 (by decide) d3 wb y + seg 3072 (by decide) d4 wb y + seg 4096 (by decide) d5 wb y + seg 5120 (by decide) d6 wb y)
    + small y

/-- Thirteen steps by the gradients that they walk. -/
theorem steps (f : Fin 13 → EReal) :
    ∑ s, f s = ((∑ s : Fin 2, f ⟨s.val, by omega⟩) + (∑ s : Fin 2, f ⟨2 + s.val, by omega⟩) + ∑ s : Fin 2, f ⟨4 + s.val, by omega⟩)
      + ((∑ s : Fin 4, f ⟨6 + s.val, by omega⟩) + f 10 + f 11 + f 12) := by
  simp only [Fin.sum_univ_succ, Fin.sum_univ_zero, add_zero]
  simp only [← add_assoc]
  rfl

theorem add_eq {a b a' b' : EReal} (h : a = a') (h' : b = b') : a + b = a' + b' := by rw [h, h']

theorem term0 (t : Fin cfg0.N) (y : S1024x1024.Idx) (h : t.val % 13 ≤ 1) : term m c t y = part (iblk m c 0 t) (iblk m c 7 t) y := by
  rw [term, if_pos (by omega)]

theorem term1 (t : Fin cfg0.N) (y : S1024x1024.Idx) (h : 2 ≤ t.val % 13 ∧ t.val % 13 ≤ 3) : term m c t y = part (iblk m c 1 t) (iblk m c 7 t) y := by
  rw [term, if_neg (by omega), if_pos (by omega)]

theorem term2 (t : Fin cfg0.N) (y : S1024x1024.Idx) (h : 4 ≤ t.val % 13 ∧ t.val % 13 ≤ 5) : term m c t y = part (iblk m c 2 t) (iblk m c 7 t) y := by
  rw [term, if_neg (by omega), if_neg (by omega), if_pos (by omega)]

theorem term3 (t : Fin cfg0.N) (y : S1024x1024.Idx) (h : 6 ≤ t.val % 13 ∧ t.val % 13 ≤ 9) : term m c t y = part (iblk m c 3 t) (iblk m c 7 t) y := by
  rw [term, if_neg (by omega), if_neg (by omega), if_neg (by omega), if_pos (by omega)]

theorem term4 (t : Fin cfg0.N) (y : S1024x1024.Idx) (h : t.val % 13 = 10) : term m c t y = wide (iblk m c 4 t) (iblk m c 8 t) y := by
  rw [term, if_neg (by omega), if_neg (by omega), if_neg (by omega), if_neg (by omega), if_pos (by omega)]

theorem term5 (t : Fin cfg0.N) (y : S1024x1024.Idx) (h : t.val % 13 = 11) : term m c t y = wide (iblk m c 5 t) (iblk m c 8 t) y := by
  rw [term, if_neg (by omega), if_neg (by omega), if_neg (by omega), if_neg (by omega), if_neg (by omega), if_pos (by omega)]

theorem term6 (t : Fin cfg0.N) (y : S1024x1024.Idx) (h : t.val % 13 = 12) : term m c t y = wide (iblk m c 6 t) (iblk m c 8 t) y := by
  rw [term, if_neg (by omega), if_neg (by omega), if_neg (by omega), if_neg (by omega), if_neg (by omega), if_neg (by omega)]

set_option maxHeartbeats 2000000 in
theorem final10 : (dats m 0 c).arrAt 10 cfg0.N = du (V m c main_arg0) (V m c main_arg1) (V m c main_arg2) (V m c main_arg3) (V m c main_arg4)
    (V m c main_arg5) (V m c main_arg6) (V m c main_arg7) (V m c main_arg8) (V m c main_arg9) := by
  refine (dats m 0 c).arrAt_eq_of_covers 10 _ (by decide +kernel) fun t hf y => ?_
  have ht := (flush0_10 t).mp hf
  rw [after0_10]
  revert y
  show ∀ y : S1024x1024.Idx, _
  intro y
  blk_simp
  have e : (outsAt0 m c t.val t.isLt).1 y = (outsAt0 m c t.val t.isLt).2 y + iblk m c 9 t y := by
    rw [outsAt0_H m c t (by omega) (by omega) (by omega) (by omega) (by omega) (by omega) (by omega) (by omega) ht]
    frame_out
    unfold k0_pay3
    pointwise
  rw [e, scratch m c t ht, zero_add, steps]
  unfold du
  have hb := t.isLt
  refine add_eq (add_eq (add_eq (add_eq ?_ ?_) ?_) (add_eq (add_eq (add_eq ?_ ?_) ?_) ?_)) ?_
  · refine (Finset.sum_congr rfl fun s _ => term0 m c _ y (by simp; omega)).trans ?_
    unfold part seg
    refine Fin.sum_mul_add_congr (S := 2) (n := 768) fun s k hl => ?_
    have hs := idx ⟨13 * (t.val / 13) + (s.val), by omega⟩
    idx_vars y
    refine congr (congrArg _ ?_) (Eq.trans ?_ (w_att m c _ ⟨0 + (s.val * 768 + k.val), by omega⟩ (by show _ < _; simp only []; omega)))
    all_goals blk_ext [iblk, idx t, hs]
  · refine (Finset.sum_congr rfl fun s _ => term1 m c _ y (by simp; omega)).trans ?_
    unfold part seg
    refine Fin.sum_mul_add_congr (S := 2) (n := 768) fun s k hl => ?_
    have hs := idx ⟨13 * (t.val / 13) + (2 + s.val), by omega⟩
    idx_vars y
    refine congr (congrArg _ ?_) (Eq.trans ?_ (w_att m c _ ⟨1536 + (s.val * 768 + k.val), by omega⟩ (by show _ < _; simp only []; omega)))
    all_goals blk_ext [iblk, idx t, hs]
  · refine (Finset.sum_congr rfl fun s _ => term2 m c _ y (by simp; omega)).trans ?_
    unfold part seg
    refine Fin.sum_mul_add_congr (S := 2) (n := 768) fun s k hl => ?_
    have hs := idx ⟨13 * (t.val / 13) + (4 + s.val), by omega⟩
    idx_vars y
    refine congr (congrArg _ ?_) (Eq.trans ?_ (w_att m c _ ⟨3072 + (s.val * 768 + k.val), by omega⟩ (by show _ < _; simp only []; omega)))
    all_goals blk_ext [iblk, idx t, hs]
  · refine (Finset.sum_congr rfl fun s _ => term3 m c _ y (by simp; omega)).trans ?_
    unfold part seg
    refine Fin.sum_mul_add_congr (S := 4) (n := 768) fun s k hl => ?_
    have hs := idx ⟨13 * (t.val / 13) + (6 + s.val), by omega⟩
    idx_vars y
    refine congr (congrArg _ ?_) (Eq.trans ?_ (w_qkv m c _ ⟨0 + (s.val * 768 + k.val), by omega⟩ (by show _ < _; simp only []; omega) (by show _ < _; simp only []; omega)))
    all_goals blk_ext [iblk, idx t, hs]
  · refine (term4 m c _ y (by simp)).trans ?_
    unfold wide seg
    have hs := idx ⟨13 * (t.val / 13) + (10 : Fin 13).val, Pipeline.run_point_lt_of_flush t ht 10⟩
    refine Finset.sum_congr rfl fun k _ => ?_
    idx_vars y
    refine congr (congrArg _ ?_) (Eq.trans ?_ (w_rest m c _ ⟨0 + k.val, by omega⟩ _ (by dsimp only <;> omega)))
    all_goals blk_ext [iblk, idx t, hs]
  · refine (term5 m c _ y (by simp)).trans ?_
    unfold wide seg
    have hs := idx ⟨13 * (t.val / 13) + (11 : Fin 13).val, Pipeline.run_point_lt_of_flush t ht 11⟩
    refine Finset.sum_congr rfl fun k _ => ?_
    idx_vars y
    refine congr (congrArg _ ?_) (Eq.trans ?_ (w_rest m c _ ⟨1024 + k.val, by omega⟩ _ (by dsimp only <;> omega)))
    all_goals blk_ext [iblk, idx t, hs]
  · refine (term6 m c _ y (by simp)).trans ?_
    unfold wide seg
    have hs := idx ⟨13 * (t.val / 13) + (12 : Fin 13).val, Pipeline.run_point_lt_of_flush t ht 12⟩
    refine Finset.sum_congr rfl fun k _ => ?_
    idx_vars y
    refine congr (congrArg _ ?_) (Eq.trans ?_ (w_rest m c _ ⟨2048 + k.val, by omega⟩ _ (by dsimp only <;> omega)))
    all_goals blk_ext [iblk, idx t, hs]
  · idx_vars y
    blk_ext [iblk, idx t]

end

theorem frame_kernelIdeal : Cert.quiescent_Kernel6Ideal := fun m ρ _ => Cert.Kernel6Ideal.Gen.frame m ρ

theorem frame_kernel : Cert.quiescent_Kernel6 := by
  intro m ρ _
  refine Eq.mp ?_ (Cert.Kernel6Ideal.Gen.frame (F := Bits) m ρ)
  chain_rfl

theorem frame_referenceIdeal : Cert.quiescent_Reference6Ideal := fun m ρ _ =>
  (θ_run Cert.Reference6Ideal.defs _ _).mono (fun r h => ⟨fun c => (h c).2, sem_eq_zero_of_no_sems rfl _⟩) (Cert.Reference6Ideal.Value.run (F := Ideal) m ρ)

/-- A contraction over 4608 columns by thirds. -/
theorem thirds (f : Fin 4608 → EReal) :
    ∑ l, f l = (∑ k : Fin 1536, f ⟨k.val, by omega⟩) + (∑ k : Fin 1536, f ⟨1536 + k.val, by omega⟩) + ∑ k : Fin 1536, f ⟨3072 + k.val, by omega⟩ := by
  refine (Fin.sum_univ_add (a := 3072) (b := 1536) f).trans (congrArg (· + _) ?_)
  exact Fin.sum_univ_add (a := 1536) (b := 1536) fun k : Fin 3072 => f ⟨k.val, by omega⟩

/-- A contraction over 6144 columns by the four projections. -/
theorem projections (f : Fin 6144 → EReal) :
    ∑ l, f l = (∑ k : Fin 3072, f ⟨k.val, by omega⟩) + (∑ k : Fin 1024, f ⟨3072 + k.val, by omega⟩) + (∑ k : Fin 1024, f ⟨4096 + k.val, by omega⟩)
      + ∑ k : Fin 1024, f ⟨5120 + k.val, by omega⟩ := by
  refine (Fin.sum_univ_add (a := 5120) (b := 1024) f).trans (congrArg (· + _) ?_)
  refine (Fin.sum_univ_add (a := 4096) (b := 1024) fun k : Fin 5120 => f ⟨k.val, by omega⟩).trans (congrArg (· + _) ?_)
  exact Fin.sum_univ_add (a := 3072) (b := 1024) fun k : Fin 4096 => f ⟨k.val, by omega⟩

open Cert.Kernel6Ideal in
theorem algebraic : Cert.algebraic_Kernel6Ideal_Reference6Ideal := by
  intro m g m' g' hm he
  refine ⟨fun c => du (Gen.V m c main_arg0) (Gen.V m c main_arg1) (Gen.V m c main_arg2) (Gen.V m c main_arg3) (Gen.V m c main_arg4)
    (Gen.V m c main_arg5) (Gen.V m c main_arg6) (Gen.V m c main_arg7) (Gen.V m c main_arg8) (Gen.V m c main_arg9), ?_, ?_⟩
  · exact (θ_run Cert.Kernel6Ideal.defs _ _).mono (fun r h c => ⟨((h.1 c).1 10).trans (final10 m c), h.2 c⟩)
      (θ_run_and (Gen.run_main m g) (Gen.unchanged (F := Ideal) m g))
  · refine (θ_run Cert.Reference6Ideal.defs _ _).mono (fun r h c => ⟨(h c).1.trans ?_, (h c).2⟩) (Cert.Reference6Ideal.Value.run (F := Ideal) m' g')
    obtain ⟨e0, e1, e2, e3, e4, e5, e6, e7, e8, e9⟩ := he c
    rw [e0, e1, e2, e3, e4, e5, e6, e7, e8, e9]
    show _ = du _ _ _ _ _ _ _ _ _ _
    rw [Gen.V_main_arg0, Gen.V_main_arg1, Gen.V_main_arg2, Gen.V_main_arg3, Gen.V_main_arg4, Gen.V_main_arg5, Gen.V_main_arg6,
      Gen.V_main_arg7, Gen.V_main_arg8, Gen.V_main_arg9]
    funext y
    revert y
    show ∀ y : S16384x1024.Idx, _
    intro y
    idx_vars y
    unfold du seg
    pointwise
    refine add_eq ((add_comm _ _).trans (add_eq ((thirds _).trans (add_eq (add_eq ?_ ?_) ?_)) ((projections _).trans (add_eq (add_eq (add_eq ?_ ?_) ?_) ?_)))) rfl
    all_goals refine Finset.sum_congr rfl fun k _ => congrArg (· * _) ?_
    · exact (dif_pos (by dsimp only <;> omega)).trans (congrArg _ (congrArg (ix2 _) (Fin.ext (by dsimp only <;> omega))))
    · exact (dif_neg (by dsimp only <;> omega)).trans ((dif_pos (by dsimp only <;> omega)).trans (congrArg _ (congrArg (ix2 _) (Fin.ext (by dsimp only <;> omega)))))
    · exact (dif_neg (by dsimp only <;> omega)).trans ((dif_neg (by dsimp only <;> omega)).trans (congrArg _ (congrArg (ix2 _) (Fin.ext (by dsimp only <;> omega)))))
    · exact (dif_pos (by dsimp only <;> omega)).trans (congrArg _ (congrArg (ix2 _) (Fin.ext (by dsimp only <;> omega))))
    · exact (dif_neg (by dsimp only <;> omega)).trans ((dif_pos (by dsimp only <;> omega)).trans (congrArg _ (congrArg (ix2 _) (Fin.ext (by dsimp only <;> omega)))))
    · exact (dif_neg (by dsimp only <;> omega)).trans ((dif_neg (by dsimp only <;> omega)).trans ((dif_pos (by dsimp only <;> omega)).trans (congrArg _ (congrArg (ix2 _) (Fin.ext (by dsimp only <;> omega))))))
    · exact (dif_neg (by dsimp only <;> omega)).trans ((dif_neg (by dsimp only <;> omega)).trans ((dif_neg (by dsimp only <;> omega)).trans (congrArg _ (congrArg (ix2 _) (Fin.ext (by dsimp only <;> omega))))))

end Cert.Proof.DU

end
-- ==== Proof.GradIn.lean ====
module

public import proofs.«01_k».proof.Defs
public import proofs.«01_k».proof.Proof.Gen.Kernel7
public import proofs.«01_k».proof.Proof.Gen.Kernel7Ideal.Value
public import proofs.«01_k».proof.Proof.Gen.Reference7Ideal.Run
public import proofs.«01_k».proof.Proof.Gen.Kernel8
public import proofs.«01_k».proof.Proof.Gen.Kernel8Ideal.Value
public import proofs.«01_k».proof.Proof.Gen.Reference8Ideal.Run
public import proofs.«01_k».proof.Proof.Gen.Kernel9
public import proofs.«01_k».proof.Proof.Gen.Kernel9Ideal.Value
public import proofs.«01_k».proof.Proof.Gen.Reference9Ideal.Run
public import proofs.«01_k».proof.Proof.GradBase
public import Idealize.ShloMosaic.Lib.Pipeline.ValueKit.Point
public import Idealize.ShloMosaic.Lib.Pipeline.ValueKit.Acc
public import Idealize.ShloMosaic.Lib.Claim
public import Idealize.ShloMosaic.PureOps.Ideal.Laws

@[expose] public section

set_option maxRecDepth 16384

noncomputable section

/-! The gradient of the input projection's weights, summed over the tokens block by block: for each width of a part of the projection. -/

namespace Cert.Proof.GradAtt

open Idealize.ShloMosaic Idealize.ShloMosaic.TcCoe Idealize.ShloMosaic.Tactic Idealize.SL.Sem

open GradBase (gradW)

section

open Cert.Kernel7Ideal Cert.Kernel7Ideal.Gen

theorem idx : ∀ t : Fin cfg0.N, win0_0.index t = ![t.val % 16, 0] ∧ win0_1.index t = ![t.val % 16, t.val / 16] ∧ win0_2.index t = ![0, t.val / 16] := by
  decide +kernel

theorem pay1 (y : S1024x1536.Idx) : k0_pay1 (F := Ideal) y = 0 := by
  unfold k0_pay1
  pointwise

theorem pay2 (v3 : Vec Ideal S1024x1536 .f32) (v4 : Vec Ideal S1024x1024 .bf16) (v5 : Vec Ideal S1024x1536 .bf16) (y : S1024x1536.Idx) :
    k0_pay2 v3 v4 v5 y = v3 y + gradW v4 v5 y := by
  unfold k0_pay2 gradW
  idx_vars y
  pointwise

variable (m : (ℓ : Loc nD τ sig) → Buf (Elt Ideal) ℓ) (c : Dev nD)

theorem held (v : Vec Ideal S1024x1536 .f32) :
    View.read (Elt Ideal) (View.whole cc0_scratch0) ((Memref.isWhole_whole cc0_scratch0).unread v) = v :=
  (Memref.isWhole_whole cc0_scratch0).read_unread v

theorem scratch (t : Fin cfg0.N) (h : t.val % 16 = 16 - 1) (y : S1024x1536.Idx) :
    (outsAt0 m c t.val t.isLt).2 y
      = 0 + ∑ s : Fin 16, gradW (iblk m c 0 ⟨16 * (t.val / 16) + s.val, Pipeline.run_point_lt_of_flush t h s⟩)
          (iblk m c 1 ⟨16 * (t.val / 16) + s.val, Pipeline.run_point_lt_of_flush t h s⟩) y :=
  Pipeline.eq_sum_fin_of_reset_step_apply_of_flush (fun n h => (outsAt0 m c n h).2) 16 (fun _ => 0)
    (fun t => gradW (iblk m c 0 t) (iblk m c 1 t))
    (fun t h i => by
      have h1 : ¬t.val % 16 = 15 := by omega
      rw [outsAt0_A m c t h h1]
      frame_out
      rw [pay2, pay1])
    (fun t h i => by
      by_cases h1 : t.val % 16 = 15
      · rw [outsAt0_C m c t h h1]
        frame_out
        rw [pay2, held]
      · rw [outsAt0_B m c t h h1]
        frame_out
        rw [pay2, held])
    t h y

theorem final2 : (dats m 0 c).arrAt 2 cfg0.N = gradW (V m c main_arg0) (V m c main_arg1) := by
  refine (dats m 0 c).arrAt_eq_of_covers 2 _ (by decide +kernel) fun t hf y => ?_
  have ht := (flush0_2 t).mp hf
  rw [after0_2]
  revert y
  show ∀ y : S1024x1536.Idx, _
  intro y
  blk_simp
  have e : (outsAt0 m c t.val t.isLt).1 y = (outsAt0 m c t.val t.isLt).2 y := by
    rw [outsAt0_C m c t (by omega) ht]
    frame_out
    unfold k0_pay3
    pointwise
  rw [e, scratch m c t ht, zero_add]
  unfold gradW
  refine Fin.sum_mul_add_congr fun s k hl => ?_
  idx_vars y
  congr 1 <;> blk_ext [iblk, idx t, idx ⟨16 * (t.val / 16) + s.val, Pipeline.run_point_lt_of_flush t ht s⟩]

end

theorem frame_kernelIdeal : Cert.quiescent_Kernel7Ideal := fun m ρ _ => Cert.Kernel7Ideal.Gen.frame m ρ

theorem frame_kernel : Cert.quiescent_Kernel7 := by
  intro m ρ _
  refine Eq.mp ?_ (Cert.Kernel7Ideal.Gen.frame (F := Bits) m ρ)
  chain_rfl

theorem frame_referenceIdeal : Cert.quiescent_Reference7Ideal := fun m ρ _ =>
  (θ_run Cert.Reference7Ideal.defs _ _).mono (fun r h => ⟨fun c => (h c).2, sem_eq_zero_of_no_sems rfl _⟩) (Cert.Reference7Ideal.Value.run (F := Ideal) m ρ)

open Cert.Kernel7Ideal in
theorem algebraic : Cert.algebraic_Kernel7Ideal_Reference7Ideal := by
  intro m g m' g' hm he
  refine ⟨fun c => gradW (Gen.V m c main_arg0) (Gen.V m c main_arg1), ?_, ?_⟩
  · exact (θ_run Cert.Kernel7Ideal.defs _ _).mono (fun r h c => ⟨(h c).1.trans (final2 m c), (h c).2⟩) (Value.run_blocks (F := Ideal) m g)
  · refine (θ_run Cert.Reference7Ideal.defs _ _).mono (fun r h c => ⟨(h c).1.trans ?_, (h c).2⟩) (Cert.Reference7Ideal.Value.run (F := Ideal) m' g')
    obtain ⟨e0, e1⟩ := he c
    rw [e0, e1]
    funext y
    revert y
    show ∀ y : S1024x1536.Idx, _
    intro y
    idx_vars y
    pointwise
    exact Finset.sum_congr rfl fun l _ => mul_comm _ _

end Cert.Proof.GradAtt

namespace Cert.Proof.GradQkv

open Idealize.ShloMosaic Idealize.ShloMosaic.TcCoe Idealize.ShloMosaic.Tactic Idealize.SL.Sem

open GradBase (gradW)

section

open Cert.Kernel8Ideal Cert.Kernel8Ideal.Gen

theorem idx : ∀ t : Fin cfg0.N, win0_0.index t = ![t.val % 16, 0] ∧ win0_1.index t = ![t.val % 16, t.val / 16] ∧ win0_2.index t = ![0, t.val / 16] := by
  decide +kernel

theorem pay1 (y : S1024x1536.Idx) : k0_pay1 (F := Ideal) y = 0 := by
  unfold k0_pay1
  pointwise

theorem pay2 (v3 : Vec Ideal S1024x1536 .f32) (v4 : Vec Ideal S1024x1024 .bf16) (v5 : Vec Ideal S1024x1536 .bf16) (y : S1024x1536.Idx) :
    k0_pay2 v3 v4 v5 y = v3 y + gradW v4 v5 y := by
  unfold k0_pay2 gradW
  idx_vars y
  pointwise

variable (m : (ℓ : Loc nD τ sig) → Buf (Elt Ideal) ℓ) (c : Dev nD)

theorem held (v : Vec Ideal S1024x1536 .f32) :
    View.read (Elt Ideal) (View.whole cc0_scratch0) ((Memref.isWhole_whole cc0_scratch0).unread v) = v :=
  (Memref.isWhole_whole cc0_scratch0).read_unread v

theorem scratch (t : Fin cfg0.N) (h : t.val % 16 = 16 - 1) (y : S1024x1536.Idx) :
    (outsAt0 m c t.val t.isLt).2 y
      = 0 + ∑ s : Fin 16, gradW (iblk m c 0 ⟨16 * (t.val / 16) + s.val, Pipeline.run_point_lt_of_flush t h s⟩)
          (iblk m c 1 ⟨16 * (t.val / 16) + s.val, Pipeline.run_point_lt_of_flush t h s⟩) y :=
  Pipeline.eq_sum_fin_of_reset_step_apply_of_flush (fun n h => (outsAt0 m c n h).2) 16 (fun _ => 0)
    (fun t => gradW (iblk m c 0 t) (iblk m c 1 t))
    (fun t h i => by
      have h1 : ¬t.val % 16 = 15 := by omega
      rw [outsAt0_A m c t h h1]
      frame_out
      rw [pay2, pay1])
    (fun t h i => by
      by_cases h1 : t.val % 16 = 15
      · rw [outsAt0_C m c t h h1]
        frame_out
        rw [pay2, held]
      · rw [outsAt0_B m c t h h1]
        frame_out
        rw [pay2, held])
    t h y

theorem final2 : (dats m 0 c).arrAt 2 cfg0.N = gradW (V m c main_arg0) (V m c main_arg1) := by
  refine (dats m 0 c).arrAt_eq_of_covers 2 _ (by decide +kernel) fun t hf y => ?_
  have ht := (flush0_2 t).mp hf
  rw [after0_2]
  revert y
  show ∀ y : S1024x1536.Idx, _
  intro y
  blk_simp
  have e : (outsAt0 m c t.val t.isLt).1 y = (outsAt0 m c t.val t.isLt).2 y := by
    rw [outsAt0_C m c t (by omega) ht]
    frame_out
    unfold k0_pay3
    pointwise
  rw [e, scratch m c t ht, zero_add]
  unfold gradW
  refine Fin.sum_mul_add_congr fun s k hl => ?_
  idx_vars y
  congr 1 <;> blk_ext [iblk, idx t, idx ⟨16 * (t.val / 16) + s.val, Pipeline.run_point_lt_of_flush t ht s⟩]

end

theorem frame_kernelIdeal : Cert.quiescent_Kernel8Ideal := fun m ρ _ => Cert.Kernel8Ideal.Gen.frame m ρ

theorem frame_kernel : Cert.quiescent_Kernel8 := by
  intro m ρ _
  refine Eq.mp ?_ (Cert.Kernel8Ideal.Gen.frame (F := Bits) m ρ)
  chain_rfl

theorem frame_referenceIdeal : Cert.quiescent_Reference8Ideal := fun m ρ _ =>
  (θ_run Cert.Reference8Ideal.defs _ _).mono (fun r h => ⟨fun c => (h c).2, sem_eq_zero_of_no_sems rfl _⟩) (Cert.Reference8Ideal.Value.run (F := Ideal) m ρ)

open Cert.Kernel8Ideal in
theorem algebraic : Cert.algebraic_Kernel8Ideal_Reference8Ideal := by
  intro m g m' g' hm he
  refine ⟨fun c => gradW (Gen.V m c main_arg0) (Gen.V m c main_arg1), ?_, ?_⟩
  · exact (θ_run Cert.Kernel8Ideal.defs _ _).mono (fun r h c => ⟨(h c).1.trans (final2 m c), (h c).2⟩) (Value.run_blocks (F := Ideal) m g)
  · refine (θ_run Cert.Reference8Ideal.defs _ _).mono (fun r h c => ⟨(h c).1.trans ?_, (h c).2⟩) (Cert.Reference8Ideal.Value.run (F := Ideal) m' g')
    obtain ⟨e0, e1⟩ := he c
    rw [e0, e1]
    funext y
    revert y
    show ∀ y : S1024x3072.Idx, _
    intro y
    idx_vars y
    pointwise
    exact Finset.sum_congr rfl fun l _ => mul_comm _ _

end Cert.Proof.GradQkv

namespace Cert.Proof.GradOne

open Idealize.ShloMosaic Idealize.ShloMosaic.TcCoe Idealize.ShloMosaic.Tactic Idealize.SL.Sem

open GradBase (gradW)

section

open Cert.Kernel9Ideal Cert.Kernel9Ideal.Gen

theorem idx : ∀ t : Fin cfg0.N, win0_0.index t = ![t.val % 16, 0] ∧ win0_1.index t = ![t.val % 16, t.val / 16] ∧ win0_2.index t = ![0, t.val / 16] := by
  decide +kernel

theorem pay1 (y : S1024x1024.Idx) : k0_pay1 (F := Ideal) y = 0 := by
  unfold k0_pay1
  pointwise

theorem pay2 (v3 : Vec Ideal S1024x1024 .f32) (v4 : Vec Ideal S1024x1024 .bf16) (v5 : Vec Ideal S1024x1024 .bf16) (y : S1024x1024.Idx) :
    k0_pay2 v3 v4 v5 y = v3 y + gradW v4 v5 y := by
  unfold k0_pay2 gradW
  idx_vars y
  pointwise

variable (m : (ℓ : Loc nD τ sig) → Buf (Elt Ideal) ℓ) (c : Dev nD)

theorem held (v : Vec Ideal S1024x1024 .f32) :
    View.read (Elt Ideal) (View.whole cc0_scratch0) ((Memref.isWhole_whole cc0_scratch0).unread v) = v :=
  (Memref.isWhole_whole cc0_scratch0).read_unread v

theorem scratch (t : Fin cfg0.N) (h : t.val % 16 = 16 - 1) (y : S1024x1024.Idx) :
    (outsAt0 m c t.val t.isLt).2 y
      = 0 + ∑ s : Fin 16, gradW (iblk m c 0 ⟨16 * (t.val / 16) + s.val, Pipeline.run_point_lt_of_flush t h s⟩)
          (iblk m c 1 ⟨16 * (t.val / 16) + s.val, Pipeline.run_point_lt_of_flush t h s⟩) y :=
  Pipeline.eq_sum_fin_of_reset_step_apply_of_flush (fun n h => (outsAt0 m c n h).2) 16 (fun _ => 0)
    (fun t => gradW (iblk m c 0 t) (iblk m c 1 t))
    (fun t h i => by
      have h1 : ¬t.val % 16 = 15 := by omega
      rw [outsAt0_A m c t h h1]
      frame_out
      rw [pay2, pay1])
    (fun t h i => by
      by_cases h1 : t.val % 16 = 15
      · rw [outsAt0_C m c t h h1]
        frame_out
        rw [pay2, held]
      · rw [outsAt0_B m c t h h1]
        frame_out
        rw [pay2, held])
    t h y

theorem final2 : (dats m 0 c).arrAt 2 cfg0.N = gradW (V m c main_arg0) (V m c main_arg1) := by
  refine (dats m 0 c).arrAt_eq_of_covers 2 _ (by decide +kernel) fun t hf y => ?_
  have ht := (flush0_2 t).mp hf
  rw [after0_2]
  revert y
  show ∀ y : S1024x1024.Idx, _
  intro y
  blk_simp
  have e : (outsAt0 m c t.val t.isLt).1 y = (outsAt0 m c t.val t.isLt).2 y := by
    rw [outsAt0_C m c t (by omega) ht]
    frame_out
    unfold k0_pay3
    pointwise
  rw [e, scratch m c t ht, zero_add]
  unfold gradW
  refine Fin.sum_mul_add_congr fun s k hl => ?_
  idx_vars y
  congr 1 <;> blk_ext [iblk, idx t, idx ⟨16 * (t.val / 16) + s.val, Pipeline.run_point_lt_of_flush t ht s⟩]

end

theorem frame_kernelIdeal : Cert.quiescent_Kernel9Ideal := fun m ρ _ => Cert.Kernel9Ideal.Gen.frame m ρ

theorem frame_kernel : Cert.quiescent_Kernel9 := by
  intro m ρ _
  refine Eq.mp ?_ (Cert.Kernel9Ideal.Gen.frame (F := Bits) m ρ)
  chain_rfl

theorem frame_referenceIdeal : Cert.quiescent_Reference9Ideal := fun m ρ _ =>
  (θ_run Cert.Reference9Ideal.defs _ _).mono (fun r h => ⟨fun c => (h c).2, sem_eq_zero_of_no_sems rfl _⟩) (Cert.Reference9Ideal.Value.run (F := Ideal) m ρ)

open Cert.Kernel9Ideal in
theorem algebraic : Cert.algebraic_Kernel9Ideal_Reference9Ideal := by
  intro m g m' g' hm he
  refine ⟨fun c => gradW (Gen.V m c main_arg0) (Gen.V m c main_arg1), ?_, ?_⟩
  · exact (θ_run Cert.Kernel9Ideal.defs _ _).mono (fun r h c => ⟨(h c).1.trans (final2 m c), (h c).2⟩) (Value.run_blocks (F := Ideal) m g)
  · refine (θ_run Cert.Reference9Ideal.defs _ _).mono (fun r h c => ⟨(h c).1.trans ?_, (h c).2⟩) (Cert.Reference9Ideal.Value.run (F := Ideal) m' g')
    obtain ⟨e0, e1⟩ := he c
    rw [e0, e1]
    funext y
    revert y
    show ∀ y : S1024x1024.Idx, _
    intro y
    idx_vars y
    pointwise
    exact Finset.sum_congr rfl fun l _ => mul_comm _ _

end Cert.Proof.GradOne

end
-- ==== Proof.Proj.lean ====
module

public import proofs.«01_k».proof.Defs
public import proofs.«01_k».proof.Proof.Gen.Kernel10
public import proofs.«01_k».proof.Proof.Gen.Kernel10Ideal.Frame
public import proofs.«01_k».proof.Proof.Gen.Reference10Ideal.Run
public import proofs.«01_k».proof.Proof.Gen.Kernel11
public import proofs.«01_k».proof.Proof.Gen.Kernel11Ideal.Frame
public import proofs.«01_k».proof.Proof.Gen.Reference11Ideal.Run
public import proofs.«01_k».proof.Proof.Gen.Kernel13
public import proofs.«01_k».proof.Proof.Gen.Kernel13Ideal.Frame
public import proofs.«01_k».proof.Proof.Gen.Reference13Ideal.Run
public import Idealize.ShloMosaic.Lib.Pipeline.Value
public import Idealize.ShloMosaic.Lib.Pipeline.ValueKit.Point
public import Idealize.ShloMosaic.Lib.Claim
public import Idealize.ShloMosaic.PureOps.Ideal.Laws

@[expose] public section

set_option maxRecDepth 16384

noncomputable section

/-! Three products of the forward pass: the two halves of the input projection, and the feed-forward part's output with its
residual. -/

namespace Cert.Proof.ProjA

open Idealize.ShloMosaic Idealize.ShloMosaic.TcCoe Idealize.ShloMosaic.Tactic Idealize.SL.Sem

section

open Cert.Kernel10Ideal Cert.Kernel10Ideal.Gen

/-- A row of the tokens against a column of the attention parts of the input projection. -/
def proj (x : S16384x1024.Idx → EReal) (w : S1024x4608.Idx → EReal) (y : S16384x4608.Idx) : EReal :=
  ∑ k : Fin 1024, x (ix2 (y 0) k) * w (ix2 k (y 1))

theorem idx : ∀ t : Fin cfg0.N, win0_0.index t = ![t.val / 3, 0] ∧ win0_1.index t = ![0, t.val % 3] ∧ win0_2.index t = ![t.val / 3, t.val % 3] := by
  decide +kernel

theorem pay (v4 : Vec Ideal S1024x1024 .bf16) (v5 : Vec Ideal S1024x1536 .bf16) (a : Fin 1024) (b : Fin 1536) :
    k0_pay2 k0_pay1 v4 v5 (ix2 a b) = ∑ k : Fin 1024, v4 (ix2 a k) * v5 (ix2 k b) := by
  unfold k0_pay2 k0_pay1
  pointwise

variable (m : (ℓ : Loc nD τ sig) → Buf (Elt Ideal) ℓ) (c : Dev nD)

theorem final : (dats m 0 c).arrAt 2 cfg0.N = proj (V m c main_arg0) (V m c main_arg1) := by
  refine (dats m 0 c).arrAt_eq_of_covers 2 _ (by decide +kernel) fun t hf y => ?_
  rw [after0_2]
  unfold outsAt0
  frame_out
  revert y
  show ∀ y : S1024x1536.Idx, _
  intro y
  idx_vars y
  blk_simp

  pointwise
  rw [pay]
  unfold proj
  congr! 3
  all_goals blk_ext [iblk, idx t]

end

theorem frame_kernelIdeal : Cert.quiescent_Kernel10Ideal := fun m ρ _ => Cert.Kernel10Ideal.Gen.frame m ρ

theorem frame_kernel : Cert.quiescent_Kernel10 := by
  intro m ρ _
  refine Eq.mp ?_ (Cert.Kernel10Ideal.Gen.frame (F := Bits) m ρ)
  chain_rfl

theorem frame_referenceIdeal : Cert.quiescent_Reference10Ideal := fun m ρ _ =>
  (θ_run Cert.Reference10Ideal.defs _ _).mono (fun r h => ⟨fun c => (h c).2, sem_eq_zero_of_no_sems rfl _⟩) (Cert.Reference10Ideal.Value.run (F := Ideal) m ρ)

open Cert.Kernel10Ideal in
theorem algebraic : Cert.algebraic_Kernel10Ideal_Reference10Ideal := by
  intro m g m' g' hm he
  refine ⟨fun c => proj (Gen.V m c main_arg0) (Gen.V m c main_arg1), ?_, ?_⟩
  · exact (θ_run Cert.Kernel10Ideal.defs _ _).mono (fun r h c => ⟨((h.1 c).1 2).trans (final m c), h.2 c⟩)
      (θ_run_and (Gen.run_main m g) (Gen.unchanged (F := Ideal) m g))
  · refine (θ_run Cert.Reference10Ideal.defs _ _).mono (fun r h c => ⟨(h c).1.trans ?_, (h c).2⟩) (Cert.Reference10Ideal.Value.run (F := Ideal) m' g')
    obtain ⟨e0, e1⟩ := he c
    rw [e0, e1]
    show _ = proj _ _
    funext y
    revert y
    show ∀ y : S16384x4608.Idx, _
    intro y
    idx_vars y
    pointwise
    rfl

end Cert.Proof.ProjA

namespace Cert.Proof.ProjB

open Idealize.ShloMosaic Idealize.ShloMosaic.TcCoe Idealize.ShloMosaic.Tactic Idealize.SL.Sem

section

open Cert.Kernel11Ideal Cert.Kernel11Ideal.Gen

/-- A row of the tokens against a column of the other parts of the input projection. -/
def proj (x : S16384x1024.Idx → EReal) (w : S1024x6144.Idx → EReal) (y : S16384x6144.Idx) : EReal :=
  ∑ k : Fin 1024, x (ix2 (y 0) k) * w (ix2 k (y 1))

theorem idx : ∀ t : Fin cfg0.N, win0_0.index t = ![t.val / 6, 0] ∧ win0_1.index t = ![0, t.val % 6] ∧ win0_2.index t = ![t.val / 6, t.val % 6] := by
  decide +kernel

theorem pay (v4 : Vec Ideal S1024x1024 .bf16) (v5 : Vec Ideal S1024x1024 .bf16) (a : Fin 1024) (b : Fin 1024) :
    k0_pay2 k0_pay1 v4 v5 (ix2 a b) = ∑ k : Fin 1024, v4 (ix2 a k) * v5 (ix2 k b) := by
  unfold k0_pay2 k0_pay1
  pointwise

variable (m : (ℓ : Loc nD τ sig) → Buf (Elt Ideal) ℓ) (c : Dev nD)

theorem final : (dats m 0 c).arrAt 2 cfg0.N = proj (V m c main_arg0) (V m c main_arg1) := by
  refine (dats m 0 c).arrAt_eq_of_covers 2 _ (by decide +kernel) fun t hf y => ?_
  rw [after0_2]
  unfold outsAt0
  frame_out
  revert y
  show ∀ y : S1024x1024.Idx, _
  intro y
  idx_vars y
  blk_simp
  unfold k0_pay3
  pointwise
  rw [pay]
  unfold proj
  congr! 3
  all_goals blk_ext [iblk, idx t]

end

theorem frame_kernelIdeal : Cert.quiescent_Kernel11Ideal := fun m ρ _ => Cert.Kernel11Ideal.Gen.frame m ρ

theorem frame_kernel : Cert.quiescent_Kernel11 := by
  intro m ρ _
  refine Eq.mp ?_ (Cert.Kernel11Ideal.Gen.frame (F := Bits) m ρ)
  chain_rfl

theorem frame_referenceIdeal : Cert.quiescent_Reference11Ideal := fun m ρ _ =>
  (θ_run Cert.Reference11Ideal.defs _ _).mono (fun r h => ⟨fun c => (h c).2, sem_eq_zero_of_no_sems rfl _⟩) (Cert.Reference11Ideal.Value.run (F := Ideal) m ρ)

open Cert.Kernel11Ideal in
theorem algebraic : Cert.algebraic_Kernel11Ideal_Reference11Ideal := by
  intro m g m' g' hm he
  refine ⟨fun c => proj (Gen.V m c main_arg0) (Gen.V m c main_arg1), ?_, ?_⟩
  · exact (θ_run Cert.Kernel11Ideal.defs _ _).mono (fun r h c => ⟨((h.1 c).1 2).trans (final m c), h.2 c⟩)
      (θ_run_and (Gen.run_main m g) (Gen.unchanged (F := Ideal) m g))
  · refine (θ_run Cert.Reference11Ideal.defs _ _).mono (fun r h c => ⟨(h c).1.trans ?_, (h c).2⟩) (Cert.Reference11Ideal.Value.run (F := Ideal) m' g')
    obtain ⟨e0, e1⟩ := he c
    rw [e0, e1]
    show _ = proj _ _
    funext y
    revert y
    show ∀ y : S16384x6144.Idx, _
    intro y
    idx_vars y
    pointwise
    rfl

end Cert.Proof.ProjB

namespace Cert.Proof.FfnOut

open Idealize.ShloMosaic Idealize.ShloMosaic.TcCoe Idealize.ShloMosaic.Tactic Idealize.SL.Sem

section

open Cert.Kernel13Ideal Cert.Kernel13Ideal.Gen

/-- A row of the activations against a column of the down weights, and the residual. -/
def proj (x : S16384x2816.Idx → EReal) (w : S2816x1024.Idx → EReal) (h : S16384x1024.Idx → EReal) (y : S16384x1024.Idx) : EReal :=
  (∑ k : Fin 2816, x (ix2 (y 0) k) * w (ix2 k (y 1))) + h y

theorem idx : ∀ t : Fin cfg0.N, win0_0.index t = ![t.val, 0] ∧ win0_1.index t = ![0, 0] ∧ win0_2.index t = ![t.val, 0] ∧ win0_3.index t = ![t.val, 0] := by
  decide +kernel

theorem pay (v4 : Vec Ideal S512x2816 .bf16) (v5 : Vec Ideal S2816x1024 .bf16) (a : Fin 512) (b : Fin 1024) :
    k0_pay2 k0_pay1 v4 v5 (ix2 a b) = ∑ k : Fin 2816, v4 (ix2 a k) * v5 (ix2 k b) := by
  unfold k0_pay2 k0_pay1
  pointwise

variable (m : (ℓ : Loc nD τ sig) → Buf (Elt Ideal) ℓ) (c : Dev nD)

theorem final : (dats m 0 c).arrAt 3 cfg0.N = proj (V m c main_arg0) (V m c main_arg1) (V m c main_arg2) := by
  refine (dats m 0 c).arrAt_eq_of_covers 3 _ (by decide +kernel) fun t hf y => ?_
  rw [after0_3]
  unfold outsAt0
  frame_out
  revert y
  show ∀ y : S512x1024.Idx, _
  intro y
  idx_vars y
  blk_simp
  unfold k0_pay3
  pointwise
  rw [pay]
  unfold proj
  refine congr (congrArg _ (Finset.sum_congr rfl fun k _ => congr (congrArg _ ?_) ?_)) ?_
  all_goals blk_ext [iblk, idx t]

end

theorem frame_kernelIdeal : Cert.quiescent_Kernel13Ideal := fun m ρ _ => Cert.Kernel13Ideal.Gen.frame m ρ

theorem frame_kernel : Cert.quiescent_Kernel13 := by
  intro m ρ _
  refine Eq.mp ?_ (Cert.Kernel13Ideal.Gen.frame (F := Bits) m ρ)
  chain_rfl

theorem frame_referenceIdeal : Cert.quiescent_Reference13Ideal := fun m ρ _ =>
  (θ_run Cert.Reference13Ideal.defs _ _).mono (fun r h => ⟨fun c => (h c).2, sem_eq_zero_of_no_sems rfl _⟩) (Cert.Reference13Ideal.Value.run (F := Ideal) m ρ)

open Cert.Kernel13Ideal in
theorem algebraic : Cert.algebraic_Kernel13Ideal_Reference13Ideal := by
  intro m g m' g' hm he
  refine ⟨fun c => proj (Gen.V m c main_arg0) (Gen.V m c main_arg1) (Gen.V m c main_arg2), ?_, ?_⟩
  · exact (θ_run Cert.Kernel13Ideal.defs _ _).mono (fun r h c => ⟨((h.1 c).1 3).trans (final m c), h.2 c⟩)
      (θ_run_and (Gen.run_main m g) (Gen.unchanged (F := Ideal) m g))
  · refine (θ_run Cert.Reference13Ideal.defs _ _).mono (fun r h c => ⟨(h c).1.trans ?_, (h c).2⟩) (Cert.Reference13Ideal.Value.run (F := Ideal) m' g')
    obtain ⟨e0, e1, e2⟩ := he c
    rw [e0, e1, e2]
    show _ = proj _ _ _
    funext y
    revert y
    show ∀ y : S16384x1024.Idx, _
    intro y
    idx_vars y
    pointwise
    exact add_comm _ _

end Cert.Proof.FfnOut

end
-- ==== Proof.GateMerge.lean ====
module

public import proofs.«01_k».proof.Defs
public import proofs.«01_k».proof.Proof.Gen.Kernel12
public import proofs.«01_k».proof.Proof.Gen.Kernel12Ideal.Frame
public import proofs.«01_k».proof.Proof.Gen.Reference12Ideal.Run
public import proofs.«01_k».proof.Proof.Silu
public import Idealize.ShloMosaic.Lib.Pipeline.Value
public import Idealize.ShloMosaic.Lib.Pipeline.ValueKit.Point
public import Idealize.ShloMosaic.Lib.Claim
public import Idealize.ShloMosaic.PureOps.Ideal.Laws

@[expose] public section

set_option maxRecDepth 16384

noncomputable section

/-! The backward of the two sigmoid gates that merge the branches, and its claims. -/

namespace Cert.Proof.GateMerge

open Idealize.ShloMosaic Idealize.ShloMosaic.TcCoe Idealize.ShloMosaic.Tactic Idealize.SL.Sem

section

open Cert.Kernel12Ideal Cert.Kernel12Ideal.Gen

/-- The gate whose columns of the projection begin at `o`. -/
def gate (o : ℕ) (ho : o + 1024 ≤ 6144) (pb : S16384x6144.Idx → EReal) (y : S16384x1024.Idx) : EReal :=
  Ideal.logistic (pb (ix2 (y 0) ⟨o + (y 1).val, by have := (y 1).isLt; simp at this; omega⟩))

/-- A branch's gradient. -/
def dBranch (o : ℕ) (ho : o + 1024 ≤ 6144) (pb : S16384x6144.Idx → EReal) (dm : S16384x1024.Idx → EReal) (y : S16384x1024.Idx) : EReal :=
  dm y * gate o ho pb y

/-- The gradient of a gate before its sigmoid. -/
def dGate (o : ℕ) (ho : o + 1024 ≤ 6144) (pb : S16384x6144.Idx → EReal) (b dm : S16384x1024.Idx → EReal) (y : S16384x1024.Idx) : EReal :=
  dm y * b y * gate o ho pb y * (1 - gate o ho pb y)

theorem idx : ∀ t : Fin cfg0.N, win0_0.index t = ![t.val, 4] ∧ win0_1.index t = ![t.val, 5] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] := by
  decide +kernel

theorem pay3 (g : Vec Ideal S1024x1024 .bf16) (y : S1024x1024.Idx) : k0_pay3 g y = Ideal.logistic (g y) := by
  rw [← sigmoid_tanh]
  unfold k0_pay3
  pointwise

theorem pay4 (g : Vec Ideal S1024x1024 .bf16) (y : S1024x1024.Idx) : k0_pay4 g y = Ideal.logistic (g y) := pay3 g y

theorem pay5 (d g : Vec Ideal S1024x1024 .bf16) (y : S1024x1024.Idx) : k0_pay5 d g y = d y * Ideal.logistic (g y) := by
  rw [← pay3]
  unfold k0_pay5 k0_pay2
  pointwise

theorem pay6 (d g : Vec Ideal S1024x1024 .bf16) (y : S1024x1024.Idx) : k0_pay6 d g y = d y * Ideal.logistic (g y) := pay5 d g y

theorem pay7 (d g b : Vec Ideal S1024x1024 .bf16) (y : S1024x1024.Idx) :
    k0_pay7 d g b y = d y * b y * Ideal.logistic (g y) * (1 - Ideal.logistic (g y)) := by
  rw [← pay3]
  unfold k0_pay7 k0_pay2
  pointwise

theorem pay1 (d g b : Vec Ideal S1024x1024 .bf16) (y : S1024x1024.Idx) :
    k0_pay1 (k0_pay2 d) (k0_pay4 g) b y = d y * b y * Ideal.logistic (g y) * (1 - Ideal.logistic (g y)) :=
  pay7 d g b y

variable (m : (ℓ : Loc nD τ sig) → Buf (Elt Ideal) ℓ) (c : Dev nD)

theorem final5 : (dats m 0 c).arrAt 5 cfg0.N = dBranch 4096 (by decide) (V m c main_arg0) (V m c main_arg3) := by
  refine (dats m 0 c).arrAt_eq_of_covers 5 _ (by decide +kernel) fun t hf y => ?_
  rw [after0_5]
  frame_out
  revert y
  show ∀ y : S1024x1024.Idx, _
  intro y
  idx_vars y
  blk_simp
  rw [pay5]
  unfold dBranch gate
  refine congr (congrArg _ ?_) (congrArg _ ?_)
  all_goals blk_ext [iblk, idx t]

theorem final6 : (dats m 0 c).arrAt 6 cfg0.N = dBranch 5120 (by decide) (V m c main_arg0) (V m c main_arg3) := by
  refine (dats m 0 c).arrAt_eq_of_covers 6 _ (by decide +kernel) fun t hf y => ?_
  rw [after0_6]
  frame_out
  revert y
  show ∀ y : S1024x1024.Idx, _
  intro y
  idx_vars y
  blk_simp
  rw [pay6]
  unfold dBranch gate
  refine congr (congrArg _ ?_) (congrArg _ ?_)
  all_goals blk_ext [iblk, idx t]

theorem final7 : (dats m 0 c).arrAt 7 cfg0.N = dGate 4096 (by decide) (V m c main_arg0) (V m c main_arg1) (V m c main_arg3) := by
  refine (dats m 0 c).arrAt_eq_of_covers 7 _ (by decide +kernel) fun t hf y => ?_
  rw [after0_7]
  frame_out
  revert y
  show ∀ y : S1024x1024.Idx, _
  intro y
  idx_vars y
  blk_simp
  rw [pay7]
  unfold dGate gate
  refine congr (congrArg _ (congr (congrArg _ (congr (congrArg _ ?_) ?_)) (congrArg _ ?_))) (congrArg _ (congrArg _ ?_))
  all_goals blk_ext [iblk, idx t]

theorem final8 : (dats m 0 c).arrAt 8 cfg0.N = dGate 5120 (by decide) (V m c main_arg0) (V m c main_arg2) (V m c main_arg3) := by
  refine (dats m 0 c).arrAt_eq_of_covers 8 _ (by decide +kernel) fun t hf y => ?_
  rw [after0_8]
  frame_out
  revert y
  show ∀ y : S1024x1024.Idx, _
  intro y
  idx_vars y
  blk_simp
  rw [pay1]
  unfold dGate gate
  refine congr (congrArg _ (congr (congrArg _ (congr (congrArg _ ?_) ?_)) (congrArg _ ?_))) (congrArg _ (congrArg _ ?_))
  all_goals blk_ext [iblk, idx t]

end

theorem frame_kernelIdeal : Cert.quiescent_Kernel12Ideal := fun m ρ _ => Cert.Kernel12Ideal.Gen.frame m ρ

theorem frame_kernel : Cert.quiescent_Kernel12 := by
  intro m ρ _
  refine Eq.mp ?_ (Cert.Kernel12Ideal.Gen.frame (F := Bits) m ρ)
  chain_rfl

theorem frame_referenceIdeal : Cert.quiescent_Reference12Ideal := fun m ρ _ =>
  (θ_run Cert.Reference12Ideal.defs _ _).mono (fun r h => ⟨fun c => (h c).2.2.2.2, sem_eq_zero_of_no_sems rfl _⟩)
    (Cert.Reference12Ideal.Value.run (F := Ideal) m ρ)

open Cert.Kernel12Ideal in
theorem algebraic : Cert.algebraic_Kernel12Ideal_Reference12Ideal := by
  intro m g m' g' hm he
  refine ⟨fun c => dBranch 4096 (by decide) (Gen.V m c main_arg0) (Gen.V m c main_arg3),
    fun c => dBranch 5120 (by decide) (Gen.V m c main_arg0) (Gen.V m c main_arg3),
    fun c => dGate 4096 (by decide) (Gen.V m c main_arg0) (Gen.V m c main_arg1) (Gen.V m c main_arg3),
    fun c => dGate 5120 (by decide) (Gen.V m c main_arg0) (Gen.V m c main_arg2) (Gen.V m c main_arg3), ?_, ?_⟩
  · exact (θ_run Cert.Kernel12Ideal.defs _ _).mono
      (fun r h c => ⟨((h.1 c).1 5).trans (final5 m c), ((h.1 c).1 6).trans (final6 m c), ((h.1 c).1 7).trans (final7 m c),
        ((h.1 c).1 8).trans (final8 m c), h.2 c⟩)
      (θ_run_and (Gen.run_main m g) (Gen.unchanged (F := Ideal) m g))
  · refine (θ_run Cert.Reference12Ideal.defs _ _).mono
      (fun r h c => ⟨(h c).1.trans ?_, (h c).2.1.trans ?_, (h c).2.2.1.trans ?_, (h c).2.2.2.1.trans ?_, (h c).2.2.2.2⟩)
      (Cert.Reference12Ideal.Value.run (F := Ideal) m' g')
    all_goals
      obtain ⟨e0, e1, e2, e3⟩ := he c
      rw [e0]
      try rw [e1]
      try rw [e2]
      try rw [e3]
      funext y
      revert y
      show ∀ y : S16384x1024.Idx, _
      intro y
      idx_vars y
      pointwise
    · exact mul_comm _ _
    · have e : (⟨4096 + (1024 + y1.val), by omega⟩ : Fin 6144) = ⟨5120 + y1.val, by omega⟩ := Fin.ext (by dsimp only <;> omega)
      rw [e]
      exact mul_comm _ _
    · exact (mul_assoc _ _ _).symm
    · have e : (⟨4096 + (1024 + y1.val), by omega⟩ : Fin 6144) = ⟨5120 + y1.val, by omega⟩ := Fin.ext (by dsimp only <;> omega)
      rw [e]
      exact (mul_assoc _ _ _).symm

end Cert.Proof.GateMerge

end
-- ==== Proof.Norm.lean ====
module

public import proofs.«01_k».proof.Proof.Reals
public import Idealize.ShloMosaic.PureOps.Ideal.Laws
public import Idealize.ShloMosaic.Lib.IdealHost

@[expose] public section

noncomputable section

/-! The gradient of the RMS norm over reals: as the kernels write it and as the chain rule does. -/

namespace Cert.Proof

open Idealize.ShloMosaic

theorem eps_bits : ∃ e : ℝ, 0 < e ∧ Ideal.ofBits .f32 0x358637BD#32 = (e : EReal) := by
  refine ⟨8796093 / 8796093022208, by norm_num, ?_⟩
  simp [Ideal.ofBits, Ideal.ieee, -EReal.coe_mul]
  norm_num

theorem neg_half_bits : Ideal.ofBits .f32 0xBF000000#32 = ((-1 / 2 : ℝ) : EReal) := by
  simp [Ideal.ofBits, Ideal.ieee, -EReal.coe_mul]
  norm_num

theorem bits_1024 : ∃ e : ℝ, 0 < e ∧ Ideal.ofBits .f32 0x44800000#32 = (e : EReal) := by
  refine ⟨1024, by norm_num, ?_⟩
  simp [Ideal.ofBits, Ideal.ieee, -EReal.coe_mul]
  norm_num

theorem bits_128 : ∃ e : ℝ, 0 < e ∧ Ideal.ofBits .f32 0x43000000#32 = (e : EReal) := by
  refine ⟨128, by norm_num, ?_⟩
  simp [Ideal.ofBits, Ideal.ieee, -EReal.coe_mul]
  norm_num

theorem coe_sum {n : ℕ} (f : Fin n → ℝ) : ∑ i, (f i : EReal) = ((∑ i, f i : ℝ) : EReal) := by
  induction n with
  | zero => simp
  | succ n ih => rw [Fin.sum_univ_succ, Fin.sum_univ_succ, ih, EReal.coe_add]

theorem div_real (a : ℝ) {b : ℝ} (hb : b ≠ 0) : Ideal.div (a : EReal) (b : EReal) = ((a / b : ℝ) : EReal) := by
  rw [Ideal.div_coe hb, ← EReal.coe_mul, mul_one_div]

/-- One over the root of the mean square. -/
def inv {n : ℕ} (N e : EReal) (x : Fin n → EReal) : EReal := Ideal.rsqrt (Ideal.div (∑ k, x k * x k) N + e)

/-- What the mean square takes of the gradient, for each entry. -/
def msGrad {n : ℕ} (N e : EReal) (x g : Fin n → EReal) : EReal :=
  ∑ _z : Fin 1, Ideal.div ((∑ k, x k * g k) * (Ideal.ofBits .f32 0xBF000000#32 * Ideal.div (inv N e x) (Ideal.div (∑ k, x k * x k) N + e))) N

theorem mean_pos {n : ℕ} {N e : ℝ} (hN : 0 < N) (he : 0 < e) (x : Fin n → ℝ) : 0 < (∑ k, x k * x k) / N + e := by
  have := Finset.sum_nonneg fun k (_ : k ∈ Finset.univ) => mul_self_nonneg (x k)
  positivity

theorem inv_coe {n : ℕ} {N e : ℝ} (hN : 0 < N) (he : 0 < e) (x : Fin n → ℝ) :
    inv N e (fun k => (x k : EReal)) = ((√((∑ k, x k * x k) / N + e))⁻¹ : ℝ) := by
  unfold inv
  simp only [← EReal.coe_mul, coe_sum, div_real _ hN.ne', ← EReal.coe_add]
  rw [Ideal.rsqrt_coe, if_neg (mean_pos hN he x).not_gt, if_neg (mean_pos hN he x).ne']

theorem IsReal.inv {n : ℕ} {N e : EReal} (hN : ∃ r : ℝ, 0 < r ∧ N = r) (he : ∃ r : ℝ, 0 < r ∧ e = r) {x : Fin n → EReal}
    (hx : ∀ k, IsReal (x k)) : IsReal (inv N e x) := by
  obtain ⟨N, hN, rfl⟩ := hN
  obtain ⟨e, he, rfl⟩ := he
  choose x' hx using hx
  obtain rfl : x = fun k => (x' k : EReal) := funext hx
  exact ⟨_, inv_coe hN he x'⟩

theorem norm_grad {n : ℕ} {N e : EReal} (hN : ∃ r : ℝ, 0 < r ∧ N = r) (he : ∃ r : ℝ, 0 < r ∧ e = r) {x g : Fin n → EReal} (hx : ∀ k, IsReal (x k)) (hg : ∀ k, IsReal (g k)) (j : Fin n) :
    inv N e x * (g j - x j * inv N e x * Ideal.div (∑ k, g k * (x k * inv N e x)) N)
      = g j * inv N e x + x j * msGrad N e x g + msGrad N e x g * x j := by
  obtain ⟨N, hN, rfl⟩ := hN
  obtain ⟨e, he, rfl⟩ := he
  choose x' hx using hx
  choose g' hg using hg
  obtain rfl : x = fun k => (x' k : EReal) := funext hx
  obtain rfl : g = fun k => (g' k : EReal) := funext hg
  have hv := mean_pos hN he x'
  unfold msGrad
  rw [Fin.sum_univ_one, inv_coe hN he, neg_half_bits]
  simp only [← EReal.coe_mul, coe_sum, div_real _ hN.ne', div_real _ hv.ne', ← EReal.coe_add, ← EReal.coe_sub]
  refine congrArg _ ?_
  have hs : √((∑ k, x' k * x' k) / N + e) * √((∑ k, x' k * x' k) / N + e) = (∑ k, x' k * x' k) / N + e := Real.mul_self_sqrt hv.le
  have hp := Real.sqrt_pos.mpr hv
  have hd : ∑ k, g' k * (x' k * (√((∑ k, x' k * x' k) / N + e))⁻¹) = (∑ k, x' k * g' k) * (√((∑ k, x' k * x' k) / N + e))⁻¹ := by
    rw [Finset.sum_mul]
    exact Finset.sum_congr rfl fun k _ => by ring
  rw [hd]
  generalize ∑ k, x' k * g' k = d at *
  generalize (∑ k, x' k * x' k) / N + e = v at *
  generalize √v = s at *
  subst hs
  field_simp
  ring

theorem add_swap {a b c : EReal} (h : b = c) : c + a = a + b := h ▸ add_comm _ _

end Cert.Proof

end
-- ==== Proof.RmsBwd.lean ====
module

public import proofs.«01_k».proof.Defs
public import proofs.«01_k».proof.Proof.Gen.Kernel14
public import proofs.«01_k».proof.Proof.Gen.Kernel14Ideal.Frame
public import proofs.«01_k».proof.Proof.Gen.Reference14Ideal.Run
public import proofs.«01_k».proof.Proof.Finite
public import proofs.«01_k».proof.Proof.Norm
public import Idealize.ShloMosaic.Lib.Pipeline.Value
public import Idealize.ShloMosaic.Lib.Pipeline.ValueKit.Point
public import Idealize.ShloMosaic.Lib.Pipeline.ValueKit.Acc
public import Idealize.ShloMosaic.Lib.Claim

@[expose] public section

set_option maxRecDepth 16384

noncomputable section

/-! The backward of the RMS norm, and its claims. -/

namespace Cert.Proof.RmsBwd

open Idealize.ShloMosaic Idealize.ShloMosaic.TcCoe Idealize.ShloMosaic.Tactic Idealize.SL.Sem

section

open Cert.Kernel14Ideal Cert.Kernel14Ideal.Gen

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] := by
  decide +kernel

def nInv (x : S16384x1024.Idx → EReal) (r : Fin 16384) : EReal :=
  inv (Ideal.ofBits .f32 0x44800000#32) (Ideal.ofBits .f32 0x358637BD#32) fun k : Fin 1024 => x (ix2 r k)

/-- The gradient of the norm's input, and the residual's. -/
def dx (x : S16384x1024.Idx → EReal) (w : S1x1024.Idx → EReal) (dy res : S16384x1024.Idx → EReal) (y : S16384x1024.Idx) : EReal :=
  res (ix2 (y 0) (y 1)) + nInv x (y 0) * (dy (ix2 (y 0) (y 1)) * w (ix2 0 (y 1)) - x (ix2 (y 0) (y 1)) * nInv x (y 0)
    * Ideal.div (∑ k : Fin 1024, dy (ix2 (y 0) k) * w (ix2 0 k) * (x (ix2 (y 0) k) * nInv x (y 0))) (Ideal.ofBits .f32 0x44800000#32))

/-- The gradient of the norm's weights: a sum over the tokens. -/
def dw (x dy : S16384x1024.Idx → EReal) (y : S1x1024.Idx) : EReal :=
  ∑ l : Fin 16384, dy (ix2 l (y 1)) * (x (ix2 l (y 1)) * nInv x l)

theorem pay2 (x : Vec Ideal S1024x1024 .f32) (a : Fin 1024) (z : Fin 1) :
    k0_pay2 x (ix2 a z) = inv (Ideal.ofBits .f32 0x44800000#32) (Ideal.ofBits .f32 0x358637BD#32) fun k : Fin 1024 => x (ix2 a k) := by
  unfold k0_pay2
  pointwise
  rfl

/-- One block of tokens. -/
def part (x : Vec Ideal S1024x1024 .f32) (dy : Vec Ideal S1024x1024 .bf16) (y : S1x1024.Idx) : EReal :=
  ∑ k : Fin 1024, dy (ix2 k (y 1)) * (x (ix2 k (y 1)) * k0_pay2 x (ix2 k 0))

theorem pay1 (v : Vec Ideal S1x1024 .f32) (x : Vec Ideal S1024x1024 .f32) (dy : Vec Ideal S1024x1024 .bf16) (y : S1x1024.Idx) :
    k0_pay1 (k0_pay7 v) (k0_pay8 x dy) y = v y + part x dy y := by
  unfold k0_pay1 k0_pay7 k0_pay8 k0_pay4 k0_pay3 part
  idx_vars y
  pointwise

theorem pay6 (y : S1x1024.Idx) : k0_pay6 (F := Ideal) y = 0 := by
  unfold k0_pay6
  pointwise

theorem pay5 (x : Vec Ideal S1024x1024 .f32) (dy : Vec Ideal S1024x1024 .bf16) (w : Vec Ideal S1x1024 .f32) (res : Vec Ideal S1024x1024 .f32) (a b : Fin 1024) :
    k0_pay5 x dy w res (ix2 a b) = res (ix2 a b) + k0_pay2 x (ix2 a 0) * (dy (ix2 a b) * w (ix2 0 b) - x (ix2 a b) * k0_pay2 x (ix2 a 0)
      * Ideal.div (∑ k : Fin 1024, dy (ix2 a k) * w (ix2 0 k) * (x (ix2 a k) * k0_pay2 x (ix2 a 0))) (Ideal.ofBits .f32 0x44800000#32)) := by
  unfold k0_pay5 k0_pay4 k0_pay3
  pointwise

variable (m : (ℓ : Loc nD τ sig) → Buf (Elt Ideal) ℓ) (c : Dev nD)

theorem out4 (t : Fin cfg0.N) : (outsAt0 m c t.val t.isLt).1 = k0_pay5 (iblk m c 0 t) (iblk m c 2 t) (iblk m c 1 t) (iblk m c 3 t) := by
  by_cases h : t.val % 16 = 0
  · rw [outsAt0_A m c t h]
    frame_out
  · rw [outsAt0_B m c t h]
    frame_out

theorem final4 : (dats m 0 c).arrAt 4 cfg0.N = dx (V m c main_arg0) (V m c main_arg1) (V m c main_arg2) (V m c main_arg3) := by
  refine (dats m 0 c).arrAt_eq_of_covers 4 _ (by decide +kernel) fun t hf y => ?_
  rw [after0_4, out4]
  revert y
  show ∀ y : S1024x1024.Idx, _
  intro y
  idx_vars y
  blk_simp
  rw [pay5, pay2]
  unfold dx nInv
  unfold inv
  beta_reduce
  reads_congr <;> blk_ext [iblk, idx t]

theorem final5 : (dats m 0 c).arrAt 5 cfg0.N = dw (V m c main_arg0) (V m c main_arg2) := by
  refine (dats m 0 c).arrAt_eq_of_covers 5 _ (by decide +kernel) fun t hf y => ?_
  have ht := (flush0_5 t).mp hf
  rw [after0_5]
  revert y
  show ∀ y : S1x1024.Idx, _
  intro y
  blk_simp
  have e := Pipeline.eq_sum_fin_of_reset_step_apply_of_flush (fun n h => (outsAt0 m c n h).2) 16 (fun _ => 0)
    (fun t => part (iblk m c 0 t) (iblk m c 2 t))
    (fun t h i => by
      rw [outsAt0_A m c t h]
      frame_out
      rw [pay1, pay6])
    (fun t h i => by
      rw [outsAt0_B m c t h]
      frame_out
      rw [pay1])
    t ht y
  rw [e, zero_add]
  unfold dw part nInv
  refine Fin.sum_mul_add_congr fun s k hl => ?_
  idx_vars y
  rw [pay2]
  unfold inv
  beta_reduce
  reads_congr <;> blk_ext [iblk, idx t, idx ⟨16 * (t.val / 16) + s.val, Pipeline.run_point_lt_of_flush t ht s⟩]

end

instance finite14_facts : Cert.Pre_finite14.Facts where
  bcast_S_S16384x1024 := by decide
  bcast_S_S1x1024 := by decide

theorem frame_kernelIdeal : Cert.quiescent_Kernel14Ideal := fun m ρ _ => Cert.Kernel14Ideal.Gen.frame m ρ

theorem frame_kernel : Cert.quiescent_Kernel14 := by
  intro m ρ _
  refine Eq.mp ?_ (Cert.Kernel14Ideal.Gen.frame (F := Bits) m ρ)
  chain_rfl

theorem frame_referenceIdeal : Cert.quiescent_Reference14Ideal := fun m ρ _ =>
  (θ_run Cert.Reference14Ideal.defs _ _).mono (fun r h => ⟨fun c => (h c).2.2, sem_eq_zero_of_no_sems rfl _⟩) (Cert.Reference14Ideal.Value.run (F := Ideal) m ρ)

open Cert.Kernel14Ideal in
theorem algebraic : Cert.algebraic_Kernel14Ideal_Reference14Ideal_pre_finite14 := by
  intro m g m' g' hm he
  refine ⟨fun c => dx (Gen.V m c main_arg0) (Gen.V m c main_arg1) (Gen.V m c main_arg2) (Gen.V m c main_arg3),
    fun c => dw (Gen.V m c main_arg0) (Gen.V m c main_arg2), ?_, ?_⟩
  · exact (θ_run Cert.Kernel14Ideal.defs _ _).mono
      (fun r h c => ⟨((h.1 c).1 4).trans (final4 m c), ((h.1 c).1 5).trans (final5 m c), h.2 c⟩)
      (θ_run_and (Gen.run_main m g) (Gen.unchanged (F := Ideal) m g))
  · refine (θ_run Cert.Reference14Ideal.defs _ _).mono (fun r h c => ⟨(h c).1.trans ?_, (h c).2.1.trans ?_, (h c).2.2⟩)
      (Cert.Reference14Ideal.Value.run (F := Ideal) m' g')
    · obtain ⟨e0, e1, e2, e3⟩ := he c
      obtain ⟨f0, f1, f2⟩ := hm c
      rw [e0, e1, e2, e3]
      funext y
      revert y
      show ∀ y : S16384x1024.Idx, _
      intro y
      idx_vars y
      pointwise
      exact add_swap (norm_grad bits_1024 eps_bits (fun k => isReal_of_abs_lt (congrFun f0 (ix2 y0 k)))
        (fun k => (isReal_of_abs_lt (congrFun f2 (ix2 y0 k))).mul (isReal_of_abs_lt (congrFun f1 (ix2 0 k)))) y1)
    · obtain ⟨e0, e1, e2, e3⟩ := he c
      rw [e0, e2]
      funext y
      revert y
      show ∀ y : S1x1024.Idx, _
      intro y
      idx_vars y
      pointwise
      exact Finset.sum_congr rfl fun l _ => mul_comm _ _

end Cert.Proof.RmsBwd

end
-- ==== Proof.HeadNorm.lean ====
module

public import proofs.«01_k».proof.Defs
public import proofs.«01_k».proof.Proof.Gen.Kernel15
public import proofs.«01_k».proof.Proof.Gen.Kernel15Ideal.Frame
public import proofs.«01_k».proof.Proof.Gen.Reference15Ideal.Run
public import proofs.«01_k».proof.Proof.Finite
public import proofs.«01_k».proof.Proof.Norm
public import proofs.«01_k».proof.Proof.Silu
public import Idealize.ShloMosaic.Lib.Pipeline.Value
public import Idealize.ShloMosaic.Lib.Pipeline.ValueKit.Point
public import Idealize.ShloMosaic.Lib.Pipeline.ValueKit.Acc
public import Idealize.ShloMosaic.Lib.Pipeline.ValueKit.Tiles
public import Idealize.ShloMosaic.Lib.Claim

@[expose] public section

set_option maxRecDepth 16384

noncomputable section

/-! The backward of the gated norm of each head, and its claims. -/

namespace Cert.Proof.HeadNorm

open Idealize.ShloMosaic Idealize.ShloMosaic.TcCoe Idealize.ShloMosaic.Tactic Idealize.SL.Sem

/-! A head's row: its output `o`, its gate `z`, the gradient `d` and the norm's weights `w`. -/

section
variable (o z d w : Fin 128 → EReal) (j : Fin 128)

def hInv : EReal := inv (Ideal.ofBits .f32 0x43000000#32) (Ideal.ofBits .f32 0x358637BD#32) o

def hNorm : EReal := d j * (z j * Ideal.logistic (z j))

def hDo : EReal :=
  hInv o * (hNorm z d j * w j - o j * hInv o * Ideal.div (∑ k, hNorm z d k * w k * (o k * hInv o)) (Ideal.ofBits .f32 0x43000000#32))

def hDz : EReal :=
  d j * (o j * hInv o) * w j * (Ideal.logistic (z j) + z j * Ideal.logistic (z j) * (1 - Ideal.logistic (z j)))

def hDw : EReal := hNorm z d j * (o j * hInv o)

end

theorem rank_a01 {n0 n1 n2 : ℕ} {t : Shape} (h : (⟨3, ![n0, n1, n2]⟩ : Shape).ReducesTo [0, 1] t) : t.rank = 1 := h.1

theorem lt_a01 {n0 n1 n2 : ℕ} {t : Shape} (h : (⟨3, ![n0, n1, n2]⟩ : Shape).ReducesTo [0, 1] t) : 0 < t.rank := rank_a01 h ▸ (by decide)

theorem size_a01 {n0 n1 n2 : ℕ} {t : Shape} (h : (⟨3, ![n0, n1, n2]⟩ : Shape).ReducesTo [0, 1] t) : t.size ⟨0, lt_a01 h⟩ = n2 := h.2 ⟨0, lt_a01 h⟩

/-- A sum along the two leading axes. -/
theorem hostReduceAdd_r3_a01 {n0 n1 n2 : ℕ} {t : Shape} (h : (⟨3, ![n0, n1, n2]⟩ : Shape).ReducesTo [0, 1] t)
    (v : (⟨3, ![n0, n1, n2]⟩ : Shape).Idx → EReal) (init : EReal) (j : t.Idx) :
    Ideal.hostReduceAdd h v init j
      = init + ∑ a, ∑ b, v (ix3 a b ⟨(j ⟨0, lt_a01 h⟩).val, Shape.coordLt (j ⟨0, lt_a01 h⟩) (size_a01 h)⟩) := by
  refine congrArg (init + ·) ((Finset.sum_filter_eq_sum_of_fiber _ (fun k : Fin n0 × Fin n1 => ix3 k.1 k.2 ⟨(j ⟨0, lt_a01 h⟩).val, Shape.coordLt (j ⟨0, lt_a01 h⟩) (size_a01 h)⟩)
    (fun _ _ e => Prod.ext (congrFun e 0) (congrFun e 1)) (fun i => ⟨fun e => ⟨(i 0, i 1), ?_⟩, ?_⟩) v).trans
    (by simp only [Fintype.sum_prod_type]))
  · funext a
    apply Fin.ext
    match a with
    | ⟨0, _⟩ => rfl
    | ⟨1, _⟩ => rfl
    | ⟨2, _⟩ => exact (congrArg Fin.val (congrFun e ⟨0, lt_a01 h⟩)).symm
  · rintro ⟨k, rfl⟩
    funext b
    apply Fin.ext
    match b with
    | ⟨0, _⟩ => rfl
    | ⟨_ + 1, hb⟩ => exact absurd hb (by have := rank_a01 h; omega)

/-- Lane `k` of the head that lane `b` is of. -/
def lane (b : Fin 1024) (k : Fin 128) : Fin 1024 := ⟨b.val / 128 * 128 + k.val, by omega⟩
def inHead (b : Fin 1024) : Fin 128 := ⟨b.val % 128, by omega⟩

/-- Lane `k` of head `h`. -/
def headLane (h : Fin 8) (k : Fin 128) : Fin 1024 := ⟨h.val * 128 + k.val, by omega⟩

section

open Cert.Kernel15Ideal Cert.Kernel15Ideal.Gen

theorem idx : ∀ t : Fin cfg0.N, win0_0.index t = ![t.val, 0] ∧ win0_1.index t = ![t.val, 3] ∧ win0_2.index t = ![0, 0]
    ∧ win0_3.index t = ![t.val, 0] ∧ win0_4.index t = ![t.val, 0] ∧ win0_5.index t = ![t.val, 0] ∧ win0_6.index t = ![0, 0] := by
  decide +kernel

variable (m : (ℓ : Loc nD τ sig) → Buf (Elt Ideal) ℓ) (c : Dev nD)

theorem at2 {n k : ℕ} {α : Type} (f : (⟨2, ![n, k]⟩ : Shape).Idx → α) {a a' : Fin n} {b b' : Fin k} (h : a.val = a'.val) (h' : b.val = b'.val) :
    f (ix2 a b) = f (ix2 a' b') := by
  obtain rfl := Fin.ext h
  obtain rfl := Fin.ext h'
  rfl

set_option maxHeartbeats 2000000 in
theorem out4 (t : Fin cfg0.N) (y : S1024x1024.Idx) : (outsAt0 m c t.val t.isLt).1 y
    = hDo (fun k => iblk m c 0 t (ix2 (y 0) (lane (y 1) k))) (fun k => iblk m c 1 t (ix2 (y 0) (lane (y 1) k)))
        (fun k => iblk m c 3 t (ix2 (y 0) (lane (y 1) k))) (fun k => iblk m c 2 t (ix2 0 k)) (inHead (y 1)) := by
  by_cases h : t.val % 16 = 0
  on_goal 1 => rw [outsAt0_A m c t h]
  on_goal 2 => rw [outsAt0_B m c t h]
  all_goals
    frame_out
    canon_tiles x e
  all_goals
    open_payloads
    pointwise
    simp only [hDo, hNorm, hInv, inv, sigmoid_tanh]
    reads_congr <;> refine at2 _ ?_ ?_ <;> (try simp only [lane, inHead]) <;> omega

set_option maxHeartbeats 2000000 in
theorem out5 (t : Fin cfg0.N) (y : S1024x1024.Idx) : (outsAt0 m c t.val t.isLt).2.1 y
    = hDz (fun k => iblk m c 0 t (ix2 (y 0) (lane (y 1) k))) (fun k => iblk m c 1 t (ix2 (y 0) (lane (y 1) k)))
        (fun k => iblk m c 3 t (ix2 (y 0) (lane (y 1) k))) (fun k => iblk m c 2 t (ix2 0 k)) (inHead (y 1)) := by
  by_cases h : t.val % 16 = 0
  on_goal 1 => rw [outsAt0_A m c t h]
  on_goal 2 => rw [outsAt0_B m c t h]
  all_goals
    frame_out
    canon_tiles x e
  all_goals
    open_payloads
    pointwise
    simp only [hDz, hNorm, hInv, inv, sigmoid_tanh]
    reads_congr <;> refine at2 _ ?_ ?_ <;> (try simp only [lane, inHead]) <;> omega

def zLane (b : Fin 1024) : Fin 6144 := ⟨3072 + b.val, by omega⟩

section
variable (o : S16384x1024.Idx → EReal) (pb : S16384x6144.Idx → EReal) (wn : S1x128.Idx → EReal) (d : S16384x1024.Idx → EReal)

/-- The gradient of the heads' outputs. -/
def gO (y : S16384x1024.Idx) : EReal :=
  hDo (fun k => o (ix2 (y 0) (lane (y 1) k))) (fun k => pb (ix2 (y 0) (zLane (lane (y 1) k)))) (fun k => d (ix2 (y 0) (lane (y 1) k)))
    (fun k => wn (ix2 0 k)) (inHead (y 1))

/-- The gradient of their gates. -/
def gZ (y : S16384x1024.Idx) : EReal :=
  hDz (fun k => o (ix2 (y 0) (lane (y 1) k))) (fun k => pb (ix2 (y 0) (zLane (lane (y 1) k)))) (fun k => d (ix2 (y 0) (lane (y 1) k)))
    (fun k => wn (ix2 0 k)) (inHead (y 1))

/-- The gradient of the norm's weights: over the heads of every token. -/
def gW (y : S1x128.Idx) : EReal :=
  ∑ l : Fin 16384, ∑ h : Fin 8, hDw (fun k => o (ix2 l (headLane h k))) (fun k => pb (ix2 l (zLane (headLane h k))))
    (fun k => d (ix2 l (headLane h k))) (y 1)

end

theorem final4 : (dats m 0 c).arrAt 4 cfg0.N = gO (V m c main_arg0) (V m c main_arg1) (V m c main_arg2) (V m c main_arg3) := by
  refine (dats m 0 c).arrAt_eq_of_covers 4 _ (by decide +kernel) fun t hf y => ?_
  rw [after0_4]
  revert y
  show ∀ y : S1024x1024.Idx, _
  intro y
  rw [out4]
  idx_vars y
  blk_simp
  simp only [gO, hDo, hNorm, hInv, inv]
  reads_congr <;> blk_ext [iblk, idx t, lane, zLane, inHead] <;> rfl

theorem final5 : (dats m 0 c).arrAt 5 cfg0.N = gZ (V m c main_arg0) (V m c main_arg1) (V m c main_arg2) (V m c main_arg3) := by
  refine (dats m 0 c).arrAt_eq_of_covers 5 _ (by decide +kernel) fun t hf y => ?_
  rw [after0_5]
  revert y
  show ∀ y : S1024x1024.Idx, _
  intro y
  rw [out5]
  idx_vars y
  blk_simp
  simp only [gZ, hDz, hNorm, hInv, inv]
  reads_congr <;> blk_ext [iblk, idx t, lane, zLane, inHead] <;> rfl

/-- One block of tokens. -/
def part (o : Vec Ideal S1024x1024 .f32) (z d : Vec Ideal S1024x1024 .bf16) (y : S1x128.Idx) : EReal :=
  ∑ h : Fin 8, ∑ l : Fin 1024, hDw (fun k => o (ix2 l (headLane h k))) (fun k => z (ix2 l (headLane h k))) (fun k => d (ix2 l (headLane h k))) (y 1)

set_option maxHeartbeats 2000000 in
theorem out6_A (t : Fin cfg0.N) (h : t.val % 16 = 0) (y : S1x128.Idx) :
    (outsAt0 m c t.val t.isLt).2.2 y = 0 + part (iblk m c 0 t) (iblk m c 1 t) (iblk m c 3 t) y := by
  rw [outsAt0_A m c t h]
  frame_out
  open_payloads
  idx_vars y
  pointwise
  simp only [part, Fin.sum_univ_eight, hDw, hNorm, hInv, inv, sigmoid_tanh]
  reads_congr <;> exact at2 _ rfl (by simp [headLane])

set_option maxHeartbeats 2000000 in
theorem out6_B (t : Fin cfg0.N) (h : ¬t.val % 16 = 0) (y : S1x128.Idx) :
    (outsAt0 m c t.val t.isLt).2.2 y = (outsAt0 m c (t.val - 1) (Nat.lt_of_le_of_lt (Nat.sub_le _ _) t.isLt)).2.2 y
      + part (iblk m c 0 t) (iblk m c 1 t) (iblk m c 3 t) y := by
  rw [outsAt0_B m c t h]
  frame_out
  open_payloads
  idx_vars y
  pointwise
  simp only [part, Fin.sum_univ_eight, hDw, hNorm, hInv, inv, sigmoid_tanh]
  reads_congr <;> exact at2 _ rfl (by simp [headLane])

theorem final6 : (dats m 0 c).arrAt 6 cfg0.N = gW (V m c main_arg0) (V m c main_arg1) (V m c main_arg3) := by
  refine (dats m 0 c).arrAt_eq_of_covers 6 _ (by decide +kernel) fun t hf y => ?_
  have ht := (flush0_6 t).mp hf
  rw [after0_6]
  revert y
  show ∀ y : S1x128.Idx, _
  intro y
  blk_simp
  have e := Pipeline.eq_sum_fin_of_reset_step_apply_of_flush (fun n h => (outsAt0 m c n h).2.2) 16 (fun _ => 0)
    (fun t => part (iblk m c 0 t) (iblk m c 1 t) (iblk m c 3 t)) (out6_A m c) (out6_B m c) t ht y
  rw [e, zero_add]
  unfold gW part
  simp only [Finset.sum_comm (γ := Fin 8)]
  refine Fin.sum_mul_add_congr fun s k hl => ?_
  idx_vars y
  simp only [hDw, hNorm, hInv, inv]
  reads_congr <;> blk_ext [iblk, idx t, idx ⟨16 * (t.val / 16) + s.val, Pipeline.run_point_lt_of_flush t ht s⟩, zLane, headLane]

end

instance finite15_facts : Cert.Pre_finite15.Facts where
  bcast_S_S16384x1024 := by decide
  bcast_S_S16384x6144 := by decide
  bcast_S_S1x128 := by decide

theorem frame_kernelIdeal : Cert.quiescent_Kernel15Ideal := fun m ρ _ => Cert.Kernel15Ideal.Gen.frame m ρ

theorem frame_kernel : Cert.quiescent_Kernel15 := by
  intro m ρ _
  refine Eq.mp ?_ (Cert.Kernel15Ideal.Gen.frame (F := Bits) m ρ)
  chain_rfl

theorem frame_referenceIdeal : Cert.quiescent_Reference15Ideal := fun m ρ _ =>
  (θ_run Cert.Reference15Ideal.defs _ _).mono (fun r h => ⟨fun c => (h c).2.2.2, sem_eq_zero_of_no_sems rfl _⟩) (Cert.Reference15Ideal.Value.run (F := Ideal) m ρ)

theorem logistic_div (x : EReal) : Ideal.logistic x = Ideal.div 1 (1 + Ideal.exp (-x)) := rfl

theorem logistic_real {x : EReal} (h : IsReal x) : IsReal (Ideal.logistic x) := by
  obtain ⟨r, rfl⟩ := h
  exact ⟨_, Ideal.logistic_coe r⟩

theorem dz_lane (o z d : Fin 1024 → EReal) (w : Fin 128 → EReal) (b : Fin 1024) :
    hDz (fun k => o (lane b k)) (fun k => z (lane b k)) (fun k => d (lane b k)) w (inHead b)
      = o b * hInv (fun k => o (lane b k)) * w (inHead b) * d b * (Ideal.logistic (z b) + z b * Ideal.logistic (z b) * (1 - Ideal.logistic (z b))) := by
  have hl : lane b (inHead b) = b := Fin.ext (Nat.div_add_mod' _ _)
  unfold hDz
  beta_reduce
  rw [hl]
  ac_rfl

open Cert.Reference15Ideal Cert.Reference15Ideal.Gen in
theorem lane_sum (v : S16384x8x128.Idx → EReal) (j : Fin 128) :
    shapeCast S1x1x128 (Host.reduceAdd (F := Ideal) (φ := .f32) v (constant S_ FTy.f32 0#32) reducesTo_S16384x8x128_S128_d0_1 h_S_) shapeCasts_S128_S1x1x128 (ix3 0 0 j)
      = ∑ l, ∑ h, v (ix3 l h j) := by
  pointwise
  rw [hostReduceAdd_r3_a01, zero_add]
  rfl

open Cert.Kernel15Ideal in
set_option maxHeartbeats 2000000 in
theorem algebraic : Cert.algebraic_Kernel15Ideal_Reference15Ideal_pre_finite15 := by
  intro m g m' g' hm he
  refine ⟨fun c => gO (Gen.V m c main_arg0) (Gen.V m c main_arg1) (Gen.V m c main_arg2) (Gen.V m c main_arg3),
    fun c => gZ (Gen.V m c main_arg0) (Gen.V m c main_arg1) (Gen.V m c main_arg2) (Gen.V m c main_arg3),
    fun c => gW (Gen.V m c main_arg0) (Gen.V m c main_arg1) (Gen.V m c main_arg3), ?_, ?_⟩
  · exact (θ_run Cert.Kernel15Ideal.defs _ _).mono
      (fun r h c => ⟨((h.1 c).1 4).trans (final4 m c), ((h.1 c).1 5).trans (final5 m c), ((h.1 c).1 6).trans (final6 m c), h.2 c⟩)
      (θ_run_and (Gen.run_main m g) (Gen.unchanged (F := Ideal) m g))
  · refine (θ_run Cert.Reference15Ideal.defs _ _).mono
      (fun r h c => ⟨(h c).1.trans ?_, (h c).2.1.trans ?_, (h c).2.2.1.trans ?_, (h c).2.2.2⟩) (Cert.Reference15Ideal.Value.run (F := Ideal) m' g')
    · unfold Cert.Reference15Ideal.Value.res_main_v51
      obtain ⟨e0, e1, e2, e3⟩ := he c
      obtain ⟨f0, f1, f2, f3⟩ := hm c
      clear hm he h
      rw [e0, e1, e2, e3]
      funext y
      revert y
      show ∀ y : S16384x1024.Idx, _
      intro y
      idx_vars y
      pointwise
      have h := norm_grad bits_128 eps_bits (x := fun k => m (c.tc.loc main_arg0) (ix2 y0 (lane y1 k)))
        (g := fun k => hNorm (fun k => m (c.tc.loc main_arg1) (ix2 y0 (zLane (lane y1 k)))) (fun k => m (c.tc.loc main_arg3) (ix2 y0 (lane y1 k))) k
          * m (c.tc.loc main_arg2) (ix2 0 k))
        (fun k => isReal_of_abs_lt (congrFun f0 (ix2 y0 (lane y1 k))))
        (fun k => ((isReal_of_abs_lt (congrFun f3 (ix2 y0 (lane y1 k)))).mul
          ((isReal_of_abs_lt (congrFun f1 (ix2 y0 (zLane (lane y1 k))))).mul (logistic_real (isReal_of_abs_lt (congrFun f1 (ix2 y0 (zLane (lane y1 k)))))))).mul
          (isReal_of_abs_lt (congrFun f2 (ix2 0 k)))) (inHead y1)
      refine Eq.trans ?_ h.symm
      clear h f0 f1 f2 f3
      unfold msGrad inv hNorm
      simp only [logistic_div]
      reads_congr <;> blk_ext [lane, inHead, zLane]
    · obtain ⟨e0, e1, e2, e3⟩ := he c
      obtain ⟨f0, f1, f2, f3⟩ := hm c
      clear hm he h
      rw [e0, e1, e2, e3]
      funext y
      revert y
      show ∀ y : S16384x1024.Idx, _
      intro y
      idx_vars y
      pointwise
      have hx : ∀ k, IsReal (m (c.tc.loc main_arg0) (ix2 y0 (lane y1 k))) := fun k => isReal_of_abs_lt (congrFun f0 (ix2 y0 (lane y1 k)))
      have hp := (((isReal_of_abs_lt (congrFun f0 (ix2 y0 y1))).mul (IsReal.inv bits_128 eps_bits hx)).mul
        (isReal_of_abs_lt (congrFun f2 (ix2 0 (inHead y1))))).mul (isReal_of_abs_lt (congrFun f3 (ix2 y0 y1)))
      refine (silu_grad hp _).symm.trans ?_
      clear hp hx f0 f1 f2 f3
      exact (dz_lane (fun l => m (c.tc.loc main_arg0) (ix2 y0 l)) (fun l => m (c.tc.loc main_arg1) (ix2 y0 (zLane l)))
        (fun l => m (c.tc.loc main_arg3) (ix2 y0 l)) (fun k => m (c.tc.loc main_arg2) (ix2 0 k)) y1).symm
    · obtain ⟨e0, e1, e2, e3⟩ := he c
      clear hm he h
      rw [e0, e1, e3]
      funext y
      revert y
      show ∀ y : S1x128.Idx, _
      intro y
      idx_vars y
      pointwise
      rw [hostReduceAdd_r3_a01, Fin.sum_univ_one, Fin.sum_univ_one, zero_add]
      refine (lane_sum _ y1).trans (Finset.sum_congr rfl fun l _ => Finset.sum_congr rfl fun h _ => ?_)
      pointwise
      exact mul_comm _ _

end Cert.Proof.HeadNorm

end
-- ==== Proof.GradDown.lean ====
module

public import proofs.«01_k».proof.Defs
public import proofs.«01_k».proof.Proof.Gen.Kernel16
public import proofs.«01_k».proof.Proof.Gen.Kernel16Ideal.Value
public import proofs.«01_k».proof.Proof.Gen.Reference16Ideal.Run
public import proofs.«01_k».proof.Proof.Gen.Kernel17
public import proofs.«01_k».proof.Proof.Gen.Kernel17Ideal.Value
public import proofs.«01_k».proof.Proof.Gen.Reference17Ideal.Run
public import proofs.«01_k».proof.Proof.GradBase
public import Idealize.ShloMosaic.Lib.Pipeline.ValueKit.Point
public import Idealize.ShloMosaic.Lib.Pipeline.ValueKit.Acc
public import Idealize.ShloMosaic.Lib.Claim
public import Idealize.ShloMosaic.PureOps.Ideal.Laws

@[expose] public section

set_option maxRecDepth 16384

noncomputable section

/-! The gradients of the feed-forward part's output weights and of the merge's, summed over the tokens block by block. -/

namespace Cert.Proof.GradDown

open Idealize.ShloMosaic Idealize.ShloMosaic.TcCoe Idealize.ShloMosaic.Tactic Idealize.SL.Sem

open GradBase (gradW)

section

open Cert.Kernel16Ideal Cert.Kernel16Ideal.Gen

theorem idx : ∀ t : Fin cfg0.N, win0_0.index t = ![t.val % 16, t.val / 16] ∧ win0_1.index t = ![t.val % 16, 0] ∧ win0_2.index t = ![t.val / 16, 0] := by
  decide +kernel

theorem pay1 (y : S1408x1024.Idx) : k0_pay1 (F := Ideal) y = 0 := by
  unfold k0_pay1
  pointwise

theorem pay2 (v3 : Vec Ideal S1408x1024 .f32) (v4 : Vec Ideal S1024x1408 .bf16) (v5 : Vec Ideal S1024x1024 .f32) (y : S1408x1024.Idx) :
    k0_pay2 v3 v4 v5 y = v3 y + gradW v4 v5 y := by
  unfold k0_pay2 gradW
  idx_vars y
  pointwise

variable (m : (ℓ : Loc nD τ sig) → Buf (Elt Ideal) ℓ) (c : Dev nD)

theorem held (v : Vec Ideal S1408x1024 .f32) :
    View.read (Elt Ideal) (View.whole cc0_scratch0) ((Memref.isWhole_whole cc0_scratch0).unread v) = v :=
  (Memref.isWhole_whole cc0_scratch0).read_unread v

theorem scratch (t : Fin cfg0.N) (h : t.val % 16 = 16 - 1) (y : S1408x1024.Idx) :
    (outsAt0 m c t.val t.isLt).2 y
      = 0 + ∑ s : Fin 16, gradW (iblk m c 0 ⟨16 * (t.val / 16) + s.val, Pipeline.run_point_lt_of_flush t h s⟩)
          (iblk m c 1 ⟨16 * (t.val / 16) + s.val, Pipeline.run_point_lt_of_flush t h s⟩) y :=
  Pipeline.eq_sum_fin_of_reset_step_apply_of_flush (fun n h => (outsAt0 m c n h).2) 16 (fun _ => 0)
    (fun t => gradW (iblk m c 0 t) (iblk m c 1 t))
    (fun t h i => by
      have h1 : ¬t.val % 16 = 15 := by omega
      rw [outsAt0_A m c t h h1]
      frame_out
      rw [pay2, pay1])
    (fun t h i => by
      by_cases h1 : t.val % 16 = 15
      · rw [outsAt0_C m c t h h1]
        frame_out
        rw [pay2, held]
      · rw [outsAt0_B m c t h h1]
        frame_out
        rw [pay2, held])
    t h y

theorem final2 : (dats m 0 c).arrAt 2 cfg0.N = gradW (V m c main_arg0) (V m c main_arg1) := by
  refine (dats m 0 c).arrAt_eq_of_covers 2 _ (by decide +kernel) fun t hf y => ?_
  have ht := (flush0_2 t).mp hf
  rw [after0_2]
  revert y
  show ∀ y : S1408x1024.Idx, _
  intro y
  blk_simp
  have e : (outsAt0 m c t.val t.isLt).1 y = (outsAt0 m c t.val t.isLt).2 y := by
    rw [outsAt0_C m c t (by omega) ht]
    frame_out
    unfold k0_pay3
    pointwise
  rw [e, scratch m c t ht, zero_add]
  unfold gradW
  refine Fin.sum_mul_add_congr fun s k hl => ?_
  idx_vars y
  congr 1 <;> blk_ext [iblk, idx t, idx ⟨16 * (t.val / 16) + s.val, Pipeline.run_point_lt_of_flush t ht s⟩]

end

theorem frame_kernelIdeal : Cert.quiescent_Kernel16Ideal := fun m ρ _ => Cert.Kernel16Ideal.Gen.frame m ρ

theorem frame_kernel : Cert.quiescent_Kernel16 := by
  intro m ρ _
  refine Eq.mp ?_ (Cert.Kernel16Ideal.Gen.frame (F := Bits) m ρ)
  chain_rfl

theorem frame_referenceIdeal : Cert.quiescent_Reference16Ideal := fun m ρ _ =>
  (θ_run Cert.Reference16Ideal.defs _ _).mono (fun r h => ⟨fun c => (h c).2, sem_eq_zero_of_no_sems rfl _⟩) (Cert.Reference16Ideal.Value.run (F := Ideal) m ρ)

open Cert.Kernel16Ideal in
theorem algebraic : Cert.algebraic_Kernel16Ideal_Reference16Ideal := by
  intro m g m' g' hm he
  refine ⟨fun c => gradW (Gen.V m c main_arg0) (Gen.V m c main_arg1), ?_, ?_⟩
  · exact (θ_run Cert.Kernel16Ideal.defs _ _).mono (fun r h c => ⟨(h c).1.trans (final2 m c), (h c).2⟩) (Value.run_blocks (F := Ideal) m g)
  · refine (θ_run Cert.Reference16Ideal.defs _ _).mono (fun r h c => ⟨(h c).1.trans ?_, (h c).2⟩) (Cert.Reference16Ideal.Value.run (F := Ideal) m' g')
    obtain ⟨e0, e1⟩ := he c
    rw [e0, e1]
    funext y
    revert y
    show ∀ y : S2816x1024.Idx, _
    intro y
    idx_vars y
    pointwise
    exact Finset.sum_congr rfl fun l _ => mul_comm _ _

end Cert.Proof.GradDown

namespace Cert.Proof.GradOut

open Idealize.ShloMosaic Idealize.ShloMosaic.TcCoe Idealize.ShloMosaic.Tactic Idealize.SL.Sem

open GradBase (gradW)

section

open Cert.Kernel17Ideal Cert.Kernel17Ideal.Gen

theorem idx : ∀ t : Fin cfg0.N, win0_0.index t = ![t.val % 16, 0] ∧ win0_1.index t = ![t.val % 16, 0] ∧ win0_2.index t = ![0, 0] := by
  decide +kernel

theorem pay1 (y : S1024x1024.Idx) : k0_pay1 (F := Ideal) y = 0 := by
  unfold k0_pay1
  pointwise

theorem pay2 (v3 : Vec Ideal S1024x1024 .f32) (v4 : Vec Ideal S1024x1024 .bf16) (v5 : Vec Ideal S1024x1024 .f32) (y : S1024x1024.Idx) :
    k0_pay2 v3 v4 v5 y = v3 y + gradW v4 v5 y := by
  unfold k0_pay2 gradW
  idx_vars y
  pointwise

variable (m : (ℓ : Loc nD τ sig) → Buf (Elt Ideal) ℓ) (c : Dev nD)

theorem held (v : Vec Ideal S1024x1024 .f32) :
    View.read (Elt Ideal) (View.whole cc0_scratch0) ((Memref.isWhole_whole cc0_scratch0).unread v) = v :=
  (Memref.isWhole_whole cc0_scratch0).read_unread v

theorem scratch (t : Fin cfg0.N) (h : t.val % 16 = 16 - 1) (y : S1024x1024.Idx) :
    (outsAt0 m c t.val t.isLt).2 y
      = 0 + ∑ s : Fin 16, gradW (iblk m c 0 ⟨16 * (t.val / 16) + s.val, Pipeline.run_point_lt_of_flush t h s⟩)
          (iblk m c 1 ⟨16 * (t.val / 16) + s.val, Pipeline.run_point_lt_of_flush t h s⟩) y :=
  Pipeline.eq_sum_fin_of_reset_step_apply_of_flush (fun n h => (outsAt0 m c n h).2) 16 (fun _ => 0)
    (fun t => gradW (iblk m c 0 t) (iblk m c 1 t))
    (fun t h i => by
      have h1 : ¬t.val % 16 = 15 := by omega
      rw [outsAt0_A m c t h h1]
      frame_out
      rw [pay2, pay1])
    (fun t h i => by
      by_cases h1 : t.val % 16 = 15
      · rw [outsAt0_C m c t h h1]
        frame_out
        rw [pay2, held]
      · rw [outsAt0_B m c t h h1]
        frame_out
        rw [pay2, held])
    t h y

theorem final2 : (dats m 0 c).arrAt 2 cfg0.N = gradW (V m c main_arg0) (V m c main_arg1) := by
  refine (dats m 0 c).arrAt_eq_of_covers 2 _ (by decide +kernel) fun t hf y => ?_
  have ht := (flush0_2 t).mp hf
  rw [after0_2]
  revert y
  show ∀ y : S1024x1024.Idx, _
  intro y
  blk_simp
  have e : (outsAt0 m c t.val t.isLt).1 y = (outsAt0 m c t.val t.isLt).2 y := by
    rw [outsAt0_C m c t (by omega) ht]
    frame_out
    unfold k0_pay3
    pointwise
  rw [e, scratch m c t ht, zero_add]
  unfold gradW
  refine Fin.sum_mul_add_congr fun s k hl => ?_
  idx_vars y
  congr 1 <;> blk_ext [iblk, idx t, idx ⟨16 * (t.val / 16) + s.val, Pipeline.run_point_lt_of_flush t ht s⟩]

end

theorem frame_kernelIdeal : Cert.quiescent_Kernel17Ideal := fun m ρ _ => Cert.Kernel17Ideal.Gen.frame m ρ

theorem frame_kernel : Cert.quiescent_Kernel17 := by
  intro m ρ _
  refine Eq.mp ?_ (Cert.Kernel17Ideal.Gen.frame (F := Bits) m ρ)
  chain_rfl

theorem frame_referenceIdeal : Cert.quiescent_Reference17Ideal := fun m ρ _ =>
  (θ_run Cert.Reference17Ideal.defs _ _).mono (fun r h => ⟨fun c => (h c).2, sem_eq_zero_of_no_sems rfl _⟩) (Cert.Reference17Ideal.Value.run (F := Ideal) m ρ)

open Cert.Kernel17Ideal in
theorem algebraic : Cert.algebraic_Kernel17Ideal_Reference17Ideal := by
  intro m g m' g' hm he
  refine ⟨fun c => gradW (Gen.V m c main_arg0) (Gen.V m c main_arg1), ?_, ?_⟩
  · exact (θ_run Cert.Kernel17Ideal.defs _ _).mono (fun r h c => ⟨(h c).1.trans (final2 m c), (h c).2⟩) (Value.run_blocks (F := Ideal) m g)
  · refine (θ_run Cert.Reference17Ideal.defs _ _).mono (fun r h c => ⟨(h c).1.trans ?_, (h c).2⟩) (Cert.Reference17Ideal.Value.run (F := Ideal) m' g')
    obtain ⟨e0, e1⟩ := he c
    rw [e0, e1]
    funext y
    revert y
    show ∀ y : S1024x1024.Idx, _
    intro y
    idx_vars y
    pointwise
    exact Finset.sum_congr rfl fun l _ => mul_comm _ _

end Cert.Proof.GradOut

end
-- ==== Proof.OutProj.lean ====
module

public import proofs.«01_k».proof.Defs
public import proofs.«01_k».proof.Proof.Gen.Kernel18
public import proofs.«01_k».proof.Proof.Gen.Kernel18Ideal.Frame
public import proofs.«01_k».proof.Proof.Gen.Reference18Ideal.Run
public import proofs.«01_k».proof.Proof.Gen.Kernel19
public import proofs.«01_k».proof.Proof.Gen.Kernel19Ideal.Frame
public import proofs.«01_k».proof.Proof.Gen.Reference19Ideal.Run
public import proofs.«01_k».proof.Proof.Gen.Kernel20
public import proofs.«01_k».proof.Proof.Gen.Kernel20Ideal.Frame
public import proofs.«01_k».proof.Proof.Gen.Reference20Ideal.Run
public import proofs.«01_k».proof.Proof.Gen.Kernel21
public import proofs.«01_k».proof.Proof.Gen.Kernel21Ideal.Frame
public import proofs.«01_k».proof.Proof.Gen.Reference21Ideal.Run
public import Idealize.ShloMosaic.Lib.Pipeline.ValueKit.Point
public import Idealize.ShloMosaic.Lib.Pipeline.ValueKit.Acc
public import Idealize.ShloMosaic.Lib.Claim
public import Idealize.ShloMosaic.PureOps.Ideal.Laws

@[expose] public section

set_option maxRecDepth 16384

noncomputable section

/-! The merge's output with its residual, the delta rule's output, and the gradients of the inputs of both. -/

namespace Cert.Proof.OutProj

open Idealize.ShloMosaic Idealize.ShloMosaic.TcCoe Idealize.ShloMosaic.Tactic Idealize.SL.Sem

section

open Cert.Kernel18Ideal Cert.Kernel18Ideal.Gen

/-- A row of the merged branches against a column of the output weights, and the residual. -/
def proj (x : S16384x1024.Idx → EReal) (w : S1024x1024.Idx → EReal) (h : S16384x1024.Idx → EReal) (y : S16384x1024.Idx) : EReal :=
  (∑ k : Fin 1024, x (ix2 (y 0) k) * w (ix2 k (y 1))) + h y

theorem idx : ∀ t : Fin cfg0.N, win0_0.index t = ![t.val, 0] ∧ win0_1.index t = ![0, 0] ∧ win0_2.index t = ![t.val, 0] ∧ win0_3.index t = ![t.val, 0] := by
  decide +kernel

theorem pay (v4 : Vec Ideal S1024x1024 .bf16) (v5 : Vec Ideal S1024x1024 .bf16) (a : Fin 1024) (b : Fin 1024) :
    k0_pay2 k0_pay1 v4 v5 (ix2 a b) = ∑ k : Fin 1024, v4 (ix2 a k) * v5 (ix2 k b) := by
  unfold k0_pay2 k0_pay1
  pointwise

variable (m : (ℓ : Loc nD τ sig) → Buf (Elt Ideal) ℓ) (c : Dev nD)

theorem final : (dats m 0 c).arrAt 3 cfg0.N = proj (V m c main_arg0) (V m c main_arg1) (V m c main_arg2) := by
  refine (dats m 0 c).arrAt_eq_of_covers 3 _ (by decide +kernel) fun t hf y => ?_
  rw [after0_3]
  unfold outsAt0
  frame_out
  revert y
  show ∀ y : S1024x1024.Idx, _
  intro y
  idx_vars y
  blk_simp
  unfold k0_pay3
  pointwise
  rw [pay]
  unfold proj
  refine congr (congrArg _ (Finset.sum_congr rfl fun k _ => congr (congrArg _ ?_) ?_)) ?_
  all_goals blk_ext [iblk, idx t]

end

theorem frame_kernelIdeal : Cert.quiescent_Kernel18Ideal := fun m ρ _ => Cert.Kernel18Ideal.Gen.frame m ρ

theorem frame_kernel : Cert.quiescent_Kernel18 := by
  intro m ρ _
  refine Eq.mp ?_ (Cert.Kernel18Ideal.Gen.frame (F := Bits) m ρ)
  chain_rfl

theorem frame_referenceIdeal : Cert.quiescent_Reference18Ideal := fun m ρ _ =>
  (θ_run Cert.Reference18Ideal.defs _ _).mono (fun r h => ⟨fun c => (h c).2, sem_eq_zero_of_no_sems rfl _⟩) (Cert.Reference18Ideal.Value.run (F := Ideal) m ρ)

open Cert.Kernel18Ideal in
theorem algebraic : Cert.algebraic_Kernel18Ideal_Reference18Ideal := by
  intro m g m' g' hm he
  refine ⟨fun c => proj (Gen.V m c main_arg0) (Gen.V m c main_arg1) (Gen.V m c main_arg2), ?_, ?_⟩
  · exact (θ_run Cert.Kernel18Ideal.defs _ _).mono (fun r h c => ⟨((h.1 c).1 3).trans (final m c), h.2 c⟩)
      (θ_run_and (Gen.run_main m g) (Gen.unchanged (F := Ideal) m g))
  · refine (θ_run Cert.Reference18Ideal.defs _ _).mono (fun r h c => ⟨(h c).1.trans ?_, (h c).2⟩) (Cert.Reference18Ideal.Value.run (F := Ideal) m' g')
    obtain ⟨e0, e1, e2⟩ := he c
    rw [e0, e1, e2]
    show _ = proj _ _ _
    funext y
    revert y
    show ∀ y : S16384x1024.Idx, _
    intro y
    idx_vars y
    pointwise
    exact add_comm _ _

end Cert.Proof.OutProj

namespace Cert.Proof.DeltaProj

open Idealize.ShloMosaic Idealize.ShloMosaic.TcCoe Idealize.ShloMosaic.Tactic Idealize.SL.Sem

section

open Cert.Kernel19Ideal Cert.Kernel19Ideal.Gen

/-- A row of the gated outputs against a column of the delta rule's output weights. -/
def proj (x : S16384x1024.Idx → EReal) (w : S1024x1024.Idx → EReal) (y : S16384x1024.Idx) : EReal :=
  ∑ k : Fin 1024, x (ix2 (y 0) k) * w (ix2 k (y 1))

theorem idx : ∀ t : Fin cfg0.N, win0_0.index t = ![t.val, 0] ∧ win0_1.index t = ![0, 0] ∧ win0_2.index t = ![t.val, 0] := by
  decide +kernel

theorem pay (v4 : Vec Ideal S1024x1024 .bf16) (v5 : Vec Ideal S1024x1024 .bf16) (a : Fin 1024) (b : Fin 1024) :
    k0_pay2 k0_pay1 v4 v5 (ix2 a b) = ∑ k : Fin 1024, v4 (ix2 a k) * v5 (ix2 k b) := by
  unfold k0_pay2 k0_pay1
  pointwise

variable (m : (ℓ : Loc nD τ sig) → Buf (Elt Ideal) ℓ) (c : Dev nD)

theorem final : (dats m 0 c).arrAt 2 cfg0.N = proj (V m c main_arg0) (V m c main_arg1) := by
  refine (dats m 0 c).arrAt_eq_of_covers 2 _ (by decide +kernel) fun t hf y => ?_
  rw [after0_2]
  unfold outsAt0
  frame_out
  revert y
  show ∀ y : S1024x1024.Idx, _
  intro y
  idx_vars y
  blk_simp
  unfold k0_pay3
  pointwise
  rw [pay]
  unfold proj
  show (_ : EReal) = _
  refine Finset.sum_congr rfl fun k _ => congr (congrArg _ ?_) ?_
  all_goals blk_ext [iblk, idx t]

end

theorem frame_kernelIdeal : Cert.quiescent_Kernel19Ideal := fun m ρ _ => Cert.Kernel19Ideal.Gen.frame m ρ

theorem frame_kernel : Cert.quiescent_Kernel19 := by
  intro m ρ _
  refine Eq.mp ?_ (Cert.Kernel19Ideal.Gen.frame (F := Bits) m ρ)
  chain_rfl

theorem frame_referenceIdeal : Cert.quiescent_Reference19Ideal := fun m ρ _ =>
  (θ_run Cert.Reference19Ideal.defs _ _).mono (fun r h => ⟨fun c => (h c).2, sem_eq_zero_of_no_sems rfl _⟩) (Cert.Reference19Ideal.Value.run (F := Ideal) m ρ)

open Cert.Kernel19Ideal in
theorem algebraic : Cert.algebraic_Kernel19Ideal_Reference19Ideal := by
  intro m g m' g' hm he
  refine ⟨fun c => proj (Gen.V m c main_arg0) (Gen.V m c main_arg1), ?_, ?_⟩
  · exact (θ_run Cert.Kernel19Ideal.defs _ _).mono (fun r h c => ⟨((h.1 c).1 2).trans (final m c), h.2 c⟩)
      (θ_run_and (Gen.run_main m g) (Gen.unchanged (F := Ideal) m g))
  · refine (θ_run Cert.Reference19Ideal.defs _ _).mono (fun r h c => ⟨(h c).1.trans ?_, (h c).2⟩) (Cert.Reference19Ideal.Value.run (F := Ideal) m' g')
    obtain ⟨e0, e1⟩ := he c
    rw [e0, e1]
    show _ = proj _ _
    funext y
    revert y
    show ∀ y : S16384x1024.Idx, _
    intro y
    idx_vars y
    pointwise
    rfl

end Cert.Proof.DeltaProj

namespace Cert.Proof.DMerged

open Idealize.ShloMosaic Idealize.ShloMosaic.TcCoe Idealize.ShloMosaic.Tactic Idealize.SL.Sem

section

open Cert.Kernel20Ideal Cert.Kernel20Ideal.Gen

/-- A row of the gradients against a row of the output weights. -/
def dIn (x : S16384x1024.Idx → EReal) (w : S1024x1024.Idx → EReal) (y : S16384x1024.Idx) : EReal :=
  ∑ k : Fin 1024, x (ix2 (y 0) k) * w (ix2 (y 1) k)

theorem idx : ∀ t : Fin cfg0.N, win0_0.index t = ![t.val, 0] ∧ win0_1.index t = ![0, 0] ∧ win0_2.index t = ![t.val, 0] := by
  decide +kernel

theorem pay (v4 : Vec Ideal S1024x1024 .f32) (v5 : Vec Ideal S1024x1024 .bf16) (a : Fin 1024) (b : Fin 1024) :
    k0_pay2 k0_pay1 v4 v5 (ix2 a b) = ∑ k : Fin 1024, v4 (ix2 a k) * v5 (ix2 b k) := by
  unfold k0_pay2 k0_pay1
  pointwise

variable (m : (ℓ : Loc nD τ sig) → Buf (Elt Ideal) ℓ) (c : Dev nD)

theorem final : (dats m 0 c).arrAt 2 cfg0.N = dIn (V m c main_arg0) (V m c main_arg1) := by
  refine (dats m 0 c).arrAt_eq_of_covers 2 _ (by decide +kernel) fun t hf y => ?_
  rw [after0_2]
  unfold outsAt0
  frame_out
  revert y
  show ∀ y : S1024x1024.Idx, _
  intro y
  idx_vars y
  blk_simp
  unfold k0_pay3
  pointwise
  rw [pay]
  unfold dIn
  show (_ : EReal) = _
  refine Finset.sum_congr rfl fun k _ => congr (congrArg _ ?_) ?_
  all_goals blk_ext [iblk, idx t]

end

theorem frame_kernelIdeal : Cert.quiescent_Kernel20Ideal := fun m ρ _ => Cert.Kernel20Ideal.Gen.frame m ρ

theorem frame_kernel : Cert.quiescent_Kernel20 := by
  intro m ρ _
  refine Eq.mp ?_ (Cert.Kernel20Ideal.Gen.frame (F := Bits) m ρ)
  chain_rfl

theorem frame_referenceIdeal : Cert.quiescent_Reference20Ideal := fun m ρ _ =>
  (θ_run Cert.Reference20Ideal.defs _ _).mono (fun r h => ⟨fun c => (h c).2, sem_eq_zero_of_no_sems rfl _⟩) (Cert.Reference20Ideal.Value.run (F := Ideal) m ρ)

open Cert.Kernel20Ideal in
theorem algebraic : Cert.algebraic_Kernel20Ideal_Reference20Ideal := by
  intro m g m' g' hm he
  refine ⟨fun c => dIn (Gen.V m c main_arg0) (Gen.V m c main_arg1), ?_, ?_⟩
  · exact (θ_run Cert.Kernel20Ideal.defs _ _).mono (fun r h c => ⟨((h.1 c).1 2).trans (final m c), h.2 c⟩)
      (θ_run_and (Gen.run_main m g) (Gen.unchanged (F := Ideal) m g))
  · refine (θ_run Cert.Reference20Ideal.defs _ _).mono (fun r h c => ⟨(h c).1.trans ?_, (h c).2⟩) (Cert.Reference20Ideal.Value.run (F := Ideal) m' g')
    obtain ⟨e0, e1⟩ := he c
    rw [e0, e1]
    show _ = dIn _ _
    funext y
    revert y
    show ∀ y : S16384x1024.Idx, _
    intro y
    idx_vars y
    pointwise
    rfl

end Cert.Proof.DMerged

namespace Cert.Proof.DGated

open Idealize.ShloMosaic Idealize.ShloMosaic.TcCoe Idealize.ShloMosaic.Tactic Idealize.SL.Sem

section

open Cert.Kernel21Ideal Cert.Kernel21Ideal.Gen

/-- A row of the gradients against a row of the delta rule's output weights. -/
def dIn (x : S16384x1024.Idx → EReal) (w : S1024x1024.Idx → EReal) (y : S16384x1024.Idx) : EReal :=
  ∑ k : Fin 1024, x (ix2 (y 0) k) * w (ix2 (y 1) k)

theorem idx : ∀ t : Fin cfg0.N, win0_0.index t = ![t.val, 0] ∧ win0_1.index t = ![0, 0] ∧ win0_2.index t = ![t.val, 0] := by
  decide +kernel

theorem pay (v4 : Vec Ideal S1024x1024 .bf16) (v5 : Vec Ideal S1024x1024 .bf16) (a : Fin 1024) (b : Fin 1024) :
    k0_pay2 k0_pay1 v4 v5 (ix2 a b) = ∑ k : Fin 1024, v4 (ix2 a k) * v5 (ix2 b k) := by
  unfold k0_pay2 k0_pay1
  pointwise

variable (m : (ℓ : Loc nD τ sig) → Buf (Elt Ideal) ℓ) (c : Dev nD)

theorem final : (dats m 0 c).arrAt 2 cfg0.N = dIn (V m c main_arg0) (V m c main_arg1) := by
  refine (dats m 0 c).arrAt_eq_of_covers 2 _ (by decide +kernel) fun t hf y => ?_
  rw [after0_2]
  unfold outsAt0
  frame_out
  revert y
  show ∀ y : S1024x1024.Idx, _
  intro y
  idx_vars y
  blk_simp
  unfold k0_pay3
  pointwise
  rw [pay]
  unfold dIn
  show (_ : EReal) = _
  refine Finset.sum_congr rfl fun k _ => congr (congrArg _ ?_) ?_
  all_goals blk_ext [iblk, idx t]

end

theorem frame_kernelIdeal : Cert.quiescent_Kernel21Ideal := fun m ρ _ => Cert.Kernel21Ideal.Gen.frame m ρ

theorem frame_kernel : Cert.quiescent_Kernel21 := by
  intro m ρ _
  refine Eq.mp ?_ (Cert.Kernel21Ideal.Gen.frame (F := Bits) m ρ)
  chain_rfl

theorem frame_referenceIdeal : Cert.quiescent_Reference21Ideal := fun m ρ _ =>
  (θ_run Cert.Reference21Ideal.defs _ _).mono (fun r h => ⟨fun c => (h c).2, sem_eq_zero_of_no_sems rfl _⟩) (Cert.Reference21Ideal.Value.run (F := Ideal) m ρ)

open Cert.Kernel21Ideal in
theorem algebraic : Cert.algebraic_Kernel21Ideal_Reference21Ideal := by
  intro m g m' g' hm he
  refine ⟨fun c => dIn (Gen.V m c main_arg0) (Gen.V m c main_arg1), ?_, ?_⟩
  · exact (θ_run Cert.Kernel21Ideal.defs _ _).mono (fun r h c => ⟨((h.1 c).1 2).trans (final m c), h.2 c⟩)
      (θ_run_and (Gen.run_main m g) (Gen.unchanged (F := Ideal) m g))
  · refine (θ_run Cert.Reference21Ideal.defs _ _).mono (fun r h c => ⟨(h c).1.trans ?_, (h c).2⟩) (Cert.Reference21Ideal.Value.run (F := Ideal) m' g')
    obtain ⟨e0, e1⟩ := he c
    rw [e0, e1]
    show _ = dIn _ _
    funext y
    revert y
    show ∀ y : S16384x1024.Idx, _
    intro y
    idx_vars y
    pointwise
    rfl

end Cert.Proof.DGated

end
-- ==== Proof.AttnProj.lean ====
module

public import proofs.«01_k».proof.Defs
public import proofs.«01_k».proof.Proof.Gen.Kernel22
public import proofs.«01_k».proof.Proof.Gen.Kernel22Ideal.Value
public import proofs.«01_k».proof.Proof.Gen.Reference22Ideal.Run
public import proofs.«01_k».proof.Proof.Gen.Kernel23
public import proofs.«01_k».proof.Proof.Gen.Kernel23Ideal.Frame
public import proofs.«01_k».proof.Proof.Gen.Reference23Ideal.Run
public import proofs.«01_k».proof.Proof.Gen.Kernel24
public import proofs.«01_k».proof.Proof.Gen.Kernel24Ideal.Frame
public import proofs.«01_k».proof.Proof.Gen.Reference24Ideal.Run
public import proofs.«01_k».proof.Proof.GradBase
public import Idealize.ShloMosaic.Lib.Pipeline.ValueKit.Point
public import Idealize.ShloMosaic.Lib.Pipeline.ValueKit.Acc
public import Idealize.ShloMosaic.Lib.Claim
public import Idealize.ShloMosaic.PureOps.Ideal.Laws

@[expose] public section

set_option maxRecDepth 16384

noncomputable section

/-! The attention branch's output projection, and the gradients of its input and of its weights. -/

namespace Cert.Proof.GradAttW

open Idealize.ShloMosaic Idealize.ShloMosaic.TcCoe Idealize.ShloMosaic.Tactic Idealize.SL.Sem

open GradBase (gradW)

section

open Cert.Kernel22Ideal Cert.Kernel22Ideal.Gen

theorem idx : ∀ t : Fin cfg0.N, win0_0.index t = ![t.val % 16, 0] ∧ win0_1.index t = ![t.val % 16, 0] ∧ win0_2.index t = ![0, 0] := by
  decide +kernel

theorem pay1 (y : S512x1024.Idx) : k0_pay1 (F := Ideal) y = 0 := by
  unfold k0_pay1
  pointwise

theorem pay2 (v3 : Vec Ideal S512x1024 .f32) (v4 : Vec Ideal S1024x512 .f32) (v5 : Vec Ideal S1024x1024 .bf16) (y : S512x1024.Idx) :
    k0_pay2 v3 v4 v5 y = v3 y + gradW v4 v5 y := by
  unfold k0_pay2 gradW
  idx_vars y
  pointwise

variable (m : (ℓ : Loc nD τ sig) → Buf (Elt Ideal) ℓ) (c : Dev nD)

theorem held (v : Vec Ideal S512x1024 .f32) :
    View.read (Elt Ideal) (View.whole cc0_scratch0) ((Memref.isWhole_whole cc0_scratch0).unread v) = v :=
  (Memref.isWhole_whole cc0_scratch0).read_unread v

theorem scratch (t : Fin cfg0.N) (h : t.val % 16 = 16 - 1) (y : S512x1024.Idx) :
    (outsAt0 m c t.val t.isLt).2 y
      = 0 + ∑ s : Fin 16, gradW (iblk m c 0 ⟨16 * (t.val / 16) + s.val, Pipeline.run_point_lt_of_flush t h s⟩)
          (iblk m c 1 ⟨16 * (t.val / 16) + s.val, Pipeline.run_point_lt_of_flush t h s⟩) y :=
  Pipeline.eq_sum_fin_of_reset_step_apply_of_flush (fun n h => (outsAt0 m c n h).2) 16 (fun _ => 0)
    (fun t => gradW (iblk m c 0 t) (iblk m c 1 t))
    (fun t h i => by
      have h1 : ¬t.val % 16 = 15 := by omega
      rw [outsAt0_A m c t h h1]
      frame_out
      rw [pay2, pay1])
    (fun t h i => by
      by_cases h1 : t.val % 16 = 15
      · rw [outsAt0_C m c t h h1]
        frame_out
        rw [pay2, held]
      · rw [outsAt0_B m c t h h1]
        frame_out
        rw [pay2, held])
    t h y

theorem final2 : (dats m 0 c).arrAt 2 cfg0.N = gradW (V m c main_arg0) (V m c main_arg1) := by
  refine (dats m 0 c).arrAt_eq_of_covers 2 _ (by decide +kernel) fun t hf y => ?_
  have ht := (flush0_2 t).mp hf
  rw [after0_2]
  revert y
  show ∀ y : S512x1024.Idx, _
  intro y
  blk_simp
  have e : (outsAt0 m c t.val t.isLt).1 y = (outsAt0 m c t.val t.isLt).2 y := by
    rw [outsAt0_C m c t (by omega) ht]
    frame_out
    unfold k0_pay3
    pointwise
  rw [e, scratch m c t ht, zero_add]
  unfold gradW
  refine Fin.sum_mul_add_congr fun s k hl => ?_
  idx_vars y
  congr 1 <;> blk_ext [iblk, idx t, idx ⟨16 * (t.val / 16) + s.val, Pipeline.run_point_lt_of_flush t ht s⟩]

end

theorem frame_kernelIdeal : Cert.quiescent_Kernel22Ideal := fun m ρ _ => Cert.Kernel22Ideal.Gen.frame m ρ

theorem frame_kernel : Cert.quiescent_Kernel22 := by
  intro m ρ _
  refine Eq.mp ?_ (Cert.Kernel22Ideal.Gen.frame (F := Bits) m ρ)
  chain_rfl

theorem frame_referenceIdeal : Cert.quiescent_Reference22Ideal := fun m ρ _ =>
  (θ_run Cert.Reference22Ideal.defs _ _).mono (fun r h => ⟨fun c => (h c).2, sem_eq_zero_of_no_sems rfl _⟩) (Cert.Reference22Ideal.Value.run (F := Ideal) m ρ)

open Cert.Kernel22Ideal in
theorem algebraic : Cert.algebraic_Kernel22Ideal_Reference22Ideal := by
  intro m g m' g' hm he
  refine ⟨fun c => gradW (Gen.V m c main_arg0) (Gen.V m c main_arg1), ?_, ?_⟩
  · exact (θ_run Cert.Kernel22Ideal.defs _ _).mono (fun r h c => ⟨(h c).1.trans (final2 m c), (h c).2⟩) (Value.run_blocks (F := Ideal) m g)
  · refine (θ_run Cert.Reference22Ideal.defs _ _).mono (fun r h c => ⟨(h c).1.trans ?_, (h c).2⟩) (Cert.Reference22Ideal.Value.run (F := Ideal) m' g')
    obtain ⟨e0, e1⟩ := he c
    rw [e0, e1]
    funext y
    revert y
    show ∀ y : S512x1024.Idx, _
    intro y
    idx_vars y
    pointwise
    exact Finset.sum_congr rfl fun l _ => mul_comm _ _

end Cert.Proof.GradAttW

namespace Cert.Proof.DAtt

open Idealize.ShloMosaic Idealize.ShloMosaic.TcCoe Idealize.ShloMosaic.Tactic Idealize.SL.Sem

section

open Cert.Kernel23Ideal Cert.Kernel23Ideal.Gen

/-- A row of the gradients against a row of the attention branch's output weights. -/
def dIn (x : S16384x1024.Idx → EReal) (w : S512x1024.Idx → EReal) (y : S16384x512.Idx) : EReal :=
  ∑ k : Fin 1024, x (ix2 (y 0) k) * w (ix2 (y 1) k)

theorem idx : ∀ t : Fin cfg0.N, win0_0.index t = ![t.val, 0] ∧ win0_1.index t = ![0, 0] ∧ win0_2.index t = ![t.val, 0] := by
  decide +kernel

theorem pay (v4 : Vec Ideal S1024x1024 .bf16) (v5 : Vec Ideal S512x1024 .bf16) (a : Fin 1024) (b : Fin 512) :
    k0_pay2 k0_pay1 v4 v5 (ix2 a b) = ∑ k : Fin 1024, v4 (ix2 a k) * v5 (ix2 b k) := by
  unfold k0_pay2 k0_pay1
  pointwise

variable (m : (ℓ : Loc nD τ sig) → Buf (Elt Ideal) ℓ) (c : Dev nD)

theorem final : (dats m 0 c).arrAt 2 cfg0.N = dIn (V m c main_arg0) (V m c main_arg1) := by
  refine (dats m 0 c).arrAt_eq_of_covers 2 _ (by decide +kernel) fun t hf y => ?_
  rw [after0_2]
  unfold outsAt0
  frame_out
  revert y
  show ∀ y : S1024x512.Idx, _
  intro y
  idx_vars y
  blk_simp
  rw [pay]
  unfold dIn
  show (_ : EReal) = _
  refine Finset.sum_congr rfl fun k _ => congr (congrArg _ ?_) ?_
  all_goals blk_ext [iblk, idx t]

end

theorem frame_kernelIdeal : Cert.quiescent_Kernel23Ideal := fun m ρ _ => Cert.Kernel23Ideal.Gen.frame m ρ

theorem frame_kernel : Cert.quiescent_Kernel23 := by
  intro m ρ _
  refine Eq.mp ?_ (Cert.Kernel23Ideal.Gen.frame (F := Bits) m ρ)
  chain_rfl

theorem frame_referenceIdeal : Cert.quiescent_Reference23Ideal := fun m ρ _ =>
  (θ_run Cert.Reference23Ideal.defs _ _).mono (fun r h => ⟨fun c => (h c).2, sem_eq_zero_of_no_sems rfl _⟩) (Cert.Reference23Ideal.Value.run (F := Ideal) m ρ)

open Cert.Kernel23Ideal in
theorem algebraic : Cert.algebraic_Kernel23Ideal_Reference23Ideal := by
  intro m g m' g' hm he
  refine ⟨fun c => dIn (Gen.V m c main_arg0) (Gen.V m c main_arg1), ?_, ?_⟩
  · exact (θ_run Cert.Kernel23Ideal.defs _ _).mono (fun r h c => ⟨((h.1 c).1 2).trans (final m c), h.2 c⟩)
      (θ_run_and (Gen.run_main m g) (Gen.unchanged (F := Ideal) m g))
  · refine (θ_run Cert.Reference23Ideal.defs _ _).mono (fun r h c => ⟨(h c).1.trans ?_, (h c).2⟩) (Cert.Reference23Ideal.Value.run (F := Ideal) m' g')
    obtain ⟨e0, e1⟩ := he c
    rw [e0, e1]
    show _ = dIn _ _
    funext y
    revert y
    show ∀ y : S16384x512.Idx, _
    intro y
    idx_vars y
    pointwise
    rfl

end Cert.Proof.DAtt

namespace Cert.Proof.AttProj

open Idealize.ShloMosaic Idealize.ShloMosaic.TcCoe Idealize.ShloMosaic.Tactic Idealize.SL.Sem

section

open Cert.Kernel24Ideal Cert.Kernel24Ideal.Gen

/-- A row of the attention's outputs against a column of the attention branch's output weights. -/
def proj (x : S16384x512.Idx → EReal) (w : S512x1024.Idx → EReal) (y : S16384x1024.Idx) : EReal :=
  ∑ k : Fin 512, x (ix2 (y 0) k) * w (ix2 k (y 1))

theorem idx : ∀ t : Fin cfg0.N, win0_0.index t = ![t.val, 0] ∧ win0_1.index t = ![0, 0] ∧ win0_2.index t = ![t.val, 0] := by
  decide +kernel

theorem pay (v4 : Vec Ideal S1024x512 .f32) (v5 : Vec Ideal S512x1024 .bf16) (a : Fin 1024) (b : Fin 1024) :
    k0_pay2 k0_pay1 v4 v5 (ix2 a b) = ∑ k : Fin 512, v4 (ix2 a k) * v5 (ix2 k b) := by
  unfold k0_pay2 k0_pay1
  pointwise

variable (m : (ℓ : Loc nD τ sig) → Buf (Elt Ideal) ℓ) (c : Dev nD)

theorem final : (dats m 0 c).arrAt 2 cfg0.N = proj (V m c main_arg0) (V m c main_arg1) := by
  refine (dats m 0 c).arrAt_eq_of_covers 2 _ (by decide +kernel) fun t hf y => ?_
  rw [after0_2]
  unfold outsAt0
  frame_out
  revert y
  show ∀ y : S1024x1024.Idx, _
  intro y
  idx_vars y
  blk_simp
  unfold k0_pay3
  pointwise
  rw [pay]
  unfold proj
  show (_ : EReal) = _
  refine Finset.sum_congr rfl fun k _ => congr (congrArg _ ?_) ?_
  all_goals blk_ext [iblk, idx t]

end

theorem frame_kernelIdeal : Cert.quiescent_Kernel24Ideal := fun m ρ _ => Cert.Kernel24Ideal.Gen.frame m ρ

theorem frame_kernel : Cert.quiescent_Kernel24 := by
  intro m ρ _
  refine Eq.mp ?_ (Cert.Kernel24Ideal.Gen.frame (F := Bits) m ρ)
  chain_rfl

theorem frame_referenceIdeal : Cert.quiescent_Reference24Ideal := fun m ρ _ =>
  (θ_run Cert.Reference24Ideal.defs _ _).mono (fun r h => ⟨fun c => (h c).2, sem_eq_zero_of_no_sems rfl _⟩) (Cert.Reference24Ideal.Value.run (F := Ideal) m ρ)

open Cert.Kernel24Ideal in
theorem algebraic : Cert.algebraic_Kernel24Ideal_Reference24Ideal := by
  intro m g m' g' hm he
  refine ⟨fun c => proj (Gen.V m c main_arg0) (Gen.V m c main_arg1), ?_, ?_⟩
  · exact (θ_run Cert.Kernel24Ideal.defs _ _).mono (fun r h c => ⟨((h.1 c).1 2).trans (final m c), h.2 c⟩)
      (θ_run_and (Gen.run_main m g) (Gen.unchanged (F := Ideal) m g))
  · refine (θ_run Cert.Reference24Ideal.defs _ _).mono (fun r h c => ⟨(h c).1.trans ?_, (h c).2⟩) (Cert.Reference24Ideal.Value.run (F := Ideal) m' g')
    obtain ⟨e0, e1⟩ := he c
    rw [e0, e1]
    show _ = proj _ _
    funext y
    revert y
    show ∀ y : S16384x1024.Idx, _
    intro y
    idx_vars y
    pointwise
    rfl

end Cert.Proof.AttProj

end
-- ==== Proof.FwdNorm.lean ====
module

public import proofs.«01_k».proof.Defs
public import proofs.«01_k».proof.Proof.Gen.Kernel25
public import proofs.«01_k».proof.Proof.Gen.Kernel25Ideal.Frame
public import proofs.«01_k».proof.Proof.Gen.Reference25Ideal.Run
public import proofs.«01_k».proof.Proof.Gen.Kernel26
public import proofs.«01_k».proof.Proof.Gen.Kernel26Ideal.Frame
public import proofs.«01_k».proof.Proof.Gen.Reference26Ideal.Run
public import proofs.«01_k».proof.Proof.Gen.Kernel27
public import proofs.«01_k».proof.Proof.Gen.Kernel27Ideal.Frame
public import proofs.«01_k».proof.Proof.Gen.Reference27Ideal.Run
public import proofs.«01_k».proof.Proof.HeadNorm
public import Idealize.ShloMosaic.Lib.Pipeline.ValueKit.Point
public import Idealize.ShloMosaic.Lib.Pipeline.ValueKit.Acc
public import Idealize.ShloMosaic.Lib.Pipeline.ValueKit.Tiles
public import Idealize.ShloMosaic.Lib.Claim
public import Idealize.ShloMosaic.PureOps.Ideal.Laws

@[expose] public section

set_option maxRecDepth 16384

noncomputable section

/-! The forward passes of the gated merge, of the RMS norm and of the gated norm of each head. -/

namespace Cert.Proof.MergeFwd

open Idealize.ShloMosaic Idealize.ShloMosaic.TcCoe Idealize.ShloMosaic.Tactic Idealize.SL.Sem

section

open Cert.Kernel25Ideal Cert.Kernel25Ideal.Gen

/-- The column of the projection that holds the gate of column `b`, for the gates that begin at `o`. -/
def col (o : ℕ) (ho : o + 1024 ≤ 6144) (b : Fin 1024) : Fin 6144 := ⟨o + b.val, by omega⟩

/-- Each branch times its gate, added. -/
def merge (pb : S16384x6144.Idx → EReal) (ya yb : S16384x1024.Idx → EReal) (y : S16384x1024.Idx) : EReal :=
  Ideal.logistic (pb (ix2 (y 0) (col 4096 (by decide) (y 1)))) * ya (ix2 (y 0) (y 1))
    + Ideal.logistic (pb (ix2 (y 0) (col 5120 (by decide) (y 1)))) * yb (ix2 (y 0) (y 1))

theorem idx : ∀ t : Fin cfg0.N, win0_0.index t = ![t.val, 4] ∧ win0_1.index t = ![t.val, 5] ∧ win0_2.index t = ![t.val, 0]
    ∧ win0_3.index t = ![t.val, 0] ∧ win0_4.index t = ![t.val, 0] := by
  decide +kernel

theorem pay (ga gb a b : Vec Ideal S1024x1024 .bf16) (y : S1024x1024.Idx) :
    k0_pay1 ga gb a b y = Ideal.logistic (ga y) * a y + Ideal.logistic (gb y) * b y := by
  rw [← sigmoid_tanh, ← sigmoid_tanh]
  unfold k0_pay1
  pointwise

variable (m : (ℓ : Loc nD τ sig) → Buf (Elt Ideal) ℓ) (c : Dev nD)

theorem final : (dats m 0 c).arrAt 4 cfg0.N = merge (V m c main_arg0) (V m c main_arg1) (V m c main_arg2) := by
  refine (dats m 0 c).arrAt_eq_of_covers 4 _ (by decide +kernel) fun t hf y => ?_
  rw [after0_4]
  frame_out
  revert y
  show ∀ y : S1024x1024.Idx, _
  intro y
  idx_vars y
  blk_simp
  rw [pay]
  unfold merge
  reads_congr <;> blk_ext [iblk, idx t, col]

end

theorem frame_kernelIdeal : Cert.quiescent_Kernel25Ideal := fun m ρ _ => Cert.Kernel25Ideal.Gen.frame m ρ

theorem frame_kernel : Cert.quiescent_Kernel25 := by
  intro m ρ _
  refine Eq.mp ?_ (Cert.Kernel25Ideal.Gen.frame (F := Bits) m ρ)
  chain_rfl

theorem frame_referenceIdeal : Cert.quiescent_Reference25Ideal := fun m ρ _ =>
  (θ_run Cert.Reference25Ideal.defs _ _).mono (fun r h => ⟨fun c => (h c).2, sem_eq_zero_of_no_sems rfl _⟩) (Cert.Reference25Ideal.Value.run (F := Ideal) m ρ)

open Cert.Kernel25Ideal in
theorem algebraic : Cert.algebraic_Kernel25Ideal_Reference25Ideal := by
  intro m g m' g' hm he
  refine ⟨fun c => merge (Gen.V m c main_arg0) (Gen.V m c main_arg1) (Gen.V m c main_arg2), ?_, ?_⟩
  · exact (θ_run Cert.Kernel25Ideal.defs _ _).mono (fun r h c => ⟨((h.1 c).1 4).trans (final m c), h.2 c⟩)
      (θ_run_and (Gen.run_main m g) (Gen.unchanged (F := Ideal) m g))
  · refine (θ_run Cert.Reference25Ideal.defs _ _).mono (fun r h c => ⟨(h c).1.trans ?_, (h c).2⟩) (Cert.Reference25Ideal.Value.run (F := Ideal) m' g')
    obtain ⟨e0, e1, e2⟩ := he c
    clear hm he h
    rw [e0, e1, e2]
    show _ = merge _ _ _
    funext y
    revert y
    show ∀ y : S16384x1024.Idx, _
    intro y
    idx_vars y
    pointwise
    have e : (⟨4096 + (1024 + y1.val), by omega⟩ : Fin 6144) = col 5120 (by decide) y1 := Fin.ext (by dsimp only [col] <;> omega)
    rw [e]
    rfl

end Cert.Proof.MergeFwd

namespace Cert.Proof.RmsFwd

open Idealize.ShloMosaic Idealize.ShloMosaic.TcCoe Idealize.ShloMosaic.Tactic Idealize.SL.Sem

section

open Cert.Kernel26Ideal Cert.Kernel26Ideal.Gen

/-- A row over the root of its mean square, times the weights. -/
def norm (x : S16384x1024.Idx → EReal) (w : S1x1024.Idx → EReal) (y : S16384x1024.Idx) : EReal :=
  x (ix2 (y 0) (y 1)) * inv (Ideal.ofBits .f32 0x44800000#32) (Ideal.ofBits .f32 0x358637BD#32) (fun k : Fin 1024 => x (ix2 (y 0) k)) * w (ix2 0 (y 1))

theorem idx : ∀ t : Fin cfg0.N, win0_0.index t = ![t.val, 0] ∧ win0_1.index t = ![0, 0] ∧ win0_2.index t = ![t.val, 0] := by
  decide +kernel

theorem pay (x : Vec Ideal S1024x1024 .f32) (w : Vec Ideal S1x1024 .f32) (a b : Fin 1024) :
    k0_pay1 x w (ix2 a b) = x (ix2 a b) * inv (Ideal.ofBits .f32 0x44800000#32) (Ideal.ofBits .f32 0x358637BD#32) (fun k : Fin 1024 => x (ix2 a k)) * w (ix2 0 b) := by
  unfold k0_pay1
  pointwise
  rfl

variable (m : (ℓ : Loc nD τ sig) → Buf (Elt Ideal) ℓ) (c : Dev nD)

theorem final : (dats m 0 c).arrAt 2 cfg0.N = norm (V m c main_arg0) (V m c main_arg1) := by
  refine (dats m 0 c).arrAt_eq_of_covers 2 _ (by decide +kernel) fun t hf y => ?_
  rw [after0_2]
  frame_out
  revert y
  show ∀ y : S1024x1024.Idx, _
  intro y
  idx_vars y
  blk_simp
  rw [pay]
  unfold norm inv
  beta_reduce
  reads_congr <;> blk_ext [iblk, idx t]

end

theorem frame_kernelIdeal : Cert.quiescent_Kernel26Ideal := fun m ρ _ => Cert.Kernel26Ideal.Gen.frame m ρ

theorem frame_kernel : Cert.quiescent_Kernel26 := by
  intro m ρ _
  refine Eq.mp ?_ (Cert.Kernel26Ideal.Gen.frame (F := Bits) m ρ)
  chain_rfl

theorem frame_referenceIdeal : Cert.quiescent_Reference26Ideal := fun m ρ _ =>
  (θ_run Cert.Reference26Ideal.defs _ _).mono (fun r h => ⟨fun c => (h c).2, sem_eq_zero_of_no_sems rfl _⟩) (Cert.Reference26Ideal.Value.run (F := Ideal) m ρ)

open Cert.Kernel26Ideal in
theorem algebraic : Cert.algebraic_Kernel26Ideal_Reference26Ideal := by
  intro m g m' g' hm he
  refine ⟨fun c => norm (Gen.V m c main_arg0) (Gen.V m c main_arg1), ?_, ?_⟩
  · exact (θ_run Cert.Kernel26Ideal.defs _ _).mono (fun r h c => ⟨((h.1 c).1 2).trans (final m c), h.2 c⟩)
      (θ_run_and (Gen.run_main m g) (Gen.unchanged (F := Ideal) m g))
  · refine (θ_run Cert.Reference26Ideal.defs _ _).mono (fun r h c => ⟨(h c).1.trans ?_, (h c).2⟩) (Cert.Reference26Ideal.Value.run (F := Ideal) m' g')
    obtain ⟨e0, e1⟩ := he c
    clear hm he h
    rw [e0, e1]
    show _ = norm _ _
    funext y
    revert y
    show ∀ y : S16384x1024.Idx, _
    intro y
    idx_vars y
    pointwise
    rfl

end Cert.Proof.RmsFwd

namespace Cert.Proof.HeadNormFwd

open Idealize.ShloMosaic Idealize.ShloMosaic.TcCoe Idealize.ShloMosaic.Tactic Idealize.SL.Sem

section

open Cert.Kernel27Ideal Cert.Kernel27Ideal.Gen Cert.Proof.HeadNorm

/-- Entry `j` of a head's row `o`, normed, times the weights and the silu of its gate. -/
def gated (o z w : Fin 128 → EReal) (j : Fin 128) : EReal := o j * hInv o * w j * (z j * Ideal.logistic (z j))

def norm (o : S16384x1024.Idx → EReal) (pb : S16384x6144.Idx → EReal) (wn : S1x128.Idx → EReal) (y : S16384x1024.Idx) : EReal :=
  gated (fun k => o (ix2 (y 0) (lane (y 1) k))) (fun k => pb (ix2 (y 0) (zLane (lane (y 1) k)))) (fun k => wn (ix2 0 k)) (inHead (y 1))

theorem idx : ∀ t : Fin cfg0.N, win0_0.index t = ![t.val, 0] ∧ win0_1.index t = ![t.val, 3] ∧ win0_2.index t = ![0, 0] ∧ win0_3.index t = ![t.val, 0] := by
  decide +kernel

variable (m : (ℓ : Loc nD τ sig) → Buf (Elt Ideal) ℓ) (c : Dev nD)

set_option maxHeartbeats 2000000 in
theorem out (t : Fin cfg0.N) (y : S1024x1024.Idx) : (dats m 0 c).after 3 t y
    = gated (fun k => iblk m c 0 t (ix2 (y 0) (lane (y 1) k))) (fun k => iblk m c 1 t (ix2 (y 0) (lane (y 1) k)))
        (fun k => iblk m c 2 t (ix2 0 k)) (inHead (y 1)) := by
  rw [after0_3]
  frame_out
  canon_tiles x e
  all_goals
    open_payloads
    pointwise
    simp only [gated, hInv, inv, sigmoid_tanh]
    reads_congr <;> refine at2 _ ?_ ?_ <;> (try simp only [lane, inHead]) <;> omega

theorem final : (dats m 0 c).arrAt 3 cfg0.N = norm (V m c main_arg0) (V m c main_arg1) (V m c main_arg2) := by
  refine (dats m 0 c).arrAt_eq_of_covers 3 _ (by decide +kernel) fun t hf y => ?_
  revert y
  show ∀ y : S1024x1024.Idx, _
  intro y
  rw [out]
  idx_vars y
  blk_simp
  simp only [norm, gated, hInv, inv]
  reads_congr <;> blk_ext [iblk, idx t, lane, zLane, inHead] <;> rfl

end

theorem frame_kernelIdeal : Cert.quiescent_Kernel27Ideal := fun m ρ _ => Cert.Kernel27Ideal.Gen.frame m ρ

theorem frame_kernel : Cert.quiescent_Kernel27 := by
  intro m ρ _
  refine Eq.mp ?_ (Cert.Kernel27Ideal.Gen.frame (F := Bits) m ρ)
  chain_rfl

theorem frame_referenceIdeal : Cert.quiescent_Reference27Ideal := fun m ρ _ =>
  (θ_run Cert.Reference27Ideal.defs _ _).mono (fun r h => ⟨fun c => (h c).2, sem_eq_zero_of_no_sems rfl _⟩) (Cert.Reference27Ideal.Value.run (F := Ideal) m ρ)

open Cert.Kernel27Ideal in
theorem algebraic : Cert.algebraic_Kernel27Ideal_Reference27Ideal := by
  intro m g m' g' hm he
  refine ⟨fun c => norm (Gen.V m c main_arg0) (Gen.V m c main_arg1) (Gen.V m c main_arg2), ?_, ?_⟩
  · exact (θ_run Cert.Kernel27Ideal.defs _ _).mono (fun r h c => ⟨((h.1 c).1 3).trans (final m c), h.2 c⟩)
      (θ_run_and (Gen.run_main m g) (Gen.unchanged (F := Ideal) m g))
  · refine (θ_run Cert.Reference27Ideal.defs _ _).mono (fun r h c => ⟨(h c).1.trans ?_, (h c).2⟩) (Cert.Reference27Ideal.Value.run (F := Ideal) m' g')
    obtain ⟨e0, e1, e2⟩ := he c
    clear hm he h
    rw [e0, e1, e2]
    show _ = norm _ _ _
    funext y
    revert y
    show ∀ y : S16384x1024.Idx, _
    intro y
    idx_vars y
    pointwise
    simp only [norm, gated, HeadNorm.hInv, inv, HeadNorm.logistic_div]
    reads_congr <;> blk_ext [HeadNorm.lane, HeadNorm.inHead, HeadNorm.zLane]

end Cert.Proof.HeadNormFwd

end
-- ==== Proof.FinalLoss.lean ====
module

public import proofs.«01_k».proof.Defs
public import proofs.«01_k».proof.Proof.Gen.Kernel28
public import proofs.«01_k».proof.Proof.Gen.Kernel28Ideal.Frame
public import proofs.«01_k».proof.Proof.Gen.Reference28Ideal.Run
public import proofs.«01_k».proof.Proof.Finite
public import proofs.«01_k».proof.Proof.Norm
public import Idealize.ShloMosaic.Lib.Pipeline.Value
public import Idealize.ShloMosaic.Lib.Pipeline.ValueKit.Point
public import Idealize.ShloMosaic.Lib.Pipeline.ValueKit.Acc
public import Idealize.ShloMosaic.Lib.Claim

@[expose] public section

set_option maxRecDepth 16384

noncomputable section

/-! The loss after the last norm, with its gradients in the norm's input and weights, and their claims. -/

namespace Cert.Proof.FinalLoss

open Idealize.ShloMosaic Idealize.ShloMosaic.TcCoe Idealize.ShloMosaic.Tactic Idealize.SL.Sem

abbrev half : EReal := Ideal.ofBits .f32 0x3F000000#32

theorem half_eq : half = ((1 / 2 : ℝ) : EReal) := by
  simp [half, Ideal.ofBits, Ideal.ieee, -EReal.coe_mul]
  norm_num

theorem frac_eq : Ideal.ofBits .f32 0x3A800000#32 = ((1 / 1024 : ℝ) : EReal) := by
  simp [Ideal.ofBits, Ideal.ieee, -EReal.coe_mul]
  norm_num

theorem half_sum {n : ℕ} (f : Fin n → EReal) : half * ∑ i, f i = ∑ i, half * f i := by
  induction n with
  | zero => simp
  | succ n ih =>
    rw [Fin.sum_univ_succ, Fin.sum_univ_succ, ← ih, half_eq]
    exact EReal.left_distrib_of_nonneg_of_ne_top (by exact_mod_cast (by norm_num : (0 : ℝ) ≤ 1 / 2)) (EReal.coe_ne_top _) _ _

/-- The factor of the error that the mean of the squares leaves, as the chain rule and as the kernel writes it. -/
theorem scale (e : EReal) : Ideal.div half (Ideal.ofBits .f32 0x44800000#32)
    * (Ideal.ofBits .f32 0x40000000#32 * e) = e * Ideal.ofBits .f32 0x3A800000#32 := by
  have h2 : Ideal.ofBits .f32 0x40000000#32 = ((2 : ℝ) : EReal) := by simp [Ideal.ofBits, Ideal.ieee, -EReal.coe_mul]; norm_num
  have h3 : Ideal.ofBits .f32 0x44800000#32 = ((1024 : ℝ) : EReal) := by simp [Ideal.ofBits, Ideal.ieee, -EReal.coe_mul]; norm_num
  rw [half_eq, h2, h3, frac_eq, div_real _ (by norm_num), ← mul_assoc, ← EReal.coe_mul, mul_comm]
  norm_num

section

open Cert.Kernel28Ideal Cert.Kernel28Ideal.Gen

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] := by
  decide +kernel

variable {n : ℕ} (x : (⟨2, ![n, 1024]⟩ : Shape).Idx → EReal) (w : S1x1024.Idx → EReal) (t : (⟨2, ![n, 1024]⟩ : Shape).Idx → EReal)

def nInv (r : Fin n) : EReal :=
  inv (Ideal.ofBits .f32 0x44800000#32) (Ideal.ofBits .f32 0x358637BD#32) fun k : Fin 1024 => x (ix2 r k)

/-- How far the normed row is from the target. -/
def err (r : Fin n) (k : Fin 1024) : EReal := x (ix2 r k) * nInv x r * w (ix2 0 k) - t (ix2 r k)

/-- The loss's gradient in the norm's output. -/
def dy (r : Fin n) (k : Fin 1024) : EReal := err x w t r k * Ideal.ofBits .f32 0x3A800000#32

/-- The loss's gradient in the norm's input. -/
def dh (r : Fin n) (j : Fin 1024) : EReal := nInv x r * (dy x w t r j * w (ix2 0 j) - x (ix2 r j) * nInv x r
  * Ideal.div (∑ k : Fin 1024, dy x w t r k * w (ix2 0 k) * (x (ix2 r k) * nInv x r)) (Ideal.ofBits .f32 0x44800000#32))

/-- The loss's gradient in the norm's weights. -/
def dw (j : Fin 1024) : EReal := ∑ l : Fin n, dy x w t l j * (x (ix2 l j) * nInv x l)

/-- Half the squared errors' means, over the rows. -/
def loss : EReal := half * ∑ l : Fin n, Ideal.div (∑ k : Fin 1024, err x w t l k * err x w t l k) (Ideal.ofBits .f32 0x44800000#32)

end

section

open Cert.Kernel28Ideal Cert.Kernel28Ideal.Gen

theorem pay3 (x : Vec Ideal S1024x1024 .f32) (a : Fin 1024) (z : Fin 1) : k0_pay3 x (ix2 a z) = nInv x a := by
  unfold k0_pay3
  pointwise
  rfl

theorem pay5 (x : Vec Ideal S1024x1024 .f32) (w : Vec Ideal S1x1024 .f32) (t : Vec Ideal S1024x1024 .f32) (a b : Fin 1024) :
    k0_pay5 x w t (ix2 a b) = err x w t a b := by
  unfold k0_pay5 k0_pay4
  pointwise
  rw [pay3]
  rfl

theorem pay7 (x : Vec Ideal S1024x1024 .f32) (w : Vec Ideal S1x1024 .f32) (t : Vec Ideal S1024x1024 .f32) (a b : Fin 1024) :
    k0_pay7 x w t (ix2 a b) = dh x w t a b := by
  unfold k0_pay7 k0_pay6 k0_pay4
  pointwise
  simp only [pay5, pay3]
  rfl

theorem pay1 (v : Vec Ideal S1x1024 .f32) (x : Vec Ideal S1024x1024 .f32) (w : Vec Ideal S1x1024 .f32) (t : Vec Ideal S1024x1024 .f32) (y : S1x1024.Idx) :
    k0_pay1 (k0_pay10 v) (k0_pay11 x w t) y = v y + dw x w t (y 1) := by
  unfold k0_pay1 k0_pay10 k0_pay11 k0_pay6 k0_pay4
  idx_vars y
  pointwise
  simp only [pay5, pay3]
  rfl

theorem pay2 (v : Vec Ideal S1x128 .f32) (x : Vec Ideal S1024x1024 .f32) (w : Vec Ideal S1x1024 .f32) (t : Vec Ideal S1024x1024 .f32) (y : S1x128.Idx) :
    k0_pay2 (k0_pay5 x w t) v y = v y + loss x w t := by
  unfold k0_pay2
  idx_vars y
  pointwise
  simp only [pay5]
  rfl

theorem pay8 (y : S1x1024.Idx) : k0_pay8 (F := Ideal) y = 0 := by
  unfold k0_pay8
  pointwise

theorem pay9 (y : S1x128.Idx) : k0_pay9 (F := Ideal) y = 0 := by
  unfold k0_pay9
  pointwise

variable (m : (ℓ : Loc nD τ sig) → Buf (Elt Ideal) ℓ) (c : Dev nD)

theorem out4 (t : Fin cfg0.N) : (outsAt0 m c t.val t.isLt).2.1 = k0_pay7 (iblk m c 0 t) (iblk m c 1 t) (iblk m c 2 t) := by
  by_cases h : t.val % 16 = 0
  · rw [outsAt0_A m c t h]
    frame_out
  · rw [outsAt0_B m c t h]
    frame_out

theorem final4 : (dats m 0 c).arrAt 4 cfg0.N = fun y : S16384x1024.Idx => dh (V m c main_arg0) (V m c main_arg1) (V m c main_arg2) (y 0) (y 1) := by
  refine (dats m 0 c).arrAt_eq_of_covers 4 _ (by decide +kernel) fun t hf y => ?_
  rw [after0_4, out4]
  revert y
  show ∀ y : S1024x1024.Idx, _
  intro y
  idx_vars y
  blk_simp
  rw [pay7]
  unfold dh dy err nInv inv
  beta_reduce
  reads_congr <;> blk_ext [iblk, idx t]

theorem final5 : (dats m 0 c).arrAt 5 cfg0.N = fun y : S1x1024.Idx => dw (V m c main_arg0) (V m c main_arg1) (V m c main_arg2) (y 1) := by
  refine (dats m 0 c).arrAt_eq_of_covers 5 _ (by decide +kernel) fun t hf y => ?_
  have ht := (flush0_5 t).mp hf
  rw [after0_5]
  revert y
  show ∀ y : S1x1024.Idx, _
  intro y
  blk_simp
  have e := Pipeline.eq_sum_fin_of_reset_step_apply_of_flush (fun n h => (outsAt0 m c n h).2.2) 16 (fun _ => 0)
    (fun t y => dw (iblk m c 0 t) (iblk m c 1 t) (iblk m c 2 t) (y 1))
    (fun t h i => by
      rw [outsAt0_A m c t h]
      frame_out
      rw [pay1, pay8])
    (fun t h i => by
      rw [outsAt0_B m c t h]
      frame_out
      rw [pay1])
    t ht y
  rw [e, zero_add]
  unfold dw
  refine Fin.sum_mul_add_congr fun s k hl => ?_
  idx_vars y
  unfold dy err nInv inv
  beta_reduce
  reads_congr <;> blk_ext [iblk, idx t, idx ⟨16 * (t.val / 16) + s.val, Pipeline.run_point_lt_of_flush t ht s⟩]

theorem final3 : (dats m 0 c).arrAt 3 cfg0.N = fun _ : S1x128.Idx => loss (V m c main_arg0) (V m c main_arg1) (V m c main_arg2) := by
  refine (dats m 0 c).arrAt_eq_of_covers 3 _ (by decide +kernel) fun t hf y => ?_
  have ht := (flush0_3 t).mp hf
  rw [after0_3]
  revert y
  show ∀ y : S1x128.Idx, _
  intro y
  blk_simp
  have e := Pipeline.eq_sum_fin_of_reset_step_apply_of_flush (fun n h => (outsAt0 m c n h).1) 16 (fun _ => 0)
    (fun t _ => loss (iblk m c 0 t) (iblk m c 1 t) (iblk m c 2 t))
    (fun t h i => by
      rw [outsAt0_A m c t h]
      frame_out
      rw [pay2, pay9])
    (fun t h i => by
      rw [outsAt0_B m c t h]
      frame_out
      rw [pay2])
    t ht y
  rw [e, zero_add]
  unfold loss
  rw [← half_sum]
  refine congrArg _ (Fin.sum_mul_add_congr fun s k hl => ?_)
  unfold err nInv inv
  beta_reduce
  reads_congr <;> blk_ext [iblk, idx t, idx ⟨16 * (t.val / 16) + s.val, Pipeline.run_point_lt_of_flush t ht s⟩]

end

instance finite28_facts : Cert.Pre_finite28.Facts where
  bcast_S_S16384x1024 := by decide
  bcast_S_S1x1024 := by decide

theorem frame_kernelIdeal : Cert.quiescent_Kernel28Ideal := fun m ρ _ => Cert.Kernel28Ideal.Gen.frame m ρ

theorem frame_kernel : Cert.quiescent_Kernel28 := by
  intro m ρ _
  refine Eq.mp ?_ (Cert.Kernel28Ideal.Gen.frame (F := Bits) m ρ)
  chain_rfl

theorem frame_referenceIdeal : Cert.quiescent_Reference28Ideal := fun m ρ _ =>
  (θ_run Cert.Reference28Ideal.defs _ _).mono (fun r h => ⟨fun c => (h c).2.2.2, sem_eq_zero_of_no_sems rfl _⟩) (Cert.Reference28Ideal.Value.run (F := Ideal) m ρ)

open Cert.Kernel28Ideal in
theorem algebraic : Cert.algebraic_Kernel28Ideal_Reference28Ideal_pre_finite28 := by
  intro m g m' g' hm he
  refine ⟨fun c => fun _ : S1x128.Idx => loss (Gen.V m c main_arg0) (Gen.V m c main_arg1) (Gen.V m c main_arg2),
    fun c => fun y : S16384x1024.Idx => dh (Gen.V m c main_arg0) (Gen.V m c main_arg1) (Gen.V m c main_arg2) (y 0) (y 1),
    fun c => fun y : S1x1024.Idx => dw (Gen.V m c main_arg0) (Gen.V m c main_arg1) (Gen.V m c main_arg2) (y 1), ?_, ?_⟩
  · exact (θ_run Cert.Kernel28Ideal.defs _ _).mono
      (fun r h c => ⟨((h.1 c).1 3).trans (final3 m c), ((h.1 c).1 4).trans (final4 m c), ((h.1 c).1 5).trans (final5 m c), h.2 c⟩)
      (θ_run_and (Gen.run_main m g) (Gen.unchanged (F := Ideal) m g))
  · refine (θ_run Cert.Reference28Ideal.defs _ _).mono (fun r h c => ⟨(h c).1.trans ?_, (h c).2.1.trans ?_, (h c).2.2.1.trans ?_, (h c).2.2.2⟩)
      (Cert.Reference28Ideal.Value.run (F := Ideal) m' g')
    · obtain ⟨e0, e1, e2⟩ := he c
      rw [e0, e1, e2]
      funext y
      revert y
      show ∀ y : S1x128.Idx, _
      intro y
      idx_vars y
      pointwise
      rfl
    · obtain ⟨e0, e1, e2⟩ := he c
      obtain ⟨f0, f1, f2⟩ := hm c
      unfold Cert.Reference28Ideal.Value.res_main_v48
      rw [e0, e1, e2]
      funext y
      revert y
      show ∀ y : S16384x1024.Idx, _
      intro y
      idx_vars y
      pointwise
      simp only [scale]
      have r0 : ∀ k, IsReal (Gen.V m c main_arg0 (ix2 y0 k)) := fun k => isReal_of_abs_lt (congrFun f0 (ix2 y0 k))
      have r1 : ∀ k, IsReal (Gen.V m c main_arg1 (ix2 0 k)) := fun k => isReal_of_abs_lt (congrFun f1 (ix2 0 k))
      refine (norm_grad bits_1024 eps_bits r0 (fun k => (IsReal.mul (((r0 k).mul (IsReal.inv bits_1024 eps_bits r0)).mul (r1 k) |>.sub
        (isReal_of_abs_lt (congrFun f2 (ix2 y0 k)))) ⟨_, frac_eq⟩).mul (r1 k)) y1).symm
    · obtain ⟨e0, e1, e2⟩ := he c
      rw [e0, e1, e2]
      funext y
      revert y
      show ∀ y : S1x1024.Idx, _
      intro y
      idx_vars y
      pointwise
      simp only [scale]
      exact Finset.sum_congr rfl fun l _ => mul_comm _ _

end Cert.Proof.FinalLoss

end
-- ==== Proof.AttnMerge.lean ====
module

public import proofs.«01_k».proof.Defs
public import proofs.«01_k».proof.Proof.Gen.Kernel29
public import proofs.«01_k».proof.Proof.Gen.Kernel29Ideal.Frame
public import proofs.«01_k».proof.Proof.Gen.Reference29Ideal.Run
public import proofs.«01_k».proof.Proof.Finite
public import proofs.«01_k».proof.Proof.Norm
public import Idealize.ShloMosaic.Lib.Pipeline.Value
public import Idealize.ShloMosaic.Lib.Pipeline.ValueKit.Point
public import Idealize.ShloMosaic.Lib.Claim

@[expose] public section

set_option maxRecDepth 16384

noncomputable section

/-! The merge of the attention's head groups by their softmax denominators, and its claims. -/

namespace Cert.Proof.AttnMerge

open Idealize.ShloMosaic Idealize.ShloMosaic.TcCoe Idealize.ShloMosaic.Tactic Idealize.SL.Sem

/-- The largest of the groups' log-denominators, and their denominators' sum over that one's. -/
def top (l0 l1 l2 : EReal) : EReal := max (max l0 l1) l2
def den (l0 l1 l2 : EReal) : EReal := Ideal.exp (l0 - top l0 l1 l2) + Ideal.exp (l1 - top l0 l1 l2) + Ideal.exp (l2 - top l0 l1 l2)

/-- The groups' outputs weighted by their denominators, and the log of the denominators' sum. -/
def mix (o0 o1 o2 l0 l1 l2 : EReal) : EReal := Ideal.div (Ideal.exp (l0 - top l0 l1 l2) * o0 + Ideal.exp (l1 - top l0 l1 l2) * o1
  + Ideal.exp (l2 - top l0 l1 l2) * o2) (den l0 l1 l2)
def lse (l0 l1 l2 : EReal) : EReal := top l0 l1 l2 + Ideal.log (den l0 l1 l2)

/-- One of three, as a stack of three reads it. -/
def pick (u0 u1 u2 : EReal) (k : Fin 3) : EReal :=
  if _h : k.val < 1 then u0 else if _h : k.val - 1 < 1 then u1 else u2

theorem bot_bits : Ideal.ofBits .f32 0xFF800000#32 = ⊥ := by
  simp [Ideal.ofBits, Ideal.ieee]

theorem fold_pick (u0 u1 u2 : EReal) : Finset.fold max ⊥ (pick u0 u1 u2) Finset.univ = top u0 u1 u2 := by
  have e : (Finset.univ : Finset (Fin 3)) = {0, 1, 2} := by decide
  rw [e]
  simp [pick, top, max_assoc]

/-- Each weight divided first, or the weighted sum. -/
theorem mix_eq {l0 l1 l2 : EReal} (h0 : IsReal l0) (h1 : IsReal l1) (h2 : IsReal l2) (o0 o1 o2 : EReal) :
    Ideal.div (Ideal.exp (l0 - top l0 l1 l2)) (den l0 l1 l2) * o0 + Ideal.div (Ideal.exp (l1 - top l0 l1 l2)) (den l0 l1 l2) * o1
      + Ideal.div (Ideal.exp (l2 - top l0 l1 l2)) (den l0 l1 l2) * o2 = mix o0 o1 o2 l0 l1 l2 := by
  obtain ⟨r0, rfl⟩ := h0
  obtain ⟨r1, rfl⟩ := h1
  obtain ⟨r2, rfl⟩ := h2
  have ht : top (r0 : EReal) r1 r2 = ((max (max r0 r1) r2 : ℝ) : EReal) := by simp only [top, EReal.coe_strictMono.monotone.map_max]
  unfold mix den
  rw [ht]
  simp only [← EReal.coe_sub, Ideal.exp_coe, ← EReal.coe_add]
  generalize max (max r0 r1) r2 = t
  have hd : (0 : ℝ) < Real.exp (r0 - t) + Real.exp (r1 - t) + Real.exp (r2 - t) := by positivity
  generalize Real.exp (r0 - t) + Real.exp (r1 - t) + Real.exp (r2 - t) = d at hd ⊢
  have hq : ∀ x : EReal, Ideal.div x (d : EReal) = x * ((1 / d : ℝ) : EReal) := fun x => Ideal.div_coe hd.ne' x
  simp only [hq]
  have hn : (0 : EReal) ≤ ((1 / d : ℝ) : EReal) := by exact_mod_cast (one_div_pos.mpr hd).le
  rw [EReal.right_distrib_of_nonneg_of_ne_top hn (EReal.coe_ne_top _), EReal.right_distrib_of_nonneg_of_ne_top hn (EReal.coe_ne_top _)]
  ac_rfl

section

variable {n m : ℕ} {u : Shape} (h : (⟨3, ![3, n, m]⟩ : Shape).ReducesTo [0] ⟨2, ![n, m]⟩) (hu : 0 < u.numel) (L : (⟨3, ![3, n, m]⟩ : Shape).Idx → EReal)

/-- A stack of three's maximum, and its sum. -/
theorem red_max (w : BitVec 32) : Host.reduce (FloatOps.maximumf (F := Ideal) (φ := .f32)) L (constant u .f32 w) h hu
    = fun y : (⟨2, ![n, m]⟩ : Shape).Idx => Finset.fold max (Ideal.ofBits .f32 w) (fun k : Fin 3 => L (ix3 k (y 0) (y 1))) Finset.univ := by
  funext y
  pointwise

theorem red_add : Host.reduceAdd (F := Ideal) (φ := .f32) L (constant u .f32 0#32) h hu
    = fun y : (⟨2, ![n, m]⟩ : Shape).Idx => ∑ k : Fin 3, L (ix3 k (y 0) (y 1)) := by
  funext y
  pointwise

end

section

open Cert.Kernel29Ideal Cert.Kernel29Ideal.Gen

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] := by
  decide +kernel

variable (m : (ℓ : Loc nD τ sig) → Buf (Elt Ideal) ℓ) (c : Dev nD)

theorem final6 : (dats m 0 c).arrAt 6 cfg0.N = fun y : S16384x512.Idx =>
    mix (V m c main_arg0 y) (V m c main_arg1 y) (V m c main_arg2 y) (V m c main_arg3 y) (V m c main_arg4 y) (V m c main_arg5 y) := by
  refine (dats m 0 c).arrAt_eq_of_covers 6 _ (by decide +kernel) fun t hf y => ?_
  rw [after0_6]
  revert y
  show ∀ y : S1024x512.Idx, _
  intro y
  blk_simp
  frame_out
  unfold k0_pay6 k0_pay5 k0_pay4 k0_pay3 k0_pay2 k0_pay1 mix den top
  pointwise
  reads_congr <;> blk_ext [iblk, idx t]

theorem final7 : (dats m 0 c).arrAt 7 cfg0.N = fun y : S16384x512.Idx => lse (V m c main_arg3 y) (V m c main_arg4 y) (V m c main_arg5 y) := by
  refine (dats m 0 c).arrAt_eq_of_covers 7 _ (by decide +kernel) fun t hf y => ?_
  rw [after0_7]
  revert y
  show ∀ y : S1024x512.Idx, _
  intro y
  blk_simp
  frame_out
  unfold k0_pay7 k0_pay5 k0_pay4 k0_pay3 k0_pay2 k0_pay1 lse den top
  pointwise
  reads_congr <;> blk_ext [iblk, idx t]

end

instance finite29_facts : Cert.Pre_finite29.Facts where
  bcast_S_S16384x512 := by decide

theorem frame_kernelIdeal : Cert.quiescent_Kernel29Ideal := fun m ρ _ => Cert.Kernel29Ideal.Gen.frame m ρ

theorem frame_kernel : Cert.quiescent_Kernel29 := by
  intro m ρ _
  refine Eq.mp ?_ (Cert.Kernel29Ideal.Gen.frame (F := Bits) m ρ)
  chain_rfl

theorem frame_referenceIdeal : Cert.quiescent_Reference29Ideal := fun m ρ _ =>
  (θ_run Cert.Reference29Ideal.defs _ _).mono (fun r h => ⟨fun c => (h c).2.2, sem_eq_zero_of_no_sems rfl _⟩) (Cert.Reference29Ideal.Value.run (F := Ideal) m ρ)

open Cert.Kernel29Ideal in
theorem algebraic : Cert.algebraic_Kernel29Ideal_Reference29Ideal_pre_finite29 := by
  intro m g m' g' hm he
  refine ⟨fun c => fun y : S16384x512.Idx => mix (Gen.V m c main_arg0 y) (Gen.V m c main_arg1 y) (Gen.V m c main_arg2 y)
      (Gen.V m c main_arg3 y) (Gen.V m c main_arg4 y) (Gen.V m c main_arg5 y),
    fun c => fun y : S16384x512.Idx => lse (Gen.V m c main_arg3 y) (Gen.V m c main_arg4 y) (Gen.V m c main_arg5 y), ?_, ?_⟩
  · exact (θ_run Cert.Kernel29Ideal.defs _ _).mono
      (fun r h c => ⟨((h.1 c).1 6).trans (final6 m c), ((h.1 c).1 7).trans (final7 m c), h.2 c⟩)
      (θ_run_and (Gen.run_main m g) (Gen.unchanged (F := Ideal) m g))
  · refine (θ_run Cert.Reference29Ideal.defs _ _).mono (fun r h c => ⟨(h c).1.trans ?_, (h c).2.1.trans ?_, (h c).2.2⟩)
      (Cert.Reference29Ideal.Value.run (F := Ideal) m' g')
    · obtain ⟨e0, e1, e2, e3, e4, e5⟩ := he c
      obtain ⟨f0, f1, f2⟩ := hm c
      unfold Cert.Reference29Ideal.Value.res_main_v19
      rw [e0, e1, e2, e3, e4, e5]
      rw [red_add, red_max]
      funext y
      revert y
      show ∀ y : S16384x512.Idx, _
      intro y
      idx_vars y
      pointwise
      have F := fold_pick (m (c.tc.loc main_arg3) (ix2 y0 y1)) (m (c.tc.loc main_arg4) (ix2 y0 y1)) (m (c.tc.loc main_arg5) (ix2 y0 y1))
      unfold pick at F
      simp only [bot_bits, F, max_eq_right bot_le, Fin.sum_univ_three]
      exact mix_eq (isReal_of_abs_lt (congrFun f0 (ix2 y0 y1))) (isReal_of_abs_lt (congrFun f1 (ix2 y0 y1))) (isReal_of_abs_lt (congrFun f2 (ix2 y0 y1))) _ _ _
    · obtain ⟨e0, e1, e2, e3, e4, e5⟩ := he c
      obtain ⟨f0, f1, f2⟩ := hm c
      rw [e3, e4, e5]
      rw [red_add, red_max]
      funext y
      revert y
      show ∀ y : S16384x512.Idx, _
      intro y
      idx_vars y
      pointwise
      have F := fold_pick (m (c.tc.loc main_arg3) (ix2 y0 y1)) (m (c.tc.loc main_arg4) (ix2 y0 y1)) (m (c.tc.loc main_arg5) (ix2 y0 y1))
      unfold pick at F
      simp only [bot_bits, F, max_eq_right bot_le, Fin.sum_univ_three]
      rfl

end Cert.Proof.AttnMerge

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Finite
public import proofs.«01_k».proof.Proof.Algebraic
public import proofs.«01_k».proof.Proof.ActBwdClaim
public import proofs.«01_k».proof.Proof.ActFwd
public import proofs.«01_k».proof.Proof.DHn
public import proofs.«01_k».proof.Proof.GradW
public import proofs.«01_k».proof.Proof.DU
public import proofs.«01_k».proof.Proof.GradIn
public import proofs.«01_k».proof.Proof.Proj
public import proofs.«01_k».proof.Proof.GateMerge
public import proofs.«01_k».proof.Proof.RmsBwd
public import proofs.«01_k».proof.Proof.HeadNorm
public import proofs.«01_k».proof.Proof.GradDown
public import proofs.«01_k».proof.Proof.OutProj
public import proofs.«01_k».proof.Proof.AttnProj
public import proofs.«01_k».proof.Proof.FwdNorm
public import proofs.«01_k».proof.Proof.FinalLoss
public import proofs.«01_k».proof.Proof.AttnMerge

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  finite_facts, ActBwd.finite2_facts, RmsBwd.finite14_facts, HeadNorm.finite15_facts, FinalLoss.finite28_facts, AttnMerge.finite29_facts,
  frame_kernel, frame_kernelIdeal, fun m g _ => frame_kernelIdeal m g trivial,
  frame_referenceIdeal, fun m g _ => frame_referenceIdeal m g trivial,
  ActBwd.frame_kernel, ActBwd.frame_kernelIdeal, fun m g _ => ActBwd.frame_kernelIdeal m g trivial,
  ActBwd.frame_referenceIdeal, fun m g _ => ActBwd.frame_referenceIdeal m g trivial,
  ActFwd.frame_kernel, ActFwd.frame_kernelIdeal, ActFwd.frame_referenceIdeal,
  DHn.frame_kernel, DHn.frame_kernelIdeal, DHn.frame_referenceIdeal,
  GradW.frame_kernel, GradW.frame_kernelIdeal, GradW.frame_referenceIdeal,
  DU.frame_kernel, DU.frame_kernelIdeal, DU.frame_referenceIdeal,
  GradAtt.frame_kernel, GradAtt.frame_kernelIdeal, GradAtt.frame_referenceIdeal,
  GradQkv.frame_kernel, GradQkv.frame_kernelIdeal, GradQkv.frame_referenceIdeal,
  GradOne.frame_kernel, GradOne.frame_kernelIdeal, GradOne.frame_referenceIdeal,
  ProjA.frame_kernel, ProjA.frame_kernelIdeal, ProjA.frame_referenceIdeal,
  ProjB.frame_kernel, ProjB.frame_kernelIdeal, ProjB.frame_referenceIdeal,
  GateMerge.frame_kernel, GateMerge.frame_kernelIdeal, GateMerge.frame_referenceIdeal,
  FfnOut.frame_kernel, FfnOut.frame_kernelIdeal, FfnOut.frame_referenceIdeal,
  RmsBwd.frame_kernel, RmsBwd.frame_kernelIdeal, fun m g _ => RmsBwd.frame_kernelIdeal m g trivial,
  RmsBwd.frame_referenceIdeal, fun m g _ => RmsBwd.frame_referenceIdeal m g trivial,
  HeadNorm.frame_kernel, HeadNorm.frame_kernelIdeal, fun m g _ => HeadNorm.frame_kernelIdeal m g trivial,
  HeadNorm.frame_referenceIdeal, fun m g _ => HeadNorm.frame_referenceIdeal m g trivial,
  GradDown.frame_kernel, GradDown.frame_kernelIdeal, GradDown.frame_referenceIdeal,
  GradOut.frame_kernel, GradOut.frame_kernelIdeal, GradOut.frame_referenceIdeal,
  OutProj.frame_kernel, OutProj.frame_kernelIdeal, OutProj.frame_referenceIdeal,
  DeltaProj.frame_kernel, DeltaProj.frame_kernelIdeal, DeltaProj.frame_referenceIdeal,
  DMerged.frame_kernel, DMerged.frame_kernelIdeal, DMerged.frame_referenceIdeal,
  DGated.frame_kernel, DGated.frame_kernelIdeal, DGated.frame_referenceIdeal,
  GradAttW.frame_kernel, GradAttW.frame_kernelIdeal, GradAttW.frame_referenceIdeal,
  DAtt.frame_kernel, DAtt.frame_kernelIdeal, DAtt.frame_referenceIdeal,
  AttProj.frame_kernel, AttProj.frame_kernelIdeal, AttProj.frame_referenceIdeal,
  MergeFwd.frame_kernel, MergeFwd.frame_kernelIdeal, MergeFwd.frame_referenceIdeal,
  RmsFwd.frame_kernel, RmsFwd.frame_kernelIdeal, RmsFwd.frame_referenceIdeal,
  HeadNormFwd.frame_kernel, HeadNormFwd.frame_kernelIdeal, HeadNormFwd.frame_referenceIdeal,
  FinalLoss.frame_kernel, FinalLoss.frame_kernelIdeal, fun m g _ => FinalLoss.frame_kernelIdeal m g trivial,
  FinalLoss.frame_referenceIdeal, fun m g _ => FinalLoss.frame_referenceIdeal m g trivial,
  AttnMerge.frame_kernel, AttnMerge.frame_kernelIdeal, fun m g _ => AttnMerge.frame_kernelIdeal m g trivial,
  AttnMerge.frame_referenceIdeal, fun m g _ => AttnMerge.frame_referenceIdeal m g trivial,
  trivial, algebraic, trivial, ActBwd.algebraic, trivial, ActFwd.algebraic, trivial, DHn.algebraic, trivial, GradW.algebraic,
  trivial, DU.algebraic, trivial, GradAtt.algebraic, trivial, GradQkv.algebraic, trivial, GradOne.algebraic,
  trivial, ProjA.algebraic, trivial, ProjB.algebraic, trivial, GateMerge.algebraic, trivial, FfnOut.algebraic,
  trivial, RmsBwd.algebraic, trivial, HeadNorm.algebraic, trivial, GradDown.algebraic, trivial, GradOut.algebraic,
  trivial, OutProj.algebraic, trivial, DeltaProj.algebraic, trivial, DMerged.algebraic, trivial, DGated.algebraic,
  trivial, GradAttW.algebraic, trivial, DAtt.algebraic, trivial, AttProj.algebraic, trivial, MergeFwd.algebraic, trivial, RmsFwd.algebraic, trivial, HeadNormFwd.algebraic, trivial, FinalLoss.algebraic, trivial, AttnMerge.algebraic⟩

end Cert.Proof

end
